-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_MixInDx (m : (ℓ : Loc Cert.MixInDx.nD Cert.MixInDx.τ Cert.MixInDx.sig) → Buf (Elt Bits) ℓ) : Prop :=
  True

def Pre_MixInDxIdeal (m : (ℓ : Loc Cert.MixInDxIdeal.nD Cert.MixInDxIdeal.τ Cert.MixInDxIdeal.sig) → Buf (Elt Ideal) ℓ) : Prop :=
  True

def Pre_MixInDxRefIdeal (m : (ℓ : Loc Cert.MixInDxRefIdeal.nD Cert.MixInDxRefIdeal.τ Cert.MixInDxRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_AdamMetaTokens (m : (ℓ : Loc Cert.AdamMetaTokens.nD Cert.AdamMetaTokens.τ Cert.AdamMetaTokens.sig) → Buf (Elt Bits) ℓ) : Prop :=
  True

def Pre_AdamMetaTokensIdeal (m : (ℓ : Loc Cert.AdamMetaTokensIdeal.nD Cert.AdamMetaTokensIdeal.τ Cert.AdamMetaTokensIdeal.sig) → Buf (Elt Ideal) ℓ) : Prop :=
  True

def Pre_AdamMetaTokensRefIdeal (m : (ℓ : Loc Cert.AdamMetaTokensRefIdeal.nD Cert.AdamMetaTokensRefIdeal.τ Cert.AdamMetaTokensRefIdeal.sig) → Buf (Elt Ideal) ℓ) : Prop :=
  True

def Pre_AdamFfn1Norm (m : (ℓ : Loc Cert.AdamFfn1Norm.nD Cert.AdamFfn1Norm.τ Cert.AdamFfn1Norm.sig) → Buf (Elt Bits) ℓ) : Prop :=
  True

def Pre_AdamFfn1NormIdeal (m : (ℓ : Loc Cert.AdamFfn1NormIdeal.nD Cert.AdamFfn1NormIdeal.τ Cert.AdamFfn1NormIdeal.sig) → Buf (Elt Ideal) ℓ) : Prop :=
  True

def Pre_AdamFfn1NormRefIdeal (m : (ℓ : Loc Cert.AdamFfn1NormRefIdeal.nD Cert.AdamFfn1NormRefIdeal.τ Cert.AdamFfn1NormRefIdeal.sig) → Buf (Elt Ideal) ℓ) : Prop :=
  True

def Pre_AdamFfn1WGateUp (m : (ℓ : Loc Cert.AdamFfn1WGateUp.nD Cert.AdamFfn1WGateUp.τ Cert.AdamFfn1WGateUp.sig) → Buf (Elt Bits) ℓ) : Prop :=
  True

def Pre_AdamFfn1WGateUpIdeal (m : (ℓ : Loc Cert.AdamFfn1WGateUpIdeal.nD Cert.AdamFfn1WGateUpIdeal.τ Cert.AdamFfn1WGateUpIdeal.sig) → Buf (Elt Ideal) ℓ) : Prop :=
  True

def Pre_AdamFfn1WGateUpRefIdeal (m : (ℓ : Loc Cert.AdamFfn1WGateUpRefIdeal.nD Cert.AdamFfn1WGateUpRefIdeal.τ Cert.AdamFfn1WGateUpRefIdeal.sig) → Buf (Elt Ideal) ℓ) : Prop :=
  True

def Pre_AdamFfn1WDown (m : (ℓ : Loc Cert.AdamFfn1WDown.nD Cert.AdamFfn1WDown.τ Cert.AdamFfn1WDown.sig) → Buf (Elt Bits) ℓ) : Prop :=
  True

def Pre_AdamFfn1WDownIdeal (m : (ℓ : Loc Cert.AdamFfn1WDownIdeal.nD Cert.AdamFfn1WDownIdeal.τ Cert.AdamFfn1WDownIdeal.sig) → Buf (Elt Ideal) ℓ) : Prop :=
  True

def Pre_AdamFfn1WDownRefIdeal (m : (ℓ : Loc Cert.AdamFfn1WDownRefIdeal.nD Cert.AdamFfn1WDownRefIdeal.τ Cert.AdamFfn1WDownRefIdeal.sig) → Buf (Elt Ideal) ℓ) : Prop :=
  True

def Pre_AdamMixNorm (m : (ℓ : Loc Cert.AdamMixNorm.nD Cert.AdamMixNorm.τ Cert.AdamMixNorm.sig) → Buf (Elt Bits) ℓ) : Prop :=
  True

def Pre_AdamMixNormIdeal (m : (ℓ : Loc Cert.AdamMixNormIdeal.nD Cert.AdamMixNormIdeal.τ Cert.AdamMixNormIdeal.sig) → Buf (Elt Ideal) ℓ) : Prop :=
  True

def Pre_AdamMixNormRefIdeal (m : (ℓ : Loc Cert.AdamMixNormRefIdeal.nD Cert.AdamMixNormRefIdeal.τ Cert.AdamMixNormRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamFoxForgetBias (m : (ℓ : Loc Cert.AdamFoxForgetBias.nD Cert.AdamFoxForgetBias.τ Cert.AdamFoxForgetBias.sig) → Buf (Elt Bits) ℓ) : Prop :=
  True

def Pre_AdamFoxForgetBiasIdeal (m : (ℓ : Loc Cert.AdamFoxForgetBiasIdeal.nD Cert.AdamFoxForgetBiasIdeal.τ Cert.AdamFoxForgetBiasIdeal.sig) → Buf (Elt Ideal) ℓ) : Prop :=
  True

def Pre_AdamFoxForgetBiasRefIdeal (m : (ℓ : Loc Cert.AdamFoxForgetBiasRefIdeal.nD Cert.AdamFoxForgetBiasRefIdeal.τ Cert.AdamFoxForgetBiasRefIdeal.sig) → Buf (Elt Ideal) ℓ) : Prop :=
  True

def Pre_AdamSsdConvW (m : (ℓ : Loc Cert.AdamSsdConvW.nD Cert.AdamSsdConvW.τ Cert.AdamSsdConvW.sig) → Buf (Elt Bits) ℓ) : Prop :=
  True

def Pre_AdamSsdConvWIdeal (m : (ℓ : Loc Cert.AdamSsdConvWIdeal.nD Cert.AdamSsdConvWIdeal.τ Cert.AdamSsdConvWIdeal.sig) → Buf (Elt Ideal) ℓ) : Prop :=
  True

def Pre_AdamSsdConvWRefIdeal (m : (ℓ : Loc Cert.AdamSsdConvWRefIdeal.nD Cert.AdamSsdConvWRefIdeal.τ Cert.AdamSsdConvWRefIdeal.sig) → Buf (Elt Ideal) ℓ) : Prop :=
  True

def Pre_AdamSsdConvB (m : (ℓ : Loc Cert.AdamSsdConvB.nD Cert.AdamSsdConvB.τ Cert.AdamSsdConvB.sig) → Buf (Elt Bits) ℓ) : Prop :=
  True

def Pre_AdamSsdConvBIdeal (m : (ℓ : Loc Cert.AdamSsdConvBIdeal.nD Cert.AdamSsdConvBIdeal.τ Cert.AdamSsdConvBIdeal.sig) → Buf (Elt Ideal) ℓ) : Prop :=
  True

def Pre_AdamSsdConvBRefIdeal (m : (ℓ : Loc Cert.AdamSsdConvBRefIdeal.nD Cert.AdamSsdConvBRefIdeal.τ Cert.AdamSsdConvBRefIdeal.sig) → Buf (Elt Ideal) ℓ) : Prop :=
  True

def Pre_AdamSsdDtBias (m : (ℓ : Loc Cert.AdamSsdDtBias.nD Cert.AdamSsdDtBias.τ Cert.AdamSsdDtBias.sig) → Buf (Elt Bits) ℓ) : Prop :=
  True

def Pre_AdamSsdDtBiasIdeal (m : (ℓ : Loc Cert.AdamSsdDtBiasIdeal.nD Cert.AdamSsdDtBiasIdeal.τ Cert.AdamSsdDtBiasIdeal.sig) → Buf (Elt Ideal) ℓ) : Prop :=
  True

def Pre_AdamSsdDtBiasRefIdeal (m : (ℓ : Loc Cert.AdamSsdDtBiasRefIdeal.nD Cert.AdamSsdDtBiasRefIdeal.τ Cert.AdamSsdDtBiasRefIdeal.sig) → Buf (Elt Ideal) ℓ) : Prop :=
  True

def Pre_AdamSsdALog (m : (ℓ : Loc Cert.AdamSsdALog.nD Cert.AdamSsdALog.τ Cert.AdamSsdALog.sig) → Buf (Elt Bits) ℓ) : Prop :=
  True

def Pre_AdamSsdALogIdeal (m : (ℓ : Loc Cert.AdamSsdALogIdeal.nD Cert.AdamSsdALogIdeal.τ Cert.AdamSsdALogIdeal.sig) → Buf (Elt Ideal) ℓ) : Prop :=
  True

def Pre_AdamSsdALogRefIdeal (m : (ℓ : Loc Cert.AdamSsdALogRefIdeal.nD Cert.AdamSsdALogRefIdeal.τ Cert.AdamSsdALogRefIdeal.sig) → Buf (Elt Ideal) ℓ) : Prop :=
  True

def Pre_AdamSsdD (m : (ℓ : Loc Cert.AdamSsdD.nD Cert.AdamSsdD.τ Cert.AdamSsdD.sig) → Buf (Elt Bits) ℓ) : Prop :=
  True

def Pre_AdamSsdDIdeal (m : (ℓ : Loc Cert.AdamSsdDIdeal.nD Cert.AdamSsdDIdeal.τ Cert.AdamSsdDIdeal.sig) → Buf (Elt Ideal) ℓ) : Prop :=
  True

def Pre_AdamSsdDRefIdeal (m : (ℓ : Loc Cert.AdamSsdDRefIdeal.nD Cert.AdamSsdDRefIdeal.τ Cert.AdamSsdDRefIdeal.sig) → Buf (Elt Ideal) ℓ) : Prop :=
  True

def Pre_AdamSsdNorm (m : (ℓ : Loc Cert.AdamSsdNorm.nD Cert.AdamSsdNorm.τ Cert.AdamSsdNorm.sig) → Buf (Elt Bits) ℓ) : Prop :=
  True

def Pre_AdamSsdNormIdeal (m : (ℓ : Loc Cert.AdamSsdNormIdeal.nD Cert.AdamSsdNormIdeal.τ Cert.AdamSsdNormIdeal.sig) → Buf (Elt Ideal) ℓ) : Prop :=
  True

def Pre_AdamSsdNormRefIdeal (m : (ℓ : Loc Cert.AdamSsdNormRefIdeal.nD Cert.AdamSsdNormRefIdeal.τ Cert.AdamSsdNormRefIdeal.sig) → Buf (Elt Ideal) ℓ) : Prop :=
  True

def Pre_AdamLruConvW (m : (ℓ : Loc Cert.AdamLruConvW.nD Cert.AdamLruConvW.τ Cert.AdamLruConvW.sig) → Buf (Elt Bits) ℓ) : Prop :=
  True

def Pre_AdamLruConvWIdeal (m : (ℓ : Loc Cert.AdamLruConvWIdeal.nD Cert.AdamLruConvWIdeal.τ Cert.AdamLruConvWIdeal.sig) → Buf (Elt Ideal) ℓ) : Prop :=
  True

def Pre_AdamLruConvWRefIdeal (m : (ℓ : Loc Cert.AdamLruConvWRefIdeal.nD Cert.AdamLruConvWRefIdeal.τ Cert.AdamLruConvWRefIdeal.sig) → Buf (Elt Ideal) ℓ) : Prop :=
  True

def Pre_AdamLruConvB (m : (ℓ : Loc Cert.AdamLruConvB.nD Cert.AdamLruConvB.τ Cert.AdamLruConvB.sig) → Buf (Elt Bits) ℓ) : Prop :=
  True

def Pre_AdamLruConvBIdeal (m : (ℓ : Loc Cert.AdamLruConvBIdeal.nD Cert.AdamLruConvBIdeal.τ Cert.AdamLruConvBIdeal.sig) → Buf (Elt Ideal) ℓ) : Prop :=
  True

def Pre_AdamLruConvBRefIdeal (m : (ℓ : Loc Cert.AdamLruConvBRefIdeal.nD Cert.AdamLruConvBRefIdeal.τ Cert.AdamLruConvBRefIdeal.sig) → Buf (Elt Ideal) ℓ) : Prop :=
  True

def Pre_AdamLruWA (m : (ℓ : Loc Cert.AdamLruWA.nD Cert.AdamLruWA.τ Cert.AdamLruWA.sig) → Buf (Elt Bits) ℓ) : Prop :=
  True

def Pre_AdamLruWAIdeal (m : (ℓ : Loc Cert.AdamLruWAIdeal.nD Cert.AdamLruWAIdeal.τ Cert.AdamLruWAIdeal.sig) → Buf (Elt Ideal) ℓ) : Prop :=
  True

def Pre_AdamLruWARefIdeal (m : (ℓ : Loc Cert.AdamLruWARefIdeal.nD Cert.AdamLruWARefIdeal.τ Cert.AdamLruWARefIdeal.sig) → Buf (Elt Ideal) ℓ) : Prop :=
  True

def Pre_AdamLruBA (m : (ℓ : Loc Cert.AdamLruBA.nD Cert.AdamLruBA.τ Cert.AdamLruBA.sig) → Buf (Elt Bits) ℓ) : Prop :=
  True

def Pre_AdamLruBAIdeal (m : (ℓ : Loc Cert.AdamLruBAIdeal.nD Cert.AdamLruBAIdeal.τ Cert.AdamLruBAIdeal.sig) → Buf (Elt Ideal) ℓ) : Prop :=
  True

def Pre_AdamLruBARefIdeal (m : (ℓ : Loc Cert.AdamLruBARefIdeal.nD Cert.AdamLruBARefIdeal.τ Cert.AdamLruBARefIdeal.sig) → Buf (Elt Ideal) ℓ) : Prop :=
  True

def Pre_AdamLruWX (m : (ℓ : Loc Cert.AdamLruWX.nD Cert.AdamLruWX.τ Cert.AdamLruWX.sig) → Buf (Elt Bits) ℓ) : Prop :=
  True

def Pre_AdamLruWXIdeal (m : (ℓ : Loc Cert.AdamLruWXIdeal.nD Cert.AdamLruWXIdeal.τ Cert.AdamLruWXIdeal.sig) → Buf (Elt Ideal) ℓ) : Prop :=
  True

def Pre_AdamLruWXRefIdeal (m : (ℓ : Loc Cert.AdamLruWXRefIdeal.nD Cert.AdamLruWXRefIdeal.τ Cert.AdamLruWXRefIdeal.sig) → Buf (Elt Ideal) ℓ) : Prop :=
  True

def Pre_AdamLruBX (m : (ℓ : Loc Cert.AdamLruBX.nD Cert.AdamLruBX.τ Cert.AdamLruBX.sig) → Buf (Elt Bits) ℓ) : Prop :=
  True

def Pre_AdamLruBXIdeal (m : (ℓ : Loc Cert.AdamLruBXIdeal.nD Cert.AdamLruBXIdeal.τ Cert.AdamLruBXIdeal.sig) → Buf (Elt Ideal) ℓ) : Prop :=
  True

def Pre_AdamLruBXRefIdeal (m : (ℓ : Loc Cert.AdamLruBXRefIdeal.nD Cert.AdamLruBXRefIdeal.τ Cert.AdamLruBXRefIdeal.sig) → Buf (Elt Ideal) ℓ) : Prop :=
  True

def Pre_AdamLruLambda (m : (ℓ : Loc Cert.AdamLruLambda.nD Cert.AdamLruLambda.τ Cert.AdamLruLambda.sig) → Buf (Elt Bits) ℓ) : Prop :=
  True

def Pre_AdamLruLambdaIdeal (m : (ℓ : Loc Cert.AdamLruLambdaIdeal.nD Cert.AdamLruLambdaIdeal.τ Cert.AdamLruLambdaIdeal.sig) → Buf (Elt Ideal) ℓ) : Prop :=
  True

def Pre_AdamLruLambdaRefIdeal (m : (ℓ : Loc Cert.AdamLruLambdaRefIdeal.nD Cert.AdamLruLambdaRefIdeal.τ Cert.AdamLruLambdaRefIdeal.sig) → Buf (Elt Ideal) ℓ) : Prop :=
  True

def Pre_AdamWBranchAttn (m : (ℓ : Loc Cert.AdamWBranchAttn.nD Cert.AdamWBranchAttn.τ Cert.AdamWBranchAttn.sig) → Buf (Elt Bits) ℓ) : Prop :=
  True

def Pre_AdamWBranchAttnIdeal (m : (ℓ : Loc Cert.AdamWBranchAttnIdeal.nD Cert.AdamWBranchAttnIdeal.τ Cert.AdamWBranchAttnIdeal.sig) → Buf (Elt Ideal) ℓ) : Prop :=
  True

def Pre_AdamWBranchAttnRefIdeal (m : (ℓ : Loc Cert.AdamWBranchAttnRefIdeal.nD Cert.AdamWBranchAttnRefIdeal.τ Cert.AdamWBranchAttnRefIdeal.sig) → Buf (Elt Ideal) ℓ) : Prop :=
  True

def Pre_AdamWBranchSsd (m : (ℓ : Loc Cert.AdamWBranchSsd.nD Cert.AdamWBranchSsd.τ Cert.AdamWBranchSsd.sig) → Buf (Elt Bits) ℓ) : Prop :=
  True

def Pre_AdamWBranchSsdIdeal (m : (ℓ : Loc Cert.AdamWBranchSsdIdeal.nD Cert.AdamWBranchSsdIdeal.τ Cert.AdamWBranchSsdIdeal.sig) → Buf (Elt Ideal) ℓ) : Prop :=
  True

def Pre_AdamWBranchSsdRefIdeal (m : (ℓ : Loc Cert.AdamWBranchSsdRefIdeal.nD Cert.AdamWBranchSsdRefIdeal.τ Cert.AdamWBranchSsdRefIdeal.sig) → Buf (Elt Ideal) ℓ) : Prop :=
  True

def Pre_AdamWBranchLru (m : (ℓ : Loc Cert.AdamWBranchLru.nD Cert.AdamWBranchLru.τ Cert.AdamWBranchLru.sig) → Buf (Elt Bits) ℓ) : Prop :=
  True

def Pre_AdamWBranchLruIdeal (m : (ℓ : Loc Cert.AdamWBranchLruIdeal.nD Cert.AdamWBranchLruIdeal.τ Cert.AdamWBranchLruIdeal.sig) → Buf (Elt Ideal) ℓ) : Prop :=
  True

def Pre_AdamWBranchLruRefIdeal (m : (ℓ : Loc Cert.AdamWBranchLruRefIdeal.nD Cert.AdamWBranchLruRefIdeal.τ Cert.AdamWBranchLruRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamFfn2Norm (m : (ℓ : Loc Cert.AdamFfn2Norm.nD Cert.AdamFfn2Norm.τ Cert.AdamFfn2Norm.sig) → Buf (Elt Bits) ℓ) : Prop :=
  True

def Pre_AdamFfn2NormIdeal (m : (ℓ : Loc Cert.AdamFfn2NormIdeal.nD Cert.AdamFfn2NormIdeal.τ Cert.AdamFfn2NormIdeal.sig) → Buf (Elt Ideal) ℓ) : Prop :=
  True

def Pre_AdamFfn2NormRefIdeal (m : (ℓ : Loc Cert.AdamFfn2NormRefIdeal.nD Cert.AdamFfn2NormRefIdeal.τ Cert.AdamFfn2NormRefIdeal.sig) → Buf (Elt Ideal) ℓ) : Prop :=
  True

def Pre_AdamFfn2WGateUp (m : (ℓ : Loc Cert.AdamFfn2WGateUp.nD Cert.AdamFfn2WGateUp.τ Cert.AdamFfn2WGateUp.sig) → Buf (Elt Bits) ℓ) : Prop :=
  True

def Pre_AdamFfn2WGateUpIdeal (m : (ℓ : Loc Cert.AdamFfn2WGateUpIdeal.nD Cert.AdamFfn2WGateUpIdeal.τ Cert.AdamFfn2WGateUpIdeal.sig) → Buf (Elt Ideal) ℓ) : Prop :=
  True

def Pre_AdamFfn2WGateUpRefIdeal (m : (ℓ : Loc Cert.AdamFfn2WGateUpRefIdeal.nD Cert.AdamFfn2WGateUpRefIdeal.τ Cert.AdamFfn2WGateUpRefIdeal.sig) → Buf (Elt Ideal) ℓ) : Prop :=
  True

def Pre_AdamFfn2WDown (m : (ℓ : Loc Cert.AdamFfn2WDown.nD Cert.AdamFfn2WDown.τ Cert.AdamFfn2WDown.sig) → Buf (Elt Bits) ℓ) : Prop :=
  True

def Pre_AdamFfn2WDownIdeal (m : (ℓ : Loc Cert.AdamFfn2WDownIdeal.nD Cert.AdamFfn2WDownIdeal.τ Cert.AdamFfn2WDownIdeal.sig) → Buf (Elt Ideal) ℓ) : Prop :=
  True

def Pre_AdamFfn2WDownRefIdeal (m : (ℓ : Loc Cert.AdamFfn2WDownRefIdeal.nD Cert.AdamFfn2WDownRefIdeal.τ Cert.AdamFfn2WDownRefIdeal.sig) → Buf (Elt Ideal) ℓ) : Prop :=
  True

def Pre_AdamFinalNorm (m : (ℓ : Loc Cert.AdamFinalNorm.nD Cert.AdamFinalNorm.τ Cert.AdamFinalNorm.sig) → Buf (Elt Bits) ℓ) : Prop :=
  True

def Pre_AdamFinalNormIdeal (m : (ℓ : Loc Cert.AdamFinalNormIdeal.nD Cert.AdamFinalNormIdeal.τ Cert.AdamFinalNormIdeal.sig) → Buf (Elt Ideal) ℓ) : Prop :=
  True

def Pre_AdamFinalNormRefIdeal (m : (ℓ : Loc Cert.AdamFinalNormRefIdeal.nD Cert.AdamFinalNormRefIdeal.τ Cert.AdamFinalNormRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GnormFwd (m : (ℓ : Loc Cert.GnormFwd.nD Cert.GnormFwd.τ Cert.GnormFwd.sig) → Buf (Elt Bits) ℓ) : Prop :=
  True

def Pre_GnormFwdIdeal (m : (ℓ : Loc Cert.GnormFwdIdeal.nD Cert.GnormFwdIdeal.τ Cert.GnormFwdIdeal.sig) → Buf (Elt Ideal) ℓ) : Prop :=
  True

def Pre_GnormFwdRefIdeal (m : (ℓ : Loc Cert.GnormFwdRefIdeal.nD Cert.GnormFwdRefIdeal.τ Cert.GnormFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_SumGrads (m : (ℓ : Loc Cert.SumGrads.nD Cert.SumGrads.τ Cert.SumGrads.sig) → Buf (Elt Bits) ℓ) : Prop :=
  True

def Pre_SumGradsIdeal (m : (ℓ : Loc Cert.SumGradsIdeal.nD Cert.SumGradsIdeal.τ Cert.SumGradsIdeal.sig) → Buf (Elt Ideal) ℓ) : Prop :=
  True

def Pre_SumGradsRefIdeal (m : (ℓ : Loc Cert.SumGradsRefIdeal.nD Cert.SumGradsRefIdeal.τ Cert.SumGradsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MixInDx [hMixInDx : Cert.MixInDx.Facts] : Prop :=
  ∀ (m : (ℓ : Loc Cert.MixInDx.nD Cert.MixInDx.τ Cert.MixInDx.sig) → Buf (Elt Bits) ℓ) (g : Dev Cert.MixInDx.nD → PrngReg), Pre_MixInDx m →
    θ_run (Cert.MixInDx.defs (F := Bits)) (onTc (τ := Cert.MixInDx.τ) (Cert.MixInDx.main (F := Bits))) ⟨m, fun _ => 0, g⟩ (fun r => (∀ c : Dev Cert.MixInDx.nD,
      r.2.mem ((c.tc : Thread Cert.MixInDx.nD Cert.MixInDx.τ).loc Cert.MixInDx.main_arg0) = m ((c.tc : Thread Cert.MixInDx.nD Cert.MixInDx.τ).loc Cert.MixInDx.main_arg0)
      ∧ r.2.mem ((c.tc : Thread Cert.MixInDx.nD Cert.MixInDx.τ).loc Cert.MixInDx.main_arg1) = m ((c.tc : Thread Cert.MixInDx.nD Cert.MixInDx.τ).loc Cert.MixInDx.main_arg1))
      ∧ r.2.sem = fun _ => 0)

def quiescent_MixInDxIdeal [hMixInDxIdeal : Cert.MixInDxIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg), Pre_MixInDxIdeal m →
    θ_run (Cert.MixInDxIdeal.defs (F := Ideal)) (onTc (τ := Cert.MixInDxIdeal.τ) (Cert.MixInDxIdeal.main (F := Ideal))) ⟨m, fun _ => 0, g⟩ (fun r => (∀ c : Dev Cert.MixInDxIdeal.nD,
      r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
      ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ r.2.sem = fun _ => 0)

def quiescent_MixInDxRefIdeal [hMixInDxRefIdeal : Cert.MixInDxRefIdeal.Facts] : Prop :=
  ∀ (m : (ℓ : Loc Cert.MixInDxRefIdeal.nD Cert.MixInDxRefIdeal.τ Cert.MixInDxRefIdeal.sig) → Buf (Elt Ideal) ℓ) (g : Dev Cert.MixInDxRefIdeal.nD → PrngReg), Pre_MixInDxRefIdeal m →
    θ_run (Cert.MixInDxRefIdeal.defs (F := Ideal)) (onTc (τ := Cert.MixInDxRefIdeal.τ) (Cert.MixInDxRefIdeal.main (F := Ideal))) ⟨m, fun _ => 0, g⟩ (fun r => (∀ c : Dev Cert.MixInDxRefIdeal.nD,
      r.2.mem ((c.tc : Thread Cert.MixInDxRefIdeal.nD Cert.MixInDxRefIdeal.τ).loc Cert.MixInDxRefIdeal.main_arg0) = m ((c.tc : Thread Cert.MixInDxRefIdeal.nD Cert.MixInDxRefIdeal.τ).loc Cert.MixInDxRefIdeal.main_arg0)
      ∧ r.2.mem ((c.tc : Thread Cert.MixInDxRefIdeal.nD Cert.MixInDxRefIdeal.τ).loc Cert.MixInDxRefIdeal.main_arg1) = m ((c.tc : Thread Cert.MixInDxRefIdeal.nD Cert.MixInDxRefIdeal.τ).loc Cert.MixInDxRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_AdamMetaTokens [hAdamMetaTokens : Cert.AdamMetaTokens.Facts] : Prop :=
  ∀ (m : (ℓ : Loc Cert.AdamMetaTokens.nD Cert.AdamMetaTokens.τ Cert.AdamMetaTokens.sig) → Buf (Elt Bits) ℓ) (g : Dev Cert.AdamMetaTokens.nD → PrngReg), Pre_AdamMetaTokens m →
    θ_run (Cert.AdamMetaTokens.defs (F := Bits)) (onTc (τ := Cert.AdamMetaTokens.τ) (Cert.AdamMetaTokens.main (F := Bits))) ⟨m, fun _ => 0, g⟩ (fun r => (∀ c : Dev Cert.AdamMetaTokens.nD,
      r.2.mem ((c.tc : Thread Cert.AdamMetaTokens.nD Cert.AdamMetaTokens.τ).loc Cert.AdamMetaTokens.main_arg0) = m ((c.tc : Thread Cert.AdamMetaTokens.nD Cert.AdamMetaTokens.τ).loc Cert.AdamMetaTokens.main_arg0)
      ∧ r.2.mem ((c.tc : Thread Cert.AdamMetaTokens.nD Cert.AdamMetaTokens.τ).loc Cert.AdamMetaTokens.main_arg1) = m ((c.tc : Thread Cert.AdamMetaTokens.nD Cert.AdamMetaTokens.τ).loc Cert.AdamMetaTokens.main_arg1)
      ∧ r.2.mem ((c.tc : Thread Cert.AdamMetaTokens.nD Cert.AdamMetaTokens.τ).loc Cert.AdamMetaTokens.main_arg2) = m ((c.tc : Thread Cert.AdamMetaTokens.nD Cert.AdamMetaTokens.τ).loc Cert.AdamMetaTokens.main_arg2)
      ∧ r.2.mem ((c.tc : Thread Cert.AdamMetaTokens.nD Cert.AdamMetaTokens.τ).loc Cert.AdamMetaTokens.main_arg3) = m ((c.tc : Thread Cert.AdamMetaTokens.nD Cert.AdamMetaTokens.τ).loc Cert.AdamMetaTokens.main_arg3))
      ∧ r.2.sem = fun _ => 0)

def quiescent_AdamMetaTokensIdeal [hAdamMetaTokensIdeal : Cert.AdamMetaTokensIdeal.Facts] : Prop :=
  ∀ (m : (ℓ : Loc Cert.AdamMetaTokensIdeal.nD Cert.AdamMetaTokensIdeal.τ Cert.AdamMetaTokensIdeal.sig) → Buf (Elt Ideal) ℓ) (g : Dev Cert.AdamMetaTokensIdeal.nD → PrngReg), Pre_AdamMetaTokensIdeal m →
    θ_run (Cert.AdamMetaTokensIdeal.defs (F := Ideal)) (onTc (τ := Cert.AdamMetaTokensIdeal.τ) (Cert.AdamMetaTokensIdeal.main (F := Ideal))) ⟨m, fun _ => 0, g⟩ (fun r => (∀ c : Dev Cert.AdamMetaTokensIdeal.nD,
      r.2.mem ((c.tc : Thread Cert.AdamMetaTokensIdeal.nD Cert.AdamMetaTokensIdeal.τ).loc Cert.AdamMetaTokensIdeal.main_arg0) = m ((c.tc : Thread Cert.AdamMetaTokensIdeal.nD Cert.AdamMetaTokensIdeal.τ).loc Cert.AdamMetaTokensIdeal.main_arg0)
      ∧ r.2.mem ((c.tc : Thread Cert.AdamMetaTokensIdeal.nD Cert.AdamMetaTokensIdeal.τ).loc Cert.AdamMetaTokensIdeal.main_arg1) = m ((c.tc : Thread Cert.AdamMetaTokensIdeal.nD Cert.AdamMetaTokensIdeal.τ).loc Cert.AdamMetaTokensIdeal.main_arg1)
      ∧ r.2.mem ((c.tc : Thread Cert.AdamMetaTokensIdeal.nD Cert.AdamMetaTokensIdeal.τ).loc Cert.AdamMetaTokensIdeal.main_arg2) = m ((c.tc : Thread Cert.AdamMetaTokensIdeal.nD Cert.AdamMetaTokensIdeal.τ).loc Cert.AdamMetaTokensIdeal.main_arg2)
      ∧ r.2.mem ((c.tc : Thread Cert.AdamMetaTokensIdeal.nD Cert.AdamMetaTokensIdeal.τ).loc Cert.AdamMetaTokensIdeal.main_arg3) = m ((c.tc : Thread Cert.AdamMetaTokensIdeal.nD Cert.AdamMetaTokensIdeal.τ).loc Cert.AdamMetaTokensIdeal.main_arg3))
      ∧ r.2.sem = fun _ => 0)

def quiescent_AdamMetaTokensRefIdeal [hAdamMetaTokensRefIdeal : Cert.AdamMetaTokensRefIdeal.Facts] : Prop :=
  ∀ (m : (ℓ : Loc Cert.AdamMetaTokensRefIdeal.nD Cert.AdamMetaTokensRefIdeal.τ Cert.AdamMetaTokensRefIdeal.sig) → Buf (Elt Ideal) ℓ) (g : Dev Cert.AdamMetaTokensRefIdeal.nD → PrngReg), Pre_AdamMetaTokensRefIdeal m →
    θ_run (Cert.AdamMetaTokensRefIdeal.defs (F := Ideal)) (onTc (τ := Cert.AdamMetaTokensRefIdeal.τ) (Cert.AdamMetaTokensRefIdeal.main (F := Ideal))) ⟨m, fun _ => 0, g⟩ (fun r => (∀ c : Dev Cert.AdamMetaTokensRefIdeal.nD,
      r.2.mem ((c.tc : Thread Cert.AdamMetaTokensRefIdeal.nD Cert.AdamMetaTokensRefIdeal.τ).loc Cert.AdamMetaTokensRefIdeal.main_arg0) = m ((c.tc : Thread Cert.AdamMetaTokensRefIdeal.nD Cert.AdamMetaTokensRefIdeal.τ).loc Cert.AdamMetaTokensRefIdeal.main_arg0)
      ∧ r.2.mem ((c.tc : Thread Cert.AdamMetaTokensRefIdeal.nD Cert.AdamMetaTokensRefIdeal.τ).loc Cert.AdamMetaTokensRefIdeal.main_arg1) = m ((c.tc : Thread Cert.AdamMetaTokensRefIdeal.nD Cert.AdamMetaTokensRefIdeal.τ).loc Cert.AdamMetaTokensRefIdeal.main_arg1)
      ∧ r.2.mem ((c.tc : Thread Cert.AdamMetaTokensRefIdeal.nD Cert.AdamMetaTokensRefIdeal.τ).loc Cert.AdamMetaTokensRefIdeal.main_arg2) = m ((c.tc : Thread Cert.AdamMetaTokensRefIdeal.nD Cert.AdamMetaTokensRefIdeal.τ).loc Cert.AdamMetaTokensRefIdeal.main_arg2)
      ∧ r.2.mem ((c.tc : Thread Cert.AdamMetaTokensRefIdeal.nD Cert.AdamMetaTokensRefIdeal.τ).loc Cert.AdamMetaTokensRefIdeal.main_arg3) = m ((c.tc : Thread Cert.AdamMetaTokensRefIdeal.nD Cert.AdamMetaTokensRefIdeal.τ).loc Cert.AdamMetaTokensRefIdeal.main_arg3))
      ∧ r.2.sem = fun _ => 0)

def quiescent_AdamFfn1Norm [hAdamFfn1Norm : Cert.AdamFfn1Norm.Facts] : Prop :=
  ∀ (m : (ℓ : Loc Cert.AdamFfn1Norm.nD Cert.AdamFfn1Norm.τ Cert.AdamFfn1Norm.sig) → Buf (Elt Bits) ℓ) (g : Dev Cert.AdamFfn1Norm.nD → PrngReg), Pre_AdamFfn1Norm m →
    θ_run (Cert.AdamFfn1Norm.defs (F := Bits)) (onTc (τ := Cert.AdamFfn1Norm.τ) (Cert.AdamFfn1Norm.main (F := Bits))) ⟨m, fun _ => 0, g⟩ (fun r => (∀ c : Dev Cert.AdamFfn1Norm.nD,
      r.2.mem ((c.tc : Thread Cert.AdamFfn1Norm.nD Cert.AdamFfn1Norm.τ).loc Cert.AdamFfn1Norm.main_arg0) = m ((c.tc : Thread Cert.AdamFfn1Norm.nD Cert.AdamFfn1Norm.τ).loc Cert.AdamFfn1Norm.main_arg0)
      ∧ r.2.mem ((c.tc : Thread Cert.AdamFfn1Norm.nD Cert.AdamFfn1Norm.τ).loc Cert.AdamFfn1Norm.main_arg1) = m ((c.tc : Thread Cert.AdamFfn1Norm.nD Cert.AdamFfn1Norm.τ).loc Cert.AdamFfn1Norm.main_arg1)
      ∧ r.2.mem ((c.tc : Thread Cert.AdamFfn1Norm.nD Cert.AdamFfn1Norm.τ).loc Cert.AdamFfn1Norm.main_arg2) = m ((c.tc : Thread Cert.AdamFfn1Norm.nD Cert.AdamFfn1Norm.τ).loc Cert.AdamFfn1Norm.main_arg2)
      ∧ r.2.mem ((c.tc : Thread Cert.AdamFfn1Norm.nD Cert.AdamFfn1Norm.τ).loc Cert.AdamFfn1Norm.main_arg3) = m ((c.tc : Thread Cert.AdamFfn1Norm.nD Cert.AdamFfn1Norm.τ).loc Cert.AdamFfn1Norm.main_arg3))
      ∧ r.2.sem = fun _ => 0)

def quiescent_AdamFfn1NormIdeal [hAdamFfn1NormIdeal : Cert.AdamFfn1NormIdeal.Facts] : Prop :=
  ∀ (m : (ℓ : Loc Cert.AdamFfn1NormIdeal.nD Cert.AdamFfn1NormIdeal.τ Cert.AdamFfn1NormIdeal.sig) → Buf (Elt Ideal) ℓ) (g : Dev Cert.AdamFfn1NormIdeal.nD → PrngReg), Pre_AdamFfn1NormIdeal m →
    θ_run (Cert.AdamFfn1NormIdeal.defs (F := Ideal)) (onTc (τ := Cert.AdamFfn1NormIdeal.τ) (Cert.AdamFfn1NormIdeal.main (F := Ideal))) ⟨m, fun _ => 0, g⟩ (fun r => (∀ c : Dev Cert.AdamFfn1NormIdeal.nD,
      r.2.mem ((c.tc : Thread Cert.AdamFfn1NormIdeal.nD Cert.AdamFfn1NormIdeal.τ).loc Cert.AdamFfn1NormIdeal.main_arg0) = m ((c.tc : Thread Cert.AdamFfn1NormIdeal.nD Cert.AdamFfn1NormIdeal.τ).loc Cert.AdamFfn1NormIdeal.main_arg0)
      ∧ r.2.mem ((c.tc : Thread Cert.AdamFfn1NormIdeal.nD Cert.AdamFfn1NormIdeal.τ).loc Cert.AdamFfn1NormIdeal.main_arg1) = m ((c.tc : Thread Cert.AdamFfn1NormIdeal.nD Cert.AdamFfn1NormIdeal.τ).loc Cert.AdamFfn1NormIdeal.main_arg1)
      ∧ r.2.mem ((c.tc : Thread Cert.AdamFfn1NormIdeal.nD Cert.AdamFfn1NormIdeal.τ).loc Cert.AdamFfn1NormIdeal.main_arg2) = m ((c.tc : Thread Cert.AdamFfn1NormIdeal.nD Cert.AdamFfn1NormIdeal.τ).loc Cert.AdamFfn1NormIdeal.main_arg2)
      ∧ r.2.mem ((c.tc : Thread Cert.AdamFfn1NormIdeal.nD Cert.AdamFfn1NormIdeal.τ).loc Cert.AdamFfn1NormIdeal.main_arg3) = m ((c.tc : Thread Cert.AdamFfn1NormIdeal.nD Cert.AdamFfn1NormIdeal.τ).loc Cert.AdamFfn1NormIdeal.main_arg3))
      ∧ r.2.sem = fun _ => 0)

def quiescent_AdamFfn1NormRefIdeal [hAdamFfn1NormRefIdeal : Cert.AdamFfn1NormRefIdeal.Facts] : Prop :=
  ∀ (m : (ℓ : Loc Cert.AdamFfn1NormRefIdeal.nD Cert.AdamFfn1NormRefIdeal.τ Cert.AdamFfn1NormRefIdeal.sig) → Buf (Elt Ideal) ℓ) (g : Dev Cert.AdamFfn1NormRefIdeal.nD → PrngReg), Pre_AdamFfn1NormRefIdeal m →
    θ_run (Cert.AdamFfn1NormRefIdeal.defs (F := Ideal)) (onTc (τ := Cert.AdamFfn1NormRefIdeal.τ) (Cert.AdamFfn1NormRefIdeal.main (F := Ideal))) ⟨m, fun _ => 0, g⟩ (fun r => (∀ c : Dev Cert.AdamFfn1NormRefIdeal.nD,
      r.2.mem ((c.tc : Thread Cert.AdamFfn1NormRefIdeal.nD Cert.AdamFfn1NormRefIdeal.τ).loc Cert.AdamFfn1NormRefIdeal.main_arg0) = m ((c.tc : Thread Cert.AdamFfn1NormRefIdeal.nD Cert.AdamFfn1NormRefIdeal.τ).loc Cert.AdamFfn1NormRefIdeal.main_arg0)
      ∧ r.2.mem ((c.tc : Thread Cert.AdamFfn1NormRefIdeal.nD Cert.AdamFfn1NormRefIdeal.τ).loc Cert.AdamFfn1NormRefIdeal.main_arg1) = m ((c.tc : Thread Cert.AdamFfn1NormRefIdeal.nD Cert.AdamFfn1NormRefIdeal.τ).loc Cert.AdamFfn1NormRefIdeal.main_arg1)
      ∧ r.2.mem ((c.tc : Thread Cert.AdamFfn1NormRefIdeal.nD Cert.AdamFfn1NormRefIdeal.τ).loc Cert.AdamFfn1NormRefIdeal.main_arg2) = m ((c.tc : Thread Cert.AdamFfn1NormRefIdeal.nD Cert.AdamFfn1NormRefIdeal.τ).loc Cert.AdamFfn1NormRefIdeal.main_arg2)
      ∧ r.2.mem ((c.tc : Thread Cert.AdamFfn1NormRefIdeal.nD Cert.AdamFfn1NormRefIdeal.τ).loc Cert.AdamFfn1NormRefIdeal.main_arg3) = m ((c.tc : Thread Cert.AdamFfn1NormRefIdeal.nD Cert.AdamFfn1NormRefIdeal.τ).loc Cert.AdamFfn1NormRefIdeal.main_arg3))
      ∧ r.2.sem = fun _ => 0)

def quiescent_AdamFfn1WGateUp [hAdamFfn1WGateUp : Cert.AdamFfn1WGateUp.Facts] : Prop :=
  ∀ (m : (ℓ : Loc Cert.AdamFfn1WGateUp.nD Cert.AdamFfn1WGateUp.τ Cert.AdamFfn1WGateUp.sig) → Buf (Elt Bits) ℓ) (g : Dev Cert.AdamFfn1WGateUp.nD → PrngReg), Pre_AdamFfn1WGateUp m →
    θ_run (Cert.AdamFfn1WGateUp.defs (F := Bits)) (onTc (τ := Cert.AdamFfn1WGateUp.τ) (Cert.AdamFfn1WGateUp.main (F := Bits))) ⟨m, fun _ => 0, g⟩ (fun r => (∀ c : Dev Cert.AdamFfn1WGateUp.nD,
      r.2.mem ((c.tc : Thread Cert.AdamFfn1WGateUp.nD Cert.AdamFfn1WGateUp.τ).loc Cert.AdamFfn1WGateUp.main_arg0) = m ((c.tc : Thread Cert.AdamFfn1WGateUp.nD Cert.AdamFfn1WGateUp.τ).loc Cert.AdamFfn1WGateUp.main_arg0)
      ∧ r.2.mem ((c.tc : Thread Cert.AdamFfn1WGateUp.nD Cert.AdamFfn1WGateUp.τ).loc Cert.AdamFfn1WGateUp.main_arg1) = m ((c.tc : Thread Cert.AdamFfn1WGateUp.nD Cert.AdamFfn1WGateUp.τ).loc Cert.AdamFfn1WGateUp.main_arg1)
      ∧ r.2.mem ((c.tc : Thread Cert.AdamFfn1WGateUp.nD Cert.AdamFfn1WGateUp.τ).loc Cert.AdamFfn1WGateUp.main_arg2) = m ((c.tc : Thread Cert.AdamFfn1WGateUp.nD Cert.AdamFfn1WGateUp.τ).loc Cert.AdamFfn1WGateUp.main_arg2)
      ∧ r.2.mem ((c.tc : Thread Cert.AdamFfn1WGateUp.nD Cert.AdamFfn1WGateUp.τ).loc Cert.AdamFfn1WGateUp.main_arg3) = m ((c.tc : Thread Cert.AdamFfn1WGateUp.nD Cert.AdamFfn1WGateUp.τ).loc Cert.AdamFfn1WGateUp.main_arg3))
      ∧ r.2.sem = fun _ => 0)

def quiescent_AdamFfn1WGateUpIdeal [hAdamFfn1WGateUpIdeal : Cert.AdamFfn1WGateUpIdeal.Facts] : Prop :=
  ∀ (m : (ℓ : Loc Cert.AdamFfn1WGateUpIdeal.nD Cert.AdamFfn1WGateUpIdeal.τ Cert.AdamFfn1WGateUpIdeal.sig) → Buf (Elt Ideal) ℓ) (g : Dev Cert.AdamFfn1WGateUpIdeal.nD → PrngReg), Pre_AdamFfn1WGateUpIdeal m →
    θ_run (Cert.AdamFfn1WGateUpIdeal.defs (F := Ideal)) (onTc (τ := Cert.AdamFfn1WGateUpIdeal.τ) (Cert.AdamFfn1WGateUpIdeal.main (F := Ideal))) ⟨m, fun _ => 0, g⟩ (fun r => (∀ c : Dev Cert.AdamFfn1WGateUpIdeal.nD,
      r.2.mem ((c.tc : Thread Cert.AdamFfn1WGateUpIdeal.nD Cert.AdamFfn1WGateUpIdeal.τ).loc Cert.AdamFfn1WGateUpIdeal.main_arg0) = m ((c.tc : Thread Cert.AdamFfn1WGateUpIdeal.nD Cert.AdamFfn1WGateUpIdeal.τ).loc Cert.AdamFfn1WGateUpIdeal.main_arg0)
      ∧ r.2.mem ((c.tc : Thread Cert.AdamFfn1WGateUpIdeal.nD Cert.AdamFfn1WGateUpIdeal.τ).loc Cert.AdamFfn1WGateUpIdeal.main_arg1) = m ((c.tc : Thread Cert.AdamFfn1WGateUpIdeal.nD Cert.AdamFfn1WGateUpIdeal.τ).loc Cert.AdamFfn1WGateUpIdeal.main_arg1)
      ∧ r.2.mem ((c.tc : Thread Cert.AdamFfn1WGateUpIdeal.nD Cert.AdamFfn1WGateUpIdeal.τ).loc Cert.AdamFfn1WGateUpIdeal.main_arg2) = m ((c.tc : Thread Cert.AdamFfn1WGateUpIdeal.nD Cert.AdamFfn1WGateUpIdeal.τ).loc Cert.AdamFfn1WGateUpIdeal.main_arg2)
      ∧ r.2.mem ((c.tc : Thread Cert.AdamFfn1WGateUpIdeal.nD Cert.AdamFfn1WGateUpIdeal.τ).loc Cert.AdamFfn1WGateUpIdeal.main_arg3) = m ((c.tc : Thread Cert.AdamFfn1WGateUpIdeal.nD Cert.AdamFfn1WGateUpIdeal.τ).loc Cert.AdamFfn1WGateUpIdeal.main_arg3))
      ∧ r.2.sem = fun _ => 0)

def quiescent_AdamFfn1WGateUpRefIdeal [hAdamFfn1WGateUpRefIdeal : Cert.AdamFfn1WGateUpRefIdeal.Facts] : Prop :=
  ∀ (m : (ℓ : Loc Cert.AdamFfn1WGateUpRefIdeal.nD Cert.AdamFfn1WGateUpRefIdeal.τ Cert.AdamFfn1WGateUpRefIdeal.sig) → Buf (Elt Ideal) ℓ) (g : Dev Cert.AdamFfn1WGateUpRefIdeal.nD → PrngReg), Pre_AdamFfn1WGateUpRefIdeal m →
    θ_run (Cert.AdamFfn1WGateUpRefIdeal.defs (F := Ideal)) (onTc (τ := Cert.AdamFfn1WGateUpRefIdeal.τ) (Cert.AdamFfn1WGateUpRefIdeal.main (F := Ideal))) ⟨m, fun _ => 0, g⟩ (fun r => (∀ c : Dev Cert.AdamFfn1WGateUpRefIdeal.nD,
      r.2.mem ((c.tc : Thread Cert.AdamFfn1WGateUpRefIdeal.nD Cert.AdamFfn1WGateUpRefIdeal.τ).loc Cert.AdamFfn1WGateUpRefIdeal.main_arg0) = m ((c.tc : Thread Cert.AdamFfn1WGateUpRefIdeal.nD Cert.AdamFfn1WGateUpRefIdeal.τ).loc Cert.AdamFfn1WGateUpRefIdeal.main_arg0)
      ∧ r.2.mem ((c.tc : Thread Cert.AdamFfn1WGateUpRefIdeal.nD Cert.AdamFfn1WGateUpRefIdeal.τ).loc Cert.AdamFfn1WGateUpRefIdeal.main_arg1) = m ((c.tc : Thread Cert.AdamFfn1WGateUpRefIdeal.nD Cert.AdamFfn1WGateUpRefIdeal.τ).loc Cert.AdamFfn1WGateUpRefIdeal.main_arg1)
      ∧ r.2.mem ((c.tc : Thread Cert.AdamFfn1WGateUpRefIdeal.nD Cert.AdamFfn1WGateUpRefIdeal.τ).loc Cert.AdamFfn1WGateUpRefIdeal.main_arg2) = m ((c.tc : Thread Cert.AdamFfn1WGateUpRefIdeal.nD Cert.AdamFfn1WGateUpRefIdeal.τ).loc Cert.AdamFfn1WGateUpRefIdeal.main_arg2)
      ∧ r.2.mem ((c.tc : Thread Cert.AdamFfn1WGateUpRefIdeal.nD Cert.AdamFfn1WGateUpRefIdeal.τ).loc Cert.AdamFfn1WGateUpRefIdeal.main_arg3) = m ((c.tc : Thread Cert.AdamFfn1WGateUpRefIdeal.nD Cert.AdamFfn1WGateUpRefIdeal.τ).loc Cert.AdamFfn1WGateUpRefIdeal.main_arg3))
      ∧ r.2.sem = fun _ => 0)

def quiescent_AdamFfn1WDown [hAdamFfn1WDown : Cert.AdamFfn1WDown.Facts] : Prop :=
  ∀ (m : (ℓ : Loc Cert.AdamFfn1WDown.nD Cert.AdamFfn1WDown.τ Cert.AdamFfn1WDown.sig) → Buf (Elt Bits) ℓ) (g : Dev Cert.AdamFfn1WDown.nD → PrngReg), Pre_AdamFfn1WDown m →
    θ_run (Cert.AdamFfn1WDown.defs (F := Bits)) (onTc (τ := Cert.AdamFfn1WDown.τ) (Cert.AdamFfn1WDown.main (F := Bits))) ⟨m, fun _ => 0, g⟩ (fun r => (∀ c : Dev Cert.AdamFfn1WDown.nD,
      r.2.mem ((c.tc : Thread Cert.AdamFfn1WDown.nD Cert.AdamFfn1WDown.τ).loc Cert.AdamFfn1WDown.main_arg0) = m ((c.tc : Thread Cert.AdamFfn1WDown.nD Cert.AdamFfn1WDown.τ).loc Cert.AdamFfn1WDown.main_arg0)
      ∧ r.2.mem ((c.tc : Thread Cert.AdamFfn1WDown.nD Cert.AdamFfn1WDown.τ).loc Cert.AdamFfn1WDown.main_arg1) = m ((c.tc : Thread Cert.AdamFfn1WDown.nD Cert.AdamFfn1WDown.τ).loc Cert.AdamFfn1WDown.main_arg1)
      ∧ r.2.mem ((c.tc : Thread Cert.AdamFfn1WDown.nD Cert.AdamFfn1WDown.τ).loc Cert.AdamFfn1WDown.main_arg2) = m ((c.tc : Thread Cert.AdamFfn1WDown.nD Cert.AdamFfn1WDown.τ).loc Cert.AdamFfn1WDown.main_arg2)
      ∧ r.2.mem ((c.tc : Thread Cert.AdamFfn1WDown.nD Cert.AdamFfn1WDown.τ).loc Cert.AdamFfn1WDown.main_arg3) = m ((c.tc : Thread Cert.AdamFfn1WDown.nD Cert.AdamFfn1WDown.τ).loc Cert.AdamFfn1WDown.main_arg3))
      ∧ r.2.sem = fun _ => 0)

def quiescent_AdamFfn1WDownIdeal [hAdamFfn1WDownIdeal : Cert.AdamFfn1WDownIdeal.Facts] : Prop :=
  ∀ (m : (ℓ : Loc Cert.AdamFfn1WDownIdeal.nD Cert.AdamFfn1WDownIdeal.τ Cert.AdamFfn1WDownIdeal.sig) → Buf (Elt Ideal) ℓ) (g : Dev Cert.AdamFfn1WDownIdeal.nD → PrngReg), Pre_AdamFfn1WDownIdeal m →
    θ_run (Cert.AdamFfn1WDownIdeal.defs (F := Ideal)) (onTc (τ := Cert.AdamFfn1WDownIdeal.τ) (Cert.AdamFfn1WDownIdeal.main (F := Ideal))) ⟨m, fun _ => 0, g⟩ (fun r => (∀ c : Dev Cert.AdamFfn1WDownIdeal.nD,
      r.2.mem ((c.tc : Thread Cert.AdamFfn1WDownIdeal.nD Cert.AdamFfn1WDownIdeal.τ).loc Cert.AdamFfn1WDownIdeal.main_arg0) = m ((c.tc : Thread Cert.AdamFfn1WDownIdeal.nD Cert.AdamFfn1WDownIdeal.τ).loc Cert.AdamFfn1WDownIdeal.main_arg0)
      ∧ r.2.mem ((c.tc : Thread Cert.AdamFfn1WDownIdeal.nD Cert.AdamFfn1WDownIdeal.τ).loc Cert.AdamFfn1WDownIdeal.main_arg1) = m ((c.tc : Thread Cert.AdamFfn1WDownIdeal.nD Cert.AdamFfn1WDownIdeal.τ).loc Cert.AdamFfn1WDownIdeal.main_arg1)
      ∧ r.2.mem ((c.tc : Thread Cert.AdamFfn1WDownIdeal.nD Cert.AdamFfn1WDownIdeal.τ).loc Cert.AdamFfn1WDownIdeal.main_arg2) = m ((c.tc : Thread Cert.AdamFfn1WDownIdeal.nD Cert.AdamFfn1WDownIdeal.τ).loc Cert.AdamFfn1WDownIdeal.main_arg2)
      ∧ r.2.mem ((c.tc : Thread Cert.AdamFfn1WDownIdeal.nD Cert.AdamFfn1WDownIdeal.τ).loc Cert.AdamFfn1WDownIdeal.main_arg3) = m ((c.tc : Thread Cert.AdamFfn1WDownIdeal.nD Cert.AdamFfn1WDownIdeal.τ).loc Cert.AdamFfn1WDownIdeal.main_arg3))
      ∧ r.2.sem = fun _ => 0)

def quiescent_AdamFfn1WDownRefIdeal [hAdamFfn1WDownRefIdeal : Cert.AdamFfn1WDownRefIdeal.Facts] : Prop :=
  ∀ (m : (ℓ : Loc Cert.AdamFfn1WDownRefIdeal.nD Cert.AdamFfn1WDownRefIdeal.τ Cert.AdamFfn1WDownRefIdeal.sig) → Buf (Elt Ideal) ℓ) (g : Dev Cert.AdamFfn1WDownRefIdeal.nD → PrngReg), Pre_AdamFfn1WDownRefIdeal m →
    θ_run (Cert.AdamFfn1WDownRefIdeal.defs (F := Ideal)) (onTc (τ := Cert.AdamFfn1WDownRefIdeal.τ) (Cert.AdamFfn1WDownRefIdeal.main (F := Ideal))) ⟨m, fun _ => 0, g⟩ (fun r => (∀ c : Dev Cert.AdamFfn1WDownRefIdeal.nD,
      r.2.mem ((c.tc : Thread Cert.AdamFfn1WDownRefIdeal.nD Cert.AdamFfn1WDownRefIdeal.τ).loc Cert.AdamFfn1WDownRefIdeal.main_arg0) = m ((c.tc : Thread Cert.AdamFfn1WDownRefIdeal.nD Cert.AdamFfn1WDownRefIdeal.τ).loc Cert.AdamFfn1WDownRefIdeal.main_arg0)
      ∧ r.2.mem ((c.tc : Thread Cert.AdamFfn1WDownRefIdeal.nD Cert.AdamFfn1WDownRefIdeal.τ).loc Cert.AdamFfn1WDownRefIdeal.main_arg1) = m ((c.tc : Thread Cert.AdamFfn1WDownRefIdeal.nD Cert.AdamFfn1WDownRefIdeal.τ).loc Cert.AdamFfn1WDownRefIdeal.main_arg1)
      ∧ r.2.mem ((c.tc : Thread Cert.AdamFfn1WDownRefIdeal.nD Cert.AdamFfn1WDownRefIdeal.τ).loc Cert.AdamFfn1WDownRefIdeal.main_arg2) = m ((c.tc : Thread Cert.AdamFfn1WDownRefIdeal.nD Cert.AdamFfn1WDownRefIdeal.τ).loc Cert.AdamFfn1WDownRefIdeal.main_arg2)
      ∧ r.2.mem ((c.tc : Thread Cert.AdamFfn1WDownRefIdeal.nD Cert.AdamFfn1WDownRefIdeal.τ).loc Cert.AdamFfn1WDownRefIdeal.main_arg3) = m ((c.tc : Thread Cert.AdamFfn1WDownRefIdeal.nD Cert.AdamFfn1WDownRefIdeal.τ).loc Cert.AdamFfn1WDownRefIdeal.main_arg3))
      ∧ r.2.sem = fun _ => 0)

def quiescent_AdamMixNorm [hAdamMixNorm : Cert.AdamMixNorm.Facts] : Prop :=
  ∀ (m : (ℓ : Loc Cert.AdamMixNorm.nD Cert.AdamMixNorm.τ Cert.AdamMixNorm.sig) → Buf (Elt Bits) ℓ) (g : Dev Cert.AdamMixNorm.nD → PrngReg), Pre_AdamMixNorm m →
    θ_run (Cert.AdamMixNorm.defs (F := Bits)) (onTc (τ := Cert.AdamMixNorm.τ) (Cert.AdamMixNorm.main (F := Bits))) ⟨m, fun _ => 0, g⟩ (fun r => (∀ c : Dev Cert.AdamMixNorm.nD,
      r.2.mem ((c.tc : Thread Cert.AdamMixNorm.nD Cert.AdamMixNorm.τ).loc Cert.AdamMixNorm.main_arg0) = m ((c.tc : Thread Cert.AdamMixNorm.nD Cert.AdamMixNorm.τ).loc Cert.AdamMixNorm.main_arg0)
      ∧ r.2.mem ((c.tc : Thread Cert.AdamMixNorm.nD Cert.AdamMixNorm.τ).loc Cert.AdamMixNorm.main_arg1) = m ((c.tc : Thread Cert.AdamMixNorm.nD Cert.AdamMixNorm.τ).loc Cert.AdamMixNorm.main_arg1)
      ∧ r.2.mem ((c.tc : Thread Cert.AdamMixNorm.nD Cert.AdamMixNorm.τ).loc Cert.AdamMixNorm.main_arg2) = m ((c.tc : Thread Cert.AdamMixNorm.nD Cert.AdamMixNorm.τ).loc Cert.AdamMixNorm.main_arg2)
      ∧ r.2.mem ((c.tc : Thread Cert.AdamMixNorm.nD Cert.AdamMixNorm.τ).loc Cert.AdamMixNorm.main_arg3) = m ((c.tc : Thread Cert.AdamMixNorm.nD Cert.AdamMixNorm.τ).loc Cert.AdamMixNorm.main_arg3))
      ∧ r.2.sem = fun _ => 0)

def quiescent_AdamMixNormIdeal [hAdamMixNormIdeal : Cert.AdamMixNormIdeal.Facts] : Prop :=
  ∀ (m : (ℓ : Loc Cert.AdamMixNormIdeal.nD Cert.AdamMixNormIdeal.τ Cert.AdamMixNormIdeal.sig) → Buf (Elt Ideal) ℓ) (g : Dev Cert.AdamMixNormIdeal.nD → PrngReg), Pre_AdamMixNormIdeal m →
    θ_run (Cert.AdamMixNormIdeal.defs (F := Ideal)) (onTc (τ := Cert.AdamMixNormIdeal.τ) (Cert.AdamMixNormIdeal.main (F := Ideal))) ⟨m, fun _ => 0, g⟩ (fun r => (∀ c : Dev Cert.AdamMixNormIdeal.nD,
      r.2.mem ((c.tc : Thread Cert.AdamMixNormIdeal.nD Cert.AdamMixNormIdeal.τ).loc Cert.AdamMixNormIdeal.main_arg0) = m ((c.tc : Thread Cert.AdamMixNormIdeal.nD Cert.AdamMixNormIdeal.τ).loc Cert.AdamMixNormIdeal.main_arg0)
      ∧ r.2.mem ((c.tc : Thread Cert.AdamMixNormIdeal.nD Cert.AdamMixNormIdeal.τ).loc Cert.AdamMixNormIdeal.main_arg1) = m ((c.tc : Thread Cert.AdamMixNormIdeal.nD Cert.AdamMixNormIdeal.τ).loc Cert.AdamMixNormIdeal.main_arg1)
      ∧ r.2.mem ((c.tc : Thread Cert.AdamMixNormIdeal.nD Cert.AdamMixNormIdeal.τ).loc Cert.AdamMixNormIdeal.main_arg2) = m ((c.tc : Thread Cert.AdamMixNormIdeal.nD Cert.AdamMixNormIdeal.τ).loc Cert.AdamMixNormIdeal.main_arg2)
      ∧ r.2.mem ((c.tc : Thread Cert.AdamMixNormIdeal.nD Cert.AdamMixNormIdeal.τ).loc Cert.AdamMixNormIdeal.main_arg3) = m ((c.tc : Thread Cert.AdamMixNormIdeal.nD Cert.AdamMixNormIdeal.τ).loc Cert.AdamMixNormIdeal.main_arg3))
      ∧ r.2.sem = fun _ => 0)

def quiescent_AdamMixNormRefIdeal [hAdamMixNormRefIdeal : Cert.AdamMixNormRefIdeal.Facts] : Prop :=
  ∀ (m : (ℓ : Loc Cert.AdamMixNormRefIdeal.nD Cert.AdamMixNormRefIdeal.τ Cert.AdamMixNormRefIdeal.sig) → Buf (Elt Ideal) ℓ) (g : Dev Cert.AdamMixNormRefIdeal.nD → PrngReg), Pre_AdamMixNormRefIdeal m →
    θ_run (Cert.AdamMixNormRefIdeal.defs (F := Ideal)) (onTc (τ := Cert.AdamMixNormRefIdeal.τ) (Cert.AdamMixNormRefIdeal.main (F := Ideal))) ⟨m, fun _ => 0, g⟩ (fun r => (∀ c : Dev Cert.AdamMixNormRefIdeal.nD,
      r.2.mem ((c.tc : Thread Cert.AdamMixNormRefIdeal.nD Cert.AdamMixNormRefIdeal.τ).loc Cert.AdamMixNormRefIdeal.main_arg0) = m ((c.tc : Thread Cert.AdamMixNormRefIdeal.nD Cert.AdamMixNormRefIdeal.τ).loc Cert.AdamMixNormRefIdeal.main_arg0)
      ∧ r.2.mem ((c.tc : Thread Cert.AdamMixNormRefIdeal.nD Cert.AdamMixNormRefIdeal.τ).loc Cert.AdamMixNormRefIdeal.main_arg1) = m ((c.tc : Thread Cert.AdamMixNormRefIdeal.nD Cert.AdamMixNormRefIdeal.τ).loc Cert.AdamMixNormRefIdeal.main_arg1)
      ∧ r.2.mem ((c.tc : Thread Cert.AdamMixNormRefIdeal.nD Cert.AdamMixNormRefIdeal.τ).loc Cert.AdamMixNormRefIdeal.main_arg2) = m ((c.tc : Thread Cert.AdamMixNormRefIdeal.nD Cert.AdamMixNormRefIdeal.τ).loc Cert.AdamMixNormRefIdeal.main_arg2)
      ∧ r.2.mem ((c.tc : Thread Cert.AdamMixNormRefIdeal.nD Cert.AdamMixNormRefIdeal.τ).loc Cert.AdamMixNormRefIdeal.main_arg3) = m ((c.tc : Thread Cert.AdamMixNormRefIdeal.nD Cert.AdamMixNormRefIdeal.τ).loc Cert.AdamMixNormRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamFoxForgetBias [hAdamFoxForgetBias : Cert.AdamFoxForgetBias.Facts] : Prop :=
  ∀ (m : (ℓ : Loc Cert.AdamFoxForgetBias.nD Cert.AdamFoxForgetBias.τ Cert.AdamFoxForgetBias.sig) → Buf (Elt Bits) ℓ) (g : Dev Cert.AdamFoxForgetBias.nD → PrngReg), Pre_AdamFoxForgetBias m →
    θ_run (Cert.AdamFoxForgetBias.defs (F := Bits)) (onTc (τ := Cert.AdamFoxForgetBias.τ) (Cert.AdamFoxForgetBias.main (F := Bits))) ⟨m, fun _ => 0, g⟩ (fun r => (∀ c : Dev Cert.AdamFoxForgetBias.nD,
      r.2.mem ((c.tc : Thread Cert.AdamFoxForgetBias.nD Cert.AdamFoxForgetBias.τ).loc Cert.AdamFoxForgetBias.main_arg0) = m ((c.tc : Thread Cert.AdamFoxForgetBias.nD Cert.AdamFoxForgetBias.τ).loc Cert.AdamFoxForgetBias.main_arg0)
      ∧ r.2.mem ((c.tc : Thread Cert.AdamFoxForgetBias.nD Cert.AdamFoxForgetBias.τ).loc Cert.AdamFoxForgetBias.main_arg1) = m ((c.tc : Thread Cert.AdamFoxForgetBias.nD Cert.AdamFoxForgetBias.τ).loc Cert.AdamFoxForgetBias.main_arg1)
      ∧ r.2.mem ((c.tc : Thread Cert.AdamFoxForgetBias.nD Cert.AdamFoxForgetBias.τ).loc Cert.AdamFoxForgetBias.main_arg2) = m ((c.tc : Thread Cert.AdamFoxForgetBias.nD Cert.AdamFoxForgetBias.τ).loc Cert.AdamFoxForgetBias.main_arg2)
      ∧ r.2.mem ((c.tc : Thread Cert.AdamFoxForgetBias.nD Cert.AdamFoxForgetBias.τ).loc Cert.AdamFoxForgetBias.main_arg3) = m ((c.tc : Thread Cert.AdamFoxForgetBias.nD Cert.AdamFoxForgetBias.τ).loc Cert.AdamFoxForgetBias.main_arg3))
      ∧ r.2.sem = fun _ => 0)

def quiescent_AdamFoxForgetBiasIdeal [hAdamFoxForgetBiasIdeal : Cert.AdamFoxForgetBiasIdeal.Facts] : Prop :=
  ∀ (m : (ℓ : Loc Cert.AdamFoxForgetBiasIdeal.nD Cert.AdamFoxForgetBiasIdeal.τ Cert.AdamFoxForgetBiasIdeal.sig) → Buf (Elt Ideal) ℓ) (g : Dev Cert.AdamFoxForgetBiasIdeal.nD → PrngReg), Pre_AdamFoxForgetBiasIdeal m →
    θ_run (Cert.AdamFoxForgetBiasIdeal.defs (F := Ideal)) (onTc (τ := Cert.AdamFoxForgetBiasIdeal.τ) (Cert.AdamFoxForgetBiasIdeal.main (F := Ideal))) ⟨m, fun _ => 0, g⟩ (fun r => (∀ c : Dev Cert.AdamFoxForgetBiasIdeal.nD,
      r.2.mem ((c.tc : Thread Cert.AdamFoxForgetBiasIdeal.nD Cert.AdamFoxForgetBiasIdeal.τ).loc Cert.AdamFoxForgetBiasIdeal.main_arg0) = m ((c.tc : Thread Cert.AdamFoxForgetBiasIdeal.nD Cert.AdamFoxForgetBiasIdeal.τ).loc Cert.AdamFoxForgetBiasIdeal.main_arg0)
      ∧ r.2.mem ((c.tc : Thread Cert.AdamFoxForgetBiasIdeal.nD Cert.AdamFoxForgetBiasIdeal.τ).loc Cert.AdamFoxForgetBiasIdeal.main_arg1) = m ((c.tc : Thread Cert.AdamFoxForgetBiasIdeal.nD Cert.AdamFoxForgetBiasIdeal.τ).loc Cert.AdamFoxForgetBiasIdeal.main_arg1)
      ∧ r.2.mem ((c.tc : Thread Cert.AdamFoxForgetBiasIdeal.nD Cert.AdamFoxForgetBiasIdeal.τ).loc Cert.AdamFoxForgetBiasIdeal.main_arg2) = m ((c.tc : Thread Cert.AdamFoxForgetBiasIdeal.nD Cert.AdamFoxForgetBiasIdeal.τ).loc Cert.AdamFoxForgetBiasIdeal.main_arg2)
      ∧ r.2.mem ((c.tc : Thread Cert.AdamFoxForgetBiasIdeal.nD Cert.AdamFoxForgetBiasIdeal.τ).loc Cert.AdamFoxForgetBiasIdeal.main_arg3) = m ((c.tc : Thread Cert.AdamFoxForgetBiasIdeal.nD Cert.AdamFoxForgetBiasIdeal.τ).loc Cert.AdamFoxForgetBiasIdeal.main_arg3))
      ∧ r.2.sem = fun _ => 0)

def quiescent_AdamFoxForgetBiasRefIdeal [hAdamFoxForgetBiasRefIdeal : Cert.AdamFoxForgetBiasRefIdeal.Facts] : Prop :=
  ∀ (m : (ℓ : Loc Cert.AdamFoxForgetBiasRefIdeal.nD Cert.AdamFoxForgetBiasRefIdeal.τ Cert.AdamFoxForgetBiasRefIdeal.sig) → Buf (Elt Ideal) ℓ) (g : Dev Cert.AdamFoxForgetBiasRefIdeal.nD → PrngReg), Pre_AdamFoxForgetBiasRefIdeal m →
    θ_run (Cert.AdamFoxForgetBiasRefIdeal.defs (F := Ideal)) (onTc (τ := Cert.AdamFoxForgetBiasRefIdeal.τ) (Cert.AdamFoxForgetBiasRefIdeal.main (F := Ideal))) ⟨m, fun _ => 0, g⟩ (fun r => (∀ c : Dev Cert.AdamFoxForgetBiasRefIdeal.nD,
      r.2.mem ((c.tc : Thread Cert.AdamFoxForgetBiasRefIdeal.nD Cert.AdamFoxForgetBiasRefIdeal.τ).loc Cert.AdamFoxForgetBiasRefIdeal.main_arg0) = m ((c.tc : Thread Cert.AdamFoxForgetBiasRefIdeal.nD Cert.AdamFoxForgetBiasRefIdeal.τ).loc Cert.AdamFoxForgetBiasRefIdeal.main_arg0)
      ∧ r.2.mem ((c.tc : Thread Cert.AdamFoxForgetBiasRefIdeal.nD Cert.AdamFoxForgetBiasRefIdeal.τ).loc Cert.AdamFoxForgetBiasRefIdeal.main_arg1) = m ((c.tc : Thread Cert.AdamFoxForgetBiasRefIdeal.nD Cert.AdamFoxForgetBiasRefIdeal.τ).loc Cert.AdamFoxForgetBiasRefIdeal.main_arg1)
      ∧ r.2.mem ((c.tc : Thread Cert.AdamFoxForgetBiasRefIdeal.nD Cert.AdamFoxForgetBiasRefIdeal.τ).loc Cert.AdamFoxForgetBiasRefIdeal.main_arg2) = m ((c.tc : Thread Cert.AdamFoxForgetBiasRefIdeal.nD Cert.AdamFoxForgetBiasRefIdeal.τ).loc Cert.AdamFoxForgetBiasRefIdeal.main_arg2)
      ∧ r.2.mem ((c.tc : Thread Cert.AdamFoxForgetBiasRefIdeal.nD Cert.AdamFoxForgetBiasRefIdeal.τ).loc Cert.AdamFoxForgetBiasRefIdeal.main_arg3) = m ((c.tc : Thread Cert.AdamFoxForgetBiasRefIdeal.nD Cert.AdamFoxForgetBiasRefIdeal.τ).loc Cert.AdamFoxForgetBiasRefIdeal.main_arg3))
      ∧ r.2.sem = fun _ => 0)

def quiescent_AdamSsdConvW [hAdamSsdConvW : Cert.AdamSsdConvW.Facts] : Prop :=
  ∀ (m : (ℓ : Loc Cert.AdamSsdConvW.nD Cert.AdamSsdConvW.τ Cert.AdamSsdConvW.sig) → Buf (Elt Bits) ℓ) (g : Dev Cert.AdamSsdConvW.nD → PrngReg), Pre_AdamSsdConvW m →
    θ_run (Cert.AdamSsdConvW.defs (F := Bits)) (onTc (τ := Cert.AdamSsdConvW.τ) (Cert.AdamSsdConvW.main (F := Bits))) ⟨m, fun _ => 0, g⟩ (fun r => (∀ c : Dev Cert.AdamSsdConvW.nD,
      r.2.mem ((c.tc : Thread Cert.AdamSsdConvW.nD Cert.AdamSsdConvW.τ).loc Cert.AdamSsdConvW.main_arg0) = m ((c.tc : Thread Cert.AdamSsdConvW.nD Cert.AdamSsdConvW.τ).loc Cert.AdamSsdConvW.main_arg0)
      ∧ r.2.mem ((c.tc : Thread Cert.AdamSsdConvW.nD Cert.AdamSsdConvW.τ).loc Cert.AdamSsdConvW.main_arg1) = m ((c.tc : Thread Cert.AdamSsdConvW.nD Cert.AdamSsdConvW.τ).loc Cert.AdamSsdConvW.main_arg1)
      ∧ r.2.mem ((c.tc : Thread Cert.AdamSsdConvW.nD Cert.AdamSsdConvW.τ).loc Cert.AdamSsdConvW.main_arg2) = m ((c.tc : Thread Cert.AdamSsdConvW.nD Cert.AdamSsdConvW.τ).loc Cert.AdamSsdConvW.main_arg2)
      ∧ r.2.mem ((c.tc : Thread Cert.AdamSsdConvW.nD Cert.AdamSsdConvW.τ).loc Cert.AdamSsdConvW.main_arg3) = m ((c.tc : Thread Cert.AdamSsdConvW.nD Cert.AdamSsdConvW.τ).loc Cert.AdamSsdConvW.main_arg3))
      ∧ r.2.sem = fun _ => 0)

def quiescent_AdamSsdConvWIdeal [hAdamSsdConvWIdeal : Cert.AdamSsdConvWIdeal.Facts] : Prop :=
  ∀ (m : (ℓ : Loc Cert.AdamSsdConvWIdeal.nD Cert.AdamSsdConvWIdeal.τ Cert.AdamSsdConvWIdeal.sig) → Buf (Elt Ideal) ℓ) (g : Dev Cert.AdamSsdConvWIdeal.nD → PrngReg), Pre_AdamSsdConvWIdeal m →
    θ_run (Cert.AdamSsdConvWIdeal.defs (F := Ideal)) (onTc (τ := Cert.AdamSsdConvWIdeal.τ) (Cert.AdamSsdConvWIdeal.main (F := Ideal))) ⟨m, fun _ => 0, g⟩ (fun r => (∀ c : Dev Cert.AdamSsdConvWIdeal.nD,
      r.2.mem ((c.tc : Thread Cert.AdamSsdConvWIdeal.nD Cert.AdamSsdConvWIdeal.τ).loc Cert.AdamSsdConvWIdeal.main_arg0) = m ((c.tc : Thread Cert.AdamSsdConvWIdeal.nD Cert.AdamSsdConvWIdeal.τ).loc Cert.AdamSsdConvWIdeal.main_arg0)
      ∧ r.2.mem ((c.tc : Thread Cert.AdamSsdConvWIdeal.nD Cert.AdamSsdConvWIdeal.τ).loc Cert.AdamSsdConvWIdeal.main_arg1) = m ((c.tc : Thread Cert.AdamSsdConvWIdeal.nD Cert.AdamSsdConvWIdeal.τ).loc Cert.AdamSsdConvWIdeal.main_arg1)
      ∧ r.2.mem ((c.tc : Thread Cert.AdamSsdConvWIdeal.nD Cert.AdamSsdConvWIdeal.τ).loc Cert.AdamSsdConvWIdeal.main_arg2) = m ((c.tc : Thread Cert.AdamSsdConvWIdeal.nD Cert.AdamSsdConvWIdeal.τ).loc Cert.AdamSsdConvWIdeal.main_arg2)
      ∧ r.2.mem ((c.tc : Thread Cert.AdamSsdConvWIdeal.nD Cert.AdamSsdConvWIdeal.τ).loc Cert.AdamSsdConvWIdeal.main_arg3) = m ((c.tc : Thread Cert.AdamSsdConvWIdeal.nD Cert.AdamSsdConvWIdeal.τ).loc Cert.AdamSsdConvWIdeal.main_arg3))
      ∧ r.2.sem = fun _ => 0)

def quiescent_AdamSsdConvWRefIdeal [hAdamSsdConvWRefIdeal : Cert.AdamSsdConvWRefIdeal.Facts] : Prop :=
  ∀ (m : (ℓ : Loc Cert.AdamSsdConvWRefIdeal.nD Cert.AdamSsdConvWRefIdeal.τ Cert.AdamSsdConvWRefIdeal.sig) → Buf (Elt Ideal) ℓ) (g : Dev Cert.AdamSsdConvWRefIdeal.nD → PrngReg), Pre_AdamSsdConvWRefIdeal m →
    θ_run (Cert.AdamSsdConvWRefIdeal.defs (F := Ideal)) (onTc (τ := Cert.AdamSsdConvWRefIdeal.τ) (Cert.AdamSsdConvWRefIdeal.main (F := Ideal))) ⟨m, fun _ => 0, g⟩ (fun r => (∀ c : Dev Cert.AdamSsdConvWRefIdeal.nD,
      r.2.mem ((c.tc : Thread Cert.AdamSsdConvWRefIdeal.nD Cert.AdamSsdConvWRefIdeal.τ).loc Cert.AdamSsdConvWRefIdeal.main_arg0) = m ((c.tc : Thread Cert.AdamSsdConvWRefIdeal.nD Cert.AdamSsdConvWRefIdeal.τ).loc Cert.AdamSsdConvWRefIdeal.main_arg0)
      ∧ r.2.mem ((c.tc : Thread Cert.AdamSsdConvWRefIdeal.nD Cert.AdamSsdConvWRefIdeal.τ).loc Cert.AdamSsdConvWRefIdeal.main_arg1) = m ((c.tc : Thread Cert.AdamSsdConvWRefIdeal.nD Cert.AdamSsdConvWRefIdeal.τ).loc Cert.AdamSsdConvWRefIdeal.main_arg1)
      ∧ r.2.mem ((c.tc : Thread Cert.AdamSsdConvWRefIdeal.nD Cert.AdamSsdConvWRefIdeal.τ).loc Cert.AdamSsdConvWRefIdeal.main_arg2) = m ((c.tc : Thread Cert.AdamSsdConvWRefIdeal.nD Cert.AdamSsdConvWRefIdeal.τ).loc Cert.AdamSsdConvWRefIdeal.main_arg2)
      ∧ r.2.mem ((c.tc : Thread Cert.AdamSsdConvWRefIdeal.nD Cert.AdamSsdConvWRefIdeal.τ).loc Cert.AdamSsdConvWRefIdeal.main_arg3) = m ((c.tc : Thread Cert.AdamSsdConvWRefIdeal.nD Cert.AdamSsdConvWRefIdeal.τ).loc Cert.AdamSsdConvWRefIdeal.main_arg3))
      ∧ r.2.sem = fun _ => 0)

def quiescent_AdamSsdConvB [hAdamSsdConvB : Cert.AdamSsdConvB.Facts] : Prop :=
  ∀ (m : (ℓ : Loc Cert.AdamSsdConvB.nD Cert.AdamSsdConvB.τ Cert.AdamSsdConvB.sig) → Buf (Elt Bits) ℓ) (g : Dev Cert.AdamSsdConvB.nD → PrngReg), Pre_AdamSsdConvB m →
    θ_run (Cert.AdamSsdConvB.defs (F := Bits)) (onTc (τ := Cert.AdamSsdConvB.τ) (Cert.AdamSsdConvB.main (F := Bits))) ⟨m, fun _ => 0, g⟩ (fun r => (∀ c : Dev Cert.AdamSsdConvB.nD,
      r.2.mem ((c.tc : Thread Cert.AdamSsdConvB.nD Cert.AdamSsdConvB.τ).loc Cert.AdamSsdConvB.main_arg0) = m ((c.tc : Thread Cert.AdamSsdConvB.nD Cert.AdamSsdConvB.τ).loc Cert.AdamSsdConvB.main_arg0)
      ∧ r.2.mem ((c.tc : Thread Cert.AdamSsdConvB.nD Cert.AdamSsdConvB.τ).loc Cert.AdamSsdConvB.main_arg1) = m ((c.tc : Thread Cert.AdamSsdConvB.nD Cert.AdamSsdConvB.τ).loc Cert.AdamSsdConvB.main_arg1)
      ∧ r.2.mem ((c.tc : Thread Cert.AdamSsdConvB.nD Cert.AdamSsdConvB.τ).loc Cert.AdamSsdConvB.main_arg2) = m ((c.tc : Thread Cert.AdamSsdConvB.nD Cert.AdamSsdConvB.τ).loc Cert.AdamSsdConvB.main_arg2)
      ∧ r.2.mem ((c.tc : Thread Cert.AdamSsdConvB.nD Cert.AdamSsdConvB.τ).loc Cert.AdamSsdConvB.main_arg3) = m ((c.tc : Thread Cert.AdamSsdConvB.nD Cert.AdamSsdConvB.τ).loc Cert.AdamSsdConvB.main_arg3))
      ∧ r.2.sem = fun _ => 0)

def quiescent_AdamSsdConvBIdeal [hAdamSsdConvBIdeal : Cert.AdamSsdConvBIdeal.Facts] : Prop :=
  ∀ (m : (ℓ : Loc Cert.AdamSsdConvBIdeal.nD Cert.AdamSsdConvBIdeal.τ Cert.AdamSsdConvBIdeal.sig) → Buf (Elt Ideal) ℓ) (g : Dev Cert.AdamSsdConvBIdeal.nD → PrngReg), Pre_AdamSsdConvBIdeal m →
    θ_run (Cert.AdamSsdConvBIdeal.defs (F := Ideal)) (onTc (τ := Cert.AdamSsdConvBIdeal.τ) (Cert.AdamSsdConvBIdeal.main (F := Ideal))) ⟨m, fun _ => 0, g⟩ (fun r => (∀ c : Dev Cert.AdamSsdConvBIdeal.nD,
      r.2.mem ((c.tc : Thread Cert.AdamSsdConvBIdeal.nD Cert.AdamSsdConvBIdeal.τ).loc Cert.AdamSsdConvBIdeal.main_arg0) = m ((c.tc : Thread Cert.AdamSsdConvBIdeal.nD Cert.AdamSsdConvBIdeal.τ).loc Cert.AdamSsdConvBIdeal.main_arg0)
      ∧ r.2.mem ((c.tc : Thread Cert.AdamSsdConvBIdeal.nD Cert.AdamSsdConvBIdeal.τ).loc Cert.AdamSsdConvBIdeal.main_arg1) = m ((c.tc : Thread Cert.AdamSsdConvBIdeal.nD Cert.AdamSsdConvBIdeal.τ).loc Cert.AdamSsdConvBIdeal.main_arg1)
      ∧ r.2.mem ((c.tc : Thread Cert.AdamSsdConvBIdeal.nD Cert.AdamSsdConvBIdeal.τ).loc Cert.AdamSsdConvBIdeal.main_arg2) = m ((c.tc : Thread Cert.AdamSsdConvBIdeal.nD Cert.AdamSsdConvBIdeal.τ).loc Cert.AdamSsdConvBIdeal.main_arg2)
      ∧ r.2.mem ((c.tc : Thread Cert.AdamSsdConvBIdeal.nD Cert.AdamSsdConvBIdeal.τ).loc Cert.AdamSsdConvBIdeal.main_arg3) = m ((c.tc : Thread Cert.AdamSsdConvBIdeal.nD Cert.AdamSsdConvBIdeal.τ).loc Cert.AdamSsdConvBIdeal.main_arg3))
      ∧ r.2.sem = fun _ => 0)

def quiescent_AdamSsdConvBRefIdeal [hAdamSsdConvBRefIdeal : Cert.AdamSsdConvBRefIdeal.Facts] : Prop :=
  ∀ (m : (ℓ : Loc Cert.AdamSsdConvBRefIdeal.nD Cert.AdamSsdConvBRefIdeal.τ Cert.AdamSsdConvBRefIdeal.sig) → Buf (Elt Ideal) ℓ) (g : Dev Cert.AdamSsdConvBRefIdeal.nD → PrngReg), Pre_AdamSsdConvBRefIdeal m →
    θ_run (Cert.AdamSsdConvBRefIdeal.defs (F := Ideal)) (onTc (τ := Cert.AdamSsdConvBRefIdeal.τ) (Cert.AdamSsdConvBRefIdeal.main (F := Ideal))) ⟨m, fun _ => 0, g⟩ (fun r => (∀ c : Dev Cert.AdamSsdConvBRefIdeal.nD,
      r.2.mem ((c.tc : Thread Cert.AdamSsdConvBRefIdeal.nD Cert.AdamSsdConvBRefIdeal.τ).loc Cert.AdamSsdConvBRefIdeal.main_arg0) = m ((c.tc : Thread Cert.AdamSsdConvBRefIdeal.nD Cert.AdamSsdConvBRefIdeal.τ).loc Cert.AdamSsdConvBRefIdeal.main_arg0)
      ∧ r.2.mem ((c.tc : Thread Cert.AdamSsdConvBRefIdeal.nD Cert.AdamSsdConvBRefIdeal.τ).loc Cert.AdamSsdConvBRefIdeal.main_arg1) = m ((c.tc : Thread Cert.AdamSsdConvBRefIdeal.nD Cert.AdamSsdConvBRefIdeal.τ).loc Cert.AdamSsdConvBRefIdeal.main_arg1)
      ∧ r.2.mem ((c.tc : Thread Cert.AdamSsdConvBRefIdeal.nD Cert.AdamSsdConvBRefIdeal.τ).loc Cert.AdamSsdConvBRefIdeal.main_arg2) = m ((c.tc : Thread Cert.AdamSsdConvBRefIdeal.nD Cert.AdamSsdConvBRefIdeal.τ).loc Cert.AdamSsdConvBRefIdeal.main_arg2)
      ∧ r.2.mem ((c.tc : Thread Cert.AdamSsdConvBRefIdeal.nD Cert.AdamSsdConvBRefIdeal.τ).loc Cert.AdamSsdConvBRefIdeal.main_arg3) = m ((c.tc : Thread Cert.AdamSsdConvBRefIdeal.nD Cert.AdamSsdConvBRefIdeal.τ).loc Cert.AdamSsdConvBRefIdeal.main_arg3))
      ∧ r.2.sem = fun _ => 0)

def quiescent_AdamSsdDtBias [hAdamSsdDtBias : Cert.AdamSsdDtBias.Facts] : Prop :=
  ∀ (m : (ℓ : Loc Cert.AdamSsdDtBias.nD Cert.AdamSsdDtBias.τ Cert.AdamSsdDtBias.sig) → Buf (Elt Bits) ℓ) (g : Dev Cert.AdamSsdDtBias.nD → PrngReg), Pre_AdamSsdDtBias m →
    θ_run (Cert.AdamSsdDtBias.defs (F := Bits)) (onTc (τ := Cert.AdamSsdDtBias.τ) (Cert.AdamSsdDtBias.main (F := Bits))) ⟨m, fun _ => 0, g⟩ (fun r => (∀ c : Dev Cert.AdamSsdDtBias.nD,
      r.2.mem ((c.tc : Thread Cert.AdamSsdDtBias.nD Cert.AdamSsdDtBias.τ).loc Cert.AdamSsdDtBias.main_arg0) = m ((c.tc : Thread Cert.AdamSsdDtBias.nD Cert.AdamSsdDtBias.τ).loc Cert.AdamSsdDtBias.main_arg0)
      ∧ r.2.mem ((c.tc : Thread Cert.AdamSsdDtBias.nD Cert.AdamSsdDtBias.τ).loc Cert.AdamSsdDtBias.main_arg1) = m ((c.tc : Thread Cert.AdamSsdDtBias.nD Cert.AdamSsdDtBias.τ).loc Cert.AdamSsdDtBias.main_arg1)
      ∧ r.2.mem ((c.tc : Thread Cert.AdamSsdDtBias.nD Cert.AdamSsdDtBias.τ).loc Cert.AdamSsdDtBias.main_arg2) = m ((c.tc : Thread Cert.AdamSsdDtBias.nD Cert.AdamSsdDtBias.τ).loc Cert.AdamSsdDtBias.main_arg2)
      ∧ r.2.mem ((c.tc : Thread Cert.AdamSsdDtBias.nD Cert.AdamSsdDtBias.τ).loc Cert.AdamSsdDtBias.main_arg3) = m ((c.tc : Thread Cert.AdamSsdDtBias.nD Cert.AdamSsdDtBias.τ).loc Cert.AdamSsdDtBias.main_arg3))
      ∧ r.2.sem = fun _ => 0)

def quiescent_AdamSsdDtBiasIdeal [hAdamSsdDtBiasIdeal : Cert.AdamSsdDtBiasIdeal.Facts] : Prop :=
  ∀ (m : (ℓ : Loc Cert.AdamSsdDtBiasIdeal.nD Cert.AdamSsdDtBiasIdeal.τ Cert.AdamSsdDtBiasIdeal.sig) → Buf (Elt Ideal) ℓ) (g : Dev Cert.AdamSsdDtBiasIdeal.nD → PrngReg), Pre_AdamSsdDtBiasIdeal m →
    θ_run (Cert.AdamSsdDtBiasIdeal.defs (F := Ideal)) (onTc (τ := Cert.AdamSsdDtBiasIdeal.τ) (Cert.AdamSsdDtBiasIdeal.main (F := Ideal))) ⟨m, fun _ => 0, g⟩ (fun r => (∀ c : Dev Cert.AdamSsdDtBiasIdeal.nD,
      r.2.mem ((c.tc : Thread Cert.AdamSsdDtBiasIdeal.nD Cert.AdamSsdDtBiasIdeal.τ).loc Cert.AdamSsdDtBiasIdeal.main_arg0) = m ((c.tc : Thread Cert.AdamSsdDtBiasIdeal.nD Cert.AdamSsdDtBiasIdeal.τ).loc Cert.AdamSsdDtBiasIdeal.main_arg0)
      ∧ r.2.mem ((c.tc : Thread Cert.AdamSsdDtBiasIdeal.nD Cert.AdamSsdDtBiasIdeal.τ).loc Cert.AdamSsdDtBiasIdeal.main_arg1) = m ((c.tc : Thread Cert.AdamSsdDtBiasIdeal.nD Cert.AdamSsdDtBiasIdeal.τ).loc Cert.AdamSsdDtBiasIdeal.main_arg1)
      ∧ r.2.mem ((c.tc : Thread Cert.AdamSsdDtBiasIdeal.nD Cert.AdamSsdDtBiasIdeal.τ).loc Cert.AdamSsdDtBiasIdeal.main_arg2) = m ((c.tc : Thread Cert.AdamSsdDtBiasIdeal.nD Cert.AdamSsdDtBiasIdeal.τ).loc Cert.AdamSsdDtBiasIdeal.main_arg2)
      ∧ r.2.mem ((c.tc : Thread Cert.AdamSsdDtBiasIdeal.nD Cert.AdamSsdDtBiasIdeal.τ).loc Cert.AdamSsdDtBiasIdeal.main_arg3) = m ((c.tc : Thread Cert.AdamSsdDtBiasIdeal.nD Cert.AdamSsdDtBiasIdeal.τ).loc Cert.AdamSsdDtBiasIdeal.main_arg3))
      ∧ r.2.sem = fun _ => 0)

def quiescent_AdamSsdDtBiasRefIdeal [hAdamSsdDtBiasRefIdeal : Cert.AdamSsdDtBiasRefIdeal.Facts] : Prop :=
  ∀ (m : (ℓ : Loc Cert.AdamSsdDtBiasRefIdeal.nD Cert.AdamSsdDtBiasRefIdeal.τ Cert.AdamSsdDtBiasRefIdeal.sig) → Buf (Elt Ideal) ℓ) (g : Dev Cert.AdamSsdDtBiasRefIdeal.nD → PrngReg), Pre_AdamSsdDtBiasRefIdeal m →
    θ_run (Cert.AdamSsdDtBiasRefIdeal.defs (F := Ideal)) (onTc (τ := Cert.AdamSsdDtBiasRefIdeal.τ) (Cert.AdamSsdDtBiasRefIdeal.main (F := Ideal))) ⟨m, fun _ => 0, g⟩ (fun r => (∀ c : Dev Cert.AdamSsdDtBiasRefIdeal.nD,
      r.2.mem ((c.tc : Thread Cert.AdamSsdDtBiasRefIdeal.nD Cert.AdamSsdDtBiasRefIdeal.τ).loc Cert.AdamSsdDtBiasRefIdeal.main_arg0) = m ((c.tc : Thread Cert.AdamSsdDtBiasRefIdeal.nD Cert.AdamSsdDtBiasRefIdeal.τ).loc Cert.AdamSsdDtBiasRefIdeal.main_arg0)
      ∧ r.2.mem ((c.tc : Thread Cert.AdamSsdDtBiasRefIdeal.nD Cert.AdamSsdDtBiasRefIdeal.τ).loc Cert.AdamSsdDtBiasRefIdeal.main_arg1) = m ((c.tc : Thread Cert.AdamSsdDtBiasRefIdeal.nD Cert.AdamSsdDtBiasRefIdeal.τ).loc Cert.AdamSsdDtBiasRefIdeal.main_arg1)
      ∧ r.2.mem ((c.tc : Thread Cert.AdamSsdDtBiasRefIdeal.nD Cert.AdamSsdDtBiasRefIdeal.τ).loc Cert.AdamSsdDtBiasRefIdeal.main_arg2) = m ((c.tc : Thread Cert.AdamSsdDtBiasRefIdeal.nD Cert.AdamSsdDtBiasRefIdeal.τ).loc Cert.AdamSsdDtBiasRefIdeal.main_arg2)
      ∧ r.2.mem ((c.tc : Thread Cert.AdamSsdDtBiasRefIdeal.nD Cert.AdamSsdDtBiasRefIdeal.τ).loc Cert.AdamSsdDtBiasRefIdeal.main_arg3) = m ((c.tc : Thread Cert.AdamSsdDtBiasRefIdeal.nD Cert.AdamSsdDtBiasRefIdeal.τ).loc Cert.AdamSsdDtBiasRefIdeal.main_arg3))
      ∧ r.2.sem = fun _ => 0)

def quiescent_AdamSsdALog [hAdamSsdALog : Cert.AdamSsdALog.Facts] : Prop :=
  ∀ (m : (ℓ : Loc Cert.AdamSsdALog.nD Cert.AdamSsdALog.τ Cert.AdamSsdALog.sig) → Buf (Elt Bits) ℓ) (g : Dev Cert.AdamSsdALog.nD → PrngReg), Pre_AdamSsdALog m →
    θ_run (Cert.AdamSsdALog.defs (F := Bits)) (onTc (τ := Cert.AdamSsdALog.τ) (Cert.AdamSsdALog.main (F := Bits))) ⟨m, fun _ => 0, g⟩ (fun r => (∀ c : Dev Cert.AdamSsdALog.nD,
      r.2.mem ((c.tc : Thread Cert.AdamSsdALog.nD Cert.AdamSsdALog.τ).loc Cert.AdamSsdALog.main_arg0) = m ((c.tc : Thread Cert.AdamSsdALog.nD Cert.AdamSsdALog.τ).loc Cert.AdamSsdALog.main_arg0)
      ∧ r.2.mem ((c.tc : Thread Cert.AdamSsdALog.nD Cert.AdamSsdALog.τ).loc Cert.AdamSsdALog.main_arg1) = m ((c.tc : Thread Cert.AdamSsdALog.nD Cert.AdamSsdALog.τ).loc Cert.AdamSsdALog.main_arg1)
      ∧ r.2.mem ((c.tc : Thread Cert.AdamSsdALog.nD Cert.AdamSsdALog.τ).loc Cert.AdamSsdALog.main_arg2) = m ((c.tc : Thread Cert.AdamSsdALog.nD Cert.AdamSsdALog.τ).loc Cert.AdamSsdALog.main_arg2)
      ∧ r.2.mem ((c.tc : Thread Cert.AdamSsdALog.nD Cert.AdamSsdALog.τ).loc Cert.AdamSsdALog.main_arg3) = m ((c.tc : Thread Cert.AdamSsdALog.nD Cert.AdamSsdALog.τ).loc Cert.AdamSsdALog.main_arg3))
      ∧ r.2.sem = fun _ => 0)

def quiescent_AdamSsdALogIdeal [hAdamSsdALogIdeal : Cert.AdamSsdALogIdeal.Facts] : Prop :=
  ∀ (m : (ℓ : Loc Cert.AdamSsdALogIdeal.nD Cert.AdamSsdALogIdeal.τ Cert.AdamSsdALogIdeal.sig) → Buf (Elt Ideal) ℓ) (g : Dev Cert.AdamSsdALogIdeal.nD → PrngReg), Pre_AdamSsdALogIdeal m →
    θ_run (Cert.AdamSsdALogIdeal.defs (F := Ideal)) (onTc (τ := Cert.AdamSsdALogIdeal.τ) (Cert.AdamSsdALogIdeal.main (F := Ideal))) ⟨m, fun _ => 0, g⟩ (fun r => (∀ c : Dev Cert.AdamSsdALogIdeal.nD,
      r.2.mem ((c.tc : Thread Cert.AdamSsdALogIdeal.nD Cert.AdamSsdALogIdeal.τ).loc Cert.AdamSsdALogIdeal.main_arg0) = m ((c.tc : Thread Cert.AdamSsdALogIdeal.nD Cert.AdamSsdALogIdeal.τ).loc Cert.AdamSsdALogIdeal.main_arg0)
      ∧ r.2.mem ((c.tc : Thread Cert.AdamSsdALogIdeal.nD Cert.AdamSsdALogIdeal.τ).loc Cert.AdamSsdALogIdeal.main_arg1) = m ((c.tc : Thread Cert.AdamSsdALogIdeal.nD Cert.AdamSsdALogIdeal.τ).loc Cert.AdamSsdALogIdeal.main_arg1)
      ∧ r.2.mem ((c.tc : Thread Cert.AdamSsdALogIdeal.nD Cert.AdamSsdALogIdeal.τ).loc Cert.AdamSsdALogIdeal.main_arg2) = m ((c.tc : Thread Cert.AdamSsdALogIdeal.nD Cert.AdamSsdALogIdeal.τ).loc Cert.AdamSsdALogIdeal.main_arg2)
      ∧ r.2.mem ((c.tc : Thread Cert.AdamSsdALogIdeal.nD Cert.AdamSsdALogIdeal.τ).loc Cert.AdamSsdALogIdeal.main_arg3) = m ((c.tc : Thread Cert.AdamSsdALogIdeal.nD Cert.AdamSsdALogIdeal.τ).loc Cert.AdamSsdALogIdeal.main_arg3))
      ∧ r.2.sem = fun _ => 0)

def quiescent_AdamSsdALogRefIdeal [hAdamSsdALogRefIdeal : Cert.AdamSsdALogRefIdeal.Facts] : Prop :=
  ∀ (m : (ℓ : Loc Cert.AdamSsdALogRefIdeal.nD Cert.AdamSsdALogRefIdeal.τ Cert.AdamSsdALogRefIdeal.sig) → Buf (Elt Ideal) ℓ) (g : Dev Cert.AdamSsdALogRefIdeal.nD → PrngReg), Pre_AdamSsdALogRefIdeal m →
    θ_run (Cert.AdamSsdALogRefIdeal.defs (F := Ideal)) (onTc (τ := Cert.AdamSsdALogRefIdeal.τ) (Cert.AdamSsdALogRefIdeal.main (F := Ideal))) ⟨m, fun _ => 0, g⟩ (fun r => (∀ c : Dev Cert.AdamSsdALogRefIdeal.nD,
      r.2.mem ((c.tc : Thread Cert.AdamSsdALogRefIdeal.nD Cert.AdamSsdALogRefIdeal.τ).loc Cert.AdamSsdALogRefIdeal.main_arg0) = m ((c.tc : Thread Cert.AdamSsdALogRefIdeal.nD Cert.AdamSsdALogRefIdeal.τ).loc Cert.AdamSsdALogRefIdeal.main_arg0)
      ∧ r.2.mem ((c.tc : Thread Cert.AdamSsdALogRefIdeal.nD Cert.AdamSsdALogRefIdeal.τ).loc Cert.AdamSsdALogRefIdeal.main_arg1) = m ((c.tc : Thread Cert.AdamSsdALogRefIdeal.nD Cert.AdamSsdALogRefIdeal.τ).loc Cert.AdamSsdALogRefIdeal.main_arg1)
      ∧ r.2.mem ((c.tc : Thread Cert.AdamSsdALogRefIdeal.nD Cert.AdamSsdALogRefIdeal.τ).loc Cert.AdamSsdALogRefIdeal.main_arg2) = m ((c.tc : Thread Cert.AdamSsdALogRefIdeal.nD Cert.AdamSsdALogRefIdeal.τ).loc Cert.AdamSsdALogRefIdeal.main_arg2)
      ∧ r.2.mem ((c.tc : Thread Cert.AdamSsdALogRefIdeal.nD Cert.AdamSsdALogRefIdeal.τ).loc Cert.AdamSsdALogRefIdeal.main_arg3) = m ((c.tc : Thread Cert.AdamSsdALogRefIdeal.nD Cert.AdamSsdALogRefIdeal.τ).loc Cert.AdamSsdALogRefIdeal.main_arg3))
      ∧ r.2.sem = fun _ => 0)

def quiescent_AdamSsdD [hAdamSsdD : Cert.AdamSsdD.Facts] : Prop :=
  ∀ (m : (ℓ : Loc Cert.AdamSsdD.nD Cert.AdamSsdD.τ Cert.AdamSsdD.sig) → Buf (Elt Bits) ℓ) (g : Dev Cert.AdamSsdD.nD → PrngReg), Pre_AdamSsdD m →
    θ_run (Cert.AdamSsdD.defs (F := Bits)) (onTc (τ := Cert.AdamSsdD.τ) (Cert.AdamSsdD.main (F := Bits))) ⟨m, fun _ => 0, g⟩ (fun r => (∀ c : Dev Cert.AdamSsdD.nD,
      r.2.mem ((c.tc : Thread Cert.AdamSsdD.nD Cert.AdamSsdD.τ).loc Cert.AdamSsdD.main_arg0) = m ((c.tc : Thread Cert.AdamSsdD.nD Cert.AdamSsdD.τ).loc Cert.AdamSsdD.main_arg0)
      ∧ r.2.mem ((c.tc : Thread Cert.AdamSsdD.nD Cert.AdamSsdD.τ).loc Cert.AdamSsdD.main_arg1) = m ((c.tc : Thread Cert.AdamSsdD.nD Cert.AdamSsdD.τ).loc Cert.AdamSsdD.main_arg1)
      ∧ r.2.mem ((c.tc : Thread Cert.AdamSsdD.nD Cert.AdamSsdD.τ).loc Cert.AdamSsdD.main_arg2) = m ((c.tc : Thread Cert.AdamSsdD.nD Cert.AdamSsdD.τ).loc Cert.AdamSsdD.main_arg2)
      ∧ r.2.mem ((c.tc : Thread Cert.AdamSsdD.nD Cert.AdamSsdD.τ).loc Cert.AdamSsdD.main_arg3) = m ((c.tc : Thread Cert.AdamSsdD.nD Cert.AdamSsdD.τ).loc Cert.AdamSsdD.main_arg3))
      ∧ r.2.sem = fun _ => 0)

def quiescent_AdamSsdDIdeal [hAdamSsdDIdeal : Cert.AdamSsdDIdeal.Facts] : Prop :=
  ∀ (m : (ℓ : Loc Cert.AdamSsdDIdeal.nD Cert.AdamSsdDIdeal.τ Cert.AdamSsdDIdeal.sig) → Buf (Elt Ideal) ℓ) (g : Dev Cert.AdamSsdDIdeal.nD → PrngReg), Pre_AdamSsdDIdeal m →
    θ_run (Cert.AdamSsdDIdeal.defs (F := Ideal)) (onTc (τ := Cert.AdamSsdDIdeal.τ) (Cert.AdamSsdDIdeal.main (F := Ideal))) ⟨m, fun _ => 0, g⟩ (fun r => (∀ c : Dev Cert.AdamSsdDIdeal.nD,
      r.2.mem ((c.tc : Thread Cert.AdamSsdDIdeal.nD Cert.AdamSsdDIdeal.τ).loc Cert.AdamSsdDIdeal.main_arg0) = m ((c.tc : Thread Cert.AdamSsdDIdeal.nD Cert.AdamSsdDIdeal.τ).loc Cert.AdamSsdDIdeal.main_arg0)
      ∧ r.2.mem ((c.tc : Thread Cert.AdamSsdDIdeal.nD Cert.AdamSsdDIdeal.τ).loc Cert.AdamSsdDIdeal.main_arg1) = m ((c.tc : Thread Cert.AdamSsdDIdeal.nD Cert.AdamSsdDIdeal.τ).loc Cert.AdamSsdDIdeal.main_arg1)
      ∧ r.2.mem ((c.tc : Thread Cert.AdamSsdDIdeal.nD Cert.AdamSsdDIdeal.τ).loc Cert.AdamSsdDIdeal.main_arg2) = m ((c.tc : Thread Cert.AdamSsdDIdeal.nD Cert.AdamSsdDIdeal.τ).loc Cert.AdamSsdDIdeal.main_arg2)
      ∧ r.2.mem ((c.tc : Thread Cert.AdamSsdDIdeal.nD Cert.AdamSsdDIdeal.τ).loc Cert.AdamSsdDIdeal.main_arg3) = m ((c.tc : Thread Cert.AdamSsdDIdeal.nD Cert.AdamSsdDIdeal.τ).loc Cert.AdamSsdDIdeal.main_arg3))
      ∧ r.2.sem = fun _ => 0)

def quiescent_AdamSsdDRefIdeal [hAdamSsdDRefIdeal : Cert.AdamSsdDRefIdeal.Facts] : Prop :=
  ∀ (m : (ℓ : Loc Cert.AdamSsdDRefIdeal.nD Cert.AdamSsdDRefIdeal.τ Cert.AdamSsdDRefIdeal.sig) → Buf (Elt Ideal) ℓ) (g : Dev Cert.AdamSsdDRefIdeal.nD → PrngReg), Pre_AdamSsdDRefIdeal m →
    θ_run (Cert.AdamSsdDRefIdeal.defs (F := Ideal)) (onTc (τ := Cert.AdamSsdDRefIdeal.τ) (Cert.AdamSsdDRefIdeal.main (F := Ideal))) ⟨m, fun _ => 0, g⟩ (fun r => (∀ c : Dev Cert.AdamSsdDRefIdeal.nD,
      r.2.mem ((c.tc : Thread Cert.AdamSsdDRefIdeal.nD Cert.AdamSsdDRefIdeal.τ).loc Cert.AdamSsdDRefIdeal.main_arg0) = m ((c.tc : Thread Cert.AdamSsdDRefIdeal.nD Cert.AdamSsdDRefIdeal.τ).loc Cert.AdamSsdDRefIdeal.main_arg0)
      ∧ r.2.mem ((c.tc : Thread Cert.AdamSsdDRefIdeal.nD Cert.AdamSsdDRefIdeal.τ).loc Cert.AdamSsdDRefIdeal.main_arg1) = m ((c.tc : Thread Cert.AdamSsdDRefIdeal.nD Cert.AdamSsdDRefIdeal.τ).loc Cert.AdamSsdDRefIdeal.main_arg1)
      ∧ r.2.mem ((c.tc : Thread Cert.AdamSsdDRefIdeal.nD Cert.AdamSsdDRefIdeal.τ).loc Cert.AdamSsdDRefIdeal.main_arg2) = m ((c.tc : Thread Cert.AdamSsdDRefIdeal.nD Cert.AdamSsdDRefIdeal.τ).loc Cert.AdamSsdDRefIdeal.main_arg2)
      ∧ r.2.mem ((c.tc : Thread Cert.AdamSsdDRefIdeal.nD Cert.AdamSsdDRefIdeal.τ).loc Cert.AdamSsdDRefIdeal.main_arg3) = m ((c.tc : Thread Cert.AdamSsdDRefIdeal.nD Cert.AdamSsdDRefIdeal.τ).loc Cert.AdamSsdDRefIdeal.main_arg3))
      ∧ r.2.sem = fun _ => 0)

def quiescent_AdamSsdNorm [hAdamSsdNorm : Cert.AdamSsdNorm.Facts] : Prop :=
  ∀ (m : (ℓ : Loc Cert.AdamSsdNorm.nD Cert.AdamSsdNorm.τ Cert.AdamSsdNorm.sig) → Buf (Elt Bits) ℓ) (g : Dev Cert.AdamSsdNorm.nD → PrngReg), Pre_AdamSsdNorm m →
    θ_run (Cert.AdamSsdNorm.defs (F := Bits)) (onTc (τ := Cert.AdamSsdNorm.τ) (Cert.AdamSsdNorm.main (F := Bits))) ⟨m, fun _ => 0, g⟩ (fun r => (∀ c : Dev Cert.AdamSsdNorm.nD,
      r.2.mem ((c.tc : Thread Cert.AdamSsdNorm.nD Cert.AdamSsdNorm.τ).loc Cert.AdamSsdNorm.main_arg0) = m ((c.tc : Thread Cert.AdamSsdNorm.nD Cert.AdamSsdNorm.τ).loc Cert.AdamSsdNorm.main_arg0)
      ∧ r.2.mem ((c.tc : Thread Cert.AdamSsdNorm.nD Cert.AdamSsdNorm.τ).loc Cert.AdamSsdNorm.main_arg1) = m ((c.tc : Thread Cert.AdamSsdNorm.nD Cert.AdamSsdNorm.τ).loc Cert.AdamSsdNorm.main_arg1)
      ∧ r.2.mem ((c.tc : Thread Cert.AdamSsdNorm.nD Cert.AdamSsdNorm.τ).loc Cert.AdamSsdNorm.main_arg2) = m ((c.tc : Thread Cert.AdamSsdNorm.nD Cert.AdamSsdNorm.τ).loc Cert.AdamSsdNorm.main_arg2)
      ∧ r.2.mem ((c.tc : Thread Cert.AdamSsdNorm.nD Cert.AdamSsdNorm.τ).loc Cert.AdamSsdNorm.main_arg3) = m ((c.tc : Thread Cert.AdamSsdNorm.nD Cert.AdamSsdNorm.τ).loc Cert.AdamSsdNorm.main_arg3))
      ∧ r.2.sem = fun _ => 0)

def quiescent_AdamSsdNormIdeal [hAdamSsdNormIdeal : Cert.AdamSsdNormIdeal.Facts] : Prop :=
  ∀ (m : (ℓ : Loc Cert.AdamSsdNormIdeal.nD Cert.AdamSsdNormIdeal.τ Cert.AdamSsdNormIdeal.sig) → Buf (Elt Ideal) ℓ) (g : Dev Cert.AdamSsdNormIdeal.nD → PrngReg), Pre_AdamSsdNormIdeal m →
    θ_run (Cert.AdamSsdNormIdeal.defs (F := Ideal)) (onTc (τ := Cert.AdamSsdNormIdeal.τ) (Cert.AdamSsdNormIdeal.main (F := Ideal))) ⟨m, fun _ => 0, g⟩ (fun r => (∀ c : Dev Cert.AdamSsdNormIdeal.nD,
      r.2.mem ((c.tc : Thread Cert.AdamSsdNormIdeal.nD Cert.AdamSsdNormIdeal.τ).loc Cert.AdamSsdNormIdeal.main_arg0) = m ((c.tc : Thread Cert.AdamSsdNormIdeal.nD Cert.AdamSsdNormIdeal.τ).loc Cert.AdamSsdNormIdeal.main_arg0)
      ∧ r.2.mem ((c.tc : Thread Cert.AdamSsdNormIdeal.nD Cert.AdamSsdNormIdeal.τ).loc Cert.AdamSsdNormIdeal.main_arg1) = m ((c.tc : Thread Cert.AdamSsdNormIdeal.nD Cert.AdamSsdNormIdeal.τ).loc Cert.AdamSsdNormIdeal.main_arg1)
      ∧ r.2.mem ((c.tc : Thread Cert.AdamSsdNormIdeal.nD Cert.AdamSsdNormIdeal.τ).loc Cert.AdamSsdNormIdeal.main_arg2) = m ((c.tc : Thread Cert.AdamSsdNormIdeal.nD Cert.AdamSsdNormIdeal.τ).loc Cert.AdamSsdNormIdeal.main_arg2)
      ∧ r.2.mem ((c.tc : Thread Cert.AdamSsdNormIdeal.nD Cert.AdamSsdNormIdeal.τ).loc Cert.AdamSsdNormIdeal.main_arg3) = m ((c.tc : Thread Cert.AdamSsdNormIdeal.nD Cert.AdamSsdNormIdeal.τ).loc Cert.AdamSsdNormIdeal.main_arg3))
      ∧ r.2.sem = fun _ => 0)

def quiescent_AdamSsdNormRefIdeal [hAdamSsdNormRefIdeal : Cert.AdamSsdNormRefIdeal.Facts] : Prop :=
  ∀ (m : (ℓ : Loc Cert.AdamSsdNormRefIdeal.nD Cert.AdamSsdNormRefIdeal.τ Cert.AdamSsdNormRefIdeal.sig) → Buf (Elt Ideal) ℓ) (g : Dev Cert.AdamSsdNormRefIdeal.nD → PrngReg), Pre_AdamSsdNormRefIdeal m →
    θ_run (Cert.AdamSsdNormRefIdeal.defs (F := Ideal)) (onTc (τ := Cert.AdamSsdNormRefIdeal.τ) (Cert.AdamSsdNormRefIdeal.main (F := Ideal))) ⟨m, fun _ => 0, g⟩ (fun r => (∀ c : Dev Cert.AdamSsdNormRefIdeal.nD,
      r.2.mem ((c.tc : Thread Cert.AdamSsdNormRefIdeal.nD Cert.AdamSsdNormRefIdeal.τ).loc Cert.AdamSsdNormRefIdeal.main_arg0) = m ((c.tc : Thread Cert.AdamSsdNormRefIdeal.nD Cert.AdamSsdNormRefIdeal.τ).loc Cert.AdamSsdNormRefIdeal.main_arg0)
      ∧ r.2.mem ((c.tc : Thread Cert.AdamSsdNormRefIdeal.nD Cert.AdamSsdNormRefIdeal.τ).loc Cert.AdamSsdNormRefIdeal.main_arg1) = m ((c.tc : Thread Cert.AdamSsdNormRefIdeal.nD Cert.AdamSsdNormRefIdeal.τ).loc Cert.AdamSsdNormRefIdeal.main_arg1)
      ∧ r.2.mem ((c.tc : Thread Cert.AdamSsdNormRefIdeal.nD Cert.AdamSsdNormRefIdeal.τ).loc Cert.AdamSsdNormRefIdeal.main_arg2) = m ((c.tc : Thread Cert.AdamSsdNormRefIdeal.nD Cert.AdamSsdNormRefIdeal.τ).loc Cert.AdamSsdNormRefIdeal.main_arg2)
      ∧ r.2.mem ((c.tc : Thread Cert.AdamSsdNormRefIdeal.nD Cert.AdamSsdNormRefIdeal.τ).loc Cert.AdamSsdNormRefIdeal.main_arg3) = m ((c.tc : Thread Cert.AdamSsdNormRefIdeal.nD Cert.AdamSsdNormRefIdeal.τ).loc Cert.AdamSsdNormRefIdeal.main_arg3))
      ∧ r.2.sem = fun _ => 0)

def quiescent_AdamLruConvW [hAdamLruConvW : Cert.AdamLruConvW.Facts] : Prop :=
  ∀ (m : (ℓ : Loc Cert.AdamLruConvW.nD Cert.AdamLruConvW.τ Cert.AdamLruConvW.sig) → Buf (Elt Bits) ℓ) (g : Dev Cert.AdamLruConvW.nD → PrngReg), Pre_AdamLruConvW m →
    θ_run (Cert.AdamLruConvW.defs (F := Bits)) (onTc (τ := Cert.AdamLruConvW.τ) (Cert.AdamLruConvW.main (F := Bits))) ⟨m, fun _ => 0, g⟩ (fun r => (∀ c : Dev Cert.AdamLruConvW.nD,
      r.2.mem ((c.tc : Thread Cert.AdamLruConvW.nD Cert.AdamLruConvW.τ).loc Cert.AdamLruConvW.main_arg0) = m ((c.tc : Thread Cert.AdamLruConvW.nD Cert.AdamLruConvW.τ).loc Cert.AdamLruConvW.main_arg0)
      ∧ r.2.mem ((c.tc : Thread Cert.AdamLruConvW.nD Cert.AdamLruConvW.τ).loc Cert.AdamLruConvW.main_arg1) = m ((c.tc : Thread Cert.AdamLruConvW.nD Cert.AdamLruConvW.τ).loc Cert.AdamLruConvW.main_arg1)
      ∧ r.2.mem ((c.tc : Thread Cert.AdamLruConvW.nD Cert.AdamLruConvW.τ).loc Cert.AdamLruConvW.main_arg2) = m ((c.tc : Thread Cert.AdamLruConvW.nD Cert.AdamLruConvW.τ).loc Cert.AdamLruConvW.main_arg2)
      ∧ r.2.mem ((c.tc : Thread Cert.AdamLruConvW.nD Cert.AdamLruConvW.τ).loc Cert.AdamLruConvW.main_arg3) = m ((c.tc : Thread Cert.AdamLruConvW.nD Cert.AdamLruConvW.τ).loc Cert.AdamLruConvW.main_arg3))
      ∧ r.2.sem = fun _ => 0)

def quiescent_AdamLruConvWIdeal [hAdamLruConvWIdeal : Cert.AdamLruConvWIdeal.Facts] : Prop :=
  ∀ (m : (ℓ : Loc Cert.AdamLruConvWIdeal.nD Cert.AdamLruConvWIdeal.τ Cert.AdamLruConvWIdeal.sig) → Buf (Elt Ideal) ℓ) (g : Dev Cert.AdamLruConvWIdeal.nD → PrngReg), Pre_AdamLruConvWIdeal m →
    θ_run (Cert.AdamLruConvWIdeal.defs (F := Ideal)) (onTc (τ := Cert.AdamLruConvWIdeal.τ) (Cert.AdamLruConvWIdeal.main (F := Ideal))) ⟨m, fun _ => 0, g⟩ (fun r => (∀ c : Dev Cert.AdamLruConvWIdeal.nD,
      r.2.mem ((c.tc : Thread Cert.AdamLruConvWIdeal.nD Cert.AdamLruConvWIdeal.τ).loc Cert.AdamLruConvWIdeal.main_arg0) = m ((c.tc : Thread Cert.AdamLruConvWIdeal.nD Cert.AdamLruConvWIdeal.τ).loc Cert.AdamLruConvWIdeal.main_arg0)
      ∧ r.2.mem ((c.tc : Thread Cert.AdamLruConvWIdeal.nD Cert.AdamLruConvWIdeal.τ).loc Cert.AdamLruConvWIdeal.main_arg1) = m ((c.tc : Thread Cert.AdamLruConvWIdeal.nD Cert.AdamLruConvWIdeal.τ).loc Cert.AdamLruConvWIdeal.main_arg1)
      ∧ r.2.mem ((c.tc : Thread Cert.AdamLruConvWIdeal.nD Cert.AdamLruConvWIdeal.τ).loc Cert.AdamLruConvWIdeal.main_arg2) = m ((c.tc : Thread Cert.AdamLruConvWIdeal.nD Cert.AdamLruConvWIdeal.τ).loc Cert.AdamLruConvWIdeal.main_arg2)
      ∧ r.2.mem ((c.tc : Thread Cert.AdamLruConvWIdeal.nD Cert.AdamLruConvWIdeal.τ).loc Cert.AdamLruConvWIdeal.main_arg3) = m ((c.tc : Thread Cert.AdamLruConvWIdeal.nD Cert.AdamLruConvWIdeal.τ).loc Cert.AdamLruConvWIdeal.main_arg3))
      ∧ r.2.sem = fun _ => 0)

def quiescent_AdamLruConvWRefIdeal [hAdamLruConvWRefIdeal : Cert.AdamLruConvWRefIdeal.Facts] : Prop :=
  ∀ (m : (ℓ : Loc Cert.AdamLruConvWRefIdeal.nD Cert.AdamLruConvWRefIdeal.τ Cert.AdamLruConvWRefIdeal.sig) → Buf (Elt Ideal) ℓ) (g : Dev Cert.AdamLruConvWRefIdeal.nD → PrngReg), Pre_AdamLruConvWRefIdeal m →
    θ_run (Cert.AdamLruConvWRefIdeal.defs (F := Ideal)) (onTc (τ := Cert.AdamLruConvWRefIdeal.τ) (Cert.AdamLruConvWRefIdeal.main (F := Ideal))) ⟨m, fun _ => 0, g⟩ (fun r => (∀ c : Dev Cert.AdamLruConvWRefIdeal.nD,
      r.2.mem ((c.tc : Thread Cert.AdamLruConvWRefIdeal.nD Cert.AdamLruConvWRefIdeal.τ).loc Cert.AdamLruConvWRefIdeal.main_arg0) = m ((c.tc : Thread Cert.AdamLruConvWRefIdeal.nD Cert.AdamLruConvWRefIdeal.τ).loc Cert.AdamLruConvWRefIdeal.main_arg0)
      ∧ r.2.mem ((c.tc : Thread Cert.AdamLruConvWRefIdeal.nD Cert.AdamLruConvWRefIdeal.τ).loc Cert.AdamLruConvWRefIdeal.main_arg1) = m ((c.tc : Thread Cert.AdamLruConvWRefIdeal.nD Cert.AdamLruConvWRefIdeal.τ).loc Cert.AdamLruConvWRefIdeal.main_arg1)
      ∧ r.2.mem ((c.tc : Thread Cert.AdamLruConvWRefIdeal.nD Cert.AdamLruConvWRefIdeal.τ).loc Cert.AdamLruConvWRefIdeal.main_arg2) = m ((c.tc : Thread Cert.AdamLruConvWRefIdeal.nD Cert.AdamLruConvWRefIdeal.τ).loc Cert.AdamLruConvWRefIdeal.main_arg2)
      ∧ r.2.mem ((c.tc : Thread Cert.AdamLruConvWRefIdeal.nD Cert.AdamLruConvWRefIdeal.τ).loc Cert.AdamLruConvWRefIdeal.main_arg3) = m ((c.tc : Thread Cert.AdamLruConvWRefIdeal.nD Cert.AdamLruConvWRefIdeal.τ).loc Cert.AdamLruConvWRefIdeal.main_arg3))
      ∧ r.2.sem = fun _ => 0)

def quiescent_AdamLruConvB [hAdamLruConvB : Cert.AdamLruConvB.Facts] : Prop :=
  ∀ (m : (ℓ : Loc Cert.AdamLruConvB.nD Cert.AdamLruConvB.τ Cert.AdamLruConvB.sig) → Buf (Elt Bits) ℓ) (g : Dev Cert.AdamLruConvB.nD → PrngReg), Pre_AdamLruConvB m →
    θ_run (Cert.AdamLruConvB.defs (F := Bits)) (onTc (τ := Cert.AdamLruConvB.τ) (Cert.AdamLruConvB.main (F := Bits))) ⟨m, fun _ => 0, g⟩ (fun r => (∀ c : Dev Cert.AdamLruConvB.nD,
      r.2.mem ((c.tc : Thread Cert.AdamLruConvB.nD Cert.AdamLruConvB.τ).loc Cert.AdamLruConvB.main_arg0) = m ((c.tc : Thread Cert.AdamLruConvB.nD Cert.AdamLruConvB.τ).loc Cert.AdamLruConvB.main_arg0)
      ∧ r.2.mem ((c.tc : Thread Cert.AdamLruConvB.nD Cert.AdamLruConvB.τ).loc Cert.AdamLruConvB.main_arg1) = m ((c.tc : Thread Cert.AdamLruConvB.nD Cert.AdamLruConvB.τ).loc Cert.AdamLruConvB.main_arg1)
      ∧ r.2.mem ((c.tc : Thread Cert.AdamLruConvB.nD Cert.AdamLruConvB.τ).loc Cert.AdamLruConvB.main_arg2) = m ((c.tc : Thread Cert.AdamLruConvB.nD Cert.AdamLruConvB.τ).loc Cert.AdamLruConvB.main_arg2)
      ∧ r.2.mem ((c.tc : Thread Cert.AdamLruConvB.nD Cert.AdamLruConvB.τ).loc Cert.AdamLruConvB.main_arg3) = m ((c.tc : Thread Cert.AdamLruConvB.nD Cert.AdamLruConvB.τ).loc Cert.AdamLruConvB.main_arg3))
      ∧ r.2.sem = fun _ => 0)

def quiescent_AdamLruConvBIdeal [hAdamLruConvBIdeal : Cert.AdamLruConvBIdeal.Facts] : Prop :=
  ∀ (m : (ℓ : Loc Cert.AdamLruConvBIdeal.nD Cert.AdamLruConvBIdeal.τ Cert.AdamLruConvBIdeal.sig) → Buf (Elt Ideal) ℓ) (g : Dev Cert.AdamLruConvBIdeal.nD → PrngReg), Pre_AdamLruConvBIdeal m →
    θ_run (Cert.AdamLruConvBIdeal.defs (F := Ideal)) (onTc (τ := Cert.AdamLruConvBIdeal.τ) (Cert.AdamLruConvBIdeal.main (F := Ideal))) ⟨m, fun _ => 0, g⟩ (fun r => (∀ c : Dev Cert.AdamLruConvBIdeal.nD,
      r.2.mem ((c.tc : Thread Cert.AdamLruConvBIdeal.nD Cert.AdamLruConvBIdeal.τ).loc Cert.AdamLruConvBIdeal.main_arg0) = m ((c.tc : Thread Cert.AdamLruConvBIdeal.nD Cert.AdamLruConvBIdeal.τ).loc Cert.AdamLruConvBIdeal.main_arg0)
      ∧ r.2.mem ((c.tc : Thread Cert.AdamLruConvBIdeal.nD Cert.AdamLruConvBIdeal.τ).loc Cert.AdamLruConvBIdeal.main_arg1) = m ((c.tc : Thread Cert.AdamLruConvBIdeal.nD Cert.AdamLruConvBIdeal.τ).loc Cert.AdamLruConvBIdeal.main_arg1)
      ∧ r.2.mem ((c.tc : Thread Cert.AdamLruConvBIdeal.nD Cert.AdamLruConvBIdeal.τ).loc Cert.AdamLruConvBIdeal.main_arg2) = m ((c.tc : Thread Cert.AdamLruConvBIdeal.nD Cert.AdamLruConvBIdeal.τ).loc Cert.AdamLruConvBIdeal.main_arg2)
      ∧ r.2.mem ((c.tc : Thread Cert.AdamLruConvBIdeal.nD Cert.AdamLruConvBIdeal.τ).loc Cert.AdamLruConvBIdeal.main_arg3) = m ((c.tc : Thread Cert.AdamLruConvBIdeal.nD Cert.AdamLruConvBIdeal.τ).loc Cert.AdamLruConvBIdeal.main_arg3))
      ∧ r.2.sem = fun _ => 0)

def quiescent_AdamLruConvBRefIdeal [hAdamLruConvBRefIdeal : Cert.AdamLruConvBRefIdeal.Facts] : Prop :=
  ∀ (m : (ℓ : Loc Cert.AdamLruConvBRefIdeal.nD Cert.AdamLruConvBRefIdeal.τ Cert.AdamLruConvBRefIdeal.sig) → Buf (Elt Ideal) ℓ) (g : Dev Cert.AdamLruConvBRefIdeal.nD → PrngReg), Pre_AdamLruConvBRefIdeal m →
    θ_run (Cert.AdamLruConvBRefIdeal.defs (F := Ideal)) (onTc (τ := Cert.AdamLruConvBRefIdeal.τ) (Cert.AdamLruConvBRefIdeal.main (F := Ideal))) ⟨m, fun _ => 0, g⟩ (fun r => (∀ c : Dev Cert.AdamLruConvBRefIdeal.nD,
      r.2.mem ((c.tc : Thread Cert.AdamLruConvBRefIdeal.nD Cert.AdamLruConvBRefIdeal.τ).loc Cert.AdamLruConvBRefIdeal.main_arg0) = m ((c.tc : Thread Cert.AdamLruConvBRefIdeal.nD Cert.AdamLruConvBRefIdeal.τ).loc Cert.AdamLruConvBRefIdeal.main_arg0)
      ∧ r.2.mem ((c.tc : Thread Cert.AdamLruConvBRefIdeal.nD Cert.AdamLruConvBRefIdeal.τ).loc Cert.AdamLruConvBRefIdeal.main_arg1) = m ((c.tc : Thread Cert.AdamLruConvBRefIdeal.nD Cert.AdamLruConvBRefIdeal.τ).loc Cert.AdamLruConvBRefIdeal.main_arg1)
      ∧ r.2.mem ((c.tc : Thread Cert.AdamLruConvBRefIdeal.nD Cert.AdamLruConvBRefIdeal.τ).loc Cert.AdamLruConvBRefIdeal.main_arg2) = m ((c.tc : Thread Cert.AdamLruConvBRefIdeal.nD Cert.AdamLruConvBRefIdeal.τ).loc Cert.AdamLruConvBRefIdeal.main_arg2)
      ∧ r.2.mem ((c.tc : Thread Cert.AdamLruConvBRefIdeal.nD Cert.AdamLruConvBRefIdeal.τ).loc Cert.AdamLruConvBRefIdeal.main_arg3) = m ((c.tc : Thread Cert.AdamLruConvBRefIdeal.nD Cert.AdamLruConvBRefIdeal.τ).loc Cert.AdamLruConvBRefIdeal.main_arg3))
      ∧ r.2.sem = fun _ => 0)

def quiescent_AdamLruWA [hAdamLruWA : Cert.AdamLruWA.Facts] : Prop :=
  ∀ (m : (ℓ : Loc Cert.AdamLruWA.nD Cert.AdamLruWA.τ Cert.AdamLruWA.sig) → Buf (Elt Bits) ℓ) (g : Dev Cert.AdamLruWA.nD → PrngReg), Pre_AdamLruWA m →
    θ_run (Cert.AdamLruWA.defs (F := Bits)) (onTc (τ := Cert.AdamLruWA.τ) (Cert.AdamLruWA.main (F := Bits))) ⟨m, fun _ => 0, g⟩ (fun r => (∀ c : Dev Cert.AdamLruWA.nD,
      r.2.mem ((c.tc : Thread Cert.AdamLruWA.nD Cert.AdamLruWA.τ).loc Cert.AdamLruWA.main_arg0) = m ((c.tc : Thread Cert.AdamLruWA.nD Cert.AdamLruWA.τ).loc Cert.AdamLruWA.main_arg0)
      ∧ r.2.mem ((c.tc : Thread Cert.AdamLruWA.nD Cert.AdamLruWA.τ).loc Cert.AdamLruWA.main_arg1) = m ((c.tc : Thread Cert.AdamLruWA.nD Cert.AdamLruWA.τ).loc Cert.AdamLruWA.main_arg1)
      ∧ r.2.mem ((c.tc : Thread Cert.AdamLruWA.nD Cert.AdamLruWA.τ).loc Cert.AdamLruWA.main_arg2) = m ((c.tc : Thread Cert.AdamLruWA.nD Cert.AdamLruWA.τ).loc Cert.AdamLruWA.main_arg2)
      ∧ r.2.mem ((c.tc : Thread Cert.AdamLruWA.nD Cert.AdamLruWA.τ).loc Cert.AdamLruWA.main_arg3) = m ((c.tc : Thread Cert.AdamLruWA.nD Cert.AdamLruWA.τ).loc Cert.AdamLruWA.main_arg3))
      ∧ r.2.sem = fun _ => 0)

def quiescent_AdamLruWAIdeal [hAdamLruWAIdeal : Cert.AdamLruWAIdeal.Facts] : Prop :=
  ∀ (m : (ℓ : Loc Cert.AdamLruWAIdeal.nD Cert.AdamLruWAIdeal.τ Cert.AdamLruWAIdeal.sig) → Buf (Elt Ideal) ℓ) (g : Dev Cert.AdamLruWAIdeal.nD → PrngReg), Pre_AdamLruWAIdeal m →
    θ_run (Cert.AdamLruWAIdeal.defs (F := Ideal)) (onTc (τ := Cert.AdamLruWAIdeal.τ) (Cert.AdamLruWAIdeal.main (F := Ideal))) ⟨m, fun _ => 0, g⟩ (fun r => (∀ c : Dev Cert.AdamLruWAIdeal.nD,
      r.2.mem ((c.tc : Thread Cert.AdamLruWAIdeal.nD Cert.AdamLruWAIdeal.τ).loc Cert.AdamLruWAIdeal.main_arg0) = m ((c.tc : Thread Cert.AdamLruWAIdeal.nD Cert.AdamLruWAIdeal.τ).loc Cert.AdamLruWAIdeal.main_arg0)
      ∧ r.2.mem ((c.tc : Thread Cert.AdamLruWAIdeal.nD Cert.AdamLruWAIdeal.τ).loc Cert.AdamLruWAIdeal.main_arg1) = m ((c.tc : Thread Cert.AdamLruWAIdeal.nD Cert.AdamLruWAIdeal.τ).loc Cert.AdamLruWAIdeal.main_arg1)
      ∧ r.2.mem ((c.tc : Thread Cert.AdamLruWAIdeal.nD Cert.AdamLruWAIdeal.τ).loc Cert.AdamLruWAIdeal.main_arg2) = m ((c.tc : Thread Cert.AdamLruWAIdeal.nD Cert.AdamLruWAIdeal.τ).loc Cert.AdamLruWAIdeal.main_arg2)
      ∧ r.2.mem ((c.tc : Thread Cert.AdamLruWAIdeal.nD Cert.AdamLruWAIdeal.τ).loc Cert.AdamLruWAIdeal.main_arg3) = m ((c.tc : Thread Cert.AdamLruWAIdeal.nD Cert.AdamLruWAIdeal.τ).loc Cert.AdamLruWAIdeal.main_arg3))
      ∧ r.2.sem = fun _ => 0)

def quiescent_AdamLruWARefIdeal [hAdamLruWARefIdeal : Cert.AdamLruWARefIdeal.Facts] : Prop :=
  ∀ (m : (ℓ : Loc Cert.AdamLruWARefIdeal.nD Cert.AdamLruWARefIdeal.τ Cert.AdamLruWARefIdeal.sig) → Buf (Elt Ideal) ℓ) (g : Dev Cert.AdamLruWARefIdeal.nD → PrngReg), Pre_AdamLruWARefIdeal m →
    θ_run (Cert.AdamLruWARefIdeal.defs (F := Ideal)) (onTc (τ := Cert.AdamLruWARefIdeal.τ) (Cert.AdamLruWARefIdeal.main (F := Ideal))) ⟨m, fun _ => 0, g⟩ (fun r => (∀ c : Dev Cert.AdamLruWARefIdeal.nD,
      r.2.mem ((c.tc : Thread Cert.AdamLruWARefIdeal.nD Cert.AdamLruWARefIdeal.τ).loc Cert.AdamLruWARefIdeal.main_arg0) = m ((c.tc : Thread Cert.AdamLruWARefIdeal.nD Cert.AdamLruWARefIdeal.τ).loc Cert.AdamLruWARefIdeal.main_arg0)
      ∧ r.2.mem ((c.tc : Thread Cert.AdamLruWARefIdeal.nD Cert.AdamLruWARefIdeal.τ).loc Cert.AdamLruWARefIdeal.main_arg1) = m ((c.tc : Thread Cert.AdamLruWARefIdeal.nD Cert.AdamLruWARefIdeal.τ).loc Cert.AdamLruWARefIdeal.main_arg1)
      ∧ r.2.mem ((c.tc : Thread Cert.AdamLruWARefIdeal.nD Cert.AdamLruWARefIdeal.τ).loc Cert.AdamLruWARefIdeal.main_arg2) = m ((c.tc : Thread Cert.AdamLruWARefIdeal.nD Cert.AdamLruWARefIdeal.τ).loc Cert.AdamLruWARefIdeal.main_arg2)
      ∧ r.2.mem ((c.tc : Thread Cert.AdamLruWARefIdeal.nD Cert.AdamLruWARefIdeal.τ).loc Cert.AdamLruWARefIdeal.main_arg3) = m ((c.tc : Thread Cert.AdamLruWARefIdeal.nD Cert.AdamLruWARefIdeal.τ).loc Cert.AdamLruWARefIdeal.main_arg3))
      ∧ r.2.sem = fun _ => 0)

def quiescent_AdamLruBA [hAdamLruBA : Cert.AdamLruBA.Facts] : Prop :=
  ∀ (m : (ℓ : Loc Cert.AdamLruBA.nD Cert.AdamLruBA.τ Cert.AdamLruBA.sig) → Buf (Elt Bits) ℓ) (g : Dev Cert.AdamLruBA.nD → PrngReg), Pre_AdamLruBA m →
    θ_run (Cert.AdamLruBA.defs (F := Bits)) (onTc (τ := Cert.AdamLruBA.τ) (Cert.AdamLruBA.main (F := Bits))) ⟨m, fun _ => 0, g⟩ (fun r => (∀ c : Dev Cert.AdamLruBA.nD,
      r.2.mem ((c.tc : Thread Cert.AdamLruBA.nD Cert.AdamLruBA.τ).loc Cert.AdamLruBA.main_arg0) = m ((c.tc : Thread Cert.AdamLruBA.nD Cert.AdamLruBA.τ).loc Cert.AdamLruBA.main_arg0)
      ∧ r.2.mem ((c.tc : Thread Cert.AdamLruBA.nD Cert.AdamLruBA.τ).loc Cert.AdamLruBA.main_arg1) = m ((c.tc : Thread Cert.AdamLruBA.nD Cert.AdamLruBA.τ).loc Cert.AdamLruBA.main_arg1)
      ∧ r.2.mem ((c.tc : Thread Cert.AdamLruBA.nD Cert.AdamLruBA.τ).loc Cert.AdamLruBA.main_arg2) = m ((c.tc : Thread Cert.AdamLruBA.nD Cert.AdamLruBA.τ).loc Cert.AdamLruBA.main_arg2)
      ∧ r.2.mem ((c.tc : Thread Cert.AdamLruBA.nD Cert.AdamLruBA.τ).loc Cert.AdamLruBA.main_arg3) = m ((c.tc : Thread Cert.AdamLruBA.nD Cert.AdamLruBA.τ).loc Cert.AdamLruBA.main_arg3))
      ∧ r.2.sem = fun _ => 0)

def quiescent_AdamLruBAIdeal [hAdamLruBAIdeal : Cert.AdamLruBAIdeal.Facts] : Prop :=
  ∀ (m : (ℓ : Loc Cert.AdamLruBAIdeal.nD Cert.AdamLruBAIdeal.τ Cert.AdamLruBAIdeal.sig) → Buf (Elt Ideal) ℓ) (g : Dev Cert.AdamLruBAIdeal.nD → PrngReg), Pre_AdamLruBAIdeal m →
    θ_run (Cert.AdamLruBAIdeal.defs (F := Ideal)) (onTc (τ := Cert.AdamLruBAIdeal.τ) (Cert.AdamLruBAIdeal.main (F := Ideal))) ⟨m, fun _ => 0, g⟩ (fun r => (∀ c : Dev Cert.AdamLruBAIdeal.nD,
      r.2.mem ((c.tc : Thread Cert.AdamLruBAIdeal.nD Cert.AdamLruBAIdeal.τ).loc Cert.AdamLruBAIdeal.main_arg0) = m ((c.tc : Thread Cert.AdamLruBAIdeal.nD Cert.AdamLruBAIdeal.τ).loc Cert.AdamLruBAIdeal.main_arg0)
      ∧ r.2.mem ((c.tc : Thread Cert.AdamLruBAIdeal.nD Cert.AdamLruBAIdeal.τ).loc Cert.AdamLruBAIdeal.main_arg1) = m ((c.tc : Thread Cert.AdamLruBAIdeal.nD Cert.AdamLruBAIdeal.τ).loc Cert.AdamLruBAIdeal.main_arg1)
      ∧ r.2.mem ((c.tc : Thread Cert.AdamLruBAIdeal.nD Cert.AdamLruBAIdeal.τ).loc Cert.AdamLruBAIdeal.main_arg2) = m ((c.tc : Thread Cert.AdamLruBAIdeal.nD Cert.AdamLruBAIdeal.τ).loc Cert.AdamLruBAIdeal.main_arg2)
      ∧ r.2.mem ((c.tc : Thread Cert.AdamLruBAIdeal.nD Cert.AdamLruBAIdeal.τ).loc Cert.AdamLruBAIdeal.main_arg3) = m ((c.tc : Thread Cert.AdamLruBAIdeal.nD Cert.AdamLruBAIdeal.τ).loc Cert.AdamLruBAIdeal.main_arg3))
      ∧ r.2.sem = fun _ => 0)

def quiescent_AdamLruBARefIdeal [hAdamLruBARefIdeal : Cert.AdamLruBARefIdeal.Facts] : Prop :=
  ∀ (m : (ℓ : Loc Cert.AdamLruBARefIdeal.nD Cert.AdamLruBARefIdeal.τ Cert.AdamLruBARefIdeal.sig) → Buf (Elt Ideal) ℓ) (g : Dev Cert.AdamLruBARefIdeal.nD → PrngReg), Pre_AdamLruBARefIdeal m →
    θ_run (Cert.AdamLruBARefIdeal.defs (F := Ideal)) (onTc (τ := Cert.AdamLruBARefIdeal.τ) (Cert.AdamLruBARefIdeal.main (F := Ideal))) ⟨m, fun _ => 0, g⟩ (fun r => (∀ c : Dev Cert.AdamLruBARefIdeal.nD,
      r.2.mem ((c.tc : Thread Cert.AdamLruBARefIdeal.nD Cert.AdamLruBARefIdeal.τ).loc Cert.AdamLruBARefIdeal.main_arg0) = m ((c.tc : Thread Cert.AdamLruBARefIdeal.nD Cert.AdamLruBARefIdeal.τ).loc Cert.AdamLruBARefIdeal.main_arg0)
      ∧ r.2.mem ((c.tc : Thread Cert.AdamLruBARefIdeal.nD Cert.AdamLruBARefIdeal.τ).loc Cert.AdamLruBARefIdeal.main_arg1) = m ((c.tc : Thread Cert.AdamLruBARefIdeal.nD Cert.AdamLruBARefIdeal.τ).loc Cert.AdamLruBARefIdeal.main_arg1)
      ∧ r.2.mem ((c.tc : Thread Cert.AdamLruBARefIdeal.nD Cert.AdamLruBARefIdeal.τ).loc Cert.AdamLruBARefIdeal.main_arg2) = m ((c.tc : Thread Cert.AdamLruBARefIdeal.nD Cert.AdamLruBARefIdeal.τ).loc Cert.AdamLruBARefIdeal.main_arg2)
      ∧ r.2.mem ((c.tc : Thread Cert.AdamLruBARefIdeal.nD Cert.AdamLruBARefIdeal.τ).loc Cert.AdamLruBARefIdeal.main_arg3) = m ((c.tc : Thread Cert.AdamLruBARefIdeal.nD Cert.AdamLruBARefIdeal.τ).loc Cert.AdamLruBARefIdeal.main_arg3))
      ∧ r.2.sem = fun _ => 0)

def quiescent_AdamLruWX [hAdamLruWX : Cert.AdamLruWX.Facts] : Prop :=
  ∀ (m : (ℓ : Loc Cert.AdamLruWX.nD Cert.AdamLruWX.τ Cert.AdamLruWX.sig) → Buf (Elt Bits) ℓ) (g : Dev Cert.AdamLruWX.nD → PrngReg), Pre_AdamLruWX m →
    θ_run (Cert.AdamLruWX.defs (F := Bits)) (onTc (τ := Cert.AdamLruWX.τ) (Cert.AdamLruWX.main (F := Bits))) ⟨m, fun _ => 0, g⟩ (fun r => (∀ c : Dev Cert.AdamLruWX.nD,
      r.2.mem ((c.tc : Thread Cert.AdamLruWX.nD Cert.AdamLruWX.τ).loc Cert.AdamLruWX.main_arg0) = m ((c.tc : Thread Cert.AdamLruWX.nD Cert.AdamLruWX.τ).loc Cert.AdamLruWX.main_arg0)
      ∧ r.2.mem ((c.tc : Thread Cert.AdamLruWX.nD Cert.AdamLruWX.τ).loc Cert.AdamLruWX.main_arg1) = m ((c.tc : Thread Cert.AdamLruWX.nD Cert.AdamLruWX.τ).loc Cert.AdamLruWX.main_arg1)
      ∧ r.2.mem ((c.tc : Thread Cert.AdamLruWX.nD Cert.AdamLruWX.τ).loc Cert.AdamLruWX.main_arg2) = m ((c.tc : Thread Cert.AdamLruWX.nD Cert.AdamLruWX.τ).loc Cert.AdamLruWX.main_arg2)
      ∧ r.2.mem ((c.tc : Thread Cert.AdamLruWX.nD Cert.AdamLruWX.τ).loc Cert.AdamLruWX.main_arg3) = m ((c.tc : Thread Cert.AdamLruWX.nD Cert.AdamLruWX.τ).loc Cert.AdamLruWX.main_arg3))
      ∧ r.2.sem = fun _ => 0)

def quiescent_AdamLruWXIdeal [hAdamLruWXIdeal : Cert.AdamLruWXIdeal.Facts] : Prop :=
  ∀ (m : (ℓ : Loc Cert.AdamLruWXIdeal.nD Cert.AdamLruWXIdeal.τ Cert.AdamLruWXIdeal.sig) → Buf (Elt Ideal) ℓ) (g : Dev Cert.AdamLruWXIdeal.nD → PrngReg), Pre_AdamLruWXIdeal m →
    θ_run (Cert.AdamLruWXIdeal.defs (F := Ideal)) (onTc (τ := Cert.AdamLruWXIdeal.τ) (Cert.AdamLruWXIdeal.main (F := Ideal))) ⟨m, fun _ => 0, g⟩ (fun r => (∀ c : Dev Cert.AdamLruWXIdeal.nD,
      r.2.mem ((c.tc : Thread Cert.AdamLruWXIdeal.nD Cert.AdamLruWXIdeal.τ).loc Cert.AdamLruWXIdeal.main_arg0) = m ((c.tc : Thread Cert.AdamLruWXIdeal.nD Cert.AdamLruWXIdeal.τ).loc Cert.AdamLruWXIdeal.main_arg0)
      ∧ r.2.mem ((c.tc : Thread Cert.AdamLruWXIdeal.nD Cert.AdamLruWXIdeal.τ).loc Cert.AdamLruWXIdeal.main_arg1) = m ((c.tc : Thread Cert.AdamLruWXIdeal.nD Cert.AdamLruWXIdeal.τ).loc Cert.AdamLruWXIdeal.main_arg1)
      ∧ r.2.mem ((c.tc : Thread Cert.AdamLruWXIdeal.nD Cert.AdamLruWXIdeal.τ).loc Cert.AdamLruWXIdeal.main_arg2) = m ((c.tc : Thread Cert.AdamLruWXIdeal.nD Cert.AdamLruWXIdeal.τ).loc Cert.AdamLruWXIdeal.main_arg2)
      ∧ r.2.mem ((c.tc : Thread Cert.AdamLruWXIdeal.nD Cert.AdamLruWXIdeal.τ).loc Cert.AdamLruWXIdeal.main_arg3) = m ((c.tc : Thread Cert.AdamLruWXIdeal.nD Cert.AdamLruWXIdeal.τ).loc Cert.AdamLruWXIdeal.main_arg3))
      ∧ r.2.sem = fun _ => 0)

def quiescent_AdamLruWXRefIdeal [hAdamLruWXRefIdeal : Cert.AdamLruWXRefIdeal.Facts] : Prop :=
  ∀ (m : (ℓ : Loc Cert.AdamLruWXRefIdeal.nD Cert.AdamLruWXRefIdeal.τ Cert.AdamLruWXRefIdeal.sig) → Buf (Elt Ideal) ℓ) (g : Dev Cert.AdamLruWXRefIdeal.nD → PrngReg), Pre_AdamLruWXRefIdeal m →
    θ_run (Cert.AdamLruWXRefIdeal.defs (F := Ideal)) (onTc (τ := Cert.AdamLruWXRefIdeal.τ) (Cert.AdamLruWXRefIdeal.main (F := Ideal))) ⟨m, fun _ => 0, g⟩ (fun r => (∀ c : Dev Cert.AdamLruWXRefIdeal.nD,
      r.2.mem ((c.tc : Thread Cert.AdamLruWXRefIdeal.nD Cert.AdamLruWXRefIdeal.τ).loc Cert.AdamLruWXRefIdeal.main_arg0) = m ((c.tc : Thread Cert.AdamLruWXRefIdeal.nD Cert.AdamLruWXRefIdeal.τ).loc Cert.AdamLruWXRefIdeal.main_arg0)
      ∧ r.2.mem ((c.tc : Thread Cert.AdamLruWXRefIdeal.nD Cert.AdamLruWXRefIdeal.τ).loc Cert.AdamLruWXRefIdeal.main_arg1) = m ((c.tc : Thread Cert.AdamLruWXRefIdeal.nD Cert.AdamLruWXRefIdeal.τ).loc Cert.AdamLruWXRefIdeal.main_arg1)
      ∧ r.2.mem ((c.tc : Thread Cert.AdamLruWXRefIdeal.nD Cert.AdamLruWXRefIdeal.τ).loc Cert.AdamLruWXRefIdeal.main_arg2) = m ((c.tc : Thread Cert.AdamLruWXRefIdeal.nD Cert.AdamLruWXRefIdeal.τ).loc Cert.AdamLruWXRefIdeal.main_arg2)
      ∧ r.2.mem ((c.tc : Thread Cert.AdamLruWXRefIdeal.nD Cert.AdamLruWXRefIdeal.τ).loc Cert.AdamLruWXRefIdeal.main_arg3) = m ((c.tc : Thread Cert.AdamLruWXRefIdeal.nD Cert.AdamLruWXRefIdeal.τ).loc Cert.AdamLruWXRefIdeal.main_arg3))
      ∧ r.2.sem = fun _ => 0)

def quiescent_AdamLruBX [hAdamLruBX : Cert.AdamLruBX.Facts] : Prop :=
  ∀ (m : (ℓ : Loc Cert.AdamLruBX.nD Cert.AdamLruBX.τ Cert.AdamLruBX.sig) → Buf (Elt Bits) ℓ) (g : Dev Cert.AdamLruBX.nD → PrngReg), Pre_AdamLruBX m →
    θ_run (Cert.AdamLruBX.defs (F := Bits)) (onTc (τ := Cert.AdamLruBX.τ) (Cert.AdamLruBX.main (F := Bits))) ⟨m, fun _ => 0, g⟩ (fun r => (∀ c : Dev Cert.AdamLruBX.nD,
      r.2.mem ((c.tc : Thread Cert.AdamLruBX.nD Cert.AdamLruBX.τ).loc Cert.AdamLruBX.main_arg0) = m ((c.tc : Thread Cert.AdamLruBX.nD Cert.AdamLruBX.τ).loc Cert.AdamLruBX.main_arg0)
      ∧ r.2.mem ((c.tc : Thread Cert.AdamLruBX.nD Cert.AdamLruBX.τ).loc Cert.AdamLruBX.main_arg1) = m ((c.tc : Thread Cert.AdamLruBX.nD Cert.AdamLruBX.τ).loc Cert.AdamLruBX.main_arg1)
      ∧ r.2.mem ((c.tc : Thread Cert.AdamLruBX.nD Cert.AdamLruBX.τ).loc Cert.AdamLruBX.main_arg2) = m ((c.tc : Thread Cert.AdamLruBX.nD Cert.AdamLruBX.τ).loc Cert.AdamLruBX.main_arg2)
      ∧ r.2.mem ((c.tc : Thread Cert.AdamLruBX.nD Cert.AdamLruBX.τ).loc Cert.AdamLruBX.main_arg3) = m ((c.tc : Thread Cert.AdamLruBX.nD Cert.AdamLruBX.τ).loc Cert.AdamLruBX.main_arg3))
      ∧ r.2.sem = fun _ => 0)

def quiescent_AdamLruBXIdeal [hAdamLruBXIdeal : Cert.AdamLruBXIdeal.Facts] : Prop :=
  ∀ (m : (ℓ : Loc Cert.AdamLruBXIdeal.nD Cert.AdamLruBXIdeal.τ Cert.AdamLruBXIdeal.sig) → Buf (Elt Ideal) ℓ) (g : Dev Cert.AdamLruBXIdeal.nD → PrngReg), Pre_AdamLruBXIdeal m →
    θ_run (Cert.AdamLruBXIdeal.defs (F := Ideal)) (onTc (τ := Cert.AdamLruBXIdeal.τ) (Cert.AdamLruBXIdeal.main (F := Ideal))) ⟨m, fun _ => 0, g⟩ (fun r => (∀ c : Dev Cert.AdamLruBXIdeal.nD,
      r.2.mem ((c.tc : Thread Cert.AdamLruBXIdeal.nD Cert.AdamLruBXIdeal.τ).loc Cert.AdamLruBXIdeal.main_arg0) = m ((c.tc : Thread Cert.AdamLruBXIdeal.nD Cert.AdamLruBXIdeal.τ).loc Cert.AdamLruBXIdeal.main_arg0)
      ∧ r.2.mem ((c.tc : Thread Cert.AdamLruBXIdeal.nD Cert.AdamLruBXIdeal.τ).loc Cert.AdamLruBXIdeal.main_arg1) = m ((c.tc : Thread Cert.AdamLruBXIdeal.nD Cert.AdamLruBXIdeal.τ).loc Cert.AdamLruBXIdeal.main_arg1)
      ∧ r.2.mem ((c.tc : Thread Cert.AdamLruBXIdeal.nD Cert.AdamLruBXIdeal.τ).loc Cert.AdamLruBXIdeal.main_arg2) = m ((c.tc : Thread Cert.AdamLruBXIdeal.nD Cert.AdamLruBXIdeal.τ).loc Cert.AdamLruBXIdeal.main_arg2)
      ∧ r.2.mem ((c.tc : Thread Cert.AdamLruBXIdeal.nD Cert.AdamLruBXIdeal.τ).loc Cert.AdamLruBXIdeal.main_arg3) = m ((c.tc : Thread Cert.AdamLruBXIdeal.nD Cert.AdamLruBXIdeal.τ).loc Cert.AdamLruBXIdeal.main_arg3))
      ∧ r.2.sem = fun _ => 0)

def quiescent_AdamLruBXRefIdeal [hAdamLruBXRefIdeal : Cert.AdamLruBXRefIdeal.Facts] : Prop :=
  ∀ (m : (ℓ : Loc Cert.AdamLruBXRefIdeal.nD Cert.AdamLruBXRefIdeal.τ Cert.AdamLruBXRefIdeal.sig) → Buf (Elt Ideal) ℓ) (g : Dev Cert.AdamLruBXRefIdeal.nD → PrngReg), Pre_AdamLruBXRefIdeal m →
    θ_run (Cert.AdamLruBXRefIdeal.defs (F := Ideal)) (onTc (τ := Cert.AdamLruBXRefIdeal.τ) (Cert.AdamLruBXRefIdeal.main (F := Ideal))) ⟨m, fun _ => 0, g⟩ (fun r => (∀ c : Dev Cert.AdamLruBXRefIdeal.nD,
      r.2.mem ((c.tc : Thread Cert.AdamLruBXRefIdeal.nD Cert.AdamLruBXRefIdeal.τ).loc Cert.AdamLruBXRefIdeal.main_arg0) = m ((c.tc : Thread Cert.AdamLruBXRefIdeal.nD Cert.AdamLruBXRefIdeal.τ).loc Cert.AdamLruBXRefIdeal.main_arg0)
      ∧ r.2.mem ((c.tc : Thread Cert.AdamLruBXRefIdeal.nD Cert.AdamLruBXRefIdeal.τ).loc Cert.AdamLruBXRefIdeal.main_arg1) = m ((c.tc : Thread Cert.AdamLruBXRefIdeal.nD Cert.AdamLruBXRefIdeal.τ).loc Cert.AdamLruBXRefIdeal.main_arg1)
      ∧ r.2.mem ((c.tc : Thread Cert.AdamLruBXRefIdeal.nD Cert.AdamLruBXRefIdeal.τ).loc Cert.AdamLruBXRefIdeal.main_arg2) = m ((c.tc : Thread Cert.AdamLruBXRefIdeal.nD Cert.AdamLruBXRefIdeal.τ).loc Cert.AdamLruBXRefIdeal.main_arg2)
      ∧ r.2.mem ((c.tc : Thread Cert.AdamLruBXRefIdeal.nD Cert.AdamLruBXRefIdeal.τ).loc Cert.AdamLruBXRefIdeal.main_arg3) = m ((c.tc : Thread Cert.AdamLruBXRefIdeal.nD Cert.AdamLruBXRefIdeal.τ).loc Cert.AdamLruBXRefIdeal.main_arg3))
      ∧ r.2.sem = fun _ => 0)

def quiescent_AdamLruLambda [hAdamLruLambda : Cert.AdamLruLambda.Facts] : Prop :=
  ∀ (m : (ℓ : Loc Cert.AdamLruLambda.nD Cert.AdamLruLambda.τ Cert.AdamLruLambda.sig) → Buf (Elt Bits) ℓ) (g : Dev Cert.AdamLruLambda.nD → PrngReg), Pre_AdamLruLambda m →
    θ_run (Cert.AdamLruLambda.defs (F := Bits)) (onTc (τ := Cert.AdamLruLambda.τ) (Cert.AdamLruLambda.main (F := Bits))) ⟨m, fun _ => 0, g⟩ (fun r => (∀ c : Dev Cert.AdamLruLambda.nD,
      r.2.mem ((c.tc : Thread Cert.AdamLruLambda.nD Cert.AdamLruLambda.τ).loc Cert.AdamLruLambda.main_arg0) = m ((c.tc : Thread Cert.AdamLruLambda.nD Cert.AdamLruLambda.τ).loc Cert.AdamLruLambda.main_arg0)
      ∧ r.2.mem ((c.tc : Thread Cert.AdamLruLambda.nD Cert.AdamLruLambda.τ).loc Cert.AdamLruLambda.main_arg1) = m ((c.tc : Thread Cert.AdamLruLambda.nD Cert.AdamLruLambda.τ).loc Cert.AdamLruLambda.main_arg1)
      ∧ r.2.mem ((c.tc : Thread Cert.AdamLruLambda.nD Cert.AdamLruLambda.τ).loc Cert.AdamLruLambda.main_arg2) = m ((c.tc : Thread Cert.AdamLruLambda.nD Cert.AdamLruLambda.τ).loc Cert.AdamLruLambda.main_arg2)
      ∧ r.2.mem ((c.tc : Thread Cert.AdamLruLambda.nD Cert.AdamLruLambda.τ).loc Cert.AdamLruLambda.main_arg3) = m ((c.tc : Thread Cert.AdamLruLambda.nD Cert.AdamLruLambda.τ).loc Cert.AdamLruLambda.main_arg3))
      ∧ r.2.sem = fun _ => 0)

def quiescent_AdamLruLambdaIdeal [hAdamLruLambdaIdeal : Cert.AdamLruLambdaIdeal.Facts] : Prop :=
  ∀ (m : (ℓ : Loc Cert.AdamLruLambdaIdeal.nD Cert.AdamLruLambdaIdeal.τ Cert.AdamLruLambdaIdeal.sig) → Buf (Elt Ideal) ℓ) (g : Dev Cert.AdamLruLambdaIdeal.nD → PrngReg), Pre_AdamLruLambdaIdeal m →
    θ_run (Cert.AdamLruLambdaIdeal.defs (F := Ideal)) (onTc (τ := Cert.AdamLruLambdaIdeal.τ) (Cert.AdamLruLambdaIdeal.main (F := Ideal))) ⟨m, fun _ => 0, g⟩ (fun r => (∀ c : Dev Cert.AdamLruLambdaIdeal.nD,
      r.2.mem ((c.tc : Thread Cert.AdamLruLambdaIdeal.nD Cert.AdamLruLambdaIdeal.τ).loc Cert.AdamLruLambdaIdeal.main_arg0) = m ((c.tc : Thread Cert.AdamLruLambdaIdeal.nD Cert.AdamLruLambdaIdeal.τ).loc Cert.AdamLruLambdaIdeal.main_arg0)
      ∧ r.2.mem ((c.tc : Thread Cert.AdamLruLambdaIdeal.nD Cert.AdamLruLambdaIdeal.τ).loc Cert.AdamLruLambdaIdeal.main_arg1) = m ((c.tc : Thread Cert.AdamLruLambdaIdeal.nD Cert.AdamLruLambdaIdeal.τ).loc Cert.AdamLruLambdaIdeal.main_arg1)
      ∧ r.2.mem ((c.tc : Thread Cert.AdamLruLambdaIdeal.nD Cert.AdamLruLambdaIdeal.τ).loc Cert.AdamLruLambdaIdeal.main_arg2) = m ((c.tc : Thread Cert.AdamLruLambdaIdeal.nD Cert.AdamLruLambdaIdeal.τ).loc Cert.AdamLruLambdaIdeal.main_arg2)
      ∧ r.2.mem ((c.tc : Thread Cert.AdamLruLambdaIdeal.nD Cert.AdamLruLambdaIdeal.τ).loc Cert.AdamLruLambdaIdeal.main_arg3) = m ((c.tc : Thread Cert.AdamLruLambdaIdeal.nD Cert.AdamLruLambdaIdeal.τ).loc Cert.AdamLruLambdaIdeal.main_arg3))
      ∧ r.2.sem = fun _ => 0)

def quiescent_AdamLruLambdaRefIdeal [hAdamLruLambdaRefIdeal : Cert.AdamLruLambdaRefIdeal.Facts] : Prop :=
  ∀ (m : (ℓ : Loc Cert.AdamLruLambdaRefIdeal.nD Cert.AdamLruLambdaRefIdeal.τ Cert.AdamLruLambdaRefIdeal.sig) → Buf (Elt Ideal) ℓ) (g : Dev Cert.AdamLruLambdaRefIdeal.nD → PrngReg), Pre_AdamLruLambdaRefIdeal m →
    θ_run (Cert.AdamLruLambdaRefIdeal.defs (F := Ideal)) (onTc (τ := Cert.AdamLruLambdaRefIdeal.τ) (Cert.AdamLruLambdaRefIdeal.main (F := Ideal))) ⟨m, fun _ => 0, g⟩ (fun r => (∀ c : Dev Cert.AdamLruLambdaRefIdeal.nD,
      r.2.mem ((c.tc : Thread Cert.AdamLruLambdaRefIdeal.nD Cert.AdamLruLambdaRefIdeal.τ).loc Cert.AdamLruLambdaRefIdeal.main_arg0) = m ((c.tc : Thread Cert.AdamLruLambdaRefIdeal.nD Cert.AdamLruLambdaRefIdeal.τ).loc Cert.AdamLruLambdaRefIdeal.main_arg0)
      ∧ r.2.mem ((c.tc : Thread Cert.AdamLruLambdaRefIdeal.nD Cert.AdamLruLambdaRefIdeal.τ).loc Cert.AdamLruLambdaRefIdeal.main_arg1) = m ((c.tc : Thread Cert.AdamLruLambdaRefIdeal.nD Cert.AdamLruLambdaRefIdeal.τ).loc Cert.AdamLruLambdaRefIdeal.main_arg1)
      ∧ r.2.mem ((c.tc : Thread Cert.AdamLruLambdaRefIdeal.nD Cert.AdamLruLambdaRefIdeal.τ).loc Cert.AdamLruLambdaRefIdeal.main_arg2) = m ((c.tc : Thread Cert.AdamLruLambdaRefIdeal.nD Cert.AdamLruLambdaRefIdeal.τ).loc Cert.AdamLruLambdaRefIdeal.main_arg2)
      ∧ r.2.mem ((c.tc : Thread Cert.AdamLruLambdaRefIdeal.nD Cert.AdamLruLambdaRefIdeal.τ).loc Cert.AdamLruLambdaRefIdeal.main_arg3) = m ((c.tc : Thread Cert.AdamLruLambdaRefIdeal.nD Cert.AdamLruLambdaRefIdeal.τ).loc Cert.AdamLruLambdaRefIdeal.main_arg3))
      ∧ r.2.sem = fun _ => 0)

def quiescent_AdamWBranchAttn [hAdamWBranchAttn : Cert.AdamWBranchAttn.Facts] : Prop :=
  ∀ (m : (ℓ : Loc Cert.AdamWBranchAttn.nD Cert.AdamWBranchAttn.τ Cert.AdamWBranchAttn.sig) → Buf (Elt Bits) ℓ) (g : Dev Cert.AdamWBranchAttn.nD → PrngReg), Pre_AdamWBranchAttn m →
    θ_run (Cert.AdamWBranchAttn.defs (F := Bits)) (onTc (τ := Cert.AdamWBranchAttn.τ) (Cert.AdamWBranchAttn.main (F := Bits))) ⟨m, fun _ => 0, g⟩ (fun r => (∀ c : Dev Cert.AdamWBranchAttn.nD,
      r.2.mem ((c.tc : Thread Cert.AdamWBranchAttn.nD Cert.AdamWBranchAttn.τ).loc Cert.AdamWBranchAttn.main_arg0) = m ((c.tc : Thread Cert.AdamWBranchAttn.nD Cert.AdamWBranchAttn.τ).loc Cert.AdamWBranchAttn.main_arg0)
      ∧ r.2.mem ((c.tc : Thread Cert.AdamWBranchAttn.nD Cert.AdamWBranchAttn.τ).loc Cert.AdamWBranchAttn.main_arg1) = m ((c.tc : Thread Cert.AdamWBranchAttn.nD Cert.AdamWBranchAttn.τ).loc Cert.AdamWBranchAttn.main_arg1)
      ∧ r.2.mem ((c.tc : Thread Cert.AdamWBranchAttn.nD Cert.AdamWBranchAttn.τ).loc Cert.AdamWBranchAttn.main_arg2) = m ((c.tc : Thread Cert.AdamWBranchAttn.nD Cert.AdamWBranchAttn.τ).loc Cert.AdamWBranchAttn.main_arg2)
      ∧ r.2.mem ((c.tc : Thread Cert.AdamWBranchAttn.nD Cert.AdamWBranchAttn.τ).loc Cert.AdamWBranchAttn.main_arg3) = m ((c.tc : Thread Cert.AdamWBranchAttn.nD Cert.AdamWBranchAttn.τ).loc Cert.AdamWBranchAttn.main_arg3))
      ∧ r.2.sem = fun _ => 0)

def quiescent_AdamWBranchAttnIdeal [hAdamWBranchAttnIdeal : Cert.AdamWBranchAttnIdeal.Facts] : Prop :=
  ∀ (m : (ℓ : Loc Cert.AdamWBranchAttnIdeal.nD Cert.AdamWBranchAttnIdeal.τ Cert.AdamWBranchAttnIdeal.sig) → Buf (Elt Ideal) ℓ) (g : Dev Cert.AdamWBranchAttnIdeal.nD → PrngReg), Pre_AdamWBranchAttnIdeal m →
    θ_run (Cert.AdamWBranchAttnIdeal.defs (F := Ideal)) (onTc (τ := Cert.AdamWBranchAttnIdeal.τ) (Cert.AdamWBranchAttnIdeal.main (F := Ideal))) ⟨m, fun _ => 0, g⟩ (fun r => (∀ c : Dev Cert.AdamWBranchAttnIdeal.nD,
      r.2.mem ((c.tc : Thread Cert.AdamWBranchAttnIdeal.nD Cert.AdamWBranchAttnIdeal.τ).loc Cert.AdamWBranchAttnIdeal.main_arg0) = m ((c.tc : Thread Cert.AdamWBranchAttnIdeal.nD Cert.AdamWBranchAttnIdeal.τ).loc Cert.AdamWBranchAttnIdeal.main_arg0)
      ∧ r.2.mem ((c.tc : Thread Cert.AdamWBranchAttnIdeal.nD Cert.AdamWBranchAttnIdeal.τ).loc Cert.AdamWBranchAttnIdeal.main_arg1) = m ((c.tc : Thread Cert.AdamWBranchAttnIdeal.nD Cert.AdamWBranchAttnIdeal.τ).loc Cert.AdamWBranchAttnIdeal.main_arg1)
      ∧ r.2.mem ((c.tc : Thread Cert.AdamWBranchAttnIdeal.nD Cert.AdamWBranchAttnIdeal.τ).loc Cert.AdamWBranchAttnIdeal.main_arg2) = m ((c.tc : Thread Cert.AdamWBranchAttnIdeal.nD Cert.AdamWBranchAttnIdeal.τ).loc Cert.AdamWBranchAttnIdeal.main_arg2)
      ∧ r.2.mem ((c.tc : Thread Cert.AdamWBranchAttnIdeal.nD Cert.AdamWBranchAttnIdeal.τ).loc Cert.AdamWBranchAttnIdeal.main_arg3) = m ((c.tc : Thread Cert.AdamWBranchAttnIdeal.nD Cert.AdamWBranchAttnIdeal.τ).loc Cert.AdamWBranchAttnIdeal.main_arg3))
      ∧ r.2.sem = fun _ => 0)

def quiescent_AdamWBranchAttnRefIdeal [hAdamWBranchAttnRefIdeal : Cert.AdamWBranchAttnRefIdeal.Facts] : Prop :=
  ∀ (m : (ℓ : Loc Cert.AdamWBranchAttnRefIdeal.nD Cert.AdamWBranchAttnRefIdeal.τ Cert.AdamWBranchAttnRefIdeal.sig) → Buf (Elt Ideal) ℓ) (g : Dev Cert.AdamWBranchAttnRefIdeal.nD → PrngReg), Pre_AdamWBranchAttnRefIdeal m →
    θ_run (Cert.AdamWBranchAttnRefIdeal.defs (F := Ideal)) (onTc (τ := Cert.AdamWBranchAttnRefIdeal.τ) (Cert.AdamWBranchAttnRefIdeal.main (F := Ideal))) ⟨m, fun _ => 0, g⟩ (fun r => (∀ c : Dev Cert.AdamWBranchAttnRefIdeal.nD,
      r.2.mem ((c.tc : Thread Cert.AdamWBranchAttnRefIdeal.nD Cert.AdamWBranchAttnRefIdeal.τ).loc Cert.AdamWBranchAttnRefIdeal.main_arg0) = m ((c.tc : Thread Cert.AdamWBranchAttnRefIdeal.nD Cert.AdamWBranchAttnRefIdeal.τ).loc Cert.AdamWBranchAttnRefIdeal.main_arg0)
      ∧ r.2.mem ((c.tc : Thread Cert.AdamWBranchAttnRefIdeal.nD Cert.AdamWBranchAttnRefIdeal.τ).loc Cert.AdamWBranchAttnRefIdeal.main_arg1) = m ((c.tc : Thread Cert.AdamWBranchAttnRefIdeal.nD Cert.AdamWBranchAttnRefIdeal.τ).loc Cert.AdamWBranchAttnRefIdeal.main_arg1)
      ∧ r.2.mem ((c.tc : Thread Cert.AdamWBranchAttnRefIdeal.nD Cert.AdamWBranchAttnRefIdeal.τ).loc Cert.AdamWBranchAttnRefIdeal.main_arg2) = m ((c.tc : Thread Cert.AdamWBranchAttnRefIdeal.nD Cert.AdamWBranchAttnRefIdeal.τ).loc Cert.AdamWBranchAttnRefIdeal.main_arg2)
      ∧ r.2.mem ((c.tc : Thread Cert.AdamWBranchAttnRefIdeal.nD Cert.AdamWBranchAttnRefIdeal.τ).loc Cert.AdamWBranchAttnRefIdeal.main_arg3) = m ((c.tc : Thread Cert.AdamWBranchAttnRefIdeal.nD Cert.AdamWBranchAttnRefIdeal.τ).loc Cert.AdamWBranchAttnRefIdeal.main_arg3))
      ∧ r.2.sem = fun _ => 0)

def quiescent_AdamWBranchSsd [hAdamWBranchSsd : Cert.AdamWBranchSsd.Facts] : Prop :=
  ∀ (m : (ℓ : Loc Cert.AdamWBranchSsd.nD Cert.AdamWBranchSsd.τ Cert.AdamWBranchSsd.sig) → Buf (Elt Bits) ℓ) (g : Dev Cert.AdamWBranchSsd.nD → PrngReg), Pre_AdamWBranchSsd m →
    θ_run (Cert.AdamWBranchSsd.defs (F := Bits)) (onTc (τ := Cert.AdamWBranchSsd.τ) (Cert.AdamWBranchSsd.main (F := Bits))) ⟨m, fun _ => 0, g⟩ (fun r => (∀ c : Dev Cert.AdamWBranchSsd.nD,
      r.2.mem ((c.tc : Thread Cert.AdamWBranchSsd.nD Cert.AdamWBranchSsd.τ).loc Cert.AdamWBranchSsd.main_arg0) = m ((c.tc : Thread Cert.AdamWBranchSsd.nD Cert.AdamWBranchSsd.τ).loc Cert.AdamWBranchSsd.main_arg0)
      ∧ r.2.mem ((c.tc : Thread Cert.AdamWBranchSsd.nD Cert.AdamWBranchSsd.τ).loc Cert.AdamWBranchSsd.main_arg1) = m ((c.tc : Thread Cert.AdamWBranchSsd.nD Cert.AdamWBranchSsd.τ).loc Cert.AdamWBranchSsd.main_arg1)
      ∧ r.2.mem ((c.tc : Thread Cert.AdamWBranchSsd.nD Cert.AdamWBranchSsd.τ).loc Cert.AdamWBranchSsd.main_arg2) = m ((c.tc : Thread Cert.AdamWBranchSsd.nD Cert.AdamWBranchSsd.τ).loc Cert.AdamWBranchSsd.main_arg2)
      ∧ r.2.mem ((c.tc : Thread Cert.AdamWBranchSsd.nD Cert.AdamWBranchSsd.τ).loc Cert.AdamWBranchSsd.main_arg3) = m ((c.tc : Thread Cert.AdamWBranchSsd.nD Cert.AdamWBranchSsd.τ).loc Cert.AdamWBranchSsd.main_arg3))
      ∧ r.2.sem = fun _ => 0)

def quiescent_AdamWBranchSsdIdeal [hAdamWBranchSsdIdeal : Cert.AdamWBranchSsdIdeal.Facts] : Prop :=
  ∀ (m : (ℓ : Loc Cert.AdamWBranchSsdIdeal.nD Cert.AdamWBranchSsdIdeal.τ Cert.AdamWBranchSsdIdeal.sig) → Buf (Elt Ideal) ℓ) (g : Dev Cert.AdamWBranchSsdIdeal.nD → PrngReg), Pre_AdamWBranchSsdIdeal m →
    θ_run (Cert.AdamWBranchSsdIdeal.defs (F := Ideal)) (onTc (τ := Cert.AdamWBranchSsdIdeal.τ) (Cert.AdamWBranchSsdIdeal.main (F := Ideal))) ⟨m, fun _ => 0, g⟩ (fun r => (∀ c : Dev Cert.AdamWBranchSsdIdeal.nD,
      r.2.mem ((c.tc : Thread Cert.AdamWBranchSsdIdeal.nD Cert.AdamWBranchSsdIdeal.τ).loc Cert.AdamWBranchSsdIdeal.main_arg0) = m ((c.tc : Thread Cert.AdamWBranchSsdIdeal.nD Cert.AdamWBranchSsdIdeal.τ).loc Cert.AdamWBranchSsdIdeal.main_arg0)
      ∧ r.2.mem ((c.tc : Thread Cert.AdamWBranchSsdIdeal.nD Cert.AdamWBranchSsdIdeal.τ).loc Cert.AdamWBranchSsdIdeal.main_arg1) = m ((c.tc : Thread Cert.AdamWBranchSsdIdeal.nD Cert.AdamWBranchSsdIdeal.τ).loc Cert.AdamWBranchSsdIdeal.main_arg1)
      ∧ r.2.mem ((c.tc : Thread Cert.AdamWBranchSsdIdeal.nD Cert.AdamWBranchSsdIdeal.τ).loc Cert.AdamWBranchSsdIdeal.main_arg2) = m ((c.tc : Thread Cert.AdamWBranchSsdIdeal.nD Cert.AdamWBranchSsdIdeal.τ).loc Cert.AdamWBranchSsdIdeal.main_arg2)
      ∧ r.2.mem ((c.tc : Thread Cert.AdamWBranchSsdIdeal.nD Cert.AdamWBranchSsdIdeal.τ).loc Cert.AdamWBranchSsdIdeal.main_arg3) = m ((c.tc : Thread Cert.AdamWBranchSsdIdeal.nD Cert.AdamWBranchSsdIdeal.τ).loc Cert.AdamWBranchSsdIdeal.main_arg3))
      ∧ r.2.sem = fun _ => 0)

def quiescent_AdamWBranchSsdRefIdeal [hAdamWBranchSsdRefIdeal : Cert.AdamWBranchSsdRefIdeal.Facts] : Prop :=
  ∀ (m : (ℓ : Loc Cert.AdamWBranchSsdRefIdeal.nD Cert.AdamWBranchSsdRefIdeal.τ Cert.AdamWBranchSsdRefIdeal.sig) → Buf (Elt Ideal) ℓ) (g : Dev Cert.AdamWBranchSsdRefIdeal.nD → PrngReg), Pre_AdamWBranchSsdRefIdeal m →
    θ_run (Cert.AdamWBranchSsdRefIdeal.defs (F := Ideal)) (onTc (τ := Cert.AdamWBranchSsdRefIdeal.τ) (Cert.AdamWBranchSsdRefIdeal.main (F := Ideal))) ⟨m, fun _ => 0, g⟩ (fun r => (∀ c : Dev Cert.AdamWBranchSsdRefIdeal.nD,
      r.2.mem ((c.tc : Thread Cert.AdamWBranchSsdRefIdeal.nD Cert.AdamWBranchSsdRefIdeal.τ).loc Cert.AdamWBranchSsdRefIdeal.main_arg0) = m ((c.tc : Thread Cert.AdamWBranchSsdRefIdeal.nD Cert.AdamWBranchSsdRefIdeal.τ).loc Cert.AdamWBranchSsdRefIdeal.main_arg0)
      ∧ r.2.mem ((c.tc : Thread Cert.AdamWBranchSsdRefIdeal.nD Cert.AdamWBranchSsdRefIdeal.τ).loc Cert.AdamWBranchSsdRefIdeal.main_arg1) = m ((c.tc : Thread Cert.AdamWBranchSsdRefIdeal.nD Cert.AdamWBranchSsdRefIdeal.τ).loc Cert.AdamWBranchSsdRefIdeal.main_arg1)
      ∧ r.2.mem ((c.tc : Thread Cert.AdamWBranchSsdRefIdeal.nD Cert.AdamWBranchSsdRefIdeal.τ).loc Cert.AdamWBranchSsdRefIdeal.main_arg2) = m ((c.tc : Thread Cert.AdamWBranchSsdRefIdeal.nD Cert.AdamWBranchSsdRefIdeal.τ).loc Cert.AdamWBranchSsdRefIdeal.main_arg2)
      ∧ r.2.mem ((c.tc : Thread Cert.AdamWBranchSsdRefIdeal.nD Cert.AdamWBranchSsdRefIdeal.τ).loc Cert.AdamWBranchSsdRefIdeal.main_arg3) = m ((c.tc : Thread Cert.AdamWBranchSsdRefIdeal.nD Cert.AdamWBranchSsdRefIdeal.τ).loc Cert.AdamWBranchSsdRefIdeal.main_arg3))
      ∧ r.2.sem = fun _ => 0)

def quiescent_AdamWBranchLru [hAdamWBranchLru : Cert.AdamWBranchLru.Facts] : Prop :=
  ∀ (m : (ℓ : Loc Cert.AdamWBranchLru.nD Cert.AdamWBranchLru.τ Cert.AdamWBranchLru.sig) → Buf (Elt Bits) ℓ) (g : Dev Cert.AdamWBranchLru.nD → PrngReg), Pre_AdamWBranchLru m →
    θ_run (Cert.AdamWBranchLru.defs (F := Bits)) (onTc (τ := Cert.AdamWBranchLru.τ) (Cert.AdamWBranchLru.main (F := Bits))) ⟨m, fun _ => 0, g⟩ (fun r => (∀ c : Dev Cert.AdamWBranchLru.nD,
      r.2.mem ((c.tc : Thread Cert.AdamWBranchLru.nD Cert.AdamWBranchLru.τ).loc Cert.AdamWBranchLru.main_arg0) = m ((c.tc : Thread Cert.AdamWBranchLru.nD Cert.AdamWBranchLru.τ).loc Cert.AdamWBranchLru.main_arg0)
      ∧ r.2.mem ((c.tc : Thread Cert.AdamWBranchLru.nD Cert.AdamWBranchLru.τ).loc Cert.AdamWBranchLru.main_arg1) = m ((c.tc : Thread Cert.AdamWBranchLru.nD Cert.AdamWBranchLru.τ).loc Cert.AdamWBranchLru.main_arg1)
      ∧ r.2.mem ((c.tc : Thread Cert.AdamWBranchLru.nD Cert.AdamWBranchLru.τ).loc Cert.AdamWBranchLru.main_arg2) = m ((c.tc : Thread Cert.AdamWBranchLru.nD Cert.AdamWBranchLru.τ).loc Cert.AdamWBranchLru.main_arg2)
      ∧ r.2.mem ((c.tc : Thread Cert.AdamWBranchLru.nD Cert.AdamWBranchLru.τ).loc Cert.AdamWBranchLru.main_arg3) = m ((c.tc : Thread Cert.AdamWBranchLru.nD Cert.AdamWBranchLru.τ).loc Cert.AdamWBranchLru.main_arg3))
      ∧ r.2.sem = fun _ => 0)

def quiescent_AdamWBranchLruIdeal [hAdamWBranchLruIdeal : Cert.AdamWBranchLruIdeal.Facts] : Prop :=
  ∀ (m : (ℓ : Loc Cert.AdamWBranchLruIdeal.nD Cert.AdamWBranchLruIdeal.τ Cert.AdamWBranchLruIdeal.sig) → Buf (Elt Ideal) ℓ) (g : Dev Cert.AdamWBranchLruIdeal.nD → PrngReg), Pre_AdamWBranchLruIdeal m →
    θ_run (Cert.AdamWBranchLruIdeal.defs (F := Ideal)) (onTc (τ := Cert.AdamWBranchLruIdeal.τ) (Cert.AdamWBranchLruIdeal.main (F := Ideal))) ⟨m, fun _ => 0, g⟩ (fun r => (∀ c : Dev Cert.AdamWBranchLruIdeal.nD,
      r.2.mem ((c.tc : Thread Cert.AdamWBranchLruIdeal.nD Cert.AdamWBranchLruIdeal.τ).loc Cert.AdamWBranchLruIdeal.main_arg0) = m ((c.tc : Thread Cert.AdamWBranchLruIdeal.nD Cert.AdamWBranchLruIdeal.τ).loc Cert.AdamWBranchLruIdeal.main_arg0)
      ∧ r.2.mem ((c.tc : Thread Cert.AdamWBranchLruIdeal.nD Cert.AdamWBranchLruIdeal.τ).loc Cert.AdamWBranchLruIdeal.main_arg1) = m ((c.tc : Thread Cert.AdamWBranchLruIdeal.nD Cert.AdamWBranchLruIdeal.τ).loc Cert.AdamWBranchLruIdeal.main_arg1)
      ∧ r.2.mem ((c.tc : Thread Cert.AdamWBranchLruIdeal.nD Cert.AdamWBranchLruIdeal.τ).loc Cert.AdamWBranchLruIdeal.main_arg2) = m ((c.tc : Thread Cert.AdamWBranchLruIdeal.nD Cert.AdamWBranchLruIdeal.τ).loc Cert.AdamWBranchLruIdeal.main_arg2)
      ∧ r.2.mem ((c.tc : Thread Cert.AdamWBranchLruIdeal.nD Cert.AdamWBranchLruIdeal.τ).loc Cert.AdamWBranchLruIdeal.main_arg3) = m ((c.tc : Thread Cert.AdamWBranchLruIdeal.nD Cert.AdamWBranchLruIdeal.τ).loc Cert.AdamWBranchLruIdeal.main_arg3))
      ∧ r.2.sem = fun _ => 0)

def quiescent_AdamWBranchLruRefIdeal [hAdamWBranchLruRefIdeal : Cert.AdamWBranchLruRefIdeal.Facts] : Prop :=
  ∀ (m : (ℓ : Loc Cert.AdamWBranchLruRefIdeal.nD Cert.AdamWBranchLruRefIdeal.τ Cert.AdamWBranchLruRefIdeal.sig) → Buf (Elt Ideal) ℓ) (g : Dev Cert.AdamWBranchLruRefIdeal.nD → PrngReg), Pre_AdamWBranchLruRefIdeal m →
    θ_run (Cert.AdamWBranchLruRefIdeal.defs (F := Ideal)) (onTc (τ := Cert.AdamWBranchLruRefIdeal.τ) (Cert.AdamWBranchLruRefIdeal.main (F := Ideal))) ⟨m, fun _ => 0, g⟩ (fun r => (∀ c : Dev Cert.AdamWBranchLruRefIdeal.nD,
      r.2.mem ((c.tc : Thread Cert.AdamWBranchLruRefIdeal.nD Cert.AdamWBranchLruRefIdeal.τ).loc Cert.AdamWBranchLruRefIdeal.main_arg0) = m ((c.tc : Thread Cert.AdamWBranchLruRefIdeal.nD Cert.AdamWBranchLruRefIdeal.τ).loc Cert.AdamWBranchLruRefIdeal.main_arg0)
      ∧ r.2.mem ((c.tc : Thread Cert.AdamWBranchLruRefIdeal.nD Cert.AdamWBranchLruRefIdeal.τ).loc Cert.AdamWBranchLruRefIdeal.main_arg1) = m ((c.tc : Thread Cert.AdamWBranchLruRefIdeal.nD Cert.AdamWBranchLruRefIdeal.τ).loc Cert.AdamWBranchLruRefIdeal.main_arg1)
      ∧ r.2.mem ((c.tc : Thread Cert.AdamWBranchLruRefIdeal.nD Cert.AdamWBranchLruRefIdeal.τ).loc Cert.AdamWBranchLruRefIdeal.main_arg2) = m ((c.tc : Thread Cert.AdamWBranchLruRefIdeal.nD Cert.AdamWBranchLruRefIdeal.τ).loc Cert.AdamWBranchLruRefIdeal.main_arg2)
      ∧ r.2.mem ((c.tc : Thread Cert.AdamWBranchLruRefIdeal.nD Cert.AdamWBranchLruRefIdeal.τ).loc Cert.AdamWBranchLruRefIdeal.main_arg3) = m ((c.tc : Thread Cert.AdamWBranchLruRefIdeal.nD Cert.AdamWBranchLruRefIdeal.τ).loc Cert.AdamWBranchLruRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamFfn2Norm [hAdamFfn2Norm : Cert.AdamFfn2Norm.Facts] : Prop :=
  ∀ (m : (ℓ : Loc Cert.AdamFfn2Norm.nD Cert.AdamFfn2Norm.τ Cert.AdamFfn2Norm.sig) → Buf (Elt Bits) ℓ) (g : Dev Cert.AdamFfn2Norm.nD → PrngReg), Pre_AdamFfn2Norm m →
    θ_run (Cert.AdamFfn2Norm.defs (F := Bits)) (onTc (τ := Cert.AdamFfn2Norm.τ) (Cert.AdamFfn2Norm.main (F := Bits))) ⟨m, fun _ => 0, g⟩ (fun r => (∀ c : Dev Cert.AdamFfn2Norm.nD,
      r.2.mem ((c.tc : Thread Cert.AdamFfn2Norm.nD Cert.AdamFfn2Norm.τ).loc Cert.AdamFfn2Norm.main_arg0) = m ((c.tc : Thread Cert.AdamFfn2Norm.nD Cert.AdamFfn2Norm.τ).loc Cert.AdamFfn2Norm.main_arg0)
      ∧ r.2.mem ((c.tc : Thread Cert.AdamFfn2Norm.nD Cert.AdamFfn2Norm.τ).loc Cert.AdamFfn2Norm.main_arg1) = m ((c.tc : Thread Cert.AdamFfn2Norm.nD Cert.AdamFfn2Norm.τ).loc Cert.AdamFfn2Norm.main_arg1)
      ∧ r.2.mem ((c.tc : Thread Cert.AdamFfn2Norm.nD Cert.AdamFfn2Norm.τ).loc Cert.AdamFfn2Norm.main_arg2) = m ((c.tc : Thread Cert.AdamFfn2Norm.nD Cert.AdamFfn2Norm.τ).loc Cert.AdamFfn2Norm.main_arg2)
      ∧ r.2.mem ((c.tc : Thread Cert.AdamFfn2Norm.nD Cert.AdamFfn2Norm.τ).loc Cert.AdamFfn2Norm.main_arg3) = m ((c.tc : Thread Cert.AdamFfn2Norm.nD Cert.AdamFfn2Norm.τ).loc Cert.AdamFfn2Norm.main_arg3))
      ∧ r.2.sem = fun _ => 0)

def quiescent_AdamFfn2NormIdeal [hAdamFfn2NormIdeal : Cert.AdamFfn2NormIdeal.Facts] : Prop :=
  ∀ (m : (ℓ : Loc Cert.AdamFfn2NormIdeal.nD Cert.AdamFfn2NormIdeal.τ Cert.AdamFfn2NormIdeal.sig) → Buf (Elt Ideal) ℓ) (g : Dev Cert.AdamFfn2NormIdeal.nD → PrngReg), Pre_AdamFfn2NormIdeal m →
    θ_run (Cert.AdamFfn2NormIdeal.defs (F := Ideal)) (onTc (τ := Cert.AdamFfn2NormIdeal.τ) (Cert.AdamFfn2NormIdeal.main (F := Ideal))) ⟨m, fun _ => 0, g⟩ (fun r => (∀ c : Dev Cert.AdamFfn2NormIdeal.nD,
      r.2.mem ((c.tc : Thread Cert.AdamFfn2NormIdeal.nD Cert.AdamFfn2NormIdeal.τ).loc Cert.AdamFfn2NormIdeal.main_arg0) = m ((c.tc : Thread Cert.AdamFfn2NormIdeal.nD Cert.AdamFfn2NormIdeal.τ).loc Cert.AdamFfn2NormIdeal.main_arg0)
      ∧ r.2.mem ((c.tc : Thread Cert.AdamFfn2NormIdeal.nD Cert.AdamFfn2NormIdeal.τ).loc Cert.AdamFfn2NormIdeal.main_arg1) = m ((c.tc : Thread Cert.AdamFfn2NormIdeal.nD Cert.AdamFfn2NormIdeal.τ).loc Cert.AdamFfn2NormIdeal.main_arg1)
      ∧ r.2.mem ((c.tc : Thread Cert.AdamFfn2NormIdeal.nD Cert.AdamFfn2NormIdeal.τ).loc Cert.AdamFfn2NormIdeal.main_arg2) = m ((c.tc : Thread Cert.AdamFfn2NormIdeal.nD Cert.AdamFfn2NormIdeal.τ).loc Cert.AdamFfn2NormIdeal.main_arg2)
      ∧ r.2.mem ((c.tc : Thread Cert.AdamFfn2NormIdeal.nD Cert.AdamFfn2NormIdeal.τ).loc Cert.AdamFfn2NormIdeal.main_arg3) = m ((c.tc : Thread Cert.AdamFfn2NormIdeal.nD Cert.AdamFfn2NormIdeal.τ).loc Cert.AdamFfn2NormIdeal.main_arg3))
      ∧ r.2.sem = fun _ => 0)

def quiescent_AdamFfn2NormRefIdeal [hAdamFfn2NormRefIdeal : Cert.AdamFfn2NormRefIdeal.Facts] : Prop :=
  ∀ (m : (ℓ : Loc Cert.AdamFfn2NormRefIdeal.nD Cert.AdamFfn2NormRefIdeal.τ Cert.AdamFfn2NormRefIdeal.sig) → Buf (Elt Ideal) ℓ) (g : Dev Cert.AdamFfn2NormRefIdeal.nD → PrngReg), Pre_AdamFfn2NormRefIdeal m →
    θ_run (Cert.AdamFfn2NormRefIdeal.defs (F := Ideal)) (onTc (τ := Cert.AdamFfn2NormRefIdeal.τ) (Cert.AdamFfn2NormRefIdeal.main (F := Ideal))) ⟨m, fun _ => 0, g⟩ (fun r => (∀ c : Dev Cert.AdamFfn2NormRefIdeal.nD,
      r.2.mem ((c.tc : Thread Cert.AdamFfn2NormRefIdeal.nD Cert.AdamFfn2NormRefIdeal.τ).loc Cert.AdamFfn2NormRefIdeal.main_arg0) = m ((c.tc : Thread Cert.AdamFfn2NormRefIdeal.nD Cert.AdamFfn2NormRefIdeal.τ).loc Cert.AdamFfn2NormRefIdeal.main_arg0)
      ∧ r.2.mem ((c.tc : Thread Cert.AdamFfn2NormRefIdeal.nD Cert.AdamFfn2NormRefIdeal.τ).loc Cert.AdamFfn2NormRefIdeal.main_arg1) = m ((c.tc : Thread Cert.AdamFfn2NormRefIdeal.nD Cert.AdamFfn2NormRefIdeal.τ).loc Cert.AdamFfn2NormRefIdeal.main_arg1)
      ∧ r.2.mem ((c.tc : Thread Cert.AdamFfn2NormRefIdeal.nD Cert.AdamFfn2NormRefIdeal.τ).loc Cert.AdamFfn2NormRefIdeal.main_arg2) = m ((c.tc : Thread Cert.AdamFfn2NormRefIdeal.nD Cert.AdamFfn2NormRefIdeal.τ).loc Cert.AdamFfn2NormRefIdeal.main_arg2)
      ∧ r.2.mem ((c.tc : Thread Cert.AdamFfn2NormRefIdeal.nD Cert.AdamFfn2NormRefIdeal.τ).loc Cert.AdamFfn2NormRefIdeal.main_arg3) = m ((c.tc : Thread Cert.AdamFfn2NormRefIdeal.nD Cert.AdamFfn2NormRefIdeal.τ).loc Cert.AdamFfn2NormRefIdeal.main_arg3))
      ∧ r.2.sem = fun _ => 0)

def quiescent_AdamFfn2WGateUp [hAdamFfn2WGateUp : Cert.AdamFfn2WGateUp.Facts] : Prop :=
  ∀ (m : (ℓ : Loc Cert.AdamFfn2WGateUp.nD Cert.AdamFfn2WGateUp.τ Cert.AdamFfn2WGateUp.sig) → Buf (Elt Bits) ℓ) (g : Dev Cert.AdamFfn2WGateUp.nD → PrngReg), Pre_AdamFfn2WGateUp m →
    θ_run (Cert.AdamFfn2WGateUp.defs (F := Bits)) (onTc (τ := Cert.AdamFfn2WGateUp.τ) (Cert.AdamFfn2WGateUp.main (F := Bits))) ⟨m, fun _ => 0, g⟩ (fun r => (∀ c : Dev Cert.AdamFfn2WGateUp.nD,
      r.2.mem ((c.tc : Thread Cert.AdamFfn2WGateUp.nD Cert.AdamFfn2WGateUp.τ).loc Cert.AdamFfn2WGateUp.main_arg0) = m ((c.tc : Thread Cert.AdamFfn2WGateUp.nD Cert.AdamFfn2WGateUp.τ).loc Cert.AdamFfn2WGateUp.main_arg0)
      ∧ r.2.mem ((c.tc : Thread Cert.AdamFfn2WGateUp.nD Cert.AdamFfn2WGateUp.τ).loc Cert.AdamFfn2WGateUp.main_arg1) = m ((c.tc : Thread Cert.AdamFfn2WGateUp.nD Cert.AdamFfn2WGateUp.τ).loc Cert.AdamFfn2WGateUp.main_arg1)
      ∧ r.2.mem ((c.tc : Thread Cert.AdamFfn2WGateUp.nD Cert.AdamFfn2WGateUp.τ).loc Cert.AdamFfn2WGateUp.main_arg2) = m ((c.tc : Thread Cert.AdamFfn2WGateUp.nD Cert.AdamFfn2WGateUp.τ).loc Cert.AdamFfn2WGateUp.main_arg2)
      ∧ r.2.mem ((c.tc : Thread Cert.AdamFfn2WGateUp.nD Cert.AdamFfn2WGateUp.τ).loc Cert.AdamFfn2WGateUp.main_arg3) = m ((c.tc : Thread Cert.AdamFfn2WGateUp.nD Cert.AdamFfn2WGateUp.τ).loc Cert.AdamFfn2WGateUp.main_arg3))
      ∧ r.2.sem = fun _ => 0)

def quiescent_AdamFfn2WGateUpIdeal [hAdamFfn2WGateUpIdeal : Cert.AdamFfn2WGateUpIdeal.Facts] : Prop :=
  ∀ (m : (ℓ : Loc Cert.AdamFfn2WGateUpIdeal.nD Cert.AdamFfn2WGateUpIdeal.τ Cert.AdamFfn2WGateUpIdeal.sig) → Buf (Elt Ideal) ℓ) (g : Dev Cert.AdamFfn2WGateUpIdeal.nD → PrngReg), Pre_AdamFfn2WGateUpIdeal m →
    θ_run (Cert.AdamFfn2WGateUpIdeal.defs (F := Ideal)) (onTc (τ := Cert.AdamFfn2WGateUpIdeal.τ) (Cert.AdamFfn2WGateUpIdeal.main (F := Ideal))) ⟨m, fun _ => 0, g⟩ (fun r => (∀ c : Dev Cert.AdamFfn2WGateUpIdeal.nD,
      r.2.mem ((c.tc : Thread Cert.AdamFfn2WGateUpIdeal.nD Cert.AdamFfn2WGateUpIdeal.τ).loc Cert.AdamFfn2WGateUpIdeal.main_arg0) = m ((c.tc : Thread Cert.AdamFfn2WGateUpIdeal.nD Cert.AdamFfn2WGateUpIdeal.τ).loc Cert.AdamFfn2WGateUpIdeal.main_arg0)
      ∧ r.2.mem ((c.tc : Thread Cert.AdamFfn2WGateUpIdeal.nD Cert.AdamFfn2WGateUpIdeal.τ).loc Cert.AdamFfn2WGateUpIdeal.main_arg1) = m ((c.tc : Thread Cert.AdamFfn2WGateUpIdeal.nD Cert.AdamFfn2WGateUpIdeal.τ).loc Cert.AdamFfn2WGateUpIdeal.main_arg1)
      ∧ r.2.mem ((c.tc : Thread Cert.AdamFfn2WGateUpIdeal.nD Cert.AdamFfn2WGateUpIdeal.τ).loc Cert.AdamFfn2WGateUpIdeal.main_arg2) = m ((c.tc : Thread Cert.AdamFfn2WGateUpIdeal.nD Cert.AdamFfn2WGateUpIdeal.τ).loc Cert.AdamFfn2WGateUpIdeal.main_arg2)
      ∧ r.2.mem ((c.tc : Thread Cert.AdamFfn2WGateUpIdeal.nD Cert.AdamFfn2WGateUpIdeal.τ).loc Cert.AdamFfn2WGateUpIdeal.main_arg3) = m ((c.tc : Thread Cert.AdamFfn2WGateUpIdeal.nD Cert.AdamFfn2WGateUpIdeal.τ).loc Cert.AdamFfn2WGateUpIdeal.main_arg3))
      ∧ r.2.sem = fun _ => 0)

def quiescent_AdamFfn2WGateUpRefIdeal [hAdamFfn2WGateUpRefIdeal : Cert.AdamFfn2WGateUpRefIdeal.Facts] : Prop :=
  ∀ (m : (ℓ : Loc Cert.AdamFfn2WGateUpRefIdeal.nD Cert.AdamFfn2WGateUpRefIdeal.τ Cert.AdamFfn2WGateUpRefIdeal.sig) → Buf (Elt Ideal) ℓ) (g : Dev Cert.AdamFfn2WGateUpRefIdeal.nD → PrngReg), Pre_AdamFfn2WGateUpRefIdeal m →
    θ_run (Cert.AdamFfn2WGateUpRefIdeal.defs (F := Ideal)) (onTc (τ := Cert.AdamFfn2WGateUpRefIdeal.τ) (Cert.AdamFfn2WGateUpRefIdeal.main (F := Ideal))) ⟨m, fun _ => 0, g⟩ (fun r => (∀ c : Dev Cert.AdamFfn2WGateUpRefIdeal.nD,
      r.2.mem ((c.tc : Thread Cert.AdamFfn2WGateUpRefIdeal.nD Cert.AdamFfn2WGateUpRefIdeal.τ).loc Cert.AdamFfn2WGateUpRefIdeal.main_arg0) = m ((c.tc : Thread Cert.AdamFfn2WGateUpRefIdeal.nD Cert.AdamFfn2WGateUpRefIdeal.τ).loc Cert.AdamFfn2WGateUpRefIdeal.main_arg0)
      ∧ r.2.mem ((c.tc : Thread Cert.AdamFfn2WGateUpRefIdeal.nD Cert.AdamFfn2WGateUpRefIdeal.τ).loc Cert.AdamFfn2WGateUpRefIdeal.main_arg1) = m ((c.tc : Thread Cert.AdamFfn2WGateUpRefIdeal.nD Cert.AdamFfn2WGateUpRefIdeal.τ).loc Cert.AdamFfn2WGateUpRefIdeal.main_arg1)
      ∧ r.2.mem ((c.tc : Thread Cert.AdamFfn2WGateUpRefIdeal.nD Cert.AdamFfn2WGateUpRefIdeal.τ).loc Cert.AdamFfn2WGateUpRefIdeal.main_arg2) = m ((c.tc : Thread Cert.AdamFfn2WGateUpRefIdeal.nD Cert.AdamFfn2WGateUpRefIdeal.τ).loc Cert.AdamFfn2WGateUpRefIdeal.main_arg2)
      ∧ r.2.mem ((c.tc : Thread Cert.AdamFfn2WGateUpRefIdeal.nD Cert.AdamFfn2WGateUpRefIdeal.τ).loc Cert.AdamFfn2WGateUpRefIdeal.main_arg3) = m ((c.tc : Thread Cert.AdamFfn2WGateUpRefIdeal.nD Cert.AdamFfn2WGateUpRefIdeal.τ).loc Cert.AdamFfn2WGateUpRefIdeal.main_arg3))
      ∧ r.2.sem = fun _ => 0)

def quiescent_AdamFfn2WDown [hAdamFfn2WDown : Cert.AdamFfn2WDown.Facts] : Prop :=
  ∀ (m : (ℓ : Loc Cert.AdamFfn2WDown.nD Cert.AdamFfn2WDown.τ Cert.AdamFfn2WDown.sig) → Buf (Elt Bits) ℓ) (g : Dev Cert.AdamFfn2WDown.nD → PrngReg), Pre_AdamFfn2WDown m →
    θ_run (Cert.AdamFfn2WDown.defs (F := Bits)) (onTc (τ := Cert.AdamFfn2WDown.τ) (Cert.AdamFfn2WDown.main (F := Bits))) ⟨m, fun _ => 0, g⟩ (fun r => (∀ c : Dev Cert.AdamFfn2WDown.nD,
      r.2.mem ((c.tc : Thread Cert.AdamFfn2WDown.nD Cert.AdamFfn2WDown.τ).loc Cert.AdamFfn2WDown.main_arg0) = m ((c.tc : Thread Cert.AdamFfn2WDown.nD Cert.AdamFfn2WDown.τ).loc Cert.AdamFfn2WDown.main_arg0)
      ∧ r.2.mem ((c.tc : Thread Cert.AdamFfn2WDown.nD Cert.AdamFfn2WDown.τ).loc Cert.AdamFfn2WDown.main_arg1) = m ((c.tc : Thread Cert.AdamFfn2WDown.nD Cert.AdamFfn2WDown.τ).loc Cert.AdamFfn2WDown.main_arg1)
      ∧ r.2.mem ((c.tc : Thread Cert.AdamFfn2WDown.nD Cert.AdamFfn2WDown.τ).loc Cert.AdamFfn2WDown.main_arg2) = m ((c.tc : Thread Cert.AdamFfn2WDown.nD Cert.AdamFfn2WDown.τ).loc Cert.AdamFfn2WDown.main_arg2)
      ∧ r.2.mem ((c.tc : Thread Cert.AdamFfn2WDown.nD Cert.AdamFfn2WDown.τ).loc Cert.AdamFfn2WDown.main_arg3) = m ((c.tc : Thread Cert.AdamFfn2WDown.nD Cert.AdamFfn2WDown.τ).loc Cert.AdamFfn2WDown.main_arg3))
      ∧ r.2.sem = fun _ => 0)

def quiescent_AdamFfn2WDownIdeal [hAdamFfn2WDownIdeal : Cert.AdamFfn2WDownIdeal.Facts] : Prop :=
  ∀ (m : (ℓ : Loc Cert.AdamFfn2WDownIdeal.nD Cert.AdamFfn2WDownIdeal.τ Cert.AdamFfn2WDownIdeal.sig) → Buf (Elt Ideal) ℓ) (g : Dev Cert.AdamFfn2WDownIdeal.nD → PrngReg), Pre_AdamFfn2WDownIdeal m →
    θ_run (Cert.AdamFfn2WDownIdeal.defs (F := Ideal)) (onTc (τ := Cert.AdamFfn2WDownIdeal.τ) (Cert.AdamFfn2WDownIdeal.main (F := Ideal))) ⟨m, fun _ => 0, g⟩ (fun r => (∀ c : Dev Cert.AdamFfn2WDownIdeal.nD,
      r.2.mem ((c.tc : Thread Cert.AdamFfn2WDownIdeal.nD Cert.AdamFfn2WDownIdeal.τ).loc Cert.AdamFfn2WDownIdeal.main_arg0) = m ((c.tc : Thread Cert.AdamFfn2WDownIdeal.nD Cert.AdamFfn2WDownIdeal.τ).loc Cert.AdamFfn2WDownIdeal.main_arg0)
      ∧ r.2.mem ((c.tc : Thread Cert.AdamFfn2WDownIdeal.nD Cert.AdamFfn2WDownIdeal.τ).loc Cert.AdamFfn2WDownIdeal.main_arg1) = m ((c.tc : Thread Cert.AdamFfn2WDownIdeal.nD Cert.AdamFfn2WDownIdeal.τ).loc Cert.AdamFfn2WDownIdeal.main_arg1)
      ∧ r.2.mem ((c.tc : Thread Cert.AdamFfn2WDownIdeal.nD Cert.AdamFfn2WDownIdeal.τ).loc Cert.AdamFfn2WDownIdeal.main_arg2) = m ((c.tc : Thread Cert.AdamFfn2WDownIdeal.nD Cert.AdamFfn2WDownIdeal.τ).loc Cert.AdamFfn2WDownIdeal.main_arg2)
      ∧ r.2.mem ((c.tc : Thread Cert.AdamFfn2WDownIdeal.nD Cert.AdamFfn2WDownIdeal.τ).loc Cert.AdamFfn2WDownIdeal.main_arg3) = m ((c.tc : Thread Cert.AdamFfn2WDownIdeal.nD Cert.AdamFfn2WDownIdeal.τ).loc Cert.AdamFfn2WDownIdeal.main_arg3))
      ∧ r.2.sem = fun _ => 0)

def quiescent_AdamFfn2WDownRefIdeal [hAdamFfn2WDownRefIdeal : Cert.AdamFfn2WDownRefIdeal.Facts] : Prop :=
  ∀ (m : (ℓ : Loc Cert.AdamFfn2WDownRefIdeal.nD Cert.AdamFfn2WDownRefIdeal.τ Cert.AdamFfn2WDownRefIdeal.sig) → Buf (Elt Ideal) ℓ) (g : Dev Cert.AdamFfn2WDownRefIdeal.nD → PrngReg), Pre_AdamFfn2WDownRefIdeal m →
    θ_run (Cert.AdamFfn2WDownRefIdeal.defs (F := Ideal)) (onTc (τ := Cert.AdamFfn2WDownRefIdeal.τ) (Cert.AdamFfn2WDownRefIdeal.main (F := Ideal))) ⟨m, fun _ => 0, g⟩ (fun r => (∀ c : Dev Cert.AdamFfn2WDownRefIdeal.nD,
      r.2.mem ((c.tc : Thread Cert.AdamFfn2WDownRefIdeal.nD Cert.AdamFfn2WDownRefIdeal.τ).loc Cert.AdamFfn2WDownRefIdeal.main_arg0) = m ((c.tc : Thread Cert.AdamFfn2WDownRefIdeal.nD Cert.AdamFfn2WDownRefIdeal.τ).loc Cert.AdamFfn2WDownRefIdeal.main_arg0)
      ∧ r.2.mem ((c.tc : Thread Cert.AdamFfn2WDownRefIdeal.nD Cert.AdamFfn2WDownRefIdeal.τ).loc Cert.AdamFfn2WDownRefIdeal.main_arg1) = m ((c.tc : Thread Cert.AdamFfn2WDownRefIdeal.nD Cert.AdamFfn2WDownRefIdeal.τ).loc Cert.AdamFfn2WDownRefIdeal.main_arg1)
      ∧ r.2.mem ((c.tc : Thread Cert.AdamFfn2WDownRefIdeal.nD Cert.AdamFfn2WDownRefIdeal.τ).loc Cert.AdamFfn2WDownRefIdeal.main_arg2) = m ((c.tc : Thread Cert.AdamFfn2WDownRefIdeal.nD Cert.AdamFfn2WDownRefIdeal.τ).loc Cert.AdamFfn2WDownRefIdeal.main_arg2)
      ∧ r.2.mem ((c.tc : Thread Cert.AdamFfn2WDownRefIdeal.nD Cert.AdamFfn2WDownRefIdeal.τ).loc Cert.AdamFfn2WDownRefIdeal.main_arg3) = m ((c.tc : Thread Cert.AdamFfn2WDownRefIdeal.nD Cert.AdamFfn2WDownRefIdeal.τ).loc Cert.AdamFfn2WDownRefIdeal.main_arg3))
      ∧ r.2.sem = fun _ => 0)

def quiescent_AdamFinalNorm [hAdamFinalNorm : Cert.AdamFinalNorm.Facts] : Prop :=
  ∀ (m : (ℓ : Loc Cert.AdamFinalNorm.nD Cert.AdamFinalNorm.τ Cert.AdamFinalNorm.sig) → Buf (Elt Bits) ℓ) (g : Dev Cert.AdamFinalNorm.nD → PrngReg), Pre_AdamFinalNorm m →
    θ_run (Cert.AdamFinalNorm.defs (F := Bits)) (onTc (τ := Cert.AdamFinalNorm.τ) (Cert.AdamFinalNorm.main (F := Bits))) ⟨m, fun _ => 0, g⟩ (fun r => (∀ c : Dev Cert.AdamFinalNorm.nD,
      r.2.mem ((c.tc : Thread Cert.AdamFinalNorm.nD Cert.AdamFinalNorm.τ).loc Cert.AdamFinalNorm.main_arg0) = m ((c.tc : Thread Cert.AdamFinalNorm.nD Cert.AdamFinalNorm.τ).loc Cert.AdamFinalNorm.main_arg0)
      ∧ r.2.mem ((c.tc : Thread Cert.AdamFinalNorm.nD Cert.AdamFinalNorm.τ).loc Cert.AdamFinalNorm.main_arg1) = m ((c.tc : Thread Cert.AdamFinalNorm.nD Cert.AdamFinalNorm.τ).loc Cert.AdamFinalNorm.main_arg1)
      ∧ r.2.mem ((c.tc : Thread Cert.AdamFinalNorm.nD Cert.AdamFinalNorm.τ).loc Cert.AdamFinalNorm.main_arg2) = m ((c.tc : Thread Cert.AdamFinalNorm.nD Cert.AdamFinalNorm.τ).loc Cert.AdamFinalNorm.main_arg2)
      ∧ r.2.mem ((c.tc : Thread Cert.AdamFinalNorm.nD Cert.AdamFinalNorm.τ).loc Cert.AdamFinalNorm.main_arg3) = m ((c.tc : Thread Cert.AdamFinalNorm.nD Cert.AdamFinalNorm.τ).loc Cert.AdamFinalNorm.main_arg3))
      ∧ r.2.sem = fun _ => 0)

def quiescent_AdamFinalNormIdeal [hAdamFinalNormIdeal : Cert.AdamFinalNormIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg), Pre_AdamFinalNormIdeal m →
    θ_run (Cert.AdamFinalNormIdeal.defs (F := Ideal)) (onTc (τ := Cert.AdamFinalNormIdeal.τ) (Cert.AdamFinalNormIdeal.main (F := Ideal))) ⟨m, fun _ => 0, g⟩ (fun r => (∀ c : Dev Cert.AdamFinalNormIdeal.nD,
      r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
      ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
      ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
      ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ r.2.sem = fun _ => 0)

def quiescent_AdamFinalNormRefIdeal [hAdamFinalNormRefIdeal : Cert.AdamFinalNormRefIdeal.Facts] : Prop :=
  ∀ (m : (ℓ : Loc Cert.AdamFinalNormRefIdeal.nD Cert.AdamFinalNormRefIdeal.τ Cert.AdamFinalNormRefIdeal.sig) → Buf (Elt Ideal) ℓ) (g : Dev Cert.AdamFinalNormRefIdeal.nD → PrngReg), Pre_AdamFinalNormRefIdeal m →
    θ_run (Cert.AdamFinalNormRefIdeal.defs (F := Ideal)) (onTc (τ := Cert.AdamFinalNormRefIdeal.τ) (Cert.AdamFinalNormRefIdeal.main (F := Ideal))) ⟨m, fun _ => 0, g⟩ (fun r => (∀ c : Dev Cert.AdamFinalNormRefIdeal.nD,
      r.2.mem ((c.tc : Thread Cert.AdamFinalNormRefIdeal.nD Cert.AdamFinalNormRefIdeal.τ).loc Cert.AdamFinalNormRefIdeal.main_arg0) = m ((c.tc : Thread Cert.AdamFinalNormRefIdeal.nD Cert.AdamFinalNormRefIdeal.τ).loc Cert.AdamFinalNormRefIdeal.main_arg0)
      ∧ r.2.mem ((c.tc : Thread Cert.AdamFinalNormRefIdeal.nD Cert.AdamFinalNormRefIdeal.τ).loc Cert.AdamFinalNormRefIdeal.main_arg1) = m ((c.tc : Thread Cert.AdamFinalNormRefIdeal.nD Cert.AdamFinalNormRefIdeal.τ).loc Cert.AdamFinalNormRefIdeal.main_arg1)
      ∧ r.2.mem ((c.tc : Thread Cert.AdamFinalNormRefIdeal.nD Cert.AdamFinalNormRefIdeal.τ).loc Cert.AdamFinalNormRefIdeal.main_arg2) = m ((c.tc : Thread Cert.AdamFinalNormRefIdeal.nD Cert.AdamFinalNormRefIdeal.τ).loc Cert.AdamFinalNormRefIdeal.main_arg2)
      ∧ r.2.mem ((c.tc : Thread Cert.AdamFinalNormRefIdeal.nD Cert.AdamFinalNormRefIdeal.τ).loc Cert.AdamFinalNormRefIdeal.main_arg3) = m ((c.tc : Thread Cert.AdamFinalNormRefIdeal.nD Cert.AdamFinalNormRefIdeal.τ).loc Cert.AdamFinalNormRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GnormFwd [hGnormFwd : Cert.GnormFwd.Facts] : Prop :=
  ∀ (m : (ℓ : Loc Cert.GnormFwd.nD Cert.GnormFwd.τ Cert.GnormFwd.sig) → Buf (Elt Bits) ℓ) (g : Dev Cert.GnormFwd.nD → PrngReg), Pre_GnormFwd m →
    θ_run (Cert.GnormFwd.defs (F := Bits)) (onTc (τ := Cert.GnormFwd.τ) (Cert.GnormFwd.main (F := Bits))) ⟨m, fun _ => 0, g⟩ (fun r => (∀ c : Dev Cert.GnormFwd.nD,
      r.2.mem ((c.tc : Thread Cert.GnormFwd.nD Cert.GnormFwd.τ).loc Cert.GnormFwd.main_arg0) = m ((c.tc : Thread Cert.GnormFwd.nD Cert.GnormFwd.τ).loc Cert.GnormFwd.main_arg0)
      ∧ r.2.mem ((c.tc : Thread Cert.GnormFwd.nD Cert.GnormFwd.τ).loc Cert.GnormFwd.main_arg1) = m ((c.tc : Thread Cert.GnormFwd.nD Cert.GnormFwd.τ).loc Cert.GnormFwd.main_arg1)
      ∧ r.2.mem ((c.tc : Thread Cert.GnormFwd.nD Cert.GnormFwd.τ).loc Cert.GnormFwd.main_arg2) = m ((c.tc : Thread Cert.GnormFwd.nD Cert.GnormFwd.τ).loc Cert.GnormFwd.main_arg2))
      ∧ r.2.sem = fun _ => 0)

def quiescent_GnormFwdIdeal [hGnormFwdIdeal : Cert.GnormFwdIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg), Pre_GnormFwdIdeal m →
    θ_run (Cert.GnormFwdIdeal.defs (F := Ideal)) (onTc (τ := Cert.GnormFwdIdeal.τ) (Cert.GnormFwdIdeal.main (F := Ideal))) ⟨m, fun _ => 0, g⟩ (fun r => (∀ c : Dev Cert.GnormFwdIdeal.nD,
      r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
      ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
      ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ r.2.sem = fun _ => 0)

def quiescent_GnormFwdRefIdeal [hGnormFwdRefIdeal : Cert.GnormFwdRefIdeal.Facts] : Prop :=
  ∀ (m : (ℓ : Loc Cert.GnormFwdRefIdeal.nD Cert.GnormFwdRefIdeal.τ Cert.GnormFwdRefIdeal.sig) → Buf (Elt Ideal) ℓ) (g : Dev Cert.GnormFwdRefIdeal.nD → PrngReg), Pre_GnormFwdRefIdeal m →
    θ_run (Cert.GnormFwdRefIdeal.defs (F := Ideal)) (onTc (τ := Cert.GnormFwdRefIdeal.τ) (Cert.GnormFwdRefIdeal.main (F := Ideal))) ⟨m, fun _ => 0, g⟩ (fun r => (∀ c : Dev Cert.GnormFwdRefIdeal.nD,
      r.2.mem ((c.tc : Thread Cert.GnormFwdRefIdeal.nD Cert.GnormFwdRefIdeal.τ).loc Cert.GnormFwdRefIdeal.main_arg0) = m ((c.tc : Thread Cert.GnormFwdRefIdeal.nD Cert.GnormFwdRefIdeal.τ).loc Cert.GnormFwdRefIdeal.main_arg0)
      ∧ r.2.mem ((c.tc : Thread Cert.GnormFwdRefIdeal.nD Cert.GnormFwdRefIdeal.τ).loc Cert.GnormFwdRefIdeal.main_arg1) = m ((c.tc : Thread Cert.GnormFwdRefIdeal.nD Cert.GnormFwdRefIdeal.τ).loc Cert.GnormFwdRefIdeal.main_arg1)
      ∧ r.2.mem ((c.tc : Thread Cert.GnormFwdRefIdeal.nD Cert.GnormFwdRefIdeal.τ).loc Cert.GnormFwdRefIdeal.main_arg2) = m ((c.tc : Thread Cert.GnormFwdRefIdeal.nD Cert.GnormFwdRefIdeal.τ).loc Cert.GnormFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_SumGrads [hSumGrads : Cert.SumGrads.Facts] : Prop :=
  ∀ (m : (ℓ : Loc Cert.SumGrads.nD Cert.SumGrads.τ Cert.SumGrads.sig) → Buf (Elt Bits) ℓ) (g : Dev Cert.SumGrads.nD → PrngReg), Pre_SumGrads m →
    θ_run (Cert.SumGrads.defs (F := Bits)) (onTc (τ := Cert.SumGrads.τ) (Cert.SumGrads.main (F := Bits))) ⟨m, fun _ => 0, g⟩ (fun r => (∀ c : Dev Cert.SumGrads.nD,
      r.2.mem ((c.tc : Thread Cert.SumGrads.nD Cert.SumGrads.τ).loc Cert.SumGrads.main_arg0) = m ((c.tc : Thread Cert.SumGrads.nD Cert.SumGrads.τ).loc Cert.SumGrads.main_arg0))
      ∧ r.2.sem = fun _ => 0)

def quiescent_SumGradsIdeal [hSumGradsIdeal : Cert.SumGradsIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg), Pre_SumGradsIdeal m →
    θ_run (Cert.SumGradsIdeal.defs (F := Ideal)) (onTc (τ := Cert.SumGradsIdeal.τ) (Cert.SumGradsIdeal.main (F := Ideal))) ⟨m, fun _ => 0, g⟩ (fun r => (∀ c : Dev Cert.SumGradsIdeal.nD,
      r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ r.2.sem = fun _ => 0)

def quiescent_SumGradsRefIdeal [hSumGradsRefIdeal : Cert.SumGradsRefIdeal.Facts] : Prop :=
  ∀ (m : (ℓ : Loc Cert.SumGradsRefIdeal.nD Cert.SumGradsRefIdeal.τ Cert.SumGradsRefIdeal.sig) → Buf (Elt Ideal) ℓ) (g : Dev Cert.SumGradsRefIdeal.nD → PrngReg), Pre_SumGradsRefIdeal m →
    θ_run (Cert.SumGradsRefIdeal.defs (F := Ideal)) (onTc (τ := Cert.SumGradsRefIdeal.τ) (Cert.SumGradsRefIdeal.main (F := Ideal))) ⟨m, fun _ => 0, g⟩ (fun r => (∀ c : Dev Cert.SumGradsRefIdeal.nD,
      r.2.mem ((c.tc : Thread Cert.SumGradsRefIdeal.nD Cert.SumGradsRefIdeal.τ).loc Cert.SumGradsRefIdeal.main_arg0) = m ((c.tc : Thread Cert.SumGradsRefIdeal.nD Cert.SumGradsRefIdeal.τ).loc Cert.SumGradsRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MixInDx_MixInDxIdeal : Prop :=
  True

def algebraic_MixInDxIdeal_MixInDxRefIdeal [hMixInDxIdeal : Cert.MixInDxIdeal.Facts] [hMixInDxRefIdeal : Cert.MixInDxRefIdeal.Facts] : Prop :=
  ∀ (m : (ℓ : Loc Cert.MixInDxIdeal.nD Cert.MixInDxIdeal.τ Cert.MixInDxIdeal.sig) → Buf (Elt Ideal) ℓ) (g : Dev Cert.MixInDxIdeal.nD → PrngReg)
    (m' : (ℓ : Loc Cert.MixInDxRefIdeal.nD Cert.MixInDxRefIdeal.τ Cert.MixInDxRefIdeal.sig) → Buf (Elt Ideal) ℓ) (g' : Dev Cert.MixInDxRefIdeal.nD → PrngReg), Pre_MixInDxIdeal m →
    (∀ c : Dev Cert.MixInDxIdeal.nD,
      m' ((c.tc : Thread Cert.MixInDxRefIdeal.nD Cert.MixInDxRefIdeal.τ).loc Cert.MixInDxRefIdeal.main_arg0) = m ((c.tc : Thread Cert.MixInDxIdeal.nD Cert.MixInDxIdeal.τ).loc Cert.MixInDxIdeal.main_arg0)
      ∧ m' ((c.tc : Thread Cert.MixInDxRefIdeal.nD Cert.MixInDxRefIdeal.τ).loc Cert.MixInDxRefIdeal.main_arg1) = m ((c.tc : Thread Cert.MixInDxIdeal.nD Cert.MixInDxIdeal.τ).loc Cert.MixInDxIdeal.main_arg1)) →
    ∃ (v0 : (c : Dev Cert.MixInDxIdeal.nD) → Buf (Elt Ideal) ((c.tc : Thread Cert.MixInDxIdeal.nD Cert.MixInDxIdeal.τ).loc Cert.MixInDxIdeal.main_v0)),
      θ_run (Cert.MixInDxIdeal.defs (F := Ideal)) (onTc (τ := Cert.MixInDxIdeal.τ) (Cert.MixInDxIdeal.main (F := Ideal))) ⟨m, fun _ => 0, g⟩ (fun r => ∀ c : Dev Cert.MixInDxIdeal.nD,
          r.2.mem ((c.tc : Thread Cert.MixInDxIdeal.nD Cert.MixInDxIdeal.τ).loc Cert.MixInDxIdeal.main_v0) = v0 c
          ∧ r.2.mem ((c.tc : Thread Cert.MixInDxIdeal.nD Cert.MixInDxIdeal.τ).loc Cert.MixInDxIdeal.main_arg0) = m ((c.tc : Thread Cert.MixInDxIdeal.nD Cert.MixInDxIdeal.τ).loc Cert.MixInDxIdeal.main_arg0)
          ∧ r.2.mem ((c.tc : Thread Cert.MixInDxIdeal.nD Cert.MixInDxIdeal.τ).loc Cert.MixInDxIdeal.main_arg1) = m ((c.tc : Thread Cert.MixInDxIdeal.nD Cert.MixInDxIdeal.τ).loc Cert.MixInDxIdeal.main_arg1))
      ∧ θ_run (Cert.MixInDxRefIdeal.defs (F := Ideal)) (onTc (τ := Cert.MixInDxRefIdeal.τ) (Cert.MixInDxRefIdeal.main (F := Ideal))) ⟨m', fun _ => 0, g'⟩ (fun r => ∀ c : Dev Cert.MixInDxRefIdeal.nD,
          r.2.mem ((c.tc : Thread Cert.MixInDxRefIdeal.nD Cert.MixInDxRefIdeal.τ).loc Cert.MixInDxRefIdeal.main_v5) = v0 c
          ∧ r.2.mem ((c.tc : Thread Cert.MixInDxRefIdeal.nD Cert.MixInDxRefIdeal.τ).loc Cert.MixInDxRefIdeal.main_arg0) = m' ((c.tc : Thread Cert.MixInDxRefIdeal.nD Cert.MixInDxRefIdeal.τ).loc Cert.MixInDxRefIdeal.main_arg0)
          ∧ r.2.mem ((c.tc : Thread Cert.MixInDxRefIdeal.nD Cert.MixInDxRefIdeal.τ).loc Cert.MixInDxRefIdeal.main_arg1) = m' ((c.tc : Thread Cert.MixInDxRefIdeal.nD Cert.MixInDxRefIdeal.τ).loc Cert.MixInDxRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v0)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v0) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v7) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v3) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v9) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v7) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v5) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_v5) = v1 c
          ∧ r.2.mem ((c.tc : Thread Cert.FfnUpRefIdeal.nD Cert.FfnUpRefIdeal.τ).loc Cert.FfnUpRefIdeal.main_v8) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_AdamMetaTokens_AdamMetaTokensIdeal : Prop :=
  True

def algebraic_AdamMetaTokensIdeal_AdamMetaTokensRefIdeal [hAdamMetaTokensIdeal : Cert.AdamMetaTokensIdeal.Facts] [hAdamMetaTokensRefIdeal : Cert.AdamMetaTokensRefIdeal.Facts] : Prop :=
  ∀ (m : (ℓ : Loc Cert.AdamMetaTokensIdeal.nD Cert.AdamMetaTokensIdeal.τ Cert.AdamMetaTokensIdeal.sig) → Buf (Elt Ideal) ℓ) (g : Dev Cert.AdamMetaTokensIdeal.nD → PrngReg)
    (m' : (ℓ : Loc Cert.AdamMetaTokensRefIdeal.nD Cert.AdamMetaTokensRefIdeal.τ Cert.AdamMetaTokensRefIdeal.sig) → Buf (Elt Ideal) ℓ) (g' : Dev Cert.AdamMetaTokensRefIdeal.nD → PrngReg), Pre_AdamMetaTokensIdeal m →
    (∀ c : Dev Cert.AdamMetaTokensIdeal.nD,
      m' ((c.tc : Thread Cert.AdamMetaTokensRefIdeal.nD Cert.AdamMetaTokensRefIdeal.τ).loc Cert.AdamMetaTokensRefIdeal.main_arg0) = m ((c.tc : Thread Cert.AdamMetaTokensIdeal.nD Cert.AdamMetaTokensIdeal.τ).loc Cert.AdamMetaTokensIdeal.main_arg0)
      ∧ m' ((c.tc : Thread Cert.AdamMetaTokensRefIdeal.nD Cert.AdamMetaTokensRefIdeal.τ).loc Cert.AdamMetaTokensRefIdeal.main_arg1) = m ((c.tc : Thread Cert.AdamMetaTokensIdeal.nD Cert.AdamMetaTokensIdeal.τ).loc Cert.AdamMetaTokensIdeal.main_arg1)
      ∧ m' ((c.tc : Thread Cert.AdamMetaTokensRefIdeal.nD Cert.AdamMetaTokensRefIdeal.τ).loc Cert.AdamMetaTokensRefIdeal.main_arg2) = m ((c.tc : Thread Cert.AdamMetaTokensIdeal.nD Cert.AdamMetaTokensIdeal.τ).loc Cert.AdamMetaTokensIdeal.main_arg2)
      ∧ m' ((c.tc : Thread Cert.AdamMetaTokensRefIdeal.nD Cert.AdamMetaTokensRefIdeal.τ).loc Cert.AdamMetaTokensRefIdeal.main_arg3) = m ((c.tc : Thread Cert.AdamMetaTokensIdeal.nD Cert.AdamMetaTokensIdeal.τ).loc Cert.AdamMetaTokensIdeal.main_arg3)) →
    ∃ (v0 : (c : Dev Cert.AdamMetaTokensIdeal.nD) → Buf (Elt Ideal) ((c.tc : Thread Cert.AdamMetaTokensIdeal.nD Cert.AdamMetaTokensIdeal.τ).loc Cert.AdamMetaTokensIdeal.main_v0_0)) (v1 : (c : Dev Cert.AdamMetaTokensIdeal.nD) → Buf (Elt Ideal) ((c.tc : Thread Cert.AdamMetaTokensIdeal.nD Cert.AdamMetaTokensIdeal.τ).loc Cert.AdamMetaTokensIdeal.main_v0_1)) (v2 : (c : Dev Cert.AdamMetaTokensIdeal.nD) → Buf (Elt Ideal) ((c.tc : Thread Cert.AdamMetaTokensIdeal.nD Cert.AdamMetaTokensIdeal.τ).loc Cert.AdamMetaTokensIdeal.main_v0_2)),
      θ_run (Cert.AdamMetaTokensIdeal.defs (F := Ideal)) (onTc (τ := Cert.AdamMetaTokensIdeal.τ) (Cert.AdamMetaTokensIdeal.main (F := Ideal))) ⟨m, fun _ => 0, g⟩ (fun r => ∀ c : Dev Cert.AdamMetaTokensIdeal.nD,
          r.2.mem ((c.tc : Thread Cert.AdamMetaTokensIdeal.nD Cert.AdamMetaTokensIdeal.τ).loc Cert.AdamMetaTokensIdeal.main_v0_0) = v0 c
          ∧ r.2.mem ((c.tc : Thread Cert.AdamMetaTokensIdeal.nD Cert.AdamMetaTokensIdeal.τ).loc Cert.AdamMetaTokensIdeal.main_v0_1) = v1 c
          ∧ r.2.mem ((c.tc : Thread Cert.AdamMetaTokensIdeal.nD Cert.AdamMetaTokensIdeal.τ).loc Cert.AdamMetaTokensIdeal.main_v0_2) = v2 c
          ∧ r.2.mem ((c.tc : Thread Cert.AdamMetaTokensIdeal.nD Cert.AdamMetaTokensIdeal.τ).loc Cert.AdamMetaTokensIdeal.main_arg0) = m ((c.tc : Thread Cert.AdamMetaTokensIdeal.nD Cert.AdamMetaTokensIdeal.τ).loc Cert.AdamMetaTokensIdeal.main_arg0)
          ∧ r.2.mem ((c.tc : Thread Cert.AdamMetaTokensIdeal.nD Cert.AdamMetaTokensIdeal.τ).loc Cert.AdamMetaTokensIdeal.main_arg1) = m ((c.tc : Thread Cert.AdamMetaTokensIdeal.nD Cert.AdamMetaTokensIdeal.τ).loc Cert.AdamMetaTokensIdeal.main_arg1)
          ∧ r.2.mem ((c.tc : Thread Cert.AdamMetaTokensIdeal.nD Cert.AdamMetaTokensIdeal.τ).loc Cert.AdamMetaTokensIdeal.main_arg2) = m ((c.tc : Thread Cert.AdamMetaTokensIdeal.nD Cert.AdamMetaTokensIdeal.τ).loc Cert.AdamMetaTokensIdeal.main_arg2)
          ∧ r.2.mem ((c.tc : Thread Cert.AdamMetaTokensIdeal.nD Cert.AdamMetaTokensIdeal.τ).loc Cert.AdamMetaTokensIdeal.main_arg3) = m ((c.tc : Thread Cert.AdamMetaTokensIdeal.nD Cert.AdamMetaTokensIdeal.τ).loc Cert.AdamMetaTokensIdeal.main_arg3))
      ∧ θ_run (Cert.AdamMetaTokensRefIdeal.defs (F := Ideal)) (onTc (τ := Cert.AdamMetaTokensRefIdeal.τ) (Cert.AdamMetaTokensRefIdeal.main (F := Ideal))) ⟨m', fun _ => 0, g'⟩ (fun r => ∀ c : Dev Cert.AdamMetaTokensRefIdeal.nD,
          r.2.mem ((c.tc : Thread Cert.AdamMetaTokensRefIdeal.nD Cert.AdamMetaTokensRefIdeal.τ).loc Cert.AdamMetaTokensRefIdeal.main_v23) = v0 c
          ∧ r.2.mem ((c.tc : Thread Cert.AdamMetaTokensRefIdeal.nD Cert.AdamMetaTokensRefIdeal.τ).loc Cert.AdamMetaTokensRefIdeal.main_v4) = v1 c
          ∧ r.2.mem ((c.tc : Thread Cert.AdamMetaTokensRefIdeal.nD Cert.AdamMetaTokensRefIdeal.τ).loc Cert.AdamMetaTokensRefIdeal.main_v10) = v2 c
          ∧ r.2.mem ((c.tc : Thread Cert.AdamMetaTokensRefIdeal.nD Cert.AdamMetaTokensRefIdeal.τ).loc Cert.AdamMetaTokensRefIdeal.main_arg0) = m' ((c.tc : Thread Cert.AdamMetaTokensRefIdeal.nD Cert.AdamMetaTokensRefIdeal.τ).loc Cert.AdamMetaTokensRefIdeal.main_arg0)
          ∧ r.2.mem ((c.tc : Thread Cert.AdamMetaTokensRefIdeal.nD Cert.AdamMetaTokensRefIdeal.τ).loc Cert.AdamMetaTokensRefIdeal.main_arg1) = m' ((c.tc : Thread Cert.AdamMetaTokensRefIdeal.nD Cert.AdamMetaTokensRefIdeal.τ).loc Cert.AdamMetaTokensRefIdeal.main_arg1)
          ∧ r.2.mem ((c.tc : Thread Cert.AdamMetaTokensRefIdeal.nD Cert.AdamMetaTokensRefIdeal.τ).loc Cert.AdamMetaTokensRefIdeal.main_arg2) = m' ((c.tc : Thread Cert.AdamMetaTokensRefIdeal.nD Cert.AdamMetaTokensRefIdeal.τ).loc Cert.AdamMetaTokensRefIdeal.main_arg2)
          ∧ r.2.mem ((c.tc : Thread Cert.AdamMetaTokensRefIdeal.nD Cert.AdamMetaTokensRefIdeal.τ).loc Cert.AdamMetaTokensRefIdeal.main_arg3) = m' ((c.tc : Thread Cert.AdamMetaTokensRefIdeal.nD Cert.AdamMetaTokensRefIdeal.τ).loc Cert.AdamMetaTokensRefIdeal.main_arg3))

def preserves_AdamFfn1Norm_AdamFfn1NormIdeal : Prop :=
  True

def algebraic_AdamFfn1NormIdeal_AdamFfn1NormRefIdeal [hAdamFfn1NormIdeal : Cert.AdamFfn1NormIdeal.Facts] [hAdamFfn1NormRefIdeal : Cert.AdamFfn1NormRefIdeal.Facts] : Prop :=
  ∀ (m : (ℓ : Loc Cert.AdamFfn1NormIdeal.nD Cert.AdamFfn1NormIdeal.τ Cert.AdamFfn1NormIdeal.sig) → Buf (Elt Ideal) ℓ) (g : Dev Cert.AdamFfn1NormIdeal.nD → PrngReg)
    (m' : (ℓ : Loc Cert.AdamFfn1NormRefIdeal.nD Cert.AdamFfn1NormRefIdeal.τ Cert.AdamFfn1NormRefIdeal.sig) → Buf (Elt Ideal) ℓ) (g' : Dev Cert.AdamFfn1NormRefIdeal.nD → PrngReg), Pre_AdamFfn1NormIdeal m →
    (∀ c : Dev Cert.AdamFfn1NormIdeal.nD,
      m' ((c.tc : Thread Cert.AdamFfn1NormRefIdeal.nD Cert.AdamFfn1NormRefIdeal.τ).loc Cert.AdamFfn1NormRefIdeal.main_arg0) = m ((c.tc : Thread Cert.AdamFfn1NormIdeal.nD Cert.AdamFfn1NormIdeal.τ).loc Cert.AdamFfn1NormIdeal.main_arg0)
      ∧ m' ((c.tc : Thread Cert.AdamFfn1NormRefIdeal.nD Cert.AdamFfn1NormRefIdeal.τ).loc Cert.AdamFfn1NormRefIdeal.main_arg1) = m ((c.tc : Thread Cert.AdamFfn1NormIdeal.nD Cert.AdamFfn1NormIdeal.τ).loc Cert.AdamFfn1NormIdeal.main_arg1)
      ∧ m' ((c.tc : Thread Cert.AdamFfn1NormRefIdeal.nD Cert.AdamFfn1NormRefIdeal.τ).loc Cert.AdamFfn1NormRefIdeal.main_arg2) = m ((c.tc : Thread Cert.AdamFfn1NormIdeal.nD Cert.AdamFfn1NormIdeal.τ).loc Cert.AdamFfn1NormIdeal.main_arg2)
      ∧ m' ((c.tc : Thread Cert.AdamFfn1NormRefIdeal.nD Cert.AdamFfn1NormRefIdeal.τ).loc Cert.AdamFfn1NormRefIdeal.main_arg3) = m ((c.tc : Thread Cert.AdamFfn1NormIdeal.nD Cert.AdamFfn1NormIdeal.τ).loc Cert.AdamFfn1NormIdeal.main_arg3)) →
    ∃ (v0 : (c : Dev Cert.AdamFfn1NormIdeal.nD) → Buf (Elt Ideal) ((c.tc : Thread Cert.AdamFfn1NormIdeal.nD Cert.AdamFfn1NormIdeal.τ).loc Cert.AdamFfn1NormIdeal.main_v0_0)) (v1 : (c : Dev Cert.AdamFfn1NormIdeal.nD) → Buf (Elt Ideal) ((c.tc : Thread Cert.AdamFfn1NormIdeal.nD Cert.AdamFfn1NormIdeal.τ).loc Cert.AdamFfn1NormIdeal.main_v0_1)) (v2 : (c : Dev Cert.AdamFfn1NormIdeal.nD) → Buf (Elt Ideal) ((c.tc : Thread Cert.AdamFfn1NormIdeal.nD Cert.AdamFfn1NormIdeal.τ).loc Cert.AdamFfn1NormIdeal.main_v0_2)),
      θ_run (Cert.AdamFfn1NormIdeal.defs (F := Ideal)) (onTc (τ := Cert.AdamFfn1NormIdeal.τ) (Cert.AdamFfn1NormIdeal.main (F := Ideal))) ⟨m, fun _ => 0, g⟩ (fun r => ∀ c : Dev Cert.AdamFfn1NormIdeal.nD,
          r.2.mem ((c.tc : Thread Cert.AdamFfn1NormIdeal.nD Cert.AdamFfn1NormIdeal.τ).loc Cert.AdamFfn1NormIdeal.main_v0_0) = v0 c
          ∧ r.2.mem ((c.tc : Thread Cert.AdamFfn1NormIdeal.nD Cert.AdamFfn1NormIdeal.τ).loc Cert.AdamFfn1NormIdeal.main_v0_1) = v1 c
          ∧ r.2.mem ((c.tc : Thread Cert.AdamFfn1NormIdeal.nD Cert.AdamFfn1NormIdeal.τ).loc Cert.AdamFfn1NormIdeal.main_v0_2) = v2 c
          ∧ r.2.mem ((c.tc : Thread Cert.AdamFfn1NormIdeal.nD Cert.AdamFfn1NormIdeal.τ).loc Cert.AdamFfn1NormIdeal.main_arg0) = m ((c.tc : Thread Cert.AdamFfn1NormIdeal.nD Cert.AdamFfn1NormIdeal.τ).loc Cert.AdamFfn1NormIdeal.main_arg0)
          ∧ r.2.mem ((c.tc : Thread Cert.AdamFfn1NormIdeal.nD Cert.AdamFfn1NormIdeal.τ).loc Cert.AdamFfn1NormIdeal.main_arg1) = m ((c.tc : Thread Cert.AdamFfn1NormIdeal.nD Cert.AdamFfn1NormIdeal.τ).loc Cert.AdamFfn1NormIdeal.main_arg1)
          ∧ r.2.mem ((c.tc : Thread Cert.AdamFfn1NormIdeal.nD Cert.AdamFfn1NormIdeal.τ).loc Cert.AdamFfn1NormIdeal.main_arg2) = m ((c.tc : Thread Cert.AdamFfn1NormIdeal.nD Cert.AdamFfn1NormIdeal.τ).loc Cert.AdamFfn1NormIdeal.main_arg2)
          ∧ r.2.mem ((c.tc : Thread Cert.AdamFfn1NormIdeal.nD Cert.AdamFfn1NormIdeal.τ).loc Cert.AdamFfn1NormIdeal.main_arg3) = m ((c.tc : Thread Cert.AdamFfn1NormIdeal.nD Cert.AdamFfn1NormIdeal.τ).loc Cert.AdamFfn1NormIdeal.main_arg3))
      ∧ θ_run (Cert.AdamFfn1NormRefIdeal.defs (F := Ideal)) (onTc (τ := Cert.AdamFfn1NormRefIdeal.τ) (Cert.AdamFfn1NormRefIdeal.main (F := Ideal))) ⟨m', fun _ => 0, g'⟩ (fun r => ∀ c : Dev Cert.AdamFfn1NormRefIdeal.nD,
          r.2.mem ((c.tc : Thread Cert.AdamFfn1NormRefIdeal.nD Cert.AdamFfn1NormRefIdeal.τ).loc Cert.AdamFfn1NormRefIdeal.main_v23) = v0 c
          ∧ r.2.mem ((c.tc : Thread Cert.AdamFfn1NormRefIdeal.nD Cert.AdamFfn1NormRefIdeal.τ).loc Cert.AdamFfn1NormRefIdeal.main_v4) = v1 c
          ∧ r.2.mem ((c.tc : Thread Cert.AdamFfn1NormRefIdeal.nD Cert.AdamFfn1NormRefIdeal.τ).loc Cert.AdamFfn1NormRefIdeal.main_v10) = v2 c
          ∧ r.2.mem ((c.tc : Thread Cert.AdamFfn1NormRefIdeal.nD Cert.AdamFfn1NormRefIdeal.τ).loc Cert.AdamFfn1NormRefIdeal.main_arg0) = m' ((c.tc : Thread Cert.AdamFfn1NormRefIdeal.nD Cert.AdamFfn1NormRefIdeal.τ).loc Cert.AdamFfn1NormRefIdeal.main_arg0)
          ∧ r.2.mem ((c.tc : Thread Cert.AdamFfn1NormRefIdeal.nD Cert.AdamFfn1NormRefIdeal.τ).loc Cert.AdamFfn1NormRefIdeal.main_arg1) = m' ((c.tc : Thread Cert.AdamFfn1NormRefIdeal.nD Cert.AdamFfn1NormRefIdeal.τ).loc Cert.AdamFfn1NormRefIdeal.main_arg1)
          ∧ r.2.mem ((c.tc : Thread Cert.AdamFfn1NormRefIdeal.nD Cert.AdamFfn1NormRefIdeal.τ).loc Cert.AdamFfn1NormRefIdeal.main_arg2) = m' ((c.tc : Thread Cert.AdamFfn1NormRefIdeal.nD Cert.AdamFfn1NormRefIdeal.τ).loc Cert.AdamFfn1NormRefIdeal.main_arg2)
          ∧ r.2.mem ((c.tc : Thread Cert.AdamFfn1NormRefIdeal.nD Cert.AdamFfn1NormRefIdeal.τ).loc Cert.AdamFfn1NormRefIdeal.main_arg3) = m' ((c.tc : Thread Cert.AdamFfn1NormRefIdeal.nD Cert.AdamFfn1NormRefIdeal.τ).loc Cert.AdamFfn1NormRefIdeal.main_arg3))

def preserves_AdamFfn1WGateUp_AdamFfn1WGateUpIdeal : Prop :=
  True

def algebraic_AdamFfn1WGateUpIdeal_AdamFfn1WGateUpRefIdeal [hAdamFfn1WGateUpIdeal : Cert.AdamFfn1WGateUpIdeal.Facts] [hAdamFfn1WGateUpRefIdeal : Cert.AdamFfn1WGateUpRefIdeal.Facts] : Prop :=
  ∀ (m : (ℓ : Loc Cert.AdamFfn1WGateUpIdeal.nD Cert.AdamFfn1WGateUpIdeal.τ Cert.AdamFfn1WGateUpIdeal.sig) → Buf (Elt Ideal) ℓ) (g : Dev Cert.AdamFfn1WGateUpIdeal.nD → PrngReg)
    (m' : (ℓ : Loc Cert.AdamFfn1WGateUpRefIdeal.nD Cert.AdamFfn1WGateUpRefIdeal.τ Cert.AdamFfn1WGateUpRefIdeal.sig) → Buf (Elt Ideal) ℓ) (g' : Dev Cert.AdamFfn1WGateUpRefIdeal.nD → PrngReg), Pre_AdamFfn1WGateUpIdeal m →
    (∀ c : Dev Cert.AdamFfn1WGateUpIdeal.nD,
      m' ((c.tc : Thread Cert.AdamFfn1WGateUpRefIdeal.nD Cert.AdamFfn1WGateUpRefIdeal.τ).loc Cert.AdamFfn1WGateUpRefIdeal.main_arg0) = m ((c.tc : Thread Cert.AdamFfn1WGateUpIdeal.nD Cert.AdamFfn1WGateUpIdeal.τ).loc Cert.AdamFfn1WGateUpIdeal.main_arg0)
      ∧ m' ((c.tc : Thread Cert.AdamFfn1WGateUpRefIdeal.nD Cert.AdamFfn1WGateUpRefIdeal.τ).loc Cert.AdamFfn1WGateUpRefIdeal.main_arg1) = m ((c.tc : Thread Cert.AdamFfn1WGateUpIdeal.nD Cert.AdamFfn1WGateUpIdeal.τ).loc Cert.AdamFfn1WGateUpIdeal.main_arg1)
      ∧ m' ((c.tc : Thread Cert.AdamFfn1WGateUpRefIdeal.nD Cert.AdamFfn1WGateUpRefIdeal.τ).loc Cert.AdamFfn1WGateUpRefIdeal.main_arg2) = m ((c.tc : Thread Cert.AdamFfn1WGateUpIdeal.nD Cert.AdamFfn1WGateUpIdeal.τ).loc Cert.AdamFfn1WGateUpIdeal.main_arg2)
      ∧ m' ((c.tc : Thread Cert.AdamFfn1WGateUpRefIdeal.nD Cert.AdamFfn1WGateUpRefIdeal.τ).loc Cert.AdamFfn1WGateUpRefIdeal.main_arg3) = m ((c.tc : Thread Cert.AdamFfn1WGateUpIdeal.nD Cert.AdamFfn1WGateUpIdeal.τ).loc Cert.AdamFfn1WGateUpIdeal.main_arg3)) →
    ∃ (v0 : (c : Dev Cert.AdamFfn1WGateUpIdeal.nD) → Buf (Elt Ideal) ((c.tc : Thread Cert.AdamFfn1WGateUpIdeal.nD Cert.AdamFfn1WGateUpIdeal.τ).loc Cert.AdamFfn1WGateUpIdeal.main_v4_0)) (v1 : (c : Dev Cert.AdamFfn1WGateUpIdeal.nD) → Buf (Elt Ideal) ((c.tc : Thread Cert.AdamFfn1WGateUpIdeal.nD Cert.AdamFfn1WGateUpIdeal.τ).loc Cert.AdamFfn1WGateUpIdeal.main_v4_1)) (v2 : (c : Dev Cert.AdamFfn1WGateUpIdeal.nD) → Buf (Elt Ideal) ((c.tc : Thread Cert.AdamFfn1WGateUpIdeal.nD Cert.AdamFfn1WGateUpIdeal.τ).loc Cert.AdamFfn1WGateUpIdeal.main_v4_2)),
      θ_run (Cert.AdamFfn1WGateUpIdeal.defs (F := Ideal)) (onTc (τ := Cert.AdamFfn1WGateUpIdeal.τ) (Cert.AdamFfn1WGateUpIdeal.main (F := Ideal))) ⟨m, fun _ => 0, g⟩ (fun r => ∀ c : Dev Cert.AdamFfn1WGateUpIdeal.nD,
          r.2.mem ((c.tc : Thread Cert.AdamFfn1WGateUpIdeal.nD Cert.AdamFfn1WGateUpIdeal.τ).loc Cert.AdamFfn1WGateUpIdeal.main_v4_0) = v0 c
          ∧ r.2.mem ((c.tc : Thread Cert.AdamFfn1WGateUpIdeal.nD Cert.AdamFfn1WGateUpIdeal.τ).loc Cert.AdamFfn1WGateUpIdeal.main_v4_1) = v1 c
          ∧ r.2.mem ((c.tc : Thread Cert.AdamFfn1WGateUpIdeal.nD Cert.AdamFfn1WGateUpIdeal.τ).loc Cert.AdamFfn1WGateUpIdeal.main_v4_2) = v2 c
          ∧ r.2.mem ((c.tc : Thread Cert.AdamFfn1WGateUpIdeal.nD Cert.AdamFfn1WGateUpIdeal.τ).loc Cert.AdamFfn1WGateUpIdeal.main_arg0) = m ((c.tc : Thread Cert.AdamFfn1WGateUpIdeal.nD Cert.AdamFfn1WGateUpIdeal.τ).loc Cert.AdamFfn1WGateUpIdeal.main_arg0)
          ∧ r.2.mem ((c.tc : Thread Cert.AdamFfn1WGateUpIdeal.nD Cert.AdamFfn1WGateUpIdeal.τ).loc Cert.AdamFfn1WGateUpIdeal.main_arg1) = m ((c.tc : Thread Cert.AdamFfn1WGateUpIdeal.nD Cert.AdamFfn1WGateUpIdeal.τ).loc Cert.AdamFfn1WGateUpIdeal.main_arg1)
          ∧ r.2.mem ((c.tc : Thread Cert.AdamFfn1WGateUpIdeal.nD Cert.AdamFfn1WGateUpIdeal.τ).loc Cert.AdamFfn1WGateUpIdeal.main_arg2) = m ((c.tc : Thread Cert.AdamFfn1WGateUpIdeal.nD Cert.AdamFfn1WGateUpIdeal.τ).loc Cert.AdamFfn1WGateUpIdeal.main_arg2)
          ∧ r.2.mem ((c.tc : Thread Cert.AdamFfn1WGateUpIdeal.nD Cert.AdamFfn1WGateUpIdeal.τ).loc Cert.AdamFfn1WGateUpIdeal.main_arg3) = m ((c.tc : Thread Cert.AdamFfn1WGateUpIdeal.nD Cert.AdamFfn1WGateUpIdeal.τ).loc Cert.AdamFfn1WGateUpIdeal.main_arg3))
      ∧ θ_run (Cert.AdamFfn1WGateUpRefIdeal.defs (F := Ideal)) (onTc (τ := Cert.AdamFfn1WGateUpRefIdeal.τ) (Cert.AdamFfn1WGateUpRefIdeal.main (F := Ideal))) ⟨m', fun _ => 0, g'⟩ (fun r => ∀ c : Dev Cert.AdamFfn1WGateUpRefIdeal.nD,
          r.2.mem ((c.tc : Thread Cert.AdamFfn1WGateUpRefIdeal.nD Cert.AdamFfn1WGateUpRefIdeal.τ).loc Cert.AdamFfn1WGateUpRefIdeal.main_v24) = v0 c
          ∧ r.2.mem ((c.tc : Thread Cert.AdamFfn1WGateUpRefIdeal.nD Cert.AdamFfn1WGateUpRefIdeal.τ).loc Cert.AdamFfn1WGateUpRefIdeal.main_v25) = v1 c
          ∧ r.2.mem ((c.tc : Thread Cert.AdamFfn1WGateUpRefIdeal.nD Cert.AdamFfn1WGateUpRefIdeal.τ).loc Cert.AdamFfn1WGateUpRefIdeal.main_v26) = v2 c
          ∧ r.2.mem ((c.tc : Thread Cert.AdamFfn1WGateUpRefIdeal.nD Cert.AdamFfn1WGateUpRefIdeal.τ).loc Cert.AdamFfn1WGateUpRefIdeal.main_arg0) = m' ((c.tc : Thread Cert.AdamFfn1WGateUpRefIdeal.nD Cert.AdamFfn1WGateUpRefIdeal.τ).loc Cert.AdamFfn1WGateUpRefIdeal.main_arg0)
          ∧ r.2.mem ((c.tc : Thread Cert.AdamFfn1WGateUpRefIdeal.nD Cert.AdamFfn1WGateUpRefIdeal.τ).loc Cert.AdamFfn1WGateUpRefIdeal.main_arg1) = m' ((c.tc : Thread Cert.AdamFfn1WGateUpRefIdeal.nD Cert.AdamFfn1WGateUpRefIdeal.τ).loc Cert.AdamFfn1WGateUpRefIdeal.main_arg1)
          ∧ r.2.mem ((c.tc : Thread Cert.AdamFfn1WGateUpRefIdeal.nD Cert.AdamFfn1WGateUpRefIdeal.τ).loc Cert.AdamFfn1WGateUpRefIdeal.main_arg2) = m' ((c.tc : Thread Cert.AdamFfn1WGateUpRefIdeal.nD Cert.AdamFfn1WGateUpRefIdeal.τ).loc Cert.AdamFfn1WGateUpRefIdeal.main_arg2)
          ∧ r.2.mem ((c.tc : Thread Cert.AdamFfn1WGateUpRefIdeal.nD Cert.AdamFfn1WGateUpRefIdeal.τ).loc Cert.AdamFfn1WGateUpRefIdeal.main_arg3) = m' ((c.tc : Thread Cert.AdamFfn1WGateUpRefIdeal.nD Cert.AdamFfn1WGateUpRefIdeal.τ).loc Cert.AdamFfn1WGateUpRefIdeal.main_arg3))

def preserves_AdamFfn1WDown_AdamFfn1WDownIdeal : Prop :=
  True

def algebraic_AdamFfn1WDownIdeal_AdamFfn1WDownRefIdeal [hAdamFfn1WDownIdeal : Cert.AdamFfn1WDownIdeal.Facts] [hAdamFfn1WDownRefIdeal : Cert.AdamFfn1WDownRefIdeal.Facts] : Prop :=
  ∀ (m : (ℓ : Loc Cert.AdamFfn1WDownIdeal.nD Cert.AdamFfn1WDownIdeal.τ Cert.AdamFfn1WDownIdeal.sig) → Buf (Elt Ideal) ℓ) (g : Dev Cert.AdamFfn1WDownIdeal.nD → PrngReg)
    (m' : (ℓ : Loc Cert.AdamFfn1WDownRefIdeal.nD Cert.AdamFfn1WDownRefIdeal.τ Cert.AdamFfn1WDownRefIdeal.sig) → Buf (Elt Ideal) ℓ) (g' : Dev Cert.AdamFfn1WDownRefIdeal.nD → PrngReg), Pre_AdamFfn1WDownIdeal m →
    (∀ c : Dev Cert.AdamFfn1WDownIdeal.nD,
      m' ((c.tc : Thread Cert.AdamFfn1WDownRefIdeal.nD Cert.AdamFfn1WDownRefIdeal.τ).loc Cert.AdamFfn1WDownRefIdeal.main_arg0) = m ((c.tc : Thread Cert.AdamFfn1WDownIdeal.nD Cert.AdamFfn1WDownIdeal.τ).loc Cert.AdamFfn1WDownIdeal.main_arg0)
      ∧ m' ((c.tc : Thread Cert.AdamFfn1WDownRefIdeal.nD Cert.AdamFfn1WDownRefIdeal.τ).loc Cert.AdamFfn1WDownRefIdeal.main_arg1) = m ((c.tc : Thread Cert.AdamFfn1WDownIdeal.nD Cert.AdamFfn1WDownIdeal.τ).loc Cert.AdamFfn1WDownIdeal.main_arg1)
      ∧ m' ((c.tc : Thread Cert.AdamFfn1WDownRefIdeal.nD Cert.AdamFfn1WDownRefIdeal.τ).loc Cert.AdamFfn1WDownRefIdeal.main_arg2) = m ((c.tc : Thread Cert.AdamFfn1WDownIdeal.nD Cert.AdamFfn1WDownIdeal.τ).loc Cert.AdamFfn1WDownIdeal.main_arg2)
      ∧ m' ((c.tc : Thread Cert.AdamFfn1WDownRefIdeal.nD Cert.AdamFfn1WDownRefIdeal.τ).loc Cert.AdamFfn1WDownRefIdeal.main_arg3) = m ((c.tc : Thread Cert.AdamFfn1WDownIdeal.nD Cert.AdamFfn1WDownIdeal.τ).loc Cert.AdamFfn1WDownIdeal.main_arg3)) →
    ∃ (v0 : (c : Dev Cert.AdamFfn1WDownIdeal.nD) → Buf (Elt Ideal) ((c.tc : Thread Cert.AdamFfn1WDownIdeal.nD Cert.AdamFfn1WDownIdeal.τ).loc Cert.AdamFfn1WDownIdeal.main_v4_0)) (v1 : (c : Dev Cert.AdamFfn1WDownIdeal.nD) → Buf (Elt Ideal) ((c.tc : Thread Cert.AdamFfn1WDownIdeal.nD Cert.AdamFfn1WDownIdeal.τ).loc Cert.AdamFfn1WDownIdeal.main_v4_1)) (v2 : (c : Dev Cert.AdamFfn1WDownIdeal.nD) → Buf (Elt Ideal) ((c.tc : Thread Cert.AdamFfn1WDownIdeal.nD Cert.AdamFfn1WDownIdeal.τ).loc Cert.AdamFfn1WDownIdeal.main_v4_2)),
      θ_run (Cert.AdamFfn1WDownIdeal.defs (F := Ideal)) (onTc (τ := Cert.AdamFfn1WDownIdeal.τ) (Cert.AdamFfn1WDownIdeal.main (F := Ideal))) ⟨m, fun _ => 0, g⟩ (fun r => ∀ c : Dev Cert.AdamFfn1WDownIdeal.nD,
          r.2.mem ((c.tc : Thread Cert.AdamFfn1WDownIdeal.nD Cert.AdamFfn1WDownIdeal.τ).loc Cert.AdamFfn1WDownIdeal.main_v4_0) = v0 c
          ∧ r.2.mem ((c.tc : Thread Cert.AdamFfn1WDownIdeal.nD Cert.AdamFfn1WDownIdeal.τ).loc Cert.AdamFfn1WDownIdeal.main_v4_1) = v1 c
          ∧ r.2.mem ((c.tc : Thread Cert.AdamFfn1WDownIdeal.nD Cert.AdamFfn1WDownIdeal.τ).loc Cert.AdamFfn1WDownIdeal.main_v4_2) = v2 c
          ∧ r.2.mem ((c.tc : Thread Cert.AdamFfn1WDownIdeal.nD Cert.AdamFfn1WDownIdeal.τ).loc Cert.AdamFfn1WDownIdeal.main_arg0) = m ((c.tc : Thread Cert.AdamFfn1WDownIdeal.nD Cert.AdamFfn1WDownIdeal.τ).loc Cert.AdamFfn1WDownIdeal.main_arg0)
          ∧ r.2.mem ((c.tc : Thread Cert.AdamFfn1WDownIdeal.nD Cert.AdamFfn1WDownIdeal.τ).loc Cert.AdamFfn1WDownIdeal.main_arg1) = m ((c.tc : Thread Cert.AdamFfn1WDownIdeal.nD Cert.AdamFfn1WDownIdeal.τ).loc Cert.AdamFfn1WDownIdeal.main_arg1)
          ∧ r.2.mem ((c.tc : Thread Cert.AdamFfn1WDownIdeal.nD Cert.AdamFfn1WDownIdeal.τ).loc Cert.AdamFfn1WDownIdeal.main_arg2) = m ((c.tc : Thread Cert.AdamFfn1WDownIdeal.nD Cert.AdamFfn1WDownIdeal.τ).loc Cert.AdamFfn1WDownIdeal.main_arg2)
          ∧ r.2.mem ((c.tc : Thread Cert.AdamFfn1WDownIdeal.nD Cert.AdamFfn1WDownIdeal.τ).loc Cert.AdamFfn1WDownIdeal.main_arg3) = m ((c.tc : Thread Cert.AdamFfn1WDownIdeal.nD Cert.AdamFfn1WDownIdeal.τ).loc Cert.AdamFfn1WDownIdeal.main_arg3))
      ∧ θ_run (Cert.AdamFfn1WDownRefIdeal.defs (F := Ideal)) (onTc (τ := Cert.AdamFfn1WDownRefIdeal.τ) (Cert.AdamFfn1WDownRefIdeal.main (F := Ideal))) ⟨m', fun _ => 0, g'⟩ (fun r => ∀ c : Dev Cert.AdamFfn1WDownRefIdeal.nD,
          r.2.mem ((c.tc : Thread Cert.AdamFfn1WDownRefIdeal.nD Cert.AdamFfn1WDownRefIdeal.τ).loc Cert.AdamFfn1WDownRefIdeal.main_v24) = v0 c
          ∧ r.2.mem ((c.tc : Thread Cert.AdamFfn1WDownRefIdeal.nD Cert.AdamFfn1WDownRefIdeal.τ).loc Cert.AdamFfn1WDownRefIdeal.main_v25) = v1 c
          ∧ r.2.mem ((c.tc : Thread Cert.AdamFfn1WDownRefIdeal.nD Cert.AdamFfn1WDownRefIdeal.τ).loc Cert.AdamFfn1WDownRefIdeal.main_v26) = v2 c
          ∧ r.2.mem ((c.tc : Thread Cert.AdamFfn1WDownRefIdeal.nD Cert.AdamFfn1WDownRefIdeal.τ).loc Cert.AdamFfn1WDownRefIdeal.main_arg0) = m' ((c.tc : Thread Cert.AdamFfn1WDownRefIdeal.nD Cert.AdamFfn1WDownRefIdeal.τ).loc Cert.AdamFfn1WDownRefIdeal.main_arg0)
          ∧ r.2.mem ((c.tc : Thread Cert.AdamFfn1WDownRefIdeal.nD Cert.AdamFfn1WDownRefIdeal.τ).loc Cert.AdamFfn1WDownRefIdeal.main_arg1) = m' ((c.tc : Thread Cert.AdamFfn1WDownRefIdeal.nD Cert.AdamFfn1WDownRefIdeal.τ).loc Cert.AdamFfn1WDownRefIdeal.main_arg1)
          ∧ r.2.mem ((c.tc : Thread Cert.AdamFfn1WDownRefIdeal.nD Cert.AdamFfn1WDownRefIdeal.τ).loc Cert.AdamFfn1WDownRefIdeal.main_arg2) = m' ((c.tc : Thread Cert.AdamFfn1WDownRefIdeal.nD Cert.AdamFfn1WDownRefIdeal.τ).loc Cert.AdamFfn1WDownRefIdeal.main_arg2)
          ∧ r.2.mem ((c.tc : Thread Cert.AdamFfn1WDownRefIdeal.nD Cert.AdamFfn1WDownRefIdeal.τ).loc Cert.AdamFfn1WDownRefIdeal.main_arg3) = m' ((c.tc : Thread Cert.AdamFfn1WDownRefIdeal.nD Cert.AdamFfn1WDownRefIdeal.τ).loc Cert.AdamFfn1WDownRefIdeal.main_arg3))

def preserves_AdamMixNorm_AdamMixNormIdeal : Prop :=
  True

def algebraic_AdamMixNormIdeal_AdamMixNormRefIdeal [hAdamMixNormIdeal : Cert.AdamMixNormIdeal.Facts] [hAdamMixNormRefIdeal : Cert.AdamMixNormRefIdeal.Facts] : Prop :=
  ∀ (m : (ℓ : Loc Cert.AdamMixNormIdeal.nD Cert.AdamMixNormIdeal.τ Cert.AdamMixNormIdeal.sig) → Buf (Elt Ideal) ℓ) (g : Dev Cert.AdamMixNormIdeal.nD → PrngReg)
    (m' : (ℓ : Loc Cert.AdamMixNormRefIdeal.nD Cert.AdamMixNormRefIdeal.τ Cert.AdamMixNormRefIdeal.sig) → Buf (Elt Ideal) ℓ) (g' : Dev Cert.AdamMixNormRefIdeal.nD → PrngReg), Pre_AdamMixNormIdeal m →
    (∀ c : Dev Cert.AdamMixNormIdeal.nD,
      m' ((c.tc : Thread Cert.AdamMixNormRefIdeal.nD Cert.AdamMixNormRefIdeal.τ).loc Cert.AdamMixNormRefIdeal.main_arg0) = m ((c.tc : Thread Cert.AdamMixNormIdeal.nD Cert.AdamMixNormIdeal.τ).loc Cert.AdamMixNormIdeal.main_arg0)
      ∧ m' ((c.tc : Thread Cert.AdamMixNormRefIdeal.nD Cert.AdamMixNormRefIdeal.τ).loc Cert.AdamMixNormRefIdeal.main_arg1) = m ((c.tc : Thread Cert.AdamMixNormIdeal.nD Cert.AdamMixNormIdeal.τ).loc Cert.AdamMixNormIdeal.main_arg1)
      ∧ m' ((c.tc : Thread Cert.AdamMixNormRefIdeal.nD Cert.AdamMixNormRefIdeal.τ).loc Cert.AdamMixNormRefIdeal.main_arg2) = m ((c.tc : Thread Cert.AdamMixNormIdeal.nD Cert.AdamMixNormIdeal.τ).loc Cert.AdamMixNormIdeal.main_arg2)
      ∧ m' ((c.tc : Thread Cert.AdamMixNormRefIdeal.nD Cert.AdamMixNormRefIdeal.τ).loc Cert.AdamMixNormRefIdeal.main_arg3) = m ((c.tc : Thread Cert.AdamMixNormIdeal.nD Cert.AdamMixNormIdeal.τ).loc Cert.AdamMixNormIdeal.main_arg3)) →
    ∃ (v0 : (c : Dev Cert.AdamMixNormIdeal.nD) → Buf (Elt Ideal) ((c.tc : Thread Cert.AdamMixNormIdeal.nD Cert.AdamMixNormIdeal.τ).loc Cert.AdamMixNormIdeal.main_v0_0)) (v1 : (c : Dev Cert.AdamMixNormIdeal.nD) → Buf (Elt Ideal) ((c.tc : Thread Cert.AdamMixNormIdeal.nD Cert.AdamMixNormIdeal.τ).loc Cert.AdamMixNormIdeal.main_v0_1)) (v2 : (c : Dev Cert.AdamMixNormIdeal.nD) → Buf (Elt Ideal) ((c.tc : Thread Cert.AdamMixNormIdeal.nD Cert.AdamMixNormIdeal.τ).loc Cert.AdamMixNormIdeal.main_v0_2)),
      θ_run (Cert.AdamMixNormIdeal.defs (F := Ideal)) (onTc (τ := Cert.AdamMixNormIdeal.τ) (Cert.AdamMixNormIdeal.main (F := Ideal))) ⟨m, fun _ => 0, g⟩ (fun r => ∀ c : Dev Cert.AdamMixNormIdeal.nD,
          r.2.mem ((c.tc : Thread Cert.AdamMixNormIdeal.nD Cert.AdamMixNormIdeal.τ).loc Cert.AdamMixNormIdeal.main_v0_0) = v0 c
          ∧ r.2.mem ((c.tc : Thread Cert.AdamMixNormIdeal.nD Cert.AdamMixNormIdeal.τ).loc Cert.AdamMixNormIdeal.main_v0_1) = v1 c
          ∧ r.2.mem ((c.tc : Thread Cert.AdamMixNormIdeal.nD Cert.AdamMixNormIdeal.τ).loc Cert.AdamMixNormIdeal.main_v0_2) = v2 c
          ∧ r.2.mem ((c.tc : Thread Cert.AdamMixNormIdeal.nD Cert.AdamMixNormIdeal.τ).loc Cert.AdamMixNormIdeal.main_arg0) = m ((c.tc : Thread Cert.AdamMixNormIdeal.nD Cert.AdamMixNormIdeal.τ).loc Cert.AdamMixNormIdeal.main_arg0)
          ∧ r.2.mem ((c.tc : Thread Cert.AdamMixNormIdeal.nD Cert.AdamMixNormIdeal.τ).loc Cert.AdamMixNormIdeal.main_arg1) = m ((c.tc : Thread Cert.AdamMixNormIdeal.nD Cert.AdamMixNormIdeal.τ).loc Cert.AdamMixNormIdeal.main_arg1)
          ∧ r.2.mem ((c.tc : Thread Cert.AdamMixNormIdeal.nD Cert.AdamMixNormIdeal.τ).loc Cert.AdamMixNormIdeal.main_arg2) = m ((c.tc : Thread Cert.AdamMixNormIdeal.nD Cert.AdamMixNormIdeal.τ).loc Cert.AdamMixNormIdeal.main_arg2)
          ∧ r.2.mem ((c.tc : Thread Cert.AdamMixNormIdeal.nD Cert.AdamMixNormIdeal.τ).loc Cert.AdamMixNormIdeal.main_arg3) = m ((c.tc : Thread Cert.AdamMixNormIdeal.nD Cert.AdamMixNormIdeal.τ).loc Cert.AdamMixNormIdeal.main_arg3))
      ∧ θ_run (Cert.AdamMixNormRefIdeal.defs (F := Ideal)) (onTc (τ := Cert.AdamMixNormRefIdeal.τ) (Cert.AdamMixNormRefIdeal.main (F := Ideal))) ⟨m', fun _ => 0, g'⟩ (fun r => ∀ c : Dev Cert.AdamMixNormRefIdeal.nD,
          r.2.mem ((c.tc : Thread Cert.AdamMixNormRefIdeal.nD Cert.AdamMixNormRefIdeal.τ).loc Cert.AdamMixNormRefIdeal.main_v23) = v0 c
          ∧ r.2.mem ((c.tc : Thread Cert.AdamMixNormRefIdeal.nD Cert.AdamMixNormRefIdeal.τ).loc Cert.AdamMixNormRefIdeal.main_v4) = v1 c
          ∧ r.2.mem ((c.tc : Thread Cert.AdamMixNormRefIdeal.nD Cert.AdamMixNormRefIdeal.τ).loc Cert.AdamMixNormRefIdeal.main_v10) = v2 c
          ∧ r.2.mem ((c.tc : Thread Cert.AdamMixNormRefIdeal.nD Cert.AdamMixNormRefIdeal.τ).loc Cert.AdamMixNormRefIdeal.main_arg0) = m' ((c.tc : Thread Cert.AdamMixNormRefIdeal.nD Cert.AdamMixNormRefIdeal.τ).loc Cert.AdamMixNormRefIdeal.main_arg0)
          ∧ r.2.mem ((c.tc : Thread Cert.AdamMixNormRefIdeal.nD Cert.AdamMixNormRefIdeal.τ).loc Cert.AdamMixNormRefIdeal.main_arg1) = m' ((c.tc : Thread Cert.AdamMixNormRefIdeal.nD Cert.AdamMixNormRefIdeal.τ).loc Cert.AdamMixNormRefIdeal.main_arg1)
          ∧ r.2.mem ((c.tc : Thread Cert.AdamMixNormRefIdeal.nD Cert.AdamMixNormRefIdeal.τ).loc Cert.AdamMixNormRefIdeal.main_arg2) = m' ((c.tc : Thread Cert.AdamMixNormRefIdeal.nD Cert.AdamMixNormRefIdeal.τ).loc Cert.AdamMixNormRefIdeal.main_arg2)
          ∧ r.2.mem ((c.tc : Thread Cert.AdamMixNormRefIdeal.nD Cert.AdamMixNormRefIdeal.τ).loc Cert.AdamMixNormRefIdeal.main_arg3) = m' ((c.tc : Thread Cert.AdamMixNormRefIdeal.nD Cert.AdamMixNormRefIdeal.τ).loc Cert.AdamMixNormRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamFoxForgetBias_AdamFoxForgetBiasIdeal : Prop :=
  True

def algebraic_AdamFoxForgetBiasIdeal_AdamFoxForgetBiasRefIdeal [hAdamFoxForgetBiasIdeal : Cert.AdamFoxForgetBiasIdeal.Facts] [hAdamFoxForgetBiasRefIdeal : Cert.AdamFoxForgetBiasRefIdeal.Facts] : Prop :=
  ∀ (m : (ℓ : Loc Cert.AdamFoxForgetBiasIdeal.nD Cert.AdamFoxForgetBiasIdeal.τ Cert.AdamFoxForgetBiasIdeal.sig) → Buf (Elt Ideal) ℓ) (g : Dev Cert.AdamFoxForgetBiasIdeal.nD → PrngReg)
    (m' : (ℓ : Loc Cert.AdamFoxForgetBiasRefIdeal.nD Cert.AdamFoxForgetBiasRefIdeal.τ Cert.AdamFoxForgetBiasRefIdeal.sig) → Buf (Elt Ideal) ℓ) (g' : Dev Cert.AdamFoxForgetBiasRefIdeal.nD → PrngReg), Pre_AdamFoxForgetBiasIdeal m →
    (∀ c : Dev Cert.AdamFoxForgetBiasIdeal.nD,
      m' ((c.tc : Thread Cert.AdamFoxForgetBiasRefIdeal.nD Cert.AdamFoxForgetBiasRefIdeal.τ).loc Cert.AdamFoxForgetBiasRefIdeal.main_arg0) = m ((c.tc : Thread Cert.AdamFoxForgetBiasIdeal.nD Cert.AdamFoxForgetBiasIdeal.τ).loc Cert.AdamFoxForgetBiasIdeal.main_arg0)
      ∧ m' ((c.tc : Thread Cert.AdamFoxForgetBiasRefIdeal.nD Cert.AdamFoxForgetBiasRefIdeal.τ).loc Cert.AdamFoxForgetBiasRefIdeal.main_arg1) = m ((c.tc : Thread Cert.AdamFoxForgetBiasIdeal.nD Cert.AdamFoxForgetBiasIdeal.τ).loc Cert.AdamFoxForgetBiasIdeal.main_arg1)
      ∧ m' ((c.tc : Thread Cert.AdamFoxForgetBiasRefIdeal.nD Cert.AdamFoxForgetBiasRefIdeal.τ).loc Cert.AdamFoxForgetBiasRefIdeal.main_arg2) = m ((c.tc : Thread Cert.AdamFoxForgetBiasIdeal.nD Cert.AdamFoxForgetBiasIdeal.τ).loc Cert.AdamFoxForgetBiasIdeal.main_arg2)
      ∧ m' ((c.tc : Thread Cert.AdamFoxForgetBiasRefIdeal.nD Cert.AdamFoxForgetBiasRefIdeal.τ).loc Cert.AdamFoxForgetBiasRefIdeal.main_arg3) = m ((c.tc : Thread Cert.AdamFoxForgetBiasIdeal.nD Cert.AdamFoxForgetBiasIdeal.τ).loc Cert.AdamFoxForgetBiasIdeal.main_arg3)) →
    ∃ (v0 : (c : Dev Cert.AdamFoxForgetBiasIdeal.nD) → Buf (Elt Ideal) ((c.tc : Thread Cert.AdamFoxForgetBiasIdeal.nD Cert.AdamFoxForgetBiasIdeal.τ).loc Cert.AdamFoxForgetBiasIdeal.main_v0_0)) (v1 : (c : Dev Cert.AdamFoxForgetBiasIdeal.nD) → Buf (Elt Ideal) ((c.tc : Thread Cert.AdamFoxForgetBiasIdeal.nD Cert.AdamFoxForgetBiasIdeal.τ).loc Cert.AdamFoxForgetBiasIdeal.main_v0_1)) (v2 : (c : Dev Cert.AdamFoxForgetBiasIdeal.nD) → Buf (Elt Ideal) ((c.tc : Thread Cert.AdamFoxForgetBiasIdeal.nD Cert.AdamFoxForgetBiasIdeal.τ).loc Cert.AdamFoxForgetBiasIdeal.main_v0_2)),
      θ_run (Cert.AdamFoxForgetBiasIdeal.defs (F := Ideal)) (onTc (τ := Cert.AdamFoxForgetBiasIdeal.τ) (Cert.AdamFoxForgetBiasIdeal.main (F := Ideal))) ⟨m, fun _ => 0, g⟩ (fun r => ∀ c : Dev Cert.AdamFoxForgetBiasIdeal.nD,
          r.2.mem ((c.tc : Thread Cert.AdamFoxForgetBiasIdeal.nD Cert.AdamFoxForgetBiasIdeal.τ).loc Cert.AdamFoxForgetBiasIdeal.main_v0_0) = v0 c
          ∧ r.2.mem ((c.tc : Thread Cert.AdamFoxForgetBiasIdeal.nD Cert.AdamFoxForgetBiasIdeal.τ).loc Cert.AdamFoxForgetBiasIdeal.main_v0_1) = v1 c
          ∧ r.2.mem ((c.tc : Thread Cert.AdamFoxForgetBiasIdeal.nD Cert.AdamFoxForgetBiasIdeal.τ).loc Cert.AdamFoxForgetBiasIdeal.main_v0_2) = v2 c
          ∧ r.2.mem ((c.tc : Thread Cert.AdamFoxForgetBiasIdeal.nD Cert.AdamFoxForgetBiasIdeal.τ).loc Cert.AdamFoxForgetBiasIdeal.main_arg0) = m ((c.tc : Thread Cert.AdamFoxForgetBiasIdeal.nD Cert.AdamFoxForgetBiasIdeal.τ).loc Cert.AdamFoxForgetBiasIdeal.main_arg0)
          ∧ r.2.mem ((c.tc : Thread Cert.AdamFoxForgetBiasIdeal.nD Cert.AdamFoxForgetBiasIdeal.τ).loc Cert.AdamFoxForgetBiasIdeal.main_arg1) = m ((c.tc : Thread Cert.AdamFoxForgetBiasIdeal.nD Cert.AdamFoxForgetBiasIdeal.τ).loc Cert.AdamFoxForgetBiasIdeal.main_arg1)
          ∧ r.2.mem ((c.tc : Thread Cert.AdamFoxForgetBiasIdeal.nD Cert.AdamFoxForgetBiasIdeal.τ).loc Cert.AdamFoxForgetBiasIdeal.main_arg2) = m ((c.tc : Thread Cert.AdamFoxForgetBiasIdeal.nD Cert.AdamFoxForgetBiasIdeal.τ).loc Cert.AdamFoxForgetBiasIdeal.main_arg2)
          ∧ r.2.mem ((c.tc : Thread Cert.AdamFoxForgetBiasIdeal.nD Cert.AdamFoxForgetBiasIdeal.τ).loc Cert.AdamFoxForgetBiasIdeal.main_arg3) = m ((c.tc : Thread Cert.AdamFoxForgetBiasIdeal.nD Cert.AdamFoxForgetBiasIdeal.τ).loc Cert.AdamFoxForgetBiasIdeal.main_arg3))
      ∧ θ_run (Cert.AdamFoxForgetBiasRefIdeal.defs (F := Ideal)) (onTc (τ := Cert.AdamFoxForgetBiasRefIdeal.τ) (Cert.AdamFoxForgetBiasRefIdeal.main (F := Ideal))) ⟨m', fun _ => 0, g'⟩ (fun r => ∀ c : Dev Cert.AdamFoxForgetBiasRefIdeal.nD,
          r.2.mem ((c.tc : Thread Cert.AdamFoxForgetBiasRefIdeal.nD Cert.AdamFoxForgetBiasRefIdeal.τ).loc Cert.AdamFoxForgetBiasRefIdeal.main_v23) = v0 c
          ∧ r.2.mem ((c.tc : Thread Cert.AdamFoxForgetBiasRefIdeal.nD Cert.AdamFoxForgetBiasRefIdeal.τ).loc Cert.AdamFoxForgetBiasRefIdeal.main_v4) = v1 c
          ∧ r.2.mem ((c.tc : Thread Cert.AdamFoxForgetBiasRefIdeal.nD Cert.AdamFoxForgetBiasRefIdeal.τ).loc Cert.AdamFoxForgetBiasRefIdeal.main_v10) = v2 c
          ∧ r.2.mem ((c.tc : Thread Cert.AdamFoxForgetBiasRefIdeal.nD Cert.AdamFoxForgetBiasRefIdeal.τ).loc Cert.AdamFoxForgetBiasRefIdeal.main_arg0) = m' ((c.tc : Thread Cert.AdamFoxForgetBiasRefIdeal.nD Cert.AdamFoxForgetBiasRefIdeal.τ).loc Cert.AdamFoxForgetBiasRefIdeal.main_arg0)
          ∧ r.2.mem ((c.tc : Thread Cert.AdamFoxForgetBiasRefIdeal.nD Cert.AdamFoxForgetBiasRefIdeal.τ).loc Cert.AdamFoxForgetBiasRefIdeal.main_arg1) = m' ((c.tc : Thread Cert.AdamFoxForgetBiasRefIdeal.nD Cert.AdamFoxForgetBiasRefIdeal.τ).loc Cert.AdamFoxForgetBiasRefIdeal.main_arg1)
          ∧ r.2.mem ((c.tc : Thread Cert.AdamFoxForgetBiasRefIdeal.nD Cert.AdamFoxForgetBiasRefIdeal.τ).loc Cert.AdamFoxForgetBiasRefIdeal.main_arg2) = m' ((c.tc : Thread Cert.AdamFoxForgetBiasRefIdeal.nD Cert.AdamFoxForgetBiasRefIdeal.τ).loc Cert.AdamFoxForgetBiasRefIdeal.main_arg2)
          ∧ r.2.mem ((c.tc : Thread Cert.AdamFoxForgetBiasRefIdeal.nD Cert.AdamFoxForgetBiasRefIdeal.τ).loc Cert.AdamFoxForgetBiasRefIdeal.main_arg3) = m' ((c.tc : Thread Cert.AdamFoxForgetBiasRefIdeal.nD Cert.AdamFoxForgetBiasRefIdeal.τ).loc Cert.AdamFoxForgetBiasRefIdeal.main_arg3))

def preserves_AdamSsdConvW_AdamSsdConvWIdeal : Prop :=
  True

def algebraic_AdamSsdConvWIdeal_AdamSsdConvWRefIdeal [hAdamSsdConvWIdeal : Cert.AdamSsdConvWIdeal.Facts] [hAdamSsdConvWRefIdeal : Cert.AdamSsdConvWRefIdeal.Facts] : Prop :=
  ∀ (m : (ℓ : Loc Cert.AdamSsdConvWIdeal.nD Cert.AdamSsdConvWIdeal.τ Cert.AdamSsdConvWIdeal.sig) → Buf (Elt Ideal) ℓ) (g : Dev Cert.AdamSsdConvWIdeal.nD → PrngReg)
    (m' : (ℓ : Loc Cert.AdamSsdConvWRefIdeal.nD Cert.AdamSsdConvWRefIdeal.τ Cert.AdamSsdConvWRefIdeal.sig) → Buf (Elt Ideal) ℓ) (g' : Dev Cert.AdamSsdConvWRefIdeal.nD → PrngReg), Pre_AdamSsdConvWIdeal m →
    (∀ c : Dev Cert.AdamSsdConvWIdeal.nD,
      m' ((c.tc : Thread Cert.AdamSsdConvWRefIdeal.nD Cert.AdamSsdConvWRefIdeal.τ).loc Cert.AdamSsdConvWRefIdeal.main_arg0) = m ((c.tc : Thread Cert.AdamSsdConvWIdeal.nD Cert.AdamSsdConvWIdeal.τ).loc Cert.AdamSsdConvWIdeal.main_arg0)
      ∧ m' ((c.tc : Thread Cert.AdamSsdConvWRefIdeal.nD Cert.AdamSsdConvWRefIdeal.τ).loc Cert.AdamSsdConvWRefIdeal.main_arg1) = m ((c.tc : Thread Cert.AdamSsdConvWIdeal.nD Cert.AdamSsdConvWIdeal.τ).loc Cert.AdamSsdConvWIdeal.main_arg1)
      ∧ m' ((c.tc : Thread Cert.AdamSsdConvWRefIdeal.nD Cert.AdamSsdConvWRefIdeal.τ).loc Cert.AdamSsdConvWRefIdeal.main_arg2) = m ((c.tc : Thread Cert.AdamSsdConvWIdeal.nD Cert.AdamSsdConvWIdeal.τ).loc Cert.AdamSsdConvWIdeal.main_arg2)
      ∧ m' ((c.tc : Thread Cert.AdamSsdConvWRefIdeal.nD Cert.AdamSsdConvWRefIdeal.τ).loc Cert.AdamSsdConvWRefIdeal.main_arg3) = m ((c.tc : Thread Cert.AdamSsdConvWIdeal.nD Cert.AdamSsdConvWIdeal.τ).loc Cert.AdamSsdConvWIdeal.main_arg3)) →
    ∃ (v0 : (c : Dev Cert.AdamSsdConvWIdeal.nD) → Buf (Elt Ideal) ((c.tc : Thread Cert.AdamSsdConvWIdeal.nD Cert.AdamSsdConvWIdeal.τ).loc Cert.AdamSsdConvWIdeal.main_v4_0)) (v1 : (c : Dev Cert.AdamSsdConvWIdeal.nD) → Buf (Elt Ideal) ((c.tc : Thread Cert.AdamSsdConvWIdeal.nD Cert.AdamSsdConvWIdeal.τ).loc Cert.AdamSsdConvWIdeal.main_v4_1)) (v2 : (c : Dev Cert.AdamSsdConvWIdeal.nD) → Buf (Elt Ideal) ((c.tc : Thread Cert.AdamSsdConvWIdeal.nD Cert.AdamSsdConvWIdeal.τ).loc Cert.AdamSsdConvWIdeal.main_v4_2)),
      θ_run (Cert.AdamSsdConvWIdeal.defs (F := Ideal)) (onTc (τ := Cert.AdamSsdConvWIdeal.τ) (Cert.AdamSsdConvWIdeal.main (F := Ideal))) ⟨m, fun _ => 0, g⟩ (fun r => ∀ c : Dev Cert.AdamSsdConvWIdeal.nD,
          r.2.mem ((c.tc : Thread Cert.AdamSsdConvWIdeal.nD Cert.AdamSsdConvWIdeal.τ).loc Cert.AdamSsdConvWIdeal.main_v4_0) = v0 c
          ∧ r.2.mem ((c.tc : Thread Cert.AdamSsdConvWIdeal.nD Cert.AdamSsdConvWIdeal.τ).loc Cert.AdamSsdConvWIdeal.main_v4_1) = v1 c
          ∧ r.2.mem ((c.tc : Thread Cert.AdamSsdConvWIdeal.nD Cert.AdamSsdConvWIdeal.τ).loc Cert.AdamSsdConvWIdeal.main_v4_2) = v2 c
          ∧ r.2.mem ((c.tc : Thread Cert.AdamSsdConvWIdeal.nD Cert.AdamSsdConvWIdeal.τ).loc Cert.AdamSsdConvWIdeal.main_arg0) = m ((c.tc : Thread Cert.AdamSsdConvWIdeal.nD Cert.AdamSsdConvWIdeal.τ).loc Cert.AdamSsdConvWIdeal.main_arg0)
          ∧ r.2.mem ((c.tc : Thread Cert.AdamSsdConvWIdeal.nD Cert.AdamSsdConvWIdeal.τ).loc Cert.AdamSsdConvWIdeal.main_arg1) = m ((c.tc : Thread Cert.AdamSsdConvWIdeal.nD Cert.AdamSsdConvWIdeal.τ).loc Cert.AdamSsdConvWIdeal.main_arg1)
          ∧ r.2.mem ((c.tc : Thread Cert.AdamSsdConvWIdeal.nD Cert.AdamSsdConvWIdeal.τ).loc Cert.AdamSsdConvWIdeal.main_arg2) = m ((c.tc : Thread Cert.AdamSsdConvWIdeal.nD Cert.AdamSsdConvWIdeal.τ).loc Cert.AdamSsdConvWIdeal.main_arg2)
          ∧ r.2.mem ((c.tc : Thread Cert.AdamSsdConvWIdeal.nD Cert.AdamSsdConvWIdeal.τ).loc Cert.AdamSsdConvWIdeal.main_arg3) = m ((c.tc : Thread Cert.AdamSsdConvWIdeal.nD Cert.AdamSsdConvWIdeal.τ).loc Cert.AdamSsdConvWIdeal.main_arg3))
      ∧ θ_run (Cert.AdamSsdConvWRefIdeal.defs (F := Ideal)) (onTc (τ := Cert.AdamSsdConvWRefIdeal.τ) (Cert.AdamSsdConvWRefIdeal.main (F := Ideal))) ⟨m', fun _ => 0, g'⟩ (fun r => ∀ c : Dev Cert.AdamSsdConvWRefIdeal.nD,
          r.2.mem ((c.tc : Thread Cert.AdamSsdConvWRefIdeal.nD Cert.AdamSsdConvWRefIdeal.τ).loc Cert.AdamSsdConvWRefIdeal.main_v24) = v0 c
          ∧ r.2.mem ((c.tc : Thread Cert.AdamSsdConvWRefIdeal.nD Cert.AdamSsdConvWRefIdeal.τ).loc Cert.AdamSsdConvWRefIdeal.main_v25) = v1 c
          ∧ r.2.mem ((c.tc : Thread Cert.AdamSsdConvWRefIdeal.nD Cert.AdamSsdConvWRefIdeal.τ).loc Cert.AdamSsdConvWRefIdeal.main_v26) = v2 c
          ∧ r.2.mem ((c.tc : Thread Cert.AdamSsdConvWRefIdeal.nD Cert.AdamSsdConvWRefIdeal.τ).loc Cert.AdamSsdConvWRefIdeal.main_arg0) = m' ((c.tc : Thread Cert.AdamSsdConvWRefIdeal.nD Cert.AdamSsdConvWRefIdeal.τ).loc Cert.AdamSsdConvWRefIdeal.main_arg0)
          ∧ r.2.mem ((c.tc : Thread Cert.AdamSsdConvWRefIdeal.nD Cert.AdamSsdConvWRefIdeal.τ).loc Cert.AdamSsdConvWRefIdeal.main_arg1) = m' ((c.tc : Thread Cert.AdamSsdConvWRefIdeal.nD Cert.AdamSsdConvWRefIdeal.τ).loc Cert.AdamSsdConvWRefIdeal.main_arg1)
          ∧ r.2.mem ((c.tc : Thread Cert.AdamSsdConvWRefIdeal.nD Cert.AdamSsdConvWRefIdeal.τ).loc Cert.AdamSsdConvWRefIdeal.main_arg2) = m' ((c.tc : Thread Cert.AdamSsdConvWRefIdeal.nD Cert.AdamSsdConvWRefIdeal.τ).loc Cert.AdamSsdConvWRefIdeal.main_arg2)
          ∧ r.2.mem ((c.tc : Thread Cert.AdamSsdConvWRefIdeal.nD Cert.AdamSsdConvWRefIdeal.τ).loc Cert.AdamSsdConvWRefIdeal.main_arg3) = m' ((c.tc : Thread Cert.AdamSsdConvWRefIdeal.nD Cert.AdamSsdConvWRefIdeal.τ).loc Cert.AdamSsdConvWRefIdeal.main_arg3))

def preserves_AdamSsdConvB_AdamSsdConvBIdeal : Prop :=
  True

def algebraic_AdamSsdConvBIdeal_AdamSsdConvBRefIdeal [hAdamSsdConvBIdeal : Cert.AdamSsdConvBIdeal.Facts] [hAdamSsdConvBRefIdeal : Cert.AdamSsdConvBRefIdeal.Facts] : Prop :=
  ∀ (m : (ℓ : Loc Cert.AdamSsdConvBIdeal.nD Cert.AdamSsdConvBIdeal.τ Cert.AdamSsdConvBIdeal.sig) → Buf (Elt Ideal) ℓ) (g : Dev Cert.AdamSsdConvBIdeal.nD → PrngReg)
    (m' : (ℓ : Loc Cert.AdamSsdConvBRefIdeal.nD Cert.AdamSsdConvBRefIdeal.τ Cert.AdamSsdConvBRefIdeal.sig) → Buf (Elt Ideal) ℓ) (g' : Dev Cert.AdamSsdConvBRefIdeal.nD → PrngReg), Pre_AdamSsdConvBIdeal m →
    (∀ c : Dev Cert.AdamSsdConvBIdeal.nD,
      m' ((c.tc : Thread Cert.AdamSsdConvBRefIdeal.nD Cert.AdamSsdConvBRefIdeal.τ).loc Cert.AdamSsdConvBRefIdeal.main_arg0) = m ((c.tc : Thread Cert.AdamSsdConvBIdeal.nD Cert.AdamSsdConvBIdeal.τ).loc Cert.AdamSsdConvBIdeal.main_arg0)
      ∧ m' ((c.tc : Thread Cert.AdamSsdConvBRefIdeal.nD Cert.AdamSsdConvBRefIdeal.τ).loc Cert.AdamSsdConvBRefIdeal.main_arg1) = m ((c.tc : Thread Cert.AdamSsdConvBIdeal.nD Cert.AdamSsdConvBIdeal.τ).loc Cert.AdamSsdConvBIdeal.main_arg1)
      ∧ m' ((c.tc : Thread Cert.AdamSsdConvBRefIdeal.nD Cert.AdamSsdConvBRefIdeal.τ).loc Cert.AdamSsdConvBRefIdeal.main_arg2) = m ((c.tc : Thread Cert.AdamSsdConvBIdeal.nD Cert.AdamSsdConvBIdeal.τ).loc Cert.AdamSsdConvBIdeal.main_arg2)
      ∧ m' ((c.tc : Thread Cert.AdamSsdConvBRefIdeal.nD Cert.AdamSsdConvBRefIdeal.τ).loc Cert.AdamSsdConvBRefIdeal.main_arg3) = m ((c.tc : Thread Cert.AdamSsdConvBIdeal.nD Cert.AdamSsdConvBIdeal.τ).loc Cert.AdamSsdConvBIdeal.main_arg3)) →
    ∃ (v0 : (c : Dev Cert.AdamSsdConvBIdeal.nD) → Buf (Elt Ideal) ((c.tc : Thread Cert.AdamSsdConvBIdeal.nD Cert.AdamSsdConvBIdeal.τ).loc Cert.AdamSsdConvBIdeal.main_v0_0)) (v1 : (c : Dev Cert.AdamSsdConvBIdeal.nD) → Buf (Elt Ideal) ((c.tc : Thread Cert.AdamSsdConvBIdeal.nD Cert.AdamSsdConvBIdeal.τ).loc Cert.AdamSsdConvBIdeal.main_v0_1)) (v2 : (c : Dev Cert.AdamSsdConvBIdeal.nD) → Buf (Elt Ideal) ((c.tc : Thread Cert.AdamSsdConvBIdeal.nD Cert.AdamSsdConvBIdeal.τ).loc Cert.AdamSsdConvBIdeal.main_v0_2)),
      θ_run (Cert.AdamSsdConvBIdeal.defs (F := Ideal)) (onTc (τ := Cert.AdamSsdConvBIdeal.τ) (Cert.AdamSsdConvBIdeal.main (F := Ideal))) ⟨m, fun _ => 0, g⟩ (fun r => ∀ c : Dev Cert.AdamSsdConvBIdeal.nD,
          r.2.mem ((c.tc : Thread Cert.AdamSsdConvBIdeal.nD Cert.AdamSsdConvBIdeal.τ).loc Cert.AdamSsdConvBIdeal.main_v0_0) = v0 c
          ∧ r.2.mem ((c.tc : Thread Cert.AdamSsdConvBIdeal.nD Cert.AdamSsdConvBIdeal.τ).loc Cert.AdamSsdConvBIdeal.main_v0_1) = v1 c
          ∧ r.2.mem ((c.tc : Thread Cert.AdamSsdConvBIdeal.nD Cert.AdamSsdConvBIdeal.τ).loc Cert.AdamSsdConvBIdeal.main_v0_2) = v2 c
          ∧ r.2.mem ((c.tc : Thread Cert.AdamSsdConvBIdeal.nD Cert.AdamSsdConvBIdeal.τ).loc Cert.AdamSsdConvBIdeal.main_arg0) = m ((c.tc : Thread Cert.AdamSsdConvBIdeal.nD Cert.AdamSsdConvBIdeal.τ).loc Cert.AdamSsdConvBIdeal.main_arg0)
          ∧ r.2.mem ((c.tc : Thread Cert.AdamSsdConvBIdeal.nD Cert.AdamSsdConvBIdeal.τ).loc Cert.AdamSsdConvBIdeal.main_arg1) = m ((c.tc : Thread Cert.AdamSsdConvBIdeal.nD Cert.AdamSsdConvBIdeal.τ).loc Cert.AdamSsdConvBIdeal.main_arg1)
          ∧ r.2.mem ((c.tc : Thread Cert.AdamSsdConvBIdeal.nD Cert.AdamSsdConvBIdeal.τ).loc Cert.AdamSsdConvBIdeal.main_arg2) = m ((c.tc : Thread Cert.AdamSsdConvBIdeal.nD Cert.AdamSsdConvBIdeal.τ).loc Cert.AdamSsdConvBIdeal.main_arg2)
          ∧ r.2.mem ((c.tc : Thread Cert.AdamSsdConvBIdeal.nD Cert.AdamSsdConvBIdeal.τ).loc Cert.AdamSsdConvBIdeal.main_arg3) = m ((c.tc : Thread Cert.AdamSsdConvBIdeal.nD Cert.AdamSsdConvBIdeal.τ).loc Cert.AdamSsdConvBIdeal.main_arg3))
      ∧ θ_run (Cert.AdamSsdConvBRefIdeal.defs (F := Ideal)) (onTc (τ := Cert.AdamSsdConvBRefIdeal.τ) (Cert.AdamSsdConvBRefIdeal.main (F := Ideal))) ⟨m', fun _ => 0, g'⟩ (fun r => ∀ c : Dev Cert.AdamSsdConvBRefIdeal.nD,
          r.2.mem ((c.tc : Thread Cert.AdamSsdConvBRefIdeal.nD Cert.AdamSsdConvBRefIdeal.τ).loc Cert.AdamSsdConvBRefIdeal.main_v23) = v0 c
          ∧ r.2.mem ((c.tc : Thread Cert.AdamSsdConvBRefIdeal.nD Cert.AdamSsdConvBRefIdeal.τ).loc Cert.AdamSsdConvBRefIdeal.main_v4) = v1 c
          ∧ r.2.mem ((c.tc : Thread Cert.AdamSsdConvBRefIdeal.nD Cert.AdamSsdConvBRefIdeal.τ).loc Cert.AdamSsdConvBRefIdeal.main_v10) = v2 c
          ∧ r.2.mem ((c.tc : Thread Cert.AdamSsdConvBRefIdeal.nD Cert.AdamSsdConvBRefIdeal.τ).loc Cert.AdamSsdConvBRefIdeal.main_arg0) = m' ((c.tc : Thread Cert.AdamSsdConvBRefIdeal.nD Cert.AdamSsdConvBRefIdeal.τ).loc Cert.AdamSsdConvBRefIdeal.main_arg0)
          ∧ r.2.mem ((c.tc : Thread Cert.AdamSsdConvBRefIdeal.nD Cert.AdamSsdConvBRefIdeal.τ).loc Cert.AdamSsdConvBRefIdeal.main_arg1) = m' ((c.tc : Thread Cert.AdamSsdConvBRefIdeal.nD Cert.AdamSsdConvBRefIdeal.τ).loc Cert.AdamSsdConvBRefIdeal.main_arg1)
          ∧ r.2.mem ((c.tc : Thread Cert.AdamSsdConvBRefIdeal.nD Cert.AdamSsdConvBRefIdeal.τ).loc Cert.AdamSsdConvBRefIdeal.main_arg2) = m' ((c.tc : Thread Cert.AdamSsdConvBRefIdeal.nD Cert.AdamSsdConvBRefIdeal.τ).loc Cert.AdamSsdConvBRefIdeal.main_arg2)
          ∧ r.2.mem ((c.tc : Thread Cert.AdamSsdConvBRefIdeal.nD Cert.AdamSsdConvBRefIdeal.τ).loc Cert.AdamSsdConvBRefIdeal.main_arg3) = m' ((c.tc : Thread Cert.AdamSsdConvBRefIdeal.nD Cert.AdamSsdConvBRefIdeal.τ).loc Cert.AdamSsdConvBRefIdeal.main_arg3))

def preserves_AdamSsdDtBias_AdamSsdDtBiasIdeal : Prop :=
  True

def algebraic_AdamSsdDtBiasIdeal_AdamSsdDtBiasRefIdeal [hAdamSsdDtBiasIdeal : Cert.AdamSsdDtBiasIdeal.Facts] [hAdamSsdDtBiasRefIdeal : Cert.AdamSsdDtBiasRefIdeal.Facts] : Prop :=
  ∀ (m : (ℓ : Loc Cert.AdamSsdDtBiasIdeal.nD Cert.AdamSsdDtBiasIdeal.τ Cert.AdamSsdDtBiasIdeal.sig) → Buf (Elt Ideal) ℓ) (g : Dev Cert.AdamSsdDtBiasIdeal.nD → PrngReg)
    (m' : (ℓ : Loc Cert.AdamSsdDtBiasRefIdeal.nD Cert.AdamSsdDtBiasRefIdeal.τ Cert.AdamSsdDtBiasRefIdeal.sig) → Buf (Elt Ideal) ℓ) (g' : Dev Cert.AdamSsdDtBiasRefIdeal.nD → PrngReg), Pre_AdamSsdDtBiasIdeal m →
    (∀ c : Dev Cert.AdamSsdDtBiasIdeal.nD,
      m' ((c.tc : Thread Cert.AdamSsdDtBiasRefIdeal.nD Cert.AdamSsdDtBiasRefIdeal.τ).loc Cert.AdamSsdDtBiasRefIdeal.main_arg0) = m ((c.tc : Thread Cert.AdamSsdDtBiasIdeal.nD Cert.AdamSsdDtBiasIdeal.τ).loc Cert.AdamSsdDtBiasIdeal.main_arg0)
      ∧ m' ((c.tc : Thread Cert.AdamSsdDtBiasRefIdeal.nD Cert.AdamSsdDtBiasRefIdeal.τ).loc Cert.AdamSsdDtBiasRefIdeal.main_arg1) = m ((c.tc : Thread Cert.AdamSsdDtBiasIdeal.nD Cert.AdamSsdDtBiasIdeal.τ).loc Cert.AdamSsdDtBiasIdeal.main_arg1)
      ∧ m' ((c.tc : Thread Cert.AdamSsdDtBiasRefIdeal.nD Cert.AdamSsdDtBiasRefIdeal.τ).loc Cert.AdamSsdDtBiasRefIdeal.main_arg2) = m ((c.tc : Thread Cert.AdamSsdDtBiasIdeal.nD Cert.AdamSsdDtBiasIdeal.τ).loc Cert.AdamSsdDtBiasIdeal.main_arg2)
      ∧ m' ((c.tc : Thread Cert.AdamSsdDtBiasRefIdeal.nD Cert.AdamSsdDtBiasRefIdeal.τ).loc Cert.AdamSsdDtBiasRefIdeal.main_arg3) = m ((c.tc : Thread Cert.AdamSsdDtBiasIdeal.nD Cert.AdamSsdDtBiasIdeal.τ).loc Cert.AdamSsdDtBiasIdeal.main_arg3)) →
    ∃ (v0 : (c : Dev Cert.AdamSsdDtBiasIdeal.nD) → Buf (Elt Ideal) ((c.tc : Thread Cert.AdamSsdDtBiasIdeal.nD Cert.AdamSsdDtBiasIdeal.τ).loc Cert.AdamSsdDtBiasIdeal.main_v0_0)) (v1 : (c : Dev Cert.AdamSsdDtBiasIdeal.nD) → Buf (Elt Ideal) ((c.tc : Thread Cert.AdamSsdDtBiasIdeal.nD Cert.AdamSsdDtBiasIdeal.τ).loc Cert.AdamSsdDtBiasIdeal.main_v0_1)) (v2 : (c : Dev Cert.AdamSsdDtBiasIdeal.nD) → Buf (Elt Ideal) ((c.tc : Thread Cert.AdamSsdDtBiasIdeal.nD Cert.AdamSsdDtBiasIdeal.τ).loc Cert.AdamSsdDtBiasIdeal.main_v0_2)),
      θ_run (Cert.AdamSsdDtBiasIdeal.defs (F := Ideal)) (onTc (τ := Cert.AdamSsdDtBiasIdeal.τ) (Cert.AdamSsdDtBiasIdeal.main (F := Ideal))) ⟨m, fun _ => 0, g⟩ (fun r => ∀ c : Dev Cert.AdamSsdDtBiasIdeal.nD,
          r.2.mem ((c.tc : Thread Cert.AdamSsdDtBiasIdeal.nD Cert.AdamSsdDtBiasIdeal.τ).loc Cert.AdamSsdDtBiasIdeal.main_v0_0) = v0 c
          ∧ r.2.mem ((c.tc : Thread Cert.AdamSsdDtBiasIdeal.nD Cert.AdamSsdDtBiasIdeal.τ).loc Cert.AdamSsdDtBiasIdeal.main_v0_1) = v1 c
          ∧ r.2.mem ((c.tc : Thread Cert.AdamSsdDtBiasIdeal.nD Cert.AdamSsdDtBiasIdeal.τ).loc Cert.AdamSsdDtBiasIdeal.main_v0_2) = v2 c
          ∧ r.2.mem ((c.tc : Thread Cert.AdamSsdDtBiasIdeal.nD Cert.AdamSsdDtBiasIdeal.τ).loc Cert.AdamSsdDtBiasIdeal.main_arg0) = m ((c.tc : Thread Cert.AdamSsdDtBiasIdeal.nD Cert.AdamSsdDtBiasIdeal.τ).loc Cert.AdamSsdDtBiasIdeal.main_arg0)
          ∧ r.2.mem ((c.tc : Thread Cert.AdamSsdDtBiasIdeal.nD Cert.AdamSsdDtBiasIdeal.τ).loc Cert.AdamSsdDtBiasIdeal.main_arg1) = m ((c.tc : Thread Cert.AdamSsdDtBiasIdeal.nD Cert.AdamSsdDtBiasIdeal.τ).loc Cert.AdamSsdDtBiasIdeal.main_arg1)
          ∧ r.2.mem ((c.tc : Thread Cert.AdamSsdDtBiasIdeal.nD Cert.AdamSsdDtBiasIdeal.τ).loc Cert.AdamSsdDtBiasIdeal.main_arg2) = m ((c.tc : Thread Cert.AdamSsdDtBiasIdeal.nD Cert.AdamSsdDtBiasIdeal.τ).loc Cert.AdamSsdDtBiasIdeal.main_arg2)
          ∧ r.2.mem ((c.tc : Thread Cert.AdamSsdDtBiasIdeal.nD Cert.AdamSsdDtBiasIdeal.τ).loc Cert.AdamSsdDtBiasIdeal.main_arg3) = m ((c.tc : Thread Cert.AdamSsdDtBiasIdeal.nD Cert.AdamSsdDtBiasIdeal.τ).loc Cert.AdamSsdDtBiasIdeal.main_arg3))
      ∧ θ_run (Cert.AdamSsdDtBiasRefIdeal.defs (F := Ideal)) (onTc (τ := Cert.AdamSsdDtBiasRefIdeal.τ) (Cert.AdamSsdDtBiasRefIdeal.main (F := Ideal))) ⟨m', fun _ => 0, g'⟩ (fun r => ∀ c : Dev Cert.AdamSsdDtBiasRefIdeal.nD,
          r.2.mem ((c.tc : Thread Cert.AdamSsdDtBiasRefIdeal.nD Cert.AdamSsdDtBiasRefIdeal.τ).loc Cert.AdamSsdDtBiasRefIdeal.main_v23) = v0 c
          ∧ r.2.mem ((c.tc : Thread Cert.AdamSsdDtBiasRefIdeal.nD Cert.AdamSsdDtBiasRefIdeal.τ).loc Cert.AdamSsdDtBiasRefIdeal.main_v4) = v1 c
          ∧ r.2.mem ((c.tc : Thread Cert.AdamSsdDtBiasRefIdeal.nD Cert.AdamSsdDtBiasRefIdeal.τ).loc Cert.AdamSsdDtBiasRefIdeal.main_v10) = v2 c
          ∧ r.2.mem ((c.tc : Thread Cert.AdamSsdDtBiasRefIdeal.nD Cert.AdamSsdDtBiasRefIdeal.τ).loc Cert.AdamSsdDtBiasRefIdeal.main_arg0) = m' ((c.tc : Thread Cert.AdamSsdDtBiasRefIdeal.nD Cert.AdamSsdDtBiasRefIdeal.τ).loc Cert.AdamSsdDtBiasRefIdeal.main_arg0)
          ∧ r.2.mem ((c.tc : Thread Cert.AdamSsdDtBiasRefIdeal.nD Cert.AdamSsdDtBiasRefIdeal.τ).loc Cert.AdamSsdDtBiasRefIdeal.main_arg1) = m' ((c.tc : Thread Cert.AdamSsdDtBiasRefIdeal.nD Cert.AdamSsdDtBiasRefIdeal.τ).loc Cert.AdamSsdDtBiasRefIdeal.main_arg1)
          ∧ r.2.mem ((c.tc : Thread Cert.AdamSsdDtBiasRefIdeal.nD Cert.AdamSsdDtBiasRefIdeal.τ).loc Cert.AdamSsdDtBiasRefIdeal.main_arg2) = m' ((c.tc : Thread Cert.AdamSsdDtBiasRefIdeal.nD Cert.AdamSsdDtBiasRefIdeal.τ).loc Cert.AdamSsdDtBiasRefIdeal.main_arg2)
          ∧ r.2.mem ((c.tc : Thread Cert.AdamSsdDtBiasRefIdeal.nD Cert.AdamSsdDtBiasRefIdeal.τ).loc Cert.AdamSsdDtBiasRefIdeal.main_arg3) = m' ((c.tc : Thread Cert.AdamSsdDtBiasRefIdeal.nD Cert.AdamSsdDtBiasRefIdeal.τ).loc Cert.AdamSsdDtBiasRefIdeal.main_arg3))

def preserves_AdamSsdALog_AdamSsdALogIdeal : Prop :=
  True

def algebraic_AdamSsdALogIdeal_AdamSsdALogRefIdeal [hAdamSsdALogIdeal : Cert.AdamSsdALogIdeal.Facts] [hAdamSsdALogRefIdeal : Cert.AdamSsdALogRefIdeal.Facts] : Prop :=
  ∀ (m : (ℓ : Loc Cert.AdamSsdALogIdeal.nD Cert.AdamSsdALogIdeal.τ Cert.AdamSsdALogIdeal.sig) → Buf (Elt Ideal) ℓ) (g : Dev Cert.AdamSsdALogIdeal.nD → PrngReg)
    (m' : (ℓ : Loc Cert.AdamSsdALogRefIdeal.nD Cert.AdamSsdALogRefIdeal.τ Cert.AdamSsdALogRefIdeal.sig) → Buf (Elt Ideal) ℓ) (g' : Dev Cert.AdamSsdALogRefIdeal.nD → PrngReg), Pre_AdamSsdALogIdeal m →
    (∀ c : Dev Cert.AdamSsdALogIdeal.nD,
      m' ((c.tc : Thread Cert.AdamSsdALogRefIdeal.nD Cert.AdamSsdALogRefIdeal.τ).loc Cert.AdamSsdALogRefIdeal.main_arg0) = m ((c.tc : Thread Cert.AdamSsdALogIdeal.nD Cert.AdamSsdALogIdeal.τ).loc Cert.AdamSsdALogIdeal.main_arg0)
      ∧ m' ((c.tc : Thread Cert.AdamSsdALogRefIdeal.nD Cert.AdamSsdALogRefIdeal.τ).loc Cert.AdamSsdALogRefIdeal.main_arg1) = m ((c.tc : Thread Cert.AdamSsdALogIdeal.nD Cert.AdamSsdALogIdeal.τ).loc Cert.AdamSsdALogIdeal.main_arg1)
      ∧ m' ((c.tc : Thread Cert.AdamSsdALogRefIdeal.nD Cert.AdamSsdALogRefIdeal.τ).loc Cert.AdamSsdALogRefIdeal.main_arg2) = m ((c.tc : Thread Cert.AdamSsdALogIdeal.nD Cert.AdamSsdALogIdeal.τ).loc Cert.AdamSsdALogIdeal.main_arg2)
      ∧ m' ((c.tc : Thread Cert.AdamSsdALogRefIdeal.nD Cert.AdamSsdALogRefIdeal.τ).loc Cert.AdamSsdALogRefIdeal.main_arg3) = m ((c.tc : Thread Cert.AdamSsdALogIdeal.nD Cert.AdamSsdALogIdeal.τ).loc Cert.AdamSsdALogIdeal.main_arg3)) →
    ∃ (v0 : (c : Dev Cert.AdamSsdALogIdeal.nD) → Buf (Elt Ideal) ((c.tc : Thread Cert.AdamSsdALogIdeal.nD Cert.AdamSsdALogIdeal.τ).loc Cert.AdamSsdALogIdeal.main_v0_0)) (v1 : (c : Dev Cert.AdamSsdALogIdeal.nD) → Buf (Elt Ideal) ((c.tc : Thread Cert.AdamSsdALogIdeal.nD Cert.AdamSsdALogIdeal.τ).loc Cert.AdamSsdALogIdeal.main_v0_1)) (v2 : (c : Dev Cert.AdamSsdALogIdeal.nD) → Buf (Elt Ideal) ((c.tc : Thread Cert.AdamSsdALogIdeal.nD Cert.AdamSsdALogIdeal.τ).loc Cert.AdamSsdALogIdeal.main_v0_2)),
      θ_run (Cert.AdamSsdALogIdeal.defs (F := Ideal)) (onTc (τ := Cert.AdamSsdALogIdeal.τ) (Cert.AdamSsdALogIdeal.main (F := Ideal))) ⟨m, fun _ => 0, g⟩ (fun r => ∀ c : Dev Cert.AdamSsdALogIdeal.nD,
          r.2.mem ((c.tc : Thread Cert.AdamSsdALogIdeal.nD Cert.AdamSsdALogIdeal.τ).loc Cert.AdamSsdALogIdeal.main_v0_0) = v0 c
          ∧ r.2.mem ((c.tc : Thread Cert.AdamSsdALogIdeal.nD Cert.AdamSsdALogIdeal.τ).loc Cert.AdamSsdALogIdeal.main_v0_1) = v1 c
          ∧ r.2.mem ((c.tc : Thread Cert.AdamSsdALogIdeal.nD Cert.AdamSsdALogIdeal.τ).loc Cert.AdamSsdALogIdeal.main_v0_2) = v2 c
          ∧ r.2.mem ((c.tc : Thread Cert.AdamSsdALogIdeal.nD Cert.AdamSsdALogIdeal.τ).loc Cert.AdamSsdALogIdeal.main_arg0) = m ((c.tc : Thread Cert.AdamSsdALogIdeal.nD Cert.AdamSsdALogIdeal.τ).loc Cert.AdamSsdALogIdeal.main_arg0)
          ∧ r.2.mem ((c.tc : Thread Cert.AdamSsdALogIdeal.nD Cert.AdamSsdALogIdeal.τ).loc Cert.AdamSsdALogIdeal.main_arg1) = m ((c.tc : Thread Cert.AdamSsdALogIdeal.nD Cert.AdamSsdALogIdeal.τ).loc Cert.AdamSsdALogIdeal.main_arg1)
          ∧ r.2.mem ((c.tc : Thread Cert.AdamSsdALogIdeal.nD Cert.AdamSsdALogIdeal.τ).loc Cert.AdamSsdALogIdeal.main_arg2) = m ((c.tc : Thread Cert.AdamSsdALogIdeal.nD Cert.AdamSsdALogIdeal.τ).loc Cert.AdamSsdALogIdeal.main_arg2)
          ∧ r.2.mem ((c.tc : Thread Cert.AdamSsdALogIdeal.nD Cert.AdamSsdALogIdeal.τ).loc Cert.AdamSsdALogIdeal.main_arg3) = m ((c.tc : Thread Cert.AdamSsdALogIdeal.nD Cert.AdamSsdALogIdeal.τ).loc Cert.AdamSsdALogIdeal.main_arg3))
      ∧ θ_run (Cert.AdamSsdALogRefIdeal.defs (F := Ideal)) (onTc (τ := Cert.AdamSsdALogRefIdeal.τ) (Cert.AdamSsdALogRefIdeal.main (F := Ideal))) ⟨m', fun _ => 0, g'⟩ (fun r => ∀ c : Dev Cert.AdamSsdALogRefIdeal.nD,
          r.2.mem ((c.tc : Thread Cert.AdamSsdALogRefIdeal.nD Cert.AdamSsdALogRefIdeal.τ).loc Cert.AdamSsdALogRefIdeal.main_v23) = v0 c
          ∧ r.2.mem ((c.tc : Thread Cert.AdamSsdALogRefIdeal.nD Cert.AdamSsdALogRefIdeal.τ).loc Cert.AdamSsdALogRefIdeal.main_v4) = v1 c
          ∧ r.2.mem ((c.tc : Thread Cert.AdamSsdALogRefIdeal.nD Cert.AdamSsdALogRefIdeal.τ).loc Cert.AdamSsdALogRefIdeal.main_v10) = v2 c
          ∧ r.2.mem ((c.tc : Thread Cert.AdamSsdALogRefIdeal.nD Cert.AdamSsdALogRefIdeal.τ).loc Cert.AdamSsdALogRefIdeal.main_arg0) = m' ((c.tc : Thread Cert.AdamSsdALogRefIdeal.nD Cert.AdamSsdALogRefIdeal.τ).loc Cert.AdamSsdALogRefIdeal.main_arg0)
          ∧ r.2.mem ((c.tc : Thread Cert.AdamSsdALogRefIdeal.nD Cert.AdamSsdALogRefIdeal.τ).loc Cert.AdamSsdALogRefIdeal.main_arg1) = m' ((c.tc : Thread Cert.AdamSsdALogRefIdeal.nD Cert.AdamSsdALogRefIdeal.τ).loc Cert.AdamSsdALogRefIdeal.main_arg1)
          ∧ r.2.mem ((c.tc : Thread Cert.AdamSsdALogRefIdeal.nD Cert.AdamSsdALogRefIdeal.τ).loc Cert.AdamSsdALogRefIdeal.main_arg2) = m' ((c.tc : Thread Cert.AdamSsdALogRefIdeal.nD Cert.AdamSsdALogRefIdeal.τ).loc Cert.AdamSsdALogRefIdeal.main_arg2)
          ∧ r.2.mem ((c.tc : Thread Cert.AdamSsdALogRefIdeal.nD Cert.AdamSsdALogRefIdeal.τ).loc Cert.AdamSsdALogRefIdeal.main_arg3) = m' ((c.tc : Thread Cert.AdamSsdALogRefIdeal.nD Cert.AdamSsdALogRefIdeal.τ).loc Cert.AdamSsdALogRefIdeal.main_arg3))

def preserves_AdamSsdD_AdamSsdDIdeal : Prop :=
  True

def algebraic_AdamSsdDIdeal_AdamSsdDRefIdeal [hAdamSsdDIdeal : Cert.AdamSsdDIdeal.Facts] [hAdamSsdDRefIdeal : Cert.AdamSsdDRefIdeal.Facts] : Prop :=
  ∀ (m : (ℓ : Loc Cert.AdamSsdDIdeal.nD Cert.AdamSsdDIdeal.τ Cert.AdamSsdDIdeal.sig) → Buf (Elt Ideal) ℓ) (g : Dev Cert.AdamSsdDIdeal.nD → PrngReg)
    (m' : (ℓ : Loc Cert.AdamSsdDRefIdeal.nD Cert.AdamSsdDRefIdeal.τ Cert.AdamSsdDRefIdeal.sig) → Buf (Elt Ideal) ℓ) (g' : Dev Cert.AdamSsdDRefIdeal.nD → PrngReg), Pre_AdamSsdDIdeal m →
    (∀ c : Dev Cert.AdamSsdDIdeal.nD,
      m' ((c.tc : Thread Cert.AdamSsdDRefIdeal.nD Cert.AdamSsdDRefIdeal.τ).loc Cert.AdamSsdDRefIdeal.main_arg0) = m ((c.tc : Thread Cert.AdamSsdDIdeal.nD Cert.AdamSsdDIdeal.τ).loc Cert.AdamSsdDIdeal.main_arg0)
      ∧ m' ((c.tc : Thread Cert.AdamSsdDRefIdeal.nD Cert.AdamSsdDRefIdeal.τ).loc Cert.AdamSsdDRefIdeal.main_arg1) = m ((c.tc : Thread Cert.AdamSsdDIdeal.nD Cert.AdamSsdDIdeal.τ).loc Cert.AdamSsdDIdeal.main_arg1)
      ∧ m' ((c.tc : Thread Cert.AdamSsdDRefIdeal.nD Cert.AdamSsdDRefIdeal.τ).loc Cert.AdamSsdDRefIdeal.main_arg2) = m ((c.tc : Thread Cert.AdamSsdDIdeal.nD Cert.AdamSsdDIdeal.τ).loc Cert.AdamSsdDIdeal.main_arg2)
      ∧ m' ((c.tc : Thread Cert.AdamSsdDRefIdeal.nD Cert.AdamSsdDRefIdeal.τ).loc Cert.AdamSsdDRefIdeal.main_arg3) = m ((c.tc : Thread Cert.AdamSsdDIdeal.nD Cert.AdamSsdDIdeal.τ).loc Cert.AdamSsdDIdeal.main_arg3)) →
    ∃ (v0 : (c : Dev Cert.AdamSsdDIdeal.nD) → Buf (Elt Ideal) ((c.tc : Thread Cert.AdamSsdDIdeal.nD Cert.AdamSsdDIdeal.τ).loc Cert.AdamSsdDIdeal.main_v0_0)) (v1 : (c : Dev Cert.AdamSsdDIdeal.nD) → Buf (Elt Ideal) ((c.tc : Thread Cert.AdamSsdDIdeal.nD Cert.AdamSsdDIdeal.τ).loc Cert.AdamSsdDIdeal.main_v0_1)) (v2 : (c : Dev Cert.AdamSsdDIdeal.nD) → Buf (Elt Ideal) ((c.tc : Thread Cert.AdamSsdDIdeal.nD Cert.AdamSsdDIdeal.τ).loc Cert.AdamSsdDIdeal.main_v0_2)),
      θ_run (Cert.AdamSsdDIdeal.defs (F := Ideal)) (onTc (τ := Cert.AdamSsdDIdeal.τ) (Cert.AdamSsdDIdeal.main (F := Ideal))) ⟨m, fun _ => 0, g⟩ (fun r => ∀ c : Dev Cert.AdamSsdDIdeal.nD,
          r.2.mem ((c.tc : Thread Cert.AdamSsdDIdeal.nD Cert.AdamSsdDIdeal.τ).loc Cert.AdamSsdDIdeal.main_v0_0) = v0 c
          ∧ r.2.mem ((c.tc : Thread Cert.AdamSsdDIdeal.nD Cert.AdamSsdDIdeal.τ).loc Cert.AdamSsdDIdeal.main_v0_1) = v1 c
          ∧ r.2.mem ((c.tc : Thread Cert.AdamSsdDIdeal.nD Cert.AdamSsdDIdeal.τ).loc Cert.AdamSsdDIdeal.main_v0_2) = v2 c
          ∧ r.2.mem ((c.tc : Thread Cert.AdamSsdDIdeal.nD Cert.AdamSsdDIdeal.τ).loc Cert.AdamSsdDIdeal.main_arg0) = m ((c.tc : Thread Cert.AdamSsdDIdeal.nD Cert.AdamSsdDIdeal.τ).loc Cert.AdamSsdDIdeal.main_arg0)
          ∧ r.2.mem ((c.tc : Thread Cert.AdamSsdDIdeal.nD Cert.AdamSsdDIdeal.τ).loc Cert.AdamSsdDIdeal.main_arg1) = m ((c.tc : Thread Cert.AdamSsdDIdeal.nD Cert.AdamSsdDIdeal.τ).loc Cert.AdamSsdDIdeal.main_arg1)
          ∧ r.2.mem ((c.tc : Thread Cert.AdamSsdDIdeal.nD Cert.AdamSsdDIdeal.τ).loc Cert.AdamSsdDIdeal.main_arg2) = m ((c.tc : Thread Cert.AdamSsdDIdeal.nD Cert.AdamSsdDIdeal.τ).loc Cert.AdamSsdDIdeal.main_arg2)
          ∧ r.2.mem ((c.tc : Thread Cert.AdamSsdDIdeal.nD Cert.AdamSsdDIdeal.τ).loc Cert.AdamSsdDIdeal.main_arg3) = m ((c.tc : Thread Cert.AdamSsdDIdeal.nD Cert.AdamSsdDIdeal.τ).loc Cert.AdamSsdDIdeal.main_arg3))
      ∧ θ_run (Cert.AdamSsdDRefIdeal.defs (F := Ideal)) (onTc (τ := Cert.AdamSsdDRefIdeal.τ) (Cert.AdamSsdDRefIdeal.main (F := Ideal))) ⟨m', fun _ => 0, g'⟩ (fun r => ∀ c : Dev Cert.AdamSsdDRefIdeal.nD,
          r.2.mem ((c.tc : Thread Cert.AdamSsdDRefIdeal.nD Cert.AdamSsdDRefIdeal.τ).loc Cert.AdamSsdDRefIdeal.main_v23) = v0 c
          ∧ r.2.mem ((c.tc : Thread Cert.AdamSsdDRefIdeal.nD Cert.AdamSsdDRefIdeal.τ).loc Cert.AdamSsdDRefIdeal.main_v4) = v1 c
          ∧ r.2.mem ((c.tc : Thread Cert.AdamSsdDRefIdeal.nD Cert.AdamSsdDRefIdeal.τ).loc Cert.AdamSsdDRefIdeal.main_v10) = v2 c
          ∧ r.2.mem ((c.tc : Thread Cert.AdamSsdDRefIdeal.nD Cert.AdamSsdDRefIdeal.τ).loc Cert.AdamSsdDRefIdeal.main_arg0) = m' ((c.tc : Thread Cert.AdamSsdDRefIdeal.nD Cert.AdamSsdDRefIdeal.τ).loc Cert.AdamSsdDRefIdeal.main_arg0)
          ∧ r.2.mem ((c.tc : Thread Cert.AdamSsdDRefIdeal.nD Cert.AdamSsdDRefIdeal.τ).loc Cert.AdamSsdDRefIdeal.main_arg1) = m' ((c.tc : Thread Cert.AdamSsdDRefIdeal.nD Cert.AdamSsdDRefIdeal.τ).loc Cert.AdamSsdDRefIdeal.main_arg1)
          ∧ r.2.mem ((c.tc : Thread Cert.AdamSsdDRefIdeal.nD Cert.AdamSsdDRefIdeal.τ).loc Cert.AdamSsdDRefIdeal.main_arg2) = m' ((c.tc : Thread Cert.AdamSsdDRefIdeal.nD Cert.AdamSsdDRefIdeal.τ).loc Cert.AdamSsdDRefIdeal.main_arg2)
          ∧ r.2.mem ((c.tc : Thread Cert.AdamSsdDRefIdeal.nD Cert.AdamSsdDRefIdeal.τ).loc Cert.AdamSsdDRefIdeal.main_arg3) = m' ((c.tc : Thread Cert.AdamSsdDRefIdeal.nD Cert.AdamSsdDRefIdeal.τ).loc Cert.AdamSsdDRefIdeal.main_arg3))

def preserves_AdamSsdNorm_AdamSsdNormIdeal : Prop :=
  True

def algebraic_AdamSsdNormIdeal_AdamSsdNormRefIdeal [hAdamSsdNormIdeal : Cert.AdamSsdNormIdeal.Facts] [hAdamSsdNormRefIdeal : Cert.AdamSsdNormRefIdeal.Facts] : Prop :=
  ∀ (m : (ℓ : Loc Cert.AdamSsdNormIdeal.nD Cert.AdamSsdNormIdeal.τ Cert.AdamSsdNormIdeal.sig) → Buf (Elt Ideal) ℓ) (g : Dev Cert.AdamSsdNormIdeal.nD → PrngReg)
    (m' : (ℓ : Loc Cert.AdamSsdNormRefIdeal.nD Cert.AdamSsdNormRefIdeal.τ Cert.AdamSsdNormRefIdeal.sig) → Buf (Elt Ideal) ℓ) (g' : Dev Cert.AdamSsdNormRefIdeal.nD → PrngReg), Pre_AdamSsdNormIdeal m →
    (∀ c : Dev Cert.AdamSsdNormIdeal.nD,
      m' ((c.tc : Thread Cert.AdamSsdNormRefIdeal.nD Cert.AdamSsdNormRefIdeal.τ).loc Cert.AdamSsdNormRefIdeal.main_arg0) = m ((c.tc : Thread Cert.AdamSsdNormIdeal.nD Cert.AdamSsdNormIdeal.τ).loc Cert.AdamSsdNormIdeal.main_arg0)
      ∧ m' ((c.tc : Thread Cert.AdamSsdNormRefIdeal.nD Cert.AdamSsdNormRefIdeal.τ).loc Cert.AdamSsdNormRefIdeal.main_arg1) = m ((c.tc : Thread Cert.AdamSsdNormIdeal.nD Cert.AdamSsdNormIdeal.τ).loc Cert.AdamSsdNormIdeal.main_arg1)
      ∧ m' ((c.tc : Thread Cert.AdamSsdNormRefIdeal.nD Cert.AdamSsdNormRefIdeal.τ).loc Cert.AdamSsdNormRefIdeal.main_arg2) = m ((c.tc : Thread Cert.AdamSsdNormIdeal.nD Cert.AdamSsdNormIdeal.τ).loc Cert.AdamSsdNormIdeal.main_arg2)
      ∧ m' ((c.tc : Thread Cert.AdamSsdNormRefIdeal.nD Cert.AdamSsdNormRefIdeal.τ).loc Cert.AdamSsdNormRefIdeal.main_arg3) = m ((c.tc : Thread Cert.AdamSsdNormIdeal.nD Cert.AdamSsdNormIdeal.τ).loc Cert.AdamSsdNormIdeal.main_arg3)) →
    ∃ (v0 : (c : Dev Cert.AdamSsdNormIdeal.nD) → Buf (Elt Ideal) ((c.tc : Thread Cert.AdamSsdNormIdeal.nD Cert.AdamSsdNormIdeal.τ).loc Cert.AdamSsdNormIdeal.main_v0_0)) (v1 : (c : Dev Cert.AdamSsdNormIdeal.nD) → Buf (Elt Ideal) ((c.tc : Thread Cert.AdamSsdNormIdeal.nD Cert.AdamSsdNormIdeal.τ).loc Cert.AdamSsdNormIdeal.main_v0_1)) (v2 : (c : Dev Cert.AdamSsdNormIdeal.nD) → Buf (Elt Ideal) ((c.tc : Thread Cert.AdamSsdNormIdeal.nD Cert.AdamSsdNormIdeal.τ).loc Cert.AdamSsdNormIdeal.main_v0_2)),
      θ_run (Cert.AdamSsdNormIdeal.defs (F := Ideal)) (onTc (τ := Cert.AdamSsdNormIdeal.τ) (Cert.AdamSsdNormIdeal.main (F := Ideal))) ⟨m, fun _ => 0, g⟩ (fun r => ∀ c : Dev Cert.AdamSsdNormIdeal.nD,
          r.2.mem ((c.tc : Thread Cert.AdamSsdNormIdeal.nD Cert.AdamSsdNormIdeal.τ).loc Cert.AdamSsdNormIdeal.main_v0_0) = v0 c
          ∧ r.2.mem ((c.tc : Thread Cert.AdamSsdNormIdeal.nD Cert.AdamSsdNormIdeal.τ).loc Cert.AdamSsdNormIdeal.main_v0_1) = v1 c
          ∧ r.2.mem ((c.tc : Thread Cert.AdamSsdNormIdeal.nD Cert.AdamSsdNormIdeal.τ).loc Cert.AdamSsdNormIdeal.main_v0_2) = v2 c
          ∧ r.2.mem ((c.tc : Thread Cert.AdamSsdNormIdeal.nD Cert.AdamSsdNormIdeal.τ).loc Cert.AdamSsdNormIdeal.main_arg0) = m ((c.tc : Thread Cert.AdamSsdNormIdeal.nD Cert.AdamSsdNormIdeal.τ).loc Cert.AdamSsdNormIdeal.main_arg0)
          ∧ r.2.mem ((c.tc : Thread Cert.AdamSsdNormIdeal.nD Cert.AdamSsdNormIdeal.τ).loc Cert.AdamSsdNormIdeal.main_arg1) = m ((c.tc : Thread Cert.AdamSsdNormIdeal.nD Cert.AdamSsdNormIdeal.τ).loc Cert.AdamSsdNormIdeal.main_arg1)
          ∧ r.2.mem ((c.tc : Thread Cert.AdamSsdNormIdeal.nD Cert.AdamSsdNormIdeal.τ).loc Cert.AdamSsdNormIdeal.main_arg2) = m ((c.tc : Thread Cert.AdamSsdNormIdeal.nD Cert.AdamSsdNormIdeal.τ).loc Cert.AdamSsdNormIdeal.main_arg2)
          ∧ r.2.mem ((c.tc : Thread Cert.AdamSsdNormIdeal.nD Cert.AdamSsdNormIdeal.τ).loc Cert.AdamSsdNormIdeal.main_arg3) = m ((c.tc : Thread Cert.AdamSsdNormIdeal.nD Cert.AdamSsdNormIdeal.τ).loc Cert.AdamSsdNormIdeal.main_arg3))
      ∧ θ_run (Cert.AdamSsdNormRefIdeal.defs (F := Ideal)) (onTc (τ := Cert.AdamSsdNormRefIdeal.τ) (Cert.AdamSsdNormRefIdeal.main (F := Ideal))) ⟨m', fun _ => 0, g'⟩ (fun r => ∀ c : Dev Cert.AdamSsdNormRefIdeal.nD,
          r.2.mem ((c.tc : Thread Cert.AdamSsdNormRefIdeal.nD Cert.AdamSsdNormRefIdeal.τ).loc Cert.AdamSsdNormRefIdeal.main_v23) = v0 c
          ∧ r.2.mem ((c.tc : Thread Cert.AdamSsdNormRefIdeal.nD Cert.AdamSsdNormRefIdeal.τ).loc Cert.AdamSsdNormRefIdeal.main_v4) = v1 c
          ∧ r.2.mem ((c.tc : Thread Cert.AdamSsdNormRefIdeal.nD Cert.AdamSsdNormRefIdeal.τ).loc Cert.AdamSsdNormRefIdeal.main_v10) = v2 c
          ∧ r.2.mem ((c.tc : Thread Cert.AdamSsdNormRefIdeal.nD Cert.AdamSsdNormRefIdeal.τ).loc Cert.AdamSsdNormRefIdeal.main_arg0) = m' ((c.tc : Thread Cert.AdamSsdNormRefIdeal.nD Cert.AdamSsdNormRefIdeal.τ).loc Cert.AdamSsdNormRefIdeal.main_arg0)
          ∧ r.2.mem ((c.tc : Thread Cert.AdamSsdNormRefIdeal.nD Cert.AdamSsdNormRefIdeal.τ).loc Cert.AdamSsdNormRefIdeal.main_arg1) = m' ((c.tc : Thread Cert.AdamSsdNormRefIdeal.nD Cert.AdamSsdNormRefIdeal.τ).loc Cert.AdamSsdNormRefIdeal.main_arg1)
          ∧ r.2.mem ((c.tc : Thread Cert.AdamSsdNormRefIdeal.nD Cert.AdamSsdNormRefIdeal.τ).loc Cert.AdamSsdNormRefIdeal.main_arg2) = m' ((c.tc : Thread Cert.AdamSsdNormRefIdeal.nD Cert.AdamSsdNormRefIdeal.τ).loc Cert.AdamSsdNormRefIdeal.main_arg2)
          ∧ r.2.mem ((c.tc : Thread Cert.AdamSsdNormRefIdeal.nD Cert.AdamSsdNormRefIdeal.τ).loc Cert.AdamSsdNormRefIdeal.main_arg3) = m' ((c.tc : Thread Cert.AdamSsdNormRefIdeal.nD Cert.AdamSsdNormRefIdeal.τ).loc Cert.AdamSsdNormRefIdeal.main_arg3))

def preserves_AdamLruConvW_AdamLruConvWIdeal : Prop :=
  True

def algebraic_AdamLruConvWIdeal_AdamLruConvWRefIdeal [hAdamLruConvWIdeal : Cert.AdamLruConvWIdeal.Facts] [hAdamLruConvWRefIdeal : Cert.AdamLruConvWRefIdeal.Facts] : Prop :=
  ∀ (m : (ℓ : Loc Cert.AdamLruConvWIdeal.nD Cert.AdamLruConvWIdeal.τ Cert.AdamLruConvWIdeal.sig) → Buf (Elt Ideal) ℓ) (g : Dev Cert.AdamLruConvWIdeal.nD → PrngReg)
    (m' : (ℓ : Loc Cert.AdamLruConvWRefIdeal.nD Cert.AdamLruConvWRefIdeal.τ Cert.AdamLruConvWRefIdeal.sig) → Buf (Elt Ideal) ℓ) (g' : Dev Cert.AdamLruConvWRefIdeal.nD → PrngReg), Pre_AdamLruConvWIdeal m →
    (∀ c : Dev Cert.AdamLruConvWIdeal.nD,
      m' ((c.tc : Thread Cert.AdamLruConvWRefIdeal.nD Cert.AdamLruConvWRefIdeal.τ).loc Cert.AdamLruConvWRefIdeal.main_arg0) = m ((c.tc : Thread Cert.AdamLruConvWIdeal.nD Cert.AdamLruConvWIdeal.τ).loc Cert.AdamLruConvWIdeal.main_arg0)
      ∧ m' ((c.tc : Thread Cert.AdamLruConvWRefIdeal.nD Cert.AdamLruConvWRefIdeal.τ).loc Cert.AdamLruConvWRefIdeal.main_arg1) = m ((c.tc : Thread Cert.AdamLruConvWIdeal.nD Cert.AdamLruConvWIdeal.τ).loc Cert.AdamLruConvWIdeal.main_arg1)
      ∧ m' ((c.tc : Thread Cert.AdamLruConvWRefIdeal.nD Cert.AdamLruConvWRefIdeal.τ).loc Cert.AdamLruConvWRefIdeal.main_arg2) = m ((c.tc : Thread Cert.AdamLruConvWIdeal.nD Cert.AdamLruConvWIdeal.τ).loc Cert.AdamLruConvWIdeal.main_arg2)
      ∧ m' ((c.tc : Thread Cert.AdamLruConvWRefIdeal.nD Cert.AdamLruConvWRefIdeal.τ).loc Cert.AdamLruConvWRefIdeal.main_arg3) = m ((c.tc : Thread Cert.AdamLruConvWIdeal.nD Cert.AdamLruConvWIdeal.τ).loc Cert.AdamLruConvWIdeal.main_arg3)) →
    ∃ (v0 : (c : Dev Cert.AdamLruConvWIdeal.nD) → Buf (Elt Ideal) ((c.tc : Thread Cert.AdamLruConvWIdeal.nD Cert.AdamLruConvWIdeal.τ).loc Cert.AdamLruConvWIdeal.main_v4_0)) (v1 : (c : Dev Cert.AdamLruConvWIdeal.nD) → Buf (Elt Ideal) ((c.tc : Thread Cert.AdamLruConvWIdeal.nD Cert.AdamLruConvWIdeal.τ).loc Cert.AdamLruConvWIdeal.main_v4_1)) (v2 : (c : Dev Cert.AdamLruConvWIdeal.nD) → Buf (Elt Ideal) ((c.tc : Thread Cert.AdamLruConvWIdeal.nD Cert.AdamLruConvWIdeal.τ).loc Cert.AdamLruConvWIdeal.main_v4_2)),
      θ_run (Cert.AdamLruConvWIdeal.defs (F := Ideal)) (onTc (τ := Cert.AdamLruConvWIdeal.τ) (Cert.AdamLruConvWIdeal.main (F := Ideal))) ⟨m, fun _ => 0, g⟩ (fun r => ∀ c : Dev Cert.AdamLruConvWIdeal.nD,
          r.2.mem ((c.tc : Thread Cert.AdamLruConvWIdeal.nD Cert.AdamLruConvWIdeal.τ).loc Cert.AdamLruConvWIdeal.main_v4_0) = v0 c
          ∧ r.2.mem ((c.tc : Thread Cert.AdamLruConvWIdeal.nD Cert.AdamLruConvWIdeal.τ).loc Cert.AdamLruConvWIdeal.main_v4_1) = v1 c
          ∧ r.2.mem ((c.tc : Thread Cert.AdamLruConvWIdeal.nD Cert.AdamLruConvWIdeal.τ).loc Cert.AdamLruConvWIdeal.main_v4_2) = v2 c
          ∧ r.2.mem ((c.tc : Thread Cert.AdamLruConvWIdeal.nD Cert.AdamLruConvWIdeal.τ).loc Cert.AdamLruConvWIdeal.main_arg0) = m ((c.tc : Thread Cert.AdamLruConvWIdeal.nD Cert.AdamLruConvWIdeal.τ).loc Cert.AdamLruConvWIdeal.main_arg0)
          ∧ r.2.mem ((c.tc : Thread Cert.AdamLruConvWIdeal.nD Cert.AdamLruConvWIdeal.τ).loc Cert.AdamLruConvWIdeal.main_arg1) = m ((c.tc : Thread Cert.AdamLruConvWIdeal.nD Cert.AdamLruConvWIdeal.τ).loc Cert.AdamLruConvWIdeal.main_arg1)
          ∧ r.2.mem ((c.tc : Thread Cert.AdamLruConvWIdeal.nD Cert.AdamLruConvWIdeal.τ).loc Cert.AdamLruConvWIdeal.main_arg2) = m ((c.tc : Thread Cert.AdamLruConvWIdeal.nD Cert.AdamLruConvWIdeal.τ).loc Cert.AdamLruConvWIdeal.main_arg2)
          ∧ r.2.mem ((c.tc : Thread Cert.AdamLruConvWIdeal.nD Cert.AdamLruConvWIdeal.τ).loc Cert.AdamLruConvWIdeal.main_arg3) = m ((c.tc : Thread Cert.AdamLruConvWIdeal.nD Cert.AdamLruConvWIdeal.τ).loc Cert.AdamLruConvWIdeal.main_arg3))
      ∧ θ_run (Cert.AdamLruConvWRefIdeal.defs (F := Ideal)) (onTc (τ := Cert.AdamLruConvWRefIdeal.τ) (Cert.AdamLruConvWRefIdeal.main (F := Ideal))) ⟨m', fun _ => 0, g'⟩ (fun r => ∀ c : Dev Cert.AdamLruConvWRefIdeal.nD,
          r.2.mem ((c.tc : Thread Cert.AdamLruConvWRefIdeal.nD Cert.AdamLruConvWRefIdeal.τ).loc Cert.AdamLruConvWRefIdeal.main_v24) = v0 c
          ∧ r.2.mem ((c.tc : Thread Cert.AdamLruConvWRefIdeal.nD Cert.AdamLruConvWRefIdeal.τ).loc Cert.AdamLruConvWRefIdeal.main_v25) = v1 c
          ∧ r.2.mem ((c.tc : Thread Cert.AdamLruConvWRefIdeal.nD Cert.AdamLruConvWRefIdeal.τ).loc Cert.AdamLruConvWRefIdeal.main_v26) = v2 c
          ∧ r.2.mem ((c.tc : Thread Cert.AdamLruConvWRefIdeal.nD Cert.AdamLruConvWRefIdeal.τ).loc Cert.AdamLruConvWRefIdeal.main_arg0) = m' ((c.tc : Thread Cert.AdamLruConvWRefIdeal.nD Cert.AdamLruConvWRefIdeal.τ).loc Cert.AdamLruConvWRefIdeal.main_arg0)
          ∧ r.2.mem ((c.tc : Thread Cert.AdamLruConvWRefIdeal.nD Cert.AdamLruConvWRefIdeal.τ).loc Cert.AdamLruConvWRefIdeal.main_arg1) = m' ((c.tc : Thread Cert.AdamLruConvWRefIdeal.nD Cert.AdamLruConvWRefIdeal.τ).loc Cert.AdamLruConvWRefIdeal.main_arg1)
          ∧ r.2.mem ((c.tc : Thread Cert.AdamLruConvWRefIdeal.nD Cert.AdamLruConvWRefIdeal.τ).loc Cert.AdamLruConvWRefIdeal.main_arg2) = m' ((c.tc : Thread Cert.AdamLruConvWRefIdeal.nD Cert.AdamLruConvWRefIdeal.τ).loc Cert.AdamLruConvWRefIdeal.main_arg2)
          ∧ r.2.mem ((c.tc : Thread Cert.AdamLruConvWRefIdeal.nD Cert.AdamLruConvWRefIdeal.τ).loc Cert.AdamLruConvWRefIdeal.main_arg3) = m' ((c.tc : Thread Cert.AdamLruConvWRefIdeal.nD Cert.AdamLruConvWRefIdeal.τ).loc Cert.AdamLruConvWRefIdeal.main_arg3))

def preserves_AdamLruConvB_AdamLruConvBIdeal : Prop :=
  True

def algebraic_AdamLruConvBIdeal_AdamLruConvBRefIdeal [hAdamLruConvBIdeal : Cert.AdamLruConvBIdeal.Facts] [hAdamLruConvBRefIdeal : Cert.AdamLruConvBRefIdeal.Facts] : Prop :=
  ∀ (m : (ℓ : Loc Cert.AdamLruConvBIdeal.nD Cert.AdamLruConvBIdeal.τ Cert.AdamLruConvBIdeal.sig) → Buf (Elt Ideal) ℓ) (g : Dev Cert.AdamLruConvBIdeal.nD → PrngReg)
    (m' : (ℓ : Loc Cert.AdamLruConvBRefIdeal.nD Cert.AdamLruConvBRefIdeal.τ Cert.AdamLruConvBRefIdeal.sig) → Buf (Elt Ideal) ℓ) (g' : Dev Cert.AdamLruConvBRefIdeal.nD → PrngReg), Pre_AdamLruConvBIdeal m →
    (∀ c : Dev Cert.AdamLruConvBIdeal.nD,
      m' ((c.tc : Thread Cert.AdamLruConvBRefIdeal.nD Cert.AdamLruConvBRefIdeal.τ).loc Cert.AdamLruConvBRefIdeal.main_arg0) = m ((c.tc : Thread Cert.AdamLruConvBIdeal.nD Cert.AdamLruConvBIdeal.τ).loc Cert.AdamLruConvBIdeal.main_arg0)
      ∧ m' ((c.tc : Thread Cert.AdamLruConvBRefIdeal.nD Cert.AdamLruConvBRefIdeal.τ).loc Cert.AdamLruConvBRefIdeal.main_arg1) = m ((c.tc : Thread Cert.AdamLruConvBIdeal.nD Cert.AdamLruConvBIdeal.τ).loc Cert.AdamLruConvBIdeal.main_arg1)
      ∧ m' ((c.tc : Thread Cert.AdamLruConvBRefIdeal.nD Cert.AdamLruConvBRefIdeal.τ).loc Cert.AdamLruConvBRefIdeal.main_arg2) = m ((c.tc : Thread Cert.AdamLruConvBIdeal.nD Cert.AdamLruConvBIdeal.τ).loc Cert.AdamLruConvBIdeal.main_arg2)
      ∧ m' ((c.tc : Thread Cert.AdamLruConvBRefIdeal.nD Cert.AdamLruConvBRefIdeal.τ).loc Cert.AdamLruConvBRefIdeal.main_arg3) = m ((c.tc : Thread Cert.AdamLruConvBIdeal.nD Cert.AdamLruConvBIdeal.τ).loc Cert.AdamLruConvBIdeal.main_arg3)) →
    ∃ (v0 : (c : Dev Cert.AdamLruConvBIdeal.nD) → Buf (Elt Ideal) ((c.tc : Thread Cert.AdamLruConvBIdeal.nD Cert.AdamLruConvBIdeal.τ).loc Cert.AdamLruConvBIdeal.main_v0_0)) (v1 : (c : Dev Cert.AdamLruConvBIdeal.nD) → Buf (Elt Ideal) ((c.tc : Thread Cert.AdamLruConvBIdeal.nD Cert.AdamLruConvBIdeal.τ).loc Cert.AdamLruConvBIdeal.main_v0_1)) (v2 : (c : Dev Cert.AdamLruConvBIdeal.nD) → Buf (Elt Ideal) ((c.tc : Thread Cert.AdamLruConvBIdeal.nD Cert.AdamLruConvBIdeal.τ).loc Cert.AdamLruConvBIdeal.main_v0_2)),
      θ_run (Cert.AdamLruConvBIdeal.defs (F := Ideal)) (onTc (τ := Cert.AdamLruConvBIdeal.τ) (Cert.AdamLruConvBIdeal.main (F := Ideal))) ⟨m, fun _ => 0, g⟩ (fun r => ∀ c : Dev Cert.AdamLruConvBIdeal.nD,
          r.2.mem ((c.tc : Thread Cert.AdamLruConvBIdeal.nD Cert.AdamLruConvBIdeal.τ).loc Cert.AdamLruConvBIdeal.main_v0_0) = v0 c
          ∧ r.2.mem ((c.tc : Thread Cert.AdamLruConvBIdeal.nD Cert.AdamLruConvBIdeal.τ).loc Cert.AdamLruConvBIdeal.main_v0_1) = v1 c
          ∧ r.2.mem ((c.tc : Thread Cert.AdamLruConvBIdeal.nD Cert.AdamLruConvBIdeal.τ).loc Cert.AdamLruConvBIdeal.main_v0_2) = v2 c
          ∧ r.2.mem ((c.tc : Thread Cert.AdamLruConvBIdeal.nD Cert.AdamLruConvBIdeal.τ).loc Cert.AdamLruConvBIdeal.main_arg0) = m ((c.tc : Thread Cert.AdamLruConvBIdeal.nD Cert.AdamLruConvBIdeal.τ).loc Cert.AdamLruConvBIdeal.main_arg0)
          ∧ r.2.mem ((c.tc : Thread Cert.AdamLruConvBIdeal.nD Cert.AdamLruConvBIdeal.τ).loc Cert.AdamLruConvBIdeal.main_arg1) = m ((c.tc : Thread Cert.AdamLruConvBIdeal.nD Cert.AdamLruConvBIdeal.τ).loc Cert.AdamLruConvBIdeal.main_arg1)
          ∧ r.2.mem ((c.tc : Thread Cert.AdamLruConvBIdeal.nD Cert.AdamLruConvBIdeal.τ).loc Cert.AdamLruConvBIdeal.main_arg2) = m ((c.tc : Thread Cert.AdamLruConvBIdeal.nD Cert.AdamLruConvBIdeal.τ).loc Cert.AdamLruConvBIdeal.main_arg2)
          ∧ r.2.mem ((c.tc : Thread Cert.AdamLruConvBIdeal.nD Cert.AdamLruConvBIdeal.τ).loc Cert.AdamLruConvBIdeal.main_arg3) = m ((c.tc : Thread Cert.AdamLruConvBIdeal.nD Cert.AdamLruConvBIdeal.τ).loc Cert.AdamLruConvBIdeal.main_arg3))
      ∧ θ_run (Cert.AdamLruConvBRefIdeal.defs (F := Ideal)) (onTc (τ := Cert.AdamLruConvBRefIdeal.τ) (Cert.AdamLruConvBRefIdeal.main (F := Ideal))) ⟨m', fun _ => 0, g'⟩ (fun r => ∀ c : Dev Cert.AdamLruConvBRefIdeal.nD,
          r.2.mem ((c.tc : Thread Cert.AdamLruConvBRefIdeal.nD Cert.AdamLruConvBRefIdeal.τ).loc Cert.AdamLruConvBRefIdeal.main_v23) = v0 c
          ∧ r.2.mem ((c.tc : Thread Cert.AdamLruConvBRefIdeal.nD Cert.AdamLruConvBRefIdeal.τ).loc Cert.AdamLruConvBRefIdeal.main_v4) = v1 c
          ∧ r.2.mem ((c.tc : Thread Cert.AdamLruConvBRefIdeal.nD Cert.AdamLruConvBRefIdeal.τ).loc Cert.AdamLruConvBRefIdeal.main_v10) = v2 c
          ∧ r.2.mem ((c.tc : Thread Cert.AdamLruConvBRefIdeal.nD Cert.AdamLruConvBRefIdeal.τ).loc Cert.AdamLruConvBRefIdeal.main_arg0) = m' ((c.tc : Thread Cert.AdamLruConvBRefIdeal.nD Cert.AdamLruConvBRefIdeal.τ).loc Cert.AdamLruConvBRefIdeal.main_arg0)
          ∧ r.2.mem ((c.tc : Thread Cert.AdamLruConvBRefIdeal.nD Cert.AdamLruConvBRefIdeal.τ).loc Cert.AdamLruConvBRefIdeal.main_arg1) = m' ((c.tc : Thread Cert.AdamLruConvBRefIdeal.nD Cert.AdamLruConvBRefIdeal.τ).loc Cert.AdamLruConvBRefIdeal.main_arg1)
          ∧ r.2.mem ((c.tc : Thread Cert.AdamLruConvBRefIdeal.nD Cert.AdamLruConvBRefIdeal.τ).loc Cert.AdamLruConvBRefIdeal.main_arg2) = m' ((c.tc : Thread Cert.AdamLruConvBRefIdeal.nD Cert.AdamLruConvBRefIdeal.τ).loc Cert.AdamLruConvBRefIdeal.main_arg2)
          ∧ r.2.mem ((c.tc : Thread Cert.AdamLruConvBRefIdeal.nD Cert.AdamLruConvBRefIdeal.τ).loc Cert.AdamLruConvBRefIdeal.main_arg3) = m' ((c.tc : Thread Cert.AdamLruConvBRefIdeal.nD Cert.AdamLruConvBRefIdeal.τ).loc Cert.AdamLruConvBRefIdeal.main_arg3))

def preserves_AdamLruWA_AdamLruWAIdeal : Prop :=
  True

def algebraic_AdamLruWAIdeal_AdamLruWARefIdeal [hAdamLruWAIdeal : Cert.AdamLruWAIdeal.Facts] [hAdamLruWARefIdeal : Cert.AdamLruWARefIdeal.Facts] : Prop :=
  ∀ (m : (ℓ : Loc Cert.AdamLruWAIdeal.nD Cert.AdamLruWAIdeal.τ Cert.AdamLruWAIdeal.sig) → Buf (Elt Ideal) ℓ) (g : Dev Cert.AdamLruWAIdeal.nD → PrngReg)
    (m' : (ℓ : Loc Cert.AdamLruWARefIdeal.nD Cert.AdamLruWARefIdeal.τ Cert.AdamLruWARefIdeal.sig) → Buf (Elt Ideal) ℓ) (g' : Dev Cert.AdamLruWARefIdeal.nD → PrngReg), Pre_AdamLruWAIdeal m →
    (∀ c : Dev Cert.AdamLruWAIdeal.nD,
      m' ((c.tc : Thread Cert.AdamLruWARefIdeal.nD Cert.AdamLruWARefIdeal.τ).loc Cert.AdamLruWARefIdeal.main_arg0) = m ((c.tc : Thread Cert.AdamLruWAIdeal.nD Cert.AdamLruWAIdeal.τ).loc Cert.AdamLruWAIdeal.main_arg0)
      ∧ m' ((c.tc : Thread Cert.AdamLruWARefIdeal.nD Cert.AdamLruWARefIdeal.τ).loc Cert.AdamLruWARefIdeal.main_arg1) = m ((c.tc : Thread Cert.AdamLruWAIdeal.nD Cert.AdamLruWAIdeal.τ).loc Cert.AdamLruWAIdeal.main_arg1)
      ∧ m' ((c.tc : Thread Cert.AdamLruWARefIdeal.nD Cert.AdamLruWARefIdeal.τ).loc Cert.AdamLruWARefIdeal.main_arg2) = m ((c.tc : Thread Cert.AdamLruWAIdeal.nD Cert.AdamLruWAIdeal.τ).loc Cert.AdamLruWAIdeal.main_arg2)
      ∧ m' ((c.tc : Thread Cert.AdamLruWARefIdeal.nD Cert.AdamLruWARefIdeal.τ).loc Cert.AdamLruWARefIdeal.main_arg3) = m ((c.tc : Thread Cert.AdamLruWAIdeal.nD Cert.AdamLruWAIdeal.τ).loc Cert.AdamLruWAIdeal.main_arg3)) →
    ∃ (v0 : (c : Dev Cert.AdamLruWAIdeal.nD) → Buf (Elt Ideal) ((c.tc : Thread Cert.AdamLruWAIdeal.nD Cert.AdamLruWAIdeal.τ).loc Cert.AdamLruWAIdeal.main_v4_0)) (v1 : (c : Dev Cert.AdamLruWAIdeal.nD) → Buf (Elt Ideal) ((c.tc : Thread Cert.AdamLruWAIdeal.nD Cert.AdamLruWAIdeal.τ).loc Cert.AdamLruWAIdeal.main_v4_1)) (v2 : (c : Dev Cert.AdamLruWAIdeal.nD) → Buf (Elt Ideal) ((c.tc : Thread Cert.AdamLruWAIdeal.nD Cert.AdamLruWAIdeal.τ).loc Cert.AdamLruWAIdeal.main_v4_2)),
      θ_run (Cert.AdamLruWAIdeal.defs (F := Ideal)) (onTc (τ := Cert.AdamLruWAIdeal.τ) (Cert.AdamLruWAIdeal.main (F := Ideal))) ⟨m, fun _ => 0, g⟩ (fun r => ∀ c : Dev Cert.AdamLruWAIdeal.nD,
          r.2.mem ((c.tc : Thread Cert.AdamLruWAIdeal.nD Cert.AdamLruWAIdeal.τ).loc Cert.AdamLruWAIdeal.main_v4_0) = v0 c
          ∧ r.2.mem ((c.tc : Thread Cert.AdamLruWAIdeal.nD Cert.AdamLruWAIdeal.τ).loc Cert.AdamLruWAIdeal.main_v4_1) = v1 c
          ∧ r.2.mem ((c.tc : Thread Cert.AdamLruWAIdeal.nD Cert.AdamLruWAIdeal.τ).loc Cert.AdamLruWAIdeal.main_v4_2) = v2 c
          ∧ r.2.mem ((c.tc : Thread Cert.AdamLruWAIdeal.nD Cert.AdamLruWAIdeal.τ).loc Cert.AdamLruWAIdeal.main_arg0) = m ((c.tc : Thread Cert.AdamLruWAIdeal.nD Cert.AdamLruWAIdeal.τ).loc Cert.AdamLruWAIdeal.main_arg0)
          ∧ r.2.mem ((c.tc : Thread Cert.AdamLruWAIdeal.nD Cert.AdamLruWAIdeal.τ).loc Cert.AdamLruWAIdeal.main_arg1) = m ((c.tc : Thread Cert.AdamLruWAIdeal.nD Cert.AdamLruWAIdeal.τ).loc Cert.AdamLruWAIdeal.main_arg1)
          ∧ r.2.mem ((c.tc : Thread Cert.AdamLruWAIdeal.nD Cert.AdamLruWAIdeal.τ).loc Cert.AdamLruWAIdeal.main_arg2) = m ((c.tc : Thread Cert.AdamLruWAIdeal.nD Cert.AdamLruWAIdeal.τ).loc Cert.AdamLruWAIdeal.main_arg2)
          ∧ r.2.mem ((c.tc : Thread Cert.AdamLruWAIdeal.nD Cert.AdamLruWAIdeal.τ).loc Cert.AdamLruWAIdeal.main_arg3) = m ((c.tc : Thread Cert.AdamLruWAIdeal.nD Cert.AdamLruWAIdeal.τ).loc Cert.AdamLruWAIdeal.main_arg3))
      ∧ θ_run (Cert.AdamLruWARefIdeal.defs (F := Ideal)) (onTc (τ := Cert.AdamLruWARefIdeal.τ) (Cert.AdamLruWARefIdeal.main (F := Ideal))) ⟨m', fun _ => 0, g'⟩ (fun r => ∀ c : Dev Cert.AdamLruWARefIdeal.nD,
          r.2.mem ((c.tc : Thread Cert.AdamLruWARefIdeal.nD Cert.AdamLruWARefIdeal.τ).loc Cert.AdamLruWARefIdeal.main_v24) = v0 c
          ∧ r.2.mem ((c.tc : Thread Cert.AdamLruWARefIdeal.nD Cert.AdamLruWARefIdeal.τ).loc Cert.AdamLruWARefIdeal.main_v25) = v1 c
          ∧ r.2.mem ((c.tc : Thread Cert.AdamLruWARefIdeal.nD Cert.AdamLruWARefIdeal.τ).loc Cert.AdamLruWARefIdeal.main_v26) = v2 c
          ∧ r.2.mem ((c.tc : Thread Cert.AdamLruWARefIdeal.nD Cert.AdamLruWARefIdeal.τ).loc Cert.AdamLruWARefIdeal.main_arg0) = m' ((c.tc : Thread Cert.AdamLruWARefIdeal.nD Cert.AdamLruWARefIdeal.τ).loc Cert.AdamLruWARefIdeal.main_arg0)
          ∧ r.2.mem ((c.tc : Thread Cert.AdamLruWARefIdeal.nD Cert.AdamLruWARefIdeal.τ).loc Cert.AdamLruWARefIdeal.main_arg1) = m' ((c.tc : Thread Cert.AdamLruWARefIdeal.nD Cert.AdamLruWARefIdeal.τ).loc Cert.AdamLruWARefIdeal.main_arg1)
          ∧ r.2.mem ((c.tc : Thread Cert.AdamLruWARefIdeal.nD Cert.AdamLruWARefIdeal.τ).loc Cert.AdamLruWARefIdeal.main_arg2) = m' ((c.tc : Thread Cert.AdamLruWARefIdeal.nD Cert.AdamLruWARefIdeal.τ).loc Cert.AdamLruWARefIdeal.main_arg2)
          ∧ r.2.mem ((c.tc : Thread Cert.AdamLruWARefIdeal.nD Cert.AdamLruWARefIdeal.τ).loc Cert.AdamLruWARefIdeal.main_arg3) = m' ((c.tc : Thread Cert.AdamLruWARefIdeal.nD Cert.AdamLruWARefIdeal.τ).loc Cert.AdamLruWARefIdeal.main_arg3))

def preserves_AdamLruBA_AdamLruBAIdeal : Prop :=
  True

def algebraic_AdamLruBAIdeal_AdamLruBARefIdeal [hAdamLruBAIdeal : Cert.AdamLruBAIdeal.Facts] [hAdamLruBARefIdeal : Cert.AdamLruBARefIdeal.Facts] : Prop :=
  ∀ (m : (ℓ : Loc Cert.AdamLruBAIdeal.nD Cert.AdamLruBAIdeal.τ Cert.AdamLruBAIdeal.sig) → Buf (Elt Ideal) ℓ) (g : Dev Cert.AdamLruBAIdeal.nD → PrngReg)
    (m' : (ℓ : Loc Cert.AdamLruBARefIdeal.nD Cert.AdamLruBARefIdeal.τ Cert.AdamLruBARefIdeal.sig) → Buf (Elt Ideal) ℓ) (g' : Dev Cert.AdamLruBARefIdeal.nD → PrngReg), Pre_AdamLruBAIdeal m →
    (∀ c : Dev Cert.AdamLruBAIdeal.nD,
      m' ((c.tc : Thread Cert.AdamLruBARefIdeal.nD Cert.AdamLruBARefIdeal.τ).loc Cert.AdamLruBARefIdeal.main_arg0) = m ((c.tc : Thread Cert.AdamLruBAIdeal.nD Cert.AdamLruBAIdeal.τ).loc Cert.AdamLruBAIdeal.main_arg0)
      ∧ m' ((c.tc : Thread Cert.AdamLruBARefIdeal.nD Cert.AdamLruBARefIdeal.τ).loc Cert.AdamLruBARefIdeal.main_arg1) = m ((c.tc : Thread Cert.AdamLruBAIdeal.nD Cert.AdamLruBAIdeal.τ).loc Cert.AdamLruBAIdeal.main_arg1)
      ∧ m' ((c.tc : Thread Cert.AdamLruBARefIdeal.nD Cert.AdamLruBARefIdeal.τ).loc Cert.AdamLruBARefIdeal.main_arg2) = m ((c.tc : Thread Cert.AdamLruBAIdeal.nD Cert.AdamLruBAIdeal.τ).loc Cert.AdamLruBAIdeal.main_arg2)
      ∧ m' ((c.tc : Thread Cert.AdamLruBARefIdeal.nD Cert.AdamLruBARefIdeal.τ).loc Cert.AdamLruBARefIdeal.main_arg3) = m ((c.tc : Thread Cert.AdamLruBAIdeal.nD Cert.AdamLruBAIdeal.τ).loc Cert.AdamLruBAIdeal.main_arg3)) →
    ∃ (v0 : (c : Dev Cert.AdamLruBAIdeal.nD) → Buf (Elt Ideal) ((c.tc : Thread Cert.AdamLruBAIdeal.nD Cert.AdamLruBAIdeal.τ).loc Cert.AdamLruBAIdeal.main_v0_0)) (v1 : (c : Dev Cert.AdamLruBAIdeal.nD) → Buf (Elt Ideal) ((c.tc : Thread Cert.AdamLruBAIdeal.nD Cert.AdamLruBAIdeal.τ).loc Cert.AdamLruBAIdeal.main_v0_1)) (v2 : (c : Dev Cert.AdamLruBAIdeal.nD) → Buf (Elt Ideal) ((c.tc : Thread Cert.AdamLruBAIdeal.nD Cert.AdamLruBAIdeal.τ).loc Cert.AdamLruBAIdeal.main_v0_2)),
      θ_run (Cert.AdamLruBAIdeal.defs (F := Ideal)) (onTc (τ := Cert.AdamLruBAIdeal.τ) (Cert.AdamLruBAIdeal.main (F := Ideal))) ⟨m, fun _ => 0, g⟩ (fun r => ∀ c : Dev Cert.AdamLruBAIdeal.nD,
          r.2.mem ((c.tc : Thread Cert.AdamLruBAIdeal.nD Cert.AdamLruBAIdeal.τ).loc Cert.AdamLruBAIdeal.main_v0_0) = v0 c
          ∧ r.2.mem ((c.tc : Thread Cert.AdamLruBAIdeal.nD Cert.AdamLruBAIdeal.τ).loc Cert.AdamLruBAIdeal.main_v0_1) = v1 c
          ∧ r.2.mem ((c.tc : Thread Cert.AdamLruBAIdeal.nD Cert.AdamLruBAIdeal.τ).loc Cert.AdamLruBAIdeal.main_v0_2) = v2 c
          ∧ r.2.mem ((c.tc : Thread Cert.AdamLruBAIdeal.nD Cert.AdamLruBAIdeal.τ).loc Cert.AdamLruBAIdeal.main_arg0) = m ((c.tc : Thread Cert.AdamLruBAIdeal.nD Cert.AdamLruBAIdeal.τ).loc Cert.AdamLruBAIdeal.main_arg0)
          ∧ r.2.mem ((c.tc : Thread Cert.AdamLruBAIdeal.nD Cert.AdamLruBAIdeal.τ).loc Cert.AdamLruBAIdeal.main_arg1) = m ((c.tc : Thread Cert.AdamLruBAIdeal.nD Cert.AdamLruBAIdeal.τ).loc Cert.AdamLruBAIdeal.main_arg1)
          ∧ r.2.mem ((c.tc : Thread Cert.AdamLruBAIdeal.nD Cert.AdamLruBAIdeal.τ).loc Cert.AdamLruBAIdeal.main_arg2) = m ((c.tc : Thread Cert.AdamLruBAIdeal.nD Cert.AdamLruBAIdeal.τ).loc Cert.AdamLruBAIdeal.main_arg2)
          ∧ r.2.mem ((c.tc : Thread Cert.AdamLruBAIdeal.nD Cert.AdamLruBAIdeal.τ).loc Cert.AdamLruBAIdeal.main_arg3) = m ((c.tc : Thread Cert.AdamLruBAIdeal.nD Cert.AdamLruBAIdeal.τ).loc Cert.AdamLruBAIdeal.main_arg3))
      ∧ θ_run (Cert.AdamLruBARefIdeal.defs (F := Ideal)) (onTc (τ := Cert.AdamLruBARefIdeal.τ) (Cert.AdamLruBARefIdeal.main (F := Ideal))) ⟨m', fun _ => 0, g'⟩ (fun r => ∀ c : Dev Cert.AdamLruBARefIdeal.nD,
          r.2.mem ((c.tc : Thread Cert.AdamLruBARefIdeal.nD Cert.AdamLruBARefIdeal.τ).loc Cert.AdamLruBARefIdeal.main_v23) = v0 c
          ∧ r.2.mem ((c.tc : Thread Cert.AdamLruBARefIdeal.nD Cert.AdamLruBARefIdeal.τ).loc Cert.AdamLruBARefIdeal.main_v4) = v1 c
          ∧ r.2.mem ((c.tc : Thread Cert.AdamLruBARefIdeal.nD Cert.AdamLruBARefIdeal.τ).loc Cert.AdamLruBARefIdeal.main_v10) = v2 c
          ∧ r.2.mem ((c.tc : Thread Cert.AdamLruBARefIdeal.nD Cert.AdamLruBARefIdeal.τ).loc Cert.AdamLruBARefIdeal.main_arg0) = m' ((c.tc : Thread Cert.AdamLruBARefIdeal.nD Cert.AdamLruBARefIdeal.τ).loc Cert.AdamLruBARefIdeal.main_arg0)
          ∧ r.2.mem ((c.tc : Thread Cert.AdamLruBARefIdeal.nD Cert.AdamLruBARefIdeal.τ).loc Cert.AdamLruBARefIdeal.main_arg1) = m' ((c.tc : Thread Cert.AdamLruBARefIdeal.nD Cert.AdamLruBARefIdeal.τ).loc Cert.AdamLruBARefIdeal.main_arg1)
          ∧ r.2.mem ((c.tc : Thread Cert.AdamLruBARefIdeal.nD Cert.AdamLruBARefIdeal.τ).loc Cert.AdamLruBARefIdeal.main_arg2) = m' ((c.tc : Thread Cert.AdamLruBARefIdeal.nD Cert.AdamLruBARefIdeal.τ).loc Cert.AdamLruBARefIdeal.main_arg2)
          ∧ r.2.mem ((c.tc : Thread Cert.AdamLruBARefIdeal.nD Cert.AdamLruBARefIdeal.τ).loc Cert.AdamLruBARefIdeal.main_arg3) = m' ((c.tc : Thread Cert.AdamLruBARefIdeal.nD Cert.AdamLruBARefIdeal.τ).loc Cert.AdamLruBARefIdeal.main_arg3))

def preserves_AdamLruWX_AdamLruWXIdeal : Prop :=
  True

def algebraic_AdamLruWXIdeal_AdamLruWXRefIdeal [hAdamLruWXIdeal : Cert.AdamLruWXIdeal.Facts] [hAdamLruWXRefIdeal : Cert.AdamLruWXRefIdeal.Facts] : Prop :=
  ∀ (m : (ℓ : Loc Cert.AdamLruWXIdeal.nD Cert.AdamLruWXIdeal.τ Cert.AdamLruWXIdeal.sig) → Buf (Elt Ideal) ℓ) (g : Dev Cert.AdamLruWXIdeal.nD → PrngReg)
    (m' : (ℓ : Loc Cert.AdamLruWXRefIdeal.nD Cert.AdamLruWXRefIdeal.τ Cert.AdamLruWXRefIdeal.sig) → Buf (Elt Ideal) ℓ) (g' : Dev Cert.AdamLruWXRefIdeal.nD → PrngReg), Pre_AdamLruWXIdeal m →
    (∀ c : Dev Cert.AdamLruWXIdeal.nD,
      m' ((c.tc : Thread Cert.AdamLruWXRefIdeal.nD Cert.AdamLruWXRefIdeal.τ).loc Cert.AdamLruWXRefIdeal.main_arg0) = m ((c.tc : Thread Cert.AdamLruWXIdeal.nD Cert.AdamLruWXIdeal.τ).loc Cert.AdamLruWXIdeal.main_arg0)
      ∧ m' ((c.tc : Thread Cert.AdamLruWXRefIdeal.nD Cert.AdamLruWXRefIdeal.τ).loc Cert.AdamLruWXRefIdeal.main_arg1) = m ((c.tc : Thread Cert.AdamLruWXIdeal.nD Cert.AdamLruWXIdeal.τ).loc Cert.AdamLruWXIdeal.main_arg1)
      ∧ m' ((c.tc : Thread Cert.AdamLruWXRefIdeal.nD Cert.AdamLruWXRefIdeal.τ).loc Cert.AdamLruWXRefIdeal.main_arg2) = m ((c.tc : Thread Cert.AdamLruWXIdeal.nD Cert.AdamLruWXIdeal.τ).loc Cert.AdamLruWXIdeal.main_arg2)
      ∧ m' ((c.tc : Thread Cert.AdamLruWXRefIdeal.nD Cert.AdamLruWXRefIdeal.τ).loc Cert.AdamLruWXRefIdeal.main_arg3) = m ((c.tc : Thread Cert.AdamLruWXIdeal.nD Cert.AdamLruWXIdeal.τ).loc Cert.AdamLruWXIdeal.main_arg3)) →
    ∃ (v0 : (c : Dev Cert.AdamLruWXIdeal.nD) → Buf (Elt Ideal) ((c.tc : Thread Cert.AdamLruWXIdeal.nD Cert.AdamLruWXIdeal.τ).loc Cert.AdamLruWXIdeal.main_v4_0)) (v1 : (c : Dev Cert.AdamLruWXIdeal.nD) → Buf (Elt Ideal) ((c.tc : Thread Cert.AdamLruWXIdeal.nD Cert.AdamLruWXIdeal.τ).loc Cert.AdamLruWXIdeal.main_v4_1)) (v2 : (c : Dev Cert.AdamLruWXIdeal.nD) → Buf (Elt Ideal) ((c.tc : Thread Cert.AdamLruWXIdeal.nD Cert.AdamLruWXIdeal.τ).loc Cert.AdamLruWXIdeal.main_v4_2)),
      θ_run (Cert.AdamLruWXIdeal.defs (F := Ideal)) (onTc (τ := Cert.AdamLruWXIdeal.τ) (Cert.AdamLruWXIdeal.main (F := Ideal))) ⟨m, fun _ => 0, g⟩ (fun r => ∀ c : Dev Cert.AdamLruWXIdeal.nD,
          r.2.mem ((c.tc : Thread Cert.AdamLruWXIdeal.nD Cert.AdamLruWXIdeal.τ).loc Cert.AdamLruWXIdeal.main_v4_0) = v0 c
          ∧ r.2.mem ((c.tc : Thread Cert.AdamLruWXIdeal.nD Cert.AdamLruWXIdeal.τ).loc Cert.AdamLruWXIdeal.main_v4_1) = v1 c
          ∧ r.2.mem ((c.tc : Thread Cert.AdamLruWXIdeal.nD Cert.AdamLruWXIdeal.τ).loc Cert.AdamLruWXIdeal.main_v4_2) = v2 c
          ∧ r.2.mem ((c.tc : Thread Cert.AdamLruWXIdeal.nD Cert.AdamLruWXIdeal.τ).loc Cert.AdamLruWXIdeal.main_arg0) = m ((c.tc : Thread Cert.AdamLruWXIdeal.nD Cert.AdamLruWXIdeal.τ).loc Cert.AdamLruWXIdeal.main_arg0)
          ∧ r.2.mem ((c.tc : Thread Cert.AdamLruWXIdeal.nD Cert.AdamLruWXIdeal.τ).loc Cert.AdamLruWXIdeal.main_arg1) = m ((c.tc : Thread Cert.AdamLruWXIdeal.nD Cert.AdamLruWXIdeal.τ).loc Cert.AdamLruWXIdeal.main_arg1)
          ∧ r.2.mem ((c.tc : Thread Cert.AdamLruWXIdeal.nD Cert.AdamLruWXIdeal.τ).loc Cert.AdamLruWXIdeal.main_arg2) = m ((c.tc : Thread Cert.AdamLruWXIdeal.nD Cert.AdamLruWXIdeal.τ).loc Cert.AdamLruWXIdeal.main_arg2)
          ∧ r.2.mem ((c.tc : Thread Cert.AdamLruWXIdeal.nD Cert.AdamLruWXIdeal.τ).loc Cert.AdamLruWXIdeal.main_arg3) = m ((c.tc : Thread Cert.AdamLruWXIdeal.nD Cert.AdamLruWXIdeal.τ).loc Cert.AdamLruWXIdeal.main_arg3))
      ∧ θ_run (Cert.AdamLruWXRefIdeal.defs (F := Ideal)) (onTc (τ := Cert.AdamLruWXRefIdeal.τ) (Cert.AdamLruWXRefIdeal.main (F := Ideal))) ⟨m', fun _ => 0, g'⟩ (fun r => ∀ c : Dev Cert.AdamLruWXRefIdeal.nD,
          r.2.mem ((c.tc : Thread Cert.AdamLruWXRefIdeal.nD Cert.AdamLruWXRefIdeal.τ).loc Cert.AdamLruWXRefIdeal.main_v24) = v0 c
          ∧ r.2.mem ((c.tc : Thread Cert.AdamLruWXRefIdeal.nD Cert.AdamLruWXRefIdeal.τ).loc Cert.AdamLruWXRefIdeal.main_v25) = v1 c
          ∧ r.2.mem ((c.tc : Thread Cert.AdamLruWXRefIdeal.nD Cert.AdamLruWXRefIdeal.τ).loc Cert.AdamLruWXRefIdeal.main_v26) = v2 c
          ∧ r.2.mem ((c.tc : Thread Cert.AdamLruWXRefIdeal.nD Cert.AdamLruWXRefIdeal.τ).loc Cert.AdamLruWXRefIdeal.main_arg0) = m' ((c.tc : Thread Cert.AdamLruWXRefIdeal.nD Cert.AdamLruWXRefIdeal.τ).loc Cert.AdamLruWXRefIdeal.main_arg0)
          ∧ r.2.mem ((c.tc : Thread Cert.AdamLruWXRefIdeal.nD Cert.AdamLruWXRefIdeal.τ).loc Cert.AdamLruWXRefIdeal.main_arg1) = m' ((c.tc : Thread Cert.AdamLruWXRefIdeal.nD Cert.AdamLruWXRefIdeal.τ).loc Cert.AdamLruWXRefIdeal.main_arg1)
          ∧ r.2.mem ((c.tc : Thread Cert.AdamLruWXRefIdeal.nD Cert.AdamLruWXRefIdeal.τ).loc Cert.AdamLruWXRefIdeal.main_arg2) = m' ((c.tc : Thread Cert.AdamLruWXRefIdeal.nD Cert.AdamLruWXRefIdeal.τ).loc Cert.AdamLruWXRefIdeal.main_arg2)
          ∧ r.2.mem ((c.tc : Thread Cert.AdamLruWXRefIdeal.nD Cert.AdamLruWXRefIdeal.τ).loc Cert.AdamLruWXRefIdeal.main_arg3) = m' ((c.tc : Thread Cert.AdamLruWXRefIdeal.nD Cert.AdamLruWXRefIdeal.τ).loc Cert.AdamLruWXRefIdeal.main_arg3))

def preserves_AdamLruBX_AdamLruBXIdeal : Prop :=
  True

def algebraic_AdamLruBXIdeal_AdamLruBXRefIdeal [hAdamLruBXIdeal : Cert.AdamLruBXIdeal.Facts] [hAdamLruBXRefIdeal : Cert.AdamLruBXRefIdeal.Facts] : Prop :=
  ∀ (m : (ℓ : Loc Cert.AdamLruBXIdeal.nD Cert.AdamLruBXIdeal.τ Cert.AdamLruBXIdeal.sig) → Buf (Elt Ideal) ℓ) (g : Dev Cert.AdamLruBXIdeal.nD → PrngReg)
    (m' : (ℓ : Loc Cert.AdamLruBXRefIdeal.nD Cert.AdamLruBXRefIdeal.τ Cert.AdamLruBXRefIdeal.sig) → Buf (Elt Ideal) ℓ) (g' : Dev Cert.AdamLruBXRefIdeal.nD → PrngReg), Pre_AdamLruBXIdeal m →
    (∀ c : Dev Cert.AdamLruBXIdeal.nD,
      m' ((c.tc : Thread Cert.AdamLruBXRefIdeal.nD Cert.AdamLruBXRefIdeal.τ).loc Cert.AdamLruBXRefIdeal.main_arg0) = m ((c.tc : Thread Cert.AdamLruBXIdeal.nD Cert.AdamLruBXIdeal.τ).loc Cert.AdamLruBXIdeal.main_arg0)
      ∧ m' ((c.tc : Thread Cert.AdamLruBXRefIdeal.nD Cert.AdamLruBXRefIdeal.τ).loc Cert.AdamLruBXRefIdeal.main_arg1) = m ((c.tc : Thread Cert.AdamLruBXIdeal.nD Cert.AdamLruBXIdeal.τ).loc Cert.AdamLruBXIdeal.main_arg1)
      ∧ m' ((c.tc : Thread Cert.AdamLruBXRefIdeal.nD Cert.AdamLruBXRefIdeal.τ).loc Cert.AdamLruBXRefIdeal.main_arg2) = m ((c.tc : Thread Cert.AdamLruBXIdeal.nD Cert.AdamLruBXIdeal.τ).loc Cert.AdamLruBXIdeal.main_arg2)
      ∧ m' ((c.tc : Thread Cert.AdamLruBXRefIdeal.nD Cert.AdamLruBXRefIdeal.τ).loc Cert.AdamLruBXRefIdeal.main_arg3) = m ((c.tc : Thread Cert.AdamLruBXIdeal.nD Cert.AdamLruBXIdeal.τ).loc Cert.AdamLruBXIdeal.main_arg3)) →
    ∃ (v0 : (c : Dev Cert.AdamLruBXIdeal.nD) → Buf (Elt Ideal) ((c.tc : Thread Cert.AdamLruBXIdeal.nD Cert.AdamLruBXIdeal.τ).loc Cert.AdamLruBXIdeal.main_v0_0)) (v1 : (c : Dev Cert.AdamLruBXIdeal.nD) → Buf (Elt Ideal) ((c.tc : Thread Cert.AdamLruBXIdeal.nD Cert.AdamLruBXIdeal.τ).loc Cert.AdamLruBXIdeal.main_v0_1)) (v2 : (c : Dev Cert.AdamLruBXIdeal.nD) → Buf (Elt Ideal) ((c.tc : Thread Cert.AdamLruBXIdeal.nD Cert.AdamLruBXIdeal.τ).loc Cert.AdamLruBXIdeal.main_v0_2)),
      θ_run (Cert.AdamLruBXIdeal.defs (F := Ideal)) (onTc (τ := Cert.AdamLruBXIdeal.τ) (Cert.AdamLruBXIdeal.main (F := Ideal))) ⟨m, fun _ => 0, g⟩ (fun r => ∀ c : Dev Cert.AdamLruBXIdeal.nD,
          r.2.mem ((c.tc : Thread Cert.AdamLruBXIdeal.nD Cert.AdamLruBXIdeal.τ).loc Cert.AdamLruBXIdeal.main_v0_0) = v0 c
          ∧ r.2.mem ((c.tc : Thread Cert.AdamLruBXIdeal.nD Cert.AdamLruBXIdeal.τ).loc Cert.AdamLruBXIdeal.main_v0_1) = v1 c
          ∧ r.2.mem ((c.tc : Thread Cert.AdamLruBXIdeal.nD Cert.AdamLruBXIdeal.τ).loc Cert.AdamLruBXIdeal.main_v0_2) = v2 c
          ∧ r.2.mem ((c.tc : Thread Cert.AdamLruBXIdeal.nD Cert.AdamLruBXIdeal.τ).loc Cert.AdamLruBXIdeal.main_arg0) = m ((c.tc : Thread Cert.AdamLruBXIdeal.nD Cert.AdamLruBXIdeal.τ).loc Cert.AdamLruBXIdeal.main_arg0)
          ∧ r.2.mem ((c.tc : Thread Cert.AdamLruBXIdeal.nD Cert.AdamLruBXIdeal.τ).loc Cert.AdamLruBXIdeal.main_arg1) = m ((c.tc : Thread Cert.AdamLruBXIdeal.nD Cert.AdamLruBXIdeal.τ).loc Cert.AdamLruBXIdeal.main_arg1)
          ∧ r.2.mem ((c.tc : Thread Cert.AdamLruBXIdeal.nD Cert.AdamLruBXIdeal.τ).loc Cert.AdamLruBXIdeal.main_arg2) = m ((c.tc : Thread Cert.AdamLruBXIdeal.nD Cert.AdamLruBXIdeal.τ).loc Cert.AdamLruBXIdeal.main_arg2)
          ∧ r.2.mem ((c.tc : Thread Cert.AdamLruBXIdeal.nD Cert.AdamLruBXIdeal.τ).loc Cert.AdamLruBXIdeal.main_arg3) = m ((c.tc : Thread Cert.AdamLruBXIdeal.nD Cert.AdamLruBXIdeal.τ).loc Cert.AdamLruBXIdeal.main_arg3))
      ∧ θ_run (Cert.AdamLruBXRefIdeal.defs (F := Ideal)) (onTc (τ := Cert.AdamLruBXRefIdeal.τ) (Cert.AdamLruBXRefIdeal.main (F := Ideal))) ⟨m', fun _ => 0, g'⟩ (fun r => ∀ c : Dev Cert.AdamLruBXRefIdeal.nD,
          r.2.mem ((c.tc : Thread Cert.AdamLruBXRefIdeal.nD Cert.AdamLruBXRefIdeal.τ).loc Cert.AdamLruBXRefIdeal.main_v23) = v0 c
          ∧ r.2.mem ((c.tc : Thread Cert.AdamLruBXRefIdeal.nD Cert.AdamLruBXRefIdeal.τ).loc Cert.AdamLruBXRefIdeal.main_v4) = v1 c
          ∧ r.2.mem ((c.tc : Thread Cert.AdamLruBXRefIdeal.nD Cert.AdamLruBXRefIdeal.τ).loc Cert.AdamLruBXRefIdeal.main_v10) = v2 c
          ∧ r.2.mem ((c.tc : Thread Cert.AdamLruBXRefIdeal.nD Cert.AdamLruBXRefIdeal.τ).loc Cert.AdamLruBXRefIdeal.main_arg0) = m' ((c.tc : Thread Cert.AdamLruBXRefIdeal.nD Cert.AdamLruBXRefIdeal.τ).loc Cert.AdamLruBXRefIdeal.main_arg0)
          ∧ r.2.mem ((c.tc : Thread Cert.AdamLruBXRefIdeal.nD Cert.AdamLruBXRefIdeal.τ).loc Cert.AdamLruBXRefIdeal.main_arg1) = m' ((c.tc : Thread Cert.AdamLruBXRefIdeal.nD Cert.AdamLruBXRefIdeal.τ).loc Cert.AdamLruBXRefIdeal.main_arg1)
          ∧ r.2.mem ((c.tc : Thread Cert.AdamLruBXRefIdeal.nD Cert.AdamLruBXRefIdeal.τ).loc Cert.AdamLruBXRefIdeal.main_arg2) = m' ((c.tc : Thread Cert.AdamLruBXRefIdeal.nD Cert.AdamLruBXRefIdeal.τ).loc Cert.AdamLruBXRefIdeal.main_arg2)
          ∧ r.2.mem ((c.tc : Thread Cert.AdamLruBXRefIdeal.nD Cert.AdamLruBXRefIdeal.τ).loc Cert.AdamLruBXRefIdeal.main_arg3) = m' ((c.tc : Thread Cert.AdamLruBXRefIdeal.nD Cert.AdamLruBXRefIdeal.τ).loc Cert.AdamLruBXRefIdeal.main_arg3))

def preserves_AdamLruLambda_AdamLruLambdaIdeal : Prop :=
  True

def algebraic_AdamLruLambdaIdeal_AdamLruLambdaRefIdeal [hAdamLruLambdaIdeal : Cert.AdamLruLambdaIdeal.Facts] [hAdamLruLambdaRefIdeal : Cert.AdamLruLambdaRefIdeal.Facts] : Prop :=
  ∀ (m : (ℓ : Loc Cert.AdamLruLambdaIdeal.nD Cert.AdamLruLambdaIdeal.τ Cert.AdamLruLambdaIdeal.sig) → Buf (Elt Ideal) ℓ) (g : Dev Cert.AdamLruLambdaIdeal.nD → PrngReg)
    (m' : (ℓ : Loc Cert.AdamLruLambdaRefIdeal.nD Cert.AdamLruLambdaRefIdeal.τ Cert.AdamLruLambdaRefIdeal.sig) → Buf (Elt Ideal) ℓ) (g' : Dev Cert.AdamLruLambdaRefIdeal.nD → PrngReg), Pre_AdamLruLambdaIdeal m →
    (∀ c : Dev Cert.AdamLruLambdaIdeal.nD,
      m' ((c.tc : Thread Cert.AdamLruLambdaRefIdeal.nD Cert.AdamLruLambdaRefIdeal.τ).loc Cert.AdamLruLambdaRefIdeal.main_arg0) = m ((c.tc : Thread Cert.AdamLruLambdaIdeal.nD Cert.AdamLruLambdaIdeal.τ).loc Cert.AdamLruLambdaIdeal.main_arg0)
      ∧ m' ((c.tc : Thread Cert.AdamLruLambdaRefIdeal.nD Cert.AdamLruLambdaRefIdeal.τ).loc Cert.AdamLruLambdaRefIdeal.main_arg1) = m ((c.tc : Thread Cert.AdamLruLambdaIdeal.nD Cert.AdamLruLambdaIdeal.τ).loc Cert.AdamLruLambdaIdeal.main_arg1)
      ∧ m' ((c.tc : Thread Cert.AdamLruLambdaRefIdeal.nD Cert.AdamLruLambdaRefIdeal.τ).loc Cert.AdamLruLambdaRefIdeal.main_arg2) = m ((c.tc : Thread Cert.AdamLruLambdaIdeal.nD Cert.AdamLruLambdaIdeal.τ).loc Cert.AdamLruLambdaIdeal.main_arg2)
      ∧ m' ((c.tc : Thread Cert.AdamLruLambdaRefIdeal.nD Cert.AdamLruLambdaRefIdeal.τ).loc Cert.AdamLruLambdaRefIdeal.main_arg3) = m ((c.tc : Thread Cert.AdamLruLambdaIdeal.nD Cert.AdamLruLambdaIdeal.τ).loc Cert.AdamLruLambdaIdeal.main_arg3)) →
    ∃ (v0 : (c : Dev Cert.AdamLruLambdaIdeal.nD) → Buf (Elt Ideal) ((c.tc : Thread Cert.AdamLruLambdaIdeal.nD Cert.AdamLruLambdaIdeal.τ).loc Cert.AdamLruLambdaIdeal.main_v0_0)) (v1 : (c : Dev Cert.AdamLruLambdaIdeal.nD) → Buf (Elt Ideal) ((c.tc : Thread Cert.AdamLruLambdaIdeal.nD Cert.AdamLruLambdaIdeal.τ).loc Cert.AdamLruLambdaIdeal.main_v0_1)) (v2 : (c : Dev Cert.AdamLruLambdaIdeal.nD) → Buf (Elt Ideal) ((c.tc : Thread Cert.AdamLruLambdaIdeal.nD Cert.AdamLruLambdaIdeal.τ).loc Cert.AdamLruLambdaIdeal.main_v0_2)),
      θ_run (Cert.AdamLruLambdaIdeal.defs (F := Ideal)) (onTc (τ := Cert.AdamLruLambdaIdeal.τ) (Cert.AdamLruLambdaIdeal.main (F := Ideal))) ⟨m, fun _ => 0, g⟩ (fun r => ∀ c : Dev Cert.AdamLruLambdaIdeal.nD,
          r.2.mem ((c.tc : Thread Cert.AdamLruLambdaIdeal.nD Cert.AdamLruLambdaIdeal.τ).loc Cert.AdamLruLambdaIdeal.main_v0_0) = v0 c
          ∧ r.2.mem ((c.tc : Thread Cert.AdamLruLambdaIdeal.nD Cert.AdamLruLambdaIdeal.τ).loc Cert.AdamLruLambdaIdeal.main_v0_1) = v1 c
          ∧ r.2.mem ((c.tc : Thread Cert.AdamLruLambdaIdeal.nD Cert.AdamLruLambdaIdeal.τ).loc Cert.AdamLruLambdaIdeal.main_v0_2) = v2 c
          ∧ r.2.mem ((c.tc : Thread Cert.AdamLruLambdaIdeal.nD Cert.AdamLruLambdaIdeal.τ).loc Cert.AdamLruLambdaIdeal.main_arg0) = m ((c.tc : Thread Cert.AdamLruLambdaIdeal.nD Cert.AdamLruLambdaIdeal.τ).loc Cert.AdamLruLambdaIdeal.main_arg0)
          ∧ r.2.mem ((c.tc : Thread Cert.AdamLruLambdaIdeal.nD Cert.AdamLruLambdaIdeal.τ).loc Cert.AdamLruLambdaIdeal.main_arg1) = m ((c.tc : Thread Cert.AdamLruLambdaIdeal.nD Cert.AdamLruLambdaIdeal.τ).loc Cert.AdamLruLambdaIdeal.main_arg1)
          ∧ r.2.mem ((c.tc : Thread Cert.AdamLruLambdaIdeal.nD Cert.AdamLruLambdaIdeal.τ).loc Cert.AdamLruLambdaIdeal.main_arg2) = m ((c.tc : Thread Cert.AdamLruLambdaIdeal.nD Cert.AdamLruLambdaIdeal.τ).loc Cert.AdamLruLambdaIdeal.main_arg2)
          ∧ r.2.mem ((c.tc : Thread Cert.AdamLruLambdaIdeal.nD Cert.AdamLruLambdaIdeal.τ).loc Cert.AdamLruLambdaIdeal.main_arg3) = m ((c.tc : Thread Cert.AdamLruLambdaIdeal.nD Cert.AdamLruLambdaIdeal.τ).loc Cert.AdamLruLambdaIdeal.main_arg3))
      ∧ θ_run (Cert.AdamLruLambdaRefIdeal.defs (F := Ideal)) (onTc (τ := Cert.AdamLruLambdaRefIdeal.τ) (Cert.AdamLruLambdaRefIdeal.main (F := Ideal))) ⟨m', fun _ => 0, g'⟩ (fun r => ∀ c : Dev Cert.AdamLruLambdaRefIdeal.nD,
          r.2.mem ((c.tc : Thread Cert.AdamLruLambdaRefIdeal.nD Cert.AdamLruLambdaRefIdeal.τ).loc Cert.AdamLruLambdaRefIdeal.main_v23) = v0 c
          ∧ r.2.mem ((c.tc : Thread Cert.AdamLruLambdaRefIdeal.nD Cert.AdamLruLambdaRefIdeal.τ).loc Cert.AdamLruLambdaRefIdeal.main_v4) = v1 c
          ∧ r.2.mem ((c.tc : Thread Cert.AdamLruLambdaRefIdeal.nD Cert.AdamLruLambdaRefIdeal.τ).loc Cert.AdamLruLambdaRefIdeal.main_v10) = v2 c
          ∧ r.2.mem ((c.tc : Thread Cert.AdamLruLambdaRefIdeal.nD Cert.AdamLruLambdaRefIdeal.τ).loc Cert.AdamLruLambdaRefIdeal.main_arg0) = m' ((c.tc : Thread Cert.AdamLruLambdaRefIdeal.nD Cert.AdamLruLambdaRefIdeal.τ).loc Cert.AdamLruLambdaRefIdeal.main_arg0)
          ∧ r.2.mem ((c.tc : Thread Cert.AdamLruLambdaRefIdeal.nD Cert.AdamLruLambdaRefIdeal.τ).loc Cert.AdamLruLambdaRefIdeal.main_arg1) = m' ((c.tc : Thread Cert.AdamLruLambdaRefIdeal.nD Cert.AdamLruLambdaRefIdeal.τ).loc Cert.AdamLruLambdaRefIdeal.main_arg1)
          ∧ r.2.mem ((c.tc : Thread Cert.AdamLruLambdaRefIdeal.nD Cert.AdamLruLambdaRefIdeal.τ).loc Cert.AdamLruLambdaRefIdeal.main_arg2) = m' ((c.tc : Thread Cert.AdamLruLambdaRefIdeal.nD Cert.AdamLruLambdaRefIdeal.τ).loc Cert.AdamLruLambdaRefIdeal.main_arg2)
          ∧ r.2.mem ((c.tc : Thread Cert.AdamLruLambdaRefIdeal.nD Cert.AdamLruLambdaRefIdeal.τ).loc Cert.AdamLruLambdaRefIdeal.main_arg3) = m' ((c.tc : Thread Cert.AdamLruLambdaRefIdeal.nD Cert.AdamLruLambdaRefIdeal.τ).loc Cert.AdamLruLambdaRefIdeal.main_arg3))

def preserves_AdamWBranchAttn_AdamWBranchAttnIdeal : Prop :=
  True

def algebraic_AdamWBranchAttnIdeal_AdamWBranchAttnRefIdeal [hAdamWBranchAttnIdeal : Cert.AdamWBranchAttnIdeal.Facts] [hAdamWBranchAttnRefIdeal : Cert.AdamWBranchAttnRefIdeal.Facts] : Prop :=
  ∀ (m : (ℓ : Loc Cert.AdamWBranchAttnIdeal.nD Cert.AdamWBranchAttnIdeal.τ Cert.AdamWBranchAttnIdeal.sig) → Buf (Elt Ideal) ℓ) (g : Dev Cert.AdamWBranchAttnIdeal.nD → PrngReg)
    (m' : (ℓ : Loc Cert.AdamWBranchAttnRefIdeal.nD Cert.AdamWBranchAttnRefIdeal.τ Cert.AdamWBranchAttnRefIdeal.sig) → Buf (Elt Ideal) ℓ) (g' : Dev Cert.AdamWBranchAttnRefIdeal.nD → PrngReg), Pre_AdamWBranchAttnIdeal m →
    (∀ c : Dev Cert.AdamWBranchAttnIdeal.nD,
      m' ((c.tc : Thread Cert.AdamWBranchAttnRefIdeal.nD Cert.AdamWBranchAttnRefIdeal.τ).loc Cert.AdamWBranchAttnRefIdeal.main_arg0) = m ((c.tc : Thread Cert.AdamWBranchAttnIdeal.nD Cert.AdamWBranchAttnIdeal.τ).loc Cert.AdamWBranchAttnIdeal.main_arg0)
      ∧ m' ((c.tc : Thread Cert.AdamWBranchAttnRefIdeal.nD Cert.AdamWBranchAttnRefIdeal.τ).loc Cert.AdamWBranchAttnRefIdeal.main_arg1) = m ((c.tc : Thread Cert.AdamWBranchAttnIdeal.nD Cert.AdamWBranchAttnIdeal.τ).loc Cert.AdamWBranchAttnIdeal.main_arg1)
      ∧ m' ((c.tc : Thread Cert.AdamWBranchAttnRefIdeal.nD Cert.AdamWBranchAttnRefIdeal.τ).loc Cert.AdamWBranchAttnRefIdeal.main_arg2) = m ((c.tc : Thread Cert.AdamWBranchAttnIdeal.nD Cert.AdamWBranchAttnIdeal.τ).loc Cert.AdamWBranchAttnIdeal.main_arg2)
      ∧ m' ((c.tc : Thread Cert.AdamWBranchAttnRefIdeal.nD Cert.AdamWBranchAttnRefIdeal.τ).loc Cert.AdamWBranchAttnRefIdeal.main_arg3) = m ((c.tc : Thread Cert.AdamWBranchAttnIdeal.nD Cert.AdamWBranchAttnIdeal.τ).loc Cert.AdamWBranchAttnIdeal.main_arg3)) →
    ∃ (v0 : (c : Dev Cert.AdamWBranchAttnIdeal.nD) → Buf (Elt Ideal) ((c.tc : Thread Cert.AdamWBranchAttnIdeal.nD Cert.AdamWBranchAttnIdeal.τ).loc Cert.AdamWBranchAttnIdeal.main_v4_0)) (v1 : (c : Dev Cert.AdamWBranchAttnIdeal.nD) → Buf (Elt Ideal) ((c.tc : Thread Cert.AdamWBranchAttnIdeal.nD Cert.AdamWBranchAttnIdeal.τ).loc Cert.AdamWBranchAttnIdeal.main_v4_1)) (v2 : (c : Dev Cert.AdamWBranchAttnIdeal.nD) → Buf (Elt Ideal) ((c.tc : Thread Cert.AdamWBranchAttnIdeal.nD Cert.AdamWBranchAttnIdeal.τ).loc Cert.AdamWBranchAttnIdeal.main_v4_2)),
      θ_run (Cert.AdamWBranchAttnIdeal.defs (F := Ideal)) (onTc (τ := Cert.AdamWBranchAttnIdeal.τ) (Cert.AdamWBranchAttnIdeal.main (F := Ideal))) ⟨m, fun _ => 0, g⟩ (fun r => ∀ c : Dev Cert.AdamWBranchAttnIdeal.nD,
          r.2.mem ((c.tc : Thread Cert.AdamWBranchAttnIdeal.nD Cert.AdamWBranchAttnIdeal.τ).loc Cert.AdamWBranchAttnIdeal.main_v4_0) = v0 c
          ∧ r.2.mem ((c.tc : Thread Cert.AdamWBranchAttnIdeal.nD Cert.AdamWBranchAttnIdeal.τ).loc Cert.AdamWBranchAttnIdeal.main_v4_1) = v1 c
          ∧ r.2.mem ((c.tc : Thread Cert.AdamWBranchAttnIdeal.nD Cert.AdamWBranchAttnIdeal.τ).loc Cert.AdamWBranchAttnIdeal.main_v4_2) = v2 c
          ∧ r.2.mem ((c.tc : Thread Cert.AdamWBranchAttnIdeal.nD Cert.AdamWBranchAttnIdeal.τ).loc Cert.AdamWBranchAttnIdeal.main_arg0) = m ((c.tc : Thread Cert.AdamWBranchAttnIdeal.nD Cert.AdamWBranchAttnIdeal.τ).loc Cert.AdamWBranchAttnIdeal.main_arg0)
          ∧ r.2.mem ((c.tc : Thread Cert.AdamWBranchAttnIdeal.nD Cert.AdamWBranchAttnIdeal.τ).loc Cert.AdamWBranchAttnIdeal.main_arg1) = m ((c.tc : Thread Cert.AdamWBranchAttnIdeal.nD Cert.AdamWBranchAttnIdeal.τ).loc Cert.AdamWBranchAttnIdeal.main_arg1)
          ∧ r.2.mem ((c.tc : Thread Cert.AdamWBranchAttnIdeal.nD Cert.AdamWBranchAttnIdeal.τ).loc Cert.AdamWBranchAttnIdeal.main_arg2) = m ((c.tc : Thread Cert.AdamWBranchAttnIdeal.nD Cert.AdamWBranchAttnIdeal.τ).loc Cert.AdamWBranchAttnIdeal.main_arg2)
          ∧ r.2.mem ((c.tc : Thread Cert.AdamWBranchAttnIdeal.nD Cert.AdamWBranchAttnIdeal.τ).loc Cert.AdamWBranchAttnIdeal.main_arg3) = m ((c.tc : Thread Cert.AdamWBranchAttnIdeal.nD Cert.AdamWBranchAttnIdeal.τ).loc Cert.AdamWBranchAttnIdeal.main_arg3))
      ∧ θ_run (Cert.AdamWBranchAttnRefIdeal.defs (F := Ideal)) (onTc (τ := Cert.AdamWBranchAttnRefIdeal.τ) (Cert.AdamWBranchAttnRefIdeal.main (F := Ideal))) ⟨m', fun _ => 0, g'⟩ (fun r => ∀ c : Dev Cert.AdamWBranchAttnRefIdeal.nD,
          r.2.mem ((c.tc : Thread Cert.AdamWBranchAttnRefIdeal.nD Cert.AdamWBranchAttnRefIdeal.τ).loc Cert.AdamWBranchAttnRefIdeal.main_v24) = v0 c
          ∧ r.2.mem ((c.tc : Thread Cert.AdamWBranchAttnRefIdeal.nD Cert.AdamWBranchAttnRefIdeal.τ).loc Cert.AdamWBranchAttnRefIdeal.main_v25) = v1 c
          ∧ r.2.mem ((c.tc : Thread Cert.AdamWBranchAttnRefIdeal.nD Cert.AdamWBranchAttnRefIdeal.τ).loc Cert.AdamWBranchAttnRefIdeal.main_v26) = v2 c
          ∧ r.2.mem ((c.tc : Thread Cert.AdamWBranchAttnRefIdeal.nD Cert.AdamWBranchAttnRefIdeal.τ).loc Cert.AdamWBranchAttnRefIdeal.main_arg0) = m' ((c.tc : Thread Cert.AdamWBranchAttnRefIdeal.nD Cert.AdamWBranchAttnRefIdeal.τ).loc Cert.AdamWBranchAttnRefIdeal.main_arg0)
          ∧ r.2.mem ((c.tc : Thread Cert.AdamWBranchAttnRefIdeal.nD Cert.AdamWBranchAttnRefIdeal.τ).loc Cert.AdamWBranchAttnRefIdeal.main_arg1) = m' ((c.tc : Thread Cert.AdamWBranchAttnRefIdeal.nD Cert.AdamWBranchAttnRefIdeal.τ).loc Cert.AdamWBranchAttnRefIdeal.main_arg1)
          ∧ r.2.mem ((c.tc : Thread Cert.AdamWBranchAttnRefIdeal.nD Cert.AdamWBranchAttnRefIdeal.τ).loc Cert.AdamWBranchAttnRefIdeal.main_arg2) = m' ((c.tc : Thread Cert.AdamWBranchAttnRefIdeal.nD Cert.AdamWBranchAttnRefIdeal.τ).loc Cert.AdamWBranchAttnRefIdeal.main_arg2)
          ∧ r.2.mem ((c.tc : Thread Cert.AdamWBranchAttnRefIdeal.nD Cert.AdamWBranchAttnRefIdeal.τ).loc Cert.AdamWBranchAttnRefIdeal.main_arg3) = m' ((c.tc : Thread Cert.AdamWBranchAttnRefIdeal.nD Cert.AdamWBranchAttnRefIdeal.τ).loc Cert.AdamWBranchAttnRefIdeal.main_arg3))

def preserves_AdamWBranchSsd_AdamWBranchSsdIdeal : Prop :=
  True

def algebraic_AdamWBranchSsdIdeal_AdamWBranchSsdRefIdeal [hAdamWBranchSsdIdeal : Cert.AdamWBranchSsdIdeal.Facts] [hAdamWBranchSsdRefIdeal : Cert.AdamWBranchSsdRefIdeal.Facts] : Prop :=
  ∀ (m : (ℓ : Loc Cert.AdamWBranchSsdIdeal.nD Cert.AdamWBranchSsdIdeal.τ Cert.AdamWBranchSsdIdeal.sig) → Buf (Elt Ideal) ℓ) (g : Dev Cert.AdamWBranchSsdIdeal.nD → PrngReg)
    (m' : (ℓ : Loc Cert.AdamWBranchSsdRefIdeal.nD Cert.AdamWBranchSsdRefIdeal.τ Cert.AdamWBranchSsdRefIdeal.sig) → Buf (Elt Ideal) ℓ) (g' : Dev Cert.AdamWBranchSsdRefIdeal.nD → PrngReg), Pre_AdamWBranchSsdIdeal m →
    (∀ c : Dev Cert.AdamWBranchSsdIdeal.nD,
      m' ((c.tc : Thread Cert.AdamWBranchSsdRefIdeal.nD Cert.AdamWBranchSsdRefIdeal.τ).loc Cert.AdamWBranchSsdRefIdeal.main_arg0) = m ((c.tc : Thread Cert.AdamWBranchSsdIdeal.nD Cert.AdamWBranchSsdIdeal.τ).loc Cert.AdamWBranchSsdIdeal.main_arg0)
      ∧ m' ((c.tc : Thread Cert.AdamWBranchSsdRefIdeal.nD Cert.AdamWBranchSsdRefIdeal.τ).loc Cert.AdamWBranchSsdRefIdeal.main_arg1) = m ((c.tc : Thread Cert.AdamWBranchSsdIdeal.nD Cert.AdamWBranchSsdIdeal.τ).loc Cert.AdamWBranchSsdIdeal.main_arg1)
      ∧ m' ((c.tc : Thread Cert.AdamWBranchSsdRefIdeal.nD Cert.AdamWBranchSsdRefIdeal.τ).loc Cert.AdamWBranchSsdRefIdeal.main_arg2) = m ((c.tc : Thread Cert.AdamWBranchSsdIdeal.nD Cert.AdamWBranchSsdIdeal.τ).loc Cert.AdamWBranchSsdIdeal.main_arg2)
      ∧ m' ((c.tc : Thread Cert.AdamWBranchSsdRefIdeal.nD Cert.AdamWBranchSsdRefIdeal.τ).loc Cert.AdamWBranchSsdRefIdeal.main_arg3) = m ((c.tc : Thread Cert.AdamWBranchSsdIdeal.nD Cert.AdamWBranchSsdIdeal.τ).loc Cert.AdamWBranchSsdIdeal.main_arg3)) →
    ∃ (v0 : (c : Dev Cert.AdamWBranchSsdIdeal.nD) → Buf (Elt Ideal) ((c.tc : Thread Cert.AdamWBranchSsdIdeal.nD Cert.AdamWBranchSsdIdeal.τ).loc Cert.AdamWBranchSsdIdeal.main_v4_0)) (v1 : (c : Dev Cert.AdamWBranchSsdIdeal.nD) → Buf (Elt Ideal) ((c.tc : Thread Cert.AdamWBranchSsdIdeal.nD Cert.AdamWBranchSsdIdeal.τ).loc Cert.AdamWBranchSsdIdeal.main_v4_1)) (v2 : (c : Dev Cert.AdamWBranchSsdIdeal.nD) → Buf (Elt Ideal) ((c.tc : Thread Cert.AdamWBranchSsdIdeal.nD Cert.AdamWBranchSsdIdeal.τ).loc Cert.AdamWBranchSsdIdeal.main_v4_2)),
      θ_run (Cert.AdamWBranchSsdIdeal.defs (F := Ideal)) (onTc (τ := Cert.AdamWBranchSsdIdeal.τ) (Cert.AdamWBranchSsdIdeal.main (F := Ideal))) ⟨m, fun _ => 0, g⟩ (fun r => ∀ c : Dev Cert.AdamWBranchSsdIdeal.nD,
          r.2.mem ((c.tc : Thread Cert.AdamWBranchSsdIdeal.nD Cert.AdamWBranchSsdIdeal.τ).loc Cert.AdamWBranchSsdIdeal.main_v4_0) = v0 c
          ∧ r.2.mem ((c.tc : Thread Cert.AdamWBranchSsdIdeal.nD Cert.AdamWBranchSsdIdeal.τ).loc Cert.AdamWBranchSsdIdeal.main_v4_1) = v1 c
          ∧ r.2.mem ((c.tc : Thread Cert.AdamWBranchSsdIdeal.nD Cert.AdamWBranchSsdIdeal.τ).loc Cert.AdamWBranchSsdIdeal.main_v4_2) = v2 c
          ∧ r.2.mem ((c.tc : Thread Cert.AdamWBranchSsdIdeal.nD Cert.AdamWBranchSsdIdeal.τ).loc Cert.AdamWBranchSsdIdeal.main_arg0) = m ((c.tc : Thread Cert.AdamWBranchSsdIdeal.nD Cert.AdamWBranchSsdIdeal.τ).loc Cert.AdamWBranchSsdIdeal.main_arg0)
          ∧ r.2.mem ((c.tc : Thread Cert.AdamWBranchSsdIdeal.nD Cert.AdamWBranchSsdIdeal.τ).loc Cert.AdamWBranchSsdIdeal.main_arg1) = m ((c.tc : Thread Cert.AdamWBranchSsdIdeal.nD Cert.AdamWBranchSsdIdeal.τ).loc Cert.AdamWBranchSsdIdeal.main_arg1)
          ∧ r.2.mem ((c.tc : Thread Cert.AdamWBranchSsdIdeal.nD Cert.AdamWBranchSsdIdeal.τ).loc Cert.AdamWBranchSsdIdeal.main_arg2) = m ((c.tc : Thread Cert.AdamWBranchSsdIdeal.nD Cert.AdamWBranchSsdIdeal.τ).loc Cert.AdamWBranchSsdIdeal.main_arg2)
          ∧ r.2.mem ((c.tc : Thread Cert.AdamWBranchSsdIdeal.nD Cert.AdamWBranchSsdIdeal.τ).loc Cert.AdamWBranchSsdIdeal.main_arg3) = m ((c.tc : Thread Cert.AdamWBranchSsdIdeal.nD Cert.AdamWBranchSsdIdeal.τ).loc Cert.AdamWBranchSsdIdeal.main_arg3))
      ∧ θ_run (Cert.AdamWBranchSsdRefIdeal.defs (F := Ideal)) (onTc (τ := Cert.AdamWBranchSsdRefIdeal.τ) (Cert.AdamWBranchSsdRefIdeal.main (F := Ideal))) ⟨m', fun _ => 0, g'⟩ (fun r => ∀ c : Dev Cert.AdamWBranchSsdRefIdeal.nD,
          r.2.mem ((c.tc : Thread Cert.AdamWBranchSsdRefIdeal.nD Cert.AdamWBranchSsdRefIdeal.τ).loc Cert.AdamWBranchSsdRefIdeal.main_v24) = v0 c
          ∧ r.2.mem ((c.tc : Thread Cert.AdamWBranchSsdRefIdeal.nD Cert.AdamWBranchSsdRefIdeal.τ).loc Cert.AdamWBranchSsdRefIdeal.main_v25) = v1 c
          ∧ r.2.mem ((c.tc : Thread Cert.AdamWBranchSsdRefIdeal.nD Cert.AdamWBranchSsdRefIdeal.τ).loc Cert.AdamWBranchSsdRefIdeal.main_v26) = v2 c
          ∧ r.2.mem ((c.tc : Thread Cert.AdamWBranchSsdRefIdeal.nD Cert.AdamWBranchSsdRefIdeal.τ).loc Cert.AdamWBranchSsdRefIdeal.main_arg0) = m' ((c.tc : Thread Cert.AdamWBranchSsdRefIdeal.nD Cert.AdamWBranchSsdRefIdeal.τ).loc Cert.AdamWBranchSsdRefIdeal.main_arg0)
          ∧ r.2.mem ((c.tc : Thread Cert.AdamWBranchSsdRefIdeal.nD Cert.AdamWBranchSsdRefIdeal.τ).loc Cert.AdamWBranchSsdRefIdeal.main_arg1) = m' ((c.tc : Thread Cert.AdamWBranchSsdRefIdeal.nD Cert.AdamWBranchSsdRefIdeal.τ).loc Cert.AdamWBranchSsdRefIdeal.main_arg1)
          ∧ r.2.mem ((c.tc : Thread Cert.AdamWBranchSsdRefIdeal.nD Cert.AdamWBranchSsdRefIdeal.τ).loc Cert.AdamWBranchSsdRefIdeal.main_arg2) = m' ((c.tc : Thread Cert.AdamWBranchSsdRefIdeal.nD Cert.AdamWBranchSsdRefIdeal.τ).loc Cert.AdamWBranchSsdRefIdeal.main_arg2)
          ∧ r.2.mem ((c.tc : Thread Cert.AdamWBranchSsdRefIdeal.nD Cert.AdamWBranchSsdRefIdeal.τ).loc Cert.AdamWBranchSsdRefIdeal.main_arg3) = m' ((c.tc : Thread Cert.AdamWBranchSsdRefIdeal.nD Cert.AdamWBranchSsdRefIdeal.τ).loc Cert.AdamWBranchSsdRefIdeal.main_arg3))

def preserves_AdamWBranchLru_AdamWBranchLruIdeal : Prop :=
  True

def algebraic_AdamWBranchLruIdeal_AdamWBranchLruRefIdeal [hAdamWBranchLruIdeal : Cert.AdamWBranchLruIdeal.Facts] [hAdamWBranchLruRefIdeal : Cert.AdamWBranchLruRefIdeal.Facts] : Prop :=
  ∀ (m : (ℓ : Loc Cert.AdamWBranchLruIdeal.nD Cert.AdamWBranchLruIdeal.τ Cert.AdamWBranchLruIdeal.sig) → Buf (Elt Ideal) ℓ) (g : Dev Cert.AdamWBranchLruIdeal.nD → PrngReg)
    (m' : (ℓ : Loc Cert.AdamWBranchLruRefIdeal.nD Cert.AdamWBranchLruRefIdeal.τ Cert.AdamWBranchLruRefIdeal.sig) → Buf (Elt Ideal) ℓ) (g' : Dev Cert.AdamWBranchLruRefIdeal.nD → PrngReg), Pre_AdamWBranchLruIdeal m →
    (∀ c : Dev Cert.AdamWBranchLruIdeal.nD,
      m' ((c.tc : Thread Cert.AdamWBranchLruRefIdeal.nD Cert.AdamWBranchLruRefIdeal.τ).loc Cert.AdamWBranchLruRefIdeal.main_arg0) = m ((c.tc : Thread Cert.AdamWBranchLruIdeal.nD Cert.AdamWBranchLruIdeal.τ).loc Cert.AdamWBranchLruIdeal.main_arg0)
      ∧ m' ((c.tc : Thread Cert.AdamWBranchLruRefIdeal.nD Cert.AdamWBranchLruRefIdeal.τ).loc Cert.AdamWBranchLruRefIdeal.main_arg1) = m ((c.tc : Thread Cert.AdamWBranchLruIdeal.nD Cert.AdamWBranchLruIdeal.τ).loc Cert.AdamWBranchLruIdeal.main_arg1)
      ∧ m' ((c.tc : Thread Cert.AdamWBranchLruRefIdeal.nD Cert.AdamWBranchLruRefIdeal.τ).loc Cert.AdamWBranchLruRefIdeal.main_arg2) = m ((c.tc : Thread Cert.AdamWBranchLruIdeal.nD Cert.AdamWBranchLruIdeal.τ).loc Cert.AdamWBranchLruIdeal.main_arg2)
      ∧ m' ((c.tc : Thread Cert.AdamWBranchLruRefIdeal.nD Cert.AdamWBranchLruRefIdeal.τ).loc Cert.AdamWBranchLruRefIdeal.main_arg3) = m ((c.tc : Thread Cert.AdamWBranchLruIdeal.nD Cert.AdamWBranchLruIdeal.τ).loc Cert.AdamWBranchLruIdeal.main_arg3)) →
    ∃ (v0 : (c : Dev Cert.AdamWBranchLruIdeal.nD) → Buf (Elt Ideal) ((c.tc : Thread Cert.AdamWBranchLruIdeal.nD Cert.AdamWBranchLruIdeal.τ).loc Cert.AdamWBranchLruIdeal.main_v4_0)) (v1 : (c : Dev Cert.AdamWBranchLruIdeal.nD) → Buf (Elt Ideal) ((c.tc : Thread Cert.AdamWBranchLruIdeal.nD Cert.AdamWBranchLruIdeal.τ).loc Cert.AdamWBranchLruIdeal.main_v4_1)) (v2 : (c : Dev Cert.AdamWBranchLruIdeal.nD) → Buf (Elt Ideal) ((c.tc : Thread Cert.AdamWBranchLruIdeal.nD Cert.AdamWBranchLruIdeal.τ).loc Cert.AdamWBranchLruIdeal.main_v4_2)),
      θ_run (Cert.AdamWBranchLruIdeal.defs (F := Ideal)) (onTc (τ := Cert.AdamWBranchLruIdeal.τ) (Cert.AdamWBranchLruIdeal.main (F := Ideal))) ⟨m, fun _ => 0, g⟩ (fun r => ∀ c : Dev Cert.AdamWBranchLruIdeal.nD,
          r.2.mem ((c.tc : Thread Cert.AdamWBranchLruIdeal.nD Cert.AdamWBranchLruIdeal.τ).loc Cert.AdamWBranchLruIdeal.main_v4_0) = v0 c
          ∧ r.2.mem ((c.tc : Thread Cert.AdamWBranchLruIdeal.nD Cert.AdamWBranchLruIdeal.τ).loc Cert.AdamWBranchLruIdeal.main_v4_1) = v1 c
          ∧ r.2.mem ((c.tc : Thread Cert.AdamWBranchLruIdeal.nD Cert.AdamWBranchLruIdeal.τ).loc Cert.AdamWBranchLruIdeal.main_v4_2) = v2 c
          ∧ r.2.mem ((c.tc : Thread Cert.AdamWBranchLruIdeal.nD Cert.AdamWBranchLruIdeal.τ).loc Cert.AdamWBranchLruIdeal.main_arg0) = m ((c.tc : Thread Cert.AdamWBranchLruIdeal.nD Cert.AdamWBranchLruIdeal.τ).loc Cert.AdamWBranchLruIdeal.main_arg0)
          ∧ r.2.mem ((c.tc : Thread Cert.AdamWBranchLruIdeal.nD Cert.AdamWBranchLruIdeal.τ).loc Cert.AdamWBranchLruIdeal.main_arg1) = m ((c.tc : Thread Cert.AdamWBranchLruIdeal.nD Cert.AdamWBranchLruIdeal.τ).loc Cert.AdamWBranchLruIdeal.main_arg1)
          ∧ r.2.mem ((c.tc : Thread Cert.AdamWBranchLruIdeal.nD Cert.AdamWBranchLruIdeal.τ).loc Cert.AdamWBranchLruIdeal.main_arg2) = m ((c.tc : Thread Cert.AdamWBranchLruIdeal.nD Cert.AdamWBranchLruIdeal.τ).loc Cert.AdamWBranchLruIdeal.main_arg2)
          ∧ r.2.mem ((c.tc : Thread Cert.AdamWBranchLruIdeal.nD Cert.AdamWBranchLruIdeal.τ).loc Cert.AdamWBranchLruIdeal.main_arg3) = m ((c.tc : Thread Cert.AdamWBranchLruIdeal.nD Cert.AdamWBranchLruIdeal.τ).loc Cert.AdamWBranchLruIdeal.main_arg3))
      ∧ θ_run (Cert.AdamWBranchLruRefIdeal.defs (F := Ideal)) (onTc (τ := Cert.AdamWBranchLruRefIdeal.τ) (Cert.AdamWBranchLruRefIdeal.main (F := Ideal))) ⟨m', fun _ => 0, g'⟩ (fun r => ∀ c : Dev Cert.AdamWBranchLruRefIdeal.nD,
          r.2.mem ((c.tc : Thread Cert.AdamWBranchLruRefIdeal.nD Cert.AdamWBranchLruRefIdeal.τ).loc Cert.AdamWBranchLruRefIdeal.main_v24) = v0 c
          ∧ r.2.mem ((c.tc : Thread Cert.AdamWBranchLruRefIdeal.nD Cert.AdamWBranchLruRefIdeal.τ).loc Cert.AdamWBranchLruRefIdeal.main_v25) = v1 c
          ∧ r.2.mem ((c.tc : Thread Cert.AdamWBranchLruRefIdeal.nD Cert.AdamWBranchLruRefIdeal.τ).loc Cert.AdamWBranchLruRefIdeal.main_v26) = v2 c
          ∧ r.2.mem ((c.tc : Thread Cert.AdamWBranchLruRefIdeal.nD Cert.AdamWBranchLruRefIdeal.τ).loc Cert.AdamWBranchLruRefIdeal.main_arg0) = m' ((c.tc : Thread Cert.AdamWBranchLruRefIdeal.nD Cert.AdamWBranchLruRefIdeal.τ).loc Cert.AdamWBranchLruRefIdeal.main_arg0)
          ∧ r.2.mem ((c.tc : Thread Cert.AdamWBranchLruRefIdeal.nD Cert.AdamWBranchLruRefIdeal.τ).loc Cert.AdamWBranchLruRefIdeal.main_arg1) = m' ((c.tc : Thread Cert.AdamWBranchLruRefIdeal.nD Cert.AdamWBranchLruRefIdeal.τ).loc Cert.AdamWBranchLruRefIdeal.main_arg1)
          ∧ r.2.mem ((c.tc : Thread Cert.AdamWBranchLruRefIdeal.nD Cert.AdamWBranchLruRefIdeal.τ).loc Cert.AdamWBranchLruRefIdeal.main_arg2) = m' ((c.tc : Thread Cert.AdamWBranchLruRefIdeal.nD Cert.AdamWBranchLruRefIdeal.τ).loc Cert.AdamWBranchLruRefIdeal.main_arg2)
          ∧ r.2.mem ((c.tc : Thread Cert.AdamWBranchLruRefIdeal.nD Cert.AdamWBranchLruRefIdeal.τ).loc Cert.AdamWBranchLruRefIdeal.main_arg3) = m' ((c.tc : Thread Cert.AdamWBranchLruRefIdeal.nD Cert.AdamWBranchLruRefIdeal.τ).loc Cert.AdamWBranchLruRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamFfn2Norm_AdamFfn2NormIdeal : Prop :=
  True

def algebraic_AdamFfn2NormIdeal_AdamFfn2NormRefIdeal [hAdamFfn2NormIdeal : Cert.AdamFfn2NormIdeal.Facts] [hAdamFfn2NormRefIdeal : Cert.AdamFfn2NormRefIdeal.Facts] : Prop :=
  ∀ (m : (ℓ : Loc Cert.AdamFfn2NormIdeal.nD Cert.AdamFfn2NormIdeal.τ Cert.AdamFfn2NormIdeal.sig) → Buf (Elt Ideal) ℓ) (g : Dev Cert.AdamFfn2NormIdeal.nD → PrngReg)
    (m' : (ℓ : Loc Cert.AdamFfn2NormRefIdeal.nD Cert.AdamFfn2NormRefIdeal.τ Cert.AdamFfn2NormRefIdeal.sig) → Buf (Elt Ideal) ℓ) (g' : Dev Cert.AdamFfn2NormRefIdeal.nD → PrngReg), Pre_AdamFfn2NormIdeal m →
    (∀ c : Dev Cert.AdamFfn2NormIdeal.nD,
      m' ((c.tc : Thread Cert.AdamFfn2NormRefIdeal.nD Cert.AdamFfn2NormRefIdeal.τ).loc Cert.AdamFfn2NormRefIdeal.main_arg0) = m ((c.tc : Thread Cert.AdamFfn2NormIdeal.nD Cert.AdamFfn2NormIdeal.τ).loc Cert.AdamFfn2NormIdeal.main_arg0)
      ∧ m' ((c.tc : Thread Cert.AdamFfn2NormRefIdeal.nD Cert.AdamFfn2NormRefIdeal.τ).loc Cert.AdamFfn2NormRefIdeal.main_arg1) = m ((c.tc : Thread Cert.AdamFfn2NormIdeal.nD Cert.AdamFfn2NormIdeal.τ).loc Cert.AdamFfn2NormIdeal.main_arg1)
      ∧ m' ((c.tc : Thread Cert.AdamFfn2NormRefIdeal.nD Cert.AdamFfn2NormRefIdeal.τ).loc Cert.AdamFfn2NormRefIdeal.main_arg2) = m ((c.tc : Thread Cert.AdamFfn2NormIdeal.nD Cert.AdamFfn2NormIdeal.τ).loc Cert.AdamFfn2NormIdeal.main_arg2)
      ∧ m' ((c.tc : Thread Cert.AdamFfn2NormRefIdeal.nD Cert.AdamFfn2NormRefIdeal.τ).loc Cert.AdamFfn2NormRefIdeal.main_arg3) = m ((c.tc : Thread Cert.AdamFfn2NormIdeal.nD Cert.AdamFfn2NormIdeal.τ).loc Cert.AdamFfn2NormIdeal.main_arg3)) →
    ∃ (v0 : (c : Dev Cert.AdamFfn2NormIdeal.nD) → Buf (Elt Ideal) ((c.tc : Thread Cert.AdamFfn2NormIdeal.nD Cert.AdamFfn2NormIdeal.τ).loc Cert.AdamFfn2NormIdeal.main_v0_0)) (v1 : (c : Dev Cert.AdamFfn2NormIdeal.nD) → Buf (Elt Ideal) ((c.tc : Thread Cert.AdamFfn2NormIdeal.nD Cert.AdamFfn2NormIdeal.τ).loc Cert.AdamFfn2NormIdeal.main_v0_1)) (v2 : (c : Dev Cert.AdamFfn2NormIdeal.nD) → Buf (Elt Ideal) ((c.tc : Thread Cert.AdamFfn2NormIdeal.nD Cert.AdamFfn2NormIdeal.τ).loc Cert.AdamFfn2NormIdeal.main_v0_2)),
      θ_run (Cert.AdamFfn2NormIdeal.defs (F := Ideal)) (onTc (τ := Cert.AdamFfn2NormIdeal.τ) (Cert.AdamFfn2NormIdeal.main (F := Ideal))) ⟨m, fun _ => 0, g⟩ (fun r => ∀ c : Dev Cert.AdamFfn2NormIdeal.nD,
          r.2.mem ((c.tc : Thread Cert.AdamFfn2NormIdeal.nD Cert.AdamFfn2NormIdeal.τ).loc Cert.AdamFfn2NormIdeal.main_v0_0) = v0 c
          ∧ r.2.mem ((c.tc : Thread Cert.AdamFfn2NormIdeal.nD Cert.AdamFfn2NormIdeal.τ).loc Cert.AdamFfn2NormIdeal.main_v0_1) = v1 c
          ∧ r.2.mem ((c.tc : Thread Cert.AdamFfn2NormIdeal.nD Cert.AdamFfn2NormIdeal.τ).loc Cert.AdamFfn2NormIdeal.main_v0_2) = v2 c
          ∧ r.2.mem ((c.tc : Thread Cert.AdamFfn2NormIdeal.nD Cert.AdamFfn2NormIdeal.τ).loc Cert.AdamFfn2NormIdeal.main_arg0) = m ((c.tc : Thread Cert.AdamFfn2NormIdeal.nD Cert.AdamFfn2NormIdeal.τ).loc Cert.AdamFfn2NormIdeal.main_arg0)
          ∧ r.2.mem ((c.tc : Thread Cert.AdamFfn2NormIdeal.nD Cert.AdamFfn2NormIdeal.τ).loc Cert.AdamFfn2NormIdeal.main_arg1) = m ((c.tc : Thread Cert.AdamFfn2NormIdeal.nD Cert.AdamFfn2NormIdeal.τ).loc Cert.AdamFfn2NormIdeal.main_arg1)
          ∧ r.2.mem ((c.tc : Thread Cert.AdamFfn2NormIdeal.nD Cert.AdamFfn2NormIdeal.τ).loc Cert.AdamFfn2NormIdeal.main_arg2) = m ((c.tc : Thread Cert.AdamFfn2NormIdeal.nD Cert.AdamFfn2NormIdeal.τ).loc Cert.AdamFfn2NormIdeal.main_arg2)
          ∧ r.2.mem ((c.tc : Thread Cert.AdamFfn2NormIdeal.nD Cert.AdamFfn2NormIdeal.τ).loc Cert.AdamFfn2NormIdeal.main_arg3) = m ((c.tc : Thread Cert.AdamFfn2NormIdeal.nD Cert.AdamFfn2NormIdeal.τ).loc Cert.AdamFfn2NormIdeal.main_arg3))
      ∧ θ_run (Cert.AdamFfn2NormRefIdeal.defs (F := Ideal)) (onTc (τ := Cert.AdamFfn2NormRefIdeal.τ) (Cert.AdamFfn2NormRefIdeal.main (F := Ideal))) ⟨m', fun _ => 0, g'⟩ (fun r => ∀ c : Dev Cert.AdamFfn2NormRefIdeal.nD,
          r.2.mem ((c.tc : Thread Cert.AdamFfn2NormRefIdeal.nD Cert.AdamFfn2NormRefIdeal.τ).loc Cert.AdamFfn2NormRefIdeal.main_v23) = v0 c
          ∧ r.2.mem ((c.tc : Thread Cert.AdamFfn2NormRefIdeal.nD Cert.AdamFfn2NormRefIdeal.τ).loc Cert.AdamFfn2NormRefIdeal.main_v4) = v1 c
          ∧ r.2.mem ((c.tc : Thread Cert.AdamFfn2NormRefIdeal.nD Cert.AdamFfn2NormRefIdeal.τ).loc Cert.AdamFfn2NormRefIdeal.main_v10) = v2 c
          ∧ r.2.mem ((c.tc : Thread Cert.AdamFfn2NormRefIdeal.nD Cert.AdamFfn2NormRefIdeal.τ).loc Cert.AdamFfn2NormRefIdeal.main_arg0) = m' ((c.tc : Thread Cert.AdamFfn2NormRefIdeal.nD Cert.AdamFfn2NormRefIdeal.τ).loc Cert.AdamFfn2NormRefIdeal.main_arg0)
          ∧ r.2.mem ((c.tc : Thread Cert.AdamFfn2NormRefIdeal.nD Cert.AdamFfn2NormRefIdeal.τ).loc Cert.AdamFfn2NormRefIdeal.main_arg1) = m' ((c.tc : Thread Cert.AdamFfn2NormRefIdeal.nD Cert.AdamFfn2NormRefIdeal.τ).loc Cert.AdamFfn2NormRefIdeal.main_arg1)
          ∧ r.2.mem ((c.tc : Thread Cert.AdamFfn2NormRefIdeal.nD Cert.AdamFfn2NormRefIdeal.τ).loc Cert.AdamFfn2NormRefIdeal.main_arg2) = m' ((c.tc : Thread Cert.AdamFfn2NormRefIdeal.nD Cert.AdamFfn2NormRefIdeal.τ).loc Cert.AdamFfn2NormRefIdeal.main_arg2)
          ∧ r.2.mem ((c.tc : Thread Cert.AdamFfn2NormRefIdeal.nD Cert.AdamFfn2NormRefIdeal.τ).loc Cert.AdamFfn2NormRefIdeal.main_arg3) = m' ((c.tc : Thread Cert.AdamFfn2NormRefIdeal.nD Cert.AdamFfn2NormRefIdeal.τ).loc Cert.AdamFfn2NormRefIdeal.main_arg3))

def preserves_AdamFfn2WGateUp_AdamFfn2WGateUpIdeal : Prop :=
  True

def algebraic_AdamFfn2WGateUpIdeal_AdamFfn2WGateUpRefIdeal [hAdamFfn2WGateUpIdeal : Cert.AdamFfn2WGateUpIdeal.Facts] [hAdamFfn2WGateUpRefIdeal : Cert.AdamFfn2WGateUpRefIdeal.Facts] : Prop :=
  ∀ (m : (ℓ : Loc Cert.AdamFfn2WGateUpIdeal.nD Cert.AdamFfn2WGateUpIdeal.τ Cert.AdamFfn2WGateUpIdeal.sig) → Buf (Elt Ideal) ℓ) (g : Dev Cert.AdamFfn2WGateUpIdeal.nD → PrngReg)
    (m' : (ℓ : Loc Cert.AdamFfn2WGateUpRefIdeal.nD Cert.AdamFfn2WGateUpRefIdeal.τ Cert.AdamFfn2WGateUpRefIdeal.sig) → Buf (Elt Ideal) ℓ) (g' : Dev Cert.AdamFfn2WGateUpRefIdeal.nD → PrngReg), Pre_AdamFfn2WGateUpIdeal m →
    (∀ c : Dev Cert.AdamFfn2WGateUpIdeal.nD,
      m' ((c.tc : Thread Cert.AdamFfn2WGateUpRefIdeal.nD Cert.AdamFfn2WGateUpRefIdeal.τ).loc Cert.AdamFfn2WGateUpRefIdeal.main_arg0) = m ((c.tc : Thread Cert.AdamFfn2WGateUpIdeal.nD Cert.AdamFfn2WGateUpIdeal.τ).loc Cert.AdamFfn2WGateUpIdeal.main_arg0)
      ∧ m' ((c.tc : Thread Cert.AdamFfn2WGateUpRefIdeal.nD Cert.AdamFfn2WGateUpRefIdeal.τ).loc Cert.AdamFfn2WGateUpRefIdeal.main_arg1) = m ((c.tc : Thread Cert.AdamFfn2WGateUpIdeal.nD Cert.AdamFfn2WGateUpIdeal.τ).loc Cert.AdamFfn2WGateUpIdeal.main_arg1)
      ∧ m' ((c.tc : Thread Cert.AdamFfn2WGateUpRefIdeal.nD Cert.AdamFfn2WGateUpRefIdeal.τ).loc Cert.AdamFfn2WGateUpRefIdeal.main_arg2) = m ((c.tc : Thread Cert.AdamFfn2WGateUpIdeal.nD Cert.AdamFfn2WGateUpIdeal.τ).loc Cert.AdamFfn2WGateUpIdeal.main_arg2)
      ∧ m' ((c.tc : Thread Cert.AdamFfn2WGateUpRefIdeal.nD Cert.AdamFfn2WGateUpRefIdeal.τ).loc Cert.AdamFfn2WGateUpRefIdeal.main_arg3) = m ((c.tc : Thread Cert.AdamFfn2WGateUpIdeal.nD Cert.AdamFfn2WGateUpIdeal.τ).loc Cert.AdamFfn2WGateUpIdeal.main_arg3)) →
    ∃ (v0 : (c : Dev Cert.AdamFfn2WGateUpIdeal.nD) → Buf (Elt Ideal) ((c.tc : Thread Cert.AdamFfn2WGateUpIdeal.nD Cert.AdamFfn2WGateUpIdeal.τ).loc Cert.AdamFfn2WGateUpIdeal.main_v4_0)) (v1 : (c : Dev Cert.AdamFfn2WGateUpIdeal.nD) → Buf (Elt Ideal) ((c.tc : Thread Cert.AdamFfn2WGateUpIdeal.nD Cert.AdamFfn2WGateUpIdeal.τ).loc Cert.AdamFfn2WGateUpIdeal.main_v4_1)) (v2 : (c : Dev Cert.AdamFfn2WGateUpIdeal.nD) → Buf (Elt Ideal) ((c.tc : Thread Cert.AdamFfn2WGateUpIdeal.nD Cert.AdamFfn2WGateUpIdeal.τ).loc Cert.AdamFfn2WGateUpIdeal.main_v4_2)),
      θ_run (Cert.AdamFfn2WGateUpIdeal.defs (F := Ideal)) (onTc (τ := Cert.AdamFfn2WGateUpIdeal.τ) (Cert.AdamFfn2WGateUpIdeal.main (F := Ideal))) ⟨m, fun _ => 0, g⟩ (fun r => ∀ c : Dev Cert.AdamFfn2WGateUpIdeal.nD,
          r.2.mem ((c.tc : Thread Cert.AdamFfn2WGateUpIdeal.nD Cert.AdamFfn2WGateUpIdeal.τ).loc Cert.AdamFfn2WGateUpIdeal.main_v4_0) = v0 c
          ∧ r.2.mem ((c.tc : Thread Cert.AdamFfn2WGateUpIdeal.nD Cert.AdamFfn2WGateUpIdeal.τ).loc Cert.AdamFfn2WGateUpIdeal.main_v4_1) = v1 c
          ∧ r.2.mem ((c.tc : Thread Cert.AdamFfn2WGateUpIdeal.nD Cert.AdamFfn2WGateUpIdeal.τ).loc Cert.AdamFfn2WGateUpIdeal.main_v4_2) = v2 c
          ∧ r.2.mem ((c.tc : Thread Cert.AdamFfn2WGateUpIdeal.nD Cert.AdamFfn2WGateUpIdeal.τ).loc Cert.AdamFfn2WGateUpIdeal.main_arg0) = m ((c.tc : Thread Cert.AdamFfn2WGateUpIdeal.nD Cert.AdamFfn2WGateUpIdeal.τ).loc Cert.AdamFfn2WGateUpIdeal.main_arg0)
          ∧ r.2.mem ((c.tc : Thread Cert.AdamFfn2WGateUpIdeal.nD Cert.AdamFfn2WGateUpIdeal.τ).loc Cert.AdamFfn2WGateUpIdeal.main_arg1) = m ((c.tc : Thread Cert.AdamFfn2WGateUpIdeal.nD Cert.AdamFfn2WGateUpIdeal.τ).loc Cert.AdamFfn2WGateUpIdeal.main_arg1)
          ∧ r.2.mem ((c.tc : Thread Cert.AdamFfn2WGateUpIdeal.nD Cert.AdamFfn2WGateUpIdeal.τ).loc Cert.AdamFfn2WGateUpIdeal.main_arg2) = m ((c.tc : Thread Cert.AdamFfn2WGateUpIdeal.nD Cert.AdamFfn2WGateUpIdeal.τ).loc Cert.AdamFfn2WGateUpIdeal.main_arg2)
          ∧ r.2.mem ((c.tc : Thread Cert.AdamFfn2WGateUpIdeal.nD Cert.AdamFfn2WGateUpIdeal.τ).loc Cert.AdamFfn2WGateUpIdeal.main_arg3) = m ((c.tc : Thread Cert.AdamFfn2WGateUpIdeal.nD Cert.AdamFfn2WGateUpIdeal.τ).loc Cert.AdamFfn2WGateUpIdeal.main_arg3))
      ∧ θ_run (Cert.AdamFfn2WGateUpRefIdeal.defs (F := Ideal)) (onTc (τ := Cert.AdamFfn2WGateUpRefIdeal.τ) (Cert.AdamFfn2WGateUpRefIdeal.main (F := Ideal))) ⟨m', fun _ => 0, g'⟩ (fun r => ∀ c : Dev Cert.AdamFfn2WGateUpRefIdeal.nD,
          r.2.mem ((c.tc : Thread Cert.AdamFfn2WGateUpRefIdeal.nD Cert.AdamFfn2WGateUpRefIdeal.τ).loc Cert.AdamFfn2WGateUpRefIdeal.main_v24) = v0 c
          ∧ r.2.mem ((c.tc : Thread Cert.AdamFfn2WGateUpRefIdeal.nD Cert.AdamFfn2WGateUpRefIdeal.τ).loc Cert.AdamFfn2WGateUpRefIdeal.main_v25) = v1 c
          ∧ r.2.mem ((c.tc : Thread Cert.AdamFfn2WGateUpRefIdeal.nD Cert.AdamFfn2WGateUpRefIdeal.τ).loc Cert.AdamFfn2WGateUpRefIdeal.main_v26) = v2 c
          ∧ r.2.mem ((c.tc : Thread Cert.AdamFfn2WGateUpRefIdeal.nD Cert.AdamFfn2WGateUpRefIdeal.τ).loc Cert.AdamFfn2WGateUpRefIdeal.main_arg0) = m' ((c.tc : Thread Cert.AdamFfn2WGateUpRefIdeal.nD Cert.AdamFfn2WGateUpRefIdeal.τ).loc Cert.AdamFfn2WGateUpRefIdeal.main_arg0)
          ∧ r.2.mem ((c.tc : Thread Cert.AdamFfn2WGateUpRefIdeal.nD Cert.AdamFfn2WGateUpRefIdeal.τ).loc Cert.AdamFfn2WGateUpRefIdeal.main_arg1) = m' ((c.tc : Thread Cert.AdamFfn2WGateUpRefIdeal.nD Cert.AdamFfn2WGateUpRefIdeal.τ).loc Cert.AdamFfn2WGateUpRefIdeal.main_arg1)
          ∧ r.2.mem ((c.tc : Thread Cert.AdamFfn2WGateUpRefIdeal.nD Cert.AdamFfn2WGateUpRefIdeal.τ).loc Cert.AdamFfn2WGateUpRefIdeal.main_arg2) = m' ((c.tc : Thread Cert.AdamFfn2WGateUpRefIdeal.nD Cert.AdamFfn2WGateUpRefIdeal.τ).loc Cert.AdamFfn2WGateUpRefIdeal.main_arg2)
          ∧ r.2.mem ((c.tc : Thread Cert.AdamFfn2WGateUpRefIdeal.nD Cert.AdamFfn2WGateUpRefIdeal.τ).loc Cert.AdamFfn2WGateUpRefIdeal.main_arg3) = m' ((c.tc : Thread Cert.AdamFfn2WGateUpRefIdeal.nD Cert.AdamFfn2WGateUpRefIdeal.τ).loc Cert.AdamFfn2WGateUpRefIdeal.main_arg3))

def preserves_AdamFfn2WDown_AdamFfn2WDownIdeal : Prop :=
  True

def algebraic_AdamFfn2WDownIdeal_AdamFfn2WDownRefIdeal [hAdamFfn2WDownIdeal : Cert.AdamFfn2WDownIdeal.Facts] [hAdamFfn2WDownRefIdeal : Cert.AdamFfn2WDownRefIdeal.Facts] : Prop :=
  ∀ (m : (ℓ : Loc Cert.AdamFfn2WDownIdeal.nD Cert.AdamFfn2WDownIdeal.τ Cert.AdamFfn2WDownIdeal.sig) → Buf (Elt Ideal) ℓ) (g : Dev Cert.AdamFfn2WDownIdeal.nD → PrngReg)
    (m' : (ℓ : Loc Cert.AdamFfn2WDownRefIdeal.nD Cert.AdamFfn2WDownRefIdeal.τ Cert.AdamFfn2WDownRefIdeal.sig) → Buf (Elt Ideal) ℓ) (g' : Dev Cert.AdamFfn2WDownRefIdeal.nD → PrngReg), Pre_AdamFfn2WDownIdeal m →
    (∀ c : Dev Cert.AdamFfn2WDownIdeal.nD,
      m' ((c.tc : Thread Cert.AdamFfn2WDownRefIdeal.nD Cert.AdamFfn2WDownRefIdeal.τ).loc Cert.AdamFfn2WDownRefIdeal.main_arg0) = m ((c.tc : Thread Cert.AdamFfn2WDownIdeal.nD Cert.AdamFfn2WDownIdeal.τ).loc Cert.AdamFfn2WDownIdeal.main_arg0)
      ∧ m' ((c.tc : Thread Cert.AdamFfn2WDownRefIdeal.nD Cert.AdamFfn2WDownRefIdeal.τ).loc Cert.AdamFfn2WDownRefIdeal.main_arg1) = m ((c.tc : Thread Cert.AdamFfn2WDownIdeal.nD Cert.AdamFfn2WDownIdeal.τ).loc Cert.AdamFfn2WDownIdeal.main_arg1)
      ∧ m' ((c.tc : Thread Cert.AdamFfn2WDownRefIdeal.nD Cert.AdamFfn2WDownRefIdeal.τ).loc Cert.AdamFfn2WDownRefIdeal.main_arg2) = m ((c.tc : Thread Cert.AdamFfn2WDownIdeal.nD Cert.AdamFfn2WDownIdeal.τ).loc Cert.AdamFfn2WDownIdeal.main_arg2)
      ∧ m' ((c.tc : Thread Cert.AdamFfn2WDownRefIdeal.nD Cert.AdamFfn2WDownRefIdeal.τ).loc Cert.AdamFfn2WDownRefIdeal.main_arg3) = m ((c.tc : Thread Cert.AdamFfn2WDownIdeal.nD Cert.AdamFfn2WDownIdeal.τ).loc Cert.AdamFfn2WDownIdeal.main_arg3)) →
    ∃ (v0 : (c : Dev Cert.AdamFfn2WDownIdeal.nD) → Buf (Elt Ideal) ((c.tc : Thread Cert.AdamFfn2WDownIdeal.nD Cert.AdamFfn2WDownIdeal.τ).loc Cert.AdamFfn2WDownIdeal.main_v4_0)) (v1 : (c : Dev Cert.AdamFfn2WDownIdeal.nD) → Buf (Elt Ideal) ((c.tc : Thread Cert.AdamFfn2WDownIdeal.nD Cert.AdamFfn2WDownIdeal.τ).loc Cert.AdamFfn2WDownIdeal.main_v4_1)) (v2 : (c : Dev Cert.AdamFfn2WDownIdeal.nD) → Buf (Elt Ideal) ((c.tc : Thread Cert.AdamFfn2WDownIdeal.nD Cert.AdamFfn2WDownIdeal.τ).loc Cert.AdamFfn2WDownIdeal.main_v4_2)),
      θ_run (Cert.AdamFfn2WDownIdeal.defs (F := Ideal)) (onTc (τ := Cert.AdamFfn2WDownIdeal.τ) (Cert.AdamFfn2WDownIdeal.main (F := Ideal))) ⟨m, fun _ => 0, g⟩ (fun r => ∀ c : Dev Cert.AdamFfn2WDownIdeal.nD,
          r.2.mem ((c.tc : Thread Cert.AdamFfn2WDownIdeal.nD Cert.AdamFfn2WDownIdeal.τ).loc Cert.AdamFfn2WDownIdeal.main_v4_0) = v0 c
          ∧ r.2.mem ((c.tc : Thread Cert.AdamFfn2WDownIdeal.nD Cert.AdamFfn2WDownIdeal.τ).loc Cert.AdamFfn2WDownIdeal.main_v4_1) = v1 c
          ∧ r.2.mem ((c.tc : Thread Cert.AdamFfn2WDownIdeal.nD Cert.AdamFfn2WDownIdeal.τ).loc Cert.AdamFfn2WDownIdeal.main_v4_2) = v2 c
          ∧ r.2.mem ((c.tc : Thread Cert.AdamFfn2WDownIdeal.nD Cert.AdamFfn2WDownIdeal.τ).loc Cert.AdamFfn2WDownIdeal.main_arg0) = m ((c.tc : Thread Cert.AdamFfn2WDownIdeal.nD Cert.AdamFfn2WDownIdeal.τ).loc Cert.AdamFfn2WDownIdeal.main_arg0)
          ∧ r.2.mem ((c.tc : Thread Cert.AdamFfn2WDownIdeal.nD Cert.AdamFfn2WDownIdeal.τ).loc Cert.AdamFfn2WDownIdeal.main_arg1) = m ((c.tc : Thread Cert.AdamFfn2WDownIdeal.nD Cert.AdamFfn2WDownIdeal.τ).loc Cert.AdamFfn2WDownIdeal.main_arg1)
          ∧ r.2.mem ((c.tc : Thread Cert.AdamFfn2WDownIdeal.nD Cert.AdamFfn2WDownIdeal.τ).loc Cert.AdamFfn2WDownIdeal.main_arg2) = m ((c.tc : Thread Cert.AdamFfn2WDownIdeal.nD Cert.AdamFfn2WDownIdeal.τ).loc Cert.AdamFfn2WDownIdeal.main_arg2)
          ∧ r.2.mem ((c.tc : Thread Cert.AdamFfn2WDownIdeal.nD Cert.AdamFfn2WDownIdeal.τ).loc Cert.AdamFfn2WDownIdeal.main_arg3) = m ((c.tc : Thread Cert.AdamFfn2WDownIdeal.nD Cert.AdamFfn2WDownIdeal.τ).loc Cert.AdamFfn2WDownIdeal.main_arg3))
      ∧ θ_run (Cert.AdamFfn2WDownRefIdeal.defs (F := Ideal)) (onTc (τ := Cert.AdamFfn2WDownRefIdeal.τ) (Cert.AdamFfn2WDownRefIdeal.main (F := Ideal))) ⟨m', fun _ => 0, g'⟩ (fun r => ∀ c : Dev Cert.AdamFfn2WDownRefIdeal.nD,
          r.2.mem ((c.tc : Thread Cert.AdamFfn2WDownRefIdeal.nD Cert.AdamFfn2WDownRefIdeal.τ).loc Cert.AdamFfn2WDownRefIdeal.main_v24) = v0 c
          ∧ r.2.mem ((c.tc : Thread Cert.AdamFfn2WDownRefIdeal.nD Cert.AdamFfn2WDownRefIdeal.τ).loc Cert.AdamFfn2WDownRefIdeal.main_v25) = v1 c
          ∧ r.2.mem ((c.tc : Thread Cert.AdamFfn2WDownRefIdeal.nD Cert.AdamFfn2WDownRefIdeal.τ).loc Cert.AdamFfn2WDownRefIdeal.main_v26) = v2 c
          ∧ r.2.mem ((c.tc : Thread Cert.AdamFfn2WDownRefIdeal.nD Cert.AdamFfn2WDownRefIdeal.τ).loc Cert.AdamFfn2WDownRefIdeal.main_arg0) = m' ((c.tc : Thread Cert.AdamFfn2WDownRefIdeal.nD Cert.AdamFfn2WDownRefIdeal.τ).loc Cert.AdamFfn2WDownRefIdeal.main_arg0)
          ∧ r.2.mem ((c.tc : Thread Cert.AdamFfn2WDownRefIdeal.nD Cert.AdamFfn2WDownRefIdeal.τ).loc Cert.AdamFfn2WDownRefIdeal.main_arg1) = m' ((c.tc : Thread Cert.AdamFfn2WDownRefIdeal.nD Cert.AdamFfn2WDownRefIdeal.τ).loc Cert.AdamFfn2WDownRefIdeal.main_arg1)
          ∧ r.2.mem ((c.tc : Thread Cert.AdamFfn2WDownRefIdeal.nD Cert.AdamFfn2WDownRefIdeal.τ).loc Cert.AdamFfn2WDownRefIdeal.main_arg2) = m' ((c.tc : Thread Cert.AdamFfn2WDownRefIdeal.nD Cert.AdamFfn2WDownRefIdeal.τ).loc Cert.AdamFfn2WDownRefIdeal.main_arg2)
          ∧ r.2.mem ((c.tc : Thread Cert.AdamFfn2WDownRefIdeal.nD Cert.AdamFfn2WDownRefIdeal.τ).loc Cert.AdamFfn2WDownRefIdeal.main_arg3) = m' ((c.tc : Thread Cert.AdamFfn2WDownRefIdeal.nD Cert.AdamFfn2WDownRefIdeal.τ).loc Cert.AdamFfn2WDownRefIdeal.main_arg3))

def preserves_AdamFinalNorm_AdamFinalNormIdeal : Prop :=
  True

def algebraic_AdamFinalNormIdeal_AdamFinalNormRefIdeal [hAdamFinalNormIdeal : Cert.AdamFinalNormIdeal.Facts] [hAdamFinalNormRefIdeal : Cert.AdamFinalNormRefIdeal.Facts] : Prop :=
  ∀ (m : (ℓ : Loc Cert.AdamFinalNormIdeal.nD Cert.AdamFinalNormIdeal.τ Cert.AdamFinalNormIdeal.sig) → Buf (Elt Ideal) ℓ) (g : Dev Cert.AdamFinalNormIdeal.nD → PrngReg)
    (m' : (ℓ : Loc Cert.AdamFinalNormRefIdeal.nD Cert.AdamFinalNormRefIdeal.τ Cert.AdamFinalNormRefIdeal.sig) → Buf (Elt Ideal) ℓ) (g' : Dev Cert.AdamFinalNormRefIdeal.nD → PrngReg), Pre_AdamFinalNormIdeal m →
    (∀ c : Dev Cert.AdamFinalNormIdeal.nD,
      m' ((c.tc : Thread Cert.AdamFinalNormRefIdeal.nD Cert.AdamFinalNormRefIdeal.τ).loc Cert.AdamFinalNormRefIdeal.main_arg0) = m ((c.tc : Thread Cert.AdamFinalNormIdeal.nD Cert.AdamFinalNormIdeal.τ).loc Cert.AdamFinalNormIdeal.main_arg0)
      ∧ m' ((c.tc : Thread Cert.AdamFinalNormRefIdeal.nD Cert.AdamFinalNormRefIdeal.τ).loc Cert.AdamFinalNormRefIdeal.main_arg1) = m ((c.tc : Thread Cert.AdamFinalNormIdeal.nD Cert.AdamFinalNormIdeal.τ).loc Cert.AdamFinalNormIdeal.main_arg1)
      ∧ m' ((c.tc : Thread Cert.AdamFinalNormRefIdeal.nD Cert.AdamFinalNormRefIdeal.τ).loc Cert.AdamFinalNormRefIdeal.main_arg2) = m ((c.tc : Thread Cert.AdamFinalNormIdeal.nD Cert.AdamFinalNormIdeal.τ).loc Cert.AdamFinalNormIdeal.main_arg2)
      ∧ m' ((c.tc : Thread Cert.AdamFinalNormRefIdeal.nD Cert.AdamFinalNormRefIdeal.τ).loc Cert.AdamFinalNormRefIdeal.main_arg3) = m ((c.tc : Thread Cert.AdamFinalNormIdeal.nD Cert.AdamFinalNormIdeal.τ).loc Cert.AdamFinalNormIdeal.main_arg3)) →
    ∃ (v0 : (c : Dev Cert.AdamFinalNormIdeal.nD) → Buf (Elt Ideal) ((c.tc : Thread Cert.AdamFinalNormIdeal.nD Cert.AdamFinalNormIdeal.τ).loc Cert.AdamFinalNormIdeal.main_v4_0)) (v1 : (c : Dev Cert.AdamFinalNormIdeal.nD) → Buf (Elt Ideal) ((c.tc : Thread Cert.AdamFinalNormIdeal.nD Cert.AdamFinalNormIdeal.τ).loc Cert.AdamFinalNormIdeal.main_v4_1)) (v2 : (c : Dev Cert.AdamFinalNormIdeal.nD) → Buf (Elt Ideal) ((c.tc : Thread Cert.AdamFinalNormIdeal.nD Cert.AdamFinalNormIdeal.τ).loc Cert.AdamFinalNormIdeal.main_v4_2)),
      θ_run (Cert.AdamFinalNormIdeal.defs (F := Ideal)) (onTc (τ := Cert.AdamFinalNormIdeal.τ) (Cert.AdamFinalNormIdeal.main (F := Ideal))) ⟨m, fun _ => 0, g⟩ (fun r => ∀ c : Dev Cert.AdamFinalNormIdeal.nD,
          r.2.mem ((c.tc : Thread Cert.AdamFinalNormIdeal.nD Cert.AdamFinalNormIdeal.τ).loc Cert.AdamFinalNormIdeal.main_v4_0) = v0 c
          ∧ r.2.mem ((c.tc : Thread Cert.AdamFinalNormIdeal.nD Cert.AdamFinalNormIdeal.τ).loc Cert.AdamFinalNormIdeal.main_v4_1) = v1 c
          ∧ r.2.mem ((c.tc : Thread Cert.AdamFinalNormIdeal.nD Cert.AdamFinalNormIdeal.τ).loc Cert.AdamFinalNormIdeal.main_v4_2) = v2 c
          ∧ r.2.mem ((c.tc : Thread Cert.AdamFinalNormIdeal.nD Cert.AdamFinalNormIdeal.τ).loc Cert.AdamFinalNormIdeal.main_arg0) = m ((c.tc : Thread Cert.AdamFinalNormIdeal.nD Cert.AdamFinalNormIdeal.τ).loc Cert.AdamFinalNormIdeal.main_arg0)
          ∧ r.2.mem ((c.tc : Thread Cert.AdamFinalNormIdeal.nD Cert.AdamFinalNormIdeal.τ).loc Cert.AdamFinalNormIdeal.main_arg1) = m ((c.tc : Thread Cert.AdamFinalNormIdeal.nD Cert.AdamFinalNormIdeal.τ).loc Cert.AdamFinalNormIdeal.main_arg1)
          ∧ r.2.mem ((c.tc : Thread Cert.AdamFinalNormIdeal.nD Cert.AdamFinalNormIdeal.τ).loc Cert.AdamFinalNormIdeal.main_arg2) = m ((c.tc : Thread Cert.AdamFinalNormIdeal.nD Cert.AdamFinalNormIdeal.τ).loc Cert.AdamFinalNormIdeal.main_arg2)
          ∧ r.2.mem ((c.tc : Thread Cert.AdamFinalNormIdeal.nD Cert.AdamFinalNormIdeal.τ).loc Cert.AdamFinalNormIdeal.main_arg3) = m ((c.tc : Thread Cert.AdamFinalNormIdeal.nD Cert.AdamFinalNormIdeal.τ).loc Cert.AdamFinalNormIdeal.main_arg3))
      ∧ θ_run (Cert.AdamFinalNormRefIdeal.defs (F := Ideal)) (onTc (τ := Cert.AdamFinalNormRefIdeal.τ) (Cert.AdamFinalNormRefIdeal.main (F := Ideal))) ⟨m', fun _ => 0, g'⟩ (fun r => ∀ c : Dev Cert.AdamFinalNormRefIdeal.nD,
          r.2.mem ((c.tc : Thread Cert.AdamFinalNormRefIdeal.nD Cert.AdamFinalNormRefIdeal.τ).loc Cert.AdamFinalNormRefIdeal.main_v24) = v0 c
          ∧ r.2.mem ((c.tc : Thread Cert.AdamFinalNormRefIdeal.nD Cert.AdamFinalNormRefIdeal.τ).loc Cert.AdamFinalNormRefIdeal.main_v25) = v1 c
          ∧ r.2.mem ((c.tc : Thread Cert.AdamFinalNormRefIdeal.nD Cert.AdamFinalNormRefIdeal.τ).loc Cert.AdamFinalNormRefIdeal.main_v26) = v2 c
          ∧ r.2.mem ((c.tc : Thread Cert.AdamFinalNormRefIdeal.nD Cert.AdamFinalNormRefIdeal.τ).loc Cert.AdamFinalNormRefIdeal.main_arg0) = m' ((c.tc : Thread Cert.AdamFinalNormRefIdeal.nD Cert.AdamFinalNormRefIdeal.τ).loc Cert.AdamFinalNormRefIdeal.main_arg0)
          ∧ r.2.mem ((c.tc : Thread Cert.AdamFinalNormRefIdeal.nD Cert.AdamFinalNormRefIdeal.τ).loc Cert.AdamFinalNormRefIdeal.main_arg1) = m' ((c.tc : Thread Cert.AdamFinalNormRefIdeal.nD Cert.AdamFinalNormRefIdeal.τ).loc Cert.AdamFinalNormRefIdeal.main_arg1)
          ∧ r.2.mem ((c.tc : Thread Cert.AdamFinalNormRefIdeal.nD Cert.AdamFinalNormRefIdeal.τ).loc Cert.AdamFinalNormRefIdeal.main_arg2) = m' ((c.tc : Thread Cert.AdamFinalNormRefIdeal.nD Cert.AdamFinalNormRefIdeal.τ).loc Cert.AdamFinalNormRefIdeal.main_arg2)
          ∧ r.2.mem ((c.tc : Thread Cert.AdamFinalNormRefIdeal.nD Cert.AdamFinalNormRefIdeal.τ).loc Cert.AdamFinalNormRefIdeal.main_arg3) = m' ((c.tc : Thread Cert.AdamFinalNormRefIdeal.nD Cert.AdamFinalNormRefIdeal.τ).loc Cert.AdamFinalNormRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v28) = v0 c
          ∧ r.2.mem ((c.tc : Thread Cert.MergeBwdRefIdeal.nD Cert.MergeBwdRefIdeal.τ).loc Cert.MergeBwdRefIdeal.main_v29) = v1 c
          ∧ r.2.mem ((c.tc : Thread Cert.MergeBwdRefIdeal.nD Cert.MergeBwdRefIdeal.τ).loc Cert.MergeBwdRefIdeal.main_v30) = v2 c
          ∧ r.2.mem ((c.tc : Thread Cert.MergeBwdRefIdeal.nD Cert.MergeBwdRefIdeal.τ).loc Cert.MergeBwdRefIdeal.main_v31) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GnormFwd_GnormFwdIdeal : Prop :=
  True

def algebraic_GnormFwdIdeal_GnormFwdRefIdeal [hGnormFwdIdeal : Cert.GnormFwdIdeal.Facts] [hGnormFwdRefIdeal : Cert.GnormFwdRefIdeal.Facts] : Prop :=
  ∀ (m : (ℓ : Loc Cert.GnormFwdIdeal.nD Cert.GnormFwdIdeal.τ Cert.GnormFwdIdeal.sig) → Buf (Elt Ideal) ℓ) (g : Dev Cert.GnormFwdIdeal.nD → PrngReg)
    (m' : (ℓ : Loc Cert.GnormFwdRefIdeal.nD Cert.GnormFwdRefIdeal.τ Cert.GnormFwdRefIdeal.sig) → Buf (Elt Ideal) ℓ) (g' : Dev Cert.GnormFwdRefIdeal.nD → PrngReg), Pre_GnormFwdIdeal m →
    (∀ c : Dev Cert.GnormFwdIdeal.nD,
      m' ((c.tc : Thread Cert.GnormFwdRefIdeal.nD Cert.GnormFwdRefIdeal.τ).loc Cert.GnormFwdRefIdeal.main_arg0) = m ((c.tc : Thread Cert.GnormFwdIdeal.nD Cert.GnormFwdIdeal.τ).loc Cert.GnormFwdIdeal.main_arg0)
      ∧ m' ((c.tc : Thread Cert.GnormFwdRefIdeal.nD Cert.GnormFwdRefIdeal.τ).loc Cert.GnormFwdRefIdeal.main_arg1) = m ((c.tc : Thread Cert.GnormFwdIdeal.nD Cert.GnormFwdIdeal.τ).loc Cert.GnormFwdIdeal.main_arg1)
      ∧ m' ((c.tc : Thread Cert.GnormFwdRefIdeal.nD Cert.GnormFwdRefIdeal.τ).loc Cert.GnormFwdRefIdeal.main_arg2) = m ((c.tc : Thread Cert.GnormFwdIdeal.nD Cert.GnormFwdIdeal.τ).loc Cert.GnormFwdIdeal.main_arg2)) →
    ∃ (v0 : (c : Dev Cert.GnormFwdIdeal.nD) → Buf (Elt Ideal) ((c.tc : Thread Cert.GnormFwdIdeal.nD Cert.GnormFwdIdeal.τ).loc Cert.GnormFwdIdeal.main_v0)),
      θ_run (Cert.GnormFwdIdeal.defs (F := Ideal)) (onTc (τ := Cert.GnormFwdIdeal.τ) (Cert.GnormFwdIdeal.main (F := Ideal))) ⟨m, fun _ => 0, g⟩ (fun r => ∀ c : Dev Cert.GnormFwdIdeal.nD,
          r.2.mem ((c.tc : Thread Cert.GnormFwdIdeal.nD Cert.GnormFwdIdeal.τ).loc Cert.GnormFwdIdeal.main_v0) = v0 c
          ∧ r.2.mem ((c.tc : Thread Cert.GnormFwdIdeal.nD Cert.GnormFwdIdeal.τ).loc Cert.GnormFwdIdeal.main_arg0) = m ((c.tc : Thread Cert.GnormFwdIdeal.nD Cert.GnormFwdIdeal.τ).loc Cert.GnormFwdIdeal.main_arg0)
          ∧ r.2.mem ((c.tc : Thread Cert.GnormFwdIdeal.nD Cert.GnormFwdIdeal.τ).loc Cert.GnormFwdIdeal.main_arg1) = m ((c.tc : Thread Cert.GnormFwdIdeal.nD Cert.GnormFwdIdeal.τ).loc Cert.GnormFwdIdeal.main_arg1)
          ∧ r.2.mem ((c.tc : Thread Cert.GnormFwdIdeal.nD Cert.GnormFwdIdeal.τ).loc Cert.GnormFwdIdeal.main_arg2) = m ((c.tc : Thread Cert.GnormFwdIdeal.nD Cert.GnormFwdIdeal.τ).loc Cert.GnormFwdIdeal.main_arg2))
      ∧ θ_run (Cert.GnormFwdRefIdeal.defs (F := Ideal)) (onTc (τ := Cert.GnormFwdRefIdeal.τ) (Cert.GnormFwdRefIdeal.main (F := Ideal))) ⟨m', fun _ => 0, g'⟩ (fun r => ∀ c : Dev Cert.GnormFwdRefIdeal.nD,
          r.2.mem ((c.tc : Thread Cert.GnormFwdRefIdeal.nD Cert.GnormFwdRefIdeal.τ).loc Cert.GnormFwdRefIdeal.main_v20) = v0 c
          ∧ r.2.mem ((c.tc : Thread Cert.GnormFwdRefIdeal.nD Cert.GnormFwdRefIdeal.τ).loc Cert.GnormFwdRefIdeal.main_arg0) = m' ((c.tc : Thread Cert.GnormFwdRefIdeal.nD Cert.GnormFwdRefIdeal.τ).loc Cert.GnormFwdRefIdeal.main_arg0)
          ∧ r.2.mem ((c.tc : Thread Cert.GnormFwdRefIdeal.nD Cert.GnormFwdRefIdeal.τ).loc Cert.GnormFwdRefIdeal.main_arg1) = m' ((c.tc : Thread Cert.GnormFwdRefIdeal.nD Cert.GnormFwdRefIdeal.τ).loc Cert.GnormFwdRefIdeal.main_arg1)
          ∧ r.2.mem ((c.tc : Thread Cert.GnormFwdRefIdeal.nD Cert.GnormFwdRefIdeal.τ).loc Cert.GnormFwdRefIdeal.main_arg2) = m' ((c.tc : Thread Cert.GnormFwdRefIdeal.nD Cert.GnormFwdRefIdeal.τ).loc Cert.GnormFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v15) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_SumGrads_SumGradsIdeal : Prop :=
  True

def algebraic_SumGradsIdeal_SumGradsRefIdeal [hSumGradsIdeal : Cert.SumGradsIdeal.Facts] [hSumGradsRefIdeal : Cert.SumGradsRefIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg)
    (m' : (ℓ : Loc Cert.SumGradsRefIdeal.nD Cert.SumGradsRefIdeal.τ Cert.SumGradsRefIdeal.sig) → Buf (Elt Ideal) ℓ) (g' : Dev Cert.SumGradsRefIdeal.nD → PrngReg), Pre_SumGradsIdeal m →
    (∀ c : Dev Cert.SumGradsIdeal.nD,
      m' ((c.tc : Thread Cert.SumGradsRefIdeal.nD Cert.SumGradsRefIdeal.τ).loc Cert.SumGradsRefIdeal.main_arg0) = m ((c.tc : Thread Cert.SumGradsIdeal.nD Cert.SumGradsIdeal.τ).loc Cert.SumGradsIdeal.main_arg0)) →
    ∃ (v0 : (c : Dev Cert.SumGradsIdeal.nD) → Buf (Elt Ideal) ((c.tc : Thread Cert.SumGradsIdeal.nD Cert.SumGradsIdeal.τ).loc Cert.SumGradsIdeal.main_v0)),
      θ_run (Cert.SumGradsIdeal.defs (F := Ideal)) (onTc (τ := Cert.SumGradsIdeal.τ) (Cert.SumGradsIdeal.main (F := Ideal))) ⟨m, fun _ => 0, g⟩ (fun r => ∀ c : Dev Cert.SumGradsIdeal.nD,
          r.2.mem ((c.tc : Thread Cert.SumGradsIdeal.nD Cert.SumGradsIdeal.τ).loc Cert.SumGradsIdeal.main_v0) = v0 c
          ∧ r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ θ_run (Cert.SumGradsRefIdeal.defs (F := Ideal)) (onTc (τ := Cert.SumGradsRefIdeal.τ) (Cert.SumGradsRefIdeal.main (F := Ideal))) ⟨m', fun _ => 0, g'⟩ (fun r => ∀ c : Dev Cert.SumGradsRefIdeal.nD,
          r.2.mem ((c.tc : Thread Cert.SumGradsRefIdeal.nD Cert.SumGradsRefIdeal.τ).loc Cert.SumGradsRefIdeal.main_v1) = v0 c
          ∧ r.2.mem ((c.tc : Thread Cert.SumGradsRefIdeal.nD Cert.SumGradsRefIdeal.τ).loc Cert.SumGradsRefIdeal.main_arg0) = m' ((c.tc : Thread Cert.SumGradsRefIdeal.nD Cert.SumGradsRefIdeal.τ).loc Cert.SumGradsRefIdeal.main_arg0))

def Claim : Prop :=
  ∃ (hKernel : Cert.Kernel.Facts) (hKernelIdeal : Cert.KernelIdeal.Facts) (hReferenceIdeal : Cert.ReferenceIdeal.Facts) (hMixInDx : Cert.MixInDx.Facts) (hMixInDxIdeal : Cert.MixInDxIdeal.Facts) (hMixInDxRefIdeal : Cert.MixInDxRefIdeal.Facts) (hMixInDw : Cert.MixInDw.Facts) (hMixInDwIdeal : Cert.MixInDwIdeal.Facts) (hMixInDwRefIdeal : Cert.MixInDwRefIdeal.Facts) (hMixIn : Cert.MixIn.Facts) (hMixInIdeal : Cert.MixInIdeal.Facts) (hMixInRefIdeal : Cert.MixInRefIdeal.Facts) (hFfnDownDw : Cert.FfnDownDw.Facts) (hFfnDownDwIdeal : Cert.FfnDownDwIdeal.Facts) (hFfnDownDwRefIdeal : Cert.FfnDownDwRefIdeal.Facts) (hFfnUpDw : Cert.FfnUpDw.Facts) (hFfnUpDwIdeal : Cert.FfnUpDwIdeal.Facts) (hFfnUpDwRefIdeal : Cert.FfnUpDwRefIdeal.Facts) (hFfnUpDx : Cert.FfnUpDx.Facts) (hFfnUpDxIdeal : Cert.FfnUpDxIdeal.Facts) (hFfnUpDxRefIdeal : Cert.FfnUpDxRefIdeal.Facts) (hFfnDown : Cert.FfnDown.Facts) (hFfnDownIdeal : Cert.FfnDownIdeal.Facts) (hFfnDownRefIdeal : Cert.FfnDownRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hBranch : Cert.Branch.Facts) (hBranchIdeal : Cert.BranchIdeal.Facts) (hBranchRefIdeal : Cert.BranchRefIdeal.Facts) (hMixOut : Cert.MixOut.Facts) (hMixOutIdeal : Cert.MixOutIdeal.Facts) (hMixOutRefIdeal : Cert.MixOutRefIdeal.Facts) (hFfnUp : Cert.FfnUp.Facts) (hFfnUpIdeal : Cert.FfnUpIdeal.Facts) (hFfnUpRefIdeal : Cert.FfnUpRefIdeal.Facts) (hAdamMetaTokens : Cert.AdamMetaTokens.Facts) (hAdamMetaTokensIdeal : Cert.AdamMetaTokensIdeal.Facts) (hAdamMetaTokensRefIdeal : Cert.AdamMetaTokensRefIdeal.Facts) (hAdamFfn1Norm : Cert.AdamFfn1Norm.Facts) (hAdamFfn1NormIdeal : Cert.AdamFfn1NormIdeal.Facts) (hAdamFfn1NormRefIdeal : Cert.AdamFfn1NormRefIdeal.Facts) (hAdamFfn1WGateUp : Cert.AdamFfn1WGateUp.Facts) (hAdamFfn1WGateUpIdeal : Cert.AdamFfn1WGateUpIdeal.Facts) (hAdamFfn1WGateUpRefIdeal : Cert.AdamFfn1WGateUpRefIdeal.Facts) (hAdamFfn1WDown : Cert.AdamFfn1WDown.Facts) (hAdamFfn1WDownIdeal : Cert.AdamFfn1WDownIdeal.Facts) (hAdamFfn1WDownRefIdeal : Cert.AdamFfn1WDownRefIdeal.Facts) (hAdamMixNorm : Cert.AdamMixNorm.Facts) (hAdamMixNormIdeal : Cert.AdamMixNormIdeal.Facts) (hAdamMixNormRefIdeal : Cert.AdamMixNormRefIdeal.Facts) (hAdamWIn : Cert.AdamWIn.Facts) (hAdamWInIdeal : Cert.AdamWInIdeal.Facts) (hAdamWInRefIdeal : Cert.AdamWInRefIdeal.Facts) (hAdamFoxForgetBias : Cert.AdamFoxForgetBias.Facts) (hAdamFoxForgetBiasIdeal : Cert.AdamFoxForgetBiasIdeal.Facts) (hAdamFoxForgetBiasRefIdeal : Cert.AdamFoxForgetBiasRefIdeal.Facts) (hAdamSsdConvW : Cert.AdamSsdConvW.Facts) (hAdamSsdConvWIdeal : Cert.AdamSsdConvWIdeal.Facts) (hAdamSsdConvWRefIdeal : Cert.AdamSsdConvWRefIdeal.Facts) (hAdamSsdConvB : Cert.AdamSsdConvB.Facts) (hAdamSsdConvBIdeal : Cert.AdamSsdConvBIdeal.Facts) (hAdamSsdConvBRefIdeal : Cert.AdamSsdConvBRefIdeal.Facts) (hAdamSsdDtBias : Cert.AdamSsdDtBias.Facts) (hAdamSsdDtBiasIdeal : Cert.AdamSsdDtBiasIdeal.Facts) (hAdamSsdDtBiasRefIdeal : Cert.AdamSsdDtBiasRefIdeal.Facts) (hAdamSsdALog : Cert.AdamSsdALog.Facts) (hAdamSsdALogIdeal : Cert.AdamSsdALogIdeal.Facts) (hAdamSsdALogRefIdeal : Cert.AdamSsdALogRefIdeal.Facts) (hAdamSsdD : Cert.AdamSsdD.Facts) (hAdamSsdDIdeal : Cert.AdamSsdDIdeal.Facts) (hAdamSsdDRefIdeal : Cert.AdamSsdDRefIdeal.Facts) (hAdamSsdNorm : Cert.AdamSsdNorm.Facts) (hAdamSsdNormIdeal : Cert.AdamSsdNormIdeal.Facts) (hAdamSsdNormRefIdeal : Cert.AdamSsdNormRefIdeal.Facts) (hAdamLruConvW : Cert.AdamLruConvW.Facts) (hAdamLruConvWIdeal : Cert.AdamLruConvWIdeal.Facts) (hAdamLruConvWRefIdeal : Cert.AdamLruConvWRefIdeal.Facts) (hAdamLruConvB : Cert.AdamLruConvB.Facts) (hAdamLruConvBIdeal : Cert.AdamLruConvBIdeal.Facts) (hAdamLruConvBRefIdeal : Cert.AdamLruConvBRefIdeal.Facts) (hAdamLruWA : Cert.AdamLruWA.Facts) (hAdamLruWAIdeal : Cert.AdamLruWAIdeal.Facts) (hAdamLruWARefIdeal : Cert.AdamLruWARefIdeal.Facts) (hAdamLruBA : Cert.AdamLruBA.Facts) (hAdamLruBAIdeal : Cert.AdamLruBAIdeal.Facts) (hAdamLruBARefIdeal : Cert.AdamLruBARefIdeal.Facts) (hAdamLruWX : Cert.AdamLruWX.Facts) (hAdamLruWXIdeal : Cert.AdamLruWXIdeal.Facts) (hAdamLruWXRefIdeal : Cert.AdamLruWXRefIdeal.Facts) (hAdamLruBX : Cert.AdamLruBX.Facts) (hAdamLruBXIdeal : Cert.AdamLruBXIdeal.Facts) (hAdamLruBXRefIdeal : Cert.AdamLruBXRefIdeal.Facts) (hAdamLruLambda : Cert.AdamLruLambda.Facts) (hAdamLruLambdaIdeal : Cert.AdamLruLambdaIdeal.Facts) (hAdamLruLambdaRefIdeal : Cert.AdamLruLambdaRefIdeal.Facts) (hAdamWBranchAttn : Cert.AdamWBranchAttn.Facts) (hAdamWBranchAttnIdeal : Cert.AdamWBranchAttnIdeal.Facts) (hAdamWBranchAttnRefIdeal : Cert.AdamWBranchAttnRefIdeal.Facts) (hAdamWBranchSsd : Cert.AdamWBranchSsd.Facts) (hAdamWBranchSsdIdeal : Cert.AdamWBranchSsdIdeal.Facts) (hAdamWBranchSsdRefIdeal : Cert.AdamWBranchSsdRefIdeal.Facts) (hAdamWBranchLru : Cert.AdamWBranchLru.Facts) (hAdamWBranchLruIdeal : Cert.AdamWBranchLruIdeal.Facts) (hAdamWBranchLruRefIdeal : Cert.AdamWBranchLruRefIdeal.Facts) (hAdamWOut : Cert.AdamWOut.Facts) (hAdamWOutIdeal : Cert.AdamWOutIdeal.Facts) (hAdamWOutRefIdeal : Cert.AdamWOutRefIdeal.Facts) (hAdamFfn2Norm : Cert.AdamFfn2Norm.Facts) (hAdamFfn2NormIdeal : Cert.AdamFfn2NormIdeal.Facts) (hAdamFfn2NormRefIdeal : Cert.AdamFfn2NormRefIdeal.Facts) (hAdamFfn2WGateUp : Cert.AdamFfn2WGateUp.Facts) (hAdamFfn2WGateUpIdeal : Cert.AdamFfn2WGateUpIdeal.Facts) (hAdamFfn2WGateUpRefIdeal : Cert.AdamFfn2WGateUpRefIdeal.Facts) (hAdamFfn2WDown : Cert.AdamFfn2WDown.Facts) (hAdamFfn2WDownIdeal : Cert.AdamFfn2WDownIdeal.Facts) (hAdamFfn2WDownRefIdeal : Cert.AdamFfn2WDownRefIdeal.Facts) (hAdamFinalNorm : Cert.AdamFinalNorm.Facts) (hAdamFinalNormIdeal : Cert.AdamFinalNormIdeal.Facts) (hAdamFinalNormRefIdeal : Cert.AdamFinalNormRefIdeal.Facts) (hMergeBwd : Cert.MergeBwd.Facts) (hMergeBwdIdeal : Cert.MergeBwdIdeal.Facts) (hMergeBwdRefIdeal : Cert.MergeBwdRefIdeal.Facts) (hNormFwd : Cert.NormFwd.Facts) (hNormFwdIdeal : Cert.NormFwdIdeal.Facts) (hNormFwdRefIdeal : Cert.NormFwdRefIdeal.Facts) (hGnormFwd : Cert.GnormFwd.Facts) (hGnormFwdIdeal : Cert.GnormFwdIdeal.Facts) (hGnormFwdRefIdeal : Cert.GnormFwdRefIdeal.Facts) (hMergeFwd : Cert.MergeFwd.Facts) (hMergeFwdIdeal : Cert.MergeFwdIdeal.Facts) (hMergeFwdRefIdeal : Cert.MergeFwdRefIdeal.Facts) (hSumGrads : Cert.SumGrads.Facts) (hSumGradsIdeal : Cert.SumGradsIdeal.Facts) (hSumGradsRefIdeal : Cert.SumGradsRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MixInDx (hMixInDx := hMixInDx)
    ∧ quiescent_MixInDxIdeal (hMixInDxIdeal := hMixInDxIdeal)
    ∧ quiescent_MixInDxRefIdeal (hMixInDxRefIdeal := hMixInDxRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_Branch (hBranch := hBranch)
    ∧ quiescent_BranchIdeal (hBranchIdeal := hBranchIdeal)
    ∧ quiescent_BranchRefIdeal (hBranchRefIdeal := hBranchRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_AdamMetaTokens (hAdamMetaTokens := hAdamMetaTokens)
    ∧ quiescent_AdamMetaTokensIdeal (hAdamMetaTokensIdeal := hAdamMetaTokensIdeal)
    ∧ quiescent_AdamMetaTokensRefIdeal (hAdamMetaTokensRefIdeal := hAdamMetaTokensRefIdeal)
    ∧ quiescent_AdamFfn1Norm (hAdamFfn1Norm := hAdamFfn1Norm)
    ∧ quiescent_AdamFfn1NormIdeal (hAdamFfn1NormIdeal := hAdamFfn1NormIdeal)
    ∧ quiescent_AdamFfn1NormRefIdeal (hAdamFfn1NormRefIdeal := hAdamFfn1NormRefIdeal)
    ∧ quiescent_AdamFfn1WGateUp (hAdamFfn1WGateUp := hAdamFfn1WGateUp)
    ∧ quiescent_AdamFfn1WGateUpIdeal (hAdamFfn1WGateUpIdeal := hAdamFfn1WGateUpIdeal)
    ∧ quiescent_AdamFfn1WGateUpRefIdeal (hAdamFfn1WGateUpRefIdeal := hAdamFfn1WGateUpRefIdeal)
    ∧ quiescent_AdamFfn1WDown (hAdamFfn1WDown := hAdamFfn1WDown)
    ∧ quiescent_AdamFfn1WDownIdeal (hAdamFfn1WDownIdeal := hAdamFfn1WDownIdeal)
    ∧ quiescent_AdamFfn1WDownRefIdeal (hAdamFfn1WDownRefIdeal := hAdamFfn1WDownRefIdeal)
    ∧ quiescent_AdamMixNorm (hAdamMixNorm := hAdamMixNorm)
    ∧ quiescent_AdamMixNormIdeal (hAdamMixNormIdeal := hAdamMixNormIdeal)
    ∧ quiescent_AdamMixNormRefIdeal (hAdamMixNormRefIdeal := hAdamMixNormRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamFoxForgetBias (hAdamFoxForgetBias := hAdamFoxForgetBias)
    ∧ quiescent_AdamFoxForgetBiasIdeal (hAdamFoxForgetBiasIdeal := hAdamFoxForgetBiasIdeal)
    ∧ quiescent_AdamFoxForgetBiasRefIdeal (hAdamFoxForgetBiasRefIdeal := hAdamFoxForgetBiasRefIdeal)
    ∧ quiescent_AdamSsdConvW (hAdamSsdConvW := hAdamSsdConvW)
    ∧ quiescent_AdamSsdConvWIdeal (hAdamSsdConvWIdeal := hAdamSsdConvWIdeal)
    ∧ quiescent_AdamSsdConvWRefIdeal (hAdamSsdConvWRefIdeal := hAdamSsdConvWRefIdeal)
    ∧ quiescent_AdamSsdConvB (hAdamSsdConvB := hAdamSsdConvB)
    ∧ quiescent_AdamSsdConvBIdeal (hAdamSsdConvBIdeal := hAdamSsdConvBIdeal)
    ∧ quiescent_AdamSsdConvBRefIdeal (hAdamSsdConvBRefIdeal := hAdamSsdConvBRefIdeal)
    ∧ quiescent_AdamSsdDtBias (hAdamSsdDtBias := hAdamSsdDtBias)
    ∧ quiescent_AdamSsdDtBiasIdeal (hAdamSsdDtBiasIdeal := hAdamSsdDtBiasIdeal)
    ∧ quiescent_AdamSsdDtBiasRefIdeal (hAdamSsdDtBiasRefIdeal := hAdamSsdDtBiasRefIdeal)
    ∧ quiescent_AdamSsdALog (hAdamSsdALog := hAdamSsdALog)
    ∧ quiescent_AdamSsdALogIdeal (hAdamSsdALogIdeal := hAdamSsdALogIdeal)
    ∧ quiescent_AdamSsdALogRefIdeal (hAdamSsdALogRefIdeal := hAdamSsdALogRefIdeal)
    ∧ quiescent_AdamSsdD (hAdamSsdD := hAdamSsdD)
    ∧ quiescent_AdamSsdDIdeal (hAdamSsdDIdeal := hAdamSsdDIdeal)
    ∧ quiescent_AdamSsdDRefIdeal (hAdamSsdDRefIdeal := hAdamSsdDRefIdeal)
    ∧ quiescent_AdamSsdNorm (hAdamSsdNorm := hAdamSsdNorm)
    ∧ quiescent_AdamSsdNormIdeal (hAdamSsdNormIdeal := hAdamSsdNormIdeal)
    ∧ quiescent_AdamSsdNormRefIdeal (hAdamSsdNormRefIdeal := hAdamSsdNormRefIdeal)
    ∧ quiescent_AdamLruConvW (hAdamLruConvW := hAdamLruConvW)
    ∧ quiescent_AdamLruConvWIdeal (hAdamLruConvWIdeal := hAdamLruConvWIdeal)
    ∧ quiescent_AdamLruConvWRefIdeal (hAdamLruConvWRefIdeal := hAdamLruConvWRefIdeal)
    ∧ quiescent_AdamLruConvB (hAdamLruConvB := hAdamLruConvB)
    ∧ quiescent_AdamLruConvBIdeal (hAdamLruConvBIdeal := hAdamLruConvBIdeal)
    ∧ quiescent_AdamLruConvBRefIdeal (hAdamLruConvBRefIdeal := hAdamLruConvBRefIdeal)
    ∧ quiescent_AdamLruWA (hAdamLruWA := hAdamLruWA)
    ∧ quiescent_AdamLruWAIdeal (hAdamLruWAIdeal := hAdamLruWAIdeal)
    ∧ quiescent_AdamLruWARefIdeal (hAdamLruWARefIdeal := hAdamLruWARefIdeal)
    ∧ quiescent_AdamLruBA (hAdamLruBA := hAdamLruBA)
    ∧ quiescent_AdamLruBAIdeal (hAdamLruBAIdeal := hAdamLruBAIdeal)
    ∧ quiescent_AdamLruBARefIdeal (hAdamLruBARefIdeal := hAdamLruBARefIdeal)
    ∧ quiescent_AdamLruWX (hAdamLruWX := hAdamLruWX)
    ∧ quiescent_AdamLruWXIdeal (hAdamLruWXIdeal := hAdamLruWXIdeal)
    ∧ quiescent_AdamLruWXRefIdeal (hAdamLruWXRefIdeal := hAdamLruWXRefIdeal)
    ∧ quiescent_AdamLruBX (hAdamLruBX := hAdamLruBX)
    ∧ quiescent_AdamLruBXIdeal (hAdamLruBXIdeal := hAdamLruBXIdeal)
    ∧ quiescent_AdamLruBXRefIdeal (hAdamLruBXRefIdeal := hAdamLruBXRefIdeal)
    ∧ quiescent_AdamLruLambda (hAdamLruLambda := hAdamLruLambda)
    ∧ quiescent_AdamLruLambdaIdeal (hAdamLruLambdaIdeal := hAdamLruLambdaIdeal)
    ∧ quiescent_AdamLruLambdaRefIdeal (hAdamLruLambdaRefIdeal := hAdamLruLambdaRefIdeal)
    ∧ quiescent_AdamWBranchAttn (hAdamWBranchAttn := hAdamWBranchAttn)
    ∧ quiescent_AdamWBranchAttnIdeal (hAdamWBranchAttnIdeal := hAdamWBranchAttnIdeal)
    ∧ quiescent_AdamWBranchAttnRefIdeal (hAdamWBranchAttnRefIdeal := hAdamWBranchAttnRefIdeal)
    ∧ quiescent_AdamWBranchSsd (hAdamWBranchSsd := hAdamWBranchSsd)
    ∧ quiescent_AdamWBranchSsdIdeal (hAdamWBranchSsdIdeal := hAdamWBranchSsdIdeal)
    ∧ quiescent_AdamWBranchSsdRefIdeal (hAdamWBranchSsdRefIdeal := hAdamWBranchSsdRefIdeal)
    ∧ quiescent_AdamWBranchLru (hAdamWBranchLru := hAdamWBranchLru)
    ∧ quiescent_AdamWBranchLruIdeal (hAdamWBranchLruIdeal := hAdamWBranchLruIdeal)
    ∧ quiescent_AdamWBranchLruRefIdeal (hAdamWBranchLruRefIdeal := hAdamWBranchLruRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamFfn2Norm (hAdamFfn2Norm := hAdamFfn2Norm)
    ∧ quiescent_AdamFfn2NormIdeal (hAdamFfn2NormIdeal := hAdamFfn2NormIdeal)
    ∧ quiescent_AdamFfn2NormRefIdeal (hAdamFfn2NormRefIdeal := hAdamFfn2NormRefIdeal)
    ∧ quiescent_AdamFfn2WGateUp (hAdamFfn2WGateUp := hAdamFfn2WGateUp)
    ∧ quiescent_AdamFfn2WGateUpIdeal (hAdamFfn2WGateUpIdeal := hAdamFfn2WGateUpIdeal)
    ∧ quiescent_AdamFfn2WGateUpRefIdeal (hAdamFfn2WGateUpRefIdeal := hAdamFfn2WGateUpRefIdeal)
    ∧ quiescent_AdamFfn2WDown (hAdamFfn2WDown := hAdamFfn2WDown)
    ∧ quiescent_AdamFfn2WDownIdeal (hAdamFfn2WDownIdeal := hAdamFfn2WDownIdeal)
    ∧ quiescent_AdamFfn2WDownRefIdeal (hAdamFfn2WDownRefIdeal := hAdamFfn2WDownRefIdeal)
    ∧ quiescent_AdamFinalNorm (hAdamFinalNorm := hAdamFinalNorm)
    ∧ quiescent_AdamFinalNormIdeal (hAdamFinalNormIdeal := hAdamFinalNormIdeal)
    ∧ quiescent_AdamFinalNormRefIdeal (hAdamFinalNormRefIdeal := hAdamFinalNormRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GnormFwd (hGnormFwd := hGnormFwd)
    ∧ quiescent_GnormFwdIdeal (hGnormFwdIdeal := hGnormFwdIdeal)
    ∧ quiescent_GnormFwdRefIdeal (hGnormFwdRefIdeal := hGnormFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_SumGrads (hSumGrads := hSumGrads)
    ∧ quiescent_SumGradsIdeal (hSumGradsIdeal := hSumGradsIdeal)
    ∧ quiescent_SumGradsRefIdeal (hSumGradsRefIdeal := hSumGradsRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MixInDx_MixInDxIdeal
    ∧ algebraic_MixInDxIdeal_MixInDxRefIdeal (hMixInDxIdeal := hMixInDxIdeal) (hMixInDxRefIdeal := hMixInDxRefIdeal)
    ∧ preserves_MixInDw_MixInDwIdeal
    ∧ algebraic_MixInDwIdeal_MixInDwRefIdeal (hMixInDwIdeal := hMixInDwIdeal) (hMixInDwRefIdeal := hMixInDwRefIdeal)
    ∧ preserves_MixIn_MixInIdeal
    ∧ algebraic_MixInIdeal_MixInRefIdeal (hMixInIdeal := hMixInIdeal) (hMixInRefIdeal := hMixInRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnDown_FfnDownIdeal
    ∧ algebraic_FfnDownIdeal_FfnDownRefIdeal (hFfnDownIdeal := hFfnDownIdeal) (hFfnDownRefIdeal := hFfnDownRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_Branch_BranchIdeal
    ∧ algebraic_BranchIdeal_BranchRefIdeal (hBranchIdeal := hBranchIdeal) (hBranchRefIdeal := hBranchRefIdeal)
    ∧ preserves_MixOut_MixOutIdeal
    ∧ algebraic_MixOutIdeal_MixOutRefIdeal (hMixOutIdeal := hMixOutIdeal) (hMixOutRefIdeal := hMixOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_AdamMetaTokens_AdamMetaTokensIdeal
    ∧ algebraic_AdamMetaTokensIdeal_AdamMetaTokensRefIdeal (hAdamMetaTokensIdeal := hAdamMetaTokensIdeal) (hAdamMetaTokensRefIdeal := hAdamMetaTokensRefIdeal)
    ∧ preserves_AdamFfn1Norm_AdamFfn1NormIdeal
    ∧ algebraic_AdamFfn1NormIdeal_AdamFfn1NormRefIdeal (hAdamFfn1NormIdeal := hAdamFfn1NormIdeal) (hAdamFfn1NormRefIdeal := hAdamFfn1NormRefIdeal)
    ∧ preserves_AdamFfn1WGateUp_AdamFfn1WGateUpIdeal
    ∧ algebraic_AdamFfn1WGateUpIdeal_AdamFfn1WGateUpRefIdeal (hAdamFfn1WGateUpIdeal := hAdamFfn1WGateUpIdeal) (hAdamFfn1WGateUpRefIdeal := hAdamFfn1WGateUpRefIdeal)
    ∧ preserves_AdamFfn1WDown_AdamFfn1WDownIdeal
    ∧ algebraic_AdamFfn1WDownIdeal_AdamFfn1WDownRefIdeal (hAdamFfn1WDownIdeal := hAdamFfn1WDownIdeal) (hAdamFfn1WDownRefIdeal := hAdamFfn1WDownRefIdeal)
    ∧ preserves_AdamMixNorm_AdamMixNormIdeal
    ∧ algebraic_AdamMixNormIdeal_AdamMixNormRefIdeal (hAdamMixNormIdeal := hAdamMixNormIdeal) (hAdamMixNormRefIdeal := hAdamMixNormRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamFoxForgetBias_AdamFoxForgetBiasIdeal
    ∧ algebraic_AdamFoxForgetBiasIdeal_AdamFoxForgetBiasRefIdeal (hAdamFoxForgetBiasIdeal := hAdamFoxForgetBiasIdeal) (hAdamFoxForgetBiasRefIdeal := hAdamFoxForgetBiasRefIdeal)
    ∧ preserves_AdamSsdConvW_AdamSsdConvWIdeal
    ∧ algebraic_AdamSsdConvWIdeal_AdamSsdConvWRefIdeal (hAdamSsdConvWIdeal := hAdamSsdConvWIdeal) (hAdamSsdConvWRefIdeal := hAdamSsdConvWRefIdeal)
    ∧ preserves_AdamSsdConvB_AdamSsdConvBIdeal
    ∧ algebraic_AdamSsdConvBIdeal_AdamSsdConvBRefIdeal (hAdamSsdConvBIdeal := hAdamSsdConvBIdeal) (hAdamSsdConvBRefIdeal := hAdamSsdConvBRefIdeal)
    ∧ preserves_AdamSsdDtBias_AdamSsdDtBiasIdeal
    ∧ algebraic_AdamSsdDtBiasIdeal_AdamSsdDtBiasRefIdeal (hAdamSsdDtBiasIdeal := hAdamSsdDtBiasIdeal) (hAdamSsdDtBiasRefIdeal := hAdamSsdDtBiasRefIdeal)
    ∧ preserves_AdamSsdALog_AdamSsdALogIdeal
    ∧ algebraic_AdamSsdALogIdeal_AdamSsdALogRefIdeal (hAdamSsdALogIdeal := hAdamSsdALogIdeal) (hAdamSsdALogRefIdeal := hAdamSsdALogRefIdeal)
    ∧ preserves_AdamSsdD_AdamSsdDIdeal
    ∧ algebraic_AdamSsdDIdeal_AdamSsdDRefIdeal (hAdamSsdDIdeal := hAdamSsdDIdeal) (hAdamSsdDRefIdeal := hAdamSsdDRefIdeal)
    ∧ preserves_AdamSsdNorm_AdamSsdNormIdeal
    ∧ algebraic_AdamSsdNormIdeal_AdamSsdNormRefIdeal (hAdamSsdNormIdeal := hAdamSsdNormIdeal) (hAdamSsdNormRefIdeal := hAdamSsdNormRefIdeal)
    ∧ preserves_AdamLruConvW_AdamLruConvWIdeal
    ∧ algebraic_AdamLruConvWIdeal_AdamLruConvWRefIdeal (hAdamLruConvWIdeal := hAdamLruConvWIdeal) (hAdamLruConvWRefIdeal := hAdamLruConvWRefIdeal)
    ∧ preserves_AdamLruConvB_AdamLruConvBIdeal
    ∧ algebraic_AdamLruConvBIdeal_AdamLruConvBRefIdeal (hAdamLruConvBIdeal := hAdamLruConvBIdeal) (hAdamLruConvBRefIdeal := hAdamLruConvBRefIdeal)
    ∧ preserves_AdamLruWA_AdamLruWAIdeal
    ∧ algebraic_AdamLruWAIdeal_AdamLruWARefIdeal (hAdamLruWAIdeal := hAdamLruWAIdeal) (hAdamLruWARefIdeal := hAdamLruWARefIdeal)
    ∧ preserves_AdamLruBA_AdamLruBAIdeal
    ∧ algebraic_AdamLruBAIdeal_AdamLruBARefIdeal (hAdamLruBAIdeal := hAdamLruBAIdeal) (hAdamLruBARefIdeal := hAdamLruBARefIdeal)
    ∧ preserves_AdamLruWX_AdamLruWXIdeal
    ∧ algebraic_AdamLruWXIdeal_AdamLruWXRefIdeal (hAdamLruWXIdeal := hAdamLruWXIdeal) (hAdamLruWXRefIdeal := hAdamLruWXRefIdeal)
    ∧ preserves_AdamLruBX_AdamLruBXIdeal
    ∧ algebraic_AdamLruBXIdeal_AdamLruBXRefIdeal (hAdamLruBXIdeal := hAdamLruBXIdeal) (hAdamLruBXRefIdeal := hAdamLruBXRefIdeal)
    ∧ preserves_AdamLruLambda_AdamLruLambdaIdeal
    ∧ algebraic_AdamLruLambdaIdeal_AdamLruLambdaRefIdeal (hAdamLruLambdaIdeal := hAdamLruLambdaIdeal) (hAdamLruLambdaRefIdeal := hAdamLruLambdaRefIdeal)
    ∧ preserves_AdamWBranchAttn_AdamWBranchAttnIdeal
    ∧ algebraic_AdamWBranchAttnIdeal_AdamWBranchAttnRefIdeal (hAdamWBranchAttnIdeal := hAdamWBranchAttnIdeal) (hAdamWBranchAttnRefIdeal := hAdamWBranchAttnRefIdeal)
    ∧ preserves_AdamWBranchSsd_AdamWBranchSsdIdeal
    ∧ algebraic_AdamWBranchSsdIdeal_AdamWBranchSsdRefIdeal (hAdamWBranchSsdIdeal := hAdamWBranchSsdIdeal) (hAdamWBranchSsdRefIdeal := hAdamWBranchSsdRefIdeal)
    ∧ preserves_AdamWBranchLru_AdamWBranchLruIdeal
    ∧ algebraic_AdamWBranchLruIdeal_AdamWBranchLruRefIdeal (hAdamWBranchLruIdeal := hAdamWBranchLruIdeal) (hAdamWBranchLruRefIdeal := hAdamWBranchLruRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamFfn2Norm_AdamFfn2NormIdeal
    ∧ algebraic_AdamFfn2NormIdeal_AdamFfn2NormRefIdeal (hAdamFfn2NormIdeal := hAdamFfn2NormIdeal) (hAdamFfn2NormRefIdeal := hAdamFfn2NormRefIdeal)
    ∧ preserves_AdamFfn2WGateUp_AdamFfn2WGateUpIdeal
    ∧ algebraic_AdamFfn2WGateUpIdeal_AdamFfn2WGateUpRefIdeal (hAdamFfn2WGateUpIdeal := hAdamFfn2WGateUpIdeal) (hAdamFfn2WGateUpRefIdeal := hAdamFfn2WGateUpRefIdeal)
    ∧ preserves_AdamFfn2WDown_AdamFfn2WDownIdeal
    ∧ algebraic_AdamFfn2WDownIdeal_AdamFfn2WDownRefIdeal (hAdamFfn2WDownIdeal := hAdamFfn2WDownIdeal) (hAdamFfn2WDownRefIdeal := hAdamFfn2WDownRefIdeal)
    ∧ preserves_AdamFinalNorm_AdamFinalNormIdeal
    ∧ algebraic_AdamFinalNormIdeal_AdamFinalNormRefIdeal (hAdamFinalNormIdeal := hAdamFinalNormIdeal) (hAdamFinalNormRefIdeal := hAdamFinalNormRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GnormFwd_GnormFwdIdeal
    ∧ algebraic_GnormFwdIdeal_GnormFwdRefIdeal (hGnormFwdIdeal := hGnormFwdIdeal) (hGnormFwdRefIdeal := hGnormFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_SumGrads_SumGradsIdeal
    ∧ algebraic_SumGradsIdeal_SumGradsRefIdeal (hSumGradsIdeal := hSumGradsIdeal) (hSumGradsRefIdeal := hSumGradsRefIdeal)
-- ==== Pre_finite.lean ====
abbrev S2x4224x1024 : Shape := ⟨3, ![2, 4224, 1024]⟩
abbrev S2x4224x10880 : Shape := ⟨3, ![2, 4224, 10880]⟩
abbrev S2x4224x2560 : Shape := ⟨3, ![2, 4224, 2560]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S2x4224x1024 .f32) (main_arg1 : FVec F S2x4224x10880 .f32) (main_arg2 : FVec F S2x4224x2560 .f32) (main_arg3 : FVec F S2x4224x1024 .f32) (main_arg4 : FVec F S2x4224x1024 .f32) (main_arg5 : FVec F S1024 .f32) (main_arg6 : FVec F S1024 .f32) (main_arg7 : FVec F S1024 .f32) : IVec S1024 1 :=
  let main_v0 : FVec F S1024 .f32 := Host.absf main_arg7
  let main_cst : FVec F S_ .f32 := constant S_ .f32 0x7F800000#32
  let main_v1 : FVec F S1024 .f32 := broadcastInDim S1024 ![] bcast_S_S1024 main_cst
  let main_v2 : IVec S1024 1 := cmpf .olt main_v0 main_v1
  main_v2
-- ==== Kernel.lean ====
abbrev S2x4224x1024 : Shape := ⟨3, ![2, 4224, 1024]⟩
abbrev S2x4224x10880 : Shape := ⟨3, ![2, 4224, 10880]⟩
abbrev S2x4224x2560 : Shape := ⟨3, ![2, 4224, 2560]⟩
abbrev S1024 : Shape := ⟨1, ![1024]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x384x512 : Shape := ⟨3, ![1, 384, 512]⟩
abbrev S8x512 : Shape := ⟨2, ![8, 512]⟩
abbrev S384x512 : Shape := ⟨2, ![384, 512]⟩
abbrev S1x512 : Shape := ⟨2, ![1, 512]⟩
abbrev S384x1 : Shape := ⟨2, ![384, 1]⟩
abbrev S8x1 : Shape := ⟨2, ![8, 1]⟩
abbrev S1x8x512 : Shape := ⟨3, ![1, 8, 512]⟩
abbrev S512 : Shape := ⟨1, ![512]⟩
abbrev S1x1x512 : Shape := ⟨3, ![1, 1, 512]⟩

abbrev nBuf : Space → Nat
  | .hbm => 22
  | .vmem => 53
  | .smem => 0
  | _ => 0

abbrev bufTy : (tb : Table) → Fin (tcTables nBuf tb) → BufTy
  | .hbm, ⟨0, _⟩ => ⟨S2x4224x1024, .f32⟩
  | .hbm, ⟨1, _⟩ => ⟨S2x4224x10880, .f32⟩
  | .hbm, ⟨2, _⟩ => ⟨S2x4224x2560, .f32⟩
  | .hbm, ⟨3, _⟩ => ⟨S2x4224x1024, .f32⟩
  | .hbm, ⟨4, _⟩ => ⟨S2x4224x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S2x4224x1024, .bf16⟩
  | .hbm, ⟨15, _⟩ => ⟨S2x4224x1024, .f32⟩
  | .hbm, ⟨16, _⟩ => ⟨S2x4224x1024, .f32⟩
  | .hbm, ⟨17, _⟩ => ⟨S2x4224x1024, .bf16⟩
  | .hbm, ⟨18, _⟩ => ⟨S2x4224x1024, .bf16⟩
  | .hbm, ⟨19, _⟩ => ⟨S2x4224x1024, .bf16⟩
  | .hbm, ⟨20, _⟩ => ⟨S2x4224x1024, .f32⟩
  | .hbm, ⟨21, _⟩ => ⟨S8x1024, .f32⟩
  | .local _ .vmem, ⟨0, _⟩ => ⟨S1x384x512, .f32⟩
  | .local _ .vmem, ⟨1, _⟩ => ⟨S1x384x512, .f32⟩
  | .local _ .vmem, ⟨2, _⟩ => ⟨S1x384x512, .f32⟩
  | .local _ .vmem, ⟨3, _⟩ => ⟨S1x384x512, .f32⟩
  | .local _ .vmem, ⟨4, _⟩ => ⟨S1x384x512, .f32⟩
  | .local _ .vmem, ⟨5, _⟩ => ⟨S1x384x512, .f32⟩
  | .local _ .vmem, ⟨6, _⟩ => ⟨S1x384x512, .f32⟩
  | .local _ .vmem, ⟨7, _⟩ => ⟨S1x384x512, .f32⟩
  | .local _ .vmem, ⟨8, _⟩ => ⟨S8x512, .f32⟩
  | .local _ .vmem, ⟨9, _⟩ => ⟨S8x512, .f32⟩
  | .local _ .vmem, ⟨10, _⟩ => ⟨S1x384x512, .bf16⟩
  | .local _ .vmem, ⟨11, _⟩ => ⟨S1x384x512, .bf16⟩
  | .local _ .vmem, ⟨12, _⟩ => ⟨S1x384x512, .f32⟩
  | .local _ .vmem, ⟨13, _⟩ => ⟨S1x384x512, .f32⟩
  | .local _ .vmem, ⟨14, _⟩ => ⟨S1x384x512, .f32⟩
  | .local _ .vmem, ⟨15, _⟩ => ⟨S1x384x512, .f32⟩
  | .local _ .vmem, ⟨16, _⟩ => ⟨S384x512, .f32⟩
  | .local _ .vmem, ⟨17, _⟩ => ⟨S384x512, .f32⟩
  | .local _ .vmem, ⟨18, _⟩ => ⟨S1x512, .f32⟩
  | .local _ .vmem, ⟨19, _⟩ => ⟨S1x384x512, .f32⟩
  | .local _ .vmem, ⟨20, _⟩ => ⟨S1x384x512, .f32⟩
  | .local _ .vmem, ⟨21, _⟩ => ⟨S1x384x512, .f32⟩
  | .local _ .vmem, ⟨22, _⟩ => ⟨S1x384x512, .f32⟩
  | .local _ .vmem, ⟨23, _⟩ => ⟨S1x384x512, .f32⟩
  | .local _ .vmem, ⟨24, _⟩ => ⟨S1x384x512, .f32⟩
  | .local _ .vmem, ⟨25, _⟩ => ⟨S1x8x512, .f32⟩
  | .local _ .vmem, ⟨26, _⟩ => ⟨S1x8x512, .f32⟩
  | .local _ .vmem, ⟨27, _⟩ => ⟨S1x384x512, .f32⟩
  | .local _ .vmem, ⟨28, _⟩ => ⟨S1x384x512, .f32⟩
  | .local _ .vmem, ⟨29, _⟩ => ⟨S1x8x512, .f32⟩
  | .local _ .vmem, ⟨30, _⟩ => ⟨S1x8x512, .f32⟩
  | .local _ .vmem, ⟨31, _⟩ => ⟨S1x384x512, .f32⟩
  | .local _ .vmem, ⟨32, _⟩ => ⟨S1x384x512, .f32⟩
  | .local _ .vmem, ⟨33, _⟩ => ⟨S1x384x512, .f32⟩
  | .local _ .vmem, ⟨34, _⟩ => ⟨S1x384x512, .f32⟩
  | .local _ .vmem, ⟨35, _⟩ => ⟨S1x384x512, .f32⟩
  | .local _ .vmem, ⟨36, _⟩ => ⟨S1x384x512, .f32⟩
  | .local _ .vmem, ⟨37, _⟩ => ⟨S8x512, .f32⟩
  | .local _ .vmem, ⟨38, _⟩ => ⟨S8x512, .f32⟩
  | .local _ .vmem, ⟨39, _⟩ => ⟨S1x384x512, .bf16⟩
  | .local _ .vmem, ⟨40, _⟩ => ⟨S1x384x512, .bf16⟩
  | .local _ .vmem, ⟨41, _⟩ => ⟨S1x384x512, .bf16⟩
  | .local _ .vmem, ⟨42, _⟩ => ⟨S1x384x512, .bf16⟩
  | .local _ .vmem, ⟨43, _⟩ => ⟨S1x384x512, .bf16⟩
  | .local _ .vmem, ⟨44, _⟩ => ⟨S1x384x512, .bf16⟩
  | .local _ .vmem, ⟨45, _⟩ => ⟨S1x384x512, .f32⟩
  | .local _ .vmem, ⟨46, _⟩ => ⟨S1x384x512, .f32⟩
  | .local _ .vmem, ⟨47, _⟩ => ⟨S8x512, .f32⟩
  | .local _ .vmem, ⟨48, _⟩ => ⟨S8x512, .f32⟩
  | .local _ .vmem, ⟨49, _⟩ => ⟨S384x512, .f32⟩
  | .local _ .vmem, ⟨50, _⟩ => ⟨S384x512, .f32⟩
  | .local _ .vmem, ⟨51, _⟩ => ⟨S384x512, .f32⟩
  | .local _ .vmem, ⟨52, _⟩ => ⟨S1x512, .f32⟩
  | _, _ => ⟨S2x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_stg14_0 : Ref sig .tc := ⟨.vmem, 47, rfl⟩
abbrev cc1_stg14_1 : Ref sig .tc := ⟨.vmem, 48, rfl⟩
abbrev cc1_scratch0 : Ref sig .tc := ⟨.vmem, 49, rfl⟩
abbrev cc1_scratch1 : Ref sig .tc := ⟨.vmem, 50, rfl⟩
abbrev cc1_scratch2 : Ref sig .tc := ⟨.vmem, 51, rfl⟩
abbrev cc1_scratch3 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨3, ![2, 2, 11], ![false, false, false]⟩

@[reducible] def k0_t1_loop : Scf.Loop 32 :=
  let c0_i32_55 : BitVec 32 := 0#32
  let c48_i32 : BitVec 32 := 48#32
  let v155 : BitVec 32 := Scalar.addi c0_i32_55 c48_i32
  let c1_i32_56 : BitVec 32 := 1#32
  ⟨c0_i32_55, v155, c1_i32_56⟩
def k0_mult1 (k0_t1 : Fin k0_t1_loop.trips) : BitVec 32 :=
  let c0_i32_55 : BitVec 32 := 0#32
  let c1_i32_56 : BitVec 32 := 1#32
  let arg14 : BitVec 32 := Scf.iv c0_i32_55 c1_i32_56 k0_t1
  let c8_i32_73 : BitVec 32 := 8#32
  let v182 : BitVec 32 := Scalar.muli arg14 c8_i32_73
  v182
def k0_off1 (k0_t1 : Fin k0_t1_loop.trips) : Fin 2 → Nat :=
  let c0_i32_55 : BitVec 32 := 0#32
  let c1_i32_56 : BitVec 32 := 1#32
  let arg14 : BitVec 32 := Scf.iv c0_i32_55 c1_i32_56 k0_t1
  let c8_i32_73 : BitVec 32 := 8#32
  let v182 : BitVec 32 := Scalar.muli arg14 c8_i32_73
  let v183 : BitVec 32 := v182
  let v184 : Index := Scalar.indexCast v183
  let c0_74 : Index := 0#32
  ![v184.toNat, 0]
def k0_off2 (k0_t1 : Fin k0_t1_loop.trips) : Fin 3 → Nat :=
  let c0_76 : Index := 0#32
  let c0_i32_55 : BitVec 32 := 0#32
  let c1_i32_56 : BitVec 32 := 1#32
  let arg14 : BitVec 32 := Scf.iv c0_i32_55 c1_i32_56 k0_t1
  let c8_i32_73 : BitVec 32 := 8#32
  let v182 : BitVec 32 := Scalar.muli arg14 c8_i32_73
  let v183 : BitVec 32 := v182
  let v191 : Index := Scalar.indexCast v183
  let c0_77 : Index := 0#32
  ![0, v191.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev grid1 : Pipeline.Grid := ⟨3, ![2, 2, 11], ![false, false, false]⟩

@[reducible] def k1_t1_loop : Scf.Loop 32 :=
  let c0_i32_50 : BitVec 32 := 0#32
  let c48_i32 : BitVec 32 := 48#32
  let v141 : BitVec 32 := Scalar.addi c0_i32_50 c48_i32
  let c1_i32_51 : BitVec 32 := 1#32
  ⟨c0_i32_50, v141, c1_i32_51⟩
def k1_mult1 (k1_t1 : Fin k1_t1_loop.trips) : BitVec 32 :=
  let c47_i32 : BitVec 32 := 47#32
  let c0_i32_50 : BitVec 32 := 0#32
  let c1_i32_51 : BitVec 32 := 1#32
  let arg22 : BitVec 32 := Scf.iv c0_i32_50 c1_i32_51 k1_t1
  let v316 : BitVec 32 := Scalar.subi c47_i32 arg22
  let c8_i32_135 : BitVec 32 := 8#32
  let v317 : BitVec 32 := Scalar.muli v316 c8_i32_135
  v317
def k1_off1 (k1_t1 : Fin k1_t1_loop.trips) : Fin 2 → Nat :=
  let c47_i32 : BitVec 32 := 47#32
  let c0_i32_50 : BitVec 32 := 0#32
  let c1_i32_51 : BitVec 32 := 1#32
  let arg22 : BitVec 32 := Scf.iv c0_i32_50 c1_i32_51 k1_t1
  let v316 : BitVec 32 := Scalar.subi c47_i32 arg22
  let c8_i32_135 : BitVec 32 := 8#32
  let v317 : BitVec 32 := Scalar.muli v316 c8_i32_135
  let v318 : BitVec 32 := v317
  let v319 : Index := Scalar.indexCast v318
  let c0_136 : Index := 0#32
  ![v319.toNat, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c14_i32 : BitVec 32 := 14#32
  let v4 : BitVec 32 := Scalar.addi arg0 c14_i32
  let c0_i32_2 : BitVec 32 := 0#32
  ![arg1.toNat, v3.toNat, v4.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c48_i32 : BitVec 32 := 48#32
  let v1 : BitVec 32 := Scalar.muli v0 c48_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![arg1.toNat, v3.toNat, arg0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.subi c11_i32 arg2
  let c48_i32 : BitVec 32 := 48#32
  let v1 : BitVec 32 := Scalar.muli v0 c48_i32
  let c527_i32 : BitVec 32 := 527#32
  let v2 : BitVec 32 := Scalar.minsi v1 c527_i32
  let c0_i32 : BitVec 32 := 0#32
  ![arg1.toNat, v2.toNat, arg0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c3_i32 : BitVec 32 := 3#32
  let v4 : BitVec 32 := Scalar.addi arg0 c3_i32
  let c0_i32_2 : BitVec 32 := 0#32
  ![arg1.toNat, v3.toNat, v4.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_11 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_13 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.subi c10_i32 arg2
  let c0_i32 : BitVec 32 := 0#32
  let v1 : BitVec 32 := Scalar.addi v0 c0_i32
  let c0_i32_0 : BitVec 32 := 0#32
  let c10_i32_1 : BitVec 32 := 10#32
  let v2 : BitVec 32 := Scalar.maxsi c0_i32_0 v1
  let v3 : BitVec 32 := Scalar.minsi c10_i32_1 v2
  let c0_i32_2 : BitVec 32 := 0#32
  let v4 : BitVec 32 := Scalar.addi arg0 c0_i32_2
  let c0_i32_3 : BitVec 32 := 0#32
  ![arg1.toNat, v3.toNat, v4.toNat]

def cc1_transform_14 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S1x384x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x384x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x384x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x384x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x384x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x384x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S1x384x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S8x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false, false]

abbrev stage1_10 : Fin 2 → Memref sig .tc .vmem S1x384x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, true]

abbrev stage1_11 : Fin 2 → Memref sig .tc .vmem S1x384x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, true]

abbrev stage1_12 : Fin 2 → Memref sig .tc .vmem S1x384x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S1x384x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

abbrev stage1_14 : Fin 2 → Memref sig .tc .vmem S8x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false, false]
-- ==== ReferenceIdeal.lean ====
abbrev S2x4224x1024 : Shape := ⟨3, ![2, 4224, 1024]⟩
abbrev S2x4224x10880 : Shape := ⟨3, ![2, 4224, 10880]⟩
abbrev S2x4224x2560 : Shape := ⟨3, ![2, 4224, 2560]⟩
abbrev S1024 : Shape := ⟨1, ![1024]⟩
abbrev S1x1x1024 : Shape := ⟨3, ![1, 1, 1024]⟩
abbrev S_ : Shape := ⟨0, ![]⟩
abbrev S4224 : Shape := ⟨1, ![4224]⟩
abbrev S1x4224x1 : Shape := ⟨3, ![1, 4224, 1]⟩
abbrev S2x1x1024 : Shape := ⟨3, ![2, 1, 1024]⟩
abbrev S2x1024 : Shape := ⟨2, ![2, 1024]⟩
abbrev S4224x2x1024 : Shape := ⟨3, ![4224, 2, 1024]⟩
abbrev S1x2x1024 : Shape := ⟨3, ![1, 2, 1024]⟩

abbrev nBuf : Space → Nat
  | .hbm => 170
  | .vmem => 0
  | .smem => 0
  | _ => 0

abbrev hbmTy0_0 (i : Nat) : BufTy := match i % 128 with
  | 0 => ⟨S2x4224x1024, .f32⟩
  | 1 => ⟨S2x4224x10880, .f32⟩
  | 2 => ⟨S2x4224x2560, .f32⟩
  | 3 => ⟨S2x4224x1024, .f32⟩
  | 4 => ⟨S2x4224x1024, .f32⟩
  | 5 => ⟨S1024, .f32⟩
  | 6 => ⟨S1024, .f32⟩
  | 7 => ⟨S1024, .f32⟩
  | 8 => ⟨S2x4224x1024, .f32⟩
  | 9 => ⟨S2x4224x1024, .f32⟩
  | 10 => ⟨S1x1x1024, .f32⟩
  | 11 => ⟨S2x4224x1024, .f32⟩
  | 12 => ⟨S2x4224x1024, .f32⟩
  | 13 => ⟨S2x4224x1024, .f32⟩
  | 14 => ⟨S2x4224x1024, .f32⟩
  | 15 => ⟨S_, .f32⟩
  | 16 => ⟨S2x4224x1024, .f32⟩
  | 17 => ⟨S2x4224x1024, .f32⟩
  | 18 => ⟨S_, .f32⟩
  | 19 => ⟨S2x4224x1024, .f32⟩
  | 20 => ⟨S2x4224x1024, .f32⟩
  | 21 => ⟨S1x1x1024, .f32⟩
  | 22 => ⟨S2x4224x1024, .f32⟩
  | 23 => ⟨S2x4224x1024, .f32⟩
  | 24 => ⟨S2x4224x1024, .f32⟩
  | 25 => ⟨S2x4224x1024, .f32⟩
  | 26 => ⟨S_, .f32⟩
  | 27 => ⟨S2x4224x1024, .f32⟩
  | 28 => ⟨S2x4224x1024, .f32⟩
  | 29 => ⟨S_, .f32⟩
  | 30 => ⟨S2x4224x1024, .f32⟩
  | 31 => ⟨S2x4224x1024, .f32⟩
  | 32 => ⟨S_, .f32⟩
  | 33 => ⟨S2x4224x1024, .f32⟩
  | 34 => ⟨S2x4224x1024, .f32⟩
  | 35 => ⟨S2x4224x1024, .f32⟩
  | 36 => ⟨S_, .f32⟩
  | 37 => ⟨S2x4224x1024, .f32⟩
  | 38 => ⟨S2x4224x1024, .f32⟩
  | 39 => ⟨S1024, .f32⟩
  | 40 => ⟨S_, .f32⟩
  | 41 => ⟨S1024, .f32⟩
  | 42 => ⟨S1024, .f32⟩
  | 43 => ⟨S1024, .f32⟩
  | 44 => ⟨S1024, .f32⟩
  | 45 => ⟨S1024, .i1⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1x1x1024, .f32⟩
  | 56 => ⟨S2x4224x1024, .f32⟩
  | 57 => ⟨S2x4224x1024, .f32⟩
  | 58 => ⟨S2x4224x1024, .f32⟩
  | 59 => ⟨S_, .f32⟩
  | 60 => ⟨S2x4224x1024, .f32⟩
  | 61 => ⟨S2x4224x1024, .f32⟩
  | 62 => ⟨S2x4224x1024, .f32⟩
  | 63 => ⟨S2x4224x1024, .f32⟩
  | 64 => ⟨S2x4224x1024, .f32⟩
  | 65 => ⟨S4224, .i32⟩
  | 66 => ⟨S1x4224x1, .i32⟩
  | 67 => ⟨S_, .i32⟩
  | 68 => ⟨S1x4224x1, .i32⟩
  | 69 => ⟨S1x4224x1, .i1⟩
  | 70 => ⟨S_, .f32⟩
  | 71 => ⟨S_, .f32⟩
  | 72 => ⟨S2x4224x1024, .i1⟩
  | 73 => ⟨S2x4224x1024, .f32⟩
  | 74 => ⟨S2x4224x1024, .f32⟩
  | 75 => ⟨S2x4224x1024, .f32⟩
  | 76 => ⟨S2x4224x1024, .f32⟩
  | 77 => ⟨S2x1x1024, .f32⟩
  | 78 => ⟨S2x1024, .f32⟩
  | 79 => ⟨S_, .f32⟩
  | 80 => ⟨S2x1024, .f32⟩
  | 81 => ⟨S4224x2x1024, .f32⟩
  | 82 => ⟨S4224x2x1024, .f32⟩
  | 83 => ⟨S_, .f32⟩
  | 84 => ⟨S4224x2x1024, .f32⟩
  | 85 => ⟨S_, .i32⟩
  | 86 => ⟨S4224x2x1024, .f32⟩
  | 87 => ⟨S4224x2x1024, .f32⟩
  | 88 => ⟨S_, .i32⟩
  | 89 => ⟨S2x1024, .f32⟩
  | 90 => ⟨S4224x2x1024, .f32⟩
  | 91 => ⟨S_, .i32⟩
  | 92 => ⟨S_, .i1⟩
  | 93 => ⟨S_, .i32⟩
  | 94 => ⟨S_, .i32⟩
  | 95 => ⟨S1x2x1024, .f32⟩
  | 96 => ⟨S2x1024, .f32⟩
  | 97 => ⟨S_, .i32⟩
  | 98 => ⟨S_, .i32⟩
  | 99 => ⟨S1x2x1024, .f32⟩
  | 100 => ⟨S2x1024, .f32⟩
  | 101 => ⟨S2x1024, .f32⟩
  | 102 => ⟨S2x1024, .f32⟩
  | 103 => ⟨S1x2x1024, .f32⟩
  | 104 => ⟨S_, .i32⟩
  | 105 => ⟨S_, .i32⟩
  | 106 => ⟨S4224x2x1024, .f32⟩
  | 107 => ⟨S_, .i32⟩
  | 108 => ⟨S_, .i32⟩
  | 109 => ⟨S2x4224x1024, .f32⟩
  | 110 => ⟨S2x4224x1024, .f32⟩
  | 111 => ⟨S2x4224x1024, .f32⟩
  | 112 => ⟨S_, .f32⟩
  | 113 => ⟨S2x4224x1024, .f32⟩
  | 114 => ⟨S2x4224x1024, .f32⟩
  | 115 => ⟨S2x4224x1024, .f32⟩
  | 116 => ⟨S_, .f32⟩
  | 117 => ⟨S2x4224x1024, .f32⟩
  | 118 => ⟨S2x4224x1024, .f32⟩
  | 119 => ⟨S2x4224x1024, .f32⟩
  | 120 => ⟨S_, .f32⟩
  | 121 => ⟨S2x4224x1024, .f32⟩
  | 122 => ⟨S2x4224x1024, .f32⟩
  | 123 => ⟨S_, .f32⟩
  | 124 => ⟨S2x4224x1024, .f32⟩
  | 125 => ⟨S2x4224x1024, .f32⟩
  | 126 => ⟨S2x4224x1024, .f32⟩
  | 127 => ⟨S2x4224x1024, .f32⟩
  | _ => ⟨S2x4224x1024, .f32⟩

abbrev hbmTy0_1 (i : Nat) : BufTy := match i % 128 with
  | 0 => ⟨S_, .f32⟩
  | 1 => ⟨S2x1024, .f32⟩
  | 2 => ⟨S2x4224x1024, .f32⟩
  | 3 => ⟨S4224x2x1024, .f32⟩
  | 4 => ⟨S_, .f32⟩
  | 5 => ⟨S2x1024, .f32⟩
  | 6 => ⟨S_, .f32⟩
  | 7 => ⟨S4224x2x1024, .f32⟩
  | 8 => ⟨S_, .i32⟩
  | 9 => ⟨S4224x2x1024, .f32⟩
  | 10 => ⟨S4224x2x1024, .f32⟩
  | 11 => ⟨S_, .i32⟩
  | 12 => ⟨S2x1024, .f32⟩
  | 13 => ⟨S4224x2x1024, .f32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S1x2x1024, .f32⟩
  | 23 => ⟨S2x1024, .f32⟩
  | 24 => ⟨S_, .i32⟩
  | 25 => ⟨S_, .i32⟩
  | 26 => ⟨S1x2x1024, .f32⟩
  | 27 => ⟨S2x1024, .f32⟩
  | 28 => ⟨S2x1024, .f32⟩
  | 29 => ⟨S2x1024, .f32⟩
  | 30 => ⟨S1x2x1024, .f32⟩
  | 31 => ⟨S_, .i32⟩
  | 32 => ⟨S_, .i32⟩
  | 33 => ⟨S4224x2x1024, .f32⟩
  | 34 => ⟨S_, .i32⟩
  | 35 => ⟨S_, .i32⟩
  | 36 => ⟨S2x4224x1024, .f32⟩
  | 37 => ⟨S2x4224x1024, .f32⟩
  | 38 => ⟨S2x4224x1024, .f32⟩
  | 39 => ⟨S2x4224x1024, .f32⟩
  | 40 => ⟨S2x4224x1024, .f32⟩
  | 41 => ⟨S2x4224x1024, .bf16⟩
  | _ => ⟨S2x4224x1024, .f32⟩

abbrev hbmTy (i : Nat) : BufTy := match i / 128 with
  | 0 => hbmTy0_0 i
  | 1 => hbmTy0_1 i
  | _ => ⟨S2x4224x1024, .f32⟩

abbrev bufTy : (tb : Table) → Fin (tcTables nBuf tb) → BufTy
  | .hbm, ⟨i, _⟩ => hbmTy i
  | _, _ => ⟨S2x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_call0_cst : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_call0_v2 : Ref sig .tc := ⟨.hbm, 43, rfl⟩
abbrev main_call0_call0_v3 : Ref sig .tc := ⟨.hbm, 44, rfl⟩
abbrev main_call0_call0_v4 : Ref sig .tc := ⟨.hbm, 45, rfl⟩
abbrev main_call0_call0_v5 : Ref sig .tc := ⟨.hbm, 46, rfl⟩
abbrev main_call0_call0_v6 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_v1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_8 : Ref sig .tc := ⟨.hbm, 83, rfl⟩
abbrev main_v47 : Ref sig .tc := ⟨.hbm, 84, rfl⟩
abbrev main_c_9 : Ref sig .tc := ⟨.hbm, 85, rfl⟩
abbrev main_v48_0 : Ref sig .tc := ⟨.hbm, 86, rfl⟩
abbrev main_v48_1 : Ref sig .tc := ⟨.hbm, 87, rfl⟩
abbrev main_v48_2 : Ref sig .tc := ⟨.hbm, 88, rfl⟩
abbrev main_v48_3 : Ref sig .tc := ⟨.hbm, 89, rfl⟩
abbrev main_v48_4 : Ref sig .tc := ⟨.hbm, 90, rfl⟩
abbrev main_while0c_c_22 : Ref sig .tc := ⟨.hbm, 91, rfl⟩
abbrev main_while0c_v76 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_v0 : Ref sig .tc := ⟨.hbm, 95, rfl⟩
abbrev main_while0b_v76 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_v0 : Ref sig .tc := ⟨.hbm, 99, rfl⟩
abbrev main_while0b_v77 : Ref sig .tc := ⟨.hbm, 100, rfl⟩
abbrev main_while0b_v78 : Ref sig .tc := ⟨.hbm, 101, rfl⟩
abbrev main_while0b_v79 : Ref sig .tc := ⟨.hbm, 102, rfl⟩
abbrev main_while0b_call4_v0 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_v80 : Ref sig .tc := ⟨.hbm, 106, rfl⟩
abbrev main_while0b_c_22 : Ref sig .tc := ⟨.hbm, 107, rfl⟩
abbrev main_while0b_v81 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_10 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst_11 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_cst_12 : Ref sig .tc := ⟨.hbm, 120, rfl⟩
abbrev main_v58 : Ref sig .tc := ⟨.hbm, 121, rfl⟩
abbrev main_v59 : Ref sig .tc := ⟨.hbm, 122, rfl⟩
abbrev main_cst_13 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_14 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_15 : Ref sig .tc := ⟨.hbm, 132, rfl⟩
abbrev main_v67 : Ref sig .tc := ⟨.hbm, 133, rfl⟩
abbrev main_cst_16 : Ref sig .tc := ⟨.hbm, 134, rfl⟩
abbrev main_v68 : Ref sig .tc := ⟨.hbm, 135, rfl⟩
abbrev main_c_17 : Ref sig .tc := ⟨.hbm, 136, rfl⟩
abbrev main_v69_0 : Ref sig .tc := ⟨.hbm, 137, rfl⟩
abbrev main_v69_1 : Ref sig .tc := ⟨.hbm, 138, rfl⟩
abbrev main_v69_2 : Ref sig .tc := ⟨.hbm, 139, rfl⟩
abbrev main_v69_3 : Ref sig .tc := ⟨.hbm, 140, rfl⟩
abbrev main_v69_4 : Ref sig .tc := ⟨.hbm, 141, rfl⟩
abbrev main_while1c_c_22 : Ref sig .tc := ⟨.hbm, 142, rfl⟩
abbrev main_while1c_v76 : Ref sig .tc := ⟨.hbm, 143, rfl⟩
abbrev main_while1b_c_22 : Ref sig .tc := ⟨.hbm, 144, rfl⟩
abbrev main_while1b_v76 : Ref sig .tc := ⟨.hbm, 145, rfl⟩
abbrev main_while1b_c_23 : Ref sig .tc := ⟨.hbm, 146, rfl⟩
abbrev main_while1b_v77 : Ref sig .tc := ⟨.hbm, 147, rfl⟩
abbrev main_while1b_call5_c : Ref sig .tc := ⟨.hbm, 148, rfl⟩
abbrev main_while1b_call5_c_0 : Ref sig .tc := ⟨.hbm, 149, rfl⟩
abbrev main_while1b_call5_v0 : Ref sig .tc := ⟨.hbm, 150, rfl⟩
abbrev main_while1b_v78 : Ref sig .tc := ⟨.hbm, 151, rfl⟩
abbrev main_while1b_call6_c : Ref sig .tc := ⟨.hbm, 152, rfl⟩
abbrev main_while1b_call6_c_0 : Ref sig .tc := ⟨.hbm, 153, rfl⟩
abbrev main_while1b_call6_v0 : Ref sig .tc := ⟨.hbm, 154, rfl⟩
abbrev main_while1b_v79 : Ref sig .tc := ⟨.hbm, 155, rfl⟩
abbrev main_while1b_v80 : Ref sig .tc := ⟨.hbm, 156, rfl⟩
abbrev main_while1b_v81 : Ref sig .tc := ⟨.hbm, 157, rfl⟩
abbrev main_while1b_call7_v0 : Ref sig .tc := ⟨.hbm, 158, rfl⟩
abbrev main_while1b_call7_c : Ref sig .tc := ⟨.hbm, 159, rfl⟩
abbrev main_while1b_call7_c_0 : Ref sig .tc := ⟨.hbm, 160, rfl⟩
abbrev main_while1b_v82 : Ref sig .tc := ⟨.hbm, 161, rfl⟩
abbrev main_while1b_c_24 : Ref sig .tc := ⟨.hbm, 162, rfl⟩
abbrev main_while1b_v83 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩

abbrev nD : Nat := 1
abbrev τ : Topo := Topo.v7x

variable {F : FTy → Type} [FloatOps F]

abbrev main_while0_count : Scf.Loop 32 := ⟨0#32, 4224#32, 1#32⟩

abbrev main_while1_count : Scf.Loop 32 := ⟨0#32, 4224#32, 1#32⟩
-- ==== MixInDx.lean ====
abbrev S8448x10880 : Shape := ⟨2, ![8448, 10880]⟩
abbrev S10880x1024 : Shape := ⟨2, ![10880, 1024]⟩
abbrev S8448x1024 : Shape := ⟨2, ![8448, 1024]⟩
abbrev S768x2176 : Shape := ⟨2, ![768, 2176]⟩
abbrev S2176x1024 : Shape := ⟨2, ![2176, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x10880, .bf16⟩
  | .hbm, ⟨1, _⟩ => ⟨S10880x1024, .bf16⟩
  | .hbm, ⟨2, _⟩ => ⟨S8448x1024, .f32⟩
  | .local _ .vmem, ⟨0, _⟩ => ⟨S768x2176, .bf16⟩
  | .local _ .vmem, ⟨1, _⟩ => ⟨S768x2176, .bf16⟩
  | .local _ .vmem, ⟨2, _⟩ => ⟨S2176x1024, .bf16⟩
  | .local _ .vmem, ⟨3, _⟩ => ⟨S2176x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDxRefIdeal.lean ====
abbrev S8448x10880 : Shape := ⟨2, ![8448, 10880]⟩
abbrev S10880x1024 : Shape := ⟨2, ![10880, 1024]⟩
abbrev S_ : Shape := ⟨0, ![]⟩
abbrev S8448x1024 : Shape := ⟨2, ![8448, 1024]⟩
abbrev S1024x10880 : Shape := ⟨2, ![1024, 10880]⟩

abbrev nBuf : Space → Nat
  | .hbm => 9
  | .vmem => 0
  | .smem => 0
  | _ => 0

abbrev bufTy : (tb : Table) → Fin (tcTables nBuf tb) → BufTy
  | .hbm, ⟨0, _⟩ => ⟨S8448x10880, .bf16⟩
  | .hbm, ⟨1, _⟩ => ⟨S10880x1024, .bf16⟩
  | .hbm, ⟨2, _⟩ => ⟨S10880x1024, .f32⟩
  | .hbm, ⟨3, _⟩ => ⟨S_, .f32⟩
  | .hbm, ⟨4, _⟩ => ⟨S8448x1024, .f32⟩
  | .hbm, ⟨5, _⟩ => ⟨S1024x10880, .f32⟩
  | .hbm, ⟨6, _⟩ => ⟨S8448x10880, .f32⟩
  | .hbm, ⟨7, _⟩ => ⟨S8448x10880, .f32⟩
  | .hbm, ⟨8, _⟩ => ⟨S8448x1024, .f32⟩
  | _, _ => ⟨S8448x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixInDw.lean ====
abbrev S8448x10880 : Shape := ⟨2, ![8448, 10880]⟩
abbrev S8448x1024 : Shape := ⟨2, ![8448, 1024]⟩
abbrev S10880x1024 : Shape := ⟨2, ![10880, 1024]⟩
abbrev S2816x640 : Shape := ⟨2, ![2816, 640]⟩
abbrev S2816x1024 : Shape := ⟨2, ![2816, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x10880, .bf16⟩
  | .hbm, ⟨1, _⟩ => ⟨S8448x1024, .bf16⟩
  | .hbm, ⟨2, _⟩ => ⟨S10880x1024, .f32⟩
  | .local _ .vmem, ⟨0, _⟩ => ⟨S2816x640, .bf16⟩
  | .local _ .vmem, ⟨1, _⟩ => ⟨S2816x640, .bf16⟩
  | .local _ .vmem, ⟨2, _⟩ => ⟨S2816x1024, .bf16⟩
  | .local _ .vmem, ⟨3, _⟩ => ⟨S2816x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8448x10880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInDwRefIdeal.lean ====
abbrev S8448x10880 : Shape := ⟨2, ![8448, 10880]⟩
abbrev S8448x1024 : Shape := ⟨2, ![8448, 1024]⟩
abbrev S_ : Shape := ⟨0, ![]⟩
abbrev S10880x1024 : Shape := ⟨2, ![10880, 1024]⟩
abbrev S1024x10880 : Shape := ⟨2, ![1024, 10880]⟩

abbrev nBuf : Space → Nat
  | .hbm => 11
  | .vmem => 0
  | .smem => 0
  | _ => 0

abbrev bufTy : (tb : Table) → Fin (tcTables nBuf tb) → BufTy
  | .hbm, ⟨0, _⟩ => ⟨S8448x10880, .bf16⟩
  | .hbm, ⟨1, _⟩ => ⟨S8448x1024, .bf16⟩
  | .hbm, ⟨2, _⟩ => ⟨S8448x1024, .f32⟩
  | .hbm, ⟨3, _⟩ => ⟨S_, .f32⟩
  | .hbm, ⟨4, _⟩ => ⟨S10880x1024, .f32⟩
  | .hbm, ⟨5, _⟩ => ⟨S1024x10880, .f32⟩
  | .hbm, ⟨6, _⟩ => ⟨S8448x10880, .f32⟩
  | .hbm, ⟨7, _⟩ => ⟨S8448x10880, .f32⟩
  | .hbm, ⟨8, _⟩ => ⟨S10880x1024, .f32⟩
  | .hbm, ⟨9, _⟩ => ⟨S1024x10880, .f32⟩
  | .hbm, ⟨10, _⟩ => ⟨S10880x1024, .f32⟩
  | _, _ => ⟨S8448x10880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixIn.lean ====
abbrev S8448x1024 : Shape := ⟨2, ![8448, 1024]⟩
abbrev S10880x1024 : Shape := ⟨2, ![10880, 1024]⟩
abbrev S8448x10880 : Shape := ⟨2, ![8448, 10880]⟩
abbrev S1408x1024 : Shape := ⟨2, ![1408, 1024]⟩
abbrev S640x1024 : Shape := ⟨2, ![640, 1024]⟩
abbrev S1408x640 : Shape := ⟨2, ![1408, 640]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S10880x1024, .bf16⟩
  | .hbm, ⟨2, _⟩ => ⟨S8448x10880, .f32⟩
  | .local _ .vmem, ⟨0, _⟩ => ⟨S1408x1024, .bf16⟩
  | .local _ .vmem, ⟨1, _⟩ => ⟨S1408x1024, .bf16⟩
  | .local _ .vmem, ⟨2, _⟩ => ⟨S640x1024, .bf16⟩
  | .local _ .vmem, ⟨3, _⟩ => ⟨S640x1024, .bf16⟩
  | .local _ .vmem, ⟨4, _⟩ => ⟨S1408x640, .f32⟩
  | .local _ .vmem, ⟨5, _⟩ => ⟨S1408x640, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S8448x1024 : Shape := ⟨2, ![8448, 1024]⟩
abbrev S10880x1024 : Shape := ⟨2, ![10880, 1024]⟩
abbrev S1024x10880 : Shape := ⟨2, ![1024, 10880]⟩
abbrev S8448x10880 : Shape := ⟨2, ![8448, 10880]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S10880x1024, .bf16⟩
  | .hbm, ⟨2, _⟩ => ⟨S8448x1024, .f32⟩
  | .hbm, ⟨3, _⟩ => ⟨S10880x1024, .f32⟩
  | .hbm, ⟨4, _⟩ => ⟨S1024x10880, .f32⟩
  | .hbm, ⟨5, _⟩ => ⟨S8448x10880, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDownDw.lean ====
abbrev S8448x2816 : Shape := ⟨2, ![8448, 2816]⟩
abbrev S8448x1024 : Shape := ⟨2, ![8448, 1024]⟩
abbrev S2816x1024 : Shape := ⟨2, ![2816, 1024]⟩
abbrev S2816x256 : Shape := ⟨2, ![2816, 256]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S2816x256, .bf16⟩
  | .local _ .vmem, ⟨1, _⟩ => ⟨S2816x256, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S8448x2816, .f32⟩
  | .hbm, ⟨3, _⟩ => ⟨S_, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S1024x2816, .f32⟩
  | .hbm, ⟨14, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnUpDw.lean ====
abbrev S8448x5632 : Shape := ⟨2, ![8448, 5632]⟩
abbrev S8448x1024 : Shape := ⟨2, ![8448, 1024]⟩
abbrev S5632x1024 : Shape := ⟨2, ![5632, 1024]⟩
abbrev S2816x512 : Shape := ⟨2, ![2816, 512]⟩
abbrev S2816x1024 : Shape := ⟨2, ![2816, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S5632x1024, .f32⟩
  | .local _ .vmem, ⟨0, _⟩ => ⟨S2816x512, .bf16⟩
  | .local _ .vmem, ⟨1, _⟩ => ⟨S2816x512, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDwRefIdeal.lean ====
abbrev S8448x5632 : Shape := ⟨2, ![8448, 5632]⟩
abbrev S8448x1024 : Shape := ⟨2, ![8448, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x1024, .bf16⟩
  | .hbm, ⟨2, _⟩ => ⟨S8448x1024, .f32⟩
  | .hbm, ⟨3, _⟩ => ⟨S_, .f32⟩
  | .hbm, ⟨4, _⟩ => ⟨S5632x1024, .f32⟩
  | .hbm, ⟨5, _⟩ => ⟨S1024x5632, .f32⟩
  | .hbm, ⟨6, _⟩ => ⟨S8448x5632, .f32⟩
  | .hbm, ⟨7, _⟩ => ⟨S8448x5632, .f32⟩
  | .hbm, ⟨8, _⟩ => ⟨S5632x1024, .f32⟩
  | .hbm, ⟨9, _⟩ => ⟨S1024x5632, .f32⟩
  | .hbm, ⟨10, _⟩ => ⟨S5632x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnUpDx.lean ====
abbrev S8448x5632 : Shape := ⟨2, ![8448, 5632]⟩
abbrev S5632x1024 : Shape := ⟨2, ![5632, 1024]⟩
abbrev S8448x1024 : Shape := ⟨2, ![8448, 1024]⟩
abbrev S768x2816 : Shape := ⟨2, ![768, 2816]⟩
abbrev S2816x1024 : Shape := ⟨2, ![2816, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S5632x1024, .bf16⟩
  | .hbm, ⟨2, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S2816x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpDxRefIdeal.lean ====
abbrev S8448x5632 : Shape := ⟨2, ![8448, 5632]⟩
abbrev S5632x1024 : Shape := ⟨2, ![5632, 1024]⟩
abbrev S_ : Shape := ⟨0, ![]⟩
abbrev S8448x1024 : Shape := ⟨2, ![8448, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x1024, .bf16⟩
  | .hbm, ⟨2, _⟩ => ⟨S5632x1024, .f32⟩
  | .hbm, ⟨3, _⟩ => ⟨S_, .f32⟩
  | .hbm, ⟨4, _⟩ => ⟨S8448x1024, .f32⟩
  | .hbm, ⟨5, _⟩ => ⟨S1024x5632, .f32⟩
  | .hbm, ⟨6, _⟩ => ⟨S8448x5632, .f32⟩
  | .hbm, ⟨7, _⟩ => ⟨S8448x5632, .f32⟩
  | .hbm, ⟨8, _⟩ => ⟨S8448x1024, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDown.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8448x2816 : Shape := ⟨2, ![8448, 2816]⟩
abbrev S2816x1024 : Shape := ⟨2, ![2816, 1024]⟩
abbrev S8448x1024 : Shape := ⟨2, ![8448, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== BranchDx.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S_, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Branch.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S8448x1024 : Shape := ⟨2, ![8448, 1024]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S8448x1024 : Shape := ⟨2, ![8448, 1024]⟩
abbrev S5632x1024 : Shape := ⟨2, ![5632, 1024]⟩
abbrev S8448x2816 : Shape := ⟨2, ![8448, 2816]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x2816, .f32⟩
  | .hbm, ⟨3, _⟩ => ⟨S8448x2816, .f32⟩
  | .hbm, ⟨4, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S768x1408, .f32⟩
  | .local _ .vmem, ⟨7, _⟩ => ⟨S768x1408, .f32⟩
  | .local _ .vmem, ⟨8, _⟩ => ⟨S768x1408, .f32⟩
  | .local _ .vmem, ⟨9, _⟩ => ⟨S768x1408, .f32⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8448x1024 : Shape := ⟨2, ![8448, 1024]⟩
abbrev S5632x1024 : Shape := ⟨2, ![5632, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x1024, .f32⟩
  | .hbm, ⟨3, _⟩ => ⟨S5632x1024, .f32⟩
  | .hbm, ⟨4, _⟩ => ⟨S1024x5632, .f32⟩
  | .hbm, ⟨5, _⟩ => ⟨S8448x5632, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== AdamMetaTokens.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMetaTokensRefIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn1Norm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfn1NormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn1WGateUp.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn1WGateUpRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfn1WDown.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn1WDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMixNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamMixNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S4x1024x1348 : Shape := ⟨3, ![4, 1024, 1348]⟩
abbrev S4096x1348 : Shape := ⟨2, ![4096, 1348]⟩
abbrev S512x1348 : Shape := ⟨2, ![512, 1348]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1348, .f32⟩
  | .hbm, ⟨1, _⟩ => ⟨S4x1024x1348, .f32⟩
  | .hbm, ⟨2, _⟩ => ⟨S4x1024x1348, .f32⟩
  | .hbm, ⟨3, _⟩ => ⟨S4x1024x1348, .f32⟩
  | .hbm, ⟨4, _⟩ => ⟨S4096x1348, .f32⟩
  | .hbm, ⟨5, _⟩ => ⟨S4096x1348, .f32⟩
  | .hbm, ⟨6, _⟩ => ⟨S4096x1348, .f32⟩
  | .hbm, ⟨7, _⟩ => ⟨S4096x1348, .f32⟩
  | .hbm, ⟨8, _⟩ => ⟨S4096x1348, .f32⟩
  | .hbm, ⟨9, _⟩ => ⟨S4096x1348, .f32⟩
  | .hbm, ⟨10, _⟩ => ⟨S4096x1348, .f32⟩
  | .local _ .vmem, ⟨0, _⟩ => ⟨S512x1348, .f32⟩
  | .local _ .vmem, ⟨1, _⟩ => ⟨S512x1348, .f32⟩
  | .local _ .vmem, ⟨2, _⟩ => ⟨S512x1348, .f32⟩
  | .local _ .vmem, ⟨3, _⟩ => ⟨S512x1348, .f32⟩
  | .local _ .vmem, ⟨4, _⟩ => ⟨S512x1348, .f32⟩
  | .local _ .vmem, ⟨5, _⟩ => ⟨S512x1348, .f32⟩
  | .local _ .vmem, ⟨6, _⟩ => ⟨S512x1348, .f32⟩
  | .local _ .vmem, ⟨7, _⟩ => ⟨S512x1348, .f32⟩
  | .local _ .vmem, ⟨8, _⟩ => ⟨S512x1348, .f32⟩
  | .local _ .vmem, ⟨9, _⟩ => ⟨S512x1348, .f32⟩
  | .local _ .vmem, ⟨10, _⟩ => ⟨S512x1348, .f32⟩
  | .local _ .vmem, ⟨11, _⟩ => ⟨S512x1348, .f32⟩
  | .local _ .vmem, ⟨12, _⟩ => ⟨S512x1348, .f32⟩
  | .local _ .vmem, ⟨13, _⟩ => ⟨S512x1348, .f32⟩
  | _, _ => ⟨S4x1024x1348, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1348 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1348 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1348 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1348 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1348 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1348 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1348 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S4x1024x1348 : Shape := ⟨3, ![4, 1024, 1348]⟩
abbrev S_ : Shape := ⟨0, ![]⟩
abbrev S4096x1348 : Shape := ⟨2, ![4096, 1348]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1348, .f32⟩
  | .hbm, ⟨1, _⟩ => ⟨S4x1024x1348, .f32⟩
  | .hbm, ⟨2, _⟩ => ⟨S4x1024x1348, .f32⟩
  | .hbm, ⟨3, _⟩ => ⟨S4x1024x1348, .f32⟩
  | .hbm, ⟨4, _⟩ => ⟨S_, .f32⟩
  | .hbm, ⟨5, _⟩ => ⟨S4x1024x1348, .f32⟩
  | .hbm, ⟨6, _⟩ => ⟨S4x1024x1348, .f32⟩
  | .hbm, ⟨7, _⟩ => ⟨S_, .f32⟩
  | .hbm, ⟨8, _⟩ => ⟨S4x1024x1348, .f32⟩
  | .hbm, ⟨9, _⟩ => ⟨S4x1024x1348, .f32⟩
  | .hbm, ⟨10, _⟩ => ⟨S4x1024x1348, .f32⟩
  | .hbm, ⟨11, _⟩ => ⟨S_, .f32⟩
  | .hbm, ⟨12, _⟩ => ⟨S4x1024x1348, .f32⟩
  | .hbm, ⟨13, _⟩ => ⟨S4x1024x1348, .f32⟩
  | .hbm, ⟨14, _⟩ => ⟨S4x1024x1348, .f32⟩
  | .hbm, ⟨15, _⟩ => ⟨S_, .f32⟩
  | .hbm, ⟨16, _⟩ => ⟨S4x1024x1348, .f32⟩
  | .hbm, ⟨17, _⟩ => ⟨S4x1024x1348, .f32⟩
  | .hbm, ⟨18, _⟩ => ⟨S4x1024x1348, .f32⟩
  | .hbm, ⟨19, _⟩ => ⟨S_, .f32⟩
  | .hbm, ⟨20, _⟩ => ⟨S4x1024x1348, .f32⟩
  | .hbm, ⟨21, _⟩ => ⟨S4x1024x1348, .f32⟩
  | .hbm, ⟨22, _⟩ => ⟨S_, .f32⟩
  | .hbm, ⟨23, _⟩ => ⟨S4x1024x1348, .f32⟩
  | .hbm, ⟨24, _⟩ => ⟨S4x1024x1348, .f32⟩
  | .hbm, ⟨25, _⟩ => ⟨S4x1024x1348, .f32⟩
  | .hbm, ⟨26, _⟩ => ⟨S_, .f32⟩
  | .hbm, ⟨27, _⟩ => ⟨S4x1024x1348, .f32⟩
  | .hbm, ⟨28, _⟩ => ⟨S4x1024x1348, .f32⟩
  | .hbm, ⟨29, _⟩ => ⟨S4x1024x1348, .f32⟩
  | .hbm, ⟨30, _⟩ => ⟨S_, .f32⟩
  | .hbm, ⟨31, _⟩ => ⟨S4x1024x1348, .f32⟩
  | .hbm, ⟨32, _⟩ => ⟨S4x1024x1348, .f32⟩
  | .hbm, ⟨33, _⟩ => ⟨S4x1024x1348, .f32⟩
  | .hbm, ⟨34, _⟩ => ⟨S_, .f32⟩
  | .hbm, ⟨35, _⟩ => ⟨S4x1024x1348, .f32⟩
  | .hbm, ⟨36, _⟩ => ⟨S4x1024x1348, .f32⟩
  | .hbm, ⟨37, _⟩ => ⟨S4096x1348, .f32⟩
  | .hbm, ⟨38, _⟩ => ⟨S4096x1348, .f32⟩
  | .hbm, ⟨39, _⟩ => ⟨S4096x1348, .f32⟩
  | _, _ => ⟨S4x1024x1348, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFoxForgetBias.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFoxForgetBiasRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdConvW.lean ====
abbrev S4x4x192 : Shape := ⟨3, ![4, 4, 192]⟩
abbrev S16x192 : Shape := ⟨2, ![16, 192]⟩

abbrev nBuf : Space → Nat
  | .hbm => 11
  | .vmem => 7
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S16x192, .f32⟩
  | .hbm, ⟨5, _⟩ => ⟨S16x192, .f32⟩
  | .hbm, ⟨6, _⟩ => ⟨S16x192, .f32⟩
  | .hbm, ⟨7, _⟩ => ⟨S16x192, .f32⟩
  | .hbm, ⟨8, _⟩ => ⟨S16x192, .f32⟩
  | .hbm, ⟨9, _⟩ => ⟨S16x192, .f32⟩
  | .hbm, ⟨10, _⟩ => ⟨S16x192, .f32⟩
  | .local _ .vmem, ⟨0, _⟩ => ⟨S16x192, .f32⟩
  | .local _ .vmem, ⟨1, _⟩ => ⟨S16x192, .f32⟩
  | .local _ .vmem, ⟨2, _⟩ => ⟨S16x192, .f32⟩
  | .local _ .vmem, ⟨3, _⟩ => ⟨S16x192, .f32⟩
  | .local _ .vmem, ⟨4, _⟩ => ⟨S16x192, .f32⟩
  | .local _ .vmem, ⟨5, _⟩ => ⟨S16x192, .f32⟩
  | .local _ .vmem, ⟨6, _⟩ => ⟨S16x192, .f32⟩
  | _, _ => ⟨S4x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvWRefIdeal.lean ====
abbrev S4x4x192 : Shape := ⟨3, ![4, 4, 192]⟩
abbrev S_ : Shape := ⟨0, ![]⟩
abbrev S16x192 : Shape := ⟨2, ![16, 192]⟩

abbrev nBuf : Space → Nat
  | .hbm => 40
  | .vmem => 0
  | .smem => 0
  | _ => 0

abbrev bufTy : (tb : Table) → Fin (tcTables nBuf tb) → BufTy
  | .hbm, ⟨0, _⟩ => ⟨S4x4x192, .f32⟩
  | .hbm, ⟨1, _⟩ => ⟨S4x4x192, .f32⟩
  | .hbm, ⟨2, _⟩ => ⟨S4x4x192, .f32⟩
  | .hbm, ⟨3, _⟩ => ⟨S4x4x192, .f32⟩
  | .hbm, ⟨4, _⟩ => ⟨S_, .f32⟩
  | .hbm, ⟨5, _⟩ => ⟨S4x4x192, .f32⟩
  | .hbm, ⟨6, _⟩ => ⟨S4x4x192, .f32⟩
  | .hbm, ⟨7, _⟩ => ⟨S_, .f32⟩
  | .hbm, ⟨8, _⟩ => ⟨S4x4x192, .f32⟩
  | .hbm, ⟨9, _⟩ => ⟨S4x4x192, .f32⟩
  | .hbm, ⟨10, _⟩ => ⟨S4x4x192, .f32⟩
  | .hbm, ⟨11, _⟩ => ⟨S_, .f32⟩
  | .hbm, ⟨12, _⟩ => ⟨S4x4x192, .f32⟩
  | .hbm, ⟨13, _⟩ => ⟨S4x4x192, .f32⟩
  | .hbm, ⟨14, _⟩ => ⟨S4x4x192, .f32⟩
  | .hbm, ⟨15, _⟩ => ⟨S_, .f32⟩
  | .hbm, ⟨16, _⟩ => ⟨S4x4x192, .f32⟩
  | .hbm, ⟨17, _⟩ => ⟨S4x4x192, .f32⟩
  | .hbm, ⟨18, _⟩ => ⟨S4x4x192, .f32⟩
  | .hbm, ⟨19, _⟩ => ⟨S_, .f32⟩
  | .hbm, ⟨20, _⟩ => ⟨S4x4x192, .f32⟩
  | .hbm, ⟨21, _⟩ => ⟨S4x4x192, .f32⟩
  | .hbm, ⟨22, _⟩ => ⟨S_, .f32⟩
  | .hbm, ⟨23, _⟩ => ⟨S4x4x192, .f32⟩
  | .hbm, ⟨24, _⟩ => ⟨S4x4x192, .f32⟩
  | .hbm, ⟨25, _⟩ => ⟨S4x4x192, .f32⟩
  | .hbm, ⟨26, _⟩ => ⟨S_, .f32⟩
  | .hbm, ⟨27, _⟩ => ⟨S4x4x192, .f32⟩
  | .hbm, ⟨28, _⟩ => ⟨S4x4x192, .f32⟩
  | .hbm, ⟨29, _⟩ => ⟨S4x4x192, .f32⟩
  | .hbm, ⟨30, _⟩ => ⟨S_, .f32⟩
  | .hbm, ⟨31, _⟩ => ⟨S4x4x192, .f32⟩
  | .hbm, ⟨32, _⟩ => ⟨S4x4x192, .f32⟩
  | .hbm, ⟨33, _⟩ => ⟨S4x4x192, .f32⟩
  | .hbm, ⟨34, _⟩ => ⟨S_, .f32⟩
  | .hbm, ⟨35, _⟩ => ⟨S4x4x192, .f32⟩
  | .hbm, ⟨36, _⟩ => ⟨S4x4x192, .f32⟩
  | .hbm, ⟨37, _⟩ => ⟨S16x192, .f32⟩
  | .hbm, ⟨38, _⟩ => ⟨S16x192, .f32⟩
  | .hbm, ⟨39, _⟩ => ⟨S16x192, .f32⟩
  | _, _ => ⟨S4x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdConvB.lean ====
abbrev S4x1536 : Shape := ⟨2, ![4, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S4x1536, .f32⟩
  | .hbm, ⟨5, _⟩ => ⟨S4x1536, .f32⟩
  | .hbm, ⟨6, _⟩ => ⟨S4x1536, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S4x1536, .f32⟩
  | .local _ .vmem, ⟨5, _⟩ => ⟨S4x1536, .f32⟩
  | .local _ .vmem, ⟨6, _⟩ => ⟨S4x1536, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvBRefIdeal.lean ====
abbrev S4x1536 : Shape := ⟨2, ![4, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S_, .f32⟩
  | .hbm, ⟨5, _⟩ => ⟨S4x1536, .f32⟩
  | .hbm, ⟨6, _⟩ => ⟨S4x1536, .f32⟩
  | .hbm, ⟨7, _⟩ => ⟨S_, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S_, .f32⟩
  | .hbm, ⟨23, _⟩ => ⟨S4x1536, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdDtBias.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdDtBiasRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdALog.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdALogRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdD.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdDRefIdeal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLruConvW.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruConvWRefIdeal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruConvB.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruConvBRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLruWA.lean ====
abbrev S4x16x64x64 : Shape := ⟨4, ![4, 16, 64, 64]⟩
abbrev S4096x64 : Shape := ⟨2, ![4096, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x16x64x64, .f32⟩
  | .hbm, ⟨1, _⟩ => ⟨S4x16x64x64, .f32⟩
  | .hbm, ⟨2, _⟩ => ⟨S4x16x64x64, .f32⟩
  | .hbm, ⟨3, _⟩ => ⟨S4x16x64x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLruWARefIdeal.lean ====
abbrev S4x16x64x64 : Shape := ⟨4, ![4, 16, 64, 64]⟩
abbrev S_ : Shape := ⟨0, ![]⟩
abbrev S4096x64 : Shape := ⟨2, ![4096, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64x64, .f32⟩
  | .hbm, ⟨1, _⟩ => ⟨S4x16x64x64, .f32⟩
  | .hbm, ⟨2, _⟩ => ⟨S4x16x64x64, .f32⟩
  | .hbm, ⟨3, _⟩ => ⟨S4x16x64x64, .f32⟩
  | .hbm, ⟨4, _⟩ => ⟨S_, .f32⟩
  | .hbm, ⟨5, _⟩ => ⟨S4x16x64x64, .f32⟩
  | .hbm, ⟨6, _⟩ => ⟨S4x16x64x64, .f32⟩
  | .hbm, ⟨7, _⟩ => ⟨S_, .f32⟩
  | .hbm, ⟨8, _⟩ => ⟨S4x16x64x64, .f32⟩
  | .hbm, ⟨9, _⟩ => ⟨S4x16x64x64, .f32⟩
  | .hbm, ⟨10, _⟩ => ⟨S4x16x64x64, .f32⟩
  | .hbm, ⟨11, _⟩ => ⟨S_, .f32⟩
  | .hbm, ⟨12, _⟩ => ⟨S4x16x64x64, .f32⟩
  | .hbm, ⟨13, _⟩ => ⟨S4x16x64x64, .f32⟩
  | .hbm, ⟨14, _⟩ => ⟨S4x16x64x64, .f32⟩
  | .hbm, ⟨15, _⟩ => ⟨S_, .f32⟩
  | .hbm, ⟨16, _⟩ => ⟨S4x16x64x64, .f32⟩
  | .hbm, ⟨17, _⟩ => ⟨S4x16x64x64, .f32⟩
  | .hbm, ⟨18, _⟩ => ⟨S4x16x64x64, .f32⟩
  | .hbm, ⟨19, _⟩ => ⟨S_, .f32⟩
  | .hbm, ⟨20, _⟩ => ⟨S4x16x64x64, .f32⟩
  | .hbm, ⟨21, _⟩ => ⟨S4x16x64x64, .f32⟩
  | .hbm, ⟨22, _⟩ => ⟨S_, .f32⟩
  | .hbm, ⟨23, _⟩ => ⟨S4x16x64x64, .f32⟩
  | .hbm, ⟨24, _⟩ => ⟨S4x16x64x64, .f32⟩
  | .hbm, ⟨25, _⟩ => ⟨S4x16x64x64, .f32⟩
  | .hbm, ⟨26, _⟩ => ⟨S_, .f32⟩
  | .hbm, ⟨27, _⟩ => ⟨S4x16x64x64, .f32⟩
  | .hbm, ⟨28, _⟩ => ⟨S4x16x64x64, .f32⟩
  | .hbm, ⟨29, _⟩ => ⟨S4x16x64x64, .f32⟩
  | .hbm, ⟨30, _⟩ => ⟨S_, .f32⟩
  | .hbm, ⟨31, _⟩ => ⟨S4x16x64x64, .f32⟩
  | .hbm, ⟨32, _⟩ => ⟨S4x16x64x64, .f32⟩
  | .hbm, ⟨33, _⟩ => ⟨S4x16x64x64, .f32⟩
  | .hbm, ⟨34, _⟩ => ⟨S_, .f32⟩
  | .hbm, ⟨35, _⟩ => ⟨S4x16x64x64, .f32⟩
  | .hbm, ⟨36, _⟩ => ⟨S4x16x64x64, .f32⟩
  | .hbm, ⟨37, _⟩ => ⟨S4096x64, .f32⟩
  | .hbm, ⟨38, _⟩ => ⟨S4096x64, .f32⟩
  | .hbm, ⟨39, _⟩ => ⟨S4096x64, .f32⟩
  | _, _ => ⟨S4x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruBA.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruBARefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLruWX.lean ====
abbrev S4x16x64x64 : Shape := ⟨4, ![4, 16, 64, 64]⟩
abbrev S4096x64 : Shape := ⟨2, ![4096, 64]⟩
abbrev S512x64 : Shape := ⟨2, ![512, 64]⟩

abbrev nBuf : Space → Nat
  | .hbm => 11
  | .vmem => 14
  | .smem => 0
  | _ => 0

abbrev bufTy : (tb : Table) → Fin (tcTables nBuf tb) → BufTy
  | .hbm, ⟨0, _⟩ => ⟨S4x16x64x64, .f32⟩
  | .hbm, ⟨1, _⟩ => ⟨S4x16x64x64, .f32⟩
  | .hbm, ⟨2, _⟩ => ⟨S4x16x64x64, .f32⟩
  | .hbm, ⟨3, _⟩ => ⟨S4x16x64x64, .f32⟩
  | .hbm, ⟨4, _⟩ => ⟨S4096x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | _, _ => ⟨S4x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamLruWXRefIdeal.lean ====
abbrev S4x16x64x64 : Shape := ⟨4, ![4, 16, 64, 64]⟩
abbrev S_ : Shape := ⟨0, ![]⟩
abbrev S4096x64 : Shape := ⟨2, ![4096, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64x64, .f32⟩
  | .hbm, ⟨1, _⟩ => ⟨S4x16x64x64, .f32⟩
  | .hbm, ⟨2, _⟩ => ⟨S4x16x64x64, .f32⟩
  | .hbm, ⟨3, _⟩ => ⟨S4x16x64x64, .f32⟩
  | .hbm, ⟨4, _⟩ => ⟨S_, .f32⟩
  | .hbm, ⟨5, _⟩ => ⟨S4x16x64x64, .f32⟩
  | .hbm, ⟨6, _⟩ => ⟨S4x16x64x64, .f32⟩
  | .hbm, ⟨7, _⟩ => ⟨S_, .f32⟩
  | .hbm, ⟨8, _⟩ => ⟨S4x16x64x64, .f32⟩
  | .hbm, ⟨9, _⟩ => ⟨S4x16x64x64, .f32⟩
  | .hbm, ⟨10, _⟩ => ⟨S4x16x64x64, .f32⟩
  | .hbm, ⟨11, _⟩ => ⟨S_, .f32⟩
  | .hbm, ⟨12, _⟩ => ⟨S4x16x64x64, .f32⟩
  | .hbm, ⟨13, _⟩ => ⟨S4x16x64x64, .f32⟩
  | .hbm, ⟨14, _⟩ => ⟨S4x16x64x64, .f32⟩
  | .hbm, ⟨15, _⟩ => ⟨S_, .f32⟩
  | .hbm, ⟨16, _⟩ => ⟨S4x16x64x64, .f32⟩
  | .hbm, ⟨17, _⟩ => ⟨S4x16x64x64, .f32⟩
  | .hbm, ⟨18, _⟩ => ⟨S4x16x64x64, .f32⟩
  | .hbm, ⟨19, _⟩ => ⟨S_, .f32⟩
  | .hbm, ⟨20, _⟩ => ⟨S4x16x64x64, .f32⟩
  | .hbm, ⟨21, _⟩ => ⟨S4x16x64x64, .f32⟩
  | .hbm, ⟨22, _⟩ => ⟨S_, .f32⟩
  | .hbm, ⟨23, _⟩ => ⟨S4x16x64x64, .f32⟩
  | .hbm, ⟨24, _⟩ => ⟨S4x16x64x64, .f32⟩
  | .hbm, ⟨25, _⟩ => ⟨S4x16x64x64, .f32⟩
  | .hbm, ⟨26, _⟩ => ⟨S_, .f32⟩
  | .hbm, ⟨27, _⟩ => ⟨S4x16x64x64, .f32⟩
  | .hbm, ⟨28, _⟩ => ⟨S4x16x64x64, .f32⟩
  | .hbm, ⟨29, _⟩ => ⟨S4x16x64x64, .f32⟩
  | .hbm, ⟨30, _⟩ => ⟨S_, .f32⟩
  | .hbm, ⟨31, _⟩ => ⟨S4x16x64x64, .f32⟩
  | .hbm, ⟨32, _⟩ => ⟨S4x16x64x64, .f32⟩
  | .hbm, ⟨33, _⟩ => ⟨S4x16x64x64, .f32⟩
  | .hbm, ⟨34, _⟩ => ⟨S_, .f32⟩
  | .hbm, ⟨35, _⟩ => ⟨S4x16x64x64, .f32⟩
  | .hbm, ⟨36, _⟩ => ⟨S4x16x64x64, .f32⟩
  | .hbm, ⟨37, _⟩ => ⟨S4096x64, .f32⟩
  | .hbm, ⟨38, _⟩ => ⟨S4096x64, .f32⟩
  | .hbm, ⟨39, _⟩ => ⟨S4096x64, .f32⟩
  | _, _ => ⟨S4x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLruBX.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruBXRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLruLambda.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruLambdaRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWBranchAttn.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWBranchAttnRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWBranchSsd.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWBranchSsdRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWBranchLru.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWBranchLruRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWOutRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfn2Norm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFfn2NormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn2WGateUp.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn2WGateUpRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfn2WDown.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfn2WDownRefIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFinalNorm.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalNormRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== MergeBwd.lean ====
abbrev S8448x1024 : Shape := ⟨2, ![8448, 1024]⟩
abbrev S8448x10880 : Shape := ⟨2, ![8448, 10880]⟩
abbrev S8448x3072 : Shape := ⟨2, ![8448, 3072]⟩
abbrev S384x1024 : Shape := ⟨2, ![384, 1024]⟩
abbrev S384x3072 : Shape := ⟨2, ![384, 3072]⟩

abbrev nBuf : Space → Nat
  | .hbm => 9
  | .vmem => 22
  | .smem => 0
  | _ => 0

abbrev bufTy : (tb : Table) → Fin (tcTables nBuf tb) → BufTy
  | .hbm, ⟨0, _⟩ => ⟨S8448x1024, .f32⟩
  | .hbm, ⟨1, _⟩ => ⟨S8448x10880, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .bf16⟩
  | .hbm, ⟨6, _⟩ => ⟨S8448x1024, .bf16⟩
  | .hbm, ⟨7, _⟩ => ⟨S8448x1024, .bf16⟩
  | .hbm, ⟨8, _⟩ => ⟨S8448x3072, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x3072, .bf16⟩
  | .local _ .vmem, ⟨21, _⟩ => ⟨S384x3072, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeBwdRefIdeal.lean ====
abbrev S8448x1024 : Shape := ⟨2, ![8448, 1024]⟩
abbrev S8448x10880 : Shape := ⟨2, ![8448, 10880]⟩
abbrev S8448x3072 : Shape := ⟨2, ![8448, 3072]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x10880, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x3072, .f32⟩
  | .hbm, ⟨6, _⟩ => ⟨S8448x3072, .f32⟩
  | .hbm, ⟨7, _⟩ => ⟨S8448x3072, .f32⟩
  | .hbm, ⟨8, _⟩ => ⟨S_, .f32⟩
  | .hbm, ⟨9, _⟩ => ⟨S8448x3072, .f32⟩
  | .hbm, ⟨10, _⟩ => ⟨S8448x3072, .f32⟩
  | .hbm, ⟨11, _⟩ => ⟨S_, .f32⟩
  | .hbm, ⟨12, _⟩ => ⟨S8448x3072, .f32⟩
  | .hbm, ⟨13, _⟩ => ⟨S8448x3072, .f32⟩
  | .hbm, ⟨14, _⟩ => ⟨S_, .f32⟩
  | .hbm, ⟨15, _⟩ => ⟨S8448x3072, .f32⟩
  | .hbm, ⟨16, _⟩ => ⟨S8448x3072, .f32⟩
  | .hbm, ⟨17, _⟩ => ⟨S8448x3072, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S8448x1024, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .f32⟩
  | .hbm, ⟨34, _⟩ => ⟨S8448x3072, .f32⟩
  | .hbm, ⟨35, _⟩ => ⟨S8448x3072, .f32⟩
  | .hbm, ⟨36, _⟩ => ⟨S8448x1024, .bf16⟩
  | .hbm, ⟨37, _⟩ => ⟨S8448x1024, .bf16⟩
  | .hbm, ⟨38, _⟩ => ⟨S8448x1024, .bf16⟩
  | .hbm, ⟨39, _⟩ => ⟨S8448x3072, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== NormFwd.lean ====
abbrev S8448x1024 : Shape := ⟨2, ![8448, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GnormFwd.lean ====
abbrev S8448x1024 : Shape := ⟨2, ![8448, 1024]⟩
abbrev S8448x10880 : Shape := ⟨2, ![8448, 10880]⟩
abbrev S1x1024 : Shape := ⟨2, ![1, 1024]⟩
abbrev S384x1024 : Shape := ⟨2, ![384, 1024]⟩
abbrev S384x512 : Shape := ⟨2, ![384, 512]⟩
abbrev S384 : Shape := ⟨1, ![384]⟩
abbrev S384x1 : Shape := ⟨2, ![384, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x10880, .f32⟩
  | .hbm, ⟨2, _⟩ => ⟨S1x1024, .f32⟩
  | .hbm, ⟨3, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .bf16⟩
  | .local _ .vmem, ⟨6, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GnormFwdRefIdeal.lean ====
abbrev S8448x1024 : Shape := ⟨2, ![8448, 1024]⟩
abbrev S8448x10880 : Shape := ⟨2, ![8448, 10880]⟩
abbrev S1x1024 : Shape := ⟨2, ![1, 1024]⟩
abbrev S8448x2x512 : Shape := ⟨3, ![8448, 2, 512]⟩
abbrev S_ : Shape := ⟨0, ![]⟩
abbrev S8448x2 : Shape := ⟨2, ![8448, 2]⟩
abbrev S8448x2x1 : Shape := ⟨3, ![8448, 2, 1]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x10880, .f32⟩
  | .hbm, ⟨2, _⟩ => ⟨S1x1024, .f32⟩
  | .hbm, ⟨3, _⟩ => ⟨S8448x2x512, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S8448x2x512, .f32⟩
  | .hbm, ⟨15, _⟩ => ⟨S8448x2x512, .f32⟩
  | .hbm, ⟨16, _⟩ => ⟨S8448x2x512, .f32⟩
  | .hbm, ⟨17, _⟩ => ⟨S_, .f32⟩
  | .hbm, ⟨18, _⟩ => ⟨S8448x2, .f32⟩
  | .hbm, ⟨19, _⟩ => ⟨S8448x2x1, .f32⟩
  | .hbm, ⟨20, _⟩ => ⟨S_, .f32⟩
  | .hbm, ⟨21, _⟩ => ⟨S8448x2x1, .f32⟩
  | .hbm, ⟨22, _⟩ => ⟨S8448x2x1, .f32⟩
  | .hbm, ⟨23, _⟩ => ⟨S_, .f32⟩
  | .hbm, ⟨24, _⟩ => ⟨S8448x2x1, .f32⟩
  | .hbm, ⟨25, _⟩ => ⟨S8448x2x1, .f32⟩
  | .hbm, ⟨26, _⟩ => ⟨S8448x2x1, .f32⟩
  | .hbm, ⟨27, _⟩ => ⟨S8448x2x512, .f32⟩
  | .hbm, ⟨28, _⟩ => ⟨S8448x2x512, .f32⟩
  | .hbm, ⟨29, _⟩ => ⟨S8448x1024, .f32⟩
  | .hbm, ⟨30, _⟩ => ⟨S1024, .f32⟩
  | .hbm, ⟨31, _⟩ => ⟨S1x1024, .f32⟩
  | .hbm, ⟨32, _⟩ => ⟨S8448x1024, .f32⟩
  | .hbm, ⟨33, _⟩ => ⟨S8448x1024, .f32⟩
  | .hbm, ⟨34, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== MergeFwd.lean ====
abbrev S8448x10880 : Shape := ⟨2, ![8448, 10880]⟩
abbrev S8448x1024 : Shape := ⟨2, ![8448, 1024]⟩
abbrev S384x1024 : Shape := ⟨2, ![384, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8448x10880, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .bf16⟩
  | .local _ .vmem, ⟨13, _⟩ => ⟨S384x1024, .bf16⟩
  | _, _ => ⟨S8448x10880, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeFwdRefIdeal.lean ====
abbrev S8448x10880 : Shape := ⟨2, ![8448, 10880]⟩
abbrev S8448x1024 : Shape := ⟨2, ![8448, 1024]⟩
abbrev S8448x3072 : Shape := ⟨2, ![8448, 3072]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8448x10880, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x3072, .f32⟩
  | .hbm, ⟨5, _⟩ => ⟨S8448x3072, .f32⟩
  | .hbm, ⟨6, _⟩ => ⟨S8448x3072, .f32⟩
  | .hbm, ⟨7, _⟩ => ⟨S_, .f32⟩
  | .hbm, ⟨8, _⟩ => ⟨S8448x3072, .f32⟩
  | .hbm, ⟨9, _⟩ => ⟨S8448x3072, .f32⟩
  | .hbm, ⟨10, _⟩ => ⟨S_, .f32⟩
  | .hbm, ⟨11, _⟩ => ⟨S8448x3072, .f32⟩
  | .hbm, ⟨12, _⟩ => ⟨S8448x3072, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S8448x1024, .f32⟩
  | .hbm, ⟨20, _⟩ => ⟨S8448x1024, .f32⟩
  | .hbm, ⟨21, _⟩ => ⟨S8448x1024, .bf16⟩
  | _, _ => ⟨S8448x10880, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== SumGrads.lean ====
abbrev S8x3984x1024 : Shape := ⟨3, ![8, 3984, 1024]⟩
abbrev S3984x1024 : Shape := ⟨2, ![3984, 1024]⟩
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x3984x1024, .bf16⟩
  | .hbm, ⟨1, _⟩ => ⟨S3984x1024, .f32⟩
  | .local _ .vmem, ⟨0, _⟩ => ⟨S8x48x1024, .bf16⟩
  | .local _ .vmem, ⟨1, _⟩ => ⟨S8x48x1024, .bf16⟩
  | .local _ .vmem, ⟨2, _⟩ => ⟨S48x1024, .f32⟩
  | .local _ .vmem, ⟨3, _⟩ => ⟨S48x1024, .f32⟩
  | _, _ => ⟨S8x3984x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![83], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x48x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumGradsRefIdeal.lean ====
abbrev S8x3984x1024 : Shape := ⟨3, ![8, 3984, 1024]⟩
abbrev S_ : Shape := ⟨0, ![]⟩
abbrev S3984x1024 : Shape := ⟨2, ![3984, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x3984x1024, .bf16⟩
  | .hbm, ⟨1, _⟩ => ⟨S8x3984x1024, .f32⟩
  | .hbm, ⟨2, _⟩ => ⟨S_, .f32⟩
  | .hbm, ⟨3, _⟩ => ⟨S3984x1024, .f32⟩
  | _, _ => ⟨S8x3984x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Lru.Affine.lean ====
/-
  The arithmetic that the linear recurrence's backward pass rests on, on extended reals: the composition of the steps `c ↦ x + b·c`, and
  the gates' and the decay's formulas, each as the kernel and as the reference spell it.
-/
module

public import Idealize.ShloMosaic.PureOps.Ideal

@[expose] public section

noncomputable section

namespace Cert.Lru

open Idealize.ShloMosaic

/-! ## Composing steps -/

/-- `n` steps `c ↦ x + b·c`, the one at place `y` last. -/
def lin (b x : ℕ → EReal) : ℕ → ℕ → EReal → EReal
  | 0, _, c => c
  | n + 1, y, c => x y + b y * lin b x n (y + 1) c

theorem lin_add (b x : ℕ → EReal) (c : EReal) (n : ℕ) : ∀ m y, lin b x (m + n) y c = lin b x m y (lin b x n (y + m) c)
  | 0, y => by rw [Nat.zero_add, Nat.add_zero]; rfl
  | m + 1, y => by
    rw [show m + 1 + n = (m + n) + 1 by omega]
    show x y + b y * lin b x (m + n) (y + 1) c = x y + b y * lin b x m (y + 1) (lin b x n (y + (m + 1)) c)
    rw [lin_add b x c n m (y + 1), show y + 1 + m = y + (m + 1) by omega]

theorem lin_congr (b x b' x' : ℕ → EReal) (c : EReal) : ∀ n y y', (∀ i < n, b (y + i) = b' (y' + i) ∧ x (y + i) = x' (y' + i)) →
    lin b x n y c = lin b' x' n y' c
  | 0, _, _, _ => rfl
  | n + 1, y, y', h => by
    have h0 := h 0 (Nat.succ_pos n)
    rw [Nat.add_zero, Nat.add_zero] at h0
    show x y + b y * lin b x n (y + 1) c = x' y' + b' y' * lin b' x' n (y' + 1) c
    rw [h0.1, h0.2, lin_congr b x b' x' c n (y + 1) (y' + 1) fun i hi => by
      have := h (i + 1) (Nat.succ_lt_succ hi)
      rwa [show y + 1 + i = y + (i + 1) by omega, show y' + 1 + i = y' + (i + 1) by omega]]

/-- A decay: nonnegative and finite. -/
def Decay (b : EReal) : Prop := 0 ≤ b ∧ b ≠ ⊤

theorem Decay.mul {a b : EReal} (ha : Decay a) (hb : Decay b) : Decay (a * b) := by
  obtain ⟨ha, ha'⟩ := ha
  obtain ⟨hb, hb'⟩ := hb
  lift a to ℝ using ⟨ha', fun h => absurd (h ▸ ha) (by simp)⟩
  lift b to ℝ using ⟨hb', fun h => absurd (h ▸ hb) (by simp)⟩
  refine ⟨mul_nonneg ha hb, ?_⟩
  rw [← EReal.coe_mul]
  exact EReal.coe_ne_top _

theorem compose {b : EReal} (hb : Decay b) (d d' b' c : EReal) : (d + b * d') + (b * b') * c = d + b * (d' + b' * c) := by
  rw [EReal.left_distrib_of_nonneg_of_ne_top hb.1 hb.2, mul_assoc, add_assoc]

/-- The pair `(d, p)` holds, at every place, the composition of `s` steps, cut at the end of the group of eight. -/
def Stage (b x : ℕ → EReal) (s : ℕ) (d p : ℕ → EReal) : Prop :=
  ∀ y, Decay (p y) ∧ ∀ c, d y + p y * c = lin b x (min s (8 - y % 8)) y c

theorem stage_one (b x : ℕ → EReal) (hb : ∀ y, Decay (b y)) : Stage b x 1 x b := fun y => ⟨hb y, fun c => by
  rw [show min 1 (8 - y % 8) = 1 by omega]; rfl⟩

/-- One doubling. -/
theorem Stage.double {b x : ℕ → EReal} {s : ℕ} {d p d' p' : ℕ → EReal} (h : Stage b x s d p) (hs : 0 < s) (hs' : s < 8)
    (hd : ∀ y, d' y = if y % 8 < 8 - s then d y + p y * d (y + s) else d y)
    (hp : ∀ y, p' y = if y % 8 < 8 - s then p y * p (y + s) else p y) : Stage b x (2 * s) d' p' := fun y => by
  rw [hd, hp]
  by_cases hy : y % 8 < 8 - s
  · rw [if_pos hy, if_pos hy]
    refine ⟨(h y).1.mul (h (y + s)).1, fun c => ?_⟩
    have hm : (y + s) % 8 = y % 8 + s := by omega
    rw [compose (h y).1, (h (y + s)).2, (h y).2, show min s (8 - y % 8) = s by omega, ← lin_add, hm]
    congr 1
    omega
  · rw [if_neg hy, if_neg hy]
    refine ⟨(h y).1, fun c => ?_⟩
    rw [(h y).2]
    congr 1
    omega

theorem emax (a b : ℝ) : ((max a b : ℝ) : EReal) = max (a : EReal) (b : EReal) :=
  (EReal.coe_strictMono.monotone.map_max : _)
theorem emin (a b : ℝ) : ((min a b : ℝ) : EReal) = min (a : EReal) (b : EReal) :=
  (EReal.coe_strictMono.monotone.map_min : _)

/-! ## The decay -/

theorem decay_exp {z : EReal} (hz : z ≠ ⊤) : Decay (Ideal.exp z) := by
  induction z with
  | bot => exact ⟨le_rfl, EReal.zero_ne_top⟩
  | top => exact absurd rfl hz
  | coe r => exact ⟨EReal.coe_nonneg.mpr (Real.exp_pos r).le, EReal.coe_ne_top _⟩

theorem decay_zero : Decay 0 := ⟨le_rfl, EReal.zero_ne_top⟩

/-! ## The formulas -/

/-- The logistic function, as both programs compute it. -/
def sg (z : EReal) : EReal := Ideal.div 1 (1 + Ideal.exp (-z))

theorem sg_real (z : EReal) : ∃ r : ℝ, sg z = r := by
  change ∃ r : ℝ, Ideal.logistic z = r
  induction z with
  | bot => exact ⟨0, by rw [Ideal.logistic_bot]; rfl⟩
  | top => exact ⟨1, by rw [Ideal.logistic_top]; rfl⟩
  | coe r => exact ⟨_, Ideal.logistic_coe r⟩

/-- The logarithm of the logistic function, as the reference computes it. -/
def ls (z : EReal) : EReal := -(max (-z) 0 + Ideal.log1p (Ideal.exp (-(max (-z) (-(-z))))))

theorem ls_coe (z : ℝ) : ls z = ((min z 0 - Real.log (1 + Real.exp (-|z|)) : ℝ) : EReal) := by
  have h1 : max (-(z : EReal)) (-(-(z : EReal))) = ((|z| : ℝ) : EReal) := by
    rw [neg_neg, ← EReal.coe_neg, ← emax, max_comm]; rfl
  have hp : (0 : ℝ) < 1 + Real.exp (-|z|) := by positivity
  unfold ls
  rw [h1, ← EReal.coe_neg, ← EReal.coe_neg, Ideal.exp_coe, Ideal.log1p, ← EReal.coe_one, ← EReal.coe_add, Ideal.log_coe,
    if_neg (not_le.mpr hp), ← EReal.coe_zero, ← emax, ← EReal.coe_add, ← EReal.coe_neg]
  congr 1
  rcases le_total z 0 with h | h
  · rw [max_eq_left (by linarith), min_eq_left h]; ring
  · rw [max_eq_right (by linarith), min_eq_right h]; ring

/-- The logarithm of the logistic function, as the kernel computes it. -/
def lsE (z e s : EReal) : EReal := min z 0 - (if s = 1 then e else Ideal.log s * Ideal.div e (if s = 1 then 1 else s - 1))
/-- The same, of the input alone. -/
def lsK (z : EReal) : EReal := lsE z (Ideal.exp (0 - max z (-z))) (1 + Ideal.exp (0 - max z (-z)))

theorem lsK_coe (z : ℝ) : lsK z = ls z := by
  have h1 : max (z : EReal) (-(z : EReal)) = ((|z| : ℝ) : EReal) := by
    rw [← EReal.coe_neg, ← emax]; rfl
  have hp : (0 : ℝ) < Real.exp (-|z|) := Real.exp_pos _
  have hs : (1 : EReal) + (Real.exp (-|z|) : EReal) = ((1 + Real.exp (-|z|) : ℝ) : EReal) := by
    rw [← EReal.coe_one, ← EReal.coe_add]
  have hne : ((1 + Real.exp (-|z|) : ℝ) : EReal) ≠ 1 := by
    rw [← EReal.coe_one]; intro h; have := EReal.coe_injective h; linarith
  have hd : ((1 + Real.exp (-|z|) : ℝ) : EReal) - 1 = (Real.exp (-|z|) : EReal) := by
    rw [← EReal.coe_one, ← EReal.coe_sub]; congr 1; ring
  have he : (Real.exp (-|z|) : EReal) ≠ 0 := by
    rw [← EReal.coe_zero]; intro h; have := EReal.coe_injective h; linarith
  rw [ls_coe]
  rw [lsK, h1, zero_sub, ← EReal.coe_neg, Ideal.exp_coe, hs, lsE, if_neg hne, if_neg hne, hd, Ideal.div, if_neg he, ← EReal.coe_inv, ← EReal.coe_mul,
    mul_inv_cancel₀ hp.ne', EReal.coe_one, mul_one, Ideal.log_coe, if_neg (not_le.mpr (by linarith)), ← EReal.coe_zero, ← emin,
    ← EReal.coe_sub]

/-- One minus an exponential, as the kernel computes it. -/
def omE (y e : EReal) : EReal :=
  if e = 1 then 0 - y else Ideal.div ((1 - e) * y) (Ideal.log (if e = 1 then ((1/2 : ℝ) : EReal) else e))

/-- The same, of the exponent alone. -/
def omK (y : EReal) : EReal := omE y (Ideal.exp y)

theorem omK_coe (y : ℝ) : omK y = -(Ideal.exp y - 1) := by
  rw [omK, Ideal.exp_coe, omE]
  by_cases h : y = 0
  · subst h
    have h1 : (Real.exp 0 : EReal) = 1 := by rw [Real.exp_zero, EReal.coe_one]
    rw [if_pos h1, h1, ← EReal.coe_one, ← EReal.coe_sub, ← EReal.coe_zero, ← EReal.coe_sub, ← EReal.coe_neg]
    congr 1; ring
  · have hne : (Real.exp y : EReal) ≠ 1 := by
      rw [← EReal.coe_one]; intro e
      exact h ((Real.exp_eq_one_iff y).mp (EReal.coe_injective e))
    have hy : (y : EReal) ≠ 0 := by
      rw [← EReal.coe_zero]; exact fun e => h (EReal.coe_injective e)
    rw [if_neg hne, if_neg hne, Ideal.log_coe, if_neg (not_le.mpr (Real.exp_pos y)), Real.log_exp, Ideal.div, if_neg hy,
      ← EReal.coe_one, ← EReal.coe_sub, ← EReal.coe_mul, ← EReal.coe_inv, ← EReal.coe_mul, ← EReal.coe_sub, ← EReal.coe_neg]
    congr 1
    field_simp
    ring

/-- The exact tanh form of the gate, as the reference computes it. -/
def gelu (k0 k1 k2 g : EReal) : EReal := g * (k2 * (1 + Ideal.tanh (k1 * (g + k0 * (g * g * g)))))

end Cert.Lru

end
-- ==== Proof.Lru.FwdFirst.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first of its row of tiles. -/
abbrev startsRow (i : grid0.Coords) : Prop := (Scalar.cmpi .ne (Scalar.extui (Scalar.cmpi .eq (BitVec.ofNat 32 (i 2).val) 0#32)) 0#32) = 1#1

set_option maxHeartbeats 4000000 in
/-- The forward body at the first tile of a sequence: what its stores leave, as pieces. -/
noncomputable def fwdFirst (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i)
    (x0 : Vec F S1x384x512 .f32) (x1 : Vec F S1x384x512 .f32) (x2 : Vec F S1x384x512 .f32) (x3 : Vec F S1x384x512 .f32) (x4 : Vec F S8x512 .f32) (x_arg9 : Vec F S1x384x512 .f32) :
    Σ' (L_arg8 : List (View.Piece (Elt F) S1x384x512 .bf16)), Σ' (L_arg9 : List (View.Piece (Elt F) S1x384x512 .f32)), Σ' (L_arg10 : List (View.Piece (Elt F) S1x384x512 .f32)), { L_arg13 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x_arg9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, (arg8.view.loc (c : Thread nD τ) ↦[arg8.view.set]{fullShare} arg8.view.writes (Elt F) f L_arg8)) ∗ (arg9.view.loc (c : Thread nD τ) ↦[arg9.view.set]{fullShare} arg9.view.writes (Elt F) (harg9.unread x_arg9) L_arg9) ∗ (∃ f, (arg10.view.loc (c : Thread nD τ) ↦[arg10.view.set]{fullShare} arg10.view.writes (Elt F) f L_arg10)) ∗ (∃ d, owns (c : Thread nD τ) arg11 fullShare d) ∗ (∃ d, owns (c : Thread nD τ) arg12 fullShare d) ∗ (∃ f, (arg13.view.loc (c : Thread nD τ) ↦[arg13.view.set]{fullShare} arg13.view.writes (Elt F) f L_arg13))) -∗ K ⟨⟩))
          ⊢ wp frame (wpE (defs₀ (F := F)) Variants.none c none) E (cc0_lru_fwd i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_lru_fwd_eq_skeleton]; unfold cc0_lru_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%darg8, %farg8, -, Harg8⟩, ⟨%farg9, %hfarg9, Harg9⟩, ⟨%darg10, %farg10, -, Harg10⟩, ⟨%darg11, %farg11, -, Harg11⟩, ⟨%darg12, %farg12, -, Harg12⟩, ⟨%darg13, %farg13, -, Harg13⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfarg9
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [Harg8]
    · iexists _; iexact Harg8
    isplitl [Harg9]
    · iexact Harg9
    isplitl [Harg10]
    · iexists _; iexact Harg10
    isplitl [Harg11]
    · iexists _, _; isplitr; swap; · iexact Harg11
      ipureintro; rfl
    isplitl [Harg12]
    · iexists _, _; isplitr; swap; · iexact Harg12
      ipureintro; rfl
    iexists _; iexact Harg13

end Cert.KernelIdeal.Lru

end
-- ==== Proof.Lru.FwdNext.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.FwdFirst
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The forward body at a later tile, entered with the state the tile before left: what its stores leave, as pieces. -/
noncomputable def fwdNext (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i)
    (x0 : Vec F S1x384x512 .f32) (x1 : Vec F S1x384x512 .f32) (x2 : Vec F S1x384x512 .f32) (x3 : Vec F S1x384x512 .f32) (x4 : Vec F S8x512 .f32) (x_arg9 : Vec F S1x384x512 .f32) (x_arg13 : Vec F S1x512 .f32) :
    Σ' (L_arg8 : List (View.Piece (Elt F) S1x384x512 .bf16)), Σ' (L_arg9 : List (View.Piece (Elt F) S1x384x512 .f32)), Σ' (L_arg10 : List (View.Piece (Elt F) S1x384x512 .f32)), { L_arg13 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x_arg9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x_arg13
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, (arg8.view.loc (c : Thread nD τ) ↦[arg8.view.set]{fullShare} arg8.view.writes (Elt F) f L_arg8)) ∗ (arg9.view.loc (c : Thread nD τ) ↦[arg9.view.set]{fullShare} arg9.view.writes (Elt F) (harg9.unread x_arg9) L_arg9) ∗ (∃ f, (arg10.view.loc (c : Thread nD τ) ↦[arg10.view.set]{fullShare} arg10.view.writes (Elt F) f L_arg10)) ∗ (∃ d, owns (c : Thread nD τ) arg11 fullShare d) ∗ (∃ d, owns (c : Thread nD τ) arg12 fullShare d) ∗ (arg13.view.loc (c : Thread nD τ) ↦[arg13.view.set]{fullShare} arg13.view.writes (Elt F) (harg13.unread x_arg13) L_arg13)) -∗ K ⟨⟩))
          ⊢ wp frame (wpE (defs₀ (F := F)) Variants.none c none) E (cc0_lru_fwd i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_lru_fwd_eq_skeleton]; unfold cc0_lru_fwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%darg8, %farg8, -, Harg8⟩, ⟨%farg9, %hfarg9, Harg9⟩, ⟨%darg10, %farg10, -, Harg10⟩, ⟨%darg11, %farg11, -, Harg11⟩, ⟨%darg12, %farg12, -, Harg12⟩, ⟨%farg13, %hfarg13, Harg13⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfarg9; obtain rfl := harg13.eq_unread hfarg13
    sl_exec (disch := first | sl_exact hc)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [Harg8]
    · iexists _; iexact Harg8
    isplitl [Harg9]
    · iexact Harg9
    isplitl [Harg10]
    · iexists _; iexact Harg10
    isplitl [Harg11]
    · iexists _, _; isplitr; swap; · iexact Harg11
      ipureintro; rfl
    isplitl [Harg12]
    · iexists _, _; isplitr; swap; · iexact Harg12
      ipureintro; rfl
    iexact Harg13

end Cert.KernelIdeal.Lru

end
-- ==== Proof.Lru.BwdFirst.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.FwdNext
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first of its column of tiles. -/
abbrev startsCol (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The point is the first of its sequence's tiles (the sequence's last tile: the gradient runs backward). -/
abbrev startsSeq (i : grid1.Coords) : Prop := (Scalar.cmpi .ne (Scalar.extui (Scalar.cmpi .eq (BitVec.ofNat 32 (i 2).val) 0#32)) 0#32) = 1#1

set_option maxHeartbeats 4000000 in
/-- The backward body at the first tile of a column: what its stores leave, as pieces. -/
noncomputable def bwdFirst (c : Dev nD) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (hc0 : startsCol i) (hc1 : startsSeq i)
    (x0 : Vec F S1x384x512 .f32) (x1 : Vec F S1x384x512 .f32) (x2 : Vec F S1x384x512 .f32) (x3 : Vec F S1x8x512 .f32) (x4 : Vec F S1x384x512 .f32) (x5 : Vec F S1x8x512 .f32) (x6 : Vec F S1x384x512 .f32) (x7 : Vec F S1x384x512 .f32) (x8 : Vec F S1x384x512 .f32) (x9 : Vec F S8x512 .f32) (x_arg20 : Vec F S384x512 .f32) :
    Σ' (L_arg13 : List (View.Piece (Elt F) S1x384x512 .bf16)), Σ' (L_arg14 : List (View.Piece (Elt F) S1x384x512 .bf16)), Σ' (L_arg15 : List (View.Piece (Elt F) S1x384x512 .bf16)), Σ' (L_arg16 : List (View.Piece (Elt F) S1x384x512 .f32)), Σ' (L_arg17 : List (View.Piece (Elt F) S8x512 .f32)), { L_arg21 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare x_arg20 ∗ (∃ d, owns (c : Thread nD τ) arg21 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, (arg13.view.loc (c : Thread nD τ) ↦[arg13.view.set]{fullShare} arg13.view.writes (Elt F) f L_arg13)) ∗ (∃ f, (arg14.view.loc (c : Thread nD τ) ↦[arg14.view.set]{fullShare} arg14.view.writes (Elt F) f L_arg14)) ∗ (∃ f, (arg15.view.loc (c : Thread nD τ) ↦[arg15.view.set]{fullShare} arg15.view.writes (Elt F) f L_arg15)) ∗ (∃ f, (arg16.view.loc (c : Thread nD τ) ↦[arg16.view.set]{fullShare} arg16.view.writes (Elt F) f L_arg16)) ∗ (∃ f, (arg17.view.loc (c : Thread nD τ) ↦[arg17.view.set]{fullShare} arg17.view.writes (Elt F) f L_arg17)) ∗ (∃ d, owns (c : Thread nD τ) arg18 fullShare d) ∗ (∃ d, owns (c : Thread nD τ) arg19 fullShare d) ∗ (∃ d, owns (c : Thread nD τ) arg20 fullShare d) ∗ (∃ f, (arg21.view.loc (c : Thread nD τ) ↦[arg21.view.set]{fullShare} arg21.view.writes (Elt F) f L_arg21))) -∗ K ⟨⟩))
          ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc1_lru_bwd_eq_skeleton]; unfold cc1_lru_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%darg13, %farg13, -, Harg13⟩, ⟨%darg14, %farg14, -, Harg14⟩, ⟨%darg15, %farg15, -, Harg15⟩, ⟨%darg16, %farg16, -, Harg16⟩, ⟨%darg17, %farg17, -, Harg17⟩, ⟨%darg18, %farg18, -, Harg18⟩, ⟨%darg19, %farg19, -, Harg19⟩, ⟨%farg20, %hfarg20, Harg20⟩, ⟨%darg21, %farg21, -, Harg21⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg20.eq_unread hfarg20
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [Harg13]
    · iexists _; iexact Harg13
    isplitl [Harg14]
    · iexists _; iexact Harg14
    isplitl [Harg15]
    · iexists _; iexact Harg15
    isplitl [Harg16]
    · iexists _; iexact Harg16
    isplitl [Harg17]
    · iexists _; iexact Harg17
    isplitl [Harg18]
    · iexists _, _; isplitr; swap; · iexact Harg18
      ipureintro; rfl
    isplitl [Harg19]
    · iexists _, _; isplitr; swap; · iexact Harg19
      ipureintro; rfl
    isplitl [Harg20]
    · iexists _, _; isplitr; swap; · iexact Harg20
      ipureintro; rfl
    iexists _; iexact Harg21

end Cert.KernelIdeal.Lru

end
-- ==== Proof.Lru.BwdTurn.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.BwdFirst
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The backward body at the first tile of a column's second sequence: what its stores leave, as pieces. -/
noncomputable def bwdTurn (c : Dev nD) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (hc0 : ¬startsCol i) (hc1 : startsSeq i)
    (x0 : Vec F S1x384x512 .f32) (x1 : Vec F S1x384x512 .f32) (x2 : Vec F S1x384x512 .f32) (x3 : Vec F S1x8x512 .f32) (x4 : Vec F S1x384x512 .f32) (x5 : Vec F S1x8x512 .f32) (x6 : Vec F S1x384x512 .f32) (x7 : Vec F S1x384x512 .f32) (x8 : Vec F S1x384x512 .f32) (x9 : Vec F S8x512 .f32) (x_arg17 : Vec F S8x512 .f32) (x_arg20 : Vec F S384x512 .f32) :
    Σ' (L_arg13 : List (View.Piece (Elt F) S1x384x512 .bf16)), Σ' (L_arg14 : List (View.Piece (Elt F) S1x384x512 .bf16)), Σ' (L_arg15 : List (View.Piece (Elt F) S1x384x512 .bf16)), Σ' (L_arg16 : List (View.Piece (Elt F) S1x384x512 .f32)), Σ' (L_arg17 : List (View.Piece (Elt F) S8x512 .f32)), { L_arg21 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x_arg17 ∗ (∃ d, owns (c : Thread nD τ) arg18 fullShare d) ∗ (∃ d, owns (c : Thread nD τ) arg19 fullShare d) ∗ owns (c : Thread nD τ) arg20 fullShare x_arg20 ∗ (∃ d, owns (c : Thread nD τ) arg21 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, (arg13.view.loc (c : Thread nD τ) ↦[arg13.view.set]{fullShare} arg13.view.writes (Elt F) f L_arg13)) ∗ (∃ f, (arg14.view.loc (c : Thread nD τ) ↦[arg14.view.set]{fullShare} arg14.view.writes (Elt F) f L_arg14)) ∗ (∃ f, (arg15.view.loc (c : Thread nD τ) ↦[arg15.view.set]{fullShare} arg15.view.writes (Elt F) f L_arg15)) ∗ (∃ f, (arg16.view.loc (c : Thread nD τ) ↦[arg16.view.set]{fullShare} arg16.view.writes (Elt F) f L_arg16)) ∗ (arg17.view.loc (c : Thread nD τ) ↦[arg17.view.set]{fullShare} arg17.view.writes (Elt F) (harg17.unread x_arg17) L_arg17) ∗ (∃ d, owns (c : Thread nD τ) arg18 fullShare d) ∗ (∃ d, owns (c : Thread nD τ) arg19 fullShare d) ∗ (∃ d, owns (c : Thread nD τ) arg20 fullShare d) ∗ (∃ f, (arg21.view.loc (c : Thread nD τ) ↦[arg21.view.set]{fullShare} arg21.view.writes (Elt F) f L_arg21))) -∗ K ⟨⟩))
          ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc1_lru_bwd_eq_skeleton]; unfold cc1_lru_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%darg13, %farg13, -, Harg13⟩, ⟨%darg14, %farg14, -, Harg14⟩, ⟨%darg15, %farg15, -, Harg15⟩, ⟨%darg16, %farg16, -, Harg16⟩, ⟨%farg17, %hfarg17, Harg17⟩, ⟨%darg18, %farg18, -, Harg18⟩, ⟨%darg19, %farg19, -, Harg19⟩, ⟨%farg20, %hfarg20, Harg20⟩, ⟨%darg21, %farg21, -, Harg21⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfarg17; obtain rfl := harg20.eq_unread hfarg20
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [Harg13]
    · iexists _; iexact Harg13
    isplitl [Harg14]
    · iexists _; iexact Harg14
    isplitl [Harg15]
    · iexists _; iexact Harg15
    isplitl [Harg16]
    · iexists _; iexact Harg16
    isplitl [Harg17]
    · iexact Harg17
    isplitl [Harg18]
    · iexists _, _; isplitr; swap; · iexact Harg18
      ipureintro; rfl
    isplitl [Harg19]
    · iexists _, _; isplitr; swap; · iexact Harg19
      ipureintro; rfl
    isplitl [Harg20]
    · iexists _, _; isplitr; swap; · iexact Harg20
      ipureintro; rfl
    iexists _; iexact Harg21

end Cert.KernelIdeal.Lru

end
-- ==== Proof.Lru.BwdNext.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.BwdTurn
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The backward body at a later tile, entered with the gradient the tile before left: what its stores leave, as pieces. -/
noncomputable def bwdNext (c : Dev nD) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (hc0 : ¬startsCol i) (hc1 : ¬startsSeq i)
    (x0 : Vec F S1x384x512 .f32) (x1 : Vec F S1x384x512 .f32) (x2 : Vec F S1x384x512 .f32) (x3 : Vec F S1x8x512 .f32) (x4 : Vec F S1x384x512 .f32) (x5 : Vec F S1x8x512 .f32) (x6 : Vec F S1x384x512 .f32) (x7 : Vec F S1x384x512 .f32) (x8 : Vec F S1x384x512 .f32) (x9 : Vec F S8x512 .f32) (x_arg17 : Vec F S8x512 .f32) (x_arg20 : Vec F S384x512 .f32) (x_arg21 : Vec F S1x512 .f32) :
    Σ' (L_arg13 : List (View.Piece (Elt F) S1x384x512 .bf16)), Σ' (L_arg14 : List (View.Piece (Elt F) S1x384x512 .bf16)), Σ' (L_arg15 : List (View.Piece (Elt F) S1x384x512 .bf16)), Σ' (L_arg16 : List (View.Piece (Elt F) S1x384x512 .f32)), Σ' (L_arg17 : List (View.Piece (Elt F) S8x512 .f32)), { L_arg21 : List (View.Piece (Elt F) S1x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x_arg17 ∗ (∃ d, owns (c : Thread nD τ) arg18 fullShare d) ∗ (∃ d, owns (c : Thread nD τ) arg19 fullShare d) ∗ owns (c : Thread nD τ) arg20 fullShare x_arg20 ∗ owns (c : Thread nD τ) arg21 fullShare x_arg21
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, (arg13.view.loc (c : Thread nD τ) ↦[arg13.view.set]{fullShare} arg13.view.writes (Elt F) f L_arg13)) ∗ (∃ f, (arg14.view.loc (c : Thread nD τ) ↦[arg14.view.set]{fullShare} arg14.view.writes (Elt F) f L_arg14)) ∗ (∃ f, (arg15.view.loc (c : Thread nD τ) ↦[arg15.view.set]{fullShare} arg15.view.writes (Elt F) f L_arg15)) ∗ (∃ f, (arg16.view.loc (c : Thread nD τ) ↦[arg16.view.set]{fullShare} arg16.view.writes (Elt F) f L_arg16)) ∗ (arg17.view.loc (c : Thread nD τ) ↦[arg17.view.set]{fullShare} arg17.view.writes (Elt F) (harg17.unread x_arg17) L_arg17) ∗ (∃ d, owns (c : Thread nD τ) arg18 fullShare d) ∗ (∃ d, owns (c : Thread nD τ) arg19 fullShare d) ∗ (∃ d, owns (c : Thread nD τ) arg20 fullShare d) ∗ (arg21.view.loc (c : Thread nD τ) ↦[arg21.view.set]{fullShare} arg21.view.writes (Elt F) (harg21.unread x_arg21) L_arg21)) -∗ K ⟨⟩))
          ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc1_lru_bwd_eq_skeleton]; unfold cc1_lru_bwd_skel
    simp only [k1_part1_eq_skeleton, k1_part2_eq_skeleton, k1_part3_eq_skeleton, k1_part4_eq_skeleton, k1_part5_eq_skeleton, k1_part6_eq_skeleton, k1_part7_eq_skeleton, k1_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%darg13, %farg13, -, Harg13⟩, ⟨%darg14, %farg14, -, Harg14⟩, ⟨%darg15, %farg15, -, Harg15⟩, ⟨%darg16, %farg16, -, Harg16⟩, ⟨%farg17, %hfarg17, Harg17⟩, ⟨%darg18, %farg18, -, Harg18⟩, ⟨%darg19, %farg19, -, Harg19⟩, ⟨%farg20, %hfarg20, Harg20⟩, ⟨%farg21, %hfarg21, Harg21⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg17.eq_unread hfarg17; obtain rfl := harg20.eq_unread hfarg20; obtain rfl := harg21.eq_unread hfarg21
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [Harg13]
    · iexists _; iexact Harg13
    isplitl [Harg14]
    · iexists _; iexact Harg14
    isplitl [Harg15]
    · iexists _; iexact Harg15
    isplitl [Harg16]
    · iexists _; iexact Harg16
    isplitl [Harg17]
    · iexact Harg17
    isplitl [Harg18]
    · iexists _, _; isplitr; swap; · iexact Harg18
      ipureintro; rfl
    isplitl [Harg19]
    · iexists _, _; isplitr; swap; · iexact Harg19
      ipureintro; rfl
    isplitl [Harg20]
    · iexists _, _; isplitr; swap; · iexact Harg20
      ipureintro; rfl
    iexact Harg21

end Cert.KernelIdeal.Lru

end
-- ==== Proof.Lru.BwdLoop.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section bwd

/-- Eight rows of a tile: those that trip `k` of the backward loop reads. -/
def bwdRows (x : Vec F S384x512 .f32) (k : Fin k1_t1_loop.trips) : Vec F S8x512 .f32 :=
  fun y => x ((Rect.unit (s := S384x512) (k1_off1 k) S8x512.size (k1_off1_inb k)).toLoadRect.idx y)

/-- The row carried into trip `k` of the backward loop. -/
def bwdCarry (p d : Vec F S384x512 .f32) (c : Vec F S1x512 .f32) : ℕ → Vec F S1x512 .f32
  | 0 => c
  | k + 1 => if h : k < k1_t1_loop.trips then k1_pay26 (bwdCarry p d c k) (bwdRows d ⟨k, h⟩) (bwdRows p ⟨k, h⟩) else bwdCarry p d c k

/-- What trip `k` of the backward loop stores. -/
def bwdPiece (p d : Vec F S384x512 .f32) (c : Vec F S1x512 .f32) (k : Fin k1_t1_loop.trips) : View.Piece (Elt F) S384x512 .f32 :=
  ⟨Rect.unit (s := S384x512) (k1_off1 k) S8x512.size (k1_off1_inb k), k1_pay25 (bwdCarry p d c k) (bwdRows d k) (bwdRows p k)⟩

/-- What the trips before `k` of the backward loop store. -/
def bwdPieces (p d : Vec F S384x512 .f32) (c : Vec F S1x512 .f32) : ℕ → List (View.Piece (Elt F) S384x512 .f32)
  | 0 => []
  | k + 1 => if h : k < k1_t1_loop.trips then bwdPiece p d c ⟨k, h⟩ :: bwdPieces p d c k else bwdPieces p d c k

set_option maxHeartbeats 1000000 in
/-- The backward loop's state is the row carried and the pieces stored, of the two tiles it reads. -/
theorem bwd_state (𝒱 : Variants) (c : Dev nD) (bd : Option 𝒱.V) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (v0 : BitVec 32) (v9 : IVec S384x1 32) (v93 : IVec S384x1 32) (v114 : FVec F S384x512 .f32) (v119 : FVec F S384x512 .f32) (c4_i32 : BitVec 32) (X_arg18 : BufTy.Contents (Elt F) arg18.view.ty) (X_arg19 : BufTy.Contents (Elt F) arg19.view.ty)
    (init : Vec F S1x512 .f32) (k : ℕ) (hk : k ≤ k1_t1_loop.trips) :
    st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v9 v93 v114 v119 c4_i32 X_arg18 X_arg19 init k
      = (bwdCarry (arg18.view.read (Elt F) X_arg18) (arg19.view.read (Elt F) X_arg19) init k,
         bwdPieces (arg18.view.read (Elt F) X_arg18) (arg19.view.read (Elt F) X_arg19) init k) := by
  induction k with
  | zero => rfl
  | succ k ih =>
    rw [st_k1_t1_succ 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v9 v93 v114 v119 c4_i32 X_arg18 X_arg19 init ⟨k, hk⟩, ih (Nat.le_of_succ_le hk)]
    simp only [bwdCarry, bwdPieces, dif_pos (show k < k1_t1_loop.trips from hk)]
    unfold tripR_k1_t1 tripL_k1_t1 trip_k1_t1
    rfl

/-- That state at the end of the loop. -/
theorem bwd_end (𝒱 : Variants) (c : Dev nD) (bd : Option 𝒱.V) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (v0 : BitVec 32) (v9 : IVec S384x1 32) (v93 : IVec S384x1 32) (v114 : FVec F S384x512 .f32) (v119 : FVec F S384x512 .f32) (c4_i32 : BitVec 32) (X_arg18 : BufTy.Contents (Elt F) arg18.view.ty) (X_arg19 : BufTy.Contents (Elt F) arg19.view.ty)
    (init : Vec F S1x512 .f32) :
    st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v9 v93 v114 v119 c4_i32 X_arg18 X_arg19 init (Scf.trips k1_t1_loop.lb k1_t1_loop.ub k1_t1_loop.st)
      = (bwdCarry (arg18.view.read (Elt F) X_arg18) (arg19.view.read (Elt F) X_arg19) init 48,
         bwdPieces (arg18.view.read (Elt F) X_arg18) (arg19.view.read (Elt F) X_arg19) init (Scf.trips k1_t1_loop.lb k1_t1_loop.ub k1_t1_loop.st)) := by
  rw [bwd_state _ _ _ _ _ _ _ _ _ _ _ _ _ _ _ _ _ _ _ _ _ _ _ _ _ _ _ _ _ _ _ _ _ _ _ _ _ _ _ _ _ _ _ _ _ _ _ _ _ _ _ _ le_rfl]
  rfl

theorem bwdRows_off : ∀ k : Fin k1_t1_loop.trips, k1_off1 k = ![8 * (47 - k.val), 0] := by decide +kernel

theorem bwdPieces_mem (p d : Vec F S384x512 .f32) (c : Vec F S1x512 .f32) (n : ℕ) (q : View.Piece (Elt F) S384x512 .f32)
    (hq : q ∈ bwdPieces p d c n) : ∃ k, q = bwdPiece p d c k := by
  induction n with
  | zero => exact absurd hq List.not_mem_nil
  | succ n ih =>
    unfold bwdPieces at hq
    split at hq
    · rcases List.mem_cons.mp hq with h | h
      · exact ⟨_, h⟩
      · exact ih h
    · exact ih hq

theorem bwdPieces_has (p d : Vec F S384x512 .f32) (c : Vec F S1x512 .f32) (n : ℕ) (k : Fin k1_t1_loop.trips) (hk : k.val < n) :
    bwdPiece p d c k ∈ bwdPieces p d c n := by
  induction n with
  | zero => exact absurd hk (Nat.not_lt_zero _)
  | succ n ih =>
    unfold bwdPieces
    rcases Nat.lt_succ_iff_lt_or_eq.mp hk with h | h
    · split
      · exact List.mem_cons_of_mem _ (ih h)
      · exact ih h
    · subst h
      rw [dif_pos k.isLt]
      exact List.mem_cons_self

/-- The trip of the backward loop that stores a row. -/
def bwdTrip (y : S384x512.Idx) : Fin k1_t1_loop.trips := ⟨47 - (y 0).val / 8, by have := (y 0).isLt; have h : k1_t1_loop.trips = 48 := (by decide); rw [h]; have h2 : (y 0).val < 384 := this; omega⟩

/-- One row of what a trip of the backward loop stores. -/
def bwdCell (p d : Vec F S384x512 .f32) (c : Vec F S1x512 .f32) (k : Fin k1_t1_loop.trips) (z : S8x512.Idx) : Elt F .f32 :=
  (k1_pay25 (bwdCarry p d c k.val) (bwdRows d k) (bwdRows p k) : Vec F S8x512 .f32) z

/-- The tile that the backward loop stores. -/
def bwdOut (p d : Vec F S384x512 .f32) (c : Vec F S1x512 .f32) : Vec F S384x512 .f32 := fun y =>
  bwdCell p d c (bwdTrip y) (ValueIdx.ix2 ⟨(y 0).val % 8, Nat.mod_lt _ (by decide)⟩ (y 1))

theorem bwd_emb (k : Fin k1_t1_loop.trips) (x : S8x512.Idx) :
    bwdTrip (((Rect.unit (s := S384x512) (k1_off1 k) S8x512.size (k1_off1_inb k) : Rect S384x512)).emb x) = k ∧ (ValueIdx.ix2 ⟨(((Rect.unit (s := S384x512) (k1_off1 k) S8x512.size (k1_off1_inb k) : Rect S384x512)).emb x 0).val % 8, Nat.mod_lt _ (by decide)⟩ ((((Rect.unit (s := S384x512) (k1_off1 k) S8x512.size (k1_off1_inb k) : Rect S384x512)).emb x) 1) : S8x512.Idx) = x := by
  have hk : k.val < 48 := k.isLt
  have hx := (x 0).isLt
  simp only [S8x512] at hx
  have hax : ((((Rect.unit (s := S384x512) (k1_off1 k) S8x512.size (k1_off1_inb k) : Rect S384x512)).emb x 0).val) = 8 * (47 - k.val) + (x 0).val := by
    show k1_off1 k 0 + 1 * (x 0).val = _
    rw [bwdRows_off k, one_mul]; rfl
  refine ⟨Fin.ext ?_, ?_⟩
  · show 47 - (((Rect.unit (s := S384x512) (k1_off1 k) S8x512.size (k1_off1_inb k) : Rect S384x512)).emb x 0).val / 8 = k.val
    have hx' : (x 0).val < 8 := hx
    omega
  · funext a
    fin_cases a
    · refine Fin.ext ?_
      show (((Rect.unit (s := S384x512) (k1_off1 k) S8x512.size (k1_off1_inb k)).emb x 0).val) % 8 = (x 0).val
      have hx' : (x 0).val < 8 := hx
      omega
    · refine Fin.ext ?_
      show k1_off1 k 1 + 1 * (x 1).val = (x 1).val
      rw [bwdRows_off k]
      show 0 + 1 * (x 1).val = (x 1).val
      omega

theorem bwdOut_emb (p d : Vec F S384x512 .f32) (c : Vec F S1x512 .f32) (k : Fin k1_t1_loop.trips) (x : S8x512.Idx) :
    bwdOut p d c (((Rect.unit (s := S384x512) (k1_off1 k) S8x512.size (k1_off1_inb k) : Rect S384x512)).emb x) = bwdCell p d c k x := by
  obtain ⟨h1, h2⟩ := bwd_emb k x
  exact congrArg₂ (bwdCell p d c) h1 h2

set_option maxHeartbeats 1000000 in
/-- The backward loop's pieces leave that tile, whatever was there. -/
theorem bwd_read {m : Memref sig .tc .vmem S384x512 .f32} (f : m.view.ty.Contents (Elt F)) (p d : Vec F S384x512 .f32) (c : Vec F S1x512 .f32) :
    m.view.read (Elt F) (m.view.writes (Elt F) f (bwdPieces p d c (Scf.trips k1_t1_loop.lb k1_t1_loop.ub k1_t1_loop.st))) = bwdOut p d c := by
  funext y
  refine View.read_writes_apply_of_pieces m.view f (bwdOut p d c) _ (fun q hq x => ?_) y ⟨bwdPiece p d c (bwdTrip y), bwdPieces_has p d c _ _ (bwdTrip y).isLt, ?_⟩
  · obtain ⟨k, rfl⟩ := bwdPieces_mem p d c _ q hq
    exact (bwdOut_emb p d c k x).symm
  · refine (Rect.mem_set_unit (inb := k1_off1_inb _)).mpr fun a => ?_
    have hk : (bwdTrip y).val < 48 := (bwdTrip y).isLt
    have hy := (y a).isLt
    rw [bwdRows_off]
    fin_cases a
    · have h : (y 0).val < 384 := hy
      show 8 * (47 - (47 - (y 0).val / 8)) ≤ (y 0).val ∧ (y 0).val < 8 * (47 - (47 - (y 0).val / 8)) + 8; omega
    · have h : (y 1).val < 512 := hy
      show 0 ≤ (y 1).val ∧ (y 1).val < 0 + 512; omega

end bwd
end Cert.KernelIdeal.Lru

end
-- ==== Proof.Lru.FwdLoop.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.ValueIdxCore
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section fwd

/-- Eight rows of a tile: those that trip `k` of the forward loop reads. -/
def fwdRows (x : Vec F S384x512 .f32) (k : Fin k0_t1_loop.trips) : Vec F S8x512 .f32 :=
  fun y => x ((Rect.unit (s := S384x512) (k0_off1 k) S8x512.size (k0_off1_inb k)).toLoadRect.idx y)

/-- The row carried into trip `k` of the forward loop. -/
def fwdCarry (p d : Vec F S384x512 .f32) (c : Vec F S1x512 .f32) : ℕ → Vec F S1x512 .f32
  | 0 => c
  | k + 1 => if h : k < k0_t1_loop.trips then k0_pay30 (fwdCarry p d c k) (fwdRows p ⟨k, h⟩) (fwdRows d ⟨k, h⟩) else fwdCarry p d c k

/-- What trip `k` of the forward loop stores. -/
def fwdPiece (p d : Vec F S384x512 .f32) (c : Vec F S1x512 .f32) (k : Fin k0_t1_loop.trips) : View.Piece (Elt F) S1x384x512 .f32 :=
  ⟨Rect.unit (s := S1x384x512) (k0_off2 k) S1x8x512.size (k0_off2_inb k), k0_pay29 (fwdCarry p d c k) (fwdRows p k) (fwdRows d k)⟩

/-- What the trips before `k` of the forward loop store. -/
def fwdPieces (p d : Vec F S384x512 .f32) (c : Vec F S1x512 .f32) : ℕ → List (View.Piece (Elt F) S1x384x512 .f32)
  | 0 => []
  | k + 1 => if h : k < k0_t1_loop.trips then fwdPiece p d c ⟨k, h⟩ :: fwdPieces p d c k else fwdPieces p d c k

set_option maxHeartbeats 1000000 in
/-- The forward loop's state is the row carried and the pieces stored, of the two tiles it reads. -/
theorem fwd_state (𝒱 : Variants) (c : Dev nD) (bd : Option 𝒱.V) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (v107 : IVec S384x1 32) (v115 : FVec F S384x512 .f32) (v120 : FVec F S384x512 .f32) (v121 : IVec S384x1 32) (X_arg11 : BufTy.Contents (Elt F) arg11.view.ty) (X_arg12 : BufTy.Contents (Elt F) arg12.view.ty)
    (init : Vec F S1x512 .f32) (k : ℕ) (hk : k ≤ k0_t1_loop.trips) :
    st_k0_t1 (F := F) 𝒱 c bd i arg3 harg3 arg4 harg4 arg5 harg5 arg6 harg6 arg7 harg7 arg8 harg8 arg9 harg9 arg10 harg10 arg11 harg11 arg12 harg12 arg13 harg13 v107 v115 v120 v121 X_arg11 X_arg12 init k
      = (fwdCarry (arg11.view.read (Elt F) X_arg11) (arg12.view.read (Elt F) X_arg12) init k,
         fwdPieces (arg11.view.read (Elt F) X_arg11) (arg12.view.read (Elt F) X_arg12) init k) := by
  induction k with
  | zero => rfl
  | succ k ih =>
    rw [st_k0_t1_succ 𝒱 c bd i arg3 harg3 arg4 harg4 arg5 harg5 arg6 harg6 arg7 harg7 arg8 harg8 arg9 harg9 arg10 harg10 arg11 harg11 arg12 harg12 arg13 harg13 v107 v115 v120 v121 X_arg11 X_arg12 init ⟨k, hk⟩, ih (Nat.le_of_succ_le hk)]
    simp only [fwdCarry, fwdPieces, dif_pos (show k < k0_t1_loop.trips from hk)]
    unfold tripR_k0_t1 tripL_k0_t1 trip_k0_t1
    rfl

/-- That state at the end of the loop. -/
theorem fwd_end (𝒱 : Variants) (c : Dev nD) (bd : Option 𝒱.V) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (v107 : IVec S384x1 32) (v115 : FVec F S384x512 .f32) (v120 : FVec F S384x512 .f32) (v121 : IVec S384x1 32) (X_arg11 : BufTy.Contents (Elt F) arg11.view.ty) (X_arg12 : BufTy.Contents (Elt F) arg12.view.ty)
    (init : Vec F S1x512 .f32) :
    st_k0_t1 (F := F) 𝒱 c bd i arg3 harg3 arg4 harg4 arg5 harg5 arg6 harg6 arg7 harg7 arg8 harg8 arg9 harg9 arg10 harg10 arg11 harg11 arg12 harg12 arg13 harg13 v107 v115 v120 v121 X_arg11 X_arg12 init (Scf.trips k0_t1_loop.lb k0_t1_loop.ub k0_t1_loop.st)
      = (fwdCarry (arg11.view.read (Elt F) X_arg11) (arg12.view.read (Elt F) X_arg12) init 48,
         fwdPieces (arg11.view.read (Elt F) X_arg11) (arg12.view.read (Elt F) X_arg12) init (Scf.trips k0_t1_loop.lb k0_t1_loop.ub k0_t1_loop.st)) := by
  rw [fwd_state _ _ _ _ _ _ _ _ _ _ _ _ _ _ _ _ _ _ _ _ _ _ _ _ _ _ _ _ _ _ _ _ _ _ le_rfl]
  rfl

theorem fwdRows_off : ∀ k : Fin k0_t1_loop.trips, k0_off1 k = ![8 * k.val, 0] := by decide +kernel
theorem fwdOut_off : ∀ k : Fin k0_t1_loop.trips, k0_off2 k = ![0, 8 * k.val, 0] := by decide +kernel

theorem fwdPieces_mem (p d : Vec F S384x512 .f32) (c : Vec F S1x512 .f32) (n : ℕ) (q : View.Piece (Elt F) S1x384x512 .f32)
    (hq : q ∈ fwdPieces p d c n) : ∃ k, q = fwdPiece p d c k := by
  induction n with
  | zero => exact absurd hq List.not_mem_nil
  | succ n ih =>
    unfold fwdPieces at hq
    split at hq
    · rcases List.mem_cons.mp hq with h | h
      · exact ⟨_, h⟩
      · exact ih h
    · exact ih hq

theorem fwdPieces_has (p d : Vec F S384x512 .f32) (c : Vec F S1x512 .f32) (n : ℕ) (k : Fin k0_t1_loop.trips) (hk : k.val < n) :
    fwdPiece p d c k ∈ fwdPieces p d c n := by
  induction n with
  | zero => exact absurd hk (Nat.not_lt_zero _)
  | succ n ih =>
    unfold fwdPieces
    rcases Nat.lt_succ_iff_lt_or_eq.mp hk with h | h
    · split
      · exact List.mem_cons_of_mem _ (ih h)
      · exact ih h
    · subst h
      rw [dif_pos k.isLt]
      exact List.mem_cons_self

/-- The trip of the forward loop that stores a row. -/
def fwdTrip (y : S1x384x512.Idx) : Fin k0_t1_loop.trips := ⟨(y 1).val / 8, by have := (y 1).isLt; have h : k0_t1_loop.trips = 48 := (by decide); rw [h]; have h2 : (y 1).val < 384 := this; omega⟩

/-- One row of what a trip of the forward loop stores. -/
def fwdCell (p d : Vec F S384x512 .f32) (c : Vec F S1x512 .f32) (k : Fin k0_t1_loop.trips) (z : S1x8x512.Idx) : Elt F .f32 :=
  (k0_pay29 (fwdCarry p d c k.val) (fwdRows p k) (fwdRows d k) : Vec F S1x8x512 .f32) z

/-- The tile that the forward loop stores. -/
def fwdOut (p d : Vec F S384x512 .f32) (c : Vec F S1x512 .f32) : Vec F S1x384x512 .f32 := fun y =>
  fwdCell p d c (fwdTrip y) (ValueIdx.ix3 0 ⟨(y 1).val % 8, Nat.mod_lt _ (by decide)⟩ (y 2))

theorem fwd_emb (k : Fin k0_t1_loop.trips) (x : S1x8x512.Idx) :
    fwdTrip (((Rect.unit (s := S1x384x512) (k0_off2 k) S1x8x512.size (k0_off2_inb k) : Rect S1x384x512)).emb x) = k ∧ (ValueIdx.ix3 0 ⟨(((Rect.unit (s := S1x384x512) (k0_off2 k) S1x8x512.size (k0_off2_inb k) : Rect S1x384x512)).emb x 1).val % 8, Nat.mod_lt _ (by decide)⟩ ((((Rect.unit (s := S1x384x512) (k0_off2 k) S1x8x512.size (k0_off2_inb k) : Rect S1x384x512)).emb x) 2) : S1x8x512.Idx) = x := by
  have hk : k.val < 48 := k.isLt
  have hx := (x 1).isLt
  simp only [S1x8x512] at hx
  have hax : ((((Rect.unit (s := S1x384x512) (k0_off2 k) S1x8x512.size (k0_off2_inb k) : Rect S1x384x512)).emb x 1).val) = 8 * k.val + (x 1).val := by
    show k0_off2 k 1 + 1 * (x 1).val = _
    rw [fwdOut_off k, one_mul]; rfl
  refine ⟨Fin.ext ?_, ?_⟩
  · show (((Rect.unit (s := S1x384x512) (k0_off2 k) S1x8x512.size (k0_off2_inb k) : Rect S1x384x512)).emb x 1).val / 8 = k.val
    have hx' : (x 1).val < 8 := hx
    omega
  · funext a
    fin_cases a
    · exact Fin.ext (by have h : (x 0).val < 1 := (x 0).isLt; show 0 = (x 0).val; omega)
    · refine Fin.ext ?_
      show (((Rect.unit (s := S1x384x512) (k0_off2 k) S1x8x512.size (k0_off2_inb k)).emb x 1).val) % 8 = (x 1).val
      have hx' : (x 1).val < 8 := hx
      omega
    · refine Fin.ext ?_
      show k0_off2 k 2 + 1 * (x 2).val = (x 2).val
      rw [fwdOut_off k]
      show 0 + 1 * (x 2).val = (x 2).val
      omega

theorem fwdOut_emb (p d : Vec F S384x512 .f32) (c : Vec F S1x512 .f32) (k : Fin k0_t1_loop.trips) (x : S1x8x512.Idx) :
    fwdOut p d c (((Rect.unit (s := S1x384x512) (k0_off2 k) S1x8x512.size (k0_off2_inb k) : Rect S1x384x512)).emb x) = fwdCell p d c k x := by
  obtain ⟨h1, h2⟩ := fwd_emb k x
  exact congrArg₂ (fwdCell p d c) h1 h2

set_option maxHeartbeats 1000000 in
/-- The forward loop's pieces leave that tile, whatever was there. -/
theorem fwd_read {m : Memref sig .tc .vmem S1x384x512 .f32} (f : m.view.ty.Contents (Elt F)) (p d : Vec F S384x512 .f32) (c : Vec F S1x512 .f32) :
    m.view.read (Elt F) (m.view.writes (Elt F) f (fwdPieces p d c (Scf.trips k0_t1_loop.lb k0_t1_loop.ub k0_t1_loop.st))) = fwdOut p d c := by
  funext y
  refine View.read_writes_apply_of_pieces m.view f (fwdOut p d c) _ (fun q hq x => ?_) y ⟨fwdPiece p d c (fwdTrip y), fwdPieces_has p d c _ _ (fwdTrip y).isLt, ?_⟩
  · obtain ⟨k, rfl⟩ := fwdPieces_mem p d c _ q hq
    exact (fwdOut_emb p d c k x).symm
  · refine (Rect.mem_set_unit (inb := k0_off2_inb _)).mpr fun a => ?_
    have hk : (fwdTrip y).val < 48 := (fwdTrip y).isLt
    have hy := (y a).isLt
    rw [fwdOut_off]
    fin_cases a
    · have h : (y 0).val < 1 := hy
      show 0 ≤ (y 0).val ∧ (y 0).val < 0 + 1; omega
    · show 8 * ((y 1).val / 8) ≤ (y 1).val ∧ (y 1).val < 8 * ((y 1).val / 8) + 8; omega
    · have h : (y 2).val < 512 := hy
      show 0 ≤ (y 2).val ∧ (y 2).val < 0 + 512; omega

end fwd
end Cert.KernelIdeal.Lru

end
-- ==== Proof.Lru.Whole.lean ====
module

public import proofs.«01_k».proof.Proof.Gen.KernelIdeal.Loops
public import proofs.«01_k».proof.Proof.Gen.KernelIdeal.Points
public import proofs.«01_k».proof.Proof.Gen.KernelIdeal.Launch
public import Idealize.ShloMosaic.Lib.VecWindow
public import Idealize.ShloMosaic.Lib.Pipeline.ReadBack
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! Loads and stores of a whole block, at the literal sizes. -/

theorem ld_S1x384x512 {e : EltTy} (x : Vec F S1x384x512 e) : View.ld x (Rect.unit (s := S1x384x512) ![0, 0, 0] ![1, 384, 512] inb_S1x384x512_S1x384x512_0_0_0) = x :=
  View.ld_unit_lit (S := S1x384x512) inb_S1x384x512_S1x384x512_0_0_0 x (by decide)
theorem read_writes_S1x384x512 {κ : Kind} {sp : Space} {e : EltTy} (v : View sig κ sp S1x384x512 e) (f : v.ty.Contents (Elt F)) (w : Vec F S1x384x512 e) (L : List (View.Piece (Elt F) S1x384x512 e)) :
    v.read (Elt F) (v.writes (Elt F) f (⟨Rect.unit (s := S1x384x512) ![0, 0, 0] ![1, 384, 512] inb_S1x384x512_S1x384x512_0_0_0, w⟩ :: L)) = w := View.read_writes_full v f inb_S1x384x512_S1x384x512_0_0_0 w L
theorem readCov_S1x384x512 {κ : Kind} {sp : Space} {e : EltTy} (v : View sig κ sp S1x384x512 e) (w : Vec F S1x384x512 e) (L : List (View.Piece (Elt F) S1x384x512 e)) :
    v.readCov (⟨Rect.unit (s := S1x384x512) ![0, 0, 0] ![1, 384, 512] inb_S1x384x512_S1x384x512_0_0_0, w⟩ :: L) (Rect.unit (s := S1x384x512) ![0, 0, 0] ![1, 384, 512] inb_S1x384x512_S1x384x512_0_0_0).toLoadRect = w := View.readCov_full v inb_S1x384x512_S1x384x512_0_0_0 inb_S1x384x512_S1x384x512_0_0_0 w L
theorem readAt_S1x384x512 {κ : Kind} {sp : Space} {e : EltTy} (v : View sig κ sp S1x384x512 e) (f : v.ty.Contents (Elt F)) :
    v.readAt (Elt F) (Rect.unit (s := S1x384x512) ![0, 0, 0] ![1, 384, 512] inb_S1x384x512_S1x384x512_0_0_0).toLoadRect f = v.read (Elt F) f := View.readAt_full v f inb_S1x384x512_S1x384x512_0_0_0

theorem ld_S384x512 {e : EltTy} (x : Vec F S384x512 e) : View.ld x (Rect.unit (s := S384x512) ![0, 0] ![384, 512] inb_S384x512_S384x512_0_0) = x :=
  View.ld_unit_lit (S := S384x512) inb_S384x512_S384x512_0_0 x (by decide)
theorem read_writes_S384x512 {κ : Kind} {sp : Space} {e : EltTy} (v : View sig κ sp S384x512 e) (f : v.ty.Contents (Elt F)) (w : Vec F S384x512 e) (L : List (View.Piece (Elt F) S384x512 e)) :
    v.read (Elt F) (v.writes (Elt F) f (⟨Rect.unit (s := S384x512) ![0, 0] ![384, 512] inb_S384x512_S384x512_0_0, w⟩ :: L)) = w := View.read_writes_full v f inb_S384x512_S384x512_0_0 w L
theorem readCov_S384x512 {κ : Kind} {sp : Space} {e : EltTy} (v : View sig κ sp S384x512 e) (w : Vec F S384x512 e) (L : List (View.Piece (Elt F) S384x512 e)) :
    v.readCov (⟨Rect.unit (s := S384x512) ![0, 0] ![384, 512] inb_S384x512_S384x512_0_0, w⟩ :: L) (Rect.unit (s := S384x512) ![0, 0] ![384, 512] inb_S384x512_S384x512_0_0).toLoadRect = w := View.readCov_full v inb_S384x512_S384x512_0_0 inb_S384x512_S384x512_0_0 w L
theorem readAt_S384x512 {κ : Kind} {sp : Space} {e : EltTy} (v : View sig κ sp S384x512 e) (f : v.ty.Contents (Elt F)) :
    v.readAt (Elt F) (Rect.unit (s := S384x512) ![0, 0] ![384, 512] inb_S384x512_S384x512_0_0).toLoadRect f = v.read (Elt F) f := View.readAt_full v f inb_S384x512_S384x512_0_0

theorem ld_S1x512 {e : EltTy} (x : Vec F S1x512 e) : View.ld x (Rect.unit (s := S1x512) ![0, 0] ![1, 512] inb_S1x512_S1x512_0_0) = x :=
  View.ld_unit_lit (S := S1x512) inb_S1x512_S1x512_0_0 x (by decide)
theorem read_writes_S1x512 {κ : Kind} {sp : Space} {e : EltTy} (v : View sig κ sp S1x512 e) (f : v.ty.Contents (Elt F)) (w : Vec F S1x512 e) (L : List (View.Piece (Elt F) S1x512 e)) :
    v.read (Elt F) (v.writes (Elt F) f (⟨Rect.unit (s := S1x512) ![0, 0] ![1, 512] inb_S1x512_S1x512_0_0, w⟩ :: L)) = w := View.read_writes_full v f inb_S1x512_S1x512_0_0 w L
theorem readCov_S1x512 {κ : Kind} {sp : Space} {e : EltTy} (v : View sig κ sp S1x512 e) (w : Vec F S1x512 e) (L : List (View.Piece (Elt F) S1x512 e)) :
    v.readCov (⟨Rect.unit (s := S1x512) ![0, 0] ![1, 512] inb_S1x512_S1x512_0_0, w⟩ :: L) (Rect.unit (s := S1x512) ![0, 0] ![1, 512] inb_S1x512_S1x512_0_0).toLoadRect = w := View.readCov_full v inb_S1x512_S1x512_0_0 inb_S1x512_S1x512_0_0 w L
theorem readAt_S1x512 {κ : Kind} {sp : Space} {e : EltTy} (v : View sig κ sp S1x512 e) (f : v.ty.Contents (Elt F)) :
    v.readAt (Elt F) (Rect.unit (s := S1x512) ![0, 0] ![1, 512] inb_S1x512_S1x512_0_0).toLoadRect f = v.read (Elt F) f := View.readAt_full v f inb_S1x512_S1x512_0_0

end Cert.KernelIdeal.Lru

end
-- ==== Proof.Lru.FwdTile.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.FwdNext
public import proofs.«01_k».proof.Proof.Lru.FwdLoop
public import Idealize.ShloMosaic.Lib.VecWindow
public import Idealize.ShloMosaic.Lib.Pipeline.ReadBack
public import proofs.«01_k».proof.Proof.Lru.Whole
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! What the forward body leaves at one tile: `x0` is the convolved input, `x1` and `x2` the two gates' products, `x3` the output
gate's input, `x4` the parameters' rows, `c` the state before the tile. -/

/-- The parameters' first row. -/
def row0 (x4 : Vec F S8x512 .f32) : Vec F S1x512 .f32 := View.ld x4 (Rect.unit (s := S8x512) ![0, 0] S1x512.size inb_S8x512_S1x512_0_0)
/-- The parameters' second row. -/
def row1 (x4 : Vec F S8x512 .f32) : Vec F S1x512 .f32 := View.ld x4 (Rect.unit (s := S8x512) ![1, 0] S1x512.size inb_S8x512_S1x512_1_0)
/-- The parameters' third row. -/
def row2 (x4 : Vec F S8x512 .f32) : Vec F S1x512 .f32 := View.ld x4 (Rect.unit (s := S8x512) ![2, 0] S1x512.size inb_S8x512_S1x512_2_0)

/-- The row numbers of a tile. -/
def rowNo : IVec S384x1 32 := iota .tc S384x1 32 [0] iota_S384x1_d0_w32

/-- The recurrence gate. -/
def fwdR (x1 : Vec F S1x384x512 .f32) (x4 : Vec F S8x512 .f32) : FVec F S384x512 .f32 := k0_pay5 x1 (row0 x4)
/-- The input gate. -/
def fwdI (x2 : Vec F S1x384x512 .f32) (x4 : Vec F S8x512 .f32) : FVec F S384x512 .f32 := k0_pay8 (k0_pay6 x2 (row1 x4)) k0_pay7
/-- The decay of every step. -/
def fwdA (x1 : Vec F S1x384x512 .f32) (x4 : Vec F S8x512 .f32) : FVec F S384x512 .f32 := k0_pay10 (fwdR x1 x4) (row2 x4)
/-- The steps' inputs after the first doubling. -/
def fwdU2 (i : grid0.Coords) (x0 x1 x2 : Vec F S1x384x512 .f32) (x4 : Vec F S8x512 .f32) : FVec F S384x512 .f32 :=
  k0_pay20 rowNo (k0_pay3 i) (k0_pay4 x0) (fwdI x2 x4) (fwdA x1 x4) (k0_pay11 (fwdR x1 x4) (row2 x4)) (k0_pay12 (fwdR x1 x4) (row2 x4))
    (k0_pay13 (fwdR x1 x4) (row2 x4)) (k0_pay14 (fwdR x1 x4) (row2 x4)) (k0_pay15 (fwdR x1 x4) (row2 x4)) k0_pay16
/-- The decays after the first doubling. -/
def fwdA2 (x1 : Vec F S1x384x512 .f32) (x4 : Vec F S8x512 .f32) : FVec F S384x512 .f32 := k0_pay21 rowNo (fwdA x1 x4)
/-- The product of the decays from the start of a row's group of eight. -/
def fwdPa (x1 : Vec F S1x384x512 .f32) (x4 : Vec F S8x512 .f32) : FVec F S384x512 .f32 := k0_pay26 (k0_pay18 rowNo) (fwdA2 x1 x4) k0_pay22
/-- The state of a group of eight entered at zero. -/
def fwdPu (i : grid0.Coords) (x0 x1 x2 : Vec F S1x384x512 .f32) (x4 : Vec F S8x512 .f32) : FVec F S384x512 .f32 :=
  k0_pay27 (k0_pay18 rowNo) (fwdU2 i x0 x1 x2 x4) (fwdA2 x1 x4) k0_pay22
/-- The states. -/
def fwdHs (i : grid0.Coords) (x0 x1 x2 : Vec F S1x384x512 .f32) (x4 : Vec F S8x512 .f32) (c : Vec F S1x512 .f32) : Vec F S1x384x512 .f32 :=
  fwdOut (fwdPa x1 x4) (fwdPu i x0 x1 x2 x4) c
/-- The state after the tile. -/
def fwdLast (i : grid0.Coords) (x0 x1 x2 : Vec F S1x384x512 .f32) (x4 : Vec F S8x512 .f32) (c : Vec F S1x512 .f32) : Vec F S1x512 .f32 :=
  k0_pay31 (fwdCarry (fwdPa x1 x4) (fwdPu i x0 x1 x2 x4) c 48)
/-- The branch's output. -/
def fwdY (i : grid0.Coords) (x0 x1 x2 x3 : Vec F S1x384x512 .f32) (x4 : Vec F S8x512 .f32) (c : Vec F S1x512 .f32) : Vec F S1x384x512 .bf16 :=
  k0_pay1 (fwdHs i x0 x1 x2 x4 c) x3

/-- What a view reads after the loop's stores. -/
theorem fwd_read_lit {m : Memref sig .tc .vmem S1x384x512 .f32} (f : m.view.ty.Contents (Elt F)) (p d : Vec F S384x512 .f32) (c : Vec F S1x512 .f32) :
    m.view.read (Elt F) (m.view.writes (Elt F) f (fwdPieces p d c (Scf.trips (0#32) (Scalar.addi 0#32 48#32) 1#32))) = fwdOut p d c := fwd_read f p d c

theorem fwd_end_lit (𝒱 : Variants) (c : Dev nD) (bd : Option 𝒱.V) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (v107 : IVec S384x1 32) (v115 : FVec F S384x512 .f32) (v120 : FVec F S384x512 .f32) (v121 : IVec S384x1 32) (X_arg11 : BufTy.Contents (Elt F) arg11.view.ty) (X_arg12 : BufTy.Contents (Elt F) arg12.view.ty)
    (init : Vec F S1x512 .f32) :
    st_k0_t1 (F := F) 𝒱 c bd i arg3 harg3 arg4 harg4 arg5 harg5 arg6 harg6 arg7 harg7 arg8 harg8 arg9 harg9 arg10 harg10 arg11 harg11 arg12 harg12 arg13 harg13 v107 v115 v120 v121 X_arg11 X_arg12 init (Scf.trips (0#32) (Scalar.addi 0#32 48#32) 1#32)
      = (fwdCarry (arg11.view.read (Elt F) X_arg11) (arg12.view.read (Elt F) X_arg12) init 48,
         fwdPieces (arg11.view.read (Elt F) X_arg11) (arg12.view.read (Elt F) X_arg12) init (Scf.trips (0#32) (Scalar.addi 0#32 48#32) 1#32)) := fwd_end 𝒱 c bd i arg3 harg3 arg4 harg4 arg5 harg5 arg6 harg6 arg7 harg7 arg8 harg8 arg9 harg9 arg10 harg10 arg11 harg11 arg12 harg12 arg13 harg13 v107 v115 v120 v121 X_arg11 X_arg12 init

set_option maxHeartbeats 2000000 in
theorem fwdFirst_arg8 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i) (x0 x1 x2 x3 : Vec F S1x384x512 .f32) (x4 : Vec F S8x512 .f32) (x_arg9 : Vec F S1x384x512 .f32) (f : arg8.view.ty.Contents (Elt F)) :
    arg8.view.read (Elt F) (arg8.view.writes (Elt F) f (fwdFirst (F := F) c i arg3 harg3 arg4 harg4 arg5 harg5 arg6 harg6 arg7 harg7 arg8 harg8 arg9 harg9 arg10 harg10 arg11 harg11 arg12 harg12 arg13 harg13 hc x0 x1 x2 x3 x4 x_arg9).1) = fwdY i x0 x1 x2 x3 x4 k0_pay2 := by
  unfold fwdFirst
  simp only [fwdFirst.sl.r_2, fwdFirst.sl.v154, fwdFirst.sl.r_6, fwdFirst.sl.v3, fwdFirst.sl.Harg10_1, fwdFirst.sl.r_5, fwdFirst.sl.Harg12_1, fwdFirst.sl.v160, fwdFirst.sl.v0, fwdFirst.sl.r_1, fwdFirst.sl.Harg11_1, fwdFirst.sl.v1, fwdFirst.sl.r_4, fwdFirst.sl.Harg13_1, fwdFirst.sl.r_9, fwdFirst.sl.v2, fwdFirst.sl.r_11, fwdFirst.sl.r_8, fwdFirst.sl.r_3, fwdFirst.sl.r, fwdFirst.sl.r_10, fwdFirst.sl.r_7, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdFirst_arg9 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i) (x0 x1 x2 x3 : Vec F S1x384x512 .f32) (x4 : Vec F S8x512 .f32) (x_arg9 : Vec F S1x384x512 .f32) (f : arg9.view.ty.Contents (Elt F)) :
    arg9.view.read (Elt F) (arg9.view.writes (Elt F) f (fwdFirst (F := F) c i arg3 harg3 arg4 harg4 arg5 harg5 arg6 harg6 arg7 harg7 arg8 harg8 arg9 harg9 arg10 harg10 arg11 harg11 arg12 harg12 arg13 harg13 hc x0 x1 x2 x3 x4 x_arg9).2.1) = fwdHs i x0 x1 x2 x4 k0_pay2 := by
  unfold fwdFirst
  simp only [fwdFirst.sl.r_2, fwdFirst.sl.v154, fwdFirst.sl.r_6, fwdFirst.sl.v3, fwdFirst.sl.Harg10_1, fwdFirst.sl.r_5, fwdFirst.sl.Harg12_1, fwdFirst.sl.v160, fwdFirst.sl.v0, fwdFirst.sl.r_1, fwdFirst.sl.Harg11_1, fwdFirst.sl.v1, fwdFirst.sl.r_4, fwdFirst.sl.Harg13_1, fwdFirst.sl.r_9, fwdFirst.sl.v2, fwdFirst.sl.r_11, fwdFirst.sl.r_8, fwdFirst.sl.r_3, fwdFirst.sl.r, fwdFirst.sl.r_10, fwdFirst.sl.r_7, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdFirst_arg10 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i) (x0 x1 x2 x3 : Vec F S1x384x512 .f32) (x4 : Vec F S8x512 .f32) (x_arg9 : Vec F S1x384x512 .f32) (f : arg10.view.ty.Contents (Elt F)) :
    arg10.view.read (Elt F) (arg10.view.writes (Elt F) f (fwdFirst (F := F) c i arg3 harg3 arg4 harg4 arg5 harg5 arg6 harg6 arg7 harg7 arg8 harg8 arg9 harg9 arg10 harg10 arg11 harg11 arg12 harg12 arg13 harg13 hc x0 x1 x2 x3 x4 x_arg9).2.2.1) = k0_pay17 (fwdA x1 x4) := by
  unfold fwdFirst
  simp only [fwdFirst.sl.r_2, fwdFirst.sl.v154, fwdFirst.sl.r_6, fwdFirst.sl.v3, fwdFirst.sl.Harg10_1, fwdFirst.sl.r_5, fwdFirst.sl.Harg12_1, fwdFirst.sl.v160, fwdFirst.sl.v0, fwdFirst.sl.r_1, fwdFirst.sl.Harg11_1, fwdFirst.sl.v1, fwdFirst.sl.r_4, fwdFirst.sl.Harg13_1, fwdFirst.sl.r_9, fwdFirst.sl.v2, fwdFirst.sl.r_11, fwdFirst.sl.r_8, fwdFirst.sl.r_3, fwdFirst.sl.r, fwdFirst.sl.r_10, fwdFirst.sl.r_7, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdFirst_arg13 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i) (x0 x1 x2 x3 : Vec F S1x384x512 .f32) (x4 : Vec F S8x512 .f32) (x_arg9 : Vec F S1x384x512 .f32) (f : arg13.view.ty.Contents (Elt F)) :
    arg13.view.read (Elt F) (arg13.view.writes (Elt F) f (fwdFirst (F := F) c i arg3 harg3 arg4 harg4 arg5 harg5 arg6 harg6 arg7 harg7 arg8 harg8 arg9 harg9 arg10 harg10 arg11 harg11 arg12 harg12 arg13 harg13 hc x0 x1 x2 x3 x4 x_arg9).2.2.2.1) = fwdLast i x0 x1 x2 x4 k0_pay2 := by
  unfold fwdFirst
  simp only [fwdFirst.sl.r_2, fwdFirst.sl.v154, fwdFirst.sl.r_6, fwdFirst.sl.v3, fwdFirst.sl.Harg10_1, fwdFirst.sl.r_5, fwdFirst.sl.Harg12_1, fwdFirst.sl.v160, fwdFirst.sl.v0, fwdFirst.sl.r_1, fwdFirst.sl.Harg11_1, fwdFirst.sl.v1, fwdFirst.sl.r_4, fwdFirst.sl.Harg13_1, fwdFirst.sl.r_9, fwdFirst.sl.v2, fwdFirst.sl.r_11, fwdFirst.sl.r_8, fwdFirst.sl.r_3, fwdFirst.sl.r, fwdFirst.sl.r_10, fwdFirst.sl.r_7, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
/-- The body's run at such a tile: the four buffers it fills end at those values. -/
theorem fwdFirst_wp (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : startsRow i) (x0 x1 x2 x3 : Vec F S1x384x512 .f32) (x4 : Vec F S8x512 .f32)  (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fwdY i x0 x1 x2 x3 x4 k0_pay2) ∗ owns (c : Thread nD τ) arg9 fullShare (fwdHs i x0 x1 x2 x4 k0_pay2) ∗ owns (c : Thread nD τ) arg10 fullShare (k0_pay17 (fwdA x1 x4)) ∗ (∃ d, owns (c : Thread nD τ) arg11 fullShare d) ∗ (∃ d, owns (c : Thread nD τ) arg12 fullShare d) ∗ owns (c : Thread nD τ) arg13 fullShare (fwdLast i x0 x1 x2 x4 k0_pay2)) -∗ K ⟨⟩))
      ⊢ wp frame (wpE (defs₀ (F := F)) Variants.none c none) E (cc0_lru_fwd i arg3 harg3 arg4 harg4 arg5 harg5 arg6 harg6 arg7 harg7 arg8 harg8 arg9 harg9 arg10 harg10 arg11 harg11 arg12 harg12 arg13 harg13) K := by
  iintro ⟨H3, H4, H5, H6, H7, H8, ⟨%d9, H9⟩, H10, H11, H12, H13, HK⟩
  iapply (fwdFirst (F := F) c i arg3 harg3 arg4 harg4 arg5 harg5 arg6 harg6 arg7 harg7 arg8 harg8 arg9 harg9 arg10 harg10 arg11 harg11 arg12 harg12 arg13 harg13 hc x0 x1 x2 x3 x4 d9).2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, ⟨%f8, H8⟩, H9, ⟨%f10, H10⟩, H11, H12, H13⟩
  iapply HK
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact fwdFirst_arg8 c i arg3 harg3 arg4 harg4 arg5 harg5 arg6 harg6 arg7 harg7 arg8 harg8 arg9 harg9 arg10 harg10 arg11 harg11 arg12 harg12 arg13 harg13 hc x0 x1 x2 x3 x4 d9 f8
  isplitl [H9]
  · unfold owns; iexists _; isplitr; swap; · iexact H9
    ipureintro; exact fwdFirst_arg9 c i arg3 harg3 arg4 harg4 arg5 harg5 arg6 harg6 arg7 harg7 arg8 harg8 arg9 harg9 arg10 harg10 arg11 harg11 arg12 harg12 arg13 harg13 hc x0 x1 x2 x3 x4 d9 _
  isplitl [H10]
  · unfold owns; iexists _; isplitr; swap; · iexact H10
    ipureintro; exact fwdFirst_arg10 c i arg3 harg3 arg4 harg4 arg5 harg5 arg6 harg6 arg7 harg7 arg8 harg8 arg9 harg9 arg10 harg10 arg11 harg11 arg12 harg12 arg13 harg13 hc x0 x1 x2 x3 x4 d9 f10
  isplitl [H11]; · iexact H11
  isplitl [H12]; · iexact H12
  icases H13 with ⟨%f13, H13⟩
  unfold owns; iexists _; isplitr; swap; · iexact H13
  ipureintro; exact fwdFirst_arg13 c i arg3 harg3 arg4 harg4 arg5 harg5 arg6 harg6 arg7 harg7 arg8 harg8 arg9 harg9 arg10 harg10 arg11 harg11 arg12 harg12 arg13 harg13 hc x0 x1 x2 x3 x4 d9 _

set_option maxHeartbeats 2000000 in
theorem fwdNext_arg8 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i) (x0 x1 x2 x3 : Vec F S1x384x512 .f32) (x4 : Vec F S8x512 .f32) (x_arg9 : Vec F S1x384x512 .f32) (x_arg13 : Vec F S1x512 .f32) (f : arg8.view.ty.Contents (Elt F)) :
    arg8.view.read (Elt F) (arg8.view.writes (Elt F) f (fwdNext (F := F) c i arg3 harg3 arg4 harg4 arg5 harg5 arg6 harg6 arg7 harg7 arg8 harg8 arg9 harg9 arg10 harg10 arg11 harg11 arg12 harg12 arg13 harg13 hc x0 x1 x2 x3 x4 x_arg9 x_arg13).1) = fwdY i x0 x1 x2 x3 x4 x_arg13 := by
  unfold fwdNext
  simp only [fwdNext.sl.r_7, fwdNext.sl.r_8, fwdNext.sl.r_1, fwdNext.sl.Harg12_1, fwdNext.sl.Harg11_1, fwdNext.sl.v0, fwdNext.sl.r_6, fwdNext.sl.r_11, fwdNext.sl.r_2, fwdNext.sl.r_9, fwdNext.sl.v1, fwdNext.sl.r_4, fwdNext.sl.v160, fwdNext.sl.v3, fwdNext.sl.r_5, fwdNext.sl.r, fwdNext.sl.Harg10_1, fwdNext.sl.r_3, fwdNext.sl.r_10, fwdNext.sl.v2, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdNext_arg9 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i) (x0 x1 x2 x3 : Vec F S1x384x512 .f32) (x4 : Vec F S8x512 .f32) (x_arg9 : Vec F S1x384x512 .f32) (x_arg13 : Vec F S1x512 .f32) (f : arg9.view.ty.Contents (Elt F)) :
    arg9.view.read (Elt F) (arg9.view.writes (Elt F) f (fwdNext (F := F) c i arg3 harg3 arg4 harg4 arg5 harg5 arg6 harg6 arg7 harg7 arg8 harg8 arg9 harg9 arg10 harg10 arg11 harg11 arg12 harg12 arg13 harg13 hc x0 x1 x2 x3 x4 x_arg9 x_arg13).2.1) = fwdHs i x0 x1 x2 x4 x_arg13 := by
  unfold fwdNext
  simp only [fwdNext.sl.r_7, fwdNext.sl.r_8, fwdNext.sl.r_1, fwdNext.sl.Harg12_1, fwdNext.sl.Harg11_1, fwdNext.sl.v0, fwdNext.sl.r_6, fwdNext.sl.r_11, fwdNext.sl.r_2, fwdNext.sl.r_9, fwdNext.sl.v1, fwdNext.sl.r_4, fwdNext.sl.v160, fwdNext.sl.v3, fwdNext.sl.r_5, fwdNext.sl.r, fwdNext.sl.Harg10_1, fwdNext.sl.r_3, fwdNext.sl.r_10, fwdNext.sl.v2, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdNext_arg10 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i) (x0 x1 x2 x3 : Vec F S1x384x512 .f32) (x4 : Vec F S8x512 .f32) (x_arg9 : Vec F S1x384x512 .f32) (x_arg13 : Vec F S1x512 .f32) (f : arg10.view.ty.Contents (Elt F)) :
    arg10.view.read (Elt F) (arg10.view.writes (Elt F) f (fwdNext (F := F) c i arg3 harg3 arg4 harg4 arg5 harg5 arg6 harg6 arg7 harg7 arg8 harg8 arg9 harg9 arg10 harg10 arg11 harg11 arg12 harg12 arg13 harg13 hc x0 x1 x2 x3 x4 x_arg9 x_arg13).2.2.1) = k0_pay17 (fwdA x1 x4) := by
  unfold fwdNext
  simp only [fwdNext.sl.r_7, fwdNext.sl.r_8, fwdNext.sl.r_1, fwdNext.sl.Harg12_1, fwdNext.sl.Harg11_1, fwdNext.sl.v0, fwdNext.sl.r_6, fwdNext.sl.r_11, fwdNext.sl.r_2, fwdNext.sl.r_9, fwdNext.sl.v1, fwdNext.sl.r_4, fwdNext.sl.v160, fwdNext.sl.v3, fwdNext.sl.r_5, fwdNext.sl.r, fwdNext.sl.Harg10_1, fwdNext.sl.r_3, fwdNext.sl.r_10, fwdNext.sl.v2, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
theorem fwdNext_arg13 (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i) (x0 x1 x2 x3 : Vec F S1x384x512 .f32) (x4 : Vec F S8x512 .f32) (x_arg9 : Vec F S1x384x512 .f32) (x_arg13 : Vec F S1x512 .f32) (f : arg13.view.ty.Contents (Elt F)) :
    arg13.view.read (Elt F) (arg13.view.writes (Elt F) f (fwdNext (F := F) c i arg3 harg3 arg4 harg4 arg5 harg5 arg6 harg6 arg7 harg7 arg8 harg8 arg9 harg9 arg10 harg10 arg11 harg11 arg12 harg12 arg13 harg13 hc x0 x1 x2 x3 x4 x_arg9 x_arg13).2.2.2.1) = fwdLast i x0 x1 x2 x4 x_arg13 := by
  unfold fwdNext
  simp only [fwdNext.sl.r_7, fwdNext.sl.r_8, fwdNext.sl.r_1, fwdNext.sl.Harg12_1, fwdNext.sl.Harg11_1, fwdNext.sl.v0, fwdNext.sl.r_6, fwdNext.sl.r_11, fwdNext.sl.r_2, fwdNext.sl.r_9, fwdNext.sl.v1, fwdNext.sl.r_4, fwdNext.sl.v160, fwdNext.sl.v3, fwdNext.sl.r_5, fwdNext.sl.r, fwdNext.sl.Harg10_1, fwdNext.sl.r_3, fwdNext.sl.r_10, fwdNext.sl.v2, fwd_end_lit, fwd_read_lit, readAt_S1x384x512, readAt_S384x512, readAt_S1x512, read_writes_S1x384x512, read_writes_S384x512, read_writes_S1x512, readCov_S1x384x512, readCov_S384x512, readCov_S1x512, ld_S1x384x512, ld_S384x512, ld_S1x512, View.readAt_full, View.readCov_full, harg3.read_unread, harg4.read_unread, harg5.read_unread, harg6.read_unread, harg7.read_unread, harg13.read_unread,
    View.readAt_eq_ld, View.read_writes_full, fwd_read]
  rfl

set_option maxHeartbeats 2000000 in
/-- The body's run at such a tile: the four buffers it fills end at those values. -/
theorem fwdNext_wp (c : Dev nD) (i : grid0.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x384x512 .f32) (harg6 : arg6.IsWhole) (arg7 : Memref sig .tc .vmem S8x512 .f32) (harg7 : arg7.IsWhole) (arg8 : Memref sig .tc .vmem S1x384x512 .bf16) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S384x512 .f32) (harg11 : arg11.IsWhole) (arg12 : Memref sig .tc .vmem S384x512 .f32) (harg12 : arg12.IsWhole) (arg13 : Memref sig .tc .vmem S1x512 .f32) (harg13 : arg13.IsWhole) (hc : ¬startsRow i) (x0 x1 x2 x3 : Vec F S1x384x512 .f32) (x4 : Vec F S8x512 .f32) (x_arg13 : Vec F S1x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x_arg13
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (fwdY i x0 x1 x2 x3 x4 x_arg13) ∗ owns (c : Thread nD τ) arg9 fullShare (fwdHs i x0 x1 x2 x4 x_arg13) ∗ owns (c : Thread nD τ) arg10 fullShare (k0_pay17 (fwdA x1 x4)) ∗ (∃ d, owns (c : Thread nD τ) arg11 fullShare d) ∗ (∃ d, owns (c : Thread nD τ) arg12 fullShare d) ∗ owns (c : Thread nD τ) arg13 fullShare (fwdLast i x0 x1 x2 x4 x_arg13)) -∗ K ⟨⟩))
      ⊢ wp frame (wpE (defs₀ (F := F)) Variants.none c none) E (cc0_lru_fwd i arg3 harg3 arg4 harg4 arg5 harg5 arg6 harg6 arg7 harg7 arg8 harg8 arg9 harg9 arg10 harg10 arg11 harg11 arg12 harg12 arg13 harg13) K := by
  iintro ⟨H3, H4, H5, H6, H7, H8, ⟨%d9, H9⟩, H10, H11, H12, H13, HK⟩
  iapply (fwdNext (F := F) c i arg3 harg3 arg4 harg4 arg5 harg5 arg6 harg6 arg7 harg7 arg8 harg8 arg9 harg9 arg10 harg10 arg11 harg11 arg12 harg12 arg13 harg13 hc x0 x1 x2 x3 x4 d9 x_arg13).2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, ⟨%f8, H8⟩, H9, ⟨%f10, H10⟩, H11, H12, H13⟩
  iapply HK
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact fwdNext_arg8 c i arg3 harg3 arg4 harg4 arg5 harg5 arg6 harg6 arg7 harg7 arg8 harg8 arg9 harg9 arg10 harg10 arg11 harg11 arg12 harg12 arg13 harg13 hc x0 x1 x2 x3 x4 d9 x_arg13 f8
  isplitl [H9]
  · unfold owns; iexists _; isplitr; swap; · iexact H9
    ipureintro; exact fwdNext_arg9 c i arg3 harg3 arg4 harg4 arg5 harg5 arg6 harg6 arg7 harg7 arg8 harg8 arg9 harg9 arg10 harg10 arg11 harg11 arg12 harg12 arg13 harg13 hc x0 x1 x2 x3 x4 d9 x_arg13 _
  isplitl [H10]
  · unfold owns; iexists _; isplitr; swap; · iexact H10
    ipureintro; exact fwdNext_arg10 c i arg3 harg3 arg4 harg4 arg5 harg5 arg6 harg6 arg7 harg7 arg8 harg8 arg9 harg9 arg10 harg10 arg11 harg11 arg12 harg12 arg13 harg13 hc x0 x1 x2 x3 x4 d9 x_arg13 f10
  isplitl [H11]; · iexact H11
  isplitl [H12]; · iexact H12
  unfold owns; iexists _; isplitr; swap; · iexact H13
  ipureintro; exact fwdNext_arg13 c i arg3 harg3 arg4 harg4 arg5 harg5 arg6 harg6 arg7 harg7 arg8 harg8 arg9 harg9 arg10 harg10 arg11 harg11 arg12 harg12 arg13 harg13 hc x0 x1 x2 x3 x4 d9 x_arg13 _

end Cert.KernelIdeal.Lru

end
-- ==== Proof.Lru.BwdVals.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.BwdNext
public import proofs.«01_k».proof.Proof.Lru.BwdTurn
public import proofs.«01_k».proof.Proof.Lru.BwdFirst
public import proofs.«01_k».proof.Proof.Lru.BwdLoop
public import proofs.«01_k».proof.Proof.Lru.FwdTile
public import proofs.«01_k».proof.Proof.Lru.Whole
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! What the backward body leaves at one tile: `x0` is the cotangent of the branch, `x1` the output gate's input, `x2` the states, `x3` the
eight states before the tile, `x4` the decays, `x5` the eight decays behind the tile, `x6` the convolved input, `x7` and `x8` the gates'
products, `x9` the parameters' rows, `c` the adjoint state behind the tile and `q` the parameters' sums so far. -/

theorem bwd_end_lit (𝒱 : Variants) (c : Dev nD) (bd : Option 𝒱.V) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole) (v0 : BitVec 32) (v9 : IVec S384x1 32) (v93 : IVec S384x1 32) (v114 : FVec F S384x512 .f32) (v119 : FVec F S384x512 .f32) (c4_i32 : BitVec 32) (X_arg18 : BufTy.Contents (Elt F) arg18.view.ty) (X_arg19 : BufTy.Contents (Elt F) arg19.view.ty)
    (init : Vec F S1x512 .f32) :
    st_k1_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v9 v93 v114 v119 c4_i32 X_arg18 X_arg19 init (Scf.trips (0#32) (Scalar.addi 0#32 48#32) 1#32)
      = (bwdCarry (arg18.view.read (Elt F) X_arg18) (arg19.view.read (Elt F) X_arg19) init 48,
         bwdPieces (arg18.view.read (Elt F) X_arg18) (arg19.view.read (Elt F) X_arg19) init (Scf.trips (0#32) (Scalar.addi 0#32 48#32) 1#32)) := bwd_end 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v0 v9 v93 v114 v119 c4_i32 X_arg18 X_arg19 init

theorem bwd_read_lit {m : Memref sig .tc .vmem S384x512 .f32} (f : m.view.ty.Contents (Elt F)) (p d : Vec F S384x512 .f32) (c : Vec F S1x512 .f32) :
    m.view.read (Elt F) (m.view.writes (Elt F) f (bwdPieces p d c (Scf.trips (0#32) (Scalar.addi 0#32 48#32) 1#32))) = bwdOut p d c := bwd_read f p d c

/-- A block of eight rows with one row replaced. -/
def setRow (j : ℕ) (w : Vec F S1x512 .f32) (q : Vec F S8x512 .f32) : Vec F S8x512 .f32 :=
  fun y => if (y 0).val = j then w (ValueIdx.ix2 ⟨0, Nat.one_pos⟩ (y 1)) else q y

theorem read_setRow0 {κ : Kind} {sp : Space} (v : View sig κ sp S8x512 .f32) (f : v.ty.Contents (Elt F)) (w : Vec F S1x512 .f32) (L : List (View.Piece (Elt F) S8x512 .f32)) :
    v.read (Elt F) (v.writes (Elt F) f (⟨Rect.unit (s := S8x512) ![0, 0] ![1, 512] inb_S8x512_S1x512_0_0, w⟩ :: L)) = setRow 0 w (v.read (Elt F) (v.writes (Elt F) f L)) := by
  funext y
  unfold setRow
  split
  · rename_i h
    refine View.read_writes_cons_unit_of_mem v f inb_S8x512_S1x512_0_0 w L y (ValueIdx.ix2 ⟨0, Nat.one_pos⟩ (y 1)) rfl fun a => ?_
    match a with
    | 0 => show (y 0).val = 0 + 0; omega
    | 1 => show (y 1).val = 0 + (y 1).val; omega
  · rename_i h
    exact View.read_writes_cons_unit_of_not_mem v f inb_S8x512_S1x512_0_0 w L y rfl 0 (by
      show (y 0).val < 0 ∨ 0 + 1 ≤ (y 0).val; omega)

theorem read_setRow1 {κ : Kind} {sp : Space} (v : View sig κ sp S8x512 .f32) (f : v.ty.Contents (Elt F)) (w : Vec F S1x512 .f32) (L : List (View.Piece (Elt F) S8x512 .f32)) :
    v.read (Elt F) (v.writes (Elt F) f (⟨Rect.unit (s := S8x512) ![1, 0] ![1, 512] inb_S8x512_S1x512_1_0, w⟩ :: L)) = setRow 1 w (v.read (Elt F) (v.writes (Elt F) f L)) := by
  funext y
  unfold setRow
  split
  · rename_i h
    refine View.read_writes_cons_unit_of_mem v f inb_S8x512_S1x512_1_0 w L y (ValueIdx.ix2 ⟨0, Nat.one_pos⟩ (y 1)) rfl fun a => ?_
    match a with
    | 0 => show (y 0).val = 1 + 0; omega
    | 1 => show (y 1).val = 0 + (y 1).val; omega
  · rename_i h
    exact View.read_writes_cons_unit_of_not_mem v f inb_S8x512_S1x512_1_0 w L y rfl 0 (by
      show (y 0).val < 1 ∨ 1 + 1 ≤ (y 0).val; omega)

theorem read_setRow2 {κ : Kind} {sp : Space} (v : View sig κ sp S8x512 .f32) (f : v.ty.Contents (Elt F)) (w : Vec F S1x512 .f32) (L : List (View.Piece (Elt F) S8x512 .f32)) :
    v.read (Elt F) (v.writes (Elt F) f (⟨Rect.unit (s := S8x512) ![2, 0] ![1, 512] inb_S8x512_S1x512_2_0, w⟩ :: L)) = setRow 2 w (v.read (Elt F) (v.writes (Elt F) f L)) := by
  funext y
  unfold setRow
  split
  · rename_i h
    refine View.read_writes_cons_unit_of_mem v f inb_S8x512_S1x512_2_0 w L y (ValueIdx.ix2 ⟨0, Nat.one_pos⟩ (y 1)) rfl fun a => ?_
    match a with
    | 0 => show (y 0).val = 2 + 0; omega
    | 1 => show (y 1).val = 0 + (y 1).val; omega
  · rename_i h
    exact View.read_writes_cons_unit_of_not_mem v f inb_S8x512_S1x512_2_0 w L y rfl 0 (by
      show (y 0).val < 2 ∨ 2 + 1 ≤ (y 0).val; omega)

theorem readCov_ld {κ : Kind} {sp : Space} {s : Shape} {e : EltTy} (v : View sig κ sp s e) (L : List (View.Piece (Elt F) s e)) (r : Rect s) :
    v.readCov L r.toLoadRect = View.ld (v.read (Elt F) (v.writes (Elt F) v.junk L)) r := rfl

theorem read_fill {κ : Kind} {sp : Space} (v : View sig κ sp S8x512 .f32) (f : v.ty.Contents (Elt F)) (w : Vec F S8x512 .f32) (L : List (View.Piece (Elt F) S8x512 .f32)) :
    v.read (Elt F) (v.writes (Elt F) f (⟨Rect.unit (s := S8x512) ![0, 0] ![8, 512] inb_S8x512_S8x512_0_0, w⟩ :: L)) = w := View.read_writes_full v f inb_S8x512_S8x512_0_0 w L

theorem row1_setRow0 (w : Vec F S1x512 .f32) (q : Vec F S8x512 .f32) :
    View.ld (setRow 0 w q) (Rect.unit (s := S8x512) ![1, 0] ![1, 512] inb_S8x512_S1x512_1_0) = View.ld q (Rect.unit (s := S8x512) ![1, 0] ![1, 512] inb_S8x512_S1x512_1_0) := by
  funext y
  refine if_neg ?_
  show ¬(1 + 1 * (y 0).val = 0); omega
theorem row2_setRow0 (w : Vec F S1x512 .f32) (q : Vec F S8x512 .f32) :
    View.ld (setRow 0 w q) (Rect.unit (s := S8x512) ![2, 0] ![1, 512] inb_S8x512_S1x512_2_0) = View.ld q (Rect.unit (s := S8x512) ![2, 0] ![1, 512] inb_S8x512_S1x512_2_0) := by
  funext y
  refine if_neg ?_
  show ¬(2 + 1 * (y 0).val = 0); omega
theorem row2_setRow1 (w : Vec F S1x512 .f32) (q : Vec F S8x512 .f32) :
    View.ld (setRow 1 w q) (Rect.unit (s := S8x512) ![2, 0] ![1, 512] inb_S8x512_S1x512_2_0) = View.ld q (Rect.unit (s := S8x512) ![2, 0] ![1, 512] inb_S8x512_S1x512_2_0) := by
  funext y
  refine if_neg ?_
  show ¬(2 + 1 * (y 0).val = 1); omega

/-- The tile's place in time. -/
def bwdT (i : grid1.Coords) : BitVec 32 := Scalar.subi 10#32 (BitVec.ofNat 32 (i 2).val)
/-- The next step's decay, step by step. -/
def bwdB (i : grid1.Coords) (x4 : Vec F S1x384x512 .f32) (x5 : Vec F S1x8x512 .f32) : FVec F S384x512 .f32 :=
  k1_pay12 (bwdT i) rowNo (k1_pay5 x4) (View.ld x5 (Rect.unit (s := S1x8x512) ![0, 0, 0] S1x1x512.size inb_S1x8x512_S1x1x512_0_0_0))
/-- The adjoints' inputs after two doublings. -/
def bwdD4 (i : grid1.Coords) (x0 x1 x4 : Vec F S1x384x512 .f32) (x5 : Vec F S1x8x512 .f32) : FVec F S384x512 .f32 :=
  k1_pay19 rowNo (k1_pay6 x0) (bwdB i x4 x5) (k1_pay13 (k1_pay3 x1)) (k1_pay14 (k1_pay3 x1))
/-- The decays after two doublings. -/
def bwdB4 (i : grid1.Coords) (x4 : Vec F S1x384x512 .f32) (x5 : Vec F S1x8x512 .f32) : FVec F S384x512 .f32 := k1_pay20 rowNo (bwdB i x4 x5)
/-- The products of the decays to the end of a group of eight. -/
def bwdPb (i : grid1.Coords) (x4 : Vec F S1x384x512 .f32) (x5 : Vec F S1x8x512 .f32) : FVec F S384x512 .f32 := k1_pay22 (k1_pay15 rowNo) (bwdB4 i x4 x5) 4#32
/-- The adjoints of a group of eight entered at zero. -/
def bwdPd (i : grid1.Coords) (x0 x1 x4 : Vec F S1x384x512 .f32) (x5 : Vec F S1x8x512 .f32) : FVec F S384x512 .f32 :=
  k1_pay23 (k1_pay15 rowNo) (bwdD4 i x0 x1 x4 x5) (bwdB4 i x4 x5) 4#32
/-- The adjoints of the states. -/
def bwdG (i : grid1.Coords) (x0 x1 x4 : Vec F S1x384x512 .f32) (x5 : Vec F S1x8x512 .f32) (c : Vec F S1x512 .f32) : Vec F S384x512 .f32 :=
  bwdOut (bwdPb i x4 x5) (bwdPd i x0 x1 x4 x5) c
/-- The adjoint state after the tile. -/
def bwdLast (i : grid1.Coords) (x0 x1 x4 : Vec F S1x384x512 .f32) (x5 : Vec F S1x8x512 .f32) (c : Vec F S1x512 .f32) : Vec F S1x512 .f32 :=
  k1_pay27 (bwdCarry (bwdPb i x4 x5) (bwdPd i x0 x1 x4 x5) c 48)
/-- The states one step before. -/
def bwdHprev (i : grid1.Coords) (x2 : Vec F S1x384x512 .f32) (x3 : Vec F S1x8x512 .f32) : FVec F S384x512 .f32 :=
  k1_pay30 (k1_pay4 x2) (k1_pay28 (bwdT i) (View.ld x3 (Rect.unit (s := S1x8x512) ![0, 7, 0] S1x1x512.size inb_S1x8x512_S1x1x512_0_7_0))) (k1_pay29 rowNo) 1#32
/-- Whether a row is the sequence's first. -/
def bwdFirstRow (i : grid1.Coords) := k1_pay31 (bwdT i) rowNo
/-- The recurrence gate. -/
def bwdR (x7 : Vec F S1x384x512 .f32) (x9 : Vec F S8x512 .f32) : FVec F S384x512 .f32 := k1_pay33 x7 (row0 x9)
/-- The input gate. -/
def bwdI (x8 : Vec F S1x384x512 .f32) (x9 : Vec F S8x512 .f32) : FVec F S384x512 .f32 := k1_pay34 x8 (row1 x9)
/-- One minus the decay's square. -/
def bwdM0 (x7 : Vec F S1x384x512 .f32) (x9 : Vec F S8x512 .f32) : FVec F S384x512 .f32 := k1_pay36 (bwdR x7 x9) (row2 x9)
/-- The output gate's cotangent. -/
def bwdDg (x0 x1 x2 : Vec F S1x384x512 .f32) : Vec F S1x384x512 .bf16 :=
  k1_pay11 (k1_pay3 x1) (k1_pay7 x2 x0) (k1_pay8 x1) (k1_pay9 x1) k1_pay10
/-- The recurrence gate's cotangent. -/
def bwdDra (i : grid1.Coords) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (c : Vec F S1x512 .f32) : Vec F S1x384x512 .bf16 :=
  k1_pay43 (k1_pay5 x4) (bwdG i x0 x1 x4 x5 c) (bwdHprev i x2 x3) (bwdFirstRow i) (k1_pay32 x6) (bwdR x7 x9) (bwdI x8 x9) (k1_pay35 (row2 x9)) (bwdM0 x7 x9)
/-- The input gate's cotangent. -/
def bwdDix (i : grid1.Coords) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (c : Vec F S1x512 .f32) : Vec F S1x384x512 .bf16 :=
  k1_pay45 (k1_pay44 (bwdG i x0 x1 x4 x5 c) (bwdFirstRow i) (k1_pay32 x6) (bwdI x8 x9) (bwdM0 x7 x9))
/-- The convolved input's cotangent. -/
def bwdDxc (i : grid1.Coords) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (c : Vec F S1x512 .f32) : Vec F S1x384x512 .f32 :=
  k1_pay39 (bwdG i x0 x1 x4 x5 c) (bwdFirstRow i) (bwdI x8 x9) (bwdM0 x7 x9)
/-- The parameters' sums after the tile. -/
def bwdDp (i : grid1.Coords) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (c : Vec F S1x512 .f32) (q : Vec F S8x512 .f32) : Vec F S8x512 .f32 :=
  setRow 2 (k1_pay48 (bwdR x7 x9) (k1_pay40 (k1_pay5 x4) (bwdG i x0 x1 x4 x5 c) (bwdHprev i x2 x3) (bwdFirstRow i) (k1_pay32 x6) (bwdI x8 x9) (bwdM0 x7 x9)) (row2 q) (row2 x9))
    (setRow 1 (k1_pay47 (k1_pay42 (bwdG i x0 x1 x4 x5 c) (bwdFirstRow i) (k1_pay32 x6) (bwdI x8 x9) (bwdM0 x7 x9)) (row1 q))
      (setRow 0 (k1_pay46 (k1_pay41 (k1_pay5 x4) (bwdG i x0 x1 x4 x5 c) (bwdHprev i x2 x3) (bwdFirstRow i) (k1_pay32 x6) (bwdR x7 x9) (bwdI x8 x9) (k1_pay35 (row2 x9)) (bwdM0 x7 x9)) (row0 q)) q))

end Cert.KernelIdeal.Lru

end
-- ==== Proof.Lru.Scan.lean ====
/-
  What the backward pass's tile computes, column by column: three doublings combine the steps of every group of eight, and the loop over
  the groups, from the last to the first, carries the adjoint state through the tile.
-/
module

public import proofs.«01_k».proof.Proof.Lru.Affine
public import proofs.«01_k».proof.Proof.Lru.BwdVals
public import Idealize.ShloMosaic.Lib.Pipeline.ValueKit
public import Idealize.ShloMosaic.Lib.Pipeline.ReadBack
public import Idealize.ShloMosaic.Lib.KernelVsHost
public import Idealize.ShloMosaic.Lib.Affine

@[expose] public section

set_option maxRecDepth 16384

noncomputable section

namespace Cert.KernelIdeal.Lru

open Cert.KernelIdeal Cert.KernelIdeal.Gen Cert.Lru
open Idealize.ShloMosaic Idealize.ShloMosaic.TcCoe

/-- Column `l` of a tile, its rows repeated without end. -/
def col (v : FVec Ideal S384x512 .f32) (l : Fin 512) (y : ℕ) : EReal := v (ix2 ⟨y % 384, Nat.mod_lt _ (by decide)⟩ l)

theorem col_at (v : FVec Ideal S384x512 .f32) (j : S384x512.Idx) : v j = col v (j 1) (j 0).val := by
  unfold col
  congr 1
  have h : (j 0).val < 384 := (j 0).isLt
  funext a
  fin_cases a
  · exact Fin.ext (Nat.mod_eq_of_lt h).symm
  · rfl

/-- A rotation by `384 - s` reads `s` rows further down. -/
theorem col_rotate (v : FVec Ideal S384x512 .f32) (sb : BitVec 32) (s : ℕ) (hs : sb.toNat + s = 384) (hs' : 0 < s) (h : S384x512.Rotates 0 none)
    (l : Fin 512) (y : ℕ) : col (dynamicRotate 0 sb none v h) l y = col v l (y + s) := by
  unfold col
  refine dynamicRotate_apply (s := S384x512) 0 sb v h _ _ fun b => ?_
  match b with
  | ⟨0, _⟩ =>
    show (y + s) % 384 = (y % 384 + 384 - sb.toNat % 384) % 384
    omega
  | ⟨1, _⟩ => rfl

/-- The row's place in its group of eight. -/
theorem sub_toNat (j : S384x1.Idx) : (k1_pay15 rowNo j).toNat = (j 0).val % 8 := by
  have h : ∀ r : Fin 384, (k1_pay15 rowNo (ix2 r (0 : Fin 1) : S384x1.Idx)).toNat = r.val % 8 := by decide +kernel
  have hj : j = (ix2 (j 0) (0 : Fin 1) : S384x1.Idx) := by
    funext a
    fin_cases a
    · rfl
    · exact Fin.ext (by have := (j 1).isLt; simp only [S384x1] at this; have h1 : (j 1).val < 1 := this; show (j 1).val = 0; omega)
  rw [hj]
  exact h (j 0)

/-- The mask of a doubling. -/
theorem slt_sub (j : S384x1.Idx) (kk : BitVec 32) (k : ℕ) (hk : kk.toNat = k) (hk8 : k < 8) :
    (IntOp.cmpi .slt (k1_pay15 rowNo j) kk = 1#1) ↔ (j 0).val % 8 < k := by
  have h := sub_toNat j
  rw [IntOp.cmpi_slt, BitVec.toInt_eq_toNat_of_lt (by rw [h]; omega), BitVec.toInt_eq_toNat_of_lt (by omega), h, hk]
  omega

theorem mask_col (kk : BitVec 32) (k : ℕ) (hk : kk.toNat = k) (hk8 : k < 8) (A B : FVec Ideal S384x512 .f32) (h1 h2) (l : Fin 512) (y : ℕ) :
    col (select (broadcastTo S384x512 (shapeCast S384x1 (cmpi .slt (k1_pay15 rowNo) (broadcast S384x1 kk)) h1 : IVec S384x1 1) h2) A B) l y
      = if y % 8 < k then col A l y else col B l y := by
  unfold col
  pointwise
  have h := slt_sub (ix2 ⟨y % 384, Nat.mod_lt _ (by decide)⟩ (0 : Fin 1)) kk k hk hk8
  have hy : (y % 384) % 8 = y % 8 := by omega
  have h' : (IntOp.cmpi .slt (k1_pay15 rowNo (ix2 ⟨y % 384, Nat.mod_lt _ (by decide)⟩ (0 : Fin 1))) kk = 1#1) ↔ y % 8 < k := h.trans (by
    show (y % 384) % 8 < k ↔ _
    rw [hy])
  unfold Scalar.select
  exact if_congr h' rfl rfl

theorem col_mulf (a b : FVec Ideal S384x512 .f32) (l : Fin 512) (y : ℕ) : col (mulf a b) l y = col a l y * col b l y := rfl
theorem col_addf (a b : FVec Ideal S384x512 .f32) (l : Fin 512) (y : ℕ) : col (addf a b) l y = col a l y + col b l y := rfl
theorem col_cast (a : FVec Ideal S384x512 .f32) (h) (l : Fin 512) (y : ℕ) : col (shapeCast S384x512 a h) l y = col a l y := by
  unfold col
  pointwise

/-! The three doublings of the decays and of the adjoints' inputs. -/

theorem pay17_col (b : FVec Ideal S384x512 .f32) (l : Fin 512) (y : ℕ) :
    col (k1_pay17 rowNo b) l y = if y % 8 < 8 - 1 then col b l y * col b l (y + 1) else col b l y := by
  unfold k1_pay17 k1_pay16
  refine (mask_col 7#32 7 rfl (by decide) _ _ _ _ l y).trans ?_
  rw [col_mulf, col_rotate _ 383#32 1 rfl (by decide)]

theorem pay20_col (b : FVec Ideal S384x512 .f32) (l : Fin 512) (y : ℕ) :
    col (k1_pay20 rowNo b) l y = if y % 8 < 8 - 2 then col (k1_pay17 rowNo b) l y * col (k1_pay17 rowNo b) l (y + 2) else col (k1_pay17 rowNo b) l y := by
  unfold k1_pay20 k1_pay18
  refine (mask_col 6#32 6 rfl (by decide) _ _ _ _ l y).trans ?_
  rw [col_mulf, col_rotate _ 382#32 2 rfl (by decide)]

theorem pay22_col (b : FVec Ideal S384x512 .f32) (l : Fin 512) (y : ℕ) :
    col (k1_pay22 (k1_pay15 rowNo) b 4#32) l y = if y % 8 < 8 - 4 then col b l y * col b l (y + 4) else col b l y := by
  unfold k1_pay22 k1_pay21
  refine (col_cast _ _ l y).trans ((mask_col 4#32 4 rfl (by decide) _ _ _ _ l y).trans ?_)
  rw [col_mulf, col_rotate _ 380#32 4 rfl (by decide)]

theorem pay23_col (d b : FVec Ideal S384x512 .f32) (l : Fin 512) (y : ℕ) :
    col (k1_pay23 (k1_pay15 rowNo) d b 4#32) l y = if y % 8 < 8 - 4 then col d l y + col b l y * col d l (y + 4) else col d l y := by
  unfold k1_pay23 k1_pay21
  refine (col_cast _ _ l y).trans ((mask_col 4#32 4 rfl (by decide) _ _ _ _ l y).trans ?_)
  rw [col_addf, col_mulf, col_rotate _ 380#32 4 rfl (by decide)]

/-- The adjoints' input: the cotangent through the output gate. -/
def bwdX (x p q : FVec Ideal S384x512 .f32) : FVec Ideal S384x512 .f32 :=
  mulf x (mulf p (addf (broadcast S384x512 (Scalar.ofBits .f32 0x3F800000#32)) q))

/-- After one doubling. -/
def bwdD2 (b x : FVec Ideal S384x512 .f32) : FVec Ideal S384x512 .f32 :=
  select (broadcastTo S384x512 (shapeCast S384x1 (k1_pay16 rowNo) shapeCasts_S384x1_S384x1) broadcasts_S384x1_S384x512)
    (addf x (mulf b (dynamicRotate 0 383#32 none x rotates_S384x512_d0))) x

theorem bwdD2_col (b x : FVec Ideal S384x512 .f32) (l : Fin 512) (y : ℕ) :
    col (bwdD2 b x) l y = if y % 8 < 8 - 1 then col x l y + col b l y * col x l (y + 1) else col x l y := by
  unfold bwdD2 k1_pay16
  refine (mask_col 7#32 7 rfl (by decide) _ _ _ _ l y).trans ?_
  rw [col_addf, col_mulf, col_rotate _ 383#32 1 rfl (by decide)]

theorem pay19_col (x b p q : FVec Ideal S384x512 .f32) (l : Fin 512) (y : ℕ) :
    col (k1_pay19 rowNo x b p q) l y = if y % 8 < 8 - 2 then col (bwdD2 b (bwdX x p q)) l y + col (k1_pay17 rowNo b) l y * col (bwdD2 b (bwdX x p q)) l (y + 2)
      else col (bwdD2 b (bwdX x p q)) l y := by
  unfold k1_pay19 k1_pay18
  refine (mask_col 6#32 6 rfl (by decide) _ _ _ _ l y).trans ?_
  rw [col_addf, col_mulf, col_rotate _ 382#32 2 rfl (by decide)]
  rfl

/-- The three doublings compose the steps of every group of eight. -/
theorem stage_eight (x b p q : FVec Ideal S384x512 .f32) (l : Fin 512) (hb : ∀ y, Decay (col b l y)) :
    Stage (col b l) (col (bwdX x p q) l) 8 (col (k1_pay23 (k1_pay15 rowNo) (k1_pay19 rowNo x b p q) (k1_pay20 rowNo b) 4#32) l)
      (col (k1_pay22 (k1_pay15 rowNo) (k1_pay20 rowNo b) 4#32) l) :=
  (((stage_one _ _ hb).double (by decide) (by decide) (bwdD2_col b (bwdX x p q) l) (pay17_col b l)).double (by decide) (by decide)
    (pay19_col x b p q l) (pay20_col b l)).double (by decide) (by decide) (pay23_col _ _ l) (pay22_col _ l)

/-! The loop over the groups. -/

theorem ix_row (r : Fin 8) (l : Fin 512) (k : Fin k1_t1_loop.trips) (x : FVec Ideal S384x512 .f32) :
    (bwdRows (F := Ideal) x k (ix2 r l) : EReal) = col x l (8 * (47 - k.val) + r.val) := by
  unfold bwdRows col
  have hk : k.val < 48 := k.isLt
  congr 1
  funext a
  fin_cases a
  · refine Fin.ext ?_
    show k1_off1 k 0 + 1 * r.val = (8 * (47 - k.val) + r.val) % 384
    rw [bwdRows_off k]
    show 8 * (47 - k.val) + 1 * r.val = _
    omega
  · refine Fin.ext ?_
    show k1_off1 k 1 + 1 * l.val = l.val
    rw [bwdRows_off k]
    show 0 + 1 * l.val = l.val
    omega

theorem pay25_apply (c : FVec Ideal S1x512 .f32) (d p : FVec Ideal S8x512 .f32) (r : Fin 8) (l : Fin 512) :
    k1_pay25 c d p (ix2 r l) = d (ix2 r l) + p (ix2 r l) * c (ix2 (0 : Fin 1) l) := by
  unfold k1_pay25 k1_pay24
  pointwise

theorem pay26_apply (c : FVec Ideal S1x512 .f32) (d p : FVec Ideal S8x512 .f32) (l : Fin 512) :
    k1_pay26 c d p (ix2 (0 : Fin 1) l) = d (ix2 (0 : Fin 8) l) + p (ix2 (0 : Fin 8) l) * c (ix2 (0 : Fin 1) l) := by
  unfold k1_pay26 k1_pay24
  pointwise
  refine (Finset.sum_eq_single (0 : Fin 8) (fun k _ hk => ?_) (fun h => absurd (Finset.mem_univ _) h)).trans ?_
  · have h : ∀ k : Fin 8, k ≠ 0 → ¬(IntOp.cmpi .eq (BitVec.ofNat 32 k.val) 0#32 = 1#1) := by decide
    exact if_neg (h k hk)
  · rfl

section loop
variable {b x : ℕ → EReal} {p d : FVec Ideal S384x512 .f32} {l : Fin 512} (hst : Stage b x 8 (col d l) (col p l)) (c : FVec Ideal S1x512 .f32)
include hst

/-- The state carried into the groups: so many steps from the tile's end. -/
theorem carry_lin : ∀ k ≤ 48, (bwdCarry (F := Ideal) p d c k (ix2 (0 : Fin 1) l) : EReal) = lin b x (8 * k) (384 - 8 * k) (c (ix2 (0 : Fin 1) l))
  | 0, _ => rfl
  | k + 1, hk => by
    have hk' : k < k1_t1_loop.trips := hk
    rw [bwdCarry, dif_pos hk', pay26_apply, ix_row, ix_row, carry_lin k (by omega)]
    show col d l (8 * (47 - k)) + col p l (8 * (47 - k)) * _ = _
    rw [(hst _).2, show min 8 (8 - 8 * (47 - k) % 8) = 8 by omega, show 384 - 8 * k = 8 * (47 - k) + 8 by omega, ← lin_add]
    congr 1 <;> omega

/-- The tile that the loop stores: at row `y`, the steps from the tile's end to `y`. -/
theorem out_lin (r : Fin 384) : (bwdOut (F := Ideal) p d c (ix2 r l) : EReal) = lin b x (384 - r.val) r.val (c (ix2 (0 : Fin 1) l)) := by
  have hr := r.isLt
  unfold bwdOut bwdCell
  refine (pay25_apply _ _ _ ⟨r.val % 8, Nat.mod_lt _ (by decide)⟩ l).trans ?_
  rw [ix_row, ix_row, carry_lin hst c _ (by show 47 - r.val / 8 ≤ 48; omega)]
  show col d l (8 * (47 - (47 - r.val / 8)) + r.val % 8) + col p l (8 * (47 - (47 - r.val / 8)) + r.val % 8) * lin b x (8 * (47 - r.val / 8)) (384 - 8 * (47 - r.val / 8)) _ = _
  rw [show 8 * (47 - (47 - r.val / 8)) + r.val % 8 = r.val by omega, (hst _).2, show min 8 (8 - r.val % 8) = 8 - r.val % 8 by omega,
    show 384 - 8 * (47 - r.val / 8) = r.val + (8 - r.val % 8) by omega, ← lin_add]
  congr 1
  omega

end loop

end Cert.KernelIdeal.Lru

end
-- ==== Proof.Lru.Spec.lean ====
/-
  The adjoint of the gated linear recurrence and the two gradients read from it, at one place of the batch and the channels, step by step.
-/
module

public import proofs.«01_k».proof.Proof.Lru.Affine
public import Idealize.ShloMosaic.Lib.Pointwise.Index

@[expose] public section

noncomputable section

namespace Cert.Lru

open Idealize.ShloMosaic

/-- The decay that a step's adjoint meets: the next step's, and none behind the last step. -/
def nxt (a : ℕ → EReal) (n : ℕ) : EReal := if n = 4223 then 0 else a (n + 1)

/-- The adjoint state of step `n`: the contributions of the steps from `n` to the last, each carried back through the decays between. -/
def adj (a x : ℕ → EReal) (n : ℕ) : EReal := lin (nxt a) x (4224 - n) n 0

/-- The decay of a step from its gate and the scaled parameter. -/
def decay (r s : EReal) : EReal := Ideal.exp (Ideal.ofBits .f32 0x41000000#32 * r * s)

/-- The factor of a step's input: `1` at the first step, elsewhere the square root of one minus the decay squared. -/
def mult (n : ℕ) (r s : EReal) : EReal :=
  if n = 0 then 1 else Ideal.sqrt (-(Ideal.exp (Ideal.ofBits .f32 0x40000000#32 * (Ideal.ofBits .f32 0x41000000#32 * r * s)) - 1))

/-- The gate's activation. -/
def act (g : EReal) : EReal :=
  gelu (Ideal.ofBits .f32 0x3D372713#32) (Ideal.ofBits .f32 0x3F4C422A#32) (Ideal.ofBits .f32 0x3F000000#32) g

/-- The gradient of the recurrence's input. -/
def outX (G M I : EReal) : EReal := I * (M * G)

/-- The gradient of the input gate's preactivation. -/
def outI (G M I X : EReal) : EReal := M * G * X * (I * (1 - I))

theorem adj_congr {a x a' x' : ℕ → EReal} (n : ℕ) (h : ∀ i, i < 4224 → a i = a' i ∧ x i = x' i) : adj a x n = adj a' x' n := by
  refine lin_congr _ _ _ _ _ _ _ _ fun i hi => ⟨?_, (h _ (by omega)).2⟩
  unfold nxt
  split
  · rfl
  · exact (h _ (by omega)).1

/-- An array over the batch, the steps and the channels. -/
abbrev A3 := (⟨3, ![2, 4224, 1024]⟩ : Shape).Idx → EReal
/-- A row of channels. -/
abbrev A1 := (⟨1, ![1024]⟩ : Shape).Idx → EReal
/-- The array that holds the recurrence's input. -/
abbrev AU := (⟨3, ![2, 4224, 2560]⟩ : Shape).Idx → EReal
/-- The array that holds the gate. -/
abbrev AG := (⟨3, ![2, 4224, 10880]⟩ : Shape).Idx → EReal

/-- A step, the steps repeated without end. -/
def stepOf (n : ℕ) : Fin 4224 := ⟨n % 4224, Nat.mod_lt _ (by decide)⟩

theorem stepOf_val (t : Fin 4224) : stepOf t.val = t := Fin.ext (Nat.mod_eq_of_lt t.isLt)

/-- A gate from its preactivation and its offset. -/
def gateAt (x : A3) (o : A1) (b : Fin 2) (l : Fin 1024) (n : ℕ) : EReal := sg (x (ix3 b (stepOf n) l) + o (ix1 l))

/-- The decay of a step. -/
def decayAt (ra : A3) (ba lam : A1) (b : Fin 2) (l : Fin 1024) (n : ℕ) : EReal := decay (gateAt ra ba b l n) (ls (lam (ix1 l)))

/-- The factor of a step's input. -/
def multAt (ra : A3) (ba lam : A1) (b : Fin 2) (l : Fin 1024) (n : ℕ) : EReal := mult n (gateAt ra ba b l n) (ls (lam (ix1 l)))

/-- What the output's gradient gives a step's state. -/
def inAt (dy : A3) (g : AG) (b : Fin 2) (l : Fin 1024) (n : ℕ) : EReal :=
  dy (ix3 b (stepOf n) l) * act (g (ix3 b (stepOf n) ⟨7168 + l.val, by omega⟩))

/-- The adjoint of a step's state. -/
def adjAt (dy : A3) (g : AG) (ra : A3) (ba lam : A1) (b : Fin 2) (l : Fin 1024) (n : ℕ) : EReal :=
  adj (decayAt ra ba lam b l) (inAt dy g b l) n

/-- The gradient of the recurrence's input. -/
def resX (dy : A3) (g : AG) (ra ix : A3) (ba bx lam : A1) (b : Fin 2) (n : Fin 4224) (l : Fin 1024) : EReal :=
  outX (adjAt dy g ra ba lam b l n.val) (multAt ra ba lam b l n.val) (gateAt ix bx b l n.val)

/-- The gradient of the input gate's preactivation. -/
def resI (dy : A3) (g : AG) (u : AU) (ra ix : A3) (ba bx lam : A1) (b : Fin 2) (n : Fin 4224) (l : Fin 1024) : EReal :=
  outI (adjAt dy g ra ba lam b l n.val) (multAt ra ba lam b l n.val) (gateAt ix bx b l n.val) (u (ix3 b n ⟨1536 + l.val, by omega⟩))

end Cert.Lru

end
-- ==== Proof.Lru.TileVal.lean ====
/- The scalars of the backward pass's tile. -/
module

public import proofs.«01_k».proof.Proof.Lru.Scan
public import proofs.«01_k».proof.Proof.Lru.Spec

@[expose] public section

set_option maxRecDepth 16384

noncomputable section

namespace Cert.KernelIdeal.Lru

open Cert.KernelIdeal Cert.KernelIdeal.Gen Cert.Lru
open Idealize.ShloMosaic Idealize.ShloMosaic.TcCoe

theorem ofBits_half : Ideal.ofBits .f32 0x3F000000#32 = ((1/2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num

variable (i : grid1.Coords) (x0 x1 x2 x4 x6 x7 x8 : FVec Ideal S1x384x512 .f32) (x5 x3 : FVec Ideal S1x8x512 .f32) (x9 : FVec Ideal S8x512 .f32)
  (r : Fin 384) (l : Fin 512)

theorem bwdR_at : @Eq EReal (bwdR (F := Ideal) x7 x9 (ix2 r l)) (sg (x7 (ix3 (0 : Fin 1) r l) + x9 (ix2 (0 : Fin 8) l))) := by
  unfold bwdR k1_pay33 row0 sg
  pointwise
  rw [zero_sub]

theorem bwdI_at : @Eq EReal (bwdI (F := Ideal) x8 x9 (ix2 r l)) (sg (x8 (ix3 (0 : Fin 1) r l) + x9 (ix2 (1 : Fin 8) l))) := by
  unfold bwdI k1_pay34 row1 sg
  pointwise
  rw [zero_sub]

theorem bwdX_at : @Eq EReal (bwdX (k1_pay6 x0) (k1_pay13 (k1_pay3 x1)) (k1_pay14 (k1_pay3 x1)) (ix2 r l))
    (x0 (ix3 (0 : Fin 1) r l) * act (x1 (ix3 (0 : Fin 1) r l))) := by
  unfold bwdX k1_pay6 k1_pay13 k1_pay3 k1_pay14 act gelu
  pointwise
  simp only [mul_assoc, mul_left_comm, mul_comm]

theorem bwdB_at : @Eq EReal (bwdB (F := Ideal) i x4 x5 (ix2 r l))
    (if r.val = 383 then (if (i 2).val = 0 then 0 else x5 (ix3 (0 : Fin 1) (0 : Fin 8) l)) else x4 (ix3 (0 : Fin 1) ⟨(r.val + 1) % 384, Nat.mod_lt _ (by decide)⟩ l)) := by
  unfold bwdB k1_pay12 k1_pay5
  pointwise
  have h1 : (IntOp.cmpi .eq (rowNo (ix2 r (0 : Fin 1))) 383#32 = 1#1) ↔ r.val = 383 := by
    revert r; decide +kernel
  have h2 : (Scalar.cmpi .eq (bwdT i) 10#32 = 1#1) ↔ (i 2).val = 0 := by
    unfold bwdT
    generalize i 2 = k
    revert k; decide +kernel
  unfold Scalar.select
  refine if_congr h1 (if_congr h2 rfl rfl) ?_
  congr 1

/-- The parameter's row as the kernel computes it. -/
theorem pay35_at : @Eq EReal (k1_pay35 (F := Ideal) (row2 x9) (ix2 (0 : Fin 1) l)) (lsK (x9 (ix2 (2 : Fin 8) l))) := by
  unfold k1_pay35 row2 lsK lsE
  pointwise
  rfl

theorem bwdM0_at : @Eq EReal (bwdM0 (F := Ideal) x7 x9 (ix2 r l))
    (omK (Ideal.ofBits .f32 0x40000000#32 * (Ideal.ofBits .f32 0x41000000#32 * sg (x7 (ix3 (0 : Fin 1) r l) + x9 (ix2 (0 : Fin 8) l)) * lsK (x9 (ix2 (2 : Fin 8) l))))) := by
  rw [← pay35_at, ← bwdR_at]
  unfold bwdM0 k1_pay36 omK omE
  rw [← ofBits_half]
  pointwise

theorem and_one : ∀ a b : BitVec 1, IntOp.andi a b = 1#1 ↔ a = 1#1 ∧ b = 1#1 := by decide

theorem first_at : (bwdFirstRow i (ix2 r (0 : Fin 1)) = 1#1) ↔ ((i 2).val = 10 ∧ r.val = 0) := by
  unfold bwdFirstRow k1_pay31
  pointwise
  have h1 : (IntOp.cmpi .eq (rowNo (ix2 r (0 : Fin 1))) 0#32 = 1#1) ↔ r.val = 0 := by
    revert r; decide +kernel
  have h2 : (Scalar.cmpi .eq (bwdT i) 0#32 = 1#1) ↔ (i 2).val = 10 := by
    unfold bwdT
    generalize i 2 = k
    revert k; decide +kernel
  rw [and_one, h1, h2]

/-- The exponent of the decay squared is real where the parameter is. -/
theorem expo_real (z : EReal) (q : ℝ) : ∃ y : ℝ, Ideal.ofBits .f32 0x40000000#32 * (Ideal.ofBits .f32 0x41000000#32 * sg z * ls q) = y := by
  obtain ⟨s, hs⟩ := sg_real z
  rw [hs, ls_coe, ofBits_two, ofBits_eight]
  exact ⟨_, by rw [← EReal.coe_mul, ← EReal.coe_mul, ← EReal.coe_mul]⟩

/-- The factor of a step's input, as the kernel computes it. -/
theorem mult_at {q : ℝ} (hq : @Eq EReal (x9 (ix2 (2 : Fin 8) l)) q) (n : ℕ) (hn : n = 0 ↔ ((i 2).val = 10 ∧ r.val = 0)) :
    @Eq EReal (k1_pay38 (F := Ideal) (bwdFirstRow i) (bwdM0 x7 x9) (ix2 r l)) (mult n (sg (x7 (ix3 (0 : Fin 1) r l) + x9 (ix2 (0 : Fin 8) l))) (ls (x9 (ix2 (2 : Fin 8) l)))) := by
  have h0 := bwdM0_at x7 x9 r l
  rw [hq, lsK_coe] at h0
  obtain ⟨y, hy⟩ := expo_real (x7 (ix3 (0 : Fin 1) r l) + x9 (ix2 (0 : Fin 8) l)) q
  unfold mult
  rw [hq, hy, ← omK_coe, ← hy, ← h0]
  unfold k1_pay38
  pointwise
  unfold Scalar.select
  exact if_congr ((first_at i r).trans hn.symm) rfl rfl

variable (c : FVec Ideal S1x512 .f32)

theorem bwdDxc_at : @Eq EReal (bwdDxc (F := Ideal) i x0 x1 x2 x3 x4 x5 x6 x7 x8 x9 c (ix3 (0 : Fin 1) r l))
    (outX (bwdG (F := Ideal) i x0 x1 x4 x5 c (ix2 r l)) (k1_pay38 (F := Ideal) (bwdFirstRow i) (bwdM0 x7 x9) (ix2 r l))
      (sg (x8 (ix3 (0 : Fin 1) r l) + x9 (ix2 (1 : Fin 8) l)))) := by
  rw [← bwdI_at]
  unfold bwdDxc k1_pay39 outX
  pointwise
  simp only [mul_assoc, mul_left_comm, mul_comm]

theorem bwdDix_at : @Eq EReal (bwdDix (F := Ideal) i x0 x1 x2 x3 x4 x5 x6 x7 x8 x9 c (ix3 (0 : Fin 1) r l))
    (outI (bwdG (F := Ideal) i x0 x1 x4 x5 c (ix2 r l)) (k1_pay38 (F := Ideal) (bwdFirstRow i) (bwdM0 x7 x9) (ix2 r l))
      (sg (x8 (ix3 (0 : Fin 1) r l) + x9 (ix2 (1 : Fin 8) l))) (x6 (ix3 (0 : Fin 1) r l))) := by
  rw [← bwdI_at]
  unfold bwdDix k1_pay45 k1_pay44 k1_pay42 k1_pay32 outI
  pointwise
  simp only [mul_assoc, mul_left_comm, mul_comm]

/-! The saved decay. -/

theorem fwdA_at : @Eq EReal (fwdA (F := Ideal) x7 x9 (ix2 r l))
    (decay (sg (x7 (ix3 (0 : Fin 1) r l) + x9 (ix2 (0 : Fin 8) l))) (lsK (x9 (ix2 (2 : Fin 8) l)))) := by
  unfold fwdA k0_pay10 k0_pay9 fwdR k0_pay5 row0 row2 decay lsK lsE sg
  pointwise
  rw [zero_sub (_ + _)]
  rfl

theorem decay_decay (z : EReal) (q : ℝ) : Decay (decay (sg z) (ls q)) := by
  obtain ⟨s, hs⟩ := sg_real z
  unfold decay
  rw [hs, ls_coe, ofBits_eight, ← EReal.coe_mul, ← EReal.coe_mul]
  exact decay_exp (EReal.coe_ne_top _)

end Cert.KernelIdeal.Lru

end
-- ==== Proof.Lru.BwdTile.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.BwdVals
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid1.Coords) (arg3 : Memref sig .tc .vmem S1x384x512 .f32) (harg3 : arg3.IsWhole) (arg4 : Memref sig .tc .vmem S1x384x512 .f32) (harg4 : arg4.IsWhole) (arg5 : Memref sig .tc .vmem S1x384x512 .f32) (harg5 : arg5.IsWhole) (arg6 : Memref sig .tc .vmem S1x8x512 .f32) (harg6 : arg6.IsWhole) (arg7 : Memref sig .tc .vmem S1x384x512 .f32) (harg7 : arg7.IsWhole) (arg8 : Memref sig .tc .vmem S1x8x512 .f32) (harg8 : arg8.IsWhole) (arg9 : Memref sig .tc .vmem S1x384x512 .f32) (harg9 : arg9.IsWhole) (arg10 : Memref sig .tc .vmem S1x384x512 .f32) (harg10 : arg10.IsWhole) (arg11 : Memref sig .tc .vmem S1x384x512 .f32) (harg11 : arg11.IsWhole) (arg12 : Memref sig .tc .vmem S8x512 .f32) (harg12 : arg12.IsWhole) (arg13 : Memref sig .tc .vmem S1x384x512 .bf16) (harg13 : arg13.IsWhole) (arg14 : Memref sig .tc .vmem S1x384x512 .bf16) (harg14 : arg14.IsWhole) (arg15 : Memref sig .tc .vmem S1x384x512 .bf16) (harg15 : arg15.IsWhole) (arg16 : Memref sig .tc .vmem S1x384x512 .f32) (harg16 : arg16.IsWhole) (arg17 : Memref sig .tc .vmem S8x512 .f32) (harg17 : arg17.IsWhole) (arg18 : Memref sig .tc .vmem S384x512 .f32) (harg18 : arg18.IsWhole) (arg19 : Memref sig .tc .vmem S384x512 .f32) (harg19 : arg19.IsWhole) (arg20 : Memref sig .tc .vmem S384x512 .f32) (harg20 : arg20.IsWhole) (arg21 : Memref sig .tc .vmem S1x512 .f32) (harg21 : arg21.IsWhole)

set_option maxHeartbeats 4000000 in
theorem bwdFirst_arg13 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg13.view.ty.Contents (Elt F)) :
    arg13.view.read (Elt F) (arg13.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).1) = bwdDg x0 x1 x2 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdFirst_arg14 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg14.view.ty.Contents (Elt F)) :
    arg14.view.read (Elt F) (arg14.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).2.1) = bwdDra i x0 x1 x2 x3 x4 x5 x6 x7 x8 x9 k1_pay2 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdFirst_arg15 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg15.view.ty.Contents (Elt F)) :
    arg15.view.read (Elt F) (arg15.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).2.2.1) = bwdDix i x0 x1 x2 x3 x4 x5 x6 x7 x8 x9 k1_pay2 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdFirst_arg16 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg16.view.ty.Contents (Elt F)) :
    arg16.view.read (Elt F) (arg16.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).2.2.2.1) = bwdDxc i x0 x1 x2 x3 x4 x5 x6 x7 x8 x9 k1_pay2 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdFirst_arg17 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg17.view.ty.Contents (Elt F)) :
    arg17.view.read (Elt F) (arg17.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).2.2.2.2.1) = bwdDp i x0 x1 x2 x3 x4 x5 x6 x7 x8 x9 k1_pay2 k1_pay1 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdFirst_arg21 (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg20 : Vec F S384x512 .f32) (f : arg21.view.ty.Contents (Elt F)) :
    arg21.view.read (Elt F) (arg21.view.writes (Elt F) f (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg20).2.2.2.2.2.1) = bwdLast i x0 x1 x4 x5 k1_pay2 := by
  unfold bwdFirst
  simp only [bwdFirst.sl.r_24, bwdFirst.sl.r_9, bwdFirst.sl.v9, bwdFirst.sl.Harg17_1, bwdFirst.sl.v3, bwdFirst.sl.r_12, bwdFirst.sl.r_15, bwdFirst.sl.v1, bwdFirst.sl.v289, bwdFirst.sl.r_18, bwdFirst.sl.r_20, bwdFirst.sl.v283, bwdFirst.sl.r, bwdFirst.sl.Harg19_1, bwdFirst.sl.Harg17_3, bwdFirst.sl.v295, bwdFirst.sl.r_6, bwdFirst.sl.r_11, bwdFirst.sl.v4, bwdFirst.sl.v2, bwdFirst.sl.Harg17_2, bwdFirst.sl.r_16, bwdFirst.sl.r_14, bwdFirst.sl.Harg13_1, bwdFirst.sl.r_10, bwdFirst.sl.r_23, bwdFirst.sl.Harg21_1, bwdFirst.sl.r_2, bwdFirst.sl.r_8, bwdFirst.sl.r_19, bwdFirst.sl.v7, bwdFirst.sl.r_7, bwdFirst.sl.r_17, bwdFirst.sl.r_21, bwdFirst.sl.Harg18_1, bwdFirst.sl.v0, bwdFirst.sl.v146, bwdFirst.sl.r_4, bwdFirst.sl.r_22, bwdFirst.sl.r_1, bwdFirst.sl.r_3, bwdFirst.sl.v140, bwdFirst.sl.v5, bwdFirst.sl.r_13, bwdFirst.sl.r_5, bwdFirst.sl.v8, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
/-- The body's run at such a tile: the buffers it fills end at those values. -/
theorem bwdFirst_wp (hc0 : startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32)  (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (bwdDg x0 x1 x2) ∗ owns (c : Thread nD τ) arg14 fullShare (bwdDra i x0 x1 x2 x3 x4 x5 x6 x7 x8 x9 k1_pay2) ∗ owns (c : Thread nD τ) arg15 fullShare (bwdDix i x0 x1 x2 x3 x4 x5 x6 x7 x8 x9 k1_pay2) ∗ owns (c : Thread nD τ) arg16 fullShare (bwdDxc i x0 x1 x2 x3 x4 x5 x6 x7 x8 x9 k1_pay2) ∗ owns (c : Thread nD τ) arg17 fullShare (bwdDp i x0 x1 x2 x3 x4 x5 x6 x7 x8 x9 k1_pay2 k1_pay1) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (bwdLast i x0 x1 x4 x5 k1_pay2)) -∗ K ⟨⟩))
      ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H3, H4, H5, H6, H7, H8, H9, H10, H11, H12, H13, H14, H15, H16, H17, H18, H19, ⟨%d20, H20⟩, H21, HK⟩
  iapply (bwdFirst (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20).2.2.2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H3, H4, H5, H6, H7, H8, H9, H10, H11, H12, ⟨%f13, H13⟩, ⟨%f14, H14⟩, ⟨%f15, H15⟩, ⟨%f16, H16⟩, ⟨%f17, H17⟩, H18, H19, H20, ⟨%f21, H21⟩⟩
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact bwdFirst_arg13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _
  isplitl [H14]
  · unfold owns; iexists _; isplitr; swap; · iexact H14
    ipureintro; exact bwdFirst_arg14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _
  isplitl [H15]
  · unfold owns; iexists _; isplitr; swap; · iexact H15
    ipureintro; exact bwdFirst_arg15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _
  isplitl [H16]
  · unfold owns; iexists _; isplitr; swap; · iexact H16
    ipureintro; exact bwdFirst_arg16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _
  isplitl [H17]
  · unfold owns; iexists _; isplitr; swap; · iexact H17
    ipureintro; exact bwdFirst_arg17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _
  isplitl [H18]; · iexact H18
  isplitl [H19]; · iexact H19
  isplitl [H20]; · iexact H20
  unfold owns; iexists _; isplitr; swap; · iexact H21
  ipureintro; exact bwdFirst_arg21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 d20 _

set_option maxHeartbeats 4000000 in
theorem bwdTurn_arg13 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (f : arg13.view.ty.Contents (Elt F)) :
    arg13.view.read (Elt F) (arg13.view.writes (Elt F) f (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).1) = bwdDg x0 x1 x2 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdTurn_arg14 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (f : arg14.view.ty.Contents (Elt F)) :
    arg14.view.read (Elt F) (arg14.view.writes (Elt F) f (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).2.1) = bwdDra i x0 x1 x2 x3 x4 x5 x6 x7 x8 x9 k1_pay2 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdTurn_arg15 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (f : arg15.view.ty.Contents (Elt F)) :
    arg15.view.read (Elt F) (arg15.view.writes (Elt F) f (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).2.2.1) = bwdDix i x0 x1 x2 x3 x4 x5 x6 x7 x8 x9 k1_pay2 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdTurn_arg16 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (f : arg16.view.ty.Contents (Elt F)) :
    arg16.view.read (Elt F) (arg16.view.writes (Elt F) f (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).2.2.2.1) = bwdDxc i x0 x1 x2 x3 x4 x5 x6 x7 x8 x9 k1_pay2 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdTurn_arg17 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) :
    arg17.view.read (Elt F) (arg17.view.writes (Elt F) (harg17.unread x_arg17) (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).2.2.2.2.1) = bwdDp i x0 x1 x2 x3 x4 x5 x6 x7 x8 x9 k1_pay2 x_arg17 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdTurn_arg21 (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (f : arg21.view.ty.Contents (Elt F)) :
    arg21.view.read (Elt F) (arg21.view.writes (Elt F) f (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20).2.2.2.2.2.1) = bwdLast i x0 x1 x4 x5 k1_pay2 := by
  unfold bwdTurn
  simp only [bwdTurn.sl.r_4, bwdTurn.sl.v1, bwdTurn.sl.v3, bwdTurn.sl.r_8, bwdTurn.sl.v5, bwdTurn.sl.Harg19_1, bwdTurn.sl.r_9, bwdTurn.sl.v4, bwdTurn.sl.r_22, bwdTurn.sl.Harg18_1, bwdTurn.sl.r_11, bwdTurn.sl.r_17, bwdTurn.sl.r_24, bwdTurn.sl.r_7, bwdTurn.sl.v295, bwdTurn.sl.v8, bwdTurn.sl.r_14, bwdTurn.sl.v2, bwdTurn.sl.r_18, bwdTurn.sl.r, bwdTurn.sl.v289, bwdTurn.sl.r_6, bwdTurn.sl.Harg13_1, bwdTurn.sl.r_2, bwdTurn.sl.v0, bwdTurn.sl.r_15, bwdTurn.sl.r_20, bwdTurn.sl.v7, bwdTurn.sl.v9, bwdTurn.sl.v146, bwdTurn.sl.r_13, bwdTurn.sl.r_10, bwdTurn.sl.r_3, bwdTurn.sl.r_21, bwdTurn.sl.r_19, bwdTurn.sl.r_1, bwdTurn.sl.r_16, bwdTurn.sl.v140, bwdTurn.sl.r_5, bwdTurn.sl.r_23, bwdTurn.sl.r_12, bwdTurn.sl.Harg21_1, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
/-- The body's run at such a tile: the buffers it fills end at those values. -/
theorem bwdTurn_wp (hc0 : ¬startsCol i) (hc1 : startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x_arg17 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (bwdDg x0 x1 x2) ∗ owns (c : Thread nD τ) arg14 fullShare (bwdDra i x0 x1 x2 x3 x4 x5 x6 x7 x8 x9 k1_pay2) ∗ owns (c : Thread nD τ) arg15 fullShare (bwdDix i x0 x1 x2 x3 x4 x5 x6 x7 x8 x9 k1_pay2) ∗ owns (c : Thread nD τ) arg16 fullShare (bwdDxc i x0 x1 x2 x3 x4 x5 x6 x7 x8 x9 k1_pay2) ∗ owns (c : Thread nD τ) arg17 fullShare (bwdDp i x0 x1 x2 x3 x4 x5 x6 x7 x8 x9 k1_pay2 x_arg17) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (bwdLast i x0 x1 x4 x5 k1_pay2)) -∗ K ⟨⟩))
      ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H3, H4, H5, H6, H7, H8, H9, H10, H11, H12, H13, H14, H15, H16, H17, H18, H19, ⟨%d20, H20⟩, H21, HK⟩
  iapply (bwdTurn (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20).2.2.2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H3, H4, H5, H6, H7, H8, H9, H10, H11, H12, ⟨%f13, H13⟩, ⟨%f14, H14⟩, ⟨%f15, H15⟩, ⟨%f16, H16⟩, H17, H18, H19, H20, ⟨%f21, H21⟩⟩
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact bwdTurn_arg13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 _
  isplitl [H14]
  · unfold owns; iexists _; isplitr; swap; · iexact H14
    ipureintro; exact bwdTurn_arg14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 _
  isplitl [H15]
  · unfold owns; iexists _; isplitr; swap; · iexact H15
    ipureintro; exact bwdTurn_arg15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 _
  isplitl [H16]
  · unfold owns; iexists _; isplitr; swap; · iexact H16
    ipureintro; exact bwdTurn_arg16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 _
  isplitl [H17]
  · unfold owns; iexists _; isplitr; swap; · iexact H17
    ipureintro; exact bwdTurn_arg17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20
  isplitl [H18]; · iexact H18
  isplitl [H19]; · iexact H19
  isplitl [H20]; · iexact H20
  unfold owns; iexists _; isplitr; swap; · iexact H21
  ipureintro; exact bwdTurn_arg21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 _

set_option maxHeartbeats 4000000 in
theorem bwdNext_arg13 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) (f : arg13.view.ty.Contents (Elt F)) :
    arg13.view.read (Elt F) (arg13.view.writes (Elt F) f (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).1) = bwdDg x0 x1 x2 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdNext_arg14 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) (f : arg14.view.ty.Contents (Elt F)) :
    arg14.view.read (Elt F) (arg14.view.writes (Elt F) f (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).2.1) = bwdDra i x0 x1 x2 x3 x4 x5 x6 x7 x8 x9 x_arg21 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdNext_arg15 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) (f : arg15.view.ty.Contents (Elt F)) :
    arg15.view.read (Elt F) (arg15.view.writes (Elt F) f (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).2.2.1) = bwdDix i x0 x1 x2 x3 x4 x5 x6 x7 x8 x9 x_arg21 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdNext_arg16 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) (f : arg16.view.ty.Contents (Elt F)) :
    arg16.view.read (Elt F) (arg16.view.writes (Elt F) f (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).2.2.2.1) = bwdDxc i x0 x1 x2 x3 x4 x5 x6 x7 x8 x9 x_arg21 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdNext_arg17 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) :
    arg17.view.read (Elt F) (arg17.view.writes (Elt F) (harg17.unread x_arg17) (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).2.2.2.2.1) = bwdDp i x0 x1 x2 x3 x4 x5 x6 x7 x8 x9 x_arg21 x_arg17 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
theorem bwdNext_arg21 (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg20 : Vec F S384x512 .f32) (x_arg21 : Vec F S1x512 .f32) (f : arg21.view.ty.Contents (Elt F)) :
    arg21.view.read (Elt F) (arg21.view.writes (Elt F) f (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 x_arg20 x_arg21).2.2.2.2.2.1) = bwdLast i x0 x1 x4 x5 x_arg21 := by
  unfold bwdNext
  simp only [bwdNext.sl.Harg13_1, bwdNext.sl.v5, bwdNext.sl.r_11, bwdNext.sl.v295, bwdNext.sl.v1, bwdNext.sl.r_2, bwdNext.sl.v0, bwdNext.sl.r_5, bwdNext.sl.r, bwdNext.sl.r_6, bwdNext.sl.r_18, bwdNext.sl.r_3, bwdNext.sl.r_24, bwdNext.sl.r_23, bwdNext.sl.Harg19_1, bwdNext.sl.r_8, bwdNext.sl.r_21, bwdNext.sl.r_14, bwdNext.sl.r_15, bwdNext.sl.r_16, bwdNext.sl.r_7, bwdNext.sl.v9, bwdNext.sl.r_19, bwdNext.sl.r_17, bwdNext.sl.r_12, bwdNext.sl.v146, bwdNext.sl.v7, bwdNext.sl.v289, bwdNext.sl.v2, bwdNext.sl.v4, bwdNext.sl.r_1, bwdNext.sl.r_22, bwdNext.sl.r_20, bwdNext.sl.r_9, bwdNext.sl.v3, bwdNext.sl.r_10, bwdNext.sl.Harg18_1, bwdNext.sl.v8, bwdNext.sl.r_13, bwdNext.sl.r_4, bwd_end_lit, bwd_read_lit, readAt_S1x384x512, readAt_S384x512, readAt_S1x512, read_writes_S1x384x512, read_writes_S384x512, read_writes_S1x512, readCov_S1x384x512, readCov_S384x512, readCov_S1x512, ld_S1x384x512, ld_S384x512, ld_S1x512, read_setRow0, read_setRow1, read_setRow2, read_fill, readCov_ld, row1_setRow0, row2_setRow0, row2_setRow1,
    View.writes_nil, harg3.read_unread, harg4.read_unread, harg5.read_unread, harg6.read_unread, harg7.read_unread, harg8.read_unread, harg9.read_unread, harg10.read_unread, harg11.read_unread, harg12.read_unread, harg17.read_unread, harg18.read_unread, harg19.read_unread, harg20.read_unread, harg21.read_unread,
    View.readAt_eq_ld]
  rfl

set_option maxHeartbeats 4000000 in
/-- The body's run at such a tile: the buffers it fills end at those values. -/
theorem bwdNext_wp (hc0 : ¬startsCol i) (hc1 : ¬startsSeq i) (x0 x1 x2 : Vec F S1x384x512 .f32) (x3 : Vec F S1x8x512 .f32) (x4 : Vec F S1x384x512 .f32) (x5 : Vec F S1x8x512 .f32) (x6 x7 x8 : Vec F S1x384x512 .f32) (x9 : Vec F S8x512 .f32) (x_arg17 : Vec F S8x512 .f32) (x_arg21 : Vec F S1x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x_arg17 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x_arg21
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare (bwdDg x0 x1 x2) ∗ owns (c : Thread nD τ) arg14 fullShare (bwdDra i x0 x1 x2 x3 x4 x5 x6 x7 x8 x9 x_arg21) ∗ owns (c : Thread nD τ) arg15 fullShare (bwdDix i x0 x1 x2 x3 x4 x5 x6 x7 x8 x9 x_arg21) ∗ owns (c : Thread nD τ) arg16 fullShare (bwdDxc i x0 x1 x2 x3 x4 x5 x6 x7 x8 x9 x_arg21) ∗ owns (c : Thread nD τ) arg17 fullShare (bwdDp i x0 x1 x2 x3 x4 x5 x6 x7 x8 x9 x_arg21 x_arg17) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare (bwdLast i x0 x1 x4 x5 x_arg21)) -∗ K ⟨⟩))
      ⊢ wp frame (wpE (defs₀ (F := F)) Variants.none c none) E (cc1_lru_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H3, H4, H5, H6, H7, H8, H9, H10, H11, H12, H13, H14, H15, H16, H17, H18, H19, ⟨%d20, H20⟩, H21, HK⟩
  iapply (bwdNext (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21).2.2.2.2.2.2 E K
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H3, H4, H5, H6, H7, H8, H9, H10, H11, H12, ⟨%f13, H13⟩, ⟨%f14, H14⟩, ⟨%f15, H15⟩, ⟨%f16, H16⟩, H17, H18, H19, H20, H21⟩
  iapply HK
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr; swap; · iexact H13
    ipureintro; exact bwdNext_arg13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21 _
  isplitl [H14]
  · unfold owns; iexists _; isplitr; swap; · iexact H14
    ipureintro; exact bwdNext_arg14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21 _
  isplitl [H15]
  · unfold owns; iexists _; isplitr; swap; · iexact H15
    ipureintro; exact bwdNext_arg15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21 _
  isplitl [H16]
  · unfold owns; iexists _; isplitr; swap; · iexact H16
    ipureintro; exact bwdNext_arg16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21 _
  isplitl [H17]
  · unfold owns; iexists _; isplitr; swap; · iexact H17
    ipureintro; exact bwdNext_arg17 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21
  isplitl [H18]; · iexact H18
  isplitl [H19]; · iexact H19
  isplitl [H20]; · iexact H20
  unfold owns; iexists _; isplitr; swap; · iexact H21
  ipureintro; exact bwdNext_arg21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x_arg17 d20 x_arg21 _

end Cert.KernelIdeal.Lru

end
-- ==== Proof.Lru.BwdSeg.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.BwdTile
public import Idealize.ShloMosaic.Lib.VecWindow
public import proofs.«01_k».proof.Proof.Gen.KernelIdeal.Regions
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second region: what its windows hold, tile by tile, from the contents `V` of the arrays at its entry. -/

/-- A column of tiles begins at the points whose number is divisible by twenty-two. -/
theorem startsCol_iff : ∀ t : Fin grid1.N, startsCol (grid1.coords t) ↔ t.val % 22 = 0 := by decide
/-- A sequence's last tile, the first visited, is at the points whose number is divisible by eleven. -/
theorem startsSeq_iff : ∀ t : Fin grid1.N, startsSeq (grid1.coords t) ↔ t.val % 11 = 0 := by decide

variable (V : (c : Dev nD) → (b : Ref sig .tc) → Buf (Elt F) ((c : Thread nD τ).loc b))

/-- The block window `w` stages at point `t`. -/
def bblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The cotangent's block. -/
abbrev bx0 (c : Dev nD) (t : Fin cfg1.N) : Vec F S1x384x512 .f32 := bblk V c 0 t
/-- The output gate's block. -/
def bx1 (c : Dev nD) (t : Fin cfg1.N) : Vec F S1x384x512 .f32 := (cfg1.win 1).fill (cfg1.grid.coords t) (fun _ => Scalar.ofBits .f32 0x00000000#32) (bblk V c 1 t)
/-- The states' block. -/
abbrev bx2 (c : Dev nD) (t : Fin cfg1.N) : Vec F S1x384x512 .f32 := bblk V c 2 t
/-- The eight states before the tile, their block. -/
abbrev bx3 (c : Dev nD) (t : Fin cfg1.N) : Vec F S1x8x512 .f32 := bblk V c 3 t
/-- The decays' block. -/
abbrev bx4 (c : Dev nD) (t : Fin cfg1.N) : Vec F S1x384x512 .f32 := bblk V c 4 t
/-- The eight decays behind the tile, their block. -/
abbrev bx5 (c : Dev nD) (t : Fin cfg1.N) : Vec F S1x8x512 .f32 := bblk V c 5 t
/-- The convolved input's block. -/
abbrev bx6 (c : Dev nD) (t : Fin cfg1.N) : Vec F S1x384x512 .f32 := bblk V c 6 t
/-- The recurrence gate's block. -/
abbrev bx7 (c : Dev nD) (t : Fin cfg1.N) : Vec F S1x384x512 .f32 := bblk V c 7 t
/-- The input gate's block. -/
abbrev bx8 (c : Dev nD) (t : Fin cfg1.N) : Vec F S1x384x512 .f32 := bblk V c 8 t
/-- The parameters' block. -/
abbrev bx9 (c : Dev nD) (t : Fin cfg1.N) : Vec F S8x512 .f32 := bblk V c 9 t

/-- The adjoint a tile starts from, given what the tile behind left: zero at a sequence's last tile. -/
def benter (t : Fin cfg1.N) (s : Vec F S1x512 .f32) : Vec F S1x512 .f32 := if t.val % 11 = 0 then k1_pay2 else s
/-- The sums over the steps a tile adds to: zero at a column's first tile. -/
def bsum (t : Fin cfg1.N) (q : Vec F S8x512 .f32) : Vec F S8x512 .f32 := if t.val % 22 = 0 then k1_pay1 else q

/-- One tile's step on the adjoint's row and the sums. -/
def bstep (c : Dev nD) (t : Fin cfg1.N) (s : Vec F S1x512 .f32 × Vec F S8x512 .f32) : Vec F S1x512 .f32 × Vec F S8x512 .f32 :=
  (bwdLast (grid1.coords t) (bx0 V c t) (bx1 V c t) (bx4 V c t) (bx5 V c t) (benter t s.1), bwdDp (grid1.coords t) (bx0 V c t) (bx1 V c t) (bx2 V c t) (bx3 V c t) (bx4 V c t) (bx5 V c t) (bx6 V c t) (bx7 V c t) (bx8 V c t) (bx9 V c t) (benter t s.1) (bsum t s.2))

/-- What the first `n` tiles leave as the adjoint's row and as the sums. -/
def bstate (c : Dev nD) : (n : ℕ) → n ≤ cfg1.N → Vec F S1x512 .f32 × Vec F S8x512 .f32
  | 0, _ => (k1_pay2, k1_pay1)
  | n + 1, hn => bstep V c ⟨n, hn⟩ (bstate c n (Nat.le_of_lt hn))

/-- The adjoint tile `t` starts from. -/
def bcarry (c : Dev nD) (t : Fin cfg1.N) : Vec F S1x512 .f32 := benter t (bstate V c t.val (Nat.le_of_lt t.isLt)).1
/-- The sums tile `t` adds to. -/
def bacc (c : Dev nD) (t : Fin cfg1.N) : Vec F S8x512 .f32 := bsum t (bstate V c t.val (Nat.le_of_lt t.isLt)).2

theorem bstate_succ1 (c : Dev nD) (t : Fin cfg1.N) : (bstate V c (t.val + 1) t.isLt).1 = bwdLast (grid1.coords t) (bx0 V c t) (bx1 V c t) (bx4 V c t) (bx5 V c t) (bcarry V c t) := rfl
theorem bstate_succ2 (c : Dev nD) (t : Fin cfg1.N) : (bstate V c (t.val + 1) t.isLt).2 = bwdDp (grid1.coords t) (bx0 V c t) (bx1 V c t) (bx2 V c t) (bx3 V c t) (bx4 V c t) (bx5 V c t) (bx6 V c t) (bx7 V c t) (bx8 V c t) (bx9 V c t) (bcarry V c t) (bacc V c t) := rfl

/-- The region's own buffers taken out of the scoped rest. -/
theorem scopedRest1_split (c : Dev nD) : Pipeline.scopedRest (Ix := Unit) (Name := ℕ) (U := UR sig nD τ) (Lvl := ℕ) (Val := Elt F) spec1 c
    = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)
      ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f)) ∗ Pipeline.scopedRestBut (Ix := Unit) (Name := ℕ) (U := UR sig nD τ) (Lvl := ℕ) (Val := Elt F) spec1 c [cc1_scratch0, cc1_scratch1, cc1_scratch2, cc1_scratch3]) :=
  Pipeline.scopedRest_split_of_list spec1 c [cc1_scratch0, cc1_scratch1, cc1_scratch2, cc1_scratch3] (by decide) (by decide)

/-- The buffers the region keeps between tiles: before the first at anything, then the adjoint's row at what the tiles so far left. -/
def bPhi (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d)
      ∗ owns (c : Thread nD τ) (Memref.whole cc1_scratch3) fullShare (bstate V c (n + 1) hn).1
      ∗ Pipeline.scopedRestBut (Ix := Unit) (Name := ℕ) (U := UR sig nD τ) (Lvl := ℕ) (Val := Elt F) spec1 c [cc1_scratch0, cc1_scratch1, cc1_scratch2, cc1_scratch3])

theorem bPhi_zero (c : Dev nD) (n : ℕ) (h : n ≤ cfg1.N) (hz : n = 0) : bPhi V c n h = iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d))
      ∗ Pipeline.scopedRestBut (Ix := Unit) (Name := ℕ) (U := UR sig nD τ) (Lvl := ℕ) (Val := Elt F) spec1 c [cc1_scratch0, cc1_scratch1, cc1_scratch2, cc1_scratch3]) := by
  subst hz
  simp only [owns_whole]
  exact scopedRest1_split c

theorem bPhi_pos (c : Dev nD) (n : ℕ) (h : n ≤ cfg1.N) (hz : n ≠ 0) : bPhi V c n h = iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d)
      ∗ owns (c : Thread nD τ) (Memref.whole cc1_scratch3) fullShare (bstate V c n h).1
      ∗ Pipeline.scopedRestBut (Ix := Unit) (Name := ℕ) (U := UR sig nD τ) (Lvl := ℕ) (Val := Elt F) spec1 c [cc1_scratch0, cc1_scratch1, cc1_scratch2, cc1_scratch3]) := by
  cases n with
  | zero => exact absurd rfl hz
  | succ n => rfl

/-- The region's data: its arrays at `V`; each output block at the tile's value. -/
def bdat (c : Dev nD) : Dat τ (Elt F) Unit ℕ (UR sig nD τ) ℕ cfg1 c where
  A w := V c (Pipeline.arrRef spec1 w)
  after w t := match w with
    | ⟨0, _⟩ => bblk V c 0 t
    | ⟨1, _⟩ => bx1 V c t
    | ⟨2, _⟩ => bblk V c 2 t
    | ⟨3, _⟩ => bblk V c 3 t
    | ⟨4, _⟩ => bblk V c 4 t
    | ⟨5, _⟩ => bblk V c 5 t
    | ⟨6, _⟩ => bblk V c 6 t
    | ⟨7, _⟩ => bblk V c 7 t
    | ⟨8, _⟩ => bblk V c 8 t
    | ⟨9, _⟩ => bblk V c 9 t
    | ⟨10, _⟩ => bwdDg (bx0 V c t) (bx1 V c t) (bx2 V c t)
    | ⟨11, _⟩ => bwdDra (grid1.coords t) (bx0 V c t) (bx1 V c t) (bx2 V c t) (bx3 V c t) (bx4 V c t) (bx5 V c t) (bx6 V c t) (bx7 V c t) (bx8 V c t) (bx9 V c t) (bcarry V c t)
    | ⟨12, _⟩ => bwdDix (grid1.coords t) (bx0 V c t) (bx1 V c t) (bx2 V c t) (bx3 V c t) (bx4 V c t) (bx5 V c t) (bx6 V c t) (bx7 V c t) (bx8 V c t) (bx9 V c t) (bcarry V c t)
    | ⟨13, _⟩ => bwdDxc (grid1.coords t) (bx0 V c t) (bx1 V c t) (bx2 V c t) (bx3 V c t) (bx4 V c t) (bx5 V c t) (bx6 V c t) (bx7 V c t) (bx8 V c t) (bx9 V c t) (bcarry V c t)
    | ⟨14, _⟩ => bwdDp (grid1.coords t) (bx0 V c t) (bx1 V c t) (bx2 V c t) (bx3 V c t) (bx4 V c t) (bx5 V c t) (bx6 V c t) (bx7 V c t) (bx8 V c t) (bx9 V c t) (bcarry V c t) (bacc V c t)
  Φ t := bPhi V c t.val (Nat.le_of_lt_succ t.isLt)
  q w := Pipeline.shareOf spec1 w
  owed _ := 0

theorem bdat_A (c : Dev nD) (w : Fin cfg1.W) : (bdat V c).A w = V c (Pipeline.arrRef spec1 w) := by
  dsimp only [bdat]

theorem bafter0 (c : Dev nD) (t : Fin cfg1.N) : (bdat V c).after 0 t = bblk V c 0 t := by dsimp only [bdat]
theorem bafter1 (c : Dev nD) (t : Fin cfg1.N) : (bdat V c).after 1 t = bx1 V c t := by dsimp only [bdat]
theorem bafter2 (c : Dev nD) (t : Fin cfg1.N) : (bdat V c).after 2 t = bblk V c 2 t := by dsimp only [bdat]
theorem bafter3 (c : Dev nD) (t : Fin cfg1.N) : (bdat V c).after 3 t = bblk V c 3 t := by dsimp only [bdat]
theorem bafter4 (c : Dev nD) (t : Fin cfg1.N) : (bdat V c).after 4 t = bblk V c 4 t := by dsimp only [bdat]
theorem bafter5 (c : Dev nD) (t : Fin cfg1.N) : (bdat V c).after 5 t = bblk V c 5 t := by dsimp only [bdat]
theorem bafter6 (c : Dev nD) (t : Fin cfg1.N) : (bdat V c).after 6 t = bblk V c 6 t := by dsimp only [bdat]
theorem bafter7 (c : Dev nD) (t : Fin cfg1.N) : (bdat V c).after 7 t = bblk V c 7 t := by dsimp only [bdat]
theorem bafter8 (c : Dev nD) (t : Fin cfg1.N) : (bdat V c).after 8 t = bblk V c 8 t := by dsimp only [bdat]
theorem bafter9 (c : Dev nD) (t : Fin cfg1.N) : (bdat V c).after 9 t = bblk V c 9 t := by dsimp only [bdat]
theorem bafter10 (c : Dev nD) (t : Fin cfg1.N) : (bdat V c).after 10 t = bwdDg (bx0 V c t) (bx1 V c t) (bx2 V c t) := by dsimp only [bdat]
theorem bafter11 (c : Dev nD) (t : Fin cfg1.N) : (bdat V c).after 11 t = bwdDra (grid1.coords t) (bx0 V c t) (bx1 V c t) (bx2 V c t) (bx3 V c t) (bx4 V c t) (bx5 V c t) (bx6 V c t) (bx7 V c t) (bx8 V c t) (bx9 V c t) (bcarry V c t) := by dsimp only [bdat]
theorem bafter12 (c : Dev nD) (t : Fin cfg1.N) : (bdat V c).after 12 t = bwdDix (grid1.coords t) (bx0 V c t) (bx1 V c t) (bx2 V c t) (bx3 V c t) (bx4 V c t) (bx5 V c t) (bx6 V c t) (bx7 V c t) (bx8 V c t) (bx9 V c t) (bcarry V c t) := by dsimp only [bdat]
theorem bafter13 (c : Dev nD) (t : Fin cfg1.N) : (bdat V c).after 13 t = bwdDxc (grid1.coords t) (bx0 V c t) (bx1 V c t) (bx2 V c t) (bx3 V c t) (bx4 V c t) (bx5 V c t) (bx6 V c t) (bx7 V c t) (bx8 V c t) (bx9 V c t) (bcarry V c t) := by dsimp only [bdat]
theorem bafter14 (c : Dev nD) (t : Fin cfg1.N) : (bdat V c).after 14 t = bwdDp (grid1.coords t) (bx0 V c t) (bx1 V c t) (bx2 V c t) (bx3 V c t) (bx4 V c t) (bx5 V c t) (bx6 V c t) (bx7 V c t) (bx8 V c t) (bx9 V c t) (bcarry V c t) (bacc V c t) := by dsimp only [bdat]
/-- The output gate's blocks lie inside its array. -/
theorem bclip1 : ∀ (t : Fin cfg1.N) (a : Fin 3), (cfg1.win 1).clip (cfg1.grid.coords t) a = none := by decide
theorem bbefore1 (c : Dev nD) (t : Fin cfg1.N) (d) : (bdat V c).before 1 t d = bx1 V c t := by
  rw [(bdat V c).before_fetched 1 t (fetch1_1 t) d]
  unfold Dat.fetched Dat.blockOf bx1 bblk; rw [bdat_A]
  exact Pipeline.fill_of_clip_none 1 _ (bclip1 t) _ _ _
theorem bbefore0 (c : Dev nD) (t : Fin cfg1.N) (d) : (bdat V c).before 0 t d = bblk V c 0 t :=
  ((bdat V c).before_in_eq_fetched 0 rfl (fun _ => rfl) (fun _ _ _ => rfl) (fun t => by rw [bafter0]; unfold Dat.blockOf bblk; rw [bdat_A]; try rfl) t d).trans
    (by unfold Dat.fetched Dat.blockOf bblk; rw [bdat_A]; try rfl)
theorem bbefore2 (c : Dev nD) (t : Fin cfg1.N) (d) : (bdat V c).before 2 t d = bblk V c 2 t :=
  ((bdat V c).before_in_eq_fetched 2 rfl (fun _ => rfl) (fun _ _ _ => rfl) (fun t => by rw [bafter2]; unfold Dat.blockOf bblk; rw [bdat_A]; try rfl) t d).trans
    (by unfold Dat.fetched Dat.blockOf bblk; rw [bdat_A]; try rfl)
theorem bbefore3 (c : Dev nD) (t : Fin cfg1.N) (d) : (bdat V c).before 3 t d = bblk V c 3 t :=
  ((bdat V c).before_in_eq_fetched 3 rfl (fun _ => rfl) (fun _ _ _ => rfl) (fun t => by rw [bafter3]; unfold Dat.blockOf bblk; rw [bdat_A]; try rfl) t d).trans
    (by unfold Dat.fetched Dat.blockOf bblk; rw [bdat_A]; try rfl)
theorem bbefore4 (c : Dev nD) (t : Fin cfg1.N) (d) : (bdat V c).before 4 t d = bblk V c 4 t :=
  ((bdat V c).before_in_eq_fetched 4 rfl (fun _ => rfl) (fun _ _ _ => rfl) (fun t => by rw [bafter4]; unfold Dat.blockOf bblk; rw [bdat_A]; try rfl) t d).trans
    (by unfold Dat.fetched Dat.blockOf bblk; rw [bdat_A]; try rfl)
theorem bbefore5 (c : Dev nD) (t : Fin cfg1.N) (d) : (bdat V c).before 5 t d = bblk V c 5 t :=
  ((bdat V c).before_in_eq_fetched 5 rfl (fun _ => rfl) (fun _ _ _ => rfl) (fun t => by rw [bafter5]; unfold Dat.blockOf bblk; rw [bdat_A]; try rfl) t d).trans
    (by unfold Dat.fetched Dat.blockOf bblk; rw [bdat_A]; try rfl)
theorem bbefore6 (c : Dev nD) (t : Fin cfg1.N) (d) : (bdat V c).before 6 t d = bblk V c 6 t :=
  ((bdat V c).before_in_eq_fetched 6 rfl (fun _ => rfl) (fun _ _ _ => rfl) (fun t => by rw [bafter6]; unfold Dat.blockOf bblk; rw [bdat_A]; try rfl) t d).trans
    (by unfold Dat.fetched Dat.blockOf bblk; rw [bdat_A]; try rfl)
theorem bbefore7 (c : Dev nD) (t : Fin cfg1.N) (d) : (bdat V c).before 7 t d = bblk V c 7 t :=
  ((bdat V c).before_in_eq_fetched 7 rfl (fun _ => rfl) (fun _ _ _ => rfl) (fun t => by rw [bafter7]; unfold Dat.blockOf bblk; rw [bdat_A]; try rfl) t d).trans
    (by unfold Dat.fetched Dat.blockOf bblk; rw [bdat_A]; try rfl)
theorem bbefore8 (c : Dev nD) (t : Fin cfg1.N) (d) : (bdat V c).before 8 t d = bblk V c 8 t :=
  ((bdat V c).before_in_eq_fetched 8 rfl (fun _ => rfl) (fun _ _ _ => rfl) (fun t => by rw [bafter8]; unfold Dat.blockOf bblk; rw [bdat_A]; try rfl) t d).trans
    (by unfold Dat.fetched Dat.blockOf bblk; rw [bdat_A]; try rfl)
theorem bbefore9 (c : Dev nD) (t : Fin cfg1.N) (d) : (bdat V c).before 9 t d = bblk V c 9 t :=
  ((bdat V c).before_in_eq_fetched 9 rfl (fun _ => rfl) (fun _ _ _ => rfl) (fun t => by rw [bafter9]; unfold Dat.blockOf bblk; rw [bdat_A]; try rfl) t d).trans
    (by unfold Dat.fetched Dat.blockOf bblk; rw [bdat_A]; try rfl)
/-- Inside a column the sums' buffer holds what the tile before left. -/
theorem bbefore14 (c : Dev nD) (t : Fin cfg1.N) (h : t.val % 22 ≠ 0) (d) : (bdat V c).before 14 t d = (bstate V c t.val (Nat.le_of_lt t.isLt)).2 := by
  obtain ⟨n, hn⟩ := t
  have h0 : n ≠ 0 := fun e => h (by simp [e])
  rw [(bdat V c).before_out_kept 14 rfl ⟨n, hn⟩ h0 (by
    rw [Bool.eq_false_iff]; intro hf; have := (flush1_14 _).mp hf; simp only at this h; omega) (fun _ => rfl) (fun _ _ => rfl) d, bafter14]
  cases n with
  | zero => exact absurd rfl h0
  | succ n => rfl
theorem bleaves0 (c : Dev nD) (t : Fin cfg1.N) : (bdat V c).leavesExact 0 t = owns (c : Thread nD τ) (st1_0 t) fullShare (bblk V c 0 t) := by
  unfold Dat.leavesExact; rw [show cfg1.idle 0 (grid1.coords t) = false from rfl, bafter0]; try rfl
theorem bleaves1 (c : Dev nD) (t : Fin cfg1.N) : (bdat V c).leavesExact 1 t = owns (c : Thread nD τ) (st1_1 t) fullShare (bx1 V c t) := by
  unfold Dat.leavesExact; rw [show cfg1.idle 1 (grid1.coords t) = false from rfl, bafter1]; try rfl
theorem bleaves2 (c : Dev nD) (t : Fin cfg1.N) : (bdat V c).leavesExact 2 t = owns (c : Thread nD τ) (st1_2 t) fullShare (bblk V c 2 t) := by
  unfold Dat.leavesExact; rw [show cfg1.idle 2 (grid1.coords t) = false from rfl, bafter2]; try rfl
theorem bleaves3 (c : Dev nD) (t : Fin cfg1.N) : (bdat V c).leavesExact 3 t = owns (c : Thread nD τ) (st1_3 t) fullShare (bblk V c 3 t) := by
  unfold Dat.leavesExact; rw [show cfg1.idle 3 (grid1.coords t) = false from rfl, bafter3]; try rfl
theorem bleaves4 (c : Dev nD) (t : Fin cfg1.N) : (bdat V c).leavesExact 4 t = owns (c : Thread nD τ) (st1_4 t) fullShare (bblk V c 4 t) := by
  unfold Dat.leavesExact; rw [show cfg1.idle 4 (grid1.coords t) = false from rfl, bafter4]; try rfl
theorem bleaves5 (c : Dev nD) (t : Fin cfg1.N) : (bdat V c).leavesExact 5 t = owns (c : Thread nD τ) (st1_5 t) fullShare (bblk V c 5 t) := by
  unfold Dat.leavesExact; rw [show cfg1.idle 5 (grid1.coords t) = false from rfl, bafter5]; try rfl
theorem bleaves6 (c : Dev nD) (t : Fin cfg1.N) : (bdat V c).leavesExact 6 t = owns (c : Thread nD τ) (st1_6 t) fullShare (bblk V c 6 t) := by
  unfold Dat.leavesExact; rw [show cfg1.idle 6 (grid1.coords t) = false from rfl, bafter6]; try rfl
theorem bleaves7 (c : Dev nD) (t : Fin cfg1.N) : (bdat V c).leavesExact 7 t = owns (c : Thread nD τ) (st1_7 t) fullShare (bblk V c 7 t) := by
  unfold Dat.leavesExact; rw [show cfg1.idle 7 (grid1.coords t) = false from rfl, bafter7]; try rfl
theorem bleaves8 (c : Dev nD) (t : Fin cfg1.N) : (bdat V c).leavesExact 8 t = owns (c : Thread nD τ) (st1_8 t) fullShare (bblk V c 8 t) := by
  unfold Dat.leavesExact; rw [show cfg1.idle 8 (grid1.coords t) = false from rfl, bafter8]; try rfl
theorem bleaves9 (c : Dev nD) (t : Fin cfg1.N) : (bdat V c).leavesExact 9 t = owns (c : Thread nD τ) (st1_9 t) fullShare (bblk V c 9 t) := by
  unfold Dat.leavesExact; rw [show cfg1.idle 9 (grid1.coords t) = false from rfl, bafter9]; try rfl
theorem bleaves10 (c : Dev nD) (t : Fin cfg1.N) : (bdat V c).leavesExact 10 t = owns (c : Thread nD τ) (st1_10 t) fullShare (bwdDg (bx0 V c t) (bx1 V c t) (bx2 V c t)) := by
  unfold Dat.leavesExact; rw [show cfg1.idle 10 (grid1.coords t) = false from rfl, bafter10]; try rfl
theorem bleaves11 (c : Dev nD) (t : Fin cfg1.N) : (bdat V c).leavesExact 11 t = owns (c : Thread nD τ) (st1_11 t) fullShare (bwdDra (grid1.coords t) (bx0 V c t) (bx1 V c t) (bx2 V c t) (bx3 V c t) (bx4 V c t) (bx5 V c t) (bx6 V c t) (bx7 V c t) (bx8 V c t) (bx9 V c t) (bcarry V c t)) := by
  unfold Dat.leavesExact; rw [show cfg1.idle 11 (grid1.coords t) = false from rfl, bafter11]; try rfl
theorem bleaves12 (c : Dev nD) (t : Fin cfg1.N) : (bdat V c).leavesExact 12 t = owns (c : Thread nD τ) (st1_12 t) fullShare (bwdDix (grid1.coords t) (bx0 V c t) (bx1 V c t) (bx2 V c t) (bx3 V c t) (bx4 V c t) (bx5 V c t) (bx6 V c t) (bx7 V c t) (bx8 V c t) (bx9 V c t) (bcarry V c t)) := by
  unfold Dat.leavesExact; rw [show cfg1.idle 12 (grid1.coords t) = false from rfl, bafter12]; try rfl
theorem bleaves13 (c : Dev nD) (t : Fin cfg1.N) : (bdat V c).leavesExact 13 t = owns (c : Thread nD τ) (st1_13 t) fullShare (bwdDxc (grid1.coords t) (bx0 V c t) (bx1 V c t) (bx2 V c t) (bx3 V c t) (bx4 V c t) (bx5 V c t) (bx6 V c t) (bx7 V c t) (bx8 V c t) (bx9 V c t) (bcarry V c t)) := by
  unfold Dat.leavesExact; rw [show cfg1.idle 13 (grid1.coords t) = false from rfl, bafter13]; try rfl
theorem bleaves14 (c : Dev nD) (t : Fin cfg1.N) : (bdat V c).leavesExact 14 t = owns (c : Thread nD τ) (st1_14 t) fullShare (bwdDp (grid1.coords t) (bx0 V c t) (bx1 V c t) (bx2 V c t) (bx3 V c t) (bx4 V c t) (bx5 V c t) (bx6 V c t) (bx7 V c t) (bx8 V c t) (bx9 V c t) (bcarry V c t) (bacc V c t)) := by
  unfold Dat.leavesExact; rw [show cfg1.idle 14 (grid1.coords t) = false from rfl, bafter14]; try rfl

/-- What the body is called with at point `t`. -/
def bbodyPre (c : Dev nD) (t : Fin cfg1.N) : sProp 𝕄 :=
  iprop((bdat V c).Φ t.castSucc ∗ (bdat V c).owesAt () t.castSucc
    ∗ (∃ d, owns (c : Thread nD τ) (st1_0 t) fullShare ((bdat V c).before 0 t d)) ∗ (∃ d, owns (c : Thread nD τ) (st1_1 t) fullShare ((bdat V c).before 1 t d)) ∗ (∃ d, owns (c : Thread nD τ) (st1_2 t) fullShare ((bdat V c).before 2 t d)) ∗ (∃ d, owns (c : Thread nD τ) (st1_3 t) fullShare ((bdat V c).before 3 t d)) ∗ (∃ d, owns (c : Thread nD τ) (st1_4 t) fullShare ((bdat V c).before 4 t d)) ∗ (∃ d, owns (c : Thread nD τ) (st1_5 t) fullShare ((bdat V c).before 5 t d)) ∗ (∃ d, owns (c : Thread nD τ) (st1_6 t) fullShare ((bdat V c).before 6 t d)) ∗ (∃ d, owns (c : Thread nD τ) (st1_7 t) fullShare ((bdat V c).before 7 t d)) ∗ (∃ d, owns (c : Thread nD τ) (st1_8 t) fullShare ((bdat V c).before 8 t d)) ∗ (∃ d, owns (c : Thread nD τ) (st1_9 t) fullShare ((bdat V c).before 9 t d)) ∗ (∃ d, owns (c : Thread nD τ) (st1_10 t) fullShare ((bdat V c).before 10 t d)) ∗ (∃ d, owns (c : Thread nD τ) (st1_11 t) fullShare ((bdat V c).before 11 t d)) ∗ (∃ d, owns (c : Thread nD τ) (st1_12 t) fullShare ((bdat V c).before 12 t d)) ∗ (∃ d, owns (c : Thread nD τ) (st1_13 t) fullShare ((bdat V c).before 13 t d)) ∗ (∃ d, owns (c : Thread nD τ) (st1_14 t) fullShare ((bdat V c).before 14 t d)))
/-- What it returns. -/
def bbodyPost (c : Dev nD) (t : Fin cfg1.N) : sProp 𝕄 :=
  iprop((bdat V c).Φ t.succ ∗ (bdat V c).owesAt () t.succ
    ∗ (bdat V c).leavesExact 0 t ∗ (bdat V c).leavesExact 1 t ∗ (bdat V c).leavesExact 2 t ∗ (bdat V c).leavesExact 3 t ∗ (bdat V c).leavesExact 4 t ∗ (bdat V c).leavesExact 5 t ∗ (bdat V c).leavesExact 6 t ∗ (bdat V c).leavesExact 7 t ∗ (bdat V c).leavesExact 8 t ∗ (bdat V c).leavesExact 9 t ∗ (bdat V c).leavesExact 10 t ∗ (bdat V c).leavesExact 11 t ∗ (bdat V c).leavesExact 12 t ∗ (bdat V c).leavesExact 13 t ∗ (bdat V c).leavesExact 14 t)

set_option maxHeartbeats 8000000 in
/-- The body at any point, by whether the tile begins its column and its sequence. -/
theorem bbody (c : Dev nD) (t : Fin cfg1.N) :
    bbodyPre V c t ⊢ wp frame (wpE (defs₀ (F := F)) Variants.none c none) Set.univ (bodyAt1 t) (fun _ => bbodyPost V c t) := by
  unfold bbodyPre bbodyPost bodyAt1
  simp only [bbefore0, bbefore1, bbefore2, bbefore3, bbefore4, bbefore5, bbefore6, bbefore7, bbefore8, bbefore9, bleaves0, bleaves1, bleaves2, bleaves3, bleaves4, bleaves5, bleaves6, bleaves7, bleaves8, bleaves9, bleaves10, bleaves11, bleaves12, bleaves13, bleaves14]
  rw [show (bdat V c).owesAt () t.succ = (bdat V c).owesAt () t.castSucc from rfl]
  rw [show (bdat V c).Φ t.succ = bPhi V c (t.val + 1) t.isLt from rfl, bPhi_pos V c _ _ (Nat.succ_ne_zero _), bstate_succ1]
  rw [show (bdat V c).Φ t.castSucc = bPhi V c t.val (Nat.le_of_lt t.isLt) from rfl]
  by_cases h1 : t.val % 11 = 0
  · have hc1 := (startsSeq_iff t).mpr h1
    have he : bcarry V c t = k1_pay2 := if_pos h1
    rw [he]
    by_cases h0 : t.val % 22 = 0
    · have hc0 := (startsCol_iff t).mpr h0
      have hq : bacc V c t = k1_pay1 := if_pos h0
      rw [hq]
      by_cases hz : t.val = 0
      · rw [bPhi_zero V c _ _ hz]
        iintro ⟨⟨⟨HS0, HS1, HS2, HS3⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (bwdFirst_wp c (grid1.coords t) _ _ _ _ _ _ _ _ _ _ _ _ _ _ _ _ _ _ _ _ _ _ _ _ _ _ _ _ _ _ _ _ _ _ _ _ _ _ hc0 hc1 (bblk V c 0 t) (bx1 V c t) (bblk V c 2 t) (bblk V c 3 t) (bblk V c 4 t) (bblk V c 5 t) (bblk V c 6 t) (bblk V c 7 t) (bblk V c 8 t) (bblk V c 9 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, HS0, HS1, HS2, HS3⟩
        isplitl [HS0 HS1 HS2 HS3 Hr]
        · isplitl [HS0]; · iexact HS0
          isplitl [HS1]; · iexact HS1
          isplitl [HS2]; · iexact HS2
          isplitl [HS3]; · iexact HS3
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
      · rw [bPhi_pos V c _ _ hz]
        iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
        iapply (bwdFirst_wp c (grid1.coords t) _ _ _ _ _ _ _ _ _ _ _ _ _ _ _ _ _ _ _ _ _ _ _ _ _ _ _ _ _ _ _ _ _ _ _ _ _ _ hc0 hc1 (bblk V c 0 t) (bx1 V c t) (bblk V c 2 t) (bblk V c 3 t) (bblk V c 4 t) (bblk V c 5 t) (bblk V c 6 t) (bblk V c 7 t) (bblk V c 8 t) (bblk V c 9 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [HS0]; · iexact HS0
        isplitl [HS1]; · iexact HS1
        isplitl [HS2]; · iexact HS2
        isplitl [HS3]; · iexists _; iexact HS3
        iintro ⟨H0, H1, H2, H3, H4, H5, H6, H7, H8, H9, H10, H11, H12, H13, H14, HS0, HS1, HS2, HS3⟩
        isplitl [HS0 HS1 HS2 HS3 Hr]
        · isplitl [HS0]; · iexact HS0
          isplitl [HS1]; · iexact HS1
          isplitl [HS2]; · iexact HS2
          isplitl [HS3]; · iexact HS3
          iexact Hr
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        iexact H14
    · have hc0 : ¬startsCol (grid1.coords t) := fun h => h0 ((startsCol_iff t).mp h)
      have hq : bacc V c t = (bstate V c t.val (Nat.le_of_lt t.isLt)).2 := if_neg h0
      simp only [bbefore14 V c t h0]
      rw [hq, bPhi_pos V c _ _ (fun h => h0 (by rw [h]))]
      iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (bwdTurn_wp c (grid1.coords t) _ _ _ _ _ _ _ _ _ _ _ _ _ _ _ _ _ _ _ _ _ _ _ _ _ _ _ _ _ _ _ _ _ _ _ _ _ _ hc0 hc1 (bblk V c 0 t) (bx1 V c t) (bblk V c 2 t) (bblk V c 3 t) (bblk V c 4 t) (bblk V c 5 t) (bblk V c 6 t) (bblk V c 7 t) (bblk V c 8 t) (bblk V c 9 t) (bstate V c t.val (Nat.le_of_lt t.isLt)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexact H14
      isplitl [HS0]; · iexact HS0
      isplitl [HS1]; · iexact HS1
      isplitl [HS2]; · iexact HS2
      isplitl [HS3]; · iexists _; iexact HS3
      iintro ⟨H0, H1, H2, H3, H4, H5, H6, H7, H8, H9, H10, H11, H12, H13, H14, HS0, HS1, HS2, HS3⟩
      isplitl [HS0 HS1 HS2 HS3 Hr]
      · isplitl [HS0]; · iexact HS0
        isplitl [HS1]; · iexact HS1
        isplitl [HS2]; · iexact HS2
        isplitl [HS3]; · iexact HS3
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have hc1 : ¬startsSeq (grid1.coords t) := fun h => h1 ((startsSeq_iff t).mp h)
    have h0 : t.val % 22 ≠ 0 := fun h => h1 (by omega)
    have hc0 : ¬startsCol (grid1.coords t) := fun h => h0 ((startsCol_iff t).mp h)
    have he : bcarry V c t = (bstate V c t.val (Nat.le_of_lt t.isLt)).1 := if_neg h1
    have hq : bacc V c t = (bstate V c t.val (Nat.le_of_lt t.isLt)).2 := if_neg h0
    simp only [bbefore14 V c t h0]
    rw [he, hq, bPhi_pos V c _ _ (fun h => h1 (by rw [h]))]
    iintro ⟨⟨HS0, HS1, HS2, HS3, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (bwdNext_wp c (grid1.coords t) _ _ _ _ _ _ _ _ _ _ _ _ _ _ _ _ _ _ _ _ _ _ _ _ _ _ _ _ _ _ _ _ _ _ _ _ _ _ hc0 hc1 (bblk V c 0 t) (bx1 V c t) (bblk V c 2 t) (bblk V c 3 t) (bblk V c 4 t) (bblk V c 5 t) (bblk V c 6 t) (bblk V c 7 t) (bblk V c 8 t) (bblk V c 9 t) (bstate V c t.val (Nat.le_of_lt t.isLt)).2 (bstate V c t.val (Nat.le_of_lt t.isLt)).1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hr]
    · isplitl [HS0]; · iexact HS0
      isplitl [HS1]; · iexact HS1
      isplitl [HS2]; · iexact HS2
      isplitl [HS3]; · iexact HS3
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem bdefs_row (t : Fin cfg1.N) : defs₀ (F := F) .tc cfg1.body (cfg1.bodyArgs t (cfg1.slots t)) = bodyAt1 t := by
  unfold defs₀; rw [Defs.onTc_tc]

/-- The region's body obligation. -/
theorem bobligation (c : Dev nD) : BodyObligation (bdat V c) (defs₀ (F := F)) Variants.none () Set.univ := fun t => by
  rw [bigSep_W1, bigSep_W1, bdefs_row]
  exact triple_restated (bbody V c t) rfl .rfl fun _ => .rfl

/-- What the region is handed is its invariant before the first point. -/
theorem bPhi_in (c : Dev nD) : (bdat V c).Φ 0 = Pipeline.scopedRest (Ix := Unit) (Name := ℕ) (U := UR sig nD τ) (Lvl := ℕ) (Val := Elt F) spec1 c := rfl

/-- After the last point it is handed back. -/
theorem bPhi_out (c : Dev nD) : (bdat V c).Φ (Fin.last cfg1.N) ⊢ Pipeline.scopedRest (Ix := Unit) (Name := ℕ) (U := UR sig nD τ) (Lvl := ℕ) (Val := Elt F) spec1 c := by
  rw [show (bdat V c).Φ (Fin.last cfg1.N) = bPhi V c cfg1.N le_rfl from rfl, bPhi_pos V c _ _ (by rw [show cfg1.N = 44 from N_1]; decide), scopedRest1_split]
  simp only [owns_whole]
  iintro ⟨H0, H1, H2, H3, Hr⟩
  isplitl [H0 H1 H2 H3]
  · isplitl [H0]; · iexact H0
    isplitl [H1]; · iexact H1
    isplitl [H2]; · iexact H2
    iexists _; iexact H3
  iexact Hr

end Cert.KernelIdeal.Lru

end
-- ==== Proof.Lru.FwdSeg.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.FwdTile
public import Idealize.ShloMosaic.Lib.VecWindow
public import Idealize.ShloMosaic.Lib.Pipeline.ReadBack
public import proofs.«01_k».proof.Proof.Gen.KernelIdeal.Regions
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The first region: what its windows hold, tile by tile, from the contents `V` of the arrays at its entry. -/

/-- The first tile of a sequence is the one whose number is divisible by eleven. -/
theorem startsRow_iff : ∀ t : Fin grid0.N, startsRow (grid0.coords t) ↔ t.val % 11 = 0 := by decide

variable (V : (c : Dev nD) → (b : Ref sig .tc) → Buf (Elt F) ((c : Thread nD τ).loc b))

/-- The block window `w` stages at point `t`. -/
def fblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The convolved input's block. -/
abbrev fx0 (c : Dev nD) (t : Fin cfg0.N) : Vec F S1x384x512 .f32 := fblk V c 0 t
/-- The recurrence gate's block. -/
abbrev fx1 (c : Dev nD) (t : Fin cfg0.N) : Vec F S1x384x512 .f32 := fblk V c 1 t
/-- The input gate's block. -/
abbrev fx2 (c : Dev nD) (t : Fin cfg0.N) : Vec F S1x384x512 .f32 := fblk V c 2 t
/-- The output gate's block. -/
def fx3 (c : Dev nD) (t : Fin cfg0.N) : Vec F S1x384x512 .f32 := (cfg0.win 3).fill (cfg0.grid.coords t) (fun _ => Scalar.ofBits .f32 0x00000000#32) (fblk V c 3 t)
/-- The parameters' block. -/
abbrev fx4 (c : Dev nD) (t : Fin cfg0.N) : Vec F S8x512 .f32 := fblk V c 4 t

/-- The state a tile starts from, given what the tile before left: zero at a sequence's first tile. -/
def fenter (t : Fin cfg0.N) (s : Vec F S1x512 .f32) : Vec F S1x512 .f32 := if t.val % 11 = 0 then k0_pay2 else s

/-- What the first `n` tiles leave as the state. -/
def fstate (c : Dev nD) : (n : ℕ) → n ≤ cfg0.N → Vec F S1x512 .f32
  | 0, _ => k0_pay2
  | n + 1, hn => fwdLast (grid0.coords ⟨n, hn⟩) (fx0 V c ⟨n, hn⟩) (fx1 V c ⟨n, hn⟩) (fx2 V c ⟨n, hn⟩) (fx4 V c ⟨n, hn⟩) (fenter ⟨n, hn⟩ (fstate c n (Nat.le_of_lt hn)))

/-- The state tile `t` starts from. -/
def fcarry (c : Dev nD) (t : Fin cfg0.N) : Vec F S1x512 .f32 := fenter t (fstate V c t.val (Nat.le_of_lt t.isLt))

theorem fstate_succ (c : Dev nD) (t : Fin cfg0.N) : fstate V c (t.val + 1) t.isLt = fwdLast (grid0.coords t) (fx0 V c t) (fx1 V c t) (fx2 V c t) (fx4 V c t) (fcarry V c t) := rfl

/-- The buffers the region keeps between tiles: before the first at anything, then the state's row at what the tiles so far left. -/
def fPhi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop((∃ d, owns (c : Thread nD τ) (Memref.whole cc0_scratch0) fullShare d) ∗ (∃ d, owns (c : Thread nD τ) (Memref.whole cc0_scratch1) fullShare d)
      ∗ owns (c : Thread nD τ) (Memref.whole cc0_scratch2) fullShare (fstate V c (n + 1) hn)
      ∗ Pipeline.scopedRestBut (Ix := Unit) (Name := ℕ) (U := UR sig nD τ) (Lvl := ℕ) (Val := Elt F) spec0 c [cc0_scratch0, cc0_scratch1, cc0_scratch2])

theorem fPhi_zero (c : Dev nD) (n : ℕ) (h : n ≤ cfg0.N) (hz : n = 0) : fPhi V c n h = iprop(iprop((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d))
      ∗ Pipeline.scopedRestBut (Ix := Unit) (Name := ℕ) (U := UR sig nD τ) (Lvl := ℕ) (Val := Elt F) spec0 c [cc0_scratch0, cc0_scratch1, cc0_scratch2]) := by
  subst hz
  simp only [owns_whole]
  exact scopedRest0_split c

theorem fPhi_pos (c : Dev nD) (n : ℕ) (h : n ≤ cfg0.N) (hz : n ≠ 0) : fPhi V c n h = iprop((∃ d, owns (c : Thread nD τ) (Memref.whole cc0_scratch0) fullShare d) ∗ (∃ d, owns (c : Thread nD τ) (Memref.whole cc0_scratch1) fullShare d)
      ∗ owns (c : Thread nD τ) (Memref.whole cc0_scratch2) fullShare (fstate V c n h)
      ∗ Pipeline.scopedRestBut (Ix := Unit) (Name := ℕ) (U := UR sig nD τ) (Lvl := ℕ) (Val := Elt F) spec0 c [cc0_scratch0, cc0_scratch1, cc0_scratch2]) := by
  cases n with
  | zero => exact absurd rfl hz
  | succ n => rfl

/-- The region's data: its arrays at `V`; each output block at the tile's value. -/
def fdat (c : Dev nD) : Dat τ (Elt F) Unit ℕ (UR sig nD τ) ℕ cfg0 c where
  A w := V c (Pipeline.arrRef spec0 w)
  after w t := match w with
    | ⟨0, _⟩ => fblk V c 0 t
    | ⟨1, _⟩ => fblk V c 1 t
    | ⟨2, _⟩ => fblk V c 2 t
    | ⟨3, _⟩ => fx3 V c t
    | ⟨4, _⟩ => fblk V c 4 t
    | ⟨5, _⟩ => fwdY (grid0.coords t) (fx0 V c t) (fx1 V c t) (fx2 V c t) (fx3 V c t) (fx4 V c t) (fcarry V c t)
    | ⟨6, _⟩ => fwdHs (grid0.coords t) (fx0 V c t) (fx1 V c t) (fx2 V c t) (fx4 V c t) (fcarry V c t)
    | ⟨7, _⟩ => k0_pay17 (fwdA (fx1 V c t) (fx4 V c t))
  Φ t := fPhi V c t.val (Nat.le_of_lt_succ t.isLt)
  q _ := fullShare
  owed _ := 0

theorem fdat_A (c : Dev nD) (w : Fin cfg0.W) : (fdat V c).A w = V c (Pipeline.arrRef spec0 w) := by
  dsimp only [fdat]

theorem fafter0 (c : Dev nD) (t : Fin cfg0.N) : (fdat V c).after 0 t = fblk V c 0 t := by dsimp only [fdat]
theorem fafter1 (c : Dev nD) (t : Fin cfg0.N) : (fdat V c).after 1 t = fblk V c 1 t := by dsimp only [fdat]
theorem fafter2 (c : Dev nD) (t : Fin cfg0.N) : (fdat V c).after 2 t = fblk V c 2 t := by dsimp only [fdat]
theorem fafter3 (c : Dev nD) (t : Fin cfg0.N) : (fdat V c).after 3 t = fx3 V c t := by dsimp only [fdat]
theorem fafter4 (c : Dev nD) (t : Fin cfg0.N) : (fdat V c).after 4 t = fblk V c 4 t := by dsimp only [fdat]
theorem fafter5 (c : Dev nD) (t : Fin cfg0.N) : (fdat V c).after 5 t = fwdY (grid0.coords t) (fx0 V c t) (fx1 V c t) (fx2 V c t) (fx3 V c t) (fx4 V c t) (fcarry V c t) := by dsimp only [fdat]
theorem fafter6 (c : Dev nD) (t : Fin cfg0.N) : (fdat V c).after 6 t = fwdHs (grid0.coords t) (fx0 V c t) (fx1 V c t) (fx2 V c t) (fx4 V c t) (fcarry V c t) := by dsimp only [fdat]
theorem fafter7 (c : Dev nD) (t : Fin cfg0.N) : (fdat V c).after 7 t = k0_pay17 (fwdA (fx1 V c t) (fx4 V c t)) := by dsimp only [fdat]
/-- The output gate's blocks lie inside its array. -/
theorem fclip3 : ∀ (t : Fin cfg0.N) (a : Fin 3), (cfg0.win 3).clip (cfg0.grid.coords t) a = none := by decide
theorem fbefore3 (c : Dev nD) (t : Fin cfg0.N) (d) : (fdat V c).before 3 t d = fx3 V c t := by
  rw [(fdat V c).before_fetched 3 t (fetch0_3 t) d]
  unfold Dat.fetched Dat.blockOf fx3 fblk; rw [fdat_A]
  exact Pipeline.fill_of_clip_none 3 _ (fclip3 t) _ _ _
theorem fbefore0 (c : Dev nD) (t : Fin cfg0.N) (d) : (fdat V c).before 0 t d = fblk V c 0 t :=
  ((fdat V c).before_in_eq_fetched 0 rfl (fun _ => rfl) (fun _ _ _ => rfl) (fun t => by rw [fafter0]; unfold Dat.blockOf fblk; rw [fdat_A]; try rfl) t d).trans
    (by unfold Dat.fetched Dat.blockOf fblk; rw [fdat_A]; try rfl)
theorem fbefore1 (c : Dev nD) (t : Fin cfg0.N) (d) : (fdat V c).before 1 t d = fblk V c 1 t :=
  ((fdat V c).before_in_eq_fetched 1 rfl (fun _ => rfl) (fun _ _ _ => rfl) (fun t => by rw [fafter1]; unfold Dat.blockOf fblk; rw [fdat_A]; try rfl) t d).trans
    (by unfold Dat.fetched Dat.blockOf fblk; rw [fdat_A]; try rfl)
theorem fbefore2 (c : Dev nD) (t : Fin cfg0.N) (d) : (fdat V c).before 2 t d = fblk V c 2 t :=
  ((fdat V c).before_in_eq_fetched 2 rfl (fun _ => rfl) (fun _ _ _ => rfl) (fun t => by rw [fafter2]; unfold Dat.blockOf fblk; rw [fdat_A]; try rfl) t d).trans
    (by unfold Dat.fetched Dat.blockOf fblk; rw [fdat_A]; try rfl)
theorem fbefore4 (c : Dev nD) (t : Fin cfg0.N) (d) : (fdat V c).before 4 t d = fblk V c 4 t :=
  ((fdat V c).before_in_eq_fetched 4 rfl (fun _ => rfl) (fun _ _ _ => rfl) (fun t => by rw [fafter4]; unfold Dat.blockOf fblk; rw [fdat_A]; try rfl) t d).trans
    (by unfold Dat.fetched Dat.blockOf fblk; rw [fdat_A]; try rfl)
theorem fleaves0 (c : Dev nD) (t : Fin cfg0.N) : (fdat V c).leavesExact 0 t = owns (c : Thread nD τ) (st0_0 t) fullShare (fblk V c 0 t) := by
  unfold Dat.leavesExact; rw [show cfg0.idle 0 (grid0.coords t) = false from rfl, fafter0]; try rfl
theorem fleaves1 (c : Dev nD) (t : Fin cfg0.N) : (fdat V c).leavesExact 1 t = owns (c : Thread nD τ) (st0_1 t) fullShare (fblk V c 1 t) := by
  unfold Dat.leavesExact; rw [show cfg0.idle 1 (grid0.coords t) = false from rfl, fafter1]; try rfl
theorem fleaves2 (c : Dev nD) (t : Fin cfg0.N) : (fdat V c).leavesExact 2 t = owns (c : Thread nD τ) (st0_2 t) fullShare (fblk V c 2 t) := by
  unfold Dat.leavesExact; rw [show cfg0.idle 2 (grid0.coords t) = false from rfl, fafter2]; try rfl
theorem fleaves3 (c : Dev nD) (t : Fin cfg0.N) : (fdat V c).leavesExact 3 t = owns (c : Thread nD τ) (st0_3 t) fullShare (fx3 V c t) := by
  unfold Dat.leavesExact; rw [show cfg0.idle 3 (grid0.coords t) = false from rfl, fafter3]; try rfl
theorem fleaves4 (c : Dev nD) (t : Fin cfg0.N) : (fdat V c).leavesExact 4 t = owns (c : Thread nD τ) (st0_4 t) fullShare (fblk V c 4 t) := by
  unfold Dat.leavesExact; rw [show cfg0.idle 4 (grid0.coords t) = false from rfl, fafter4]; try rfl
theorem fleaves5 (c : Dev nD) (t : Fin cfg0.N) : (fdat V c).leavesExact 5 t = owns (c : Thread nD τ) (st0_5 t) fullShare (fwdY (grid0.coords t) (fx0 V c t) (fx1 V c t) (fx2 V c t) (fx3 V c t) (fx4 V c t) (fcarry V c t)) := by
  unfold Dat.leavesExact; rw [show cfg0.idle 5 (grid0.coords t) = false from rfl, fafter5]; try rfl
theorem fleaves6 (c : Dev nD) (t : Fin cfg0.N) : (fdat V c).leavesExact 6 t = owns (c : Thread nD τ) (st0_6 t) fullShare (fwdHs (grid0.coords t) (fx0 V c t) (fx1 V c t) (fx2 V c t) (fx4 V c t) (fcarry V c t)) := by
  unfold Dat.leavesExact; rw [show cfg0.idle 6 (grid0.coords t) = false from rfl, fafter6]; try rfl
theorem fleaves7 (c : Dev nD) (t : Fin cfg0.N) : (fdat V c).leavesExact 7 t = owns (c : Thread nD τ) (st0_7 t) fullShare (k0_pay17 (fwdA (fx1 V c t) (fx4 V c t))) := by
  unfold Dat.leavesExact; rw [show cfg0.idle 7 (grid0.coords t) = false from rfl, fafter7]; try rfl

/-- What the body is called with at point `t`. -/
def fbodyPre (c : Dev nD) (t : Fin cfg0.N) : sProp 𝕄 :=
  iprop((fdat V c).Φ t.castSucc ∗ (fdat V c).owesAt () t.castSucc
    ∗ (∃ d, owns (c : Thread nD τ) (st0_0 t) fullShare ((fdat V c).before 0 t d)) ∗ (∃ d, owns (c : Thread nD τ) (st0_1 t) fullShare ((fdat V c).before 1 t d)) ∗ (∃ d, owns (c : Thread nD τ) (st0_2 t) fullShare ((fdat V c).before 2 t d)) ∗ (∃ d, owns (c : Thread nD τ) (st0_3 t) fullShare ((fdat V c).before 3 t d)) ∗ (∃ d, owns (c : Thread nD τ) (st0_4 t) fullShare ((fdat V c).before 4 t d)) ∗ (∃ d, owns (c : Thread nD τ) (st0_5 t) fullShare ((fdat V c).before 5 t d)) ∗ (∃ d, owns (c : Thread nD τ) (st0_6 t) fullShare ((fdat V c).before 6 t d)) ∗ (∃ d, owns (c : Thread nD τ) (st0_7 t) fullShare ((fdat V c).before 7 t d)))
/-- What it returns. -/
def fbodyPost (c : Dev nD) (t : Fin cfg0.N) : sProp 𝕄 :=
  iprop((fdat V c).Φ t.succ ∗ (fdat V c).owesAt () t.succ
    ∗ (fdat V c).leavesExact 0 t ∗ (fdat V c).leavesExact 1 t ∗ (fdat V c).leavesExact 2 t ∗ (fdat V c).leavesExact 3 t ∗ (fdat V c).leavesExact 4 t ∗ (fdat V c).leavesExact 5 t ∗ (fdat V c).leavesExact 6 t ∗ (fdat V c).leavesExact 7 t)

set_option maxHeartbeats 4000000 in
/-- The body at any point, by whether the tile is its sequence's first. -/
theorem fbody (c : Dev nD) (t : Fin cfg0.N) :
    fbodyPre V c t ⊢ wp frame (wpE (defs₀ (F := F)) Variants.none c none) Set.univ (bodyAt0 t) (fun _ => fbodyPost V c t) := by
  unfold fbodyPre fbodyPost bodyAt0
  simp only [fbefore0, fbefore1, fbefore2, fbefore3, fbefore4, fleaves0, fleaves1, fleaves2, fleaves3, fleaves4, fleaves5, fleaves6, fleaves7]
  rw [show (fdat V c).owesAt () t.succ = (fdat V c).owesAt () t.castSucc from rfl]
  rw [show (fdat V c).Φ t.succ = fPhi V c (t.val + 1) t.isLt from rfl, fPhi_pos V c _ _ (Nat.succ_ne_zero _), fstate_succ]
  rw [show (fdat V c).Φ t.castSucc = fPhi V c t.val (Nat.le_of_lt t.isLt) from rfl]
  by_cases h0 : t.val % 11 = 0
  · have hc := (startsRow_iff t).mpr h0
    have he : fcarry V c t = k0_pay2 := if_pos h0
    rw [he]
    by_cases hz : t.val = 0
    · rw [fPhi_zero V c _ _ hz]
      iintro ⟨⟨⟨HS0, HS1, HS2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (fwdFirst_wp c (grid0.coords t) _ _ _ _ _ _ _ _ _ _ _ _ _ _ _ _ _ _ _ _ _ _ hc (fblk V c 0 t) (fblk V c 1 t) (fblk V c 2 t) (fx3 V c t) (fblk V c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [fPhi_pos V c _ _ hz]
      iintro ⟨⟨HS0, HS1, HS2, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (fwdFirst_wp c (grid0.coords t) _ _ _ _ _ _ _ _ _ _ _ _ _ _ _ _ _ _ _ _ _ _ hc (fblk V c 0 t) (fblk V c 1 t) (fblk V c 2 t) (fx3 V c t) (fblk V c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      isplitl [HS2]; · iexists _; iexact HS2
      iintro ⟨H0, H1, H2, H3, H4, H5, H6, H7, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc : ¬startsRow (grid0.coords t) := fun h => h0 ((startsRow_iff t).mp h)
    have he : fcarry V c t = fstate V c t.val (Nat.le_of_lt t.isLt) := if_neg h0
    rw [he, fPhi_pos V c _ _ (fun h => h0 (by rw [h]))]
    iintro ⟨⟨HS0, HS1, HS2, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (fwdNext_wp c (grid0.coords t) _ _ _ _ _ _ _ _ _ _ _ _ _ _ _ _ _ _ _ _ _ _ hc (fblk V c 0 t) (fblk V c 1 t) (fblk V c 2 t) (fx3 V c t) (fblk V c 4 t) (fstate V c t.val (Nat.le_of_lt t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem fdefs_row (t : Fin cfg0.N) : defs₀ (F := F) .tc cfg0.body (cfg0.bodyArgs t (cfg0.slots t)) = bodyAt0 t := by
  unfold defs₀; rw [Defs.onTc_tc]

/-- The region's body obligation. -/
theorem fobligation (c : Dev nD) : BodyObligation (fdat V c) (defs₀ (F := F)) Variants.none () Set.univ := fun t => by
  rw [bigSep_W0, bigSep_W0, fdefs_row]
  exact triple_restated (fbody V c t) rfl .rfl fun _ => .rfl

/-- What the region is handed is its invariant before the first point. -/
theorem fPhi_in (c : Dev nD) : (fdat V c).Φ 0 = Pipeline.scopedRest (Ix := Unit) (Name := ℕ) (U := UR sig nD τ) (Lvl := ℕ) (Val := Elt F) spec0 c := rfl

/-- After the last point it is handed back. -/
theorem fPhi_out (c : Dev nD) : (fdat V c).Φ (Fin.last cfg0.N) ⊢ Pipeline.scopedRest (Ix := Unit) (Name := ℕ) (U := UR sig nD τ) (Lvl := ℕ) (Val := Elt F) spec0 c := by
  rw [show (fdat V c).Φ (Fin.last cfg0.N) = fPhi V c cfg0.N le_rfl from rfl, fPhi_pos V c _ _ (by rw [show cfg0.N = 44 from N_0]; decide), scopedRest0_split]
  simp only [owns_whole]
  iintro ⟨H0, H1, H2, Hr⟩
  isplitl [H0 H1 H2]
  · isplitl [H0]; · iexact H0
    isplitl [H1]; · iexact H1
    iexists _; iexact H2
  iexact Hr

end Cert.KernelIdeal.Lru

end
-- ==== Proof.Lru.Blocks.lean ====
/- Which entries of the arrays the backward pass's blocks hold. -/
module

public import proofs.«01_k».proof.Proof.Lru.TileVal
public import proofs.«01_k».proof.Proof.Lru.BwdSeg
public import proofs.«01_k».proof.Proof.Lru.FwdSeg

@[expose] public section

set_option maxRecDepth 16384

noncomputable section

namespace Cert.KernelIdeal.Lru

open Cert.KernelIdeal Cert.KernelIdeal.Gen Cert.Lru
open Idealize.ShloMosaic Idealize.ShloMosaic.TcCoe

/-- Which block of each array a grid point of the backward pass reads or writes. -/
theorem bidx : ∀ t : Fin grid1.N, win1_0.index t = ![t.val / 11 % 2, 10 - t.val % 11, t.val / 22]
    ∧ win1_1.index t = ![t.val / 11 % 2, 10 - t.val % 11, 14 + t.val / 22]
    ∧ win1_4.index t = ![t.val / 11 % 2, 10 - t.val % 11, t.val / 22]
    ∧ win1_5.index t = ![t.val / 11 % 2, min (48 * (11 - t.val % 11)) 527, t.val / 22]
    ∧ win1_6.index t = ![t.val / 11 % 2, 10 - t.val % 11, 3 + t.val / 22]
    ∧ win1_7.index t = ![t.val / 11 % 2, 10 - t.val % 11, t.val / 22]
    ∧ win1_8.index t = ![t.val / 11 % 2, 10 - t.val % 11, t.val / 22]
    ∧ win1_9.index t = ![0, t.val / 22]
    ∧ win1_12.index t = ![t.val / 11 % 2, 10 - t.val % 11, t.val / 22]
    ∧ win1_13.index t = ![t.val / 11 % 2, 10 - t.val % 11, t.val / 22] := by decide +kernel

/-- The coordinate of a grid point along the steps' tiles. -/
theorem bcoord : ∀ t : Fin grid1.N, ((grid1.coords t) 2).val = t.val % 11 := by decide +kernel

variable (V : (c : Dev nD) → (b : Ref sig .tc) → Buf (Elt Ideal) ((c : Thread nD τ).loc b)) (c : Dev nD)

/-- The sequence, the step and the channel of an entry of a grid point's tile. -/
def bB (t : Fin cfg1.N) : Fin 2 := ⟨t.val / 11 % 2, Nat.mod_lt _ (by decide)⟩
def bT (t : Fin cfg1.N) (r : Fin 384) : Fin 4224 := ⟨(10 - t.val % 11) * 384 + r.val, by omega⟩
def bC (t : Fin cfg1.N) (l : Fin 512) : Fin 1024 := ⟨t.val / 22 * 512 + l.val, by
  have h : t.val < 44 := t.isLt
  omega⟩

theorem bx0_at (t : Fin cfg1.N) (r : Fin 384) (l : Fin 512) : @Eq EReal (bx0 V c t (ix3 (0 : Fin 1) r l)) (V c main_arg0 (ix3 (bB t) (bT t r) (bC t l))) := by
  blk_ext [bx0, bblk, bidx, bB, bT, bC]

theorem bx4_at (t : Fin cfg1.N) (r : Fin 384) (l : Fin 512) : @Eq EReal (bx4 V c t (ix3 (0 : Fin 1) r l)) (V c main_v5_2 (ix3 (bB t) (bT t r) (bC t l))) := by
  blk_ext [bx4, bblk, bidx, bB, bT, bC]

theorem bx7_at (t : Fin cfg1.N) (r : Fin 384) (l : Fin 512) : @Eq EReal (bx7 V c t (ix3 (0 : Fin 1) r l)) (V c main_arg3 (ix3 (bB t) (bT t r) (bC t l))) := by
  blk_ext [bx7, bblk, bidx, bB, bT, bC]

theorem bx8_at (t : Fin cfg1.N) (r : Fin 384) (l : Fin 512) : @Eq EReal (bx8 V c t (ix3 (0 : Fin 1) r l)) (V c main_arg4 (ix3 (bB t) (bT t r) (bC t l))) := by
  blk_ext [bx8, bblk, bidx, bB, bT, bC]

theorem bx6_at (t : Fin cfg1.N) (r : Fin 384) (l : Fin 512) : @Eq EReal (bx6 V c t (ix3 (0 : Fin 1) r l)) (V c main_arg2 (ix3 (bB t) (bT t r) ⟨1536 + (bC t l).val, by omega⟩)) := by
  blk_ext [bx6, bblk, bidx, bB, bT, bC]

theorem bx1_at (t : Fin cfg1.N) (r : Fin 384) (l : Fin 512) : @Eq EReal (bx1 V c t (ix3 (0 : Fin 1) r l)) (V c main_arg1 (ix3 (bB t) (bT t r) ⟨7168 + (bC t l).val, by omega⟩)) := by
  have hm : (cfg1.win 1).moved (cfg1.grid.coords t) (ix3 (0 : Fin 1) r l : S1x384x512.Idx) = true :=
    ((cfg1.win 1).moved_iff _ _).mpr fun a => by
      have h := (ix3 (0 : Fin 1) r l : S1x384x512.Idx) a |>.isLt
      unfold Pipeline.Window.xsize
      rw [bclip1 t a]
      exact h
  unfold bx1 Pipeline.Window.fill
  rw [dif_pos hm]
  blk_ext [bblk, bidx, bB, bT, bC]

theorem bx9_at (t : Fin cfg1.N) (r : Fin 8) (l : Fin 512) : @Eq EReal (bx9 V c t (ix2 r l)) (V c main_v4 (ix2 r (bC t l))) := by
  blk_ext [bx9, bblk, bidx, bC]

theorem bx5_at (t : Fin cfg1.N) (h : t.val % 11 ≠ 0) (l : Fin 512) : @Eq EReal (bx5 V c t (ix3 (0 : Fin 1) (0 : Fin 8) l))
    (V c main_v5_2 (ix3 (bB t) ⟨(10 - t.val % 11) * 384 + 384, by omega⟩ (bC t l))) := by
  blk_ext [bx5, bblk, bidx, bB, bC]

end Cert.KernelIdeal.Lru

end
-- ==== Proof.Lru.Adjoint.lean ====
/- The backward pass's tiles in order: each starts from the adjoint that the tile behind it left. -/
module

public import proofs.«01_k».proof.Proof.Lru.Blocks

@[expose] public section

set_option maxRecDepth 16384

noncomputable section

namespace Cert.KernelIdeal.Lru

open Cert.KernelIdeal Cert.KernelIdeal.Gen Cert.Lru
open Idealize.ShloMosaic Idealize.ShloMosaic.TcCoe

/-- A tile's steps carry the adjoint behind the tile to each of its rows. -/
theorem tile_adj {a x b' x' : ℕ → EReal} {T : ℕ} (hT : T + 384 ≤ 4224) (h : ∀ i, i < 384 → b' i = nxt a (T + i) ∧ x' i = x (T + i))
    (r : ℕ) (hr : r ≤ 384) : lin b' x' (384 - r) r (adj a x (T + 384)) = adj a x (T + r) := by
  unfold adj
  rw [show 4224 - (T + r) = (384 - r) + (4224 - (T + 384)) by omega, lin_add, show T + r + (384 - r) = T + 384 by omega]
  refine lin_congr _ _ _ _ _ _ _ _ fun i hi => ?_
  have := h (r + i) (by omega)
  rw [this.1, this.2, ← Nat.add_assoc]
  exact ⟨rfl, rfl⟩

variable (V : (c : Dev nD) → (b : Ref sig .tc) → Buf (Elt Ideal) ((c : Thread nD τ).loc b)) (c : Dev nD)

/-- The arrays the backward pass is given. -/
abbrev bDy : A3 := V c main_arg0
abbrev bG : AG := V c main_arg1
abbrev bU : AU := V c main_arg2
abbrev bRa : A3 := V c main_arg3
abbrev bIx : A3 := V c main_arg4

/-- What the backward pass is given besides: the parameters' rows and the saved decays. -/
structure Given (ba bx lam : A1) : Prop where
  row0 : ∀ l : Fin 1024, @Eq EReal (V c main_v4 (ix2 (0 : Fin 8) l)) (ba (ix1 l))
  row1 : ∀ l : Fin 1024, @Eq EReal (V c main_v4 (ix2 (1 : Fin 8) l)) (bx (ix1 l))
  row2 : ∀ l : Fin 1024, @Eq EReal (V c main_v4 (ix2 (2 : Fin 8) l)) (lam (ix1 l))
  real : ∀ l : Fin 1024, ∃ q : ℝ, lam (ix1 l) = q
  saved : ∀ (b : Fin 2) (t : Fin 4224) (l : Fin 1024), @Eq EReal (V c main_v5_2 (ix3 b t l)) (decayAt (bRa V c) ba lam b l t.val)

section given
variable {V c} {ba bx lam : A1} (hG : Given V c ba bx lam)
include hG

/-- The next step's decay, row by row of a tile. -/
theorem tileB (t : Fin cfg1.N) (l : Fin 512) (r : ℕ) (hr : r < 384) :
    col (bwdB (F := Ideal) (grid1.coords t) (bx4 V c t) (bx5 V c t)) l r
      = nxt (decayAt (bRa V c) ba lam (bB t) (bC t l)) ((10 - t.val % 11) * 384 + r) := by
  unfold col
  rw [bwdB_at, bcoord]
  unfold nxt
  have hm : t.val % 11 < 11 := Nat.mod_lt _ (by decide)
  have hr' : r % 384 = r := Nat.mod_eq_of_lt hr
  by_cases h : r = 383
  · rw [if_pos (by show r % 384 = 383; omega)]
    by_cases h0 : t.val % 11 = 0
    · rw [if_pos h0, if_pos (by omega)]
    · rw [if_neg h0, if_neg (by omega), bx5_at V c t h0 l, hG.saved]
      congr 1
      show (10 - t.val % 11) * 384 + 384 = _
      omega
  · rw [if_neg (by show ¬ r % 384 = 383; omega), if_neg (by omega), bx4_at, hG.saved]
    congr 1
    show (10 - t.val % 11) * 384 + (r % 384 + 1) % 384 = _
    omega

/-- The output's gradient through the gate's activation, row by row of a tile. -/
theorem tileX (t : Fin cfg1.N) (l : Fin 512) (r : ℕ) (hr : r < 384) :
    col (bwdX (k1_pay6 (bx0 V c t)) (k1_pay13 (k1_pay3 (bx1 V c t))) (k1_pay14 (k1_pay3 (bx1 V c t)))) l r
      = inAt (bDy V c) (bG V c) (bB t) (bC t l) ((10 - t.val % 11) * 384 + r) := by
  unfold col inAt
  rw [bwdX_at, bx0_at, bx1_at]
  have e : bT t ⟨r % 384, Nat.mod_lt _ (by decide)⟩ = stepOf ((10 - t.val % 11) * 384 + r) := by
    refine Fin.ext ?_
    show (10 - t.val % 11) * 384 + r % 384 = ((10 - t.val % 11) * 384 + r) % 4224
    omega
  rw [e]

theorem tileDecay (t : Fin cfg1.N) (l : Fin 512) (y : ℕ) :
    Decay (col (bwdB (F := Ideal) (grid1.coords t) (bx4 V c t) (bx5 V c t)) l y) := by
  have e : col (bwdB (F := Ideal) (grid1.coords t) (bx4 V c t) (bx5 V c t)) l y = col (bwdB (F := Ideal) (grid1.coords t) (bx4 V c t) (bx5 V c t)) l (y % 384) := by
    unfold col
    congr 2
    exact Fin.ext (Nat.mod_mod _ _).symm
  rw [e, tileB hG t l _ (Nat.mod_lt _ (by decide))]
  unfold nxt
  split
  · exact decay_zero
  · obtain ⟨q, hq⟩ := hG.real (bC t l)
    unfold decayAt gateAt
    rw [hq]
    exact decay_decay _ _

theorem tileG (t : Fin cfg1.N) (l : Fin 512) (s : FVec Ideal S1x512 .f32)
    (hs : @Eq EReal (s (ix2 (0 : Fin 1) l)) (adjAt (bDy V c) (bG V c) (bRa V c) ba lam (bB t) (bC t l) ((10 - t.val % 11) * 384 + 384))) (r : Fin 384) :
    @Eq EReal (bwdG (F := Ideal) (grid1.coords t) (bx0 V c t) (bx1 V c t) (bx4 V c t) (bx5 V c t) s (ix2 r l))
      (adjAt (bDy V c) (bG V c) (bRa V c) ba lam (bB t) (bC t l) ((10 - t.val % 11) * 384 + r.val)) := by
  have hst := stage_eight (k1_pay6 (bx0 V c t)) (bwdB (F := Ideal) (grid1.coords t) (bx4 V c t) (bx5 V c t)) (k1_pay13 (k1_pay3 (bx1 V c t)))
    (k1_pay14 (k1_pay3 (bx1 V c t))) l (tileDecay hG t l)
  refine (out_lin hst s r).trans ?_
  rw [hs]
  exact tile_adj (by omega) (fun i hi => ⟨tileB hG t l i hi, tileX hG t l i hi⟩) r.val (Nat.le_of_lt r.isLt)

theorem tileLast (t : Fin cfg1.N) (l : Fin 512) (s : FVec Ideal S1x512 .f32)
    (hs : @Eq EReal (s (ix2 (0 : Fin 1) l)) (adjAt (bDy V c) (bG V c) (bRa V c) ba lam (bB t) (bC t l) ((10 - t.val % 11) * 384 + 384))) :
    @Eq EReal (bwdLast (F := Ideal) (grid1.coords t) (bx0 V c t) (bx1 V c t) (bx4 V c t) (bx5 V c t) s (ix2 (0 : Fin 1) l))
      (adjAt (bDy V c) (bG V c) (bRa V c) ba lam (bB t) (bC t l) ((10 - t.val % 11) * 384)) := by
  have hst := stage_eight (k1_pay6 (bx0 V c t)) (bwdB (F := Ideal) (grid1.coords t) (bx4 V c t) (bx5 V c t)) (k1_pay13 (k1_pay3 (bx1 V c t)))
    (k1_pay14 (k1_pay3 (bx1 V c t))) l (tileDecay hG t l)
  have e : bwdLast (F := Ideal) (grid1.coords t) (bx0 V c t) (bx1 V c t) (bx4 V c t) (bx5 V c t) s
      = bwdCarry (bwdPb (grid1.coords t) (bx4 V c t) (bx5 V c t)) (bwdPd (grid1.coords t) (bx0 V c t) (bx1 V c t) (bx4 V c t) (bx5 V c t)) s 48 := by
    unfold bwdLast k1_pay27
    pointwise
  rw [e]
  refine (carry_lin hst s 48 le_rfl).trans ?_
  rw [hs]
  exact tile_adj (by omega) (fun i hi => ⟨tileB hG t l i hi, tileX hG t l i hi⟩) 0 (by omega)

/-- The adjoint a tile starts from. -/
theorem carry_at : ∀ (n : ℕ) (hn : n < cfg1.N) (l : Fin 512), @Eq EReal (bcarry V c ⟨n, hn⟩ (ix2 (0 : Fin 1) l))
    (adjAt (bDy V c) (bG V c) (bRa V c) ba lam (bB ⟨n, hn⟩) (bC ⟨n, hn⟩ l) ((10 - n % 11) * 384 + 384)) := by
  intro n
  induction n with
  | zero =>
    intro hn l
    unfold bcarry benter
    rw [if_pos (by rfl)]
    unfold k1_pay2
    pointwise
    rfl
  | succ k ih =>
    intro hn l
    unfold bcarry benter
    by_cases h : (k + 1) % 11 = 0
    · rw [if_pos h]
      unfold k1_pay2
      pointwise
      show 0 = adj _ _ ((10 - (k + 1) % 11) * 384 + 384)
      rw [h]
      rfl
    · rw [if_neg h]
      have hk : k < cfg1.N := Nat.lt_of_succ_lt hn
      refine (congrArg (fun z : FVec Ideal S1x512 .f32 => z (ix2 (0 : Fin 1) l)) (bstate_succ1 V c ⟨k, hk⟩)).trans ?_
      refine (tileLast hG ⟨k, hk⟩ l _ (ih hk l)).trans ?_
      have e1 : bB ⟨k, hk⟩ = bB ⟨k + 1, hn⟩ := Fin.ext (by show k / 11 % 2 = (k + 1) / 11 % 2; omega)
      have e2 : bC ⟨k, hk⟩ l = bC ⟨k + 1, hn⟩ l := Fin.ext (by show k / 22 * 512 + l.val = (k + 1) / 22 * 512 + l.val; omega)
      rw [e1, e2]
      congr 1
      show (10 - k % 11) * 384 = (10 - (k + 1) % 11) * 384 + 384
      omega

end given

end Cert.KernelIdeal.Lru

end
-- ==== Proof.Lru.Run.lean ====
module

public import proofs.«01_k».proof.Proof.Gen.KernelIdeal.Loops
public import proofs.«01_k».proof.Proof.Gen.KernelIdeal.Points
public import proofs.«01_k».proof.Proof.Gen.KernelIdeal.Launch
public import proofs.«01_k».proof.Proof.Lru.FwdSeg
public import proofs.«01_k».proof.Proof.Lru.BwdSeg
public import proofs.«01_k».proof.Proof.Gen.KernelIdeal.Regions
public import Idealize.ShloMosaic.Lib.Pipeline.RegionsLoop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Lru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! The whole program's run: the host's parameters' rows, then the two regions, each entered from what was left before it. -/

variable (m : (ℓ : Loc nD τ sig) → Buf (Elt F) ℓ)

/-- No core owes another anything. -/
abbrev noL : GSem nD τ sig → Finset Unit := fun _ => ∅
abbrev nolv : GSem nD τ sig → Unit → ℕ := fun _ _ => 0

/-- The buffers as the first region finds them. -/
abbrev W1 (c : Dev nD) : (b : Ref sig .tc) → Buf (Elt F) ((c : Thread nD τ).loc b) := fun b => V1 m c b
/-- The buffers as the first region leaves them. -/
def W2v (c : Dev nD) : Valuation τ sig (Elt F) :=
  Function.update (Function.update (Function.update (V1 m c) main_v5_0 ((fdat (W1 m) c).arrAt 5 cfg0.N)) main_v5_1 ((fdat (W1 m) c).arrAt 6 cfg0.N)) main_v5_2 ((fdat (W1 m) c).arrAt 7 cfg0.N)
abbrev W2 (c : Dev nD) : (b : Ref sig .tc) → Buf (Elt F) ((c : Thread nD τ).loc b) := fun b => W2v m c b
/-- The buffers as the second region leaves them. -/
def W3v (c : Dev nD) : Valuation τ sig (Elt F) :=
  Function.update (Function.update (Function.update (Function.update (Function.update (W2v m c) main_v6_0 ((bdat (W2 m) c).arrAt 10 cfg1.N)) main_v6_1 ((bdat (W2 m) c).arrAt 11 cfg1.N)) main_v6_2 ((bdat (W2 m) c).arrAt 12 cfg1.N)) main_v6_3 ((bdat (W2 m) c).arrAt 13 cfg1.N)) main_v6_4 ((bdat (W2 m) c).arrAt 14 cfg1.N)
abbrev W3 (c : Dev nD) : (b : Ref sig .tc) → Buf (Elt F) ((c : Thread nD τ).loc b) := fun b => W3v m c b

/-- Two buffers of a core are distinct when their references are. -/
theorem ref_ne {a b : Ref sig .tc} (h : a ≠ b) : (Proc.devRef .tc a : DevRef τ sig) ≠ Proc.devRef .tc b := StableHlo.devRef_ne_of_ne h

theorem W2v_main_v5_0 (c : Dev nD) : W2v m c main_v5_0 = (fdat (W1 m) c).arrAt 5 cfg0.N := by
  unfold W2v; rw [Function.update_of_ne (ref_ne (by decide))]; rw [Function.update_of_ne (ref_ne (by decide))]; exact Function.update_self ..
theorem W2v_main_v5_1 (c : Dev nD) : W2v m c main_v5_1 = (fdat (W1 m) c).arrAt 6 cfg0.N := by
  unfold W2v; rw [Function.update_of_ne (ref_ne (by decide))]; exact Function.update_self ..
theorem W2v_main_v5_2 (c : Dev nD) : W2v m c main_v5_2 = (fdat (W1 m) c).arrAt 7 cfg0.N := by
  unfold W2v; exact Function.update_self ..
theorem W2v_of (c : Dev nD) (r : Ref sig .tc) (h : r ∉ ([main_v5_0, main_v5_1, main_v5_2] : List (Ref sig .tc))) : W2v m c r = V1 m c r := by
  unfold W2v; rw [Function.update_of_ne (ref_ne (fun e => h (by rw [e]; decide))), Function.update_of_ne (ref_ne (fun e => h (by rw [e]; decide))), Function.update_of_ne (ref_ne (fun e => h (by rw [e]; decide)))]
theorem W3v_main_v6_0 (c : Dev nD) : W3v m c main_v6_0 = (bdat (W2 m) c).arrAt 10 cfg1.N := by
  unfold W3v; rw [Function.update_of_ne (ref_ne (by decide))]; rw [Function.update_of_ne (ref_ne (by decide))]; rw [Function.update_of_ne (ref_ne (by decide))]; rw [Function.update_of_ne (ref_ne (by decide))]; exact Function.update_self ..
theorem W3v_main_v6_1 (c : Dev nD) : W3v m c main_v6_1 = (bdat (W2 m) c).arrAt 11 cfg1.N := by
  unfold W3v; rw [Function.update_of_ne (ref_ne (by decide))]; rw [Function.update_of_ne (ref_ne (by decide))]; rw [Function.update_of_ne (ref_ne (by decide))]; exact Function.update_self ..
theorem W3v_main_v6_2 (c : Dev nD) : W3v m c main_v6_2 = (bdat (W2 m) c).arrAt 12 cfg1.N := by
  unfold W3v; rw [Function.update_of_ne (ref_ne (by decide))]; rw [Function.update_of_ne (ref_ne (by decide))]; exact Function.update_self ..
theorem W3v_main_v6_3 (c : Dev nD) : W3v m c main_v6_3 = (bdat (W2 m) c).arrAt 13 cfg1.N := by
  unfold W3v; rw [Function.update_of_ne (ref_ne (by decide))]; exact Function.update_self ..
theorem W3v_main_v6_4 (c : Dev nD) : W3v m c main_v6_4 = (bdat (W2 m) c).arrAt 14 cfg1.N := by
  unfold W3v; exact Function.update_self ..
theorem W3v_of (c : Dev nD) (r : Ref sig .tc) (h : r ∉ ([main_v6_0, main_v6_1, main_v6_2, main_v6_3, main_v6_4] : List (Ref sig .tc))) : W3v m c r = W2v m c r := by
  unfold W3v; rw [Function.update_of_ne (ref_ne (fun e => h (by rw [e]; decide))), Function.update_of_ne (ref_ne (fun e => h (by rw [e]; decide))), Function.update_of_ne (ref_ne (fun e => h (by rw [e]; decide))), Function.update_of_ne (ref_ne (fun e => h (by rw [e]; decide))), Function.update_of_ne (ref_ne (fun e => h (by rw [e]; decide)))]

/-- Both regions' data. -/
def pdats : (p : Fin 2) → (c : Dev nD) → Dat τ (Elt F) Unit ℕ (UR sig nD τ) ℕ (cfgs p) c
  | ⟨0, _⟩ => fun c => fdat (W1 m) c
  | ⟨1, _⟩ => fun c => bdat (W2 m) c

/-- What rides along beside the buffers: the core owing nothing. -/
abbrev rides (c : Dev nD) : sProp 𝕄 := iprop(∃ W, owes (c : Thread nD τ) (0 : CellTallies nD τ sig Unit) W)

/-- The buffers region 0 fills are its windows' arrays. -/
theorem outRefs0 {b : Ref sig .tc} (hm : b ∈ ([main_v5_0, main_v5_1, main_v5_2] : List (Ref sig .tc))) : b ∈ Finset.univ.image (Pipeline.arrRef spec0) := by
  simp only [List.mem_cons, List.not_mem_nil, or_false] at hm
  rcases hm with rfl | rfl | rfl
  · exact Finset.mem_image.mpr ⟨5, Finset.mem_univ _, rfl⟩
  · exact Finset.mem_image.mpr ⟨6, Finset.mem_univ _, rfl⟩
  · exact Finset.mem_image.mpr ⟨7, Finset.mem_univ _, rfl⟩

/-- The buffers region 1 fills are its windows' arrays. -/
theorem outRefs1 {b : Ref sig .tc} (hm : b ∈ ([main_v6_0, main_v6_1, main_v6_2, main_v6_3, main_v6_4] : List (Ref sig .tc))) : b ∈ Finset.univ.image (Pipeline.arrRef spec1) := by
  simp only [List.mem_cons, List.not_mem_nil, or_false] at hm
  rcases hm with rfl | rfl | rfl | rfl | rfl
  · exact Finset.mem_image.mpr ⟨10, Finset.mem_univ _, rfl⟩
  · exact Finset.mem_image.mpr ⟨11, Finset.mem_univ _, rfl⟩
  · exact Finset.mem_image.mpr ⟨12, Finset.mem_univ _, rfl⟩
  · exact Finset.mem_image.mpr ⟨13, Finset.mem_univ _, rfl⟩
  · exact Finset.mem_image.mpr ⟨14, Finset.mem_univ _, rfl⟩

theorem arr0_0 (c : Dev nD) : (fdat (W1 m) c).arrAt 0 cfg0.N = W2v m c main_arg2 := ((fdat (W1 m) c).arrAt_in 0 rfl _).trans (W2v_of m c main_arg2 (by decide)).symm
theorem arr0_1 (c : Dev nD) : (fdat (W1 m) c).arrAt 1 cfg0.N = W2v m c main_arg3 := ((fdat (W1 m) c).arrAt_in 1 rfl _).trans (W2v_of m c main_arg3 (by decide)).symm
theorem arr0_2 (c : Dev nD) : (fdat (W1 m) c).arrAt 2 cfg0.N = W2v m c main_arg4 := ((fdat (W1 m) c).arrAt_in 2 rfl _).trans (W2v_of m c main_arg4 (by decide)).symm
theorem arr0_3 (c : Dev nD) : (fdat (W1 m) c).arrAt 3 cfg0.N = W2v m c main_arg1 := ((fdat (W1 m) c).arrAt_in 3 rfl _).trans (W2v_of m c main_arg1 (by decide)).symm
theorem arr0_4 (c : Dev nD) : (fdat (W1 m) c).arrAt 4 cfg0.N = W2v m c main_v4 := ((fdat (W1 m) c).arrAt_in 4 rfl _).trans (W2v_of m c main_v4 (by decide)).symm

/-- Each array of region 0 at its end is as the region leaves its buffer. -/
theorem arrs0 (c : Dev nD) : ∀ w : Fin 8, (fdat (W1 m) c).arrAt w cfg0.N = W2v m c (Pipeline.arrRef spec0 w)
  | 0 => arr0_0 m c
  | 1 => arr0_1 m c
  | 2 => arr0_2 m c
  | 3 => arr0_3 m c
  | 4 => arr0_4 m c
  | 5 => (W2v_main_v5_0 m c).symm
  | 6 => (W2v_main_v5_1 m c).symm
  | 7 => (W2v_main_v5_2 m c).symm

set_option backward.isDefEq.respectTransparency.types false in
/-- Region 0 over the core's buffers. -/
def reg0 : Pipeline.RegionSeg (pcfgs (F := F)) adm (pdats m) () defs₀ Variants.none noL nolv 0 where
  win := launch0.win.to₀
  block_pos := launch0.block_pos
  stage_whole := launch0.stage_whole
  K := PEmpty
  osem k := k.elim
  ho := Pipeline.OwnSemFacts.none _
  hbody c := (fobligation (W1 m) c).loose
  hwaits := Pipeline.hwaits_of_owed_zero _ _ _ _ noL nolv 0 fun _ _ => rfl
  pre c := iprop(unscopedBufs c (W1 m c) ∗ rides c)
  post c := iprop(unscopedBufs c (W2 m c) ∗ rides c)
  X _ := BI.emp
  Y _ := BI.emp
  Z c := Pipeline.unscopedRest (Ix := Unit) (Name := ℕ) (U := UR sig nD τ) (Lvl := ℕ) spec0 c (W1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (W1 m c) fun w => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = (Pipeline.scopedRest (Ix := Unit) (Name := ℕ) (U := UR sig nD τ) (Lvl := ℕ) (Val := Elt F) spec0 c) from fPhi_in (W1 m) c]
    iintro ⟨-, -, Hr⟩; iexact Hr
  hout c := by
    rw [Pipeline.ownSems0_none]
    refine BIBase.Entails.trans (show (pdats m 0 c).Φ (Fin.last _) ⊢ Pipeline.scopedRest (Ix := Unit) (Name := ℕ) (U := UR sig nD τ) (Lvl := ℕ) (Val := Elt F) spec0 c from fPhi_out (W1 m) c) ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (W1 m c) (W2 m c) ((pdats m 0 c).arrAt · cfg0.N)
      (arrs0 m c)
      (fun b hb => W2v_of m c b fun hm => hb (outRefs0 hm))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO
theorem arr1_0 (c : Dev nD) : (bdat (W2 m) c).arrAt 0 cfg1.N = W3v m c main_arg0 := ((bdat (W2 m) c).arrAt_in 0 rfl _).trans (W3v_of m c main_arg0 (by decide)).symm
theorem arr1_1 (c : Dev nD) : (bdat (W2 m) c).arrAt 1 cfg1.N = W3v m c main_arg1 := ((bdat (W2 m) c).arrAt_in 1 rfl _).trans (W3v_of m c main_arg1 (by decide)).symm
theorem arr1_2 (c : Dev nD) : (bdat (W2 m) c).arrAt 2 cfg1.N = W3v m c main_v5_1 := ((bdat (W2 m) c).arrAt_in 2 rfl _).trans (W3v_of m c main_v5_1 (by decide)).symm
theorem arr1_3 (c : Dev nD) : (bdat (W2 m) c).arrAt 3 cfg1.N = W3v m c main_v5_1 := ((bdat (W2 m) c).arrAt_in 3 rfl _).trans (W3v_of m c main_v5_1 (by decide)).symm
theorem arr1_4 (c : Dev nD) : (bdat (W2 m) c).arrAt 4 cfg1.N = W3v m c main_v5_2 := ((bdat (W2 m) c).arrAt_in 4 rfl _).trans (W3v_of m c main_v5_2 (by decide)).symm
theorem arr1_5 (c : Dev nD) : (bdat (W2 m) c).arrAt 5 cfg1.N = W3v m c main_v5_2 := ((bdat (W2 m) c).arrAt_in 5 rfl _).trans (W3v_of m c main_v5_2 (by decide)).symm
theorem arr1_6 (c : Dev nD) : (bdat (W2 m) c).arrAt 6 cfg1.N = W3v m c main_arg2 := ((bdat (W2 m) c).arrAt_in 6 rfl _).trans (W3v_of m c main_arg2 (by decide)).symm
theorem arr1_7 (c : Dev nD) : (bdat (W2 m) c).arrAt 7 cfg1.N = W3v m c main_arg3 := ((bdat (W2 m) c).arrAt_in 7 rfl _).trans (W3v_of m c main_arg3 (by decide)).symm
theorem arr1_8 (c : Dev nD) : (bdat (W2 m) c).arrAt 8 cfg1.N = W3v m c main_arg4 := ((bdat (W2 m) c).arrAt_in 8 rfl _).trans (W3v_of m c main_arg4 (by decide)).symm
theorem arr1_9 (c : Dev nD) : (bdat (W2 m) c).arrAt 9 cfg1.N = W3v m c main_v4 := ((bdat (W2 m) c).arrAt_in 9 rfl _).trans (W3v_of m c main_v4 (by decide)).symm

/-- Each array of region 1 at its end is as the region leaves its buffer. -/
theorem arrs1 (c : Dev nD) : ∀ w : Fin 15, (bdat (W2 m) c).arrAt w cfg1.N = W3v m c (Pipeline.arrRef spec1 w)
  | 0 => arr1_0 m c
  | 1 => arr1_1 m c
  | 2 => arr1_2 m c
  | 3 => arr1_3 m c
  | 4 => arr1_4 m c
  | 5 => arr1_5 m c
  | 6 => arr1_6 m c
  | 7 => arr1_7 m c
  | 8 => arr1_8 m c
  | 9 => arr1_9 m c
  | 10 => (W3v_main_v6_0 m c).symm
  | 11 => (W3v_main_v6_1 m c).symm
  | 12 => (W3v_main_v6_2 m c).symm
  | 13 => (W3v_main_v6_3 m c).symm
  | 14 => (W3v_main_v6_4 m c).symm

set_option backward.isDefEq.respectTransparency.types false in
/-- Region 1 over the core's buffers. -/
def reg1 : Pipeline.RegionSeg (pcfgs (F := F)) adm (pdats m) () defs₀ Variants.none noL nolv 1 where
  win := launch₀1.win
  block_pos := launch₀1.block_pos
  stage_whole := launch₀1.stage_whole
  K := PEmpty
  osem k := k.elim
  ho := Pipeline.OwnSemFacts.none _
  hbody c := (bobligation (W2 m) c).loose
  hwaits := Pipeline.hwaits_of_owed_zero _ _ _ _ noL nolv 1 fun _ _ => rfl
  pre c := iprop(unscopedBufs c (W2 m c) ∗ rides c)
  post c := iprop(unscopedBufs c (W3 m c) ∗ rides c)
  X _ := BI.emp
  Y _ := BI.emp
  Z c := Pipeline.unscopedRest (Ix := Unit) (Name := ℕ) (U := UR sig nD τ) (Lvl := ℕ) spec1 c (W2 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (W2 m c) fun w => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = (Pipeline.scopedRest (Ix := Unit) (Name := ℕ) (U := UR sig nD τ) (Lvl := ℕ) (Val := Elt F) spec1 c) from bPhi_in (W2 m) c]
    iintro ⟨-, -, Hr⟩; iexact Hr
  hout c := by
    rw [Pipeline.ownSems0_none]
    refine BIBase.Entails.trans (show (pdats m 1 c).Φ (Fin.last _) ⊢ Pipeline.scopedRest (Ix := Unit) (Name := ℕ) (U := UR sig nD τ) (Lvl := ℕ) (Val := Elt F) spec1 c from bPhi_out (W2 m) c) ?_
    iintro Hr
    isplitr; · iempintro
    isplitr; · iempintro
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      (pdats m) (fun _ _ => rfl) (W2 m c) (W3 m c) ((pdats m 1 c).arrAt · cfg1.N)
      (arrs1 m c)
      (fun b hb => W3v_of m c b fun hm => hb (outRefs1 hm))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- From any memory, every execution ends with each core's buffers as the second region leaves them and every counter at zero. -/
theorem run_main (ρ : Dev nD → PrngReg) : θ_run defs (onTc (τ := τ) (main (F := F))) ⟨m, fun _ => 0, ρ⟩ (fun r =>
    (∀ (c : Dev nD), ∀ b ∈ Pipeline.ucRefs τ sig, r.2.mem (c, b) = W3v m c b) ∧ r.2.sem = fun _ => 0) := by
  refine Pipeline.θ_run_regions_kit_dev_sems (pcfgs (F := F)) adm (pdats m) () cellOf_inj emb₁ defs₀ Variants.none noL nolv m ρ main
    (segs m Variants.none noL nolv (fun _ => rides) () (pdats m) (reg0 m) (reg1 m))
    (fun c Q => by
      rewrite [main_chain c, Seg.run_eq_chain,
        show (segs m Variants.none noL nolv (fun _ => rides) () (pdats m) (reg0 m) (reg1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rides c))
    (Tₙ := fun c => StableHlo.held (c : Thread nD τ) (Pipeline.ucRefs τ sig) (W3v m c))
    (hch := fun c => ⟨.rfl, ?_, ?_, ?_⟩)
    (hinit := Pipeline.initEach noL nolv fun c => ?_) (QY := fun c s => ∀ b ∈ Pipeline.ucRefs τ sig, s.mem (c, b) = W3v m c b)
    (hfin := fun c s' => ?_) (hQ := fun _ h hz => ⟨h, funext fun g => hz g (.inr (regions_no_unscoped g.2))⟩)
  · show iprop(StableHlo.held (c : Thread nD τ) (Pipeline.ucRefs τ sig) (V1 m c) ∗ rides c) ⊢ iprop(unscopedBufs c (W1 m c) ∗ rides c)
    rw [← Pipeline.unscopedBufs_held (Ix := Unit) (Name := ℕ) (U := UR sig nD τ) (Lvl := ℕ) c (V1 m c)]
  · exact .rfl
  · show iprop(unscopedBufs c (W3 m c) ∗ rides c) ⊢ iprop(StableHlo.held (c : Thread nD τ) (Pipeline.ucRefs τ sig) (W3v m c) ∗ rides c)
    rw [← Pipeline.unscopedBufs_held (Ix := Unit) (Name := ℕ) (U := UR sig nD τ) (Lvl := ℕ) c (W3v m c)]
  · rw [← Pipeline.unscopedBufs_held (Ix := Unit) (Name := ℕ) (U := UR sig nD τ) (Lvl := ℕ) c (V0 m c)]
    iintro ⟨⟨Hb, -, Ho, -, -, -⟩, -⟩
    imodintro
    isplitl [Hb]; · iexact Hb
    iexists _; iexact Ho
  · unfold StableHlo.held
    iintro ⟨Hh, HSI⟩
    ihave Hr := (pointsTo_read_all (Pipeline.ucRefs τ sig) (fun b => ((c : Thread nD τ).1, b)) (W3v m c) s') $$ [Hh HSI]
    · isplitl [Hh] <;> iassumption
    icases Hr with ⟨%h, HSI⟩
    imodintro
    isplitr
    · ipureintro; exact h
    · iexact HSI

end Cert.KernelIdeal.Lru

end
-- ==== Proof.Lru.Result.lean ====
/- What the kernel's result arrays hold after the run. -/
module

public import proofs.«01_k».proof.Proof.Lru.Adjoint
public import proofs.«01_k».proof.Proof.Lru.Run
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.KernelIdeal.Lru

open Cert.KernelIdeal Cert.KernelIdeal.Gen Cert.Lru
open Idealize.ShloMosaic Idealize.ShloMosaic.TcCoe

/-- Which block of each array a grid point of the forward pass reads or writes. -/
theorem fidx : ∀ t : Fin grid0.N, win0_1.index t = ![t.val / 22, t.val % 11, t.val / 11 % 2]
    ∧ win0_4.index t = ![0, t.val / 11 % 2]
    ∧ win0_7.index t = ![t.val / 22, t.val % 11, t.val / 11 % 2] := by decide +kernel

section forward
variable (V : (c : Dev nD) → (b : Ref sig .tc) → Buf (Elt Ideal) ((c : Thread nD τ).loc b)) (c : Dev nD)

/-- The sequence, the step and the channel of an entry of a grid point's tile in the forward pass. -/
def fB (t : Fin cfg0.N) : Fin 2 := ⟨t.val / 22, by
  have h : t.val < 44 := t.isLt
  omega⟩
def fT (t : Fin cfg0.N) (r : Fin 384) : Fin 4224 := ⟨t.val % 11 * 384 + r.val, by omega⟩
def fC (t : Fin cfg0.N) (l : Fin 512) : Fin 1024 := ⟨t.val / 11 % 2 * 512 + l.val, by omega⟩

theorem fx1_at (t : Fin cfg0.N) (r : Fin 384) (l : Fin 512) : @Eq EReal (fx1 V c t (ix3 (0 : Fin 1) r l)) (V c main_arg3 (ix3 (fB t) (fT t r) (fC t l))) := by
  blk_ext [fx1, fblk, fidx, fB, fT, fC]

theorem fx4_at (t : Fin cfg0.N) (r : Fin 8) (l : Fin 512) : @Eq EReal (fx4 V c t (ix2 r l)) (V c main_v4 (ix2 r (fC t l))) := by
  blk_ext [fx4, fblk, fidx, fC]

/-- The decays the forward pass saves. -/
def savedA : A3 := fun i => decay (sg (@HAdd.hAdd EReal EReal EReal _ (V c main_arg3 (ix3 (i 0) (i 1) (i 2))) (V c main_v4 (ix2 (0 : Fin 8) (i 2)))))
  (lsK (V c main_v4 (ix2 (2 : Fin 8) (i 2))))

theorem savedT_at (t : Fin cfg0.N) (r : Fin 384) (l : Fin 512) : @Eq EReal (k0_pay17 (fwdA (F := Ideal) (fx1 V c t) (fx4 V c t)) (ix3 (0 : Fin 1) r l))
    (savedA V c (ix3 (fB t) (fT t r) (fC t l))) := by
  have h := fwdA_at (fx1 V c t) (fx4 V c t) r l
  rw [fx1_at, fx4_at, fx4_at] at h
  unfold k0_pay17
  pointwise
  exact h

theorem saved_final : (fdat V c).arrAt 7 cfg0.N = savedA V c := by
  refine (fdat V c).arrAt_eq_of_covers 7 _ (by decide +kernel) fun t hf y => ?_
  blk_simp
  rw [fafter7]
  frame_out
  obtain ⟨r, l, rfl⟩ : ∃ (r : Fin 384) (l : Fin 512), y = (ix3 (0 : Fin 1) r l : S1x384x512.Idx) :=
    ⟨y 1, y 2, by rw [← Fin.fin_one_eq_zero (y 0)]; exact (ix3_eta y).symm⟩
  refine (savedT_at V c t r l).trans ?_
  blk_ext [fidx, fB, fT, fC]

end forward

variable (m : (ℓ : Loc nD τ sig) → Buf (Elt Ideal) ℓ) (c : Dev nD)

/-- The parameters' rows. -/
theorem rows_at (l : Fin 1024) : @Eq EReal (W1 m c main_v4 (ix2 (0 : Fin 8) l)) (V0 m c main_arg5 (ix1 l))
    ∧ @Eq EReal (W1 m c main_v4 (ix2 (1 : Fin 8) l)) (V0 m c main_arg6 (ix1 l))
    ∧ @Eq EReal (W1 m c main_v4 (ix2 (2 : Fin 8) l)) (V0 m c main_arg7 (ix1 l)) := by
  unfold W1 V1
  generalize V0 m c = X
  refine ⟨?_, ?_, ?_⟩
  all_goals after_reads_simp
  all_goals pointwise
  all_goals refine (congrFun (StableHlo.unary_result ..) _).trans ?_
  all_goals after_reads_simp
  all_goals pointwise

section backward
variable {V : (c : Dev nD) → (b : Ref sig .tc) → Buf (Elt Ideal) ((c : Thread nD τ).loc b)} {c : Dev nD} {ba bx lam : A1} (hG : Given V c ba bx lam)
include hG

/-- The backward pass's two result arrays. -/
def finX (V : (c : Dev nD) → (b : Ref sig .tc) → Buf (Elt Ideal) ((c : Thread nD τ).loc b)) (c : Dev nD) (ba bx lam : A1) : A3 :=
  fun i => resX (bDy V c) (bG V c) (bRa V c) (bIx V c) ba bx lam (i 0) (i 1) (i 2)
def finI (V : (c : Dev nD) → (b : Ref sig .tc) → Buf (Elt Ideal) ((c : Thread nD τ).loc b)) (c : Dev nD) (ba bx lam : A1) : A3 :=
  fun i => resI (bDy V c) (bG V c) (bU V c) (bRa V c) (bIx V c) ba bx lam (i 0) (i 1) (i 2)

theorem mult_tile (t : Fin cfg1.N) (r : Fin 384) (l : Fin 512) :
    @Eq EReal (k1_pay38 (F := Ideal) (bwdFirstRow (grid1.coords t)) (bwdM0 (bx7 V c t) (bx9 V c t)) (ix2 r l))
      (multAt (bRa V c) ba lam (bB t) (bC t l) (bT t r).val) := by
  obtain ⟨q, hq⟩ := hG.real (bC t l)
  have h9 : @Eq EReal (bx9 V c t (ix2 (2 : Fin 8) l)) q := ((bx9_at V c t 2 l).trans (hG.row2 _)).trans hq
  refine (mult_at (i := grid1.coords t) (x7 := bx7 V c t) (x9 := bx9 V c t) (r := r) (l := l) h9 (bT t r).val ?_).trans ?_
  · rw [bcoord]
    show (10 - t.val % 11) * 384 + r.val = 0 ↔ _
    omega
  · rw [bx7_at, bx9_at, bx9_at, hG.row0, hG.row2]
    unfold multAt gateAt
    rw [stepOf_val]

theorem gate_tile (t : Fin cfg1.N) (r : Fin 384) (l : Fin 512) :
    sg (@HAdd.hAdd EReal EReal EReal _ (bx8 V c t (ix3 (0 : Fin 1) r l)) (bx9 V c t (ix2 (1 : Fin 8) l))) = gateAt (bIx V c) bx (bB t) (bC t l) (bT t r).val := by
  rw [bx8_at, bx9_at, hG.row1]
  unfold gateAt
  rw [stepOf_val]

theorem grad_tile (t : Fin cfg1.N) (r : Fin 384) (l : Fin 512) :
    @Eq EReal (bwdG (F := Ideal) (grid1.coords t) (bx0 V c t) (bx1 V c t) (bx4 V c t) (bx5 V c t) (bcarry V c t) (ix2 r l))
      (adjAt (bDy V c) (bG V c) (bRa V c) ba lam (bB t) (bC t l) (bT t r).val) :=
  tileG hG t l _ (carry_at hG t.val t.isLt l) r

theorem dxc_tile (t : Fin cfg1.N) (r : Fin 384) (l : Fin 512) : @Eq EReal (bwdDxc (F := Ideal) (grid1.coords t) (bx0 V c t) (bx1 V c t) (bx2 V c t) (bx3 V c t)
      (bx4 V c t) (bx5 V c t) (bx6 V c t) (bx7 V c t) (bx8 V c t) (bx9 V c t) (bcarry V c t) (ix3 (0 : Fin 1) r l))
    (finX V c ba bx lam (ix3 (bB t) (bT t r) (bC t l))) := by
  refine (bwdDxc_at (i := grid1.coords t) ..).trans ?_
  rw [mult_tile hG, gate_tile hG, grad_tile hG]
  rfl

theorem dix_tile (t : Fin cfg1.N) (r : Fin 384) (l : Fin 512) : @Eq EReal (bwdDix (F := Ideal) (grid1.coords t) (bx0 V c t) (bx1 V c t) (bx2 V c t) (bx3 V c t)
      (bx4 V c t) (bx5 V c t) (bx6 V c t) (bx7 V c t) (bx8 V c t) (bx9 V c t) (bcarry V c t) (ix3 (0 : Fin 1) r l))
    (finI V c ba bx lam (ix3 (bB t) (bT t r) (bC t l))) := by
  refine (bwdDix_at (i := grid1.coords t) ..).trans ?_
  rw [mult_tile hG, gate_tile hG, grad_tile hG, bx6_at]
  rfl

theorem dxc_final : (bdat V c).arrAt 13 cfg1.N = finX V c ba bx lam := by
  refine (bdat V c).arrAt_eq_of_covers 13 _ (by decide +kernel) fun t hf y => ?_
  blk_simp
  rw [bafter13]
  frame_out
  obtain ⟨r, l, rfl⟩ : ∃ (r : Fin 384) (l : Fin 512), y = (ix3 (0 : Fin 1) r l : S1x384x512.Idx) :=
    ⟨y 1, y 2, by rw [← Fin.fin_one_eq_zero (y 0)]; exact (ix3_eta y).symm⟩
  refine (dxc_tile hG t r l).trans ?_
  blk_ext [bidx, bB, bT, bC]

theorem dix_final : (bdat V c).arrAt 12 cfg1.N = finI V c ba bx lam := by
  refine (bdat V c).arrAt_eq_of_covers 12 _ (by decide +kernel) fun t hf y => ?_
  blk_simp
  rw [bafter12]
  frame_out
  obtain ⟨r, l, rfl⟩ : ∃ (r : Fin 384) (l : Fin 512), y = (ix3 (0 : Fin 1) r l : S1x384x512.Idx) :=
    ⟨y 1, y 2, by rw [← Fin.fin_one_eq_zero (y 0)]; exact (ix3_eta y).symm⟩
  refine (dix_tile hG t r l).trans ?_
  blk_ext [bidx, bB, bT, bC]

end backward

/-- What the backward pass is given, from the launch's memory. -/
theorem given (hl : ∀ l : Fin 1024, ∃ q : ℝ, @Eq EReal (V0 m c main_arg7 (ix1 l)) q) : Given (W2 m) c (V0 m c main_arg5) (V0 m c main_arg6) (V0 m c main_arg7) where
  row0 l := (congrFun (W2v_of m c main_v4 (by decide)) _).trans (rows_at m c l).1
  row1 l := (congrFun (W2v_of m c main_v4 (by decide)) _).trans (rows_at m c l).2.1
  row2 l := (congrFun (W2v_of m c main_v4 (by decide)) _).trans (rows_at m c l).2.2
  real := hl
  saved b t l := by
    obtain ⟨q, hq⟩ := hl l
    have h := congrFun (W2v_main_v5_2 m c |>.trans (saved_final (W1 m) c)) (ix3 b t l)
    refine h.trans ?_
    have e3 : bRa (W2 m) c = W1 m c main_arg3 := W2v_of m c main_arg3 (by decide)
    unfold savedA decayAt gateAt
    rw [e3, stepOf_val]
    show decay (sg (@HAdd.hAdd EReal EReal EReal _ (W1 m c main_arg3 (ix3 b t l)) (W1 m c main_v4 (ix2 (0 : Fin 8) l)))) (lsK (W1 m c main_v4 (ix2 (2 : Fin 8) l))) = _
    rw [(rows_at m c l).1, (rows_at m c l).2.2, hq, lsK_coe]

end Cert.KernelIdeal.Lru

end
-- ==== Proof.Lru.RefOps.lean ====
/- The reference of the recurrence as stretches of host operations around its two loops. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Lru

open Cert.ReferenceIdeal Cert.ReferenceIdeal.Gen
open Idealize.ShloMosaic Idealize.ShloMosaic.TcCoe Idealize.ShloMosaic.Tactic
open Idealize.SL Idealize.SL.RA Idealize.SL.BI
open Idealize.ShloMosaic.StableHlo (TRef tcRefs unary_bufs_sub binary_bufs_sub nullary_bufs_sub ternary_bufs_sub unary binary nullary seq)
open scoped Idealize.SL.BI
open Idealize.SL.BI.BIBase Idealize.SL.BI.Laws Idealize.SL.ProofMode Idealize.SL.Sem

variable {F : FTy → Type} [FloatOps F]

/-- A stretch of host operations, in order. -/
abbrev hostOps0 : List (HloOp τ sig (Elt F)) :=
  [ unary main_arg1 main_v0 ((extractStridedSlice S2x4224x1024 ![0, 0, 7168] · slices_S2x4224x10880_S2x4224x1024_0_0_7168) : (⟨S2x4224x10880, .f32⟩ : BufTy).Contents (Elt F) → (⟨S2x4224x1024, .f32⟩ : BufTy).Contents (Elt F)),
    unary main_arg2 main_v1 ((extractStridedSlice S2x4224x1024 ![0, 0, 1536] · slices_S2x4224x2560_S2x4224x1024_0_0_1536) : (⟨S2x4224x2560, .f32⟩ : BufTy).Contents (Elt F) → (⟨S2x4224x1024, .f32⟩ : BufTy).Contents (Elt F)),
    unary main_arg5 main_v2 (broadcastInDim S1x1x1024 ![2] bcast_S1024_S1x1x1024_2 : (⟨S1024, .f32⟩ : BufTy).Contents (Elt F) → (⟨S1x1x1024, .f32⟩ : BufTy).Contents (Elt F)),
    unary main_v2 main_v3 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_arg3 main_v3 main_v4 (addf : (⟨S2x4224x1024, .f32⟩ : BufTy).Contents (Elt F) → (⟨S2x4224x1024, .f32⟩ : BufTy).Contents (Elt F) → (⟨S2x4224x1024, .f32⟩ : BufTy).Contents (Elt F)),
    unary main_v4 main_v5 (Host.negf : (⟨S2x4224x1024, .f32⟩ : BufTy).Contents (Elt F) → (⟨S2x4224x1024, .f32⟩ : BufTy).Contents (Elt F)),
    unary main_v5 main_v6 (Host.exp : (⟨S2x4224x1024, .f32⟩ : BufTy).Contents (Elt F) → (⟨S2x4224x1024, .f32⟩ : BufTy).Contents (Elt F)),
    nullary main_cst (constant S_ .f32 0x3F800000#32),
    unary main_cst main_v7 (broadcastInDim S2x4224x1024 ![] bcast_S_S2x4224x1024 : (⟨S_, .f32⟩ : BufTy).Contents (Elt F) → (⟨S2x4224x1024, .f32⟩ : BufTy).Contents (Elt F)),
    binary main_v7 main_v6 main_v8 (addf : (⟨S2x4224x1024, .f32⟩ : BufTy).Contents (Elt F) → (⟨S2x4224x1024, .f32⟩ : BufTy).Contents (Elt F) → (⟨S2x4224x1024, .f32⟩ : BufTy).Contents (Elt F)),
    nullary main_cst_0 (constant S_ .f32 0x3F800000#32),
    unary main_cst_0 main_v9 (broadcastInDim S2x4224x1024 ![] bcast_S_S2x4224x1024 : (⟨S_, .f32⟩ : BufTy).Contents (Elt F) → (⟨S2x4224x1024, .f32⟩ : BufTy).Contents (Elt F)),
    binary main_v9 main_v8 main_v10 (Host.divf : (⟨S2x4224x1024, .f32⟩ : BufTy).Contents (Elt F) → (⟨S2x4224x1024, .f32⟩ : BufTy).Contents (Elt F) → (⟨S2x4224x1024, .f32⟩ : BufTy).Contents (Elt F)),
    unary main_arg6 main_v11 (broadcastInDim S1x1x1024 ![2] bcast_S1024_S1x1x1024_2 : (⟨S1024, .f32⟩ : BufTy).Contents (Elt F) → (⟨S1x1x1024, .f32⟩ : BufTy).Contents (Elt F)),
    unary main_v11 main_v12 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_arg4 main_v12 main_v13 (addf : (⟨S2x4224x1024, .f32⟩ : BufTy).Contents (Elt F) → (⟨S2x4224x1024, .f32⟩ : BufTy).Contents (Elt F) → (⟨S2x4224x1024, .f32⟩ : BufTy).Contents (Elt F)),
    unary main_v13 main_v14 (Host.negf : (⟨S2x4224x1024, .f32⟩ : BufTy).Contents (Elt F) → (⟨S2x4224x1024, .f32⟩ : BufTy).Contents (Elt F)),
    unary main_v14 main_v15 (Host.exp : (⟨S2x4224x1024, .f32⟩ : BufTy).Contents (Elt F) → (⟨S2x4224x1024, .f32⟩ : BufTy).Contents (Elt F)),
    nullary main_cst_1 (constant S_ .f32 0x3F800000#32),
    unary main_cst_1 main_v16 (broadcastInDim S2x4224x1024 ![] bcast_S_S2x4224x1024 : (⟨S_, .f32⟩ : BufTy).Contents (Elt F) → (⟨S2x4224x1024, .f32⟩ : BufTy).Contents (Elt F)),
    binary main_v16 main_v15 main_v17 (addf : (⟨S2x4224x1024, .f32⟩ : BufTy).Contents (Elt F) → (⟨S2x4224x1024, .f32⟩ : BufTy).Contents (Elt F) → (⟨S2x4224x1024, .f32⟩ : BufTy).Contents (Elt F)),
    nullary main_cst_2 (constant S_ .f32 0x3F800000#32),
    unary main_cst_2 main_v18 (broadcastInDim S2x4224x1024 ![] bcast_S_S2x4224x1024 : (⟨S_, .f32⟩ : BufTy).Contents (Elt F) → (⟨S2x4224x1024, .f32⟩ : BufTy).Contents (Elt F)),
    binary main_v18 main_v17 main_v19 (Host.divf : (⟨S2x4224x1024, .f32⟩ : BufTy).Contents (Elt F) → (⟨S2x4224x1024, .f32⟩ : BufTy).Contents (Elt F) → (⟨S2x4224x1024, .f32⟩ : BufTy).Contents (Elt F)),
    nullary main_cst_3 (constant S_ .f32 0x3F800000#32),
    unary main_cst_3 main_v20 (broadcastInDim S2x4224x1024 ![] bcast_S_S2x4224x1024 : (⟨S_, .f32⟩ : BufTy).Contents (Elt F) → (⟨S2x4224x1024, .f32⟩ : BufTy).Contents (Elt F)),
    binary main_v20 main_v19 main_v21 (subf : (⟨S2x4224x1024, .f32⟩ : BufTy).Contents (Elt F) → (⟨S2x4224x1024, .f32⟩ : BufTy).Contents (Elt F) → (⟨S2x4224x1024, .f32⟩ : BufTy).Contents (Elt F)),
    binary main_v19 main_v21 main_v22 (mulf : (⟨S2x4224x1024, .f32⟩ : BufTy).Contents (Elt F) → (⟨S2x4224x1024, .f32⟩ : BufTy).Contents (Elt F) → (⟨S2x4224x1024, .f32⟩ : BufTy).Contents (Elt F)),
    nullary main_cst_4 (constant S_ .f32 0x41000000#32),
    unary main_cst_4 main_v23 (broadcastInDim S2x4224x1024 ![] bcast_S_S2x4224x1024 : (⟨S_, .f32⟩ : BufTy).Contents (Elt F) → (⟨S2x4224x1024, .f32⟩ : BufTy).Contents (Elt F)),
    binary main_v23 main_v10 main_v24 (mulf : (⟨S2x4224x1024, .f32⟩ : BufTy).Contents (Elt F) → (⟨S2x4224x1024, .f32⟩ : BufTy).Contents (Elt F) → (⟨S2x4224x1024, .f32⟩ : BufTy).Contents (Elt F)) ]
/-- Every operation of `hostOps0` touches references of the core only. -/
theorem hostOps0_sub : (hostOps0 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
/-- A stretch of host operations, in order. -/
abbrev hostOps0_1 : List (HloOp τ sig (Elt F)) :=
  [ TRef.unary (.of main_arg7 : TRef sig ⟨S1024, .f32⟩) (.of main_call0_v0 : TRef sig ⟨S1024, .f32⟩) Host.negf,
    TRef.nullary (.of main_call0_call0_cst : TRef sig ⟨S_, .f32⟩) (constant S_ .f32 0x00000000#32),
    TRef.unary (.of main_call0_call0_cst : TRef sig ⟨S_, .f32⟩) (.of main_call0_call0_v0 : TRef sig ⟨S1024, .f32⟩) (broadcastInDim S1024 ![] bcast_S_S1024),
    TRef.binary (.of main_call0_v0 : TRef sig ⟨S1024, .f32⟩) (.of main_call0_call0_v0 : TRef sig ⟨S1024, .f32⟩) (.of main_call0_call0_v1 : TRef sig ⟨S1024, .f32⟩) maximumf,
    TRef.unary (.of main_call0_call0_cst : TRef sig ⟨S_, .f32⟩) (.of main_call0_call0_v2 : TRef sig ⟨S1024, .f32⟩) (broadcastInDim S1024 ![] bcast_S_S1024),
    TRef.binary (.of main_call0_v0 : TRef sig ⟨S1024, .f32⟩) (.of main_call0_call0_v2 : TRef sig ⟨S1024, .f32⟩) (.of main_call0_call0_v3 : TRef sig ⟨S1024, .f32⟩) subf,
    TRef.binary (.of main_call0_call0_v3 : TRef sig ⟨S1024, .f32⟩) (.of main_call0_call0_v3 : TRef sig ⟨S1024, .f32⟩) (.of main_call0_call0_v4 : TRef sig ⟨S1024, .i1⟩) (cmpf .une),
    TRef.unary (.of main_call0_call0_cst : TRef sig ⟨S_, .f32⟩) (.of main_call0_call0_v5 : TRef sig ⟨S1024, .f32⟩) (broadcastInDim S1024 ![] bcast_S_S1024),
    TRef.binary (.of main_call0_v0 : TRef sig ⟨S1024, .f32⟩) (.of main_call0_call0_v5 : TRef sig ⟨S1024, .f32⟩) (.of main_call0_call0_v6 : TRef sig ⟨S1024, .f32⟩) addf,
    TRef.unary (.of main_call0_call0_v3 : TRef sig ⟨S1024, .f32⟩) (.of main_call0_call0_v7 : TRef sig ⟨S1024, .f32⟩) Host.absf,
    TRef.unary (.of main_call0_call0_v7 : TRef sig ⟨S1024, .f32⟩) (.of main_call0_call0_v8 : TRef sig ⟨S1024, .f32⟩) Host.negf,
    TRef.unary (.of main_call0_call0_v8 : TRef sig ⟨S1024, .f32⟩) (.of main_call0_call0_v9 : TRef sig ⟨S1024, .f32⟩) Host.exp,
    TRef.unary (.of main_call0_call0_v9 : TRef sig ⟨S1024, .f32⟩) (.of main_call0_call0_v10 : TRef sig ⟨S1024, .f32⟩) Host.log1p,
    TRef.binary (.of main_call0_call0_v1 : TRef sig ⟨S1024, .f32⟩) (.of main_call0_call0_v10 : TRef sig ⟨S1024, .f32⟩) (.of main_call0_call0_v11 : TRef sig ⟨S1024, .f32⟩) addf,
    TRef.ternary (.of main_call0_call0_v4 : TRef sig ⟨S1024, .i1⟩) (.of main_call0_call0_v6 : TRef sig ⟨S1024, .f32⟩) (.of main_call0_call0_v11 : TRef sig ⟨S1024, .f32⟩) (.of main_call0_v1 : TRef sig ⟨S1024, .f32⟩) select,
    TRef.unary main_call0_call0.v12 (.of main_v25 : TRef sig ⟨S1024, .f32⟩) Host.negf ]
/-- Every operation of `hostOps0_1` touches references of the core only. -/
theorem hostOps0_1_sub : (hostOps0_1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
/-- A stretch of host operations, in order. -/
abbrev hostOps0_2 : List (HloOp τ sig (Elt F)) :=
  [ unary main_v25 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_v24 main_v27 main_v28 (mulf : (⟨S2x4224x1024, .f32⟩ : BufTy).Contents (Elt F) → (⟨S2x4224x1024, .f32⟩ : BufTy).Contents (Elt F) → (⟨S2x4224x1024, .f32⟩ : BufTy).Contents (Elt F)),
    unary main_v28 main_v29 (Host.exp : (⟨S2x4224x1024, .f32⟩ : BufTy).Contents (Elt F) → (⟨S2x4224x1024, .f32⟩ : BufTy).Contents (Elt F)),
    nullary main_cst_5 (constant S_ .f32 0x40000000#32),
    unary main_cst_5 main_v30 (broadcastInDim S2x4224x1024 ![] bcast_S_S2x4224x1024 : (⟨S_, .f32⟩ : BufTy).Contents (Elt F) → (⟨S2x4224x1024, .f32⟩ : BufTy).Contents (Elt F)),
    binary main_v30 main_v28 main_v31 (mulf : (⟨S2x4224x1024, .f32⟩ : BufTy).Contents (Elt F) → (⟨S2x4224x1024, .f32⟩ : BufTy).Contents (Elt F) → (⟨S2x4224x1024, .f32⟩ : BufTy).Contents (Elt F)),
    unary main_v31 main_v32 (Host.expm1 : (⟨S2x4224x1024, .f32⟩ : BufTy).Contents (Elt F) → (⟨S2x4224x1024, .f32⟩ : BufTy).Contents (Elt F)),
    unary main_v32 main_v33 (Host.negf : (⟨S2x4224x1024, .f32⟩ : BufTy).Contents (Elt F) → (⟨S2x4224x1024, .f32⟩ : BufTy).Contents (Elt F)),
    unary main_v33 main_v34 (Host.sqrt : (⟨S2x4224x1024, .f32⟩ : BufTy).Contents (Elt F) → (⟨S2x4224x1024, .f32⟩ : BufTy).Contents (Elt F)),
    nullary main_v35 (iotaInDim S4224 32 0),
    unary main_v35 main_v36 (broadcastInDim S1x4224x1 ![1] bcast_S4224_S1x4224x1_1 : (⟨S4224, .i32⟩ : BufTy).Contents (Elt F) → (⟨S1x4224x1, .i32⟩ : BufTy).Contents (Elt F)),
    nullary main_c (constantI S_ 32 0#32),
    unary main_c main_v37 (broadcastInDim S1x4224x1 ![] bcast_S_S1x4224x1 : (⟨S_, .i32⟩ : BufTy).Contents (Elt F) → (⟨S1x4224x1, .i32⟩ : BufTy).Contents (Elt F)),
    binary main_v36 main_v37 main_v38 (cmpi .eq : (⟨S1x4224x1, .i32⟩ : BufTy).Contents (Elt F) → (⟨S1x4224x1, .i32⟩ : BufTy).Contents (Elt F) → (⟨S1x4224x1, .i1⟩ : BufTy).Contents (Elt F)),
    nullary main_cst_6 (constant S_ .f32 0x3F800000#32) ]
/-- Every operation of `hostOps0_2` touches references of the core only. -/
theorem hostOps0_2_sub : (hostOps0_2 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., nullary_bufs_sub .., unary_bufs_sub .., binary_bufs_sub .., nullary_bufs_sub ..⟩
/-- A stretch of host operations, in order. -/
abbrev hostOps0_3 : List (HloOp τ sig (Elt F)) :=
  [ TRef.unary (.of main_cst_6 : TRef sig ⟨S_, .f32⟩) (.of main_call1_v0 : TRef sig ⟨S_, .f32⟩) id,
    TRef.unary (.of main_v38 : TRef sig ⟨S1x4224x1, .i1⟩) (.of main_call1_v1 : TRef sig ⟨S2x4224x1024, .i1⟩) (broadcastInDim S2x4224x1024 ![0, 1, 2] bcast_S1x4224x1_S2x4224x1024_0_1_2),
    TRef.unary (.of main_call1_v0 : TRef sig ⟨S_, .f32⟩) (.of main_call1_v2 : TRef sig ⟨S2x4224x1024, .f32⟩) (broadcastInDim S2x4224x1024 ![] bcast_S_S2x4224x1024),
    TRef.ternary (.of main_call1_v1 : TRef sig ⟨S2x4224x1024, .i1⟩) (.of main_call1_v2 : TRef sig ⟨S2x4224x1024, .f32⟩) (.of main_v34 : TRef sig ⟨S2x4224x1024, .f32⟩) (.of main_v39 : TRef sig ⟨S2x4224x1024, .f32⟩) select ]
/-- Every operation of `hostOps0_3` touches references of the core only. -/
theorem hostOps0_3_sub : (hostOps0_3 : List (HloOp τ sig (Elt F))).Forall fun op => op.bufs ⊆ tcRefs τ sig :=
  ⟨unary_bufs_sub .., unary_bufs_sub .., unary_bufs_sub .., ternary_bufs_sub ..⟩
/-- A stretch of host operations, in order. -/
abbrev hostOps0_4 : List (HloOp τ sig (Elt F)) :=
  [ binary main_v19 main_v1 main_v40 (mulf : (⟨S2x4224x1024, .f32⟩ : BufTy).Contents (Elt F) → (⟨S2x4224x1024, .f32⟩ : BufTy).Contents (Elt F) → (⟨S2x4224x1024, .f32⟩ : BufTy).Contents (Elt F)),
    binary main_v39 main_v40 main_v41 (mulf : (⟨S2x4224x1024, .f32⟩ : BufTy).Contents (Elt F) → (⟨S2x4224x1024, .f32⟩ : BufTy).Contents (Elt F) → (⟨S2x4224x1024, .f32⟩ : BufTy).Contents (Elt F)),
    unary main_v41 main_v42 ((extractStridedSlice S2x1x1024 ![0, 0, 0] · slices_S2x4224x1024_S2x1x1024_0_0_0) : (⟨S2x4224x1024, .f32⟩ : BufTy).Contents (Elt F) → (⟨S2x1x1024, .f32⟩ : BufTy).Contents (Elt F)),
    StableHlo.reshape main_v42 main_v43 (rfl : (.f32 : EltTy) = .f32) shapeCasts_S2x1x1024_S2x1024,
    nullary main_cst_7 (constant S_ .f32 0x00000000#32),
    unary main_cst_7 main_v44 (broadcastInDim S2x1024 ![] bcast_S_S2x1024 : (⟨S_, .f32⟩ : BufTy).Contents (Elt F) → (⟨S2x1024, .f32⟩ : BufTy).Contents (Elt F)),
    unary main_v29 main_v45 ((transpose S4224x2x1024 [1, 0, 2] · transposes_S2x4224x1024_S4224x2x1024_1_0_2) : (⟨S2x4224x1024, .f32⟩ : BufTy).Contents (Elt F) → (⟨S4224x2x1024, .f32⟩ : BufTy).Contents (Elt F)),
    unary main_v41 main_v46 ((transpose S4224x2x1024 [1, 0, 2] · transposes_S2x4224x1024_S4224x2x1024_1_0_2) : (⟨S2x4224x1024, .f32⟩ : BufTy).Contents (Elt F) → (⟨S4224x2x1024, .f32⟩ : BufTy).Contents (Elt F)),
    nullary main_cst_8 (constant S_ .f32 0x00000000#32),
    unary main_cst_8 main_v47 (broadcastInDim S4224x2x1024 ![] bcast_S_S4224x2x1024 : (⟨S_, .f32⟩ : BufTy).Contents (Elt F) → (⟨S4224x2x1024, .f32⟩ : BufTy).Contents (Elt F)),
    nullary main_c_9 (constantI S_ 32 0#32),
    unary main_v45 main_v48_0 id,
    unary main_v46 main_v48_1 id,
    unary main_c_9 main_v48_2 id,
    unary main_v44 main_v48_3 id,
    unary main_v47 main_v48_4 id ]
/-- Every operation of `hostOps0_4` touches references of the core only. -/
theorem hostOps0_4_sub : (hostOps0_4 : List (HloOp τ sig (Elt F))).Forall fun op => op.bufs ⊆ tcRefs τ sig :=
  ⟨binary_bufs_sub .., binary_bufs_sub .., unary_bufs_sub .., StableHlo.reshape_bufs_sub .., nullary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub ..⟩
/-- A stretch of host operations, in order. -/
abbrev hostOps0_5 : List (HloOp τ sig (Elt F)) :=
  ( unary main_v48_4 main_v49 ((transpose S2x4224x1024 [1, 0, 2] · transposes_S4224x2x1024_S2x4224x1024_1_0_2) : (⟨S4224x2x1024, .f32⟩ : BufTy).Contents (Elt F) → (⟨S2x4224x1024, .f32⟩ : BufTy).Contents (Elt F))
  :: binary main_v0 main_v0 main_v50 (mulf : (⟨S2x4224x1024, .f32⟩ : BufTy).Contents (Elt F) → (⟨S2x4224x1024, .f32⟩ : BufTy).Contents (Elt F) → (⟨S2x4224x1024, .f32⟩ : BufTy).Contents (Elt F))
  :: binary main_v50 main_v0 main_v51 (mulf : (⟨S2x4224x1024, .f32⟩ : BufTy).Contents (Elt F) → (⟨S2x4224x1024, .f32⟩ : BufTy).Contents (Elt F) → (⟨S2x4224x1024, .f32⟩ : BufTy).Contents (Elt F))
  :: nullary main_cst_10 (constant S_ .f32 0x3D372713#32)
  :: unary main_cst_10 main_v52 (broadcastInDim S2x4224x1024 ![] bcast_S_S2x4224x1024 : (⟨S_, .f32⟩ : BufTy).Contents (Elt F) → (⟨S2x4224x1024, .f32⟩ : BufTy).Contents (Elt F))
  :: binary main_v52 main_v51 main_v53 (mulf : (⟨S2x4224x1024, .f32⟩ : BufTy).Contents (Elt F) → (⟨S2x4224x1024, .f32⟩ : BufTy).Contents (Elt F) → (⟨S2x4224x1024, .f32⟩ : BufTy).Contents (Elt F))
  :: binary main_v0 main_v53 main_v54 (addf : (⟨S2x4224x1024, .f32⟩ : BufTy).Contents (Elt F) → (⟨S2x4224x1024, .f32⟩ : BufTy).Contents (Elt F) → (⟨S2x4224x1024, .f32⟩ : BufTy).Contents (Elt F))
  :: nullary main_cst_11 (constant S_ .f32 0x3F4C422A#32)
  :: unary main_cst_11 main_v55 (broadcastInDim S2x4224x1024 ![] bcast_S_S2x4224x1024 : (⟨S_, .f32⟩ : BufTy).Contents (Elt F) → (⟨S2x4224x1024, .f32⟩ : BufTy).Contents (Elt F))
  :: binary main_v55 main_v54 main_v56 (mulf : (⟨S2x4224x1024, .f32⟩ : BufTy).Contents (Elt F) → (⟨S2x4224x1024, .f32⟩ : BufTy).Contents (Elt F) → (⟨S2x4224x1024, .f32⟩ : BufTy).Contents (Elt F))
  :: unary main_v56 main_v57 (Host.tanh : (⟨S2x4224x1024, .f32⟩ : BufTy).Contents (Elt F) → (⟨S2x4224x1024, .f32⟩ : BufTy).Contents (Elt F))
  :: nullary main_cst_12 (constant S_ .f32 0x3F800000#32)
  :: unary main_cst_12 main_v58 (broadcastInDim S2x4224x1024 ![] bcast_S_S2x4224x1024 : (⟨S_, .f32⟩ : BufTy).Contents (Elt F) → (⟨S2x4224x1024, .f32⟩ : BufTy).Contents (Elt F))
  :: binary main_v58 main_v57 main_v59 (addf : (⟨S2x4224x1024, .f32⟩ : BufTy).Contents (Elt F) → (⟨S2x4224x1024, .f32⟩ : BufTy).Contents (Elt F) → (⟨S2x4224x1024, .f32⟩ : BufTy).Contents (Elt F))
  :: nullary main_cst_13 (constant S_ .f32 0x3F000000#32)
  :: unary main_cst_13 main_v60 (broadcastInDim S2x4224x1024 ![] bcast_S_S2x4224x1024 : (⟨S_, .f32⟩ : BufTy).Contents (Elt F) → (⟨S2x4224x1024, .f32⟩ : BufTy).Contents (Elt F))
  :: binary main_v60 main_v59 main_v61 (mulf : (⟨S2x4224x1024, .f32⟩ : BufTy).Contents (Elt F) → (⟨S2x4224x1024, .f32⟩ : BufTy).Contents (Elt F) → (⟨S2x4224x1024, .f32⟩ : BufTy).Contents (Elt F))
  :: binary main_v0 main_v61 main_v62 (mulf : (⟨S2x4224x1024, .f32⟩ : BufTy).Contents (Elt F) → (⟨S2x4224x1024, .f32⟩ : BufTy).Contents (Elt F) → (⟨S2x4224x1024, .f32⟩ : BufTy).Contents (Elt F))
  :: binary main_v49 main_v62 main_v63 (mulf : (⟨S2x4224x1024, .f32⟩ : BufTy).Contents (Elt F) → (⟨S2x4224x1024, .f32⟩ : BufTy).Contents (Elt F) → (⟨S2x4224x1024, .f32⟩ : BufTy).Contents (Elt F))
  :: nullary main_cst_14 (constant S_ .f32 0x00000000#32)
  :: unary main_cst_14 main_v64 (broadcastInDim S2x1024 ![] bcast_S_S2x1024 : (⟨S_, .f32⟩ : BufTy).Contents (Elt F) → (⟨S2x1024, .f32⟩ : BufTy).Contents (Elt F))
  :: binary main_arg0 main_v62 main_v65 (mulf : (⟨S2x4224x1024, .f32⟩ : BufTy).Contents (Elt F) → (⟨S2x4224x1024, .f32⟩ : BufTy).Contents (Elt F) → (⟨S2x4224x1024, .f32⟩ : BufTy).Contents (Elt F))
  :: unary main_v65 main_v66 ((transpose S4224x2x1024 [1, 0, 2] · transposes_S2x4224x1024_S4224x2x1024_1_0_2) : (⟨S2x4224x1024, .f32⟩ : BufTy).Contents (Elt F) → (⟨S4224x2x1024, .f32⟩ : BufTy).Contents (Elt F))
  :: nullary main_cst_15 (constant S_ .f32 0x00000000#32)
  :: unary main_cst_15 main_v67 (broadcastInDim S2x1024 ![] bcast_S_S2x1024 : (⟨S_, .f32⟩ : BufTy).Contents (Elt F) → (⟨S2x1024, .f32⟩ : BufTy).Contents (Elt F))
  :: nullary main_cst_16 (constant S_ .f32 0x00000000#32)
  :: unary main_cst_16 main_v68 (broadcastInDim S4224x2x1024 ![] bcast_S_S4224x2x1024 : (⟨S_, .f32⟩ : BufTy).Contents (Elt F) → (⟨S4224x2x1024, .f32⟩ : BufTy).Contents (Elt F))
  :: nullary main_c_17 (constantI S_ 32 0#32)
  :: unary main_v66 main_v69_0 id
  :: unary main_v45 main_v69_1 id
  :: unary main_c_17 main_v69_2 id
  :: unary main_v67 main_v69_3 id
  :: unary main_v68 main_v69_4 id
  :: [] )
/-- Every operation of `hostOps0_5` touches references of the core only. -/
theorem hostOps0_5_sub : (hostOps0_5 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
/-- A stretch of host operations, in order. -/
abbrev hostOps0_6 : List (HloOp τ sig (Elt F)) :=
  [ unary main_v69_4 main_v70 ((transpose S2x4224x1024 [1, 0, 2] · transposes_S4224x2x1024_S2x4224x1024_1_0_2) : (⟨S4224x2x1024, .f32⟩ : BufTy).Contents (Elt F) → (⟨S2x4224x1024, .f32⟩ : BufTy).Contents (Elt F)),
    binary main_v39 main_v70 main_v71 (mulf : (⟨S2x4224x1024, .f32⟩ : BufTy).Contents (Elt F) → (⟨S2x4224x1024, .f32⟩ : BufTy).Contents (Elt F) → (⟨S2x4224x1024, .f32⟩ : BufTy).Contents (Elt F)),
    binary main_v19 main_v71 main_v72 (mulf : (⟨S2x4224x1024, .f32⟩ : BufTy).Contents (Elt F) → (⟨S2x4224x1024, .f32⟩ : BufTy).Contents (Elt F) → (⟨S2x4224x1024, .f32⟩ : BufTy).Contents (Elt F)),
    binary main_v71 main_v1 main_v73 (mulf : (⟨S2x4224x1024, .f32⟩ : BufTy).Contents (Elt F) → (⟨S2x4224x1024, .f32⟩ : BufTy).Contents (Elt F) → (⟨S2x4224x1024, .f32⟩ : BufTy).Contents (Elt F)),
    binary main_v73 main_v22 main_v74 (mulf : (⟨S2x4224x1024, .f32⟩ : BufTy).Contents (Elt F) → (⟨S2x4224x1024, .f32⟩ : BufTy).Contents (Elt F) → (⟨S2x4224x1024, .f32⟩ : BufTy).Contents (Elt F)),
    unary main_v74 main_v75 ((truncf .bf16 · bitsLt_bf16_f32) : (⟨S2x4224x1024, .f32⟩ : BufTy).Contents (Elt F) → (⟨S2x4224x1024, .bf16⟩ : BufTy).Contents (Elt F)) ]
/-- Every operation of `hostOps0_6` touches references of the core only. -/
theorem hostOps0_6_sub : (hostOps0_6 : List (HloOp τ sig (Elt F))).Forall fun op => op.bufs ⊆ tcRefs τ sig :=
  ⟨unary_bufs_sub .., binary_bufs_sub .., binary_bufs_sub .., binary_bufs_sub .., binary_bufs_sub .., unary_bufs_sub ..⟩
/-- A stretch of host operations, in order. -/
abbrev main_part0_ops0 : List (HloOp τ sig (Elt F)) :=
  [ unary main_arg1 main_v0 ((extractStridedSlice S2x4224x1024 ![0, 0, 7168] · slices_S2x4224x10880_S2x4224x1024_0_0_7168) : (⟨S2x4224x10880, .f32⟩ : BufTy).Contents (Elt F) → (⟨S2x4224x1024, .f32⟩ : BufTy).Contents (Elt F)),
    unary main_arg2 main_v1 ((extractStridedSlice S2x4224x1024 ![0, 0, 1536] · slices_S2x4224x2560_S2x4224x1024_0_0_1536) : (⟨S2x4224x2560, .f32⟩ : BufTy).Contents (Elt F) → (⟨S2x4224x1024, .f32⟩ : BufTy).Contents (Elt F)),
    unary main_arg5 main_v2 (broadcastInDim S1x1x1024 ![2] bcast_S1024_S1x1x1024_2 : (⟨S1024, .f32⟩ : BufTy).Contents (Elt F) → (⟨S1x1x1024, .f32⟩ : BufTy).Contents (Elt F)),
    unary main_v2 main_v3 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_arg3 main_v3 main_v4 (addf : (⟨S2x4224x1024, .f32⟩ : BufTy).Contents (Elt F) → (⟨S2x4224x1024, .f32⟩ : BufTy).Contents (Elt F) → (⟨S2x4224x1024, .f32⟩ : BufTy).Contents (Elt F)),
    unary main_v4 main_v5 (Host.negf : (⟨S2x4224x1024, .f32⟩ : BufTy).Contents (Elt F) → (⟨S2x4224x1024, .f32⟩ : BufTy).Contents (Elt F)),
    unary main_v5 main_v6 (Host.exp : (⟨S2x4224x1024, .f32⟩ : BufTy).Contents (Elt F) → (⟨S2x4224x1024, .f32⟩ : BufTy).Contents (Elt F)),
    nullary main_cst (constant S_ .f32 0x3F800000#32),
    unary main_cst main_v7 (broadcastInDim S2x4224x1024 ![] bcast_S_S2x4224x1024 : (⟨S_, .f32⟩ : BufTy).Contents (Elt F) → (⟨S2x4224x1024, .f32⟩ : BufTy).Contents (Elt F)),
    binary main_v7 main_v6 main_v8 (addf : (⟨S2x4224x1024, .f32⟩ : BufTy).Contents (Elt F) → (⟨S2x4224x1024, .f32⟩ : BufTy).Contents (Elt F) → (⟨S2x4224x1024, .f32⟩ : BufTy).Contents (Elt F)),
    nullary main_cst_0 (constant S_ .f32 0x3F800000#32),
    unary main_cst_0 main_v9 (broadcastInDim S2x4224x1024 ![] bcast_S_S2x4224x1024 : (⟨S_, .f32⟩ : BufTy).Contents (Elt F) → (⟨S2x4224x1024, .f32⟩ : BufTy).Contents (Elt F)),
    binary main_v9 main_v8 main_v10 (Host.divf : (⟨S2x4224x1024, .f32⟩ : BufTy).Contents (Elt F) → (⟨S2x4224x1024, .f32⟩ : BufTy).Contents (Elt F) → (⟨S2x4224x1024, .f32⟩ : BufTy).Contents (Elt F)),
    unary main_arg6 main_v11 (broadcastInDim S1x1x1024 ![2] bcast_S1024_S1x1x1024_2 : (⟨S1024, .f32⟩ : BufTy).Contents (Elt F) → (⟨S1x1x1024, .f32⟩ : BufTy).Contents (Elt F)),
    unary main_v11 main_v12 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_arg4 main_v12 main_v13 (addf : (⟨S2x4224x1024, .f32⟩ : BufTy).Contents (Elt F) → (⟨S2x4224x1024, .f32⟩ : BufTy).Contents (Elt F) → (⟨S2x4224x1024, .f32⟩ : BufTy).Contents (Elt F)),
    unary main_v13 main_v14 (Host.negf : (⟨S2x4224x1024, .f32⟩ : BufTy).Contents (Elt F) → (⟨S2x4224x1024, .f32⟩ : BufTy).Contents (Elt F)),
    unary main_v14 main_v15 (Host.exp : (⟨S2x4224x1024, .f32⟩ : BufTy).Contents (Elt F) → (⟨S2x4224x1024, .f32⟩ : BufTy).Contents (Elt F)),
    nullary main_cst_1 (constant S_ .f32 0x3F800000#32),
    unary main_cst_1 main_v16 (broadcastInDim S2x4224x1024 ![] bcast_S_S2x4224x1024 : (⟨S_, .f32⟩ : BufTy).Contents (Elt F) → (⟨S2x4224x1024, .f32⟩ : BufTy).Contents (Elt F)),
    binary main_v16 main_v15 main_v17 (addf : (⟨S2x4224x1024, .f32⟩ : BufTy).Contents (Elt F) → (⟨S2x4224x1024, .f32⟩ : BufTy).Contents (Elt F) → (⟨S2x4224x1024, .f32⟩ : BufTy).Contents (Elt F)),
    nullary main_cst_2 (constant S_ .f32 0x3F800000#32),
    unary main_cst_2 main_v18 (broadcastInDim S2x4224x1024 ![] bcast_S_S2x4224x1024 : (⟨S_, .f32⟩ : BufTy).Contents (Elt F) → (⟨S2x4224x1024, .f32⟩ : BufTy).Contents (Elt F)),
    binary main_v18 main_v17 main_v19 (Host.divf : (⟨S2x4224x1024, .f32⟩ : BufTy).Contents (Elt F) → (⟨S2x4224x1024, .f32⟩ : BufTy).Contents (Elt F) → (⟨S2x4224x1024, .f32⟩ : BufTy).Contents (Elt F)),
    nullary main_cst_3 (constant S_ .f32 0x3F800000#32),
    unary main_cst_3 main_v20 (broadcastInDim S2x4224x1024 ![] bcast_S_S2x4224x1024 : (⟨S_, .f32⟩ : BufTy).Contents (Elt F) → (⟨S2x4224x1024, .f32⟩ : BufTy).Contents (Elt F)),
    binary main_v20 main_v19 main_v21 (subf : (⟨S2x4224x1024, .f32⟩ : BufTy).Contents (Elt F) → (⟨S2x4224x1024, .f32⟩ : BufTy).Contents (Elt F) → (⟨S2x4224x1024, .f32⟩ : BufTy).Contents (Elt F)),
    binary main_v19 main_v21 main_v22 (mulf : (⟨S2x4224x1024, .f32⟩ : BufTy).Contents (Elt F) → (⟨S2x4224x1024, .f32⟩ : BufTy).Contents (Elt F) → (⟨S2x4224x1024, .f32⟩ : BufTy).Contents (Elt F)),
    nullary main_cst_4 (constant S_ .f32 0x41000000#32),
    unary main_cst_4 main_v23 (broadcastInDim S2x4224x1024 ![] bcast_S_S2x4224x1024 : (⟨S_, .f32⟩ : BufTy).Contents (Elt F) → (⟨S2x4224x1024, .f32⟩ : BufTy).Contents (Elt F)),
    binary main_v23 main_v10 main_v24 (mulf : (⟨S2x4224x1024, .f32⟩ : BufTy).Contents (Elt F) → (⟨S2x4224x1024, .f32⟩ : BufTy).Contents (Elt F) → (⟨S2x4224x1024, .f32⟩ : BufTy).Contents (Elt F)) ]
/-- Every operation of `main_part0_ops0` touches references of the core only. -/
theorem main_part0_ops0_sub : (main_part0_ops0 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
/-- A stretch of host operations, in order. -/
abbrev main_part0_ops1 : List (HloOp τ sig (Elt F)) :=
  [ TRef.unary (.of main_arg7 : TRef sig ⟨S1024, .f32⟩) (.of main_call0_v0 : TRef sig ⟨S1024, .f32⟩) Host.negf,
    TRef.nullary (.of main_call0_call0_cst : TRef sig ⟨S_, .f32⟩) (constant S_ .f32 0x00000000#32),
    TRef.unary (.of main_call0_call0_cst : TRef sig ⟨S_, .f32⟩) (.of main_call0_call0_v0 : TRef sig ⟨S1024, .f32⟩) (broadcastInDim S1024 ![] bcast_S_S1024),
    TRef.binary (.of main_call0_v0 : TRef sig ⟨S1024, .f32⟩) (.of main_call0_call0_v0 : TRef sig ⟨S1024, .f32⟩) (.of main_call0_call0_v1 : TRef sig ⟨S1024, .f32⟩) maximumf,
    TRef.unary (.of main_call0_call0_cst : TRef sig ⟨S_, .f32⟩) (.of main_call0_call0_v2 : TRef sig ⟨S1024, .f32⟩) (broadcastInDim S1024 ![] bcast_S_S1024),
    TRef.binary (.of main_call0_v0 : TRef sig ⟨S1024, .f32⟩) (.of main_call0_call0_v2 : TRef sig ⟨S1024, .f32⟩) (.of main_call0_call0_v3 : TRef sig ⟨S1024, .f32⟩) subf,
    TRef.binary (.of main_call0_call0_v3 : TRef sig ⟨S1024, .f32⟩) (.of main_call0_call0_v3 : TRef sig ⟨S1024, .f32⟩) (.of main_call0_call0_v4 : TRef sig ⟨S1024, .i1⟩) (cmpf .une),
    TRef.unary (.of main_call0_call0_cst : TRef sig ⟨S_, .f32⟩) (.of main_call0_call0_v5 : TRef sig ⟨S1024, .f32⟩) (broadcastInDim S1024 ![] bcast_S_S1024),
    TRef.binary (.of main_call0_v0 : TRef sig ⟨S1024, .f32⟩) (.of main_call0_call0_v5 : TRef sig ⟨S1024, .f32⟩) (.of main_call0_call0_v6 : TRef sig ⟨S1024, .f32⟩) addf,
    TRef.unary (.of main_call0_call0_v3 : TRef sig ⟨S1024, .f32⟩) (.of main_call0_call0_v7 : TRef sig ⟨S1024, .f32⟩) Host.absf,
    TRef.unary (.of main_call0_call0_v7 : TRef sig ⟨S1024, .f32⟩) (.of main_call0_call0_v8 : TRef sig ⟨S1024, .f32⟩) Host.negf,
    TRef.unary (.of main_call0_call0_v8 : TRef sig ⟨S1024, .f32⟩) (.of main_call0_call0_v9 : TRef sig ⟨S1024, .f32⟩) Host.exp,
    TRef.unary (.of main_call0_call0_v9 : TRef sig ⟨S1024, .f32⟩) (.of main_call0_call0_v10 : TRef sig ⟨S1024, .f32⟩) Host.log1p,
    TRef.binary (.of main_call0_call0_v1 : TRef sig ⟨S1024, .f32⟩) (.of main_call0_call0_v10 : TRef sig ⟨S1024, .f32⟩) (.of main_call0_call0_v11 : TRef sig ⟨S1024, .f32⟩) addf,
    TRef.ternary (.of main_call0_call0_v4 : TRef sig ⟨S1024, .i1⟩) (.of main_call0_call0_v6 : TRef sig ⟨S1024, .f32⟩) (.of main_call0_call0_v11 : TRef sig ⟨S1024, .f32⟩) (.of main_call0_v1 : TRef sig ⟨S1024, .f32⟩) select,
    TRef.unary main_call0_call0.v12 (.of main_v25 : TRef sig ⟨S1024, .f32⟩) Host.negf ]
/-- Every operation of `main_part0_ops1` touches references of the core only. -/
theorem main_part0_ops1_sub : (main_part0_ops1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
/-- A stretch of host operations, in order. -/
abbrev main_part0_ops2 : List (HloOp τ sig (Elt F)) :=
  [ unary main_v25 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S2x4224x1024 ![0, 1, 2] bcast_S1x1x1024_S2x4224x1024_0_1_2 : (⟨S1x1x1024, .f32⟩ : BufTy).Contents (Elt F) → (⟨S2x4224x1024, .f32⟩ : BufTy).Contents (Elt F)),
    binary main_v24 main_v27 main_v28 (mulf : (⟨S2x4224x1024, .f32⟩ : BufTy).Contents (Elt F) → (⟨S2x4224x1024, .f32⟩ : BufTy).Contents (Elt F) → (⟨S2x4224x1024, .f32⟩ : BufTy).Contents (Elt F)),
    unary main_v28 main_v29 (Host.exp : (⟨S2x4224x1024, .f32⟩ : BufTy).Contents (Elt F) → (⟨S2x4224x1024, .f32⟩ : BufTy).Contents (Elt F)),
    nullary main_cst_5 (constant S_ .f32 0x40000000#32),
    unary main_cst_5 main_v30 (broadcastInDim S2x4224x1024 ![] bcast_S_S2x4224x1024 : (⟨S_, .f32⟩ : BufTy).Contents (Elt F) → (⟨S2x4224x1024, .f32⟩ : BufTy).Contents (Elt F)),
    binary main_v30 main_v28 main_v31 (mulf : (⟨S2x4224x1024, .f32⟩ : BufTy).Contents (Elt F) → (⟨S2x4224x1024, .f32⟩ : BufTy).Contents (Elt F) → (⟨S2x4224x1024, .f32⟩ : BufTy).Contents (Elt F)),
    unary main_v31 main_v32 (Host.expm1 : (⟨S2x4224x1024, .f32⟩ : BufTy).Contents (Elt F) → (⟨S2x4224x1024, .f32⟩ : BufTy).Contents (Elt F)),
    unary main_v32 main_v33 (Host.negf : (⟨S2x4224x1024, .f32⟩ : BufTy).Contents (Elt F) → (⟨S2x4224x1024, .f32⟩ : BufTy).Contents (Elt F)),
    unary main_v33 main_v34 (Host.sqrt : (⟨S2x4224x1024, .f32⟩ : BufTy).Contents (Elt F) → (⟨S2x4224x1024, .f32⟩ : BufTy).Contents (Elt F)),
    nullary main_v35 (iotaInDim S4224 32 0),
    unary main_v35 main_v36 (broadcastInDim S1x4224x1 ![1] bcast_S4224_S1x4224x1_1 : (⟨S4224, .i32⟩ : BufTy).Contents (Elt F) → (⟨S1x4224x1, .i32⟩ : BufTy).Contents (Elt F)),
    nullary main_c (constantI S_ 32 0#32),
    unary main_c main_v37 (broadcastInDim S1x4224x1 ![] bcast_S_S1x4224x1 : (⟨S_, .i32⟩ : BufTy).Contents (Elt F) → (⟨S1x4224x1, .i32⟩ : BufTy).Contents (Elt F)),
    binary main_v36 main_v37 main_v38 (cmpi .eq : (⟨S1x4224x1, .i32⟩ : BufTy).Contents (Elt F) → (⟨S1x4224x1, .i32⟩ : BufTy).Contents (Elt F) → (⟨S1x4224x1, .i1⟩ : BufTy).Contents (Elt F)),
    nullary main_cst_6 (constant S_ .f32 0x3F800000#32) ]
/-- Every operation of `main_part0_ops2` touches references of the core only. -/
theorem main_part0_ops2_sub : (main_part0_ops2 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., nullary_bufs_sub .., unary_bufs_sub .., binary_bufs_sub .., nullary_bufs_sub ..⟩
/-- A stretch of host operations, in order. -/
abbrev main_part0_ops3 : List (HloOp τ sig (Elt F)) :=
  [ TRef.unary (.of main_cst_6 : TRef sig ⟨S_, .f32⟩) (.of main_call1_v0 : TRef sig ⟨S_, .f32⟩) id,
    TRef.unary (.of main_v38 : TRef sig ⟨S1x4224x1, .i1⟩) (.of main_call1_v1 : TRef sig ⟨S2x4224x1024, .i1⟩) (broadcastInDim S2x4224x1024 ![0, 1, 2] bcast_S1x4224x1_S2x4224x1024_0_1_2),
    TRef.unary (.of main_call1_v0 : TRef sig ⟨S_, .f32⟩) (.of main_call1_v2 : TRef sig ⟨S2x4224x1024, .f32⟩) (broadcastInDim S2x4224x1024 ![] bcast_S_S2x4224x1024),
    TRef.ternary (.of main_call1_v1 : TRef sig ⟨S2x4224x1024, .i1⟩) (.of main_call1_v2 : TRef sig ⟨S2x4224x1024, .f32⟩) (.of main_v34 : TRef sig ⟨S2x4224x1024, .f32⟩) (.of main_v39 : TRef sig ⟨S2x4224x1024, .f32⟩) select ]
/-- Every operation of `main_part0_ops3` touches references of the core only. -/
theorem main_part0_ops3_sub : (main_part0_ops3 : List (HloOp τ sig (Elt F))).Forall fun op => op.bufs ⊆ tcRefs τ sig :=
  ⟨unary_bufs_sub .., unary_bufs_sub .., unary_bufs_sub .., ternary_bufs_sub ..⟩
/-- A stretch of host operations, in order. -/
abbrev main_part0_ops4 : List (HloOp τ sig (Elt F)) :=
  [ binary main_v19 main_v1 main_v40 (mulf : (⟨S2x4224x1024, .f32⟩ : BufTy).Contents (Elt F) → (⟨S2x4224x1024, .f32⟩ : BufTy).Contents (Elt F) → (⟨S2x4224x1024, .f32⟩ : BufTy).Contents (Elt F)),
    binary main_v39 main_v40 main_v41 (mulf : (⟨S2x4224x1024, .f32⟩ : BufTy).Contents (Elt F) → (⟨S2x4224x1024, .f32⟩ : BufTy).Contents (Elt F) → (⟨S2x4224x1024, .f32⟩ : BufTy).Contents (Elt F)),
    unary main_v41 main_v42 ((extractStridedSlice S2x1x1024 ![0, 0, 0] · slices_S2x4224x1024_S2x1x1024_0_0_0) : (⟨S2x4224x1024, .f32⟩ : BufTy).Contents (Elt F) → (⟨S2x1x1024, .f32⟩ : BufTy).Contents (Elt F)),
    StableHlo.reshape main_v42 main_v43 (rfl : (.f32 : EltTy) = .f32) shapeCasts_S2x1x1024_S2x1024,
    nullary main_cst_7 (constant S_ .f32 0x00000000#32),
    unary main_cst_7 main_v44 (broadcastInDim S2x1024 ![] bcast_S_S2x1024 : (⟨S_, .f32⟩ : BufTy).Contents (Elt F) → (⟨S2x1024, .f32⟩ : BufTy).Contents (Elt F)),
    unary main_v29 main_v45 ((transpose S4224x2x1024 [1, 0, 2] · transposes_S2x4224x1024_S4224x2x1024_1_0_2) : (⟨S2x4224x1024, .f32⟩ : BufTy).Contents (Elt F) → (⟨S4224x2x1024, .f32⟩ : BufTy).Contents (Elt F)),
    unary main_v41 main_v46 ((transpose S4224x2x1024 [1, 0, 2] · transposes_S2x4224x1024_S4224x2x1024_1_0_2) : (⟨S2x4224x1024, .f32⟩ : BufTy).Contents (Elt F) → (⟨S4224x2x1024, .f32⟩ : BufTy).Contents (Elt F)),
    nullary main_cst_8 (constant S_ .f32 0x00000000#32),
    unary main_cst_8 main_v47 (broadcastInDim S4224x2x1024 ![] bcast_S_S4224x2x1024 : (⟨S_, .f32⟩ : BufTy).Contents (Elt F) → (⟨S4224x2x1024, .f32⟩ : BufTy).Contents (Elt F)),
    nullary main_c_9 (constantI S_ 32 0#32) ]
/-- Every operation of `main_part0_ops4` touches references of the core only. -/
theorem main_part0_ops4_sub : (main_part0_ops4 : List (HloOp τ sig (Elt F))).Forall fun op => op.bufs ⊆ tcRefs τ sig :=
  ⟨binary_bufs_sub .., binary_bufs_sub .., unary_bufs_sub .., StableHlo.reshape_bufs_sub .., nullary_bufs_sub .., unary_bufs_sub .., unary_bufs_sub .., unary_bufs_sub .., nullary_bufs_sub .., unary_bufs_sub .., nullary_bufs_sub ..⟩
/-- This window of the program is its items in order. -/
theorem main_part0_chain (c : Dev nD) : main_part0 (F := F) c = (Pipeline.chainK
  [ seq main_part0_ops0,
    seq main_part0_ops1,
    seq main_part0_ops2,
    seq main_part0_ops3 ]
  (seq main_part0_ops4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- A stretch of host operations, in order. -/
abbrev main_part1_ops0 : List (HloOp τ sig (Elt F)) :=
  [ unary main_v45 main_v48_0 id,
    unary main_v46 main_v48_1 id,
    unary main_c_9 main_v48_2 id,
    unary main_v44 main_v48_3 id,
    unary main_v47 main_v48_4 id ]
/-- Every operation of `main_part1_ops0` touches references of the core only. -/
theorem main_part1_ops0_sub : (main_part1_ops0 : List (HloOp τ sig (Elt F))).Forall fun op => op.bufs ⊆ tcRefs τ sig :=
  ⟨unary_bufs_sub .., unary_bufs_sub .., unary_bufs_sub .., unary_bufs_sub .., unary_bufs_sub ..⟩
/-- A stretch of host operations, in order. -/
abbrev main_part1_ops1 : List (HloOp τ sig (Elt F)) :=
  ( unary main_v48_4 main_v49 ((transpose S2x4224x1024 [1, 0, 2] · transposes_S4224x2x1024_S2x4224x1024_1_0_2) : (⟨S4224x2x1024, .f32⟩ : BufTy).Contents (Elt F) → (⟨S2x4224x1024, .f32⟩ : BufTy).Contents (Elt F))
  :: binary main_v0 main_v0 main_v50 (mulf : (⟨S2x4224x1024, .f32⟩ : BufTy).Contents (Elt F) → (⟨S2x4224x1024, .f32⟩ : BufTy).Contents (Elt F) → (⟨S2x4224x1024, .f32⟩ : BufTy).Contents (Elt F))
  :: binary main_v50 main_v0 main_v51 (mulf : (⟨S2x4224x1024, .f32⟩ : BufTy).Contents (Elt F) → (⟨S2x4224x1024, .f32⟩ : BufTy).Contents (Elt F) → (⟨S2x4224x1024, .f32⟩ : BufTy).Contents (Elt F))
  :: nullary main_cst_10 (constant S_ .f32 0x3D372713#32)
  :: unary main_cst_10 main_v52 (broadcastInDim S2x4224x1024 ![] bcast_S_S2x4224x1024 : (⟨S_, .f32⟩ : BufTy).Contents (Elt F) → (⟨S2x4224x1024, .f32⟩ : BufTy).Contents (Elt F))
  :: binary main_v52 main_v51 main_v53 (mulf : (⟨S2x4224x1024, .f32⟩ : BufTy).Contents (Elt F) → (⟨S2x4224x1024, .f32⟩ : BufTy).Contents (Elt F) → (⟨S2x4224x1024, .f32⟩ : BufTy).Contents (Elt F))
  :: binary main_v0 main_v53 main_v54 (addf : (⟨S2x4224x1024, .f32⟩ : BufTy).Contents (Elt F) → (⟨S2x4224x1024, .f32⟩ : BufTy).Contents (Elt F) → (⟨S2x4224x1024, .f32⟩ : BufTy).Contents (Elt F))
  :: nullary main_cst_11 (constant S_ .f32 0x3F4C422A#32)
  :: unary main_cst_11 main_v55 (broadcastInDim S2x4224x1024 ![] bcast_S_S2x4224x1024 : (⟨S_, .f32⟩ : BufTy).Contents (Elt F) → (⟨S2x4224x1024, .f32⟩ : BufTy).Contents (Elt F))
  :: binary main_v55 main_v54 main_v56 (mulf : (⟨S2x4224x1024, .f32⟩ : BufTy).Contents (Elt F) → (⟨S2x4224x1024, .f32⟩ : BufTy).Contents (Elt F) → (⟨S2x4224x1024, .f32⟩ : BufTy).Contents (Elt F))
  :: unary main_v56 main_v57 (Host.tanh : (⟨S2x4224x1024, .f32⟩ : BufTy).Contents (Elt F) → (⟨S2x4224x1024, .f32⟩ : BufTy).Contents (Elt F))
  :: nullary main_cst_12 (constant S_ .f32 0x3F800000#32)
  :: unary main_cst_12 main_v58 (broadcastInDim S2x4224x1024 ![] bcast_S_S2x4224x1024 : (⟨S_, .f32⟩ : BufTy).Contents (Elt F) → (⟨S2x4224x1024, .f32⟩ : BufTy).Contents (Elt F))
  :: binary main_v58 main_v57 main_v59 (addf : (⟨S2x4224x1024, .f32⟩ : BufTy).Contents (Elt F) → (⟨S2x4224x1024, .f32⟩ : BufTy).Contents (Elt F) → (⟨S2x4224x1024, .f32⟩ : BufTy).Contents (Elt F))
  :: nullary main_cst_13 (constant S_ .f32 0x3F000000#32)
  :: unary main_cst_13 main_v60 (broadcastInDim S2x4224x1024 ![] bcast_S_S2x4224x1024 : (⟨S_, .f32⟩ : BufTy).Contents (Elt F) → (⟨S2x4224x1024, .f32⟩ : BufTy).Contents (Elt F))
  :: binary main_v60 main_v59 main_v61 (mulf : (⟨S2x4224x1024, .f32⟩ : BufTy).Contents (Elt F) → (⟨S2x4224x1024, .f32⟩ : BufTy).Contents (Elt F) → (⟨S2x4224x1024, .f32⟩ : BufTy).Contents (Elt F))
  :: binary main_v0 main_v61 main_v62 (mulf : (⟨S2x4224x1024, .f32⟩ : BufTy).Contents (Elt F) → (⟨S2x4224x1024, .f32⟩ : BufTy).Contents (Elt F) → (⟨S2x4224x1024, .f32⟩ : BufTy).Contents (Elt F))
  :: binary main_v49 main_v62 main_v63 (mulf : (⟨S2x4224x1024, .f32⟩ : BufTy).Contents (Elt F) → (⟨S2x4224x1024, .f32⟩ : BufTy).Contents (Elt F) → (⟨S2x4224x1024, .f32⟩ : BufTy).Contents (Elt F))
  :: nullary main_cst_14 (constant S_ .f32 0x00000000#32)
  :: unary main_cst_14 main_v64 (broadcastInDim S2x1024 ![] bcast_S_S2x1024 : (⟨S_, .f32⟩ : BufTy).Contents (Elt F) → (⟨S2x1024, .f32⟩ : BufTy).Contents (Elt F))
  :: binary main_arg0 main_v62 main_v65 (mulf : (⟨S2x4224x1024, .f32⟩ : BufTy).Contents (Elt F) → (⟨S2x4224x1024, .f32⟩ : BufTy).Contents (Elt F) → (⟨S2x4224x1024, .f32⟩ : BufTy).Contents (Elt F))
  :: unary main_v65 main_v66 ((transpose S4224x2x1024 [1, 0, 2] · transposes_S2x4224x1024_S4224x2x1024_1_0_2) : (⟨S2x4224x1024, .f32⟩ : BufTy).Contents (Elt F) → (⟨S4224x2x1024, .f32⟩ : BufTy).Contents (Elt F))
  :: nullary main_cst_15 (constant S_ .f32 0x00000000#32)
  :: unary main_cst_15 main_v67 (broadcastInDim S2x1024 ![] bcast_S_S2x1024 : (⟨S_, .f32⟩ : BufTy).Contents (Elt F) → (⟨S2x1024, .f32⟩ : BufTy).Contents (Elt F))
  :: nullary main_cst_16 (constant S_ .f32 0x00000000#32)
  :: unary main_cst_16 main_v68 (broadcastInDim S4224x2x1024 ![] bcast_S_S4224x2x1024 : (⟨S_, .f32⟩ : BufTy).Contents (Elt F) → (⟨S4224x2x1024, .f32⟩ : BufTy).Contents (Elt F))
  :: nullary main_c_17 (constantI S_ 32 0#32)
  :: unary main_v66 main_v69_0 id
  :: unary main_v45 main_v69_1 id
  :: unary main_c_17 main_v69_2 id
  :: unary main_v67 main_v69_3 id
  :: unary main_v68 main_v69_4 id
  :: [] )
/-- Every operation of `main_part1_ops1` touches references of the core only. -/
theorem main_part1_ops1_sub : (main_part1_ops1 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub ..⟩
/-- A stretch of host operations, in order. -/
abbrev main_part1_ops2 : List (HloOp τ sig (Elt F)) :=
  [ unary main_v69_4 main_v70 ((transpose S2x4224x1024 [1, 0, 2] · transposes_S4224x2x1024_S2x4224x1024_1_0_2) : (⟨S4224x2x1024, .f32⟩ : BufTy).Contents (Elt F) → (⟨S2x4224x1024, .f32⟩ : BufTy).Contents (Elt F)),
    binary main_v39 main_v70 main_v71 (mulf : (⟨S2x4224x1024, .f32⟩ : BufTy).Contents (Elt F) → (⟨S2x4224x1024, .f32⟩ : BufTy).Contents (Elt F) → (⟨S2x4224x1024, .f32⟩ : BufTy).Contents (Elt F)),
    binary main_v19 main_v71 main_v72 (mulf : (⟨S2x4224x1024, .f32⟩ : BufTy).Contents (Elt F) → (⟨S2x4224x1024, .f32⟩ : BufTy).Contents (Elt F) → (⟨S2x4224x1024, .f32⟩ : BufTy).Contents (Elt F)),
    binary main_v71 main_v1 main_v73 (mulf : (⟨S2x4224x1024, .f32⟩ : BufTy).Contents (Elt F) → (⟨S2x4224x1024, .f32⟩ : BufTy).Contents (Elt F) → (⟨S2x4224x1024, .f32⟩ : BufTy).Contents (Elt F)),
    binary main_v73 main_v22 main_v74 (mulf : (⟨S2x4224x1024, .f32⟩ : BufTy).Contents (Elt F) → (⟨S2x4224x1024, .f32⟩ : BufTy).Contents (Elt F) → (⟨S2x4224x1024, .f32⟩ : BufTy).Contents (Elt F)),
    unary main_v74 main_v75 ((truncf .bf16 · bitsLt_bf16_f32) : (⟨S2x4224x1024, .f32⟩ : BufTy).Contents (Elt F) → (⟨S2x4224x1024, .bf16⟩ : BufTy).Contents (Elt F)) ]
/-- Every operation of `main_part1_ops2` touches references of the core only. -/
theorem main_part1_ops2_sub : (main_part1_ops2 : List (HloOp τ sig (Elt F))).Forall fun op => op.bufs ⊆ tcRefs τ sig :=
  ⟨unary_bufs_sub .., binary_bufs_sub .., binary_bufs_sub .., binary_bufs_sub .., binary_bufs_sub .., unary_bufs_sub ..⟩
/-- This window of the program is its items in order. -/
theorem main_part1_chain (c : Dev nD) : main_part1 (F := F) c = (Pipeline.chain
  [ seq main_part1_ops0,
    HostLoop.enter 0,
    seq main_part1_ops1,
    HostLoop.enter 1,
    seq main_part1_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The windows' items, one after another. -/
theorem main_chain_windows (c : Dev nD) : main (F := F) c = (Pipeline.chain
  [ seq main_part0_ops0,
    seq main_part0_ops1,
    seq main_part0_ops2,
    seq main_part0_ops3,
    seq main_part0_ops4,
    seq main_part1_ops0,
    HostLoop.enter 0,
    seq main_part1_ops1,
    HostLoop.enter 1,
    seq main_part1_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- The program's items, each with the pieces the windows cut it into. -/
abbrev main_groups (c : Dev nD) : List (StableHlo.Group nD τ sig (Elt F) (HostLoop.Sig (Pipeline.Sig Λ₀ (Fin 0) fun p => (pcfgs (F := F) p).Adm) 2)) :=
  [ .ops [main_part0_ops0],
    .ops [main_part0_ops1],
    .ops [main_part0_ops2],
    .ops [main_part0_ops3],
    .ops [main_part0_ops4, main_part1_ops0],
    .prog (HostLoop.enter 0),
    .ops [main_part1_ops1],
    .prog (HostLoop.enter 1),
    .ops [main_part1_ops2] ]

/-- The items cut at the windows. -/
theorem main_chain_cut (c : Dev nD) : (Pipeline.chain
  [ seq main_part0_ops0,
    seq main_part0_ops1,
    seq main_part0_ops2,
    seq main_part0_ops3,
    seq main_part0_ops4,
    seq main_part1_ops0,
    HostLoop.enter 0,
    seq main_part1_ops1,
    HostLoop.enter 1,
    seq main_part1_ops2 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- The items put together again. -/
theorem main_chain_whole (c : Dev nD) : Pipeline.chain ((main_groups (F := F) c).map StableHlo.Group.whole) = (Pipeline.chain
  [ seq hostOps0,
    seq hostOps0_1,
    seq hostOps0_2,
    seq hostOps0_3,
    seq hostOps0_4,
    HostLoop.enter 0,
    seq hostOps0_5,
    HostLoop.enter 1,
    seq hostOps0_6 ] : Prog (TpuEff nD τ sig (Elt F) (HostLoop.Sig (Pipeline.Sig Λ₀ (Fin 0) fun p => (pcfgs (F := F) p).Adm) 2) .tc) PUnit) := by
  chain_rfl

/-- The program is its stretches and its two loops in order. -/
theorem main_chain (c : Dev nD) : main (F := F) c = (Pipeline.chain
  [ seq hostOps0,
    seq hostOps0_1,
    seq hostOps0_2,
    seq hostOps0_3,
    seq hostOps0_4,
    HostLoop.enter 0,
    seq hostOps0_5,
    HostLoop.enter 1,
    seq hostOps0_6 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- A stretch of host operations, in order. -/
abbrev while0Ops0 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.unaryIndexed (.of main_v48_0 : TRef sig ⟨S4224x2x1024, .f32⟩) ![(.of main_v48_2 : TRef sig ⟨S_, .i32⟩), (.of main_while0b_call2_c : TRef sig ⟨S_, .i32⟩), (.of main_while0b_call2_c_0 : TRef sig ⟨S_, .i32⟩)] (.of main_while0b_call2_v0 : TRef sig ⟨S1x2x1024, .f32⟩) (fun x i => Host.dynamicSlice S1x2x1024 x (fun k => (i k (Shape.Idx.first h_S_)).toInt) sliceFits_S4224x2x1024_S1x2x1024),
    TRef.reshape (.of main_while0b_call2_v0 : TRef sig ⟨S1x2x1024, .f32⟩) (.of main_while0b_v76 : TRef sig ⟨S2x1024, .f32⟩) (rfl : (.f32 : EltTy) = .f32) shapeCasts_S1x2x1024_S2x1024 ]
/-- Every operation of `while0Ops0` touches references of the core only. -/
theorem while0Ops0_sub : (while0Ops0 : List (HloOp τ sig (Elt F))).Forall fun op => op.bufs ⊆ tcRefs τ sig :=
  ⟨nullary_bufs_sub .., nullary_bufs_sub .., StableHlo.unaryIndexed_bufs_sub .., StableHlo.reshape_bufs_sub ..⟩
/-- A stretch of host operations, in order. -/
abbrev while0Ops0_1 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.unaryIndexed (.of main_v48_1 : TRef sig ⟨S4224x2x1024, .f32⟩) ![(.of main_v48_2 : TRef sig ⟨S_, .i32⟩), (.of main_while0b_call3_c : TRef sig ⟨S_, .i32⟩), (.of main_while0b_call3_c_0 : TRef sig ⟨S_, .i32⟩)] (.of main_while0b_call3_v0 : TRef sig ⟨S1x2x1024, .f32⟩) (fun x i => Host.dynamicSlice S1x2x1024 x (fun k => (i k (Shape.Idx.first h_S_)).toInt) sliceFits_S4224x2x1024_S1x2x1024),
    TRef.reshape (.of main_while0b_call3_v0 : TRef sig ⟨S1x2x1024, .f32⟩) (.of main_while0b_v77 : TRef sig ⟨S2x1024, .f32⟩) (rfl : (.f32 : EltTy) = .f32) shapeCasts_S1x2x1024_S2x1024 ]
/-- Every operation of `while0Ops0_1` touches references of the core only. -/
theorem while0Ops0_1_sub : (while0Ops0_1 : List (HloOp τ sig (Elt F))).Forall fun op => op.bufs ⊆ tcRefs τ sig :=
  ⟨nullary_bufs_sub .., nullary_bufs_sub .., StableHlo.unaryIndexed_bufs_sub .., StableHlo.reshape_bufs_sub ..⟩
/-- A stretch of host operations, in order. -/
abbrev while0Ops0_2 : List (HloOp τ sig (Elt F)) :=
  [ binary main_while0b_v76 main_v48_3 main_while0b_v78 (mulf : (⟨S2x1024, .f32⟩ : BufTy).Contents (Elt F) → (⟨S2x1024, .f32⟩ : BufTy).Contents (Elt F) → (⟨S2x1024, .f32⟩ : BufTy).Contents (Elt F)),
    binary main_while0b_v78 main_while0b_v77 main_while0b_v79 (addf : (⟨S2x1024, .f32⟩ : BufTy).Contents (Elt F) → (⟨S2x1024, .f32⟩ : BufTy).Contents (Elt F) → (⟨S2x1024, .f32⟩ : BufTy).Contents (Elt F)) ]
/-- Every operation of `while0Ops0_2` touches references of the core only. -/
theorem while0Ops0_2_sub : (while0Ops0_2 : List (HloOp τ sig (Elt F))).Forall fun op => op.bufs ⊆ tcRefs τ sig :=
  ⟨binary_bufs_sub .., binary_bufs_sub ..⟩
/-- A stretch of host operations, in order. -/
abbrev while0Ops0_3 : List (HloOp τ sig (Elt F)) :=
  [ TRef.unary (.of main_while0b_v79 : TRef sig ⟨S2x1024, .f32⟩) (.of main_while0b_call4_v0 : TRef sig ⟨S1x2x1024, .f32⟩) (broadcastInDim S1x2x1024 ![1, 2] bcast_S2x1024_S1x2x1024_1_2),
    TRef.nullary (.of main_while0b_call4_c : TRef sig ⟨S_, .i32⟩) (constantI S_ 32 0#32),
    TRef.nullary (.of main_while0b_call4_c_0 : TRef sig ⟨S_, .i32⟩) (constantI S_ 32 0#32),
    TRef.binaryIndexed (.of main_v48_4 : TRef sig ⟨S4224x2x1024, .f32⟩) (.of main_while0b_call4_v0 : TRef sig ⟨S1x2x1024, .f32⟩) ![(.of main_v48_2 : TRef sig ⟨S_, .i32⟩), (.of main_while0b_call4_c : TRef sig ⟨S_, .i32⟩), (.of main_while0b_call4_c_0 : TRef sig ⟨S_, .i32⟩)] (.of main_while0b_v80 : TRef sig ⟨S4224x2x1024, .f32⟩) (fun x u i => Host.dynamicUpdateSlice x u (fun k => (i k (Shape.Idx.first h_S_)).toInt) updateFits_S4224x2x1024_S1x2x1024) ]
/-- Every operation of `while0Ops0_3` touches references of the core only. -/
theorem while0Ops0_3_sub : (while0Ops0_3 : List (HloOp τ sig (Elt F))).Forall fun op => op.bufs ⊆ tcRefs τ sig :=
  ⟨unary_bufs_sub .., nullary_bufs_sub .., nullary_bufs_sub .., StableHlo.binaryIndexed_bufs_sub ..⟩
/-- A stretch of host operations, in order. -/
abbrev while0Ops0_4 : List (HloOp τ sig (Elt F)) :=
  [ nullary main_while0b_c_22 (constantI S_ 32 1#32),
    binary main_v48_2 main_while0b_c_22 main_while0b_v81 (addi : (⟨S_, .i32⟩ : BufTy).Contents (Elt F) → (⟨S_, .i32⟩ : BufTy).Contents (Elt F) → (⟨S_, .i32⟩ : BufTy).Contents (Elt F)),
    unary main_while0b_v81 main_v48_2 id,
    unary main_while0b_v79 main_v48_3 id,
    unary main_while0b_v80 main_v48_4 id ]
/-- Every operation of `while0Ops0_4` touches references of the core only. -/
theorem while0Ops0_4_sub : (while0Ops0_4 : List (HloOp τ sig (Elt F))).Forall fun op => op.bufs ⊆ tcRefs τ sig :=
  ⟨nullary_bufs_sub .., binary_bufs_sub .., unary_bufs_sub .., unary_bufs_sub .., unary_bufs_sub ..⟩
/-- The loop's body is its stretches in order. -/
theorem while0_body_chain : main_while0_body (F := F) = (Pipeline.chain
  [ seq while0Ops0,
    seq while0Ops0_1,
    seq while0Ops0_2,
    seq while0Ops0_3,
    seq while0Ops0_4 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons]
  chain_rfl

/-- A stretch of host operations, in order. -/
abbrev while1Ops0 : List (HloOp τ sig (Elt F)) :=
  [ nullary main_while1b_c_22 (constantI S_ 32 4224#32),
    binary main_while1b_c_22 main_v69_2 main_while1b_v76 (subi : (⟨S_, .i32⟩ : BufTy).Contents (Elt F) → (⟨S_, .i32⟩ : BufTy).Contents (Elt F) → (⟨S_, .i32⟩ : BufTy).Contents (Elt F)),
    nullary main_while1b_c_23 (constantI S_ 32 1#32),
    binary main_while1b_v76 main_while1b_c_23 main_while1b_v77 (subi : (⟨S_, .i32⟩ : BufTy).Contents (Elt F) → (⟨S_, .i32⟩ : BufTy).Contents (Elt F) → (⟨S_, .i32⟩ : BufTy).Contents (Elt F)) ]
/-- Every operation of `while1Ops0` touches references of the core only. -/
theorem while1Ops0_sub : (while1Ops0 : List (HloOp τ sig (Elt F))).Forall fun op => op.bufs ⊆ tcRefs τ sig :=
  ⟨nullary_bufs_sub .., binary_bufs_sub .., nullary_bufs_sub .., binary_bufs_sub ..⟩
/-- A stretch of host operations, in order. -/
abbrev while1Ops0_1 : List (HloOp τ sig (Elt F)) :=
  [ TRef.nullary (.of main_while1b_call5_c : TRef sig ⟨S_, .i32⟩) (constantI S_ 32 0#32),
    TRef.nullary (.of main_while1b_call5_c_0 : TRef sig ⟨S_, .i32⟩) (constantI S_ 32 0#32),
    TRef.unaryIndexed (.of main_v69_0 : TRef sig ⟨S4224x2x1024, .f32⟩) ![(.of main_while1b_v77 : TRef sig ⟨S_, .i32⟩), (.of main_while1b_call5_c : TRef sig ⟨S_, .i32⟩), (.of main_while1b_call5_c_0 : TRef sig ⟨S_, .i32⟩)] (.of main_while1b_call5_v0 : TRef sig ⟨S1x2x1024, .f32⟩) (fun x i => Host.dynamicSlice S1x2x1024 x (fun k => (i k (Shape.Idx.first h_S_)).toInt) sliceFits_S4224x2x1024_S1x2x1024),
    TRef.reshape (.of main_while1b_call5_v0 : TRef sig ⟨S1x2x1024, .f32⟩) (.of main_while1b_v78 : TRef sig ⟨S2x1024, .f32⟩) (rfl : (.f32 : EltTy) = .f32) shapeCasts_S1x2x1024_S2x1024 ]
/-- Every operation of `while1Ops0_1` touches references of the core only. -/
theorem while1Ops0_1_sub : (while1Ops0_1 : List (HloOp τ sig (Elt F))).Forall fun op => op.bufs ⊆ tcRefs τ sig :=
  ⟨nullary_bufs_sub .., nullary_bufs_sub .., StableHlo.unaryIndexed_bufs_sub .., StableHlo.reshape_bufs_sub ..⟩
/-- A stretch of host operations, in order. -/
abbrev while1Ops0_2 : List (HloOp τ sig (Elt F)) :=
  [ TRef.nullary (.of main_while1b_call6_c : TRef sig ⟨S_, .i32⟩) (constantI S_ 32 0#32),
    TRef.nullary (.of main_while1b_call6_c_0 : TRef sig ⟨S_, .i32⟩) (constantI S_ 32 0#32),
    TRef.unaryIndexed (.of main_v69_1 : TRef sig ⟨S4224x2x1024, .f32⟩) ![(.of main_while1b_v77 : TRef sig ⟨S_, .i32⟩), (.of main_while1b_call6_c : TRef sig ⟨S_, .i32⟩), (.of main_while1b_call6_c_0 : TRef sig ⟨S_, .i32⟩)] (.of main_while1b_call6_v0 : TRef sig ⟨S1x2x1024, .f32⟩) (fun x i => Host.dynamicSlice S1x2x1024 x (fun k => (i k (Shape.Idx.first h_S_)).toInt) sliceFits_S4224x2x1024_S1x2x1024),
    TRef.reshape (.of main_while1b_call6_v0 : TRef sig ⟨S1x2x1024, .f32⟩) (.of main_while1b_v79 : TRef sig ⟨S2x1024, .f32⟩) (rfl : (.f32 : EltTy) = .f32) shapeCasts_S1x2x1024_S2x1024 ]
/-- Every operation of `while1Ops0_2` touches references of the core only. -/
theorem while1Ops0_2_sub : (while1Ops0_2 : List (HloOp τ sig (Elt F))).Forall fun op => op.bufs ⊆ tcRefs τ sig :=
  ⟨nullary_bufs_sub .., nullary_bufs_sub .., StableHlo.unaryIndexed_bufs_sub .., StableHlo.reshape_bufs_sub ..⟩
/-- A stretch of host operations, in order. -/
abbrev while1Ops0_3 : List (HloOp τ sig (Elt F)) :=
  [ binary main_v69_3 main_while1b_v78 main_while1b_v80 (addf : (⟨S2x1024, .f32⟩ : BufTy).Contents (Elt F) → (⟨S2x1024, .f32⟩ : BufTy).Contents (Elt F) → (⟨S2x1024, .f32⟩ : BufTy).Contents (Elt F)),
    binary main_while1b_v79 main_while1b_v80 main_while1b_v81 (mulf : (⟨S2x1024, .f32⟩ : BufTy).Contents (Elt F) → (⟨S2x1024, .f32⟩ : BufTy).Contents (Elt F) → (⟨S2x1024, .f32⟩ : BufTy).Contents (Elt F)) ]
/-- Every operation of `while1Ops0_3` touches references of the core only. -/
theorem while1Ops0_3_sub : (while1Ops0_3 : List (HloOp τ sig (Elt F))).Forall fun op => op.bufs ⊆ tcRefs τ sig :=
  ⟨binary_bufs_sub .., binary_bufs_sub ..⟩
/-- A stretch of host operations, in order. -/
abbrev while1Ops0_4 : List (HloOp τ sig (Elt F)) :=
  [ TRef.unary (.of main_while1b_v80 : TRef sig ⟨S2x1024, .f32⟩) (.of main_while1b_call7_v0 : TRef sig ⟨S1x2x1024, .f32⟩) (broadcastInDim S1x2x1024 ![1, 2] bcast_S2x1024_S1x2x1024_1_2),
    TRef.nullary (.of main_while1b_call7_c : TRef sig ⟨S_, .i32⟩) (constantI S_ 32 0#32),
    TRef.nullary (.of main_while1b_call7_c_0 : TRef sig ⟨S_, .i32⟩) (constantI S_ 32 0#32),
    TRef.binaryIndexed (.of main_v69_4 : TRef sig ⟨S4224x2x1024, .f32⟩) (.of main_while1b_call7_v0 : TRef sig ⟨S1x2x1024, .f32⟩) ![(.of main_while1b_v77 : TRef sig ⟨S_, .i32⟩), (.of main_while1b_call7_c : TRef sig ⟨S_, .i32⟩), (.of main_while1b_call7_c_0 : TRef sig ⟨S_, .i32⟩)] (.of main_while1b_v82 : TRef sig ⟨S4224x2x1024, .f32⟩) (fun x u i => Host.dynamicUpdateSlice x u (fun k => (i k (Shape.Idx.first h_S_)).toInt) updateFits_S4224x2x1024_S1x2x1024) ]
/-- Every operation of `while1Ops0_4` touches references of the core only. -/
theorem while1Ops0_4_sub : (while1Ops0_4 : List (HloOp τ sig (Elt F))).Forall fun op => op.bufs ⊆ tcRefs τ sig :=
  ⟨unary_bufs_sub .., nullary_bufs_sub .., nullary_bufs_sub .., StableHlo.binaryIndexed_bufs_sub ..⟩
/-- A stretch of host operations, in order. -/
abbrev while1Ops0_5 : List (HloOp τ sig (Elt F)) :=
  [ nullary main_while1b_c_24 (constantI S_ 32 1#32),
    binary main_v69_2 main_while1b_c_24 main_while1b_v83 (addi : (⟨S_, .i32⟩ : BufTy).Contents (Elt F) → (⟨S_, .i32⟩ : BufTy).Contents (Elt F) → (⟨S_, .i32⟩ : BufTy).Contents (Elt F)),
    unary main_while1b_v83 main_v69_2 id,
    unary main_while1b_v81 main_v69_3 id,
    unary main_while1b_v82 main_v69_4 id ]
/-- Every operation of `while1Ops0_5` touches references of the core only. -/
theorem while1Ops0_5_sub : (while1Ops0_5 : List (HloOp τ sig (Elt F))).Forall fun op => op.bufs ⊆ tcRefs τ sig :=
  ⟨nullary_bufs_sub .., binary_bufs_sub .., unary_bufs_sub .., unary_bufs_sub .., unary_bufs_sub ..⟩
/-- The loop's body is its stretches in order. -/
theorem while1_body_chain : main_while1_body (F := F) = (Pipeline.chain
  [ seq while1Ops0,
    seq while1Ops0_1,
    seq while1Ops0_2,
    seq while1Ops0_3,
    seq while1Ops0_4,
    seq while1Ops0_5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons, Pipeline.chain_cons, StableHlo.chain_seq_cons]
  chain_rfl

open Idealize.ShloMosaic.StableHlo

/-- No operation of `hostOps0` allocates a buffer. -/
theorem hostOps0_fresh : (hostOps0 : List (HloOp τ sig (Elt F))).Forall fun op => op.fresh = ∅ :=
  StableHlo.forall_fresh_of_map rfl
/-- What the operations of `hostOps0` write, in order. -/
abbrev hostOps0_W : List (Ref sig .tc) := [main_v0, main_v1, main_v2, main_v3, main_v4, main_v5, main_v6, main_cst, main_v7, main_v8, main_cst_0, main_v9, main_v10, main_v11, main_v12, main_v13, main_v14, main_v15, main_cst_1, main_v16, main_v17, main_cst_2, main_v18, main_v19, main_cst_3, main_v20, main_v21, main_v22, main_cst_4, main_v23, main_v24]
/-- `hostOps0_W` bounds what `hostOps0` writes. -/
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- What the operations of `hostOps0_1` write, in order. -/
abbrev hostOps0_1_W : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v25]
/-- `hostOps0_1_W` bounds what `hostOps0_1` writes. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- What the operations of `hostOps0_2` write, in order. -/
abbrev hostOps0_2_W : List (Ref sig .tc) := [main_v26, main_v27, main_v28, main_v29, main_cst_5, main_v30, main_v31, main_v32, main_v33, main_v34, main_v35, main_v36, main_c, main_v37, main_v38, main_cst_6]
/-- `hostOps0_2_W` bounds what `hostOps0_2` writes. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- What the operations of `hostOps0_3` write, in order. -/
abbrev hostOps0_3_W : List (Ref sig .tc) := [main_call1_v0, main_call1_v1, main_call1_v2, main_v39]
/-- `hostOps0_3_W` bounds what `hostOps0_3` writes. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- What the operations of `hostOps0_4` write, in order. -/
abbrev hostOps0_4_W : List (Ref sig .tc) := [main_v40, main_v41, main_v42, main_v43, main_cst_7, main_v44, main_v45, main_v46, main_cst_8, main_v47, main_c_9, main_v48_0, main_v48_1, main_v48_2, main_v48_3, main_v48_4]
/-- `hostOps0_4_W` bounds what `hostOps0_4` writes. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- What the operations of `hostOps0_5` write, in order. -/
abbrev hostOps0_5_W : List (Ref sig .tc) := [main_v49, main_v50, main_v51, main_cst_10, main_v52, main_v53, main_v54, main_cst_11, main_v55, main_v56, main_v57, main_cst_12, main_v58, main_v59, main_cst_13, main_v60, main_v61, main_v62, main_v63, main_cst_14, main_v64, main_v65, main_v66, main_cst_15, main_v67, main_cst_16, main_v68, main_c_17, main_v69_0, main_v69_1, main_v69_2, main_v69_3, main_v69_4]
/-- `hostOps0_5_W` bounds what `hostOps0_5` writes. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- No operation of `hostOps0_6` allocates a buffer. -/
theorem hostOps0_6_fresh : (hostOps0_6 : List (HloOp τ sig (Elt F))).Forall fun op => op.fresh = ∅ :=
  StableHlo.forall_fresh_of_map rfl
/-- What the operations of `hostOps0_6` write, in order. -/
abbrev hostOps0_6_W : List (Ref sig .tc) := [main_v70, main_v71, main_v72, main_v73, main_v74, main_v75]
/-- `hostOps0_6_W` bounds what `hostOps0_6` writes. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- What the operations of `while0Ops0` write, in order. -/
abbrev while0Ops0_W : List (Ref sig .tc) := [main_while0b_call2_c, main_while0b_call2_c_0, main_while0b_call2_v0, main_while0b_v76]
/-- `while0Ops0_W` bounds what `while0Ops0` writes. -/
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- What the operations of `while0Ops0_1` write, in order. -/
abbrev while0Ops0_1_W : List (Ref sig .tc) := [main_while0b_call3_c, main_while0b_call3_c_0, main_while0b_call3_v0, main_while0b_v77]
/-- `while0Ops0_1_W` bounds what `while0Ops0_1` writes. -/
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- What the operations of `while0Ops0_2` write, in order. -/
abbrev while0Ops0_2_W : List (Ref sig .tc) := [main_while0b_v78, main_while0b_v79]
/-- `while0Ops0_2_W` bounds what `while0Ops0_2` writes. -/
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- What the operations of `while0Ops0_3` write, in order. -/
abbrev while0Ops0_3_W : List (Ref sig .tc) := [main_while0b_call4_v0, main_while0b_call4_c, main_while0b_call4_c_0, main_while0b_v80]
/-- `while0Ops0_3_W` bounds what `while0Ops0_3` writes. -/
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- What the operations of `while0Ops0_4` write, in order. -/
abbrev while0Ops0_4_W : List (Ref sig .tc) := [main_while0b_c_22, main_while0b_v81, main_v48_2, main_v48_3, main_v48_4]
/-- `while0Ops0_4_W` bounds what `while0Ops0_4` writes. -/
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while1Ops0` allocates a buffer. -/
theorem while1Ops0_fresh : (while1Ops0 : List (HloOp τ sig (Elt F))).Forall fun op => op.fresh = ∅ :=
  StableHlo.forall_fresh_of_map rfl
/-- What the operations of `while1Ops0` write, in order. -/
abbrev while1Ops0_W : List (Ref sig .tc) := [main_while1b_c_22, main_while1b_v76, main_while1b_c_23, main_while1b_v77]
/-- `while1Ops0_W` bounds what `while1Ops0` writes. -/
theorem while1Ops0_writes : (while1Ops0 : List (HloOp τ sig (Elt F))).Forall fun op => op.writes ⊆ (while1Ops0_W.map (Proc.devRef (τ := τ) .tc)).toFinset :=
  StableHlo.forall_writes_sub_of_map rfl
/-- No operation of `while1Ops0_1` allocates a buffer. -/
theorem while1Ops0_1_fresh : (while1Ops0_1 : List (HloOp τ sig (Elt F))).Forall fun op => op.fresh = ∅ :=
  StableHlo.forall_fresh_of_map rfl
/-- What the operations of `while1Ops0_1` write, in order. -/
abbrev while1Ops0_1_W : List (Ref sig .tc) := [main_while1b_call5_c, main_while1b_call5_c_0, main_while1b_call5_v0, main_while1b_v78]
/-- `while1Ops0_1_W` bounds what `while1Ops0_1` writes. -/
theorem while1Ops0_1_writes : (while1Ops0_1 : List (HloOp τ sig (Elt F))).Forall fun op => op.writes ⊆ (while1Ops0_1_W.map (Proc.devRef (τ := τ) .tc)).toFinset :=
  StableHlo.forall_writes_sub_of_map rfl
/-- No operation of `while1Ops0_2` allocates a buffer. -/
theorem while1Ops0_2_fresh : (while1Ops0_2 : List (HloOp τ sig (Elt F))).Forall fun op => op.fresh = ∅ :=
  StableHlo.forall_fresh_of_map rfl
/-- What the operations of `while1Ops0_2` write, in order. -/
abbrev while1Ops0_2_W : List (Ref sig .tc) := [main_while1b_call6_c, main_while1b_call6_c_0, main_while1b_call6_v0, main_while1b_v79]
/-- `while1Ops0_2_W` bounds what `while1Ops0_2` writes. -/
theorem while1Ops0_2_writes : (while1Ops0_2 : List (HloOp τ sig (Elt F))).Forall fun op => op.writes ⊆ (while1Ops0_2_W.map (Proc.devRef (τ := τ) .tc)).toFinset :=
  StableHlo.forall_writes_sub_of_map rfl
/-- No operation of `while1Ops0_3` allocates a buffer. -/
theorem while1Ops0_3_fresh : (while1Ops0_3 : List (HloOp τ sig (Elt F))).Forall fun op => op.fresh = ∅ :=
  StableHlo.forall_fresh_of_map rfl
/-- What the operations of `while1Ops0_3` write, in order. -/
abbrev while1Ops0_3_W : List (Ref sig .tc) := [main_while1b_v80, main_while1b_v81]
/-- `while1Ops0_3_W` bounds what `while1Ops0_3` writes. -/
theorem while1Ops0_3_writes : (while1Ops0_3 : List (HloOp τ sig (Elt F))).Forall fun op => op.writes ⊆ (while1Ops0_3_W.map (Proc.devRef (τ := τ) .tc)).toFinset :=
  StableHlo.forall_writes_sub_of_map rfl
/-- No operation of `while1Ops0_4` allocates a buffer. -/
theorem while1Ops0_4_fresh : (while1Ops0_4 : List (HloOp τ sig (Elt F))).Forall fun op => op.fresh = ∅ :=
  StableHlo.forall_fresh_of_map rfl
/-- What the operations of `while1Ops0_4` write, in order. -/
abbrev while1Ops0_4_W : List (Ref sig .tc) := [main_while1b_call7_v0, main_while1b_call7_c, main_while1b_call7_c_0, main_while1b_v82]
/-- `while1Ops0_4_W` bounds what `while1Ops0_4` writes. -/
theorem while1Ops0_4_writes : (while1Ops0_4 : List (HloOp τ sig (Elt F))).Forall fun op => op.writes ⊆ (while1Ops0_4_W.map (Proc.devRef (τ := τ) .tc)).toFinset :=
  StableHlo.forall_writes_sub_of_map rfl
/-- No operation of `while1Ops0_5` allocates a buffer. -/
theorem while1Ops0_5_fresh : (while1Ops0_5 : List (HloOp τ sig (Elt F))).Forall fun op => op.fresh = ∅ :=
  StableHlo.forall_fresh_of_map rfl
/-- What the operations of `while1Ops0_5` write, in order. -/
abbrev while1Ops0_5_W : List (Ref sig .tc) := [main_while1b_c_24, main_while1b_v83, main_v69_2, main_v69_3, main_v69_4]
/-- `while1Ops0_5_W` bounds what `while1Ops0_5` writes. -/
theorem while1Ops0_5_writes : (while1Ops0_5 : List (HloOp τ sig (Elt F))).Forall fun op => op.writes ⊆ (while1Ops0_5_W.map (Proc.devRef (τ := τ) .tc)).toFinset :=
  StableHlo.forall_writes_sub_of_map rfl

end Cert.ReferenceIdeal.Lru

end
-- ==== Proof.Lru.RefRun.lean ====
/- The reference's run: its two loops of 4224 trips each among stretches of host operations. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.Lru.RefOps

@[expose] public section

noncomputable section

namespace Cert.ReferenceIdeal.Lru

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.StableHlo
open Idealize.ShloMosaic.Pipeline (CSeg Ticket PCfg ucRefs sub_ucRefs)

/-- What loop 0's condition runs: its bound, and the comparison of the counter with it. -/
abbrev cond0 : List (HloOp τ sig (Elt F)) :=
  [ StableHlo.nullary main_while0c_c_22 (constantI S_ 32 4224#32),
    StableHlo.binary main_v48_2 main_while0c_c_22 main_while0c_v76 (cmpi .slt) ]
/-- What it writes. -/
abbrev cond0_W : List (Ref sig .tc) := [main_while0c_c_22, main_while0c_v76]
theorem cond0_writes : (cond0 : List (HloOp τ sig (Elt F))).Forall fun op => op.writes ⊆ (cond0_W.map (Proc.devRef (τ := τ) .tc)).toFinset :=
  StableHlo.forall_writes_sub_of_map rfl
/-- Loop 0's body. -/
abbrev body0 : List (List (HloOp τ sig (Elt F))) := [while0Ops0, while0Ops0_1, while0Ops0_2, while0Ops0_3, while0Ops0_4]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.nil)))))

/-- What loop 1's condition runs: its bound, and the comparison of the counter with it. -/
abbrev cond1 : List (HloOp τ sig (Elt F)) :=
  [ StableHlo.nullary main_while1c_c_22 (constantI S_ 32 4224#32),
    StableHlo.binary main_v69_2 main_while1c_c_22 main_while1c_v76 (cmpi .slt) ]
/-- What it writes. -/
abbrev cond1_W : List (Ref sig .tc) := [main_while1c_c_22, main_while1c_v76]
theorem cond1_writes : (cond1 : List (HloOp τ sig (Elt F))).Forall fun op => op.writes ⊆ (cond1_W.map (Proc.devRef (τ := τ) .tc)).toFinset :=
  StableHlo.forall_writes_sub_of_map rfl
/-- Loop 1's body. -/
abbrev body1 : List (List (HloOp τ sig (Elt F))) := [while1Ops0, while1Ops0_1, while1Ops0_2, while1Ops0_3, while1Ops0_4, while1Ops0_5]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.nil))))))

/-- The stretches before the first loop, between the loops, and after the second. -/
abbrev before : List (List (HloOp τ sig (Elt F))) := [hostOps0, hostOps0_1, hostOps0_2, hostOps0_3, hostOps0_4]
abbrev between : List (List (HloOp τ sig (Elt F))) := [hostOps0_5]
abbrev behind : List (List (HloOp τ sig (Elt F))) := [hostOps0_6]
theorem before_plain : Plain (before (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem between_plain : Plain (between (F := F)) := .cons hostOps0_5_sub (hf := List.forall_iff_forall_mem.mp hostOps0_5_fresh) (.nil)
theorem behind_plain : Plain (behind (F := F)) := .cons hostOps0_6_sub (hf := List.forall_iff_forall_mem.mp hostOps0_6_fresh) (.nil)

variable (m : (ℓ : Loc nD τ sig) → Buf (Elt F) ℓ) (ρ : Dev nD → PrngReg)

/-- The buffers where the first loop starts, after it, where the second starts, after it, and at the end. -/
abbrev V0 (c : Dev nD) : Valuation τ sig (Elt F) := afterL before (launchContents m c)
abbrev V1 (c : Dev nD) : Valuation τ sig (Elt F) := after cond0 (atTrip cond0 body0 (V0 m) 4224 c)
abbrev V2 (c : Dev nD) : Valuation τ sig (Elt F) := afterL between (V1 m c)
abbrev V3 (c : Dev nD) : Valuation τ sig (Elt F) := after cond1 (atTrip cond1 body1 (V2 m) 4224 c)
abbrev V4 (c : Dev nD) : Valuation τ sig (Elt F) := afterL behind (V3 m c)

/-! Loop 0's counter: one stretch of the body steps it, the others leave it. -/

theorem ctr0_cond (V : Valuation τ sig (Elt F)) : after cond0 V (Proc.devRef .tc main_v48_2) = V (Proc.devRef .tc main_v48_2) :=
  after_of_writes_sub cond0 V cond0_writes (by decide +kernel)
theorem ctr0_while0Ops0 (V : Valuation τ sig (Elt F)) : after while0Ops0 V (Proc.devRef .tc main_v48_2) = V (Proc.devRef .tc main_v48_2) :=
  after_of_writes_sub while0Ops0 V while0Ops0_writes (by decide +kernel)
theorem ctr0_while0Ops0_1 (V : Valuation τ sig (Elt F)) : after while0Ops0_1 V (Proc.devRef .tc main_v48_2) = V (Proc.devRef .tc main_v48_2) :=
  after_of_writes_sub while0Ops0_1 V while0Ops0_1_writes (by decide +kernel)
theorem ctr0_while0Ops0_2 (V : Valuation τ sig (Elt F)) : after while0Ops0_2 V (Proc.devRef .tc main_v48_2) = V (Proc.devRef .tc main_v48_2) :=
  after_of_writes_sub while0Ops0_2 V while0Ops0_2_writes (by decide +kernel)
theorem ctr0_while0Ops0_3 (V : Valuation τ sig (Elt F)) : after while0Ops0_3 V (Proc.devRef .tc main_v48_2) = V (Proc.devRef .tc main_v48_2) :=
  after_of_writes_sub while0Ops0_3 V while0Ops0_3_writes (by decide +kernel)

set_option maxRecDepth 100000 in
theorem ctr0_step (X : Valuation τ sig (Elt F)) :
    after while0Ops0_4 X (Proc.devRef .tc main_v48_2) = addi (X (Proc.devRef .tc main_v48_2)) (constantI S_ 32 1#32) := by
  after_results
  rfl

set_option maxRecDepth 100000 in
theorem ctr0_entry (c : Dev nD) : V0 m c (Proc.devRef .tc main_v48_2) = fun _ => (0#32 : BitVec 32) := by
  simp only [V0, afterL_cons, afterL_nil]
  after_reads_simp
  rfl

/-- Before the condition's run `k` the counter is `k`. -/
theorem ctr0_at (c : Dev nD) : ∀ k, atTrip cond0 body0 (V0 m) k c (Proc.devRef .tc main_v48_2) = fun _ => Scf.iv 0#32 1#32 k
  | 0 => by rw [atTrip_zero, ctr0_entry, Scf.iv_zero]
  | k + 1 => by
    rw [atTrip_succ]
    simp only [afterL_cons, afterL_nil]
    rw [ctr0_step, ctr0_while0Ops0_3, ctr0_while0Ops0_2, ctr0_while0Ops0_1, ctr0_while0Ops0, ctr0_cond, ctr0_at c k, Scf.iv_succ]
    rfl

/-! Loop 1's counter: one stretch of the body steps it, the others leave it. -/

theorem ctr1_cond (V : Valuation τ sig (Elt F)) : after cond1 V (Proc.devRef .tc main_v69_2) = V (Proc.devRef .tc main_v69_2) :=
  after_of_writes_sub cond1 V cond1_writes (by decide +kernel)
theorem ctr1_while1Ops0 (V : Valuation τ sig (Elt F)) : after while1Ops0 V (Proc.devRef .tc main_v69_2) = V (Proc.devRef .tc main_v69_2) :=
  after_of_writes_sub while1Ops0 V while1Ops0_writes (by decide +kernel)
theorem ctr1_while1Ops0_1 (V : Valuation τ sig (Elt F)) : after while1Ops0_1 V (Proc.devRef .tc main_v69_2) = V (Proc.devRef .tc main_v69_2) :=
  after_of_writes_sub while1Ops0_1 V while1Ops0_1_writes (by decide +kernel)
theorem ctr1_while1Ops0_2 (V : Valuation τ sig (Elt F)) : after while1Ops0_2 V (Proc.devRef .tc main_v69_2) = V (Proc.devRef .tc main_v69_2) :=
  after_of_writes_sub while1Ops0_2 V while1Ops0_2_writes (by decide +kernel)
theorem ctr1_while1Ops0_3 (V : Valuation τ sig (Elt F)) : after while1Ops0_3 V (Proc.devRef .tc main_v69_2) = V (Proc.devRef .tc main_v69_2) :=
  after_of_writes_sub while1Ops0_3 V while1Ops0_3_writes (by decide +kernel)
theorem ctr1_while1Ops0_4 (V : Valuation τ sig (Elt F)) : after while1Ops0_4 V (Proc.devRef .tc main_v69_2) = V (Proc.devRef .tc main_v69_2) :=
  after_of_writes_sub while1Ops0_4 V while1Ops0_4_writes (by decide +kernel)

set_option maxRecDepth 100000 in
theorem ctr1_step (X : Valuation τ sig (Elt F)) :
    after while1Ops0_5 X (Proc.devRef .tc main_v69_2) = addi (X (Proc.devRef .tc main_v69_2)) (constantI S_ 32 1#32) := by
  after_results
  rfl

set_option maxRecDepth 100000 in
theorem ctr1_entry (c : Dev nD) : V2 m c (Proc.devRef .tc main_v69_2) = fun _ => (0#32 : BitVec 32) := by
  show after hostOps0_5 (V1 m c) (Proc.devRef .tc main_v69_2) = _
  generalize V1 m c = V
  after_reads_simp
  rfl

/-- Before the condition's run `k` the counter is `k`. -/
theorem ctr1_at (c : Dev nD) : ∀ k, atTrip cond1 body1 (V2 m) k c (Proc.devRef .tc main_v69_2) = fun _ => Scf.iv 0#32 1#32 k
  | 0 => by rw [atTrip_zero, ctr1_entry, Scf.iv_zero]
  | k + 1 => by
    rw [atTrip_succ]
    simp only [afterL_cons, afterL_nil]
    rw [ctr1_step, ctr1_while1Ops0_4, ctr1_while1Ops0_3, ctr1_while1Ops0_2, ctr1_while1Ops0_1, ctr1_while1Ops0, ctr1_cond, ctr1_at c k, Scf.iv_succ]
    rfl

/-- No kernel is launched, so nothing is admitted and no ticket is used. -/
abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev 𝒱 : Variants := Variants.none
abbrev Lx : GSem nD τ sig → Finset Unit := fun _ => ∅
abbrev lvx : GSem nD τ sig → Unit → ℕ := fun _ _ => 0

local notation "𝕄" => MT nD τ sig Unit (Elt F) ℕ (Option PUnit) ℕ

/-- What every segment carries along: the core owes nothing. -/
abbrev Rw (c : Dev nD) : sProp 𝕄 := iprop(∃ W, owes (c : Thread nD τ) (0 : CellTallies nD τ sig Unit) W)

set_option backward.isDefEq.respectTransparency.types false in
/-- Loop 0's condition holds exactly before the first 4224 trips. -/
theorem cond0_spec : LoopCond (Ix := Unit) (Name := ℕ) (U := Option PUnit) (Lvl := ℕ) (pcfgs (F := F)) defs₀ 𝒱 loops Rw (main_while0_cond (F := F)) cond0 body0 (V0 m) 4224 := by
  intro k hk c bd
  have hctr := ctr0_at m c k
  unfold main_while0_cond
  rw [wp_bind]
  iintro ⟨Hb, Hh, HR⟩
  iapply (wp_hlo_within (Variants.lift 𝒱) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (V0 m) k c) main_v48_2 HostLoop.idx0)
        (HloOp.result _ (atTrip cond0 body0 (V0 m) k c) main_while0c_c_22 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  isplitl [Hh]; · rw [after_cons, after_cons, after_nil]; iexact Hh
  iexact HR

set_option backward.isDefEq.respectTransparency.types false in
/-- Loop 1's condition holds exactly before the first 4224 trips. -/
theorem cond1_spec : LoopCond (Ix := Unit) (Name := ℕ) (U := Option PUnit) (Lvl := ℕ) (pcfgs (F := F)) defs₀ 𝒱 loops Rw (main_while1_cond (F := F)) cond1 body1 (V2 m) 4224 := by
  intro k hk c bd
  have hctr := ctr1_at m c k
  unfold main_while1_cond
  rw [wp_bind]
  iintro ⟨Hb, Hh, HR⟩
  iapply (wp_hlo_within (Variants.lift 𝒱) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (V2 m) k c) main_v69_2 HostLoop.idx0)
        (HloOp.result _ (atTrip cond1 body1 (V2 m) k c) main_while1c_c_22 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  isplitl [Hh]; · rw [after_cons, after_cons, after_nil]; iexact Hh
  iexact HR

/-- The whole program's segments. -/
def segs : List (CSeg (pcfgs (F := F)) adm defs₀ 𝒱 Lx lvx loops tk) :=
  segsOf _ _ _ _ _ _ _ _ Rw before before_plain (launchContents m)
    ++ loopSeg _ _ _ _ _ _ _ _ 0 main_while0_cond main_while0_body rfl cond0 body0 body0_plain
        (by rw [while0_body_chain]; rfl) 4224 (V0 m) Rw (cond0_spec m)
      :: (segsOf _ _ _ _ _ _ _ _ Rw between between_plain (V1 m)
        ++ loopSeg _ _ _ _ _ _ _ _ 1 main_while1_cond main_while1_body rfl cond1 body1 body1_plain
            (by rw [while1_body_chain]; rfl) 4224 (V2 m) Rw (cond1_spec m)
          :: segsOf _ _ _ _ _ _ _ _ Rw behind behind_plain (V3 m))

theorem segs_prog : (segs (F := F) m).map CSeg.prog
    = (before.map fun ops => (seq ops : Prog _ PUnit)) ++ HostLoop.enter 0 :: ((between.map fun ops => (seq ops : Prog _ PUnit))
        ++ HostLoop.enter 1 :: behind.map fun ops => (seq ops : Prog _ PUnit)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rw c)) (segs (F := F) m)
    (fun c => iprop(held (c : Thread nD τ) (ucRefs τ sig) (V4 m c) ∗ Rw c)) := by
  unfold segs
  exact CSeg.Chains.append (segsOf_chains _ _ _ _ _ _ _ _ Rw before before_plain _)
    ⟨fun _ => .rfl, CSeg.Chains.append (segsOf_chains _ _ _ _ _ _ _ _ Rw between between_plain _)
      ⟨fun _ => .rfl, segsOf_chains _ _ _ _ _ _ _ _ Rw behind behind_plain _⟩⟩

set_option maxRecDepth 100000 in
theorem main_eq (c : Dev nD) : main (F := F) c = Pipeline.chain ((segs m).map CSeg.prog) := by
  rw [segs_prog]
  exact main_chain c

/-- Every execution of the reference ends, and leaves every buffer as the stretches and trips in order make it. -/
theorem run_main : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = V4 m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ 𝒱 Lx lvx loops tk m ρ main (segs m)
    (fun c Q => by
      rw [main_eq m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (V4 m c)))
    (hch := segs_chains m)
    (hinit := by
      refine Pipeline.initEach Lx lvx fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = V4 m c b)
    (hfin := fun c s' => by
      unfold held
      iintro ⟨Hh, HSI⟩
      ihave Hr := (pointsTo_read_all (ucRefs τ sig) (fun b => ((c : Dev nD), b)) (fun b => V4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Lru

end
-- ==== Proof.Lru.RefLoop.lean ====
/- What the reference's second loop computes: the adjoint recurrence, from the last step to the first. -/
module

public import proofs.«01_k».proof.Proof.Lru.Spec
public import proofs.«01_k».proof.Proof.Lru.RefRun
public import Idealize.ShloMosaic.Lib.Pipeline.ValueKit
public import Idealize.ShloMosaic.Lib.Pipeline.ReadBack
public import Idealize.ShloMosaic.Lib.WordCmp

@[expose] public section

noncomputable section

namespace Cert.ReferenceIdeal.Lru

open Cert.ReferenceIdeal Cert.ReferenceIdeal.Gen Cert.Lru
open Idealize.ShloMosaic Idealize.ShloMosaic.TcCoe Idealize.ShloMosaic.Tactic
open Idealize.ShloMosaic.StableHlo

section Trips

variable {F : FTy → Type} [FloatOps F]

/-- Row `n` of an array of steps. -/
theorem row_fits {n : ℕ} (hn : n < 4224) : S4224x2x1024.Slices ![n, 0, 0] S1x2x1024 :=
  ⟨rfl, fun a => by fin_cases a <;> simp [S4224x2x1024, S1x2x1024] <;> omega⟩

/-- Row `n` of an array of steps, as a matrix. -/
def rowAt {α : Type} (n : ℕ) (hn : n < 4224) (v : S4224x2x1024.Idx → α) : S2x1024.Idx → α :=
  shapeCast S2x1024 (extractStridedSlice S1x2x1024 ![n, 0, 0] v (row_fits hn)) shapeCasts_S1x2x1024_S2x1024

/-- An array of steps read at step `n`, its rows repeated without end. -/
def stp (v : S4224x2x1024.Idx → EReal) (b : Fin 2) (l : Fin 1024) (n : ℕ) : EReal := v (ix3 ⟨n % 4224, Nat.mod_lt _ (by decide)⟩ b l)

theorem rowAt_apply {n : ℕ} (hn : n < 4224) (v : S4224x2x1024.Idx → EReal) (b : Fin 2) (l : Fin 1024) :
    rowAt n hn v (ix2 b l) = stp v b l n := by
  unfold rowAt stp
  pointwise
  congr 1
  rw [ix3_inj]
  refine ⟨Fin.ext ?_, rfl, rfl⟩
  show _ = n % 4224
  rw [Nat.mod_eq_of_lt hn]

set_option maxRecDepth 100000 in
theorem trip_state (X : Valuation τ sig (Elt F)) {n : ℕ} (hn : n < 4224) {w : BitVec 32} (hw : (4224#32 - w - 1#32).toInt = n)
    (hX : X (Proc.devRef .tc main_v69_2) = fun _ => w) :
    afterL body1 X (Proc.devRef .tc main_v69_3)
      = mulf (rowAt n hn (X (Proc.devRef .tc main_v69_1))) (addf (X (Proc.devRef .tc main_v69_3)) (rowAt n hn (X (Proc.devRef .tc main_v69_0)))) := by
  simp only [afterL_cons, afterL_nil]
  after_reads_simp
  rw [WordCmp.dynamicSlice_eq_extract S1x2x1024 _ _ _ ![n, 0, 0] (row_fits hn) (fun a => ?_),
    WordCmp.dynamicSlice_eq_extract S1x2x1024 _ _ _ ![n, 0, 0] (row_fits hn) (fun a => ?_)]
  · rfl
  · match a with
    | ⟨0, _⟩ =>
      show BitVec.toInt ((upto while1Ops0_1 (after while1Ops0 X) 2 (Proc.devRef .tc main_while1b_v77) : S_.Idx → BitVec 32) (Shape.Idx.first h_S_)) = _
      after_reads_simp
      rw [hX]
      exact hw
    | ⟨1, _⟩ =>
      show BitVec.toInt ((upto while1Ops0_1 (after while1Ops0 X) 2 (Proc.devRef .tc main_while1b_call5_c) : S_.Idx → BitVec 32) (Shape.Idx.first h_S_)) = _
      after_reads_simp
      rfl
    | ⟨2, _⟩ =>
      show BitVec.toInt ((upto while1Ops0_1 (after while1Ops0 X) 2 (Proc.devRef .tc main_while1b_call5_c_0) : S_.Idx → BitVec 32) (Shape.Idx.first h_S_)) = _
      after_reads_simp
      rfl
  · match a with
    | ⟨0, _⟩ =>
      show BitVec.toInt ((upto while1Ops0_2 (after while1Ops0_1 (after while1Ops0 X)) 2 (Proc.devRef .tc main_while1b_v77) : S_.Idx → BitVec 32) (Shape.Idx.first h_S_)) = _
      after_reads_simp
      rw [hX]
      exact hw
    | ⟨1, _⟩ =>
      show BitVec.toInt ((upto while1Ops0_2 (after while1Ops0_1 (after while1Ops0 X)) 2 (Proc.devRef .tc main_while1b_call6_c) : S_.Idx → BitVec 32) (Shape.Idx.first h_S_)) = _
      after_reads_simp
      rfl
    | ⟨2, _⟩ =>
      show BitVec.toInt ((upto while1Ops0_2 (after while1Ops0_1 (after while1Ops0 X)) 2 (Proc.devRef .tc main_while1b_call6_c_0) : S_.Idx → BitVec 32) (Shape.Idx.first h_S_)) = _
      after_reads_simp
      rfl

set_option maxRecDepth 100000 in
theorem trip_out (X : Valuation τ sig (Elt F)) {n : ℕ} (hn : n < 4224) {w : BitVec 32} (hw : (4224#32 - w - 1#32).toInt = n)
    (hX : X (Proc.devRef .tc main_v69_2) = fun _ => w) :
    afterL body1 X (Proc.devRef .tc main_v69_4)
      = updateSlice (X (Proc.devRef .tc main_v69_4)) (broadcastInDim S1x2x1024 ![1, 2] bcast_S2x1024_S1x2x1024_1_2
          (addf (X (Proc.devRef .tc main_v69_3)) (rowAt n hn (X (Proc.devRef .tc main_v69_0))))) ![n, 0, 0] (row_fits hn) := by
  simp only [afterL_cons, afterL_nil]
  after_reads_simp
  rw [WordCmp.dynamicSlice_eq_extract S1x2x1024 _ _ _ ![n, 0, 0] (row_fits hn) (fun a => ?_),
    WordCmp.dynamicUpdateSlice_eq_update _ _ _ _ ![n, 0, 0] (row_fits hn) (fun a => ?_)]
  · rfl
  · match a with
    | ⟨0, _⟩ =>
      show BitVec.toInt ((upto while1Ops0_4 (after while1Ops0_3 (after while1Ops0_2 (after while1Ops0_1 (after while1Ops0 X)))) 3 (Proc.devRef .tc main_while1b_v77) : S_.Idx → BitVec 32) (Shape.Idx.first h_S_)) = _
      after_reads_simp
      rw [hX]
      exact hw
    | ⟨1, _⟩ =>
      show BitVec.toInt ((upto while1Ops0_4 (after while1Ops0_3 (after while1Ops0_2 (after while1Ops0_1 (after while1Ops0 X)))) 3 (Proc.devRef .tc main_while1b_call7_c) : S_.Idx → BitVec 32) (Shape.Idx.first h_S_)) = _
      after_reads_simp
      rfl
    | ⟨2, _⟩ =>
      show BitVec.toInt ((upto while1Ops0_4 (after while1Ops0_3 (after while1Ops0_2 (after while1Ops0_1 (after while1Ops0 X)))) 3 (Proc.devRef .tc main_while1b_call7_c_0) : S_.Idx → BitVec 32) (Shape.Idx.first h_S_)) = _
      after_reads_simp
      rfl
  · match a with
    | ⟨0, _⟩ =>
      show BitVec.toInt ((upto while1Ops0_1 (after while1Ops0 X) 2 (Proc.devRef .tc main_while1b_v77) : S_.Idx → BitVec 32) (Shape.Idx.first h_S_)) = _
      after_reads_simp
      rw [hX]
      exact hw
    | ⟨1, _⟩ =>
      show BitVec.toInt ((upto while1Ops0_1 (after while1Ops0 X) 2 (Proc.devRef .tc main_while1b_call5_c) : S_.Idx → BitVec 32) (Shape.Idx.first h_S_)) = _
      after_reads_simp
      rfl
    | ⟨2, _⟩ =>
      show BitVec.toInt ((upto while1Ops0_1 (after while1Ops0 X) 2 (Proc.devRef .tc main_while1b_call5_c_0) : S_.Idx → BitVec 32) (Shape.Idx.first h_S_)) = _
      after_reads_simp
      rfl

/-- A trip of the second loop leaves what its stretches do not write. -/
theorem trip_same (X : Valuation τ sig (Elt F)) (b : Ref sig .tc) (h : b ∉ cond1_W) (h0 : b ∉ while1Ops0_W) (h1 : b ∉ while1Ops0_1_W)
    (h2 : b ∉ while1Ops0_2_W) (h3 : b ∉ while1Ops0_3_W) (h4 : b ∉ while1Ops0_4_W) (h5 : b ∉ while1Ops0_5_W) :
    afterL body1 (after cond1 X) (Proc.devRef .tc b) = X (Proc.devRef .tc b) := by
  simp only [afterL_cons, afterL_nil]
  rw [after_of_writes_sub while1Ops0_5 _ while1Ops0_5_writes h5, after_of_writes_sub while1Ops0_4 _ while1Ops0_4_writes h4,
    after_of_writes_sub while1Ops0_3 _ while1Ops0_3_writes h3, after_of_writes_sub while1Ops0_2 _ while1Ops0_2_writes h2,
    after_of_writes_sub while1Ops0_1 _ while1Ops0_1_writes h1, after_of_writes_sub while1Ops0 _ while1Ops0_writes h0,
    after_of_writes_sub cond1 _ cond1_writes h]

/-- A trip of the first loop leaves what its stretches do not write. -/
theorem trip0_same (X : Valuation τ sig (Elt F)) (b : Ref sig .tc) (h : b ∉ cond0_W) (h0 : b ∉ while0Ops0_W) (h1 : b ∉ while0Ops0_1_W)
    (h2 : b ∉ while0Ops0_2_W) (h3 : b ∉ while0Ops0_3_W) (h4 : b ∉ while0Ops0_4_W) :
    afterL body0 (after cond0 X) (Proc.devRef .tc b) = X (Proc.devRef .tc b) := by
  simp only [afterL_cons, afterL_nil]
  rw [after_of_writes_sub while0Ops0_4 _ while0Ops0_4_writes h4,
    after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub cond0 _ cond0_writes h]

variable (m : (ℓ : Loc nD τ sig) → Buf (Elt F) ℓ) (c : Dev nD)

theorem atTrip1_same (b : Ref sig .tc) (h : b ∉ cond1_W) (h0 : b ∉ while1Ops0_W) (h1 : b ∉ while1Ops0_1_W)
    (h2 : b ∉ while1Ops0_2_W) (h3 : b ∉ while1Ops0_3_W) (h4 : b ∉ while1Ops0_4_W) (h5 : b ∉ while1Ops0_5_W) :
    ∀ k, atTrip cond1 body1 (V2 m) k c (Proc.devRef .tc b) = V2 m c (Proc.devRef .tc b)
  | 0 => by rw [atTrip_zero]
  | k + 1 => by rw [atTrip_succ, trip_same _ b h h0 h1 h2 h3 h4 h5, atTrip1_same b h h0 h1 h2 h3 h4 h5 k]

theorem atTrip0_same (b : Ref sig .tc) (h : b ∉ cond0_W) (h0 : b ∉ while0Ops0_W) (h1 : b ∉ while0Ops0_1_W)
    (h2 : b ∉ while0Ops0_2_W) (h3 : b ∉ while0Ops0_3_W) (h4 : b ∉ while0Ops0_4_W) :
    ∀ k, atTrip cond0 body0 (V0 m) k c (Proc.devRef .tc b) = V0 m c (Proc.devRef .tc b)
  | 0 => by rw [atTrip_zero]
  | k + 1 => by rw [atTrip_succ, trip0_same _ b h h0 h1 h2 h3 h4, atTrip0_same b h h0 h1 h2 h3 h4 k]

theorem upd_apply {n : ℕ} (hn : n < 4224) (v : S4224x2x1024.Idx → EReal) (u : S2x1024.Idx → EReal) (t : Fin 4224) (b : Fin 2) (l : Fin 1024) :
    updateSlice v (broadcastInDim S1x2x1024 ![1, 2] bcast_S2x1024_S1x2x1024_1_2 u) ![n, 0, 0] (row_fits hn) (ix3 t b l)
      = if t.val = n then u (ix2 b l) else v (ix3 t b l) := by
  pointwise
  split
  · rename_i h
    rw [if_pos (by omega)]
  · rename_i h
    rw [if_neg (by omega)]

end Trips

variable (m : (ℓ : Loc nD τ sig) → Buf (Elt Ideal) ℓ) (c : Dev nD)

/-- The second loop's inputs and decays, step by step. -/
def xIn (b : Fin 2) (l : Fin 1024) : ℕ → EReal := stp (V2 m c (Proc.devRef .tc main_v69_0)) b l
/-- The second loop's decays, step by step. -/
def aIn (b : Fin 2) (l : Fin 1024) : ℕ → EReal := stp (V2 m c (Proc.devRef .tc main_v69_1)) b l

theorem word_at (k : ℕ) (hk : k < 4224) : (4224#32 - Scf.iv 0#32 1#32 k - 1#32).toInt = ((4223 - k : ℕ) : ℤ) := by
  have e : (4224#32 - Scf.iv 0#32 1#32 k - 1#32 : BitVec 32).toNat = 4223 - k := by
    unfold Scf.iv
    simp only [BitVec.toNat_sub, BitVec.toNat_add, BitVec.toNat_mul, BitVec.toNat_ofNat]
    omega
  rw [BitVec.toInt_eq_toNat_of_lt (by omega), e]

/-- One trip adds its step's input to the state. -/
theorem state_step (a x : ℕ → EReal) (k : ℕ) (hk : k < 4224) :
    (if k = 0 then 0 else a (4224 - k) * lin (nxt a) x k (4224 - k) 0) + x (4223 - k) = lin (nxt a) x (k + 1) (4223 - k) 0 := by
  show _ = x (4223 - k) + nxt a (4223 - k) * lin (nxt a) x k (4223 - k + 1) 0
  rw [add_comm, show 4223 - k + 1 = 4224 - k by omega]
  congr 1
  unfold nxt
  by_cases h : k = 0
  · rw [if_pos h, if_pos (by omega), zero_mul]
  · rw [if_neg h, if_neg (by omega), show 4223 - k + 1 = 4224 - k by omega]

set_option maxRecDepth 100000 in
theorem state_zero (b : Fin 2) (l : Fin 1024) : @Eq EReal (V2 m c (Proc.devRef .tc main_v69_3) (ix2 b l)) 0 := by
  show @Eq EReal (after hostOps0_5 (V1 m c) (Proc.devRef .tc main_v69_3) (ix2 b l)) 0
  generalize V1 m c = V
  after_reads_simp
  show @Eq EReal (broadcastInDim S2x1024 ![] bcast_S_S2x1024 (constant (F := Ideal) S_ FTy.f32 0#32) (ix2 b l)) 0
  pointwise

/-- The state before trip `k` is what the decay of the step just taken leaves of its adjoint. -/
theorem state_at (b : Fin 2) (l : Fin 1024) : ∀ k ≤ 4224,
    (atTrip cond1 body1 (V2 m) k c (Proc.devRef .tc main_v69_3) (ix2 b l) : EReal)
      = if k = 0 then 0 else aIn m c b l (4224 - k) * lin (nxt (aIn m c b l)) (xIn m c b l) k (4224 - k) 0
  | 0, _ => by
    rw [atTrip_zero, if_pos rfl]
    exact state_zero m c b l
  | k + 1, hk => by
    have hX : after cond1 (atTrip cond1 body1 (V2 m) k c) (Proc.devRef .tc main_v69_2) = fun _ => Scf.iv 0#32 1#32 k := by
      rw [ctr1_cond, ctr1_at]
    have ih := state_at b l k (by omega)
    rw [atTrip_succ, trip_state _ (n := 4223 - k) (by omega) (word_at k (by omega)) hX,
      after_of_writes_sub cond1 _ cond1_writes (r := main_v69_3) (by decide +kernel),
      after_of_writes_sub cond1 _ cond1_writes (r := main_v69_1) (by decide +kernel),
      after_of_writes_sub cond1 _ cond1_writes (r := main_v69_0) (by decide +kernel),
      atTrip1_same m c main_v69_1 (by decide +kernel) (by decide +kernel) (by decide +kernel) (by decide +kernel) (by decide +kernel) (by decide +kernel) (by decide +kernel),
      atTrip1_same m c main_v69_0 (by decide +kernel) (by decide +kernel) (by decide +kernel) (by decide +kernel) (by decide +kernel) (by decide +kernel) (by decide +kernel)]
    show rowAt _ _ _ _ * ((_ : EReal) + rowAt _ _ _ _ : EReal) = _
    rw [rowAt_apply, rowAt_apply, ih, if_neg (Nat.succ_ne_zero k), show 4224 - (k + 1) = 4223 - k by omega, ← state_step _ _ k (by omega)]
    rfl

/-- After `k` trips the last `k` steps' adjoints stand in their rows. -/
theorem out_at (b : Fin 2) (l : Fin 1024) (t : Fin 4224) : ∀ k ≤ 4224, 4224 ≤ t.val + k →
    (atTrip cond1 body1 (V2 m) k c (Proc.devRef .tc main_v69_4) (ix3 t b l) : EReal) = adj (aIn m c b l) (xIn m c b l) t.val
  | 0, _, h => absurd h (by omega)
  | k + 1, hk, h => by
    have hX : after cond1 (atTrip cond1 body1 (V2 m) k c) (Proc.devRef .tc main_v69_2) = fun _ => Scf.iv 0#32 1#32 k := by
      rw [ctr1_cond, ctr1_at]
    have hs := state_at m c b l k (by omega)
    rw [atTrip_succ, trip_out _ (n := 4223 - k) (by omega) (word_at k (by omega)) hX,
      after_of_writes_sub cond1 _ cond1_writes (r := main_v69_3) (by decide +kernel),
      after_of_writes_sub cond1 _ cond1_writes (r := main_v69_4) (by decide +kernel),
      after_of_writes_sub cond1 _ cond1_writes (r := main_v69_0) (by decide +kernel),
      atTrip1_same m c main_v69_0 (by decide +kernel) (by decide +kernel) (by decide +kernel) (by decide +kernel) (by decide +kernel) (by decide +kernel) (by decide +kernel)]
    refine (upd_apply (by omega) _ _ t b l).trans ?_
    split
    · rename_i e
      show ((_ : EReal) + rowAt _ _ _ _ : EReal) = _
      rw [rowAt_apply, hs]
      unfold adj
      rw [e, show 4224 - (4223 - k) = k + 1 by omega]
      exact state_step _ _ k (by omega)
    · exact out_at b l t k (by omega) (by omega)

/-- Behind the second loop. -/
theorem v3_out (b : Fin 2) (l : Fin 1024) (t : Fin 4224) :
    (V3 m c (Proc.devRef .tc main_v69_4) (ix3 t b l) : EReal) = adj (aIn m c b l) (xIn m c b l) t.val := by
  show (after cond1 (atTrip cond1 body1 (V2 m) 4224 c) (Proc.devRef .tc main_v69_4) (ix3 t b l) : EReal) = _
  rw [after_of_writes_sub cond1 _ cond1_writes (r := main_v69_4) (by decide +kernel)]
  exact out_at m c b l t 4224 le_rfl (by omega)

/-- What neither the loop nor the stretch before it writes is there behind it. -/
theorem v3_same (b : Ref sig .tc) (h : b ∉ cond1_W) (h0 : b ∉ while1Ops0_W) (h1 : b ∉ while1Ops0_1_W)
    (h2 : b ∉ while1Ops0_2_W) (h3 : b ∉ while1Ops0_3_W) (h4 : b ∉ while1Ops0_4_W) (h5 : b ∉ while1Ops0_5_W) (hb : b ∉ hostOps0_5_W) :
    V3 m c (Proc.devRef .tc b) = V1 m c (Proc.devRef .tc b) := by
  show after cond1 (atTrip cond1 body1 (V2 m) 4224 c) (Proc.devRef .tc b) = _
  rw [after_of_writes_sub cond1 _ cond1_writes h, atTrip1_same m c b h h0 h1 h2 h3 h4 h5]
  exact after_of_writes_sub hostOps0_5 _ hostOps0_5_writes hb

/-- What neither loop writes is, behind the first, as the first stretches left it. -/
theorem v1_same (b : Ref sig .tc) (h : b ∉ cond0_W) (h0 : b ∉ while0Ops0_W) (h1 : b ∉ while0Ops0_1_W)
    (h2 : b ∉ while0Ops0_2_W) (h3 : b ∉ while0Ops0_3_W) (h4 : b ∉ while0Ops0_4_W) :
    V1 m c (Proc.devRef .tc b) = V0 m c (Proc.devRef .tc b) := by
  show after cond0 (atTrip cond0 body0 (V0 m) 4224 c) (Proc.devRef .tc b) = _
  rw [after_of_writes_sub cond0 _ cond0_writes h, atTrip0_same m c b h h0 h1 h2 h3 h4]

end Cert.ReferenceIdeal.Lru

end
-- ==== Proof.Lru.RefVal.lean ====
/- What the reference leaves in its two results, entry by entry. -/
module

public import proofs.«01_k».proof.Proof.Lru.RefLoop

@[expose] public section

noncomputable section

namespace Cert.ReferenceIdeal.Lru

open Cert.ReferenceIdeal Cert.ReferenceIdeal.Gen Cert.Lru
open Idealize.ShloMosaic Idealize.ShloMosaic.TcCoe Idealize.ShloMosaic.Tactic
open Idealize.ShloMosaic.StableHlo

variable (m : (ℓ : Loc nD τ sig) → Buf (Elt Ideal) ℓ) (c : Dev nD)

/-- The reference's arguments. -/
abbrev aDy : A3 := launchContents m c (Proc.devRef .tc main_arg0)
abbrev aG : AG := launchContents m c (Proc.devRef .tc main_arg1)
abbrev aU : AU := launchContents m c (Proc.devRef .tc main_arg2)
abbrev aRa : A3 := launchContents m c (Proc.devRef .tc main_arg3)
abbrev aIx : A3 := launchContents m c (Proc.devRef .tc main_arg4)
abbrev aBa : A1 := launchContents m c (Proc.devRef .tc main_arg5)
abbrev aBx : A1 := launchContents m c (Proc.devRef .tc main_arg6)
abbrev aLam : A1 := launchContents m c (Proc.devRef .tc main_arg7)

set_option maxRecDepth 100000 in
theorem soft_at (X : Valuation τ sig (Elt Ideal)) (l : Fin 1024) : @Eq EReal (after hostOps0_1 X (Proc.devRef .tc main_v25) (ix1 l))
    (ls (X (Proc.devRef .tc main_arg7) (ix1 l))) := by
  after_reads_simp
  simp only [TRef.ofBuf, TRef.toBuf, cast_eq]
  pointwise
  rw [if_neg (fun h => h rfl)]
  rfl

set_option maxRecDepth 100000 in
theorem v19_at (b : Fin 2) (t : Fin 4224) (l : Fin 1024) : @Eq EReal (V0 m c (Proc.devRef .tc main_v19) (ix3 b t l))
    (gateAt (aIx m c) (aBx m c) b l t.val) := by
  unfold gateAt aIx aBx V0
  simp only [afterL_cons, afterL_nil]
  generalize launchContents m c = V
  after_reads_simp
  pointwise
  rw [stepOf_val]
  rfl

set_option maxRecDepth 100000 in
theorem v22_at (b : Fin 2) (t : Fin 4224) (l : Fin 1024) : @Eq EReal (V0 m c (Proc.devRef .tc main_v22) (ix3 b t l))
    (gateAt (aIx m c) (aBx m c) b l t.val * (1 - gateAt (aIx m c) (aBx m c) b l t.val)) := by
  unfold gateAt aIx aBx V0
  simp only [afterL_cons, afterL_nil]
  generalize launchContents m c = V
  after_reads_simp
  pointwise
  rw [stepOf_val]
  rfl

set_option maxRecDepth 100000 in
theorem v1_at (b : Fin 2) (t : Fin 4224) (l : Fin 1024) : @Eq EReal (V0 m c (Proc.devRef .tc main_v1) (ix3 b t l))
    (aU m c (ix3 b t ⟨1536 + l.val, by omega⟩)) := by
  unfold aU V0
  simp only [afterL_cons, afterL_nil]
  generalize launchContents m c = V
  after_reads_simp
  pointwise

set_option maxRecDepth 100000 in
theorem v0_at (b : Fin 2) (t : Fin 4224) (l : Fin 1024) : @Eq EReal (V0 m c (Proc.devRef .tc main_v0) (ix3 b t l))
    (aG m c (ix3 b t ⟨7168 + l.val, by omega⟩)) := by
  unfold aG V0
  simp only [afterL_cons, afterL_nil]
  generalize launchContents m c = V
  after_reads_simp
  pointwise

/-- Behind the parameter's stretch. -/
def mid : Valuation τ sig (Elt Ideal) := after hostOps0_1 (after hostOps0 (launchContents m c))

theorem mid_v25 (l : Fin 1024) : @Eq EReal (mid m c (Proc.devRef .tc main_v25) (ix1 l)) (ls (aLam m c (ix1 l))) := by
  unfold mid
  rw [soft_at, after_of_writes_sub hostOps0 _ hostOps0_writes (r := main_arg7) (by decide +kernel)]

set_option maxRecDepth 100000 in
theorem mid_v24 (b : Fin 2) (t : Fin 4224) (l : Fin 1024) : @Eq EReal (mid m c (Proc.devRef .tc main_v24) (ix3 b t l))
    (Ideal.ofBits .f32 0x41000000#32 * gateAt (aRa m c) (aBa m c) b l t.val) := by
  unfold gateAt aRa aBa mid
  generalize launchContents m c = V
  after_reads_simp
  pointwise
  rw [stepOf_val]
  rfl

set_option maxRecDepth 100000 in
theorem v45_at (b : Fin 2) (t : Fin 4224) (l : Fin 1024) : @Eq EReal (V0 m c (Proc.devRef .tc main_v45) (ix3 t b l))
    (decayAt (aRa m c) (aBa m c) (aLam m c) b l t.val) := by
  have h5 := mid_v25 m c l
  have h4 := mid_v24 m c b t l
  unfold decayAt decay
  rw [← h5, ← h4]
  unfold V0
  simp only [afterL_cons, afterL_nil]
  change @Eq EReal (after hostOps0_4 (after hostOps0_3 (after hostOps0_2 (mid m c))) (Proc.devRef .tc main_v45) (ix3 t b l)) _
  generalize mid m c = V
  after_reads_simp
  pointwise

set_option maxRecDepth 100000 in
theorem v39_at (b : Fin 2) (t : Fin 4224) (l : Fin 1024) : @Eq EReal (V0 m c (Proc.devRef .tc main_v39) (ix3 b t l))
    (multAt (aRa m c) (aBa m c) (aLam m c) b l t.val) := by
  have h5 := mid_v25 m c l
  have h4 := mid_v24 m c b t l
  unfold multAt mult
  rw [← h5, ← h4]
  unfold V0
  simp only [afterL_cons, afterL_nil]
  rw [after_of_writes_sub hostOps0_4 _ hostOps0_4_writes (r := main_v39) (by decide +kernel)]
  change @Eq EReal (after hostOps0_3 (after hostOps0_2 (mid m c)) (Proc.devRef .tc main_v39) (ix3 b t l)) _
  generalize mid m c = V
  after_reads_simp
  simp only [TRef.ofBuf, TRef.toBuf, cast_eq]
  pointwise
  unfold Scalar.select
  have h1 : @Eq EReal (id (constant (F := Ideal) S_ FTy.f32 1065353216#32) ix0) 1 := by
    show @Eq EReal (constant (F := Ideal) S_ FTy.f32 1065353216#32 ix0) 1
    pointwise
  refine if_congr ?_ h1 rfl
  show IntOp.cmpi .eq (BitVec.ofNat 32 t.val) 0#32 = 1#1 ↔ t.val = 0
  rw [IntOp.cmpi_eq]
  have : t.val < 4224 := t.isLt
  constructor
  · intro h
    have h' := congrArg BitVec.toNat h
    simp only [BitVec.toNat_ofNat] at h'
    omega
  · intro h
    rw [h]

set_option maxRecDepth 100000 in
theorem xIn_at (b : Fin 2) (l : Fin 1024) (n : ℕ) : xIn m c b l n = inAt (aDy m c) (aG m c) b l n := by
  have h0 := v0_at m c b (stepOf n) l
  have hd : @Eq EReal (V0 m c (Proc.devRef .tc main_arg0) (ix3 b (stepOf n) l)) (aDy m c (ix3 b (stepOf n) l)) := by
    unfold V0
    simp only [afterL_cons, afterL_nil]
    rw [after_of_writes_sub hostOps0_4 _ hostOps0_4_writes (r := main_arg0) (by decide +kernel),
      after_of_writes_sub hostOps0_3 _ hostOps0_3_writes (r := main_arg0) (by decide +kernel),
      after_of_writes_sub hostOps0_2 _ hostOps0_2_writes (r := main_arg0) (by decide +kernel),
      after_of_writes_sub hostOps0_1 _ hostOps0_1_writes (r := main_arg0) (by decide +kernel),
      after_of_writes_sub hostOps0 _ hostOps0_writes (r := main_arg0) (by decide +kernel)]
  unfold inAt act gelu
  rw [← h0, ← hd, ← v1_same m c main_v0 (by decide +kernel) (by decide +kernel) (by decide +kernel) (by decide +kernel) (by decide +kernel) (by decide +kernel),
    ← v1_same m c main_arg0 (by decide +kernel) (by decide +kernel) (by decide +kernel) (by decide +kernel) (by decide +kernel) (by decide +kernel)]
  unfold xIn stp
  change @Eq EReal (after hostOps0_5 (V1 m c) (Proc.devRef .tc main_v69_0) (ix3 (stepOf n) b l)) _
  generalize V1 m c = V
  after_reads_simp
  show @Eq EReal (transpose S4224x2x1024 [1, 0, 2] _ transposes_S2x4224x1024_S4224x2x1024_1_0_2 (ix3 (stepOf n) b l)) _
  pointwise

theorem aIn_at (b : Fin 2) (l : Fin 1024) (n : ℕ) : aIn m c b l n = decayAt (aRa m c) (aBa m c) (aLam m c) b l n := by
  have h := v45_at m c b (stepOf n) l
  have e : decayAt (aRa m c) (aBa m c) (aLam m c) b l (stepOf n).val = decayAt (aRa m c) (aBa m c) (aLam m c) b l n := by
    unfold decayAt gateAt
    rw [stepOf_val]
  rw [← e, ← h, ← v1_same m c main_v45 (by decide +kernel) (by decide +kernel) (by decide +kernel) (by decide +kernel) (by decide +kernel) (by decide +kernel)]
  unfold aIn stp
  change @Eq EReal (after hostOps0_5 (V1 m c) (Proc.devRef .tc main_v69_1) (ix3 (stepOf n) b l)) _
  generalize V1 m c = V
  after_reads_simp
  rfl

end Cert.ReferenceIdeal.Lru

end
-- ==== Proof.Lru.RefOut.lean ====
/- The reference's two results. -/
module

public import proofs.«01_k».proof.Proof.Lru.RefVal

@[expose] public section

noncomputable section

namespace Cert.ReferenceIdeal.Lru

open Cert.ReferenceIdeal Cert.ReferenceIdeal.Gen Cert.Lru
open Idealize.ShloMosaic Idealize.ShloMosaic.TcCoe Idealize.ShloMosaic.Tactic
open Idealize.ShloMosaic.StableHlo

variable (m : (ℓ : Loc nD τ sig) → Buf (Elt Ideal) ℓ) (c : Dev nD)

theorem xa_at (b : Fin 2) (l : Fin 1024) (t : Fin 4224) : @Eq EReal (V3 m c (Proc.devRef .tc main_v69_4) (ix3 t b l))
    (adjAt (aDy m c) (aG m c) (aRa m c) (aBa m c) (aLam m c) b l t.val) := by
  refine (v3_out m c b l t).trans ?_
  unfold adjAt
  exact congrFun (congrArg₂ adj (funext fun n => aIn_at m c b l n) (funext fun n => xIn_at m c b l n)) _

theorem behind_at (b : Ref sig .tc) (h : b ∉ cond1_W) (h0 : b ∉ while1Ops0_W) (h1 : b ∉ while1Ops0_1_W)
    (h2 : b ∉ while1Ops0_2_W) (h3 : b ∉ while1Ops0_3_W) (h4 : b ∉ while1Ops0_4_W) (h5 : b ∉ while1Ops0_5_W) (hb : b ∉ hostOps0_5_W)
    (g : b ∉ cond0_W) (g0 : b ∉ while0Ops0_W) (g1 : b ∉ while0Ops0_1_W)
    (g2 : b ∉ while0Ops0_2_W) (g3 : b ∉ while0Ops0_3_W) (g4 : b ∉ while0Ops0_4_W) :
    V3 m c (Proc.devRef .tc b) = V0 m c (Proc.devRef .tc b) :=
  (v3_same m c b h h0 h1 h2 h3 h4 h5 hb).trans (v1_same m c b g g0 g1 g2 g3 g4)

theorem v3_v39 : V3 m c (Proc.devRef .tc main_v39) = V0 m c (Proc.devRef .tc main_v39) := by
  refine behind_at m c _ ?_ ?_ ?_ ?_ ?_ ?_ ?_ ?_ ?_ ?_ ?_ ?_ ?_ ?_ <;> decide +kernel
theorem v3_v19 : V3 m c (Proc.devRef .tc main_v19) = V0 m c (Proc.devRef .tc main_v19) := by
  refine behind_at m c _ ?_ ?_ ?_ ?_ ?_ ?_ ?_ ?_ ?_ ?_ ?_ ?_ ?_ ?_ <;> decide +kernel
theorem v3_v22 : V3 m c (Proc.devRef .tc main_v22) = V0 m c (Proc.devRef .tc main_v22) := by
  refine behind_at m c _ ?_ ?_ ?_ ?_ ?_ ?_ ?_ ?_ ?_ ?_ ?_ ?_ ?_ ?_ <;> decide +kernel
theorem v3_v1 : V3 m c (Proc.devRef .tc main_v1) = V0 m c (Proc.devRef .tc main_v1) := by
  refine behind_at m c _ ?_ ?_ ?_ ?_ ?_ ?_ ?_ ?_ ?_ ?_ ?_ ?_ ?_ ?_ <;> decide +kernel

set_option maxRecDepth 100000 in
/-- The gradient of the recurrence's input. -/
theorem v72_at (b : Fin 2) (t : Fin 4224) (l : Fin 1024) : @Eq EReal (V4 m c (Proc.devRef .tc main_v72) (ix3 b t l))
    (resX (aDy m c) (aG m c) (aRa m c) (aIx m c) (aBa m c) (aBx m c) (aLam m c) b t l) := by
  have ha := xa_at m c b l t
  have h39 := v39_at m c b t l
  have h19 := v19_at m c b t l
  unfold resX outX
  rw [← ha, ← h39, ← h19, ← v3_v39, ← v3_v19]
  change @Eq EReal (after hostOps0_6 (V3 m c) (Proc.devRef .tc main_v72) (ix3 b t l)) _
  generalize V3 m c = V
  after_reads_simp
  pointwise

set_option maxRecDepth 100000 in
/-- The gradient of the input gate's preactivation. -/
theorem v75_at (b : Fin 2) (t : Fin 4224) (l : Fin 1024) : @Eq EReal (V4 m c (Proc.devRef .tc main_v75) (ix3 b t l))
    (resI (aDy m c) (aG m c) (aU m c) (aRa m c) (aIx m c) (aBa m c) (aBx m c) (aLam m c) b t l) := by
  have ha := xa_at m c b l t
  have h39 := v39_at m c b t l
  have h22 := v22_at m c b t l
  have h1 := v1_at m c b t l
  unfold resI outI
  rw [← ha, ← h39, ← h22, ← h1, ← v3_v39, ← v3_v22, ← v3_v1]
  change @Eq EReal (after hostOps0_6 (V3 m c) (Proc.devRef .tc main_v75) (ix3 b t l)) _
  generalize V3 m c = V
  after_reads_simp
  pointwise

end Cert.ReferenceIdeal.Lru

end
-- ==== Proof.Lru.Claim.lean ====
/- The claims about the recurrence's gradients. -/
module

public import proofs.«01_k».proof.Defs
public import proofs.«01_k».proof.Proof.Lru.Result
public import proofs.«01_k».proof.Proof.Lru.RefOut
public import proofs.«01_k».proof.Proof.Gen.Kernel
public import proofs.«01_k».proof.Proof.Gen.Pre_finite
public import Idealize.ShloMosaic.Lib.Quiescent

@[expose] public section

set_option maxRecDepth 16384

noncomputable section

namespace Cert.ReferenceIdeal.Lru

open Cert.ReferenceIdeal Cert.ReferenceIdeal.Gen
open Idealize.ShloMosaic Idealize.ShloMosaic.TcCoe Idealize.ShloMosaic.StableHlo Idealize.SL.Sem

abbrev args : List (Ref sig .tc) := [main_arg0, main_arg1, main_arg2, main_arg3, main_arg4, main_arg5, main_arg6, main_arg7]

variable (m : (ℓ : Loc nD τ sig) → Buf (Elt Ideal) ℓ) (c : Dev nD)

/-- No stretch and no trip writes an argument. -/
theorem arg_same (b : Ref sig .tc) (hb : b ∈ args) : V4 m c (Proc.devRef .tc b) = m ((c.tc : Thread nD τ).loc b) := by
  show afterL behind (V3 m c) _ = _
  simp only [afterL_cons, afterL_nil]
  rw [after_of_writes_sub hostOps0_6 _ hostOps0_6_writes ((by decide +kernel : ∀ b ∈ args, b ∉ hostOps0_6_W) b hb),
    v3_same m c b ((by decide +kernel : ∀ b ∈ args, b ∉ cond1_W) b hb) ((by decide +kernel : ∀ b ∈ args, b ∉ while1Ops0_W) b hb)
      ((by decide +kernel : ∀ b ∈ args, b ∉ while1Ops0_1_W) b hb) ((by decide +kernel : ∀ b ∈ args, b ∉ while1Ops0_2_W) b hb)
      ((by decide +kernel : ∀ b ∈ args, b ∉ while1Ops0_3_W) b hb) ((by decide +kernel : ∀ b ∈ args, b ∉ while1Ops0_4_W) b hb)
      ((by decide +kernel : ∀ b ∈ args, b ∉ while1Ops0_5_W) b hb) ((by decide +kernel : ∀ b ∈ args, b ∉ hostOps0_5_W) b hb),
    v1_same m c b ((by decide +kernel : ∀ b ∈ args, b ∉ cond0_W) b hb) ((by decide +kernel : ∀ b ∈ args, b ∉ while0Ops0_W) b hb)
      ((by decide +kernel : ∀ b ∈ args, b ∉ while0Ops0_1_W) b hb) ((by decide +kernel : ∀ b ∈ args, b ∉ while0Ops0_2_W) b hb)
      ((by decide +kernel : ∀ b ∈ args, b ∉ while0Ops0_3_W) b hb) ((by decide +kernel : ∀ b ∈ args, b ∉ while0Ops0_4_W) b hb)]
  show afterL before (launchContents m c) _ = _
  simp only [afterL_cons, afterL_nil]
  rw [after_of_writes_sub hostOps0_4 _ hostOps0_4_writes ((by decide +kernel : ∀ b ∈ args, b ∉ hostOps0_4_W) b hb),
    after_of_writes_sub hostOps0_3 _ hostOps0_3_writes ((by decide +kernel : ∀ b ∈ args, b ∉ hostOps0_3_W) b hb),
    after_of_writes_sub hostOps0_2 _ hostOps0_2_writes ((by decide +kernel : ∀ b ∈ args, b ∉ hostOps0_2_W) b hb),
    after_of_writes_sub hostOps0_1 _ hostOps0_1_writes ((by decide +kernel : ∀ b ∈ args, b ∉ hostOps0_1_W) b hb),
    after_of_writes_sub hostOps0 _ hostOps0_writes ((by decide +kernel : ∀ b ∈ args, b ∉ hostOps0_W) b hb)]

/-- The reference's run: its two results, and its arguments as they were. -/
theorem run_all (ρ : Dev nD → PrngReg) : θ_run (defs (F := Ideal)) (onTc (τ := τ) (main (F := Ideal))) ⟨m, fun _ => 0, ρ⟩ (fun r => ∀ c : Dev nD,
    r.2.mem ((c.tc : Thread nD τ).loc main_v75) = V4 m c (Proc.devRef .tc main_v75)
    ∧ r.2.mem ((c.tc : Thread nD τ).loc main_v72) = V4 m c (Proc.devRef .tc main_v72)
    ∧ ∀ b ∈ args, r.2.mem ((c.tc : Thread nD τ).loc b) = m ((c.tc : Thread nD τ).loc b)) :=
  (θ_run defs _ _).mono (fun _ h c => ⟨h c main_v75 (by decide), h c main_v72 (by decide), fun b hb =>
    (h c b ((by decide +kernel : ∀ b ∈ args, (Proc.devRef .tc b : DevRef τ sig).isScoped = false) b hb)).trans (arg_same m c b hb)⟩) (run_main (F := Ideal) m ρ)

theorem frame : Cert.quiescent_ReferenceIdeal := fun m ρ _ =>
  (θ_run defs _ _).mono (fun r h => ⟨fun c => ⟨(h c).2.2 _ (by decide), (h c).2.2 _ (by decide), (h c).2.2 _ (by decide), (h c).2.2 _ (by decide),
    (h c).2.2 _ (by decide), (h c).2.2 _ (by decide), (h c).2.2 _ (by decide), (h c).2.2 _ (by decide)⟩, sem_eq_zero_of_no_sems (by decide) r.2⟩) (run_all m ρ)

end Cert.ReferenceIdeal.Lru

namespace Cert.KernelIdeal.Lru

open Cert.KernelIdeal Cert.KernelIdeal.Gen Cert.Lru
open Idealize.ShloMosaic Idealize.ShloMosaic.TcCoe Idealize.SL.Sem

abbrev args : List (Ref sig .tc) := [main_arg0, main_arg1, main_arg2, main_arg3, main_arg4, main_arg5, main_arg6, main_arg7]

section runs
variable {F : FTy → Type} [FloatOps F] (m : (ℓ : Loc nD τ sig) → Buf (Elt F) ℓ)

/-- Neither region writes an argument. -/
theorem arg_same (c : Dev nD) (b : Ref sig .tc) (hb : b ∈ args) : W3v m c b = m ((c.tc : Thread nD τ).loc b) := by
  rw [W3v_of m c b ((by decide : ∀ b ∈ args, b ∉ ([main_v6_0, main_v6_1, main_v6_2, main_v6_3, main_v6_4] : List (Ref sig .tc))) b hb),
    W2v_of m c b ((by decide : ∀ b ∈ args, b ∉ ([main_v5_0, main_v5_1, main_v5_2] : List (Ref sig .tc))) b hb),
    V1_of m c b ((by decide : ∀ b ∈ args, b ∉ hostOps0_W) b hb)]

theorem uc_mem (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs b, by rw [h]; exact Bool.false_ne_true⟩

/-- The kernel's run: its two results, its arguments as they were, its counters at zero. -/
theorem run_all (ρ : Dev nD → PrngReg) : θ_run (defs (F := F)) (onTc (τ := τ) (main (F := F))) ⟨m, fun _ => 0, ρ⟩ (fun r => (∀ c : Dev nD,
    r.2.mem ((c.tc : Thread nD τ).loc main_v6_2) = (bdat (W2 m) c).arrAt 12 cfg1.N
    ∧ r.2.mem ((c.tc : Thread nD τ).loc main_v6_3) = (bdat (W2 m) c).arrAt 13 cfg1.N
    ∧ ∀ b ∈ args, r.2.mem ((c.tc : Thread nD τ).loc b) = m ((c.tc : Thread nD τ).loc b)) ∧ r.2.sem = fun _ => 0) :=
  (θ_run defs _ _).mono (fun _ h => ⟨fun c => ⟨(h.1 c _ (uc_mem main_v6_2 (by decide))).trans (W3v_main_v6_2 m c),
    (h.1 c _ (uc_mem main_v6_3 (by decide))).trans (W3v_main_v6_3 m c), fun b hb =>
    (h.1 c _ (uc_mem b ((by decide : ∀ b ∈ args, (Proc.devRef .tc b : DevRef τ sig).isScoped = false) b hb))).trans (arg_same m c b hb)⟩, h.2⟩) (run_main (F := F) m ρ)

theorem run_args (ρ : Dev nD → PrngReg) : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  (θ_run defs _ _).mono (fun r h => ⟨fun c => ⟨(h.1 c).2.2 _ (by decide), (h.1 c).2.2 _ (by decide), (h.1 c).2.2 _ (by decide), (h.1 c).2.2 _ (by decide),
    (h.1 c).2.2 _ (by decide), (h.1 c).2.2 _ (by decide), (h.1 c).2.2 _ (by decide), (h.1 c).2.2 _ (by decide)⟩, h.2⟩) (run_all m ρ)

end runs

theorem frame : Cert.quiescent_KernelIdeal := fun m ρ _ => run_args (F := Ideal) m ρ

/-- An extended real whose absolute value is below infinity is a real number. -/
theorem real_of_abs {x : EReal} (h : max x (-x) < ⊤) : ∃ q : ℝ, x = q := by
  induction x with
  | bot => exact absurd (lt_of_le_of_lt (le_max_right _ _) h) (by simp)
  | top => exact absurd (lt_of_le_of_lt (le_max_left _ _) h) (by simp)
  | coe q => exact ⟨q, rfl⟩

/-- What the precondition says of the decay's parameter. -/
theorem lam_real (x0 : FVec Ideal Cert.Pre_finite.S2x4224x1024 .f32) (x1 : FVec Ideal Cert.Pre_finite.S2x4224x10880 .f32) (x2 : FVec Ideal Cert.Pre_finite.S2x4224x2560 .f32)
    (x3 x4 : FVec Ideal Cert.Pre_finite.S2x4224x1024 .f32) (x5 x6 x7 : FVec Ideal Cert.Pre_finite.S1024 .f32)
    (h : Cert.Pre_finite.fn (F := Ideal) x0 x1 x2 x3 x4 x5 x6 x7 = fun _ => 1#1) (l : Fin 1024) : ∃ q : ℝ, @Eq EReal (x7 (ix1 l)) q := by
  have e := congrFun h (ix1 l)
  have e' : @Eq (BitVec 1) (FloatOps.cmpf (F := Ideal) (φ := .f32) .olt (FloatOps.absf (x7 (ix1 l))) (FloatOps.ofBits .f32 0x7F800000#32)) 1#1 := by
    rw [← e]
    unfold Cert.Pre_finite.fn
    pointwise
  have ht : Ideal.ofBits .f32 0x7F800000#32 = ⊤ := by simp [Ideal.ofBits, Ideal.ieee]
  refine real_of_abs ?_
  by_contra hn
  refine absurd e' ?_
  show ¬ Ideal.cmp .olt _ (Ideal.ofBits .f32 0x7F800000#32) = 1#1
  rw [ht]
  show ¬ BitVec.ofBool (decide (max (x7 (ix1 l)) (-x7 (ix1 l)) < (⊤ : EReal))) = 1#1
  rw [decide_eq_false hn]
  decide

theorem algebraic : Cert.algebraic_KernelIdeal_ReferenceIdeal_pre_finite := by
  intro m ρ m' ρ' hpre hagree
  refine ⟨fun c => finI (W2 m) c (V0 m c main_arg5) (V0 m c main_arg6) (V0 m c main_arg7), fun c => finX (W2 m) c (V0 m c main_arg5) (V0 m c main_arg6) (V0 m c main_arg7), ?_, ?_⟩
  · refine (θ_run defs _ _).mono (fun r h c => ?_) (run_all (F := Ideal) m ρ)
    have hG := given m c (fun l => lam_real _ _ _ _ _ _ _ _ (hpre c) l)
    exact ⟨(h.1 c).1.trans (dix_final hG), (h.1 c).2.1.trans (dxc_final hG), (h.1 c).2.2 _ (by decide), (h.1 c).2.2 _ (by decide), (h.1 c).2.2 _ (by decide),
      (h.1 c).2.2 _ (by decide), (h.1 c).2.2 _ (by decide), (h.1 c).2.2 _ (by decide), (h.1 c).2.2 _ (by decide), (h.1 c).2.2 _ (by decide)⟩
  · refine (θ_run Cert.ReferenceIdeal.defs _ _).mono (fun r h c => ?_) (Cert.ReferenceIdeal.Lru.run_all m' ρ')
    obtain ⟨e0, e1, e2, e3, e4, e5, e6, e7⟩ := hagree c
    have w (b : Ref sig .tc) (hb : b ∈ args) : W2v m c b = m ((c.tc : Thread nD τ).loc b) :=
      (W2v_of m c b ((by decide : ∀ b ∈ args, b ∉ ([main_v5_0, main_v5_1, main_v5_2] : List (Ref sig .tc))) b hb)).trans
        (V1_of m c b ((by decide : ∀ b ∈ args, b ∉ hostOps0_W) b hb))
    have a0 : Cert.ReferenceIdeal.Lru.aDy m' c = bDy (W2 m) c := e0.trans (w main_arg0 (by decide)).symm
    have a1 : Cert.ReferenceIdeal.Lru.aG m' c = bG (W2 m) c := e1.trans (w main_arg1 (by decide)).symm
    have a2 : Cert.ReferenceIdeal.Lru.aU m' c = bU (W2 m) c := e2.trans (w main_arg2 (by decide)).symm
    have a3 : Cert.ReferenceIdeal.Lru.aRa m' c = bRa (W2 m) c := e3.trans (w main_arg3 (by decide)).symm
    have a4 : Cert.ReferenceIdeal.Lru.aIx m' c = bIx (W2 m) c := e4.trans (w main_arg4 (by decide)).symm
    have a5 : Cert.ReferenceIdeal.Lru.aBa m' c = V0 m c main_arg5 := e5
    have a6 : Cert.ReferenceIdeal.Lru.aBx m' c = V0 m c main_arg6 := e6
    have a7 : Cert.ReferenceIdeal.Lru.aLam m' c = V0 m c main_arg7 := e7
    refine ⟨(h c).1.trans ?_, (h c).2.1.trans ?_, (h c).2.2 _ (by decide), (h c).2.2 _ (by decide), (h c).2.2 _ (by decide),
      (h c).2.2 _ (by decide), (h c).2.2 _ (by decide), (h c).2.2 _ (by decide), (h c).2.2 _ (by decide), (h c).2.2 _ (by decide)⟩
    · funext i
      have e := Cert.ReferenceIdeal.Lru.v75_at m' c (i 0) (i 1) (i 2)
      rw [a0, a1, a2, a3, a4, a5, a6, a7] at e
      exact (congrArg (Cert.ReferenceIdeal.Lru.V4 m' c (Proc.devRef .tc Cert.ReferenceIdeal.main_v75)) (ix3_eta i).symm).trans e
    · funext i
      have e := Cert.ReferenceIdeal.Lru.v72_at m' c (i 0) (i 1) (i 2)
      rw [a0, a1, a3, a4, a5, a6, a7] at e
      exact (congrArg (Cert.ReferenceIdeal.Lru.V4 m' c (Proc.devRef .tc Cert.ReferenceIdeal.main_v72)) (ix3_eta i).symm).trans e

end Cert.KernelIdeal.Lru

end
-- ==== Proof.Lru.Frame.lean ====
/- The frame of the kernel on words, from the run of its idealization, whose text is the same. -/
module

public import proofs.«01_k».proof.Proof.Lru.Claim

@[expose] public section

set_option maxRecDepth 65536
set_option maxHeartbeats 8000000

noncomputable section

namespace Cert.KernelIdeal.Lru

open Idealize.ShloMosaic Idealize.ShloMosaic.TcCoe Idealize.SL.Sem

/-! The two modules' texts are the same, piece by piece. -/

theorem main_same : Cert.Kernel.main (F := Bits) = Cert.KernelIdeal.main (F := Bits) := rfl
theorem fwd_same : Cert.Kernel.cc0_lru_fwd (F := Bits) = Cert.KernelIdeal.cc0_lru_fwd (F := Bits) := rfl
theorem bwd_same : Cert.Kernel.cc1_lru_bwd (F := Bits) = Cert.KernelIdeal.cc1_lru_bwd (F := Bits) := rfl

theorem body_same : ∀ (k : Fin 2) (a : Cert.KernelIdeal.Λ₀.Args k), Cert.Kernel.defs₀ (F := Bits) .tc k a = Cert.KernelIdeal.defs₀ (F := Bits) .tc k a
  | 0, (t, s) => by
    unfold Cert.Kernel.defs₀ Cert.KernelIdeal.defs₀ Defs.onTc
    dsimp only
    rw [fwd_same]
    rfl
  | 1, (t, s) => by
    unfold Cert.Kernel.defs₀ Cert.KernelIdeal.defs₀ Defs.onTc
    dsimp only
    rw [bwd_same]
    rfl

theorem bodies_same : Cert.Kernel.defs₀ (F := Bits) = Cert.KernelIdeal.defs₀ (F := Bits) :=
  funext fun p => match p with
    | .tc => funext fun k => funext fun a => body_same k a
    | .scScalar _ => rfl
    | .scVector _ _ => rfl

theorem defs_same : Cert.Kernel.defs (F := Bits) = Cert.KernelIdeal.defs (F := Bits) :=
  congrArg (Pipeline.defs (Cert.KernelIdeal.pcfgs (F := Bits))) bodies_same

theorem frame_kernel : Cert.quiescent_Kernel := fun m ρ _ => by
  have h := run_args (F := Bits) m ρ
  rw [← main_same, ← defs_same] at h
  exact h

end Cert.KernelIdeal.Lru

end
-- ==== Proof.Products.MixInDx.lean ====
/-
  The input gradient of the mixer's input projection: the kernel walks the 10880 contracted columns in five blocks of
  2176 for each of eleven row blocks, adding each block's product into a scratch it keeps across the five points. Its
  result array is the whole contraction, which is what the reference's one product says.
-/
module

public import proofs.«01_k».proof.Defs
public import proofs.«01_k».proof.Proof.Gen.MixInDxIdeal.Value
public import proofs.«01_k».proof.Proof.Gen.MixInDxRefIdeal.Run
public import Idealize.ShloMosaic.Lib.Pipeline.ValueKit
public import Idealize.ShloMosaic.Lib.Pipeline.ReadBack

@[expose] public section

set_option maxRecDepth 16384

noncomputable section

namespace Cert.MixInDxIdeal.Product

open Cert.MixInDxIdeal Cert.MixInDxIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val / 5, t.val % 5] ∧ win0_1.index t = ![t.val % 5, 0]
    ∧ win0_2.index t = ![t.val / 5, 0] := by decide +kernel

/-- The left block a grid point multiplies. -/
abbrev left (c : Dev nD) (t : Fin cfg0.N) : S768x2176.Idx → EReal := iblk m c 0 t

/-- The right block a grid point multiplies. -/
abbrev right (c : Dev nD) (t : Fin cfg0.N) : S2176x1024.Idx → EReal := iblk m c 1 t

/-- One point's contribution to an output block. -/
def term (c : Dev nD) (t : Fin cfg0.N) (j : S768x1024.Idx) : EReal :=
  ∑ k : Fin 2176, left m c t (ix2 (j 0) k) * right m c t (ix2 k (j 1))

/-- The block product at an index. -/
theorem pay1_apply (x : S768x2176.Idx → EReal) (y : S2176x1024.Idx → EReal) (j : S768x1024.Idx) :
    k0_pay1 (F := Ideal) x y j = ∑ k : Fin 2176, x (ix2 (j 0) k) * y (ix2 k (j 1)) := by
  unfold k0_pay1
  pointwise

/-- After the last point of a run the scratch holds the sum of the run's 5 contributions. -/
theorem scratch_sum (c : Dev nD) (t : Fin cfg0.N) (hr : t.val % 5 = 4) (j : S768x1024.Idx) :
    ((outsAt0 m c t.val t.isLt).2 : S768x1024.Idx → EReal) j
      = (fun _ => (0 : EReal)) j + ∑ s : Fin 5, term m c ⟨5 * (t.val / 5) + s.val, Pipeline.run_point_lt_of_flush t hr s⟩ j :=
  Pipeline.eq_sum_fin_of_reset_step_apply_of_flush (fun n h => ((outsAt0 m c n h).2 : S768x1024.Idx → EReal)) 5
    (fun _ => (0 : EReal)) (term m c)
    (fun t h i => by
      rw [outsAt0_A m c t h (by omega) (by omega), zero_add]
      frame_out
      unfold k0_pay2
      rw [shapeCast_self]
      exact pay1_apply _ _ i)
    (fun t h i => by
      by_cases h4 : t.val % 5 = 4
      · rw [outsAt0_C m c t h (by omega) h4]
        frame_out
        simp only [read_unread_whole]
        unfold k0_pay3
        rw [shapeCast_self]
        exact congrArg (_ + ·) (pay1_apply _ _ i)
      · rw [outsAt0_B m c t h (by omega) h4]
        frame_out
        simp only [read_unread_whole]
        unfold k0_pay3
        rw [shapeCast_self]
        exact congrArg (_ + ·) (pay1_apply _ _ i)) t hr j

/-- That point stores the scratch into the output block. -/
theorem out_eq_scratch (c : Dev nD) (t : Fin cfg0.N) (hr : t.val % 5 = 4) :
    (outsAt0 m c t.val t.isLt).1 = (outsAt0 m c t.val t.isLt).2 := by
  rw [outsAt0_C m c t (by omega) (by omega) hr]
  frame_out

/-- The two arrays the kernel is given. -/
abbrev lhs (c : Dev nD) : S8448x10880.Idx → EReal := m ((c : Thread nD τ).loc main_arg0)
abbrev rhs (c : Dev nD) : S10880x1024.Idx → EReal := m ((c : Thread nD τ).loc main_arg1)

/-- The result: every entry the contraction over all 10880 positions. -/
def result (c : Dev nD) : S8448x1024.Idx → EReal := fun i =>
  ∑ l : Fin 10880, lhs m c (ix2 (i 0) l) * rhs m c (ix2 l (i 1))

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  refine (scratch_sum m c t hr y).trans ?_
  rw [zero_add]
  unfold term result
  refine Fin.sum_mul_add_congr fun s k hl => ?_
  congr 1
  · blk_ext [iblk, V, idx]
  · blk_ext [iblk, V, idx]

/-- The kernel and the reference end with the same array. -/
theorem algebraic : Cert.algebraic_MixInDxIdeal_MixInDxRefIdeal := by
  intro m ρ m' ρ' _ hagree
  refine ⟨_, Cert.MixInDxIdeal.Value.run_blocks (F := Ideal) m ρ, ?_⟩
  refine (θ_run Cert.MixInDxRefIdeal.defs _ _).mono (fun _ h c => ⟨?_, (h c).2⟩) (Cert.MixInDxRefIdeal.Value.run (F := Ideal) m' ρ')
  rw [(h c).1, final m c]
  simp only [hagree c]
  unfold result lhs rhs
  funext i
  pointwise

end Cert.MixInDxIdeal.Product

end
-- ==== Proof.Products.MixInDw.lean ====
/-
  The weight gradient of the mixer's input projection: the kernel walks the 8448 tokens in three blocks of 2816 for
  each of seventeen blocks of the weight's rows, adding each block's product into a scratch it keeps across the three
  points. Its result array is the sum over all tokens, which is what the reference's one product says.
-/
module

public import proofs.«01_k».proof.Defs
public import proofs.«01_k».proof.Proof.Gen.MixInDwIdeal.Value
public import proofs.«01_k».proof.Proof.Gen.MixInDwRefIdeal.Run
public import Idealize.ShloMosaic.Lib.Pipeline.ValueKit
public import Idealize.ShloMosaic.Lib.Pipeline.ReadBack

@[expose] public section

set_option maxRecDepth 16384

noncomputable section

namespace Cert.MixInDwIdeal.Product

open Cert.MixInDwIdeal Cert.MixInDwIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val % 3, t.val / 3] ∧ win0_1.index t = ![t.val % 3, 0]
    ∧ win0_2.index t = ![t.val / 3, 0] := by decide +kernel

/-- The left block a grid point multiplies. -/
abbrev left (c : Dev nD) (t : Fin cfg0.N) : S2816x640.Idx → EReal := iblk m c 0 t

/-- The right block a grid point multiplies. -/
abbrev right (c : Dev nD) (t : Fin cfg0.N) : S2816x1024.Idx → EReal := iblk m c 1 t

/-- One point's contribution to an output block. -/
def term (c : Dev nD) (t : Fin cfg0.N) (j : S640x1024.Idx) : EReal :=
  ∑ k : Fin 2816, left m c t (ix2 k (j 0)) * right m c t (ix2 k (j 1))

/-- The block product at an index. -/
theorem pay1_apply (x : S2816x640.Idx → EReal) (y : S2816x1024.Idx → EReal) (j : S640x1024.Idx) :
    k0_pay1 (F := Ideal) x y j = ∑ k : Fin 2816, x (ix2 k (j 0)) * y (ix2 k (j 1)) := by
  unfold k0_pay1
  pointwise

/-- After the last point of a run the scratch holds the sum of the run's 3 contributions. -/
theorem scratch_sum (c : Dev nD) (t : Fin cfg0.N) (hr : t.val % 3 = 2) (j : S640x1024.Idx) :
    ((outsAt0 m c t.val t.isLt).2 : S640x1024.Idx → EReal) j
      = (fun _ => (0 : EReal)) j + ∑ s : Fin 3, term m c ⟨3 * (t.val / 3) + s.val, Pipeline.run_point_lt_of_flush t hr s⟩ j :=
  Pipeline.eq_sum_fin_of_reset_step_apply_of_flush (fun n h => ((outsAt0 m c n h).2 : S640x1024.Idx → EReal)) 3
    (fun _ => (0 : EReal)) (term m c)
    (fun t h i => by
      rw [outsAt0_A m c t h (by omega) (by omega), zero_add]
      frame_out
      unfold k0_pay2
      rw [shapeCast_self]
      exact pay1_apply _ _ i)
    (fun t h i => by
      by_cases h4 : t.val % 3 = 2
      · rw [outsAt0_C m c t h (by omega) h4]
        frame_out
        simp only [read_unread_whole]
        unfold k0_pay3
        rw [shapeCast_self]
        exact congrArg (_ + ·) (pay1_apply _ _ i)
      · rw [outsAt0_B m c t h (by omega) h4]
        frame_out
        simp only [read_unread_whole]
        unfold k0_pay3
        rw [shapeCast_self]
        exact congrArg (_ + ·) (pay1_apply _ _ i)) t hr j

/-- That point stores the scratch into the output block. -/
theorem out_eq_scratch (c : Dev nD) (t : Fin cfg0.N) (hr : t.val % 3 = 2) :
    (outsAt0 m c t.val t.isLt).1 = (outsAt0 m c t.val t.isLt).2 := by
  rw [outsAt0_C m c t (by omega) (by omega) hr]
  frame_out

/-- The two arrays the kernel is given. -/
abbrev lhs (c : Dev nD) : S8448x10880.Idx → EReal := m ((c : Thread nD τ).loc main_arg0)
abbrev rhs (c : Dev nD) : S8448x1024.Idx → EReal := m ((c : Thread nD τ).loc main_arg1)

/-- The result: every entry the contraction over all 8448 positions. -/
def result (c : Dev nD) : S10880x1024.Idx → EReal := fun i =>
  ∑ l : Fin 8448, lhs m c (ix2 l (i 0)) * rhs m c (ix2 l (i 1))

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  refine (scratch_sum m c t hr y).trans ?_
  rw [zero_add]
  unfold term result
  refine Fin.sum_mul_add_congr fun s k hl => ?_
  congr 1
  · blk_ext [iblk, V, idx]
  · blk_ext [iblk, V, idx]

/-- The kernel and the reference end with the same array. -/
theorem algebraic : Cert.algebraic_MixInDwIdeal_MixInDwRefIdeal := by
  intro m ρ m' ρ' _ hagree
  refine ⟨_, Cert.MixInDwIdeal.Value.run_blocks (F := Ideal) m ρ, ?_⟩
  refine (θ_run Cert.MixInDwRefIdeal.defs _ _).mono (fun _ h c => ⟨?_, (h c).2⟩) (Cert.MixInDwRefIdeal.Value.run (F := Ideal) m' ρ')
  rw [(h c).1, final m c]
  simp only [hagree c]
  unfold result lhs rhs
  funext i
  pointwise

end Cert.MixInDwIdeal.Product

end
-- ==== Proof.Products.MixIn.lean ====
/-
  The mixer's input projection: each grid point multiplies one block of 1408 tokens with one block of 640 of the
  weight's rows over all 1024 features.
-/
module

public import proofs.«01_k».proof.Defs
public import proofs.«01_k».proof.Proof.Gen.MixInIdeal.Value
public import proofs.«01_k».proof.Proof.Gen.MixInRefIdeal.Run
public import Idealize.ShloMosaic.Lib.Pipeline.ValueKit
public import Idealize.ShloMosaic.Lib.Pipeline.ReadBack

@[expose] public section

set_option maxRecDepth 16384

noncomputable section

namespace Cert.MixInIdeal.Product

open Cert.MixInIdeal Cert.MixInIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val / 17, 0] ∧ win0_1.index t = ![t.val % 17, 0]
    ∧ win0_2.index t = ![t.val / 17, t.val % 17] := by decide +kernel

/-- The arrays the kernel is given. -/
abbrev lhs (c : Dev nD) : S8448x1024.Idx → EReal := m ((c : Thread nD τ).loc main_arg0)
abbrev rhs (c : Dev nD) : S10880x1024.Idx → EReal := m ((c : Thread nD τ).loc main_arg1)

/-- The result: every entry the contraction over all 1024 positions. -/
def result (c : Dev nD) : S8448x10880.Idx → EReal := fun i =>
  ∑ l : Fin 1024, lhs m c (ix2 (i 0) l) * rhs m c (ix2 (i 1) l)

/-- What a grid point stores, at an index. -/
theorem pay1_apply (x : S1408x1024.Idx → EReal) (y : S640x1024.Idx → EReal) (j : S1408x640.Idx) :
    k0_pay1 (F := Ideal) x y j = ∑ k : Fin 1024, x (ix2 (j 0) k) * y (ix2 (j 1) k) := by
  unfold k0_pay1
  pointwise

/-- What the result array holds after the run. -/
theorem final (c : Dev nD) : (dats m 0 c).arrAt 2 cfg0.N = result m c := by
  refine (dats m 0 c).arrAt_eq_of_covers 2 _ (by decide +kernel) fun t hf y => ?_
  blk_simp
  rw [after0_2]
  frame_out
  refine (pay1_apply _ _ _).trans ?_
  unfold result
  refine Finset.sum_congr rfl fun k _ => ?_
  congr 1
  · blk_ext [iblk, V, idx]
  · blk_ext [iblk, V, idx]

/-- The kernel and the reference end with the same array. -/
theorem algebraic : Cert.algebraic_MixInIdeal_MixInRefIdeal := by
  intro m ρ m' ρ' _ hagree
  refine ⟨_, Cert.MixInIdeal.Value.run_blocks (F := Ideal) m ρ, ?_⟩
  refine (θ_run Cert.MixInRefIdeal.defs _ _).mono (fun _ h c => ⟨?_, (h c).2⟩) (Cert.MixInRefIdeal.Value.run (F := Ideal) m' ρ')
  rw [(h c).1, final m c]
  simp only [hagree c]
  unfold result lhs rhs
  funext i
  pointwise

end Cert.MixInIdeal.Product

end
-- ==== Proof.Products.Half.lean ====
/-
  One half as an extended real, and that it moves in and out of finite sums.
-/
module

public import Idealize.ShloMosaic.Lib.Pipeline.ValueKit

@[expose] public section

noncomputable section

namespace Cert

/-- The factor of the half step. -/
def half : EReal := Idealize.ShloMosaic.Scalar.ofBits (F := Idealize.ShloMosaic.Ideal) .f32 0x3F000000#32

/-- It is the real number one half. -/
theorem half_eq : half = (((1 : ℝ) / 2 : ℝ) : EReal) := by
  show Idealize.ShloMosaic.Ideal.ofBits .f32 0x3F000000#32 = _
  simp [Idealize.ShloMosaic.Ideal.ofBits, Idealize.ShloMosaic.Ideal.ieee, -EReal.coe_mul]; norm_num

/-- Halving every term of a sum halves the sum. -/
theorem sum_half {n : ℕ} (f g : Fin n → EReal) : ∑ l, half * f l * g l = (∑ l, g l * f l) * half := by
  have hn : (0 : EReal) ≤ half := by rw [half_eq]; exact_mod_cast (by norm_num : (0 : ℝ) ≤ 1 / 2)
  have ht : half ≠ ⊤ := by rw [half_eq]; exact EReal.coe_ne_top _
  have h : ∀ s : Finset (Fin n), ∑ l ∈ s, half * f l * g l = (∑ l ∈ s, g l * f l) * half := by
    intro s
    induction s using Finset.induction_on with
    | empty => simp
    | insert a s ha ih =>
      rw [Finset.sum_insert ha, Finset.sum_insert ha, ih, mul_comm (_ + _) half, EReal.left_distrib_of_nonneg_of_ne_top hn ht,
        mul_assoc, mul_comm (f a) (g a), mul_comm half (∑ l ∈ s, g l * f l)]
  exact h _

end Cert

end
-- ==== Proof.Products.FfnDownDw.lean ====
/-
  The gradient of a feed-forward layer's second weight: the kernel walks the 8448 tokens in three blocks for each of
  eleven row blocks, adding into a scratch, and stores the scratch halved (the layer is added in half steps).
-/
module

public import proofs.«01_k».proof.Defs
public import proofs.«01_k».proof.Proof.Gen.FfnDownDwIdeal.Value
public import proofs.«01_k».proof.Proof.Gen.FfnDownDwRefIdeal.Run
public import Idealize.ShloMosaic.Lib.Pipeline.ValueKit
public import Idealize.ShloMosaic.Lib.Pipeline.ReadBack
public import proofs.«01_k».proof.Proof.Products.Half

@[expose] public section

set_option maxRecDepth 16384

noncomputable section

namespace Cert.FfnDownDwIdeal.Product

open Cert.FfnDownDwIdeal Cert.FfnDownDwIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val % 3, t.val / 3] ∧ win0_1.index t = ![t.val % 3, 0]
    ∧ win0_2.index t = ![t.val / 3, 0] := by decide +kernel

/-- The left block a grid point multiplies. -/
abbrev left (c : Dev nD) (t : Fin cfg0.N) : S2816x256.Idx → EReal := iblk m c 0 t

/-- The right block a grid point multiplies. -/
abbrev right (c : Dev nD) (t : Fin cfg0.N) : S2816x1024.Idx → EReal := iblk m c 1 t

/-- One point's contribution to an output block. -/
def term (c : Dev nD) (t : Fin cfg0.N) (j : S256x1024.Idx) : EReal :=
  ∑ k : Fin 2816, left m c t (ix2 k (j 0)) * right m c t (ix2 k (j 1))

/-- The block product at an index. -/
theorem pay1_apply (x : S2816x256.Idx → EReal) (y : S2816x1024.Idx → EReal) (j : S256x1024.Idx) :
    k0_pay1 (F := Ideal) x y j = ∑ k : Fin 2816, x (ix2 k (j 0)) * y (ix2 k (j 1)) := by
  unfold k0_pay1
  pointwise

/-- What is stored into the output block, at an index. -/
theorem pay4_apply (x : S256x1024.Idx → EReal) (j : S256x1024.Idx) : k0_pay4 (F := Ideal) x j = x j * half := by
  unfold k0_pay4
  pointwise
  rfl

/-- After the last point of a run the scratch holds the sum of the run's 3 contributions. -/
theorem scratch_sum (c : Dev nD) (t : Fin cfg0.N) (hr : t.val % 3 = 2) (j : S256x1024.Idx) :
    ((outsAt0 m c t.val t.isLt).2 : S256x1024.Idx → EReal) j
      = (fun _ => (0 : EReal)) j + ∑ s : Fin 3, term m c ⟨3 * (t.val / 3) + s.val, Pipeline.run_point_lt_of_flush t hr s⟩ j :=
  Pipeline.eq_sum_fin_of_reset_step_apply_of_flush (fun n h => ((outsAt0 m c n h).2 : S256x1024.Idx → EReal)) 3
    (fun _ => (0 : EReal)) (term m c)
    (fun t h i => by
      skip
      rw [outsAt0_A m c t h (by omega) (by omega), zero_add]
      frame_out
      unfold k0_pay2
      rw [shapeCast_self]
      exact pay1_apply _ _ i)
    (fun t h i => by
      by_cases h4 : t.val % 3 = 2
      · rw [outsAt0_C m c t h (by omega) h4]
        frame_out
        simp only [read_unread_whole]
        unfold k0_pay3
        rw [shapeCast_self]
        exact congrArg (_ + ·) (pay1_apply _ _ i)
      · rw [outsAt0_B m c t h (by omega) h4]
        frame_out
        simp only [read_unread_whole]
        unfold k0_pay3
        rw [shapeCast_self]
        exact congrArg (_ + ·) (pay1_apply _ _ i)) t hr j

/-- That point stores the scratch, halved, into the output block. -/
theorem out_eq_scratch (c : Dev nD) (t : Fin cfg0.N) (hr : t.val % 3 = 2) :
    (outsAt0 m c t.val t.isLt).1 = k0_pay4 (outsAt0 m c t.val t.isLt).2 := by
  rw [outsAt0_C m c t (by omega) (by omega) hr]
  frame_out

/-- The arrays the kernel is given. -/
abbrev lhs (c : Dev nD) : S8448x2816.Idx → EReal := m ((c : Thread nD τ).loc main_arg0)
abbrev rhs (c : Dev nD) : S8448x1024.Idx → EReal := m ((c : Thread nD τ).loc main_arg1)

/-- The result: every entry the contraction over all 8448 positions, halved. -/
def result (c : Dev nD) : S2816x1024.Idx → EReal := fun i =>
  (∑ l : Fin 8448, lhs m c (ix2 l (i 0)) * rhs m c (ix2 l (i 1))) * half

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  rw [pay4_apply]
  unfold result
  congr 1
  refine (scratch_sum m c t hr y).trans ?_
  rw [zero_add]
  unfold term
  refine Fin.sum_mul_add_congr fun s k hl => ?_
  congr 1
  · blk_ext [iblk, V, idx]
  · blk_ext [iblk, V, idx]

/-- The kernel and the reference end with the same array. -/
theorem algebraic : Cert.algebraic_FfnDownDwIdeal_FfnDownDwRefIdeal := by
  intro m ρ m' ρ' _ hagree
  refine ⟨_, Cert.FfnDownDwIdeal.Value.run_blocks (F := Ideal) m ρ, ?_⟩
  refine (θ_run Cert.FfnDownDwRefIdeal.defs _ _).mono (fun _ h c => ⟨?_, (h c).2⟩) (Cert.FfnDownDwRefIdeal.Value.run (F := Ideal) m' ρ')
  rw [(h c).1, final m c]
  simp only [hagree c]
  unfold result lhs rhs
  funext i
  pointwise
  exact Cert.sum_half _ _

end Cert.FfnDownDwIdeal.Product

end
-- ==== Proof.Products.FfnUpDw.lean ====
/-
  The gradient of a feed-forward layer's first weight: the kernel walks the 8448 tokens in three blocks for each of
  eleven row blocks, adding each block's product into a scratch it keeps across the three points.
-/
module

public import proofs.«01_k».proof.Defs
public import proofs.«01_k».proof.Proof.Gen.FfnUpDwIdeal.Value
public import proofs.«01_k».proof.Proof.Gen.FfnUpDwRefIdeal.Run
public import Idealize.ShloMosaic.Lib.Pipeline.ValueKit
public import Idealize.ShloMosaic.Lib.Pipeline.ReadBack

@[expose] public section

set_option maxRecDepth 16384

noncomputable section

namespace Cert.FfnUpDwIdeal.Product

open Cert.FfnUpDwIdeal Cert.FfnUpDwIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val % 3, t.val / 3] ∧ win0_1.index t = ![t.val % 3, 0]
    ∧ win0_2.index t = ![t.val / 3, 0] := by decide +kernel

/-- The left block a grid point multiplies. -/
abbrev left (c : Dev nD) (t : Fin cfg0.N) : S2816x512.Idx → EReal := iblk m c 0 t

/-- The right block a grid point multiplies. -/
abbrev right (c : Dev nD) (t : Fin cfg0.N) : S2816x1024.Idx → EReal := iblk m c 1 t

/-- One point's contribution to an output block. -/
def term (c : Dev nD) (t : Fin cfg0.N) (j : S512x1024.Idx) : EReal :=
  ∑ k : Fin 2816, left m c t (ix2 k (j 0)) * right m c t (ix2 k (j 1))

/-- The block product at an index. -/
theorem pay1_apply (x : S2816x512.Idx → EReal) (y : S2816x1024.Idx → EReal) (j : S512x1024.Idx) :
    k0_pay1 (F := Ideal) x y j = ∑ k : Fin 2816, x (ix2 k (j 0)) * y (ix2 k (j 1)) := by
  unfold k0_pay1
  pointwise

/-- After the last point of a run the scratch holds the sum of the run's 3 contributions. -/
theorem scratch_sum (c : Dev nD) (t : Fin cfg0.N) (hr : t.val % 3 = 2) (j : S512x1024.Idx) :
    ((outsAt0 m c t.val t.isLt).2 : S512x1024.Idx → EReal) j
      = (fun _ => (0 : EReal)) j + ∑ s : Fin 3, term m c ⟨3 * (t.val / 3) + s.val, Pipeline.run_point_lt_of_flush t hr s⟩ j :=
  Pipeline.eq_sum_fin_of_reset_step_apply_of_flush (fun n h => ((outsAt0 m c n h).2 : S512x1024.Idx → EReal)) 3
    (fun _ => (0 : EReal)) (term m c)
    (fun t h i => by
      skip
      rw [outsAt0_A m c t h (by omega) (by omega), zero_add]
      frame_out
      unfold k0_pay2
      rw [shapeCast_self]
      exact pay1_apply _ _ i)
    (fun t h i => by
      by_cases h4 : t.val % 3 = 2
      · rw [outsAt0_C m c t h (by omega) h4]
        frame_out
        simp only [read_unread_whole]
        unfold k0_pay3
        rw [shapeCast_self]
        exact congrArg (_ + ·) (pay1_apply _ _ i)
      · rw [outsAt0_B m c t h (by omega) h4]
        frame_out
        simp only [read_unread_whole]
        unfold k0_pay3
        rw [shapeCast_self]
        exact congrArg (_ + ·) (pay1_apply _ _ i)) t hr j

/-- That point stores the scratch into the output block. -/
theorem out_eq_scratch (c : Dev nD) (t : Fin cfg0.N) (hr : t.val % 3 = 2) :
    (outsAt0 m c t.val t.isLt).1 = (outsAt0 m c t.val t.isLt).2 := by
  rw [outsAt0_C m c t (by omega) (by omega) hr]
  frame_out

/-- The arrays the kernel is given. -/
abbrev lhs (c : Dev nD) : S8448x5632.Idx → EReal := m ((c : Thread nD τ).loc main_arg0)
abbrev rhs (c : Dev nD) : S8448x1024.Idx → EReal := m ((c : Thread nD τ).loc main_arg1)

/-- The result: every entry the contraction over all 8448 positions. -/
def result (c : Dev nD) : S5632x1024.Idx → EReal := fun i =>
  ∑ l : Fin 8448, lhs m c (ix2 l (i 0)) * rhs m c (ix2 l (i 1))

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  refine (scratch_sum m c t hr y).trans ?_
  rw [zero_add]
  unfold term result
  refine Fin.sum_mul_add_congr fun s k hl => ?_
  congr 1
  · blk_ext [iblk, V, idx]
  · blk_ext [iblk, V, idx]

/-- The kernel and the reference end with the same array. -/
theorem algebraic : Cert.algebraic_FfnUpDwIdeal_FfnUpDwRefIdeal := by
  intro m ρ m' ρ' _ hagree
  refine ⟨_, Cert.FfnUpDwIdeal.Value.run_blocks (F := Ideal) m ρ, ?_⟩
  refine (θ_run Cert.FfnUpDwRefIdeal.defs _ _).mono (fun _ h c => ⟨?_, (h c).2⟩) (Cert.FfnUpDwRefIdeal.Value.run (F := Ideal) m' ρ')
  rw [(h c).1, final m c]
  simp only [hagree c]
  unfold result lhs rhs
  funext i
  pointwise

end Cert.FfnUpDwIdeal.Product

end
-- ==== Proof.Products.FfnUpDx.lean ====
/-
  The gradient of a feed-forward layer's input through its first weight: the kernel walks the 5632 columns in two
  blocks for each of eleven row blocks, adding into a scratch it keeps across the two points.
-/
module

public import proofs.«01_k».proof.Defs
public import proofs.«01_k».proof.Proof.Gen.FfnUpDxIdeal.Value
public import proofs.«01_k».proof.Proof.Gen.FfnUpDxRefIdeal.Run
public import Idealize.ShloMosaic.Lib.Pipeline.ValueKit
public import Idealize.ShloMosaic.Lib.Pipeline.ReadBack

@[expose] public section

set_option maxRecDepth 16384

noncomputable section

namespace Cert.FfnUpDxIdeal.Product

open Cert.FfnUpDxIdeal Cert.FfnUpDxIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val / 2, t.val % 2] ∧ win0_1.index t = ![t.val % 2, 0]
    ∧ win0_2.index t = ![t.val / 2, 0] := by decide +kernel

/-- The left block a grid point multiplies. -/
abbrev left (c : Dev nD) (t : Fin cfg0.N) : S768x2816.Idx → EReal := iblk m c 0 t

/-- The right block a grid point multiplies. -/
abbrev right (c : Dev nD) (t : Fin cfg0.N) : S2816x1024.Idx → EReal := iblk m c 1 t

/-- One point's contribution to an output block. -/
def term (c : Dev nD) (t : Fin cfg0.N) (j : S768x1024.Idx) : EReal :=
  ∑ k : Fin 2816, left m c t (ix2 (j 0) k) * right m c t (ix2 k (j 1))

/-- The block product at an index. -/
theorem pay1_apply (x : S768x2816.Idx → EReal) (y : S2816x1024.Idx → EReal) (j : S768x1024.Idx) :
    k0_pay1 (F := Ideal) x y j = ∑ k : Fin 2816, x (ix2 (j 0) k) * y (ix2 k (j 1)) := by
  unfold k0_pay1
  pointwise

/-- After the last point of a run the scratch holds the sum of the run's 2 contributions. -/
theorem scratch_sum (c : Dev nD) (t : Fin cfg0.N) (hr : t.val % 2 = 1) (j : S768x1024.Idx) :
    ((outsAt0 m c t.val t.isLt).2 : S768x1024.Idx → EReal) j
      = (fun _ => (0 : EReal)) j + ∑ s : Fin 2, term m c ⟨2 * (t.val / 2) + s.val, Pipeline.run_point_lt_of_flush t hr s⟩ j :=
  Pipeline.eq_sum_fin_of_reset_step_apply_of_flush (fun n h => ((outsAt0 m c n h).2 : S768x1024.Idx → EReal)) 2
    (fun _ => (0 : EReal)) (term m c)
    (fun t h i => by
      skip
      rw [outsAt0_A m c t h (by omega) (by omega), zero_add]
      frame_out
      unfold k0_pay2
      rw [shapeCast_self]
      exact pay1_apply _ _ i)
    (fun t h i => by
        rw [outsAt0_B m c t h (by omega) (by omega)]
        frame_out
        simp only [read_unread_whole]
        unfold k0_pay3
        rw [shapeCast_self]
        exact congrArg (_ + ·) (pay1_apply _ _ i)) t hr j

/-- That point stores the scratch into the output block. -/
theorem out_eq_scratch (c : Dev nD) (t : Fin cfg0.N) (hr : t.val % 2 = 1) :
    (outsAt0 m c t.val t.isLt).1 = (outsAt0 m c t.val t.isLt).2 := by
  rw [outsAt0_B m c t (by omega) (by omega) (by omega)]
  frame_out

/-- The arrays the kernel is given. -/
abbrev lhs (c : Dev nD) : S8448x5632.Idx → EReal := m ((c : Thread nD τ).loc main_arg0)
abbrev rhs (c : Dev nD) : S5632x1024.Idx → EReal := m ((c : Thread nD τ).loc main_arg1)

/-- The result: every entry the contraction over all 5632 positions. -/
def result (c : Dev nD) : S8448x1024.Idx → EReal := fun i =>
  ∑ l : Fin 5632, lhs m c (ix2 (i 0) l) * rhs m c (ix2 l (i 1))

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  refine (scratch_sum m c t hr y).trans ?_
  rw [zero_add]
  unfold term result
  refine Fin.sum_mul_add_congr fun s k hl => ?_
  congr 1
  · blk_ext [iblk, V, idx]
  · blk_ext [iblk, V, idx]

/-- The kernel and the reference end with the same array. -/
theorem algebraic : Cert.algebraic_FfnUpDxIdeal_FfnUpDxRefIdeal := by
  intro m ρ m' ρ' _ hagree
  refine ⟨_, Cert.FfnUpDxIdeal.Value.run_blocks (F := Ideal) m ρ, ?_⟩
  refine (θ_run Cert.FfnUpDxRefIdeal.defs _ _).mono (fun _ h c => ⟨?_, (h c).2⟩) (Cert.FfnUpDxRefIdeal.Value.run (F := Ideal) m' ρ')
  rw [(h c).1, final m c]
  simp only [hagree c]
  unfold result lhs rhs
  funext i
  pointwise

end Cert.FfnUpDxIdeal.Product

end
-- ==== Proof.Products.FfnDown.lean ====
/-
  A feed-forward layer's second product: each grid point multiplies one block of 768 tokens with the whole weight,
  halves it and adds the layer's input.
-/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack
public import proofs.«01_k».proof.Proof.Products.Half

@[expose] public section

set_option maxRecDepth 16384

noncomputable section

namespace Cert.FfnDownIdeal.Product

open Cert.FfnDownIdeal Cert.FfnDownIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val, 0] ∧ win0_1.index t = ![0, 0]
    ∧ win0_2.index t = ![t.val, 0] ∧ win0_3.index t = ![t.val, 0] := by decide +kernel

/-- The arrays the kernel is given. -/
abbrev lhs (c : Dev nD) : S8448x2816.Idx → EReal := m ((c : Thread nD τ).loc main_arg0)
abbrev rhs (c : Dev nD) : S2816x1024.Idx → EReal := m ((c : Thread nD τ).loc main_arg1)
abbrev res (c : Dev nD) : S8448x1024.Idx → EReal := m ((c : Thread nD τ).loc main_arg2)

/-- The result: every entry the contraction over all 2816 positions, halved, added to what it is given. -/
def result (c : Dev nD) : S8448x1024.Idx → EReal := fun i =>
  res m c i + (∑ l : Fin 2816, lhs m c (ix2 (i 0) l) * rhs m c (ix2 l (i 1))) * half

/-- What a grid point stores, at an index. -/
theorem pay1_apply (x : S768x2816.Idx → EReal) (y : S2816x1024.Idx → EReal) (z : S768x1024.Idx → EReal) (j : S768x1024.Idx) :
    k0_pay1 (F := Ideal) x y z j = z j + (∑ k : Fin 2816, x (ix2 (j 0) k) * y (ix2 k (j 1))) * half := by
  unfold k0_pay1
  pointwise
  rfl

/-- What the result array holds after the run. -/
theorem final (c : Dev nD) : (dats m 0 c).arrAt 3 cfg0.N = result m c := by
  refine (dats m 0 c).arrAt_eq_of_covers 3 _ (by decide +kernel) fun t hf y => ?_
  blk_simp
  rw [after0_3]
  frame_out
  refine (pay1_apply _ _ _ _).trans ?_
  unfold result
  refine congrArg₂ (· + ·) (by blk_ext [iblk, V, idx]) ?_
  refine congrArg (· * half) ?_
  refine Finset.sum_congr rfl fun k _ => ?_
  congr 1
  · blk_ext [iblk, V, idx]
  · blk_ext [iblk, V, idx]

/-- The kernel and the reference end with the same array. -/
theorem algebraic : Cert.algebraic_FfnDownIdeal_FfnDownRefIdeal := by
  intro m ρ m' ρ' _ hagree
  refine ⟨_, Cert.FfnDownIdeal.Value.run_blocks (F := Ideal) m ρ, ?_⟩
  refine (θ_run Cert.FfnDownRefIdeal.defs _ _).mono (fun _ h c => ⟨?_, (h c).2⟩) (Cert.FfnDownRefIdeal.Value.run (F := Ideal) m' ρ')
  rw [(h c).1, final m c]
  simp only [hagree c]
  unfold result lhs rhs res
  funext i
  pointwise
  exact congrArg (fun z : EReal => res m c i + z) (mul_comm _ _)

end Cert.FfnDownIdeal.Product

end
-- ==== Proof.Products.BranchDx.lean ====
/-
  The gradient of a branch's output through its product (and of the merged branches through the mixer's output product).
-/
module

public import proofs.«01_k».proof.Defs
public import proofs.«01_k».proof.Proof.Gen.BranchDxIdeal.Value
public import proofs.«01_k».proof.Proof.Gen.BranchDxRefIdeal.Run
public import Idealize.ShloMosaic.Lib.Pipeline.ValueKit
public import Idealize.ShloMosaic.Lib.Pipeline.ReadBack

@[expose] public section

set_option maxRecDepth 16384

noncomputable section

namespace Cert.BranchDxIdeal.Product

open Cert.BranchDxIdeal Cert.BranchDxIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val, 0] ∧ win0_1.index t = ![0, 0]
    ∧ win0_2.index t = ![t.val, 0] := by decide +kernel

/-- The arrays the kernel is given. -/
abbrev lhs (c : Dev nD) : S8448x1024.Idx → EReal := m ((c : Thread nD τ).loc main_arg0)
abbrev rhs (c : Dev nD) : S1024x1024.Idx → EReal := m ((c : Thread nD τ).loc main_arg1)

/-- The result: every entry the contraction over all 1024 positions. -/
def result (c : Dev nD) : S8448x1024.Idx → EReal := fun i =>
  ∑ l : Fin 1024, lhs m c (ix2 (i 0) l) * rhs m c (ix2 (i 1) l)

/-- What a grid point stores, at an index. -/
theorem pay1_apply (x : S1408x1024.Idx → EReal) (y : S1024x1024.Idx → EReal) (j : S1408x1024.Idx) :
    k0_pay1 (F := Ideal) x y j = ∑ k : Fin 1024, x (ix2 (j 0) k) * y (ix2 (j 1) k) := by
  unfold k0_pay1
  pointwise

/-- What the result array holds after the run. -/
theorem final (c : Dev nD) : (dats m 0 c).arrAt 2 cfg0.N = result m c := by
  refine (dats m 0 c).arrAt_eq_of_covers 2 _ (by decide +kernel) fun t hf y => ?_
  blk_simp
  rw [after0_2]
  frame_out
  refine (pay1_apply _ _ _).trans ?_
  unfold result
  refine Finset.sum_congr rfl fun k _ => ?_
  congr 1
  · blk_ext [iblk, V, idx]
  · blk_ext [iblk, V, idx]

/-- The kernel and the reference end with the same array. -/
theorem algebraic : Cert.algebraic_BranchDxIdeal_BranchDxRefIdeal := by
  intro m ρ m' ρ' _ hagree
  refine ⟨_, Cert.BranchDxIdeal.Value.run_blocks (F := Ideal) m ρ, ?_⟩
  refine (θ_run Cert.BranchDxRefIdeal.defs _ _).mono (fun _ h c => ⟨?_, (h c).2⟩) (Cert.BranchDxRefIdeal.Value.run (F := Ideal) m' ρ')
  rw [(h c).1, final m c]
  simp only [hagree c]
  unfold result lhs rhs
  funext i
  pointwise

end Cert.BranchDxIdeal.Product

end
-- ==== Proof.Products.BranchDw.lean ====
/-
  The gradient of a branch's weight (and of the mixer's output weight): the kernel walks the 8448 tokens in three
  blocks, adding each block's product into a scratch.
-/
module

public import proofs.«01_k».proof.Defs
public import proofs.«01_k».proof.Proof.Gen.BranchDwIdeal.Value
public import proofs.«01_k».proof.Proof.Gen.BranchDwRefIdeal.Run
public import Idealize.ShloMosaic.Lib.Pipeline.ValueKit
public import Idealize.ShloMosaic.Lib.Pipeline.ReadBack

@[expose] public section

set_option maxRecDepth 16384

noncomputable section

namespace Cert.BranchDwIdeal.Product

open Cert.BranchDwIdeal Cert.BranchDwIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val % 3, 0] ∧ win0_1.index t = ![t.val % 3, 0]
    ∧ win0_2.index t = ![0, 0] := by decide +kernel

/-- The left block a grid point multiplies. -/
abbrev left (c : Dev nD) (t : Fin cfg0.N) : S2816x1024.Idx → EReal := iblk m c 0 t

/-- The right block a grid point multiplies. -/
abbrev right (c : Dev nD) (t : Fin cfg0.N) : S2816x1024.Idx → EReal := iblk m c 1 t

/-- One point's contribution to an output block. -/
def term (c : Dev nD) (t : Fin cfg0.N) (j : S1024x1024.Idx) : EReal :=
  ∑ k : Fin 2816, left m c t (ix2 k (j 0)) * right m c t (ix2 k (j 1))

/-- The block product at an index. -/
theorem pay1_apply (x : S2816x1024.Idx → EReal) (y : S2816x1024.Idx → EReal) (j : S1024x1024.Idx) :
    k0_pay1 (F := Ideal) x y j = ∑ k : Fin 2816, x (ix2 k (j 0)) * y (ix2 k (j 1)) := by
  unfold k0_pay1
  pointwise

/-- After the last point of a run the scratch holds the sum of the run's 3 contributions. -/
theorem scratch_sum (c : Dev nD) (t : Fin cfg0.N) (hr : t.val % 3 = 2) (j : S1024x1024.Idx) :
    ((outsAt0 m c t.val t.isLt).2 : S1024x1024.Idx → EReal) j
      = (fun _ => (0 : EReal)) j + ∑ s : Fin 3, term m c ⟨3 * (t.val / 3) + s.val, Pipeline.run_point_lt_of_flush t hr s⟩ j :=
  Pipeline.eq_sum_fin_of_reset_step_apply_of_flush (fun n h => ((outsAt0 m c n h).2 : S1024x1024.Idx → EReal)) 3
    (fun _ => (0 : EReal)) (term m c)
    (fun t h i => by
      have hN : t.val < 3 := lt_of_lt_of_eq t.isLt (by decide)
      rw [outsAt0_A m c t h (by omega) (by omega), zero_add]
      frame_out
      unfold k0_pay2
      rw [shapeCast_self]
      exact pay1_apply _ _ i)
    (fun t h i => by
      by_cases h4 : t.val % 3 = 2
      · rw [outsAt0_C m c t h (by omega) h4]
        frame_out
        simp only [read_unread_whole]
        unfold k0_pay3
        rw [shapeCast_self]
        exact congrArg (_ + ·) (pay1_apply _ _ i)
      · rw [outsAt0_B m c t h (by omega) h4]
        frame_out
        simp only [read_unread_whole]
        unfold k0_pay3
        rw [shapeCast_self]
        exact congrArg (_ + ·) (pay1_apply _ _ i)) t hr j

/-- That point stores the scratch into the output block. -/
theorem out_eq_scratch (c : Dev nD) (t : Fin cfg0.N) (hr : t.val % 3 = 2) :
    (outsAt0 m c t.val t.isLt).1 = (outsAt0 m c t.val t.isLt).2 := by
  rw [outsAt0_C m c t (by omega) (by omega) hr]
  frame_out

/-- The arrays the kernel is given. -/
abbrev lhs (c : Dev nD) : S8448x1024.Idx → EReal := m ((c : Thread nD τ).loc main_arg0)
abbrev rhs (c : Dev nD) : S8448x1024.Idx → EReal := m ((c : Thread nD τ).loc main_arg1)

/-- The result: every entry the contraction over all 8448 positions. -/
def result (c : Dev nD) : S1024x1024.Idx → EReal := fun i =>
  ∑ l : Fin 8448, lhs m c (ix2 l (i 0)) * rhs m c (ix2 l (i 1))

/-- What the result array holds after the run. -/
theorem final (c : Dev nD) : (dats m 0 c).arrAt 2 cfg0.N = result m c := by
  refine (dats m 0 c).arrAt_eq_of_covers 2 _ (by decide +kernel) fun t hf y => ?_
  have hr := (flush0_2 t).mp hf
  blk_simp
  rw [after0_2, out_eq_scratch m c t hr]
  refine (scratch_sum m c t hr y).trans ?_
  rw [zero_add]
  unfold term result
  refine Fin.sum_mul_add_congr fun s k hl => ?_
  congr 1
  · blk_ext [iblk, V, idx]
  · blk_ext [iblk, V, idx]

/-- The kernel and the reference end with the same array. -/
theorem algebraic : Cert.algebraic_BranchDwIdeal_BranchDwRefIdeal := by
  intro m ρ m' ρ' _ hagree
  refine ⟨_, Cert.BranchDwIdeal.Value.run_blocks (F := Ideal) m ρ, ?_⟩
  refine (θ_run Cert.BranchDwRefIdeal.defs _ _).mono (fun _ h c => ⟨?_, (h c).2⟩) (Cert.BranchDwRefIdeal.Value.run (F := Ideal) m' ρ')
  rw [(h c).1, final m c]
  simp only [hagree c]
  unfold result lhs rhs
  funext i
  pointwise
  exact Finset.sum_congr rfl fun l _ => mul_comm _ _

end Cert.BranchDwIdeal.Product

end
-- ==== Proof.Products.Branch.lean ====
/-
  A branch's output product: each grid point multiplies one block of 1408 tokens with the whole weight.
-/
module

public import proofs.«01_k».proof.Defs
public import proofs.«01_k».proof.Proof.Gen.BranchIdeal.Value
public import proofs.«01_k».proof.Proof.Gen.BranchRefIdeal.Run
public import Idealize.ShloMosaic.Lib.Pipeline.ValueKit
public import Idealize.ShloMosaic.Lib.Pipeline.ReadBack

@[expose] public section

set_option maxRecDepth 16384

noncomputable section

namespace Cert.BranchIdeal.Product

open Cert.BranchIdeal Cert.BranchIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val, 0] ∧ win0_1.index t = ![0, 0]
    ∧ win0_2.index t = ![t.val, 0] := by decide +kernel

/-- The arrays the kernel is given. -/
abbrev lhs (c : Dev nD) : S8448x1024.Idx → EReal := m ((c : Thread nD τ).loc main_arg0)
abbrev rhs (c : Dev nD) : S1024x1024.Idx → EReal := m ((c : Thread nD τ).loc main_arg1)

/-- The result: every entry the contraction over all 1024 positions. -/
def result (c : Dev nD) : S8448x1024.Idx → EReal := fun i =>
  ∑ l : Fin 1024, lhs m c (ix2 (i 0) l) * rhs m c (ix2 l (i 1))

/-- What a grid point stores, at an index. -/
theorem pay1_apply (x : S1408x1024.Idx → EReal) (y : S1024x1024.Idx → EReal) (j : S1408x1024.Idx) :
    k0_pay1 (F := Ideal) x y j = ∑ k : Fin 1024, x (ix2 (j 0) k) * y (ix2 k (j 1)) := by
  unfold k0_pay1
  pointwise

/-- What the result array holds after the run. -/
theorem final (c : Dev nD) : (dats m 0 c).arrAt 2 cfg0.N = result m c := by
  refine (dats m 0 c).arrAt_eq_of_covers 2 _ (by decide +kernel) fun t hf y => ?_
  blk_simp
  rw [after0_2]
  frame_out
  refine (pay1_apply _ _ _).trans ?_
  unfold result
  refine Finset.sum_congr rfl fun k _ => ?_
  congr 1
  · blk_ext [iblk, V, idx]
  · blk_ext [iblk, V, idx]

/-- The kernel and the reference end with the same array. -/
theorem algebraic : Cert.algebraic_BranchIdeal_BranchRefIdeal := by
  intro m ρ m' ρ' _ hagree
  refine ⟨_, Cert.BranchIdeal.Value.run_blocks (F := Ideal) m ρ, ?_⟩
  refine (θ_run Cert.BranchRefIdeal.defs _ _).mono (fun _ h c => ⟨?_, (h c).2⟩) (Cert.BranchRefIdeal.Value.run (F := Ideal) m' ρ')
  rw [(h c).1, final m c]
  simp only [hagree c]
  unfold result lhs rhs
  funext i
  pointwise

end Cert.BranchIdeal.Product

end
-- ==== Proof.Products.MixOut.lean ====
/-
  The mixer's output product, added to the layer's input.
-/
module

public import proofs.«01_k».proof.Defs
public import proofs.«01_k».proof.Proof.Gen.MixOutIdeal.Value
public import proofs.«01_k».proof.Proof.Gen.MixOutRefIdeal.Run
public import Idealize.ShloMosaic.Lib.Pipeline.ValueKit
public import Idealize.ShloMosaic.Lib.Pipeline.ReadBack

@[expose] public section

set_option maxRecDepth 16384

noncomputable section

namespace Cert.MixOutIdeal.Product

open Cert.MixOutIdeal Cert.MixOutIdeal.Gen Idealize.ShloMosaic Idealize.ShloMosaic.TcCoe Idealize.SL.Sem

variable (m : (ℓ : Loc nD τ sig) → Buf (Elt Ideal) ℓ)

/-- Which block of each array a grid point reads or writes. -/
theorem idx : ∀ t : Fin grid0.N, win0_0.index t = ![t.val, 0] ∧ win0_1.index t = ![0, 0]
    ∧ win0_2.index t = ![t.val, 0] ∧ win0_3.index t = ![t.val, 0] := by decide +kernel

/-- The arrays the kernel is given. -/
abbrev lhs (c : Dev nD) : S8448x1024.Idx → EReal := m ((c : Thread nD τ).loc main_arg0)
abbrev rhs (c : Dev nD) : S1024x1024.Idx → EReal := m ((c : Thread nD τ).loc main_arg1)
abbrev res (c : Dev nD) : S8448x1024.Idx → EReal := m ((c : Thread nD τ).loc main_arg2)

/-- The result: every entry the contraction over all 1024 positions, added to what it is given. -/
def result (c : Dev nD) : S8448x1024.Idx → EReal := fun i =>
  res m c i + ∑ l : Fin 1024, lhs m c (ix2 (i 0) l) * rhs m c (ix2 l (i 1))

/-- What a grid point stores, at an index. -/
theorem pay1_apply (x : S1408x1024.Idx → EReal) (y : S1024x1024.Idx → EReal) (z : S1408x1024.Idx → EReal) (j : S1408x1024.Idx) :
    k0_pay1 (F := Ideal) x y z j = z j + ∑ k : Fin 1024, x (ix2 (j 0) k) * y (ix2 k (j 1)) := by
  unfold k0_pay1
  pointwise

/-- What the result array holds after the run. -/
theorem final (c : Dev nD) : (dats m 0 c).arrAt 3 cfg0.N = result m c := by
  refine (dats m 0 c).arrAt_eq_of_covers 3 _ (by decide +kernel) fun t hf y => ?_
  blk_simp
  rw [after0_3]
  frame_out
  refine (pay1_apply _ _ _ _).trans ?_
  unfold result
  refine congrArg₂ (· + ·) (by blk_ext [iblk, V, idx]) ?_
  refine Finset.sum_congr rfl fun k _ => ?_
  congr 1
  · blk_ext [iblk, V, idx]
  · blk_ext [iblk, V, idx]

/-- The kernel and the reference end with the same array. -/
theorem algebraic : Cert.algebraic_MixOutIdeal_MixOutRefIdeal := by
  intro m ρ m' ρ' _ hagree
  refine ⟨_, Cert.MixOutIdeal.Value.run_blocks (F := Ideal) m ρ, ?_⟩
  refine (θ_run Cert.MixOutRefIdeal.defs _ _).mono (fun _ h c => ⟨?_, (h c).2⟩) (Cert.MixOutRefIdeal.Value.run (F := Ideal) m' ρ')
  rw [(h c).1, final m c]
  simp only [hagree c]
  unfold result lhs rhs res
  funext i
  pointwise

end Cert.MixOutIdeal.Product

end
-- ==== Proof.Products.FfnUp.lean ====
/-
  A feed-forward layer's first product and its gate: each grid point multiplies one block of 768 tokens with one block of
  the gate's rows and one of the value's rows of the weight, and stores both products and the gated value. The
  reference's one product of all 5632 rows is cut in the two halves.
-/
module

public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ReadBack

@[expose] public section

set_option maxRecDepth 16384

noncomputable section

namespace Cert.FfnUpIdeal.Product

open Cert.FfnUpIdeal Cert.FfnUpIdeal.Gen Idealize.ShloMosaic Idealize.ShloMosaic.TcCoe Idealize.SL.Sem

variable (m : (ℓ : Loc nD τ sig) → Buf (Elt Ideal) ℓ)

/-- Which block of each array a grid point reads or writes: the value's rows of the weight are its second half. -/
theorem idx : ∀ t : Fin grid0.N, win0_0.index t = ![t.val / 2, 0] ∧ win0_1.index t = ![t.val % 2, 0]
    ∧ win0_2.index t = ![2 + t.val % 2, 0] ∧ win0_3.index t = ![t.val / 2, t.val % 2]
    ∧ win0_4.index t = ![t.val / 2, t.val % 2] ∧ win0_5.index t = ![t.val / 2, t.val % 2] := by decide +kernel

/-- The arrays the kernel is given. -/
abbrev lhs (c : Dev nD) : S8448x1024.Idx → EReal := m ((c : Thread nD τ).loc main_arg0)
abbrev rhs (c : Dev nD) : S5632x1024.Idx → EReal := m ((c : Thread nD τ).loc main_arg1)

/-- A number times its logistic value. -/
def silu (g : EReal) : EReal := g * Ideal.div 1 (1 + Ideal.exp (-g))

/-- The gate's product. -/
def gate (c : Dev nD) : S8448x2816.Idx → EReal := fun i =>
  ∑ l : Fin 1024, lhs m c (ix2 (i 0) l) * rhs m c (ix2 ⟨(i 1).val, by have := (i 1).isLt; simp at this; omega⟩ l)

/-- The value's product. -/
def value (c : Dev nD) : S8448x2816.Idx → EReal := fun i =>
  ∑ l : Fin 1024, lhs m c (ix2 (i 0) l) * rhs m c (ix2 ⟨2816 + (i 1).val, by have := (i 1).isLt; simp at this; omega⟩ l)

/-- The gated value. -/
def act (c : Dev nD) : S8448x2816.Idx → EReal := fun i => silu (gate m c i) * value m c i

theorem pay1_apply (x : S768x1024.Idx → EReal) (y : S1408x1024.Idx → EReal) (j : S768x1408.Idx) :
    k0_pay1 (F := Ideal) x y j = ∑ k : Fin 1024, x (ix2 (j 0) k) * y (ix2 (j 1) k) := by
  unfold k0_pay1
  pointwise

theorem pay2_apply (x : S768x1024.Idx → EReal) (y : S1408x1024.Idx → EReal) (j : S768x1408.Idx) :
    k0_pay2 (F := Ideal) x y j = ∑ k : Fin 1024, x (ix2 (j 0) k) * y (ix2 (j 1) k) := by
  unfold k0_pay2
  pointwise

theorem pay3_apply (x : S768x1024.Idx → EReal) (y z : S1408x1024.Idx → EReal) (j : S768x1408.Idx) :
    k0_pay3 (F := Ideal) x y z j = silu (k0_pay1 (F := Ideal) x y j) * k0_pay2 (F := Ideal) x z j := by
  unfold k0_pay3 silu
  generalize k0_pay1 (F := Ideal) x y = g
  generalize k0_pay2 (F := Ideal) x z = u
  pointwise
  rw [zero_sub]

/-- A block's gate product is the block of the array's. -/
theorem gate_block (c : Dev nD) (t : Fin cfg0.N) (y : S768x1408.Idx) :
    k0_pay1 (F := Ideal) (iblk m c 0 t) (iblk m c 1 t) y = gate m c (((cfg0.win 3).blk t).view.emb y) := by
  refine (pay1_apply _ _ _).trans ?_
  unfold gate
  refine Finset.sum_congr rfl fun k _ => ?_
  congr 1
  · blk_ext [iblk, V, idx]
  · blk_ext [iblk, V, idx]

/-- A block's value product is the block of the array's. -/
theorem value_block (c : Dev nD) (t : Fin cfg0.N) (y : S768x1408.Idx) :
    k0_pay2 (F := Ideal) (iblk m c 0 t) (iblk m c 2 t) y = value m c (((cfg0.win 4).blk t).view.emb y) := by
  refine (pay2_apply _ _ _).trans ?_
  unfold value
  refine Finset.sum_congr rfl fun k _ => ?_
  congr 1
  · blk_ext [iblk, V, idx]
  · blk_ext [iblk, V, idx]

theorem final_gate (c : Dev nD) : (dats m 0 c).arrAt 3 cfg0.N = gate m c := by
  refine (dats m 0 c).arrAt_eq_of_covers 3 _ (by decide +kernel) fun t hf y => ?_
  rw [← gate_block m c t y]
  blk_simp
  rw [after0_3]
  frame_out

theorem final_value (c : Dev nD) : (dats m 0 c).arrAt 4 cfg0.N = value m c := by
  refine (dats m 0 c).arrAt_eq_of_covers 4 _ (by decide +kernel) fun t hf y => ?_
  rw [← value_block m c t y]
  blk_simp
  rw [after0_4]
  frame_out

theorem final_act (c : Dev nD) : (dats m 0 c).arrAt 5 cfg0.N = act m c := by
  refine (dats m 0 c).arrAt_eq_of_covers 5 _ (by decide +kernel) fun t hf y => ?_
  have e : act m c (((cfg0.win 5).blk t).view.emb y) = silu (gate m c (((cfg0.win 3).blk t).view.emb y)) * value m c (((cfg0.win 4).blk t).view.emb y) := rfl
  refine Eq.trans ?_ e.symm
  rw [← gate_block m c t y, ← value_block m c t y]
  blk_simp
  rw [after0_5]
  frame_out
  exact pay3_apply _ _ _ _

/-- The kernel and the reference end with the same three arrays. -/
theorem algebraic : Cert.algebraic_FfnUpIdeal_FfnUpRefIdeal := by
  intro m ρ m' ρ' _ hagree
  refine ⟨_, _, _, Cert.FfnUpIdeal.Value.run_blocks (F := Ideal) m ρ, ?_⟩
  refine (θ_run Cert.FfnUpRefIdeal.defs _ _).mono (fun _ h c => ⟨?_, ?_, ?_, (h c).2.2.2⟩) (Cert.FfnUpRefIdeal.Value.run (F := Ideal) m' ρ')
  · rw [(h c).1, final_gate m c]
    simp only [hagree c]
    unfold gate lhs rhs
    funext i
    pointwise
  · rw [(h c).2.1, final_value m c]
    simp only [hagree c]
    unfold value lhs rhs
    funext i
    pointwise
  · rw [(h c).2.2.1, final_act m c]
    simp only [hagree c]
    unfold act silu gate value lhs rhs
    funext i
    pointwise

end Cert.FfnUpIdeal.Product

end
-- ==== Proof.Step.Update.lean ====
/-
  One entry of the optimiser's step: the two running means and the change of the weight.
-/
module

public import Idealize.ShloMosaic.Lib.Pipeline.ValueKit

@[expose] public section

noncomputable section

namespace Cert.Adam

open Idealize.ShloMosaic

/-- A single-precision number as the programs hold it. -/
abbrev num (b : BitVec 32) : EReal := Scalar.ofBits (F := Ideal) .f32 b

/-- The running mean of the gradient. -/
def mean (m g : EReal) : EReal := num 0x3F666666#32 * m + num 0x3DCCCCCD#32 * g

/-- The running mean of its square. -/
def square (v g : EReal) : EReal := num 0x3F7FBE77#32 * v + num 0x3A83126F#32 * (g * g)

/-- The change of the weight. -/
def change (w g m v : EReal) : EReal :=
  num 0xBA83126F#32 * (Ideal.div (Ideal.div (mean m g) (num 0x3F26BD02#32))
    (Ideal.sqrt (Ideal.div (square v g) (num 0x3C231ACC#32)) + num 0x322BCC77#32) + num 0x3C23D70A#32 * w)

/-- A cast to an array's own shape changes nothing. -/
theorem cast_self {α : Type} {s : Shape} (x : s.Idx → α) (h : s.ShapeCasts s) : shapeCast s x h = x :=
  funext fun j => shapeCast_apply _ _ j j rfl

variable {ι : Type} (w g m v : ι → EReal)

/-- The three results over whole arrays. -/
abbrev changes : ι → EReal := fun i => change (w i) (g i) (m i) (v i)
abbrev means : ι → EReal := fun i => mean (m i) (g i)
abbrev squares : ι → EReal := fun i => square (v i) (g i)

end Cert.Adam

end
-- ==== Proof.Step.Norms.lean ====
/-
  The optimiser's step on the norms' scales and the vectors of the gated recurrence, four rows each in one grid point:
  what each program's three arrays hold at its end, and
  that its reference ends with the same.
-/
module

public import proofs.«01_k».proof.Defs
public import proofs.«01_k».proof.Proof.Gen.AdamFfn1NormIdeal.Value
public import proofs.«01_k».proof.Proof.Gen.AdamFfn1NormRefIdeal.Run
public import proofs.«01_k».proof.Proof.Gen.AdamMixNormIdeal.Value
public import proofs.«01_k».proof.Proof.Gen.AdamMixNormRefIdeal.Run
public import proofs.«01_k».proof.Proof.Gen.AdamSsdNormIdeal.Value
public import proofs.«01_k».proof.Proof.Gen.AdamSsdNormRefIdeal.Run
public import proofs.«01_k».proof.Proof.Gen.AdamLruConvBIdeal.Value
public import proofs.«01_k».proof.Proof.Gen.AdamLruConvBRefIdeal.Run
public import proofs.«01_k».proof.Proof.Gen.AdamLruBAIdeal.Value
public import proofs.«01_k».proof.Proof.Gen.AdamLruBARefIdeal.Run
public import proofs.«01_k».proof.Proof.Gen.AdamLruBXIdeal.Value
public import proofs.«01_k».proof.Proof.Gen.AdamLruBXRefIdeal.Run
public import proofs.«01_k».proof.Proof.Gen.AdamLruLambdaIdeal.Value
public import proofs.«01_k».proof.Proof.Gen.AdamLruLambdaRefIdeal.Run
public import proofs.«01_k».proof.Proof.Gen.AdamFfn2NormIdeal.Value
public import proofs.«01_k».proof.Proof.Gen.AdamFfn2NormRefIdeal.Run
public import Idealize.ShloMosaic.Lib.Pipeline.ReadBack
public import proofs.«01_k».proof.Proof.Step.Update

@[expose] public section

set_option maxRecDepth 16384

noncomputable section

open Cert.Adam Idealize.ShloMosaic Idealize.ShloMosaic.TcCoe Idealize.SL.Sem

/-! ffn1_norm -/

namespace Cert.AdamFfn1NormIdeal.Update

open Cert.AdamFfn1NormIdeal Cert.AdamFfn1NormIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn1NormIdeal_AdamFfn1NormRefIdeal := by
  intro m ρ m' ρ' _ hagree
  refine ⟨_, _, _, Value.run_blocks (F := Ideal) m ρ, (θ_run Cert.AdamFfn1NormRefIdeal.defs _ _).mono (fun _ h c => ?_) (Cert.AdamFfn1NormRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn1NormIdeal.Update

/-! mix_norm -/

namespace Cert.AdamMixNormIdeal.Update

open Cert.AdamMixNormIdeal Cert.AdamMixNormIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamMixNormIdeal_AdamMixNormRefIdeal := by
  intro m ρ m' ρ' _ hagree
  refine ⟨_, _, _, Value.run_blocks (F := Ideal) m ρ, (θ_run Cert.AdamMixNormRefIdeal.defs _ _).mono (fun _ h c => ?_) (Cert.AdamMixNormRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamMixNormIdeal.Update

/-! ssd_norm -/

namespace Cert.AdamSsdNormIdeal.Update

open Cert.AdamSsdNormIdeal Cert.AdamSsdNormIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdNormIdeal_AdamSsdNormRefIdeal := by
  intro m ρ m' ρ' _ hagree
  refine ⟨_, _, _, Value.run_blocks (F := Ideal) m ρ, (θ_run Cert.AdamSsdNormRefIdeal.defs _ _).mono (fun _ h c => ?_) (Cert.AdamSsdNormRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdNormIdeal.Update

/-! lru_conv_b -/

namespace Cert.AdamLruConvBIdeal.Update

open Cert.AdamLruConvBIdeal Cert.AdamLruConvBIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruConvBIdeal_AdamLruConvBRefIdeal := by
  intro m ρ m' ρ' _ hagree
  refine ⟨_, _, _, Value.run_blocks (F := Ideal) m ρ, (θ_run Cert.AdamLruConvBRefIdeal.defs _ _).mono (fun _ h c => ?_) (Cert.AdamLruConvBRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruConvBIdeal.Update

/-! lru_b_a -/

namespace Cert.AdamLruBAIdeal.Update

open Cert.AdamLruBAIdeal Cert.AdamLruBAIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruBAIdeal_AdamLruBARefIdeal := by
  intro m ρ m' ρ' _ hagree
  refine ⟨_, _, _, Value.run_blocks (F := Ideal) m ρ, (θ_run Cert.AdamLruBARefIdeal.defs _ _).mono (fun _ h c => ?_) (Cert.AdamLruBARefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruBAIdeal.Update

/-! lru_b_x -/

namespace Cert.AdamLruBXIdeal.Update

open Cert.AdamLruBXIdeal Cert.AdamLruBXIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruBXIdeal_AdamLruBXRefIdeal := by
  intro m ρ m' ρ' _ hagree
  refine ⟨_, _, _, Value.run_blocks (F := Ideal) m ρ, (θ_run Cert.AdamLruBXRefIdeal.defs _ _).mono (fun _ h c => ?_) (Cert.AdamLruBXRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruBXIdeal.Update

/-! lru_lambda -/

namespace Cert.AdamLruLambdaIdeal.Update

open Cert.AdamLruLambdaIdeal Cert.AdamLruLambdaIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruLambdaIdeal_AdamLruLambdaRefIdeal := by
  intro m ρ m' ρ' _ hagree
  refine ⟨_, _, _, Value.run_blocks (F := Ideal) m ρ, (θ_run Cert.AdamLruLambdaRefIdeal.defs _ _).mono (fun _ h c => ?_) (Cert.AdamLruLambdaRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruLambdaIdeal.Update

/-! ffn2_norm -/

namespace Cert.AdamFfn2NormIdeal.Update

open Cert.AdamFfn2NormIdeal Cert.AdamFfn2NormIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn2NormIdeal_AdamFfn2NormRefIdeal := by
  intro m ρ m' ρ' _ hagree
  refine ⟨_, _, _, Value.run_blocks (F := Ideal) m ρ, (θ_run Cert.AdamFfn2NormRefIdeal.defs _ _).mono (fun _ h c => ?_) (Cert.AdamFfn2NormRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn2NormIdeal.Update

end
-- ==== Proof.Step.Vectors.lean ====
/-
  The optimiser's step on the meta tokens and the small vectors, each in one grid point:
  what each program's three arrays hold at its end, and
  that its reference ends with the same.
-/
module

public import proofs.«01_k».proof.Defs
public import proofs.«01_k».proof.Proof.Gen.AdamMetaTokensIdeal.Value
public import proofs.«01_k».proof.Proof.Gen.AdamMetaTokensRefIdeal.Run
public import proofs.«01_k».proof.Proof.Gen.AdamFoxForgetBiasIdeal.Value
public import proofs.«01_k».proof.Proof.Gen.AdamFoxForgetBiasRefIdeal.Run
public import proofs.«01_k».proof.Proof.Gen.AdamSsdConvBIdeal.Value
public import proofs.«01_k».proof.Proof.Gen.AdamSsdConvBRefIdeal.Run
public import proofs.«01_k».proof.Proof.Gen.AdamSsdDtBiasIdeal.Value
public import proofs.«01_k».proof.Proof.Gen.AdamSsdDtBiasRefIdeal.Run
public import proofs.«01_k».proof.Proof.Gen.AdamSsdALogIdeal.Value
public import proofs.«01_k».proof.Proof.Gen.AdamSsdALogRefIdeal.Run
public import proofs.«01_k».proof.Proof.Gen.AdamSsdDIdeal.Value
public import proofs.«01_k».proof.Proof.Gen.AdamSsdDRefIdeal.Run
public import Idealize.ShloMosaic.Lib.Pipeline.ReadBack
public import proofs.«01_k».proof.Proof.Step.Update

@[expose] public section

set_option maxRecDepth 16384

noncomputable section

open Cert.Adam Idealize.ShloMosaic Idealize.ShloMosaic.TcCoe Idealize.SL.Sem

/-! meta_tokens -/

namespace Cert.AdamMetaTokensIdeal.Update

open Cert.AdamMetaTokensIdeal Cert.AdamMetaTokensIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamMetaTokensIdeal_AdamMetaTokensRefIdeal := by
  intro m ρ m' ρ' _ hagree
  refine ⟨_, _, _, Value.run_blocks (F := Ideal) m ρ, (θ_run Cert.AdamMetaTokensRefIdeal.defs _ _).mono (fun _ h c => ?_) (Cert.AdamMetaTokensRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamMetaTokensIdeal.Update

/-! fox_forget_bias -/

namespace Cert.AdamFoxForgetBiasIdeal.Update

open Cert.AdamFoxForgetBiasIdeal Cert.AdamFoxForgetBiasIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFoxForgetBiasIdeal_AdamFoxForgetBiasRefIdeal := by
  intro m ρ m' ρ' _ hagree
  refine ⟨_, _, _, Value.run_blocks (F := Ideal) m ρ, (θ_run Cert.AdamFoxForgetBiasRefIdeal.defs _ _).mono (fun _ h c => ?_) (Cert.AdamFoxForgetBiasRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFoxForgetBiasIdeal.Update

/-! ssd_conv_b -/

namespace Cert.AdamSsdConvBIdeal.Update

open Cert.AdamSsdConvBIdeal Cert.AdamSsdConvBIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdConvBIdeal_AdamSsdConvBRefIdeal := by
  intro m ρ m' ρ' _ hagree
  refine ⟨_, _, _, Value.run_blocks (F := Ideal) m ρ, (θ_run Cert.AdamSsdConvBRefIdeal.defs _ _).mono (fun _ h c => ?_) (Cert.AdamSsdConvBRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdConvBIdeal.Update

/-! ssd_dt_bias -/

namespace Cert.AdamSsdDtBiasIdeal.Update

open Cert.AdamSsdDtBiasIdeal Cert.AdamSsdDtBiasIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdDtBiasIdeal_AdamSsdDtBiasRefIdeal := by
  intro m ρ m' ρ' _ hagree
  refine ⟨_, _, _, Value.run_blocks (F := Ideal) m ρ, (θ_run Cert.AdamSsdDtBiasRefIdeal.defs _ _).mono (fun _ h c => ?_) (Cert.AdamSsdDtBiasRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdDtBiasIdeal.Update

/-! ssd_a_log -/

namespace Cert.AdamSsdALogIdeal.Update

open Cert.AdamSsdALogIdeal Cert.AdamSsdALogIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdALogIdeal_AdamSsdALogRefIdeal := by
  intro m ρ m' ρ' _ hagree
  refine ⟨_, _, _, Value.run_blocks (F := Ideal) m ρ, (θ_run Cert.AdamSsdALogRefIdeal.defs _ _).mono (fun _ h c => ?_) (Cert.AdamSsdALogRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdALogIdeal.Update

/-! ssd_d -/

namespace Cert.AdamSsdDIdeal.Update

open Cert.AdamSsdDIdeal Cert.AdamSsdDIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_arg0) (V m c main_arg1) (V m c main_arg2) (V m c main_arg3)
    ∧ (dats m 0 c).arrAt 5 cfg0.N = means (V m c main_arg1) (V m c main_arg2) ∧ (dats m 0 c).arrAt 6 cfg0.N = squares (V m c main_arg1) (V m c main_arg3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdDIdeal_AdamSsdDRefIdeal := by
  intro m ρ m' ρ' _ hagree
  refine ⟨_, _, _, Value.run_blocks (F := Ideal) m ρ, (θ_run Cert.AdamSsdDRefIdeal.defs _ _).mono (fun _ h c => ?_) (Cert.AdamSsdDRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdDIdeal.Update

end
-- ==== Proof.Step.Weights.lean ====
/-
  The optimiser's step on the weights of the products, in blocks of 512 rows (the second feed-forward weights' are 352):
  what each program's three arrays hold at its end, and
  that its reference ends with the same.
-/
module

public import proofs.«01_k».proof.Defs
public import proofs.«01_k».proof.Proof.Gen.AdamFfn1WGateUpIdeal.Value
public import proofs.«01_k».proof.Proof.Gen.AdamFfn1WGateUpRefIdeal.Run
public import proofs.«01_k».proof.Proof.Gen.AdamFfn1WDownIdeal.Value
public import proofs.«01_k».proof.Proof.Gen.AdamFfn1WDownRefIdeal.Run
public import proofs.«01_k».proof.Proof.Gen.AdamWInIdeal.Value
public import proofs.«01_k».proof.Proof.Gen.AdamWInRefIdeal.Run
public import proofs.«01_k».proof.Proof.Gen.AdamWBranchAttnIdeal.Value
public import proofs.«01_k».proof.Proof.Gen.AdamWBranchAttnRefIdeal.Run
public import proofs.«01_k».proof.Proof.Gen.AdamWBranchSsdIdeal.Value
public import proofs.«01_k».proof.Proof.Gen.AdamWBranchSsdRefIdeal.Run
public import proofs.«01_k».proof.Proof.Gen.AdamWBranchLruIdeal.Value
public import proofs.«01_k».proof.Proof.Gen.AdamWBranchLruRefIdeal.Run
public import proofs.«01_k».proof.Proof.Gen.AdamWOutIdeal.Value
public import proofs.«01_k».proof.Proof.Gen.AdamWOutRefIdeal.Run
public import proofs.«01_k».proof.Proof.Gen.AdamFfn2WGateUpIdeal.Value
public import proofs.«01_k».proof.Proof.Gen.AdamFfn2WGateUpRefIdeal.Run
public import proofs.«01_k».proof.Proof.Gen.AdamFfn2WDownIdeal.Value
public import proofs.«01_k».proof.Proof.Gen.AdamFfn2WDownRefIdeal.Run
public import Idealize.ShloMosaic.Lib.Pipeline.ReadBack
public import proofs.«01_k».proof.Proof.Step.Update

@[expose] public section

set_option maxRecDepth 16384

noncomputable section

open Cert.Adam Idealize.ShloMosaic Idealize.ShloMosaic.TcCoe Idealize.SL.Sem

/-! ffn1_w_gate_up -/

namespace Cert.AdamFfn1WGateUpIdeal.Update

open Cert.AdamFfn1WGateUpIdeal Cert.AdamFfn1WGateUpIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn1WGateUpIdeal_AdamFfn1WGateUpRefIdeal := by
  intro m ρ m' ρ' _ hagree
  refine ⟨_, _, _, Value.run_blocks (F := Ideal) m ρ, (θ_run Cert.AdamFfn1WGateUpRefIdeal.defs _ _).mono (fun _ h c => ?_) (Cert.AdamFfn1WGateUpRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn1WGateUpIdeal.Update

/-! ffn1_w_down -/

namespace Cert.AdamFfn1WDownIdeal.Update

open Cert.AdamFfn1WDownIdeal Cert.AdamFfn1WDownIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn1WDownIdeal_AdamFfn1WDownRefIdeal := by
  intro m ρ m' ρ' _ hagree
  refine ⟨_, _, _, Value.run_blocks (F := Ideal) m ρ, (θ_run Cert.AdamFfn1WDownRefIdeal.defs _ _).mono (fun _ h c => ?_) (Cert.AdamFfn1WDownRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn1WDownIdeal.Update

/-! w_in -/

namespace Cert.AdamWInIdeal.Update

open Cert.AdamWInIdeal Cert.AdamWInIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamWInIdeal_AdamWInRefIdeal := by
  intro m ρ m' ρ' _ hagree
  refine ⟨_, _, _, Value.run_blocks (F := Ideal) m ρ, (θ_run Cert.AdamWInRefIdeal.defs _ _).mono (fun _ h c => ?_) (Cert.AdamWInRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamWInIdeal.Update

/-! w_branch_attn -/

namespace Cert.AdamWBranchAttnIdeal.Update

open Cert.AdamWBranchAttnIdeal Cert.AdamWBranchAttnIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamWBranchAttnIdeal_AdamWBranchAttnRefIdeal := by
  intro m ρ m' ρ' _ hagree
  refine ⟨_, _, _, Value.run_blocks (F := Ideal) m ρ, (θ_run Cert.AdamWBranchAttnRefIdeal.defs _ _).mono (fun _ h c => ?_) (Cert.AdamWBranchAttnRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamWBranchAttnIdeal.Update

/-! w_branch_ssd -/

namespace Cert.AdamWBranchSsdIdeal.Update

open Cert.AdamWBranchSsdIdeal Cert.AdamWBranchSsdIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamWBranchSsdIdeal_AdamWBranchSsdRefIdeal := by
  intro m ρ m' ρ' _ hagree
  refine ⟨_, _, _, Value.run_blocks (F := Ideal) m ρ, (θ_run Cert.AdamWBranchSsdRefIdeal.defs _ _).mono (fun _ h c => ?_) (Cert.AdamWBranchSsdRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamWBranchSsdIdeal.Update

/-! w_branch_lru -/

namespace Cert.AdamWBranchLruIdeal.Update

open Cert.AdamWBranchLruIdeal Cert.AdamWBranchLruIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamWBranchLruIdeal_AdamWBranchLruRefIdeal := by
  intro m ρ m' ρ' _ hagree
  refine ⟨_, _, _, Value.run_blocks (F := Ideal) m ρ, (θ_run Cert.AdamWBranchLruRefIdeal.defs _ _).mono (fun _ h c => ?_) (Cert.AdamWBranchLruRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamWBranchLruIdeal.Update

/-! w_out -/

namespace Cert.AdamWOutIdeal.Update

open Cert.AdamWOutIdeal Cert.AdamWOutIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamWOutIdeal_AdamWOutRefIdeal := by
  intro m ρ m' ρ' _ hagree
  refine ⟨_, _, _, Value.run_blocks (F := Ideal) m ρ, (θ_run Cert.AdamWOutRefIdeal.defs _ _).mono (fun _ h c => ?_) (Cert.AdamWOutRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamWOutIdeal.Update

/-! ffn2_w_gate_up -/

namespace Cert.AdamFfn2WGateUpIdeal.Update

open Cert.AdamFfn2WGateUpIdeal Cert.AdamFfn2WGateUpIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn2WGateUpIdeal_AdamFfn2WGateUpRefIdeal := by
  intro m ρ m' ρ' _ hagree
  refine ⟨_, _, _, Value.run_blocks (F := Ideal) m ρ, (θ_run Cert.AdamFfn2WGateUpRefIdeal.defs _ _).mono (fun _ h c => ?_) (Cert.AdamFfn2WGateUpRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn2WGateUpIdeal.Update

/-! ffn2_w_down -/

namespace Cert.AdamFfn2WDownIdeal.Update

open Cert.AdamFfn2WDownIdeal Cert.AdamFfn2WDownIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFfn2WDownIdeal_AdamFfn2WDownRefIdeal := by
  intro m ρ m' ρ' _ hagree
  refine ⟨_, _, _, Value.run_blocks (F := Ideal) m ρ, (θ_run Cert.AdamFfn2WDownRefIdeal.defs _ _).mono (fun _ h c => ?_) (Cert.AdamFfn2WDownRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFfn2WDownIdeal.Update

end
-- ==== Proof.Step.Rest.lean ====
/-
  The optimiser's step on the convolutions' taps, the recurrence's block-diagonal weights and the last norm's scale:
  what each program's three arrays hold at its end, and
  that its reference ends with the same.
-/
module

public import proofs.«01_k».proof.Defs
public import proofs.«01_k».proof.Proof.Gen.AdamSsdConvWIdeal.Value
public import proofs.«01_k».proof.Proof.Gen.AdamSsdConvWRefIdeal.Run
public import proofs.«01_k».proof.Proof.Gen.AdamLruConvWIdeal.Value
public import proofs.«01_k».proof.Proof.Gen.AdamLruConvWRefIdeal.Run
public import proofs.«01_k».proof.Proof.Gen.AdamLruWAIdeal.Value
public import proofs.«01_k».proof.Proof.Gen.AdamLruWARefIdeal.Run
public import proofs.«01_k».proof.Proof.Gen.AdamLruWXIdeal.Value
public import proofs.«01_k».proof.Proof.Gen.AdamLruWXRefIdeal.Run
public import proofs.«01_k».proof.Proof.Gen.AdamFinalNormIdeal.Value
public import proofs.«01_k».proof.Proof.Gen.AdamFinalNormRefIdeal.Run
public import Idealize.ShloMosaic.Lib.Pipeline.ReadBack
public import proofs.«01_k».proof.Proof.Step.Update

@[expose] public section

set_option maxRecDepth 16384

noncomputable section

open Cert.Adam Idealize.ShloMosaic Idealize.ShloMosaic.TcCoe Idealize.SL.Sem

/-! ssd_conv_w -/

namespace Cert.AdamSsdConvWIdeal.Update

open Cert.AdamSsdConvWIdeal Cert.AdamSsdConvWIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamSsdConvWIdeal_AdamSsdConvWRefIdeal := by
  intro m ρ m' ρ' _ hagree
  refine ⟨_, _, _, Value.run_blocks (F := Ideal) m ρ, (θ_run Cert.AdamSsdConvWRefIdeal.defs _ _).mono (fun _ h c => ?_) (Cert.AdamSsdConvWRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamSsdConvWIdeal.Update

/-! lru_conv_w -/

namespace Cert.AdamLruConvWIdeal.Update

open Cert.AdamLruConvWIdeal Cert.AdamLruConvWIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruConvWIdeal_AdamLruConvWRefIdeal := by
  intro m ρ m' ρ' _ hagree
  refine ⟨_, _, _, Value.run_blocks (F := Ideal) m ρ, (θ_run Cert.AdamLruConvWRefIdeal.defs _ _).mono (fun _ h c => ?_) (Cert.AdamLruConvWRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruConvWIdeal.Update

/-! lru_w_a -/

namespace Cert.AdamLruWAIdeal.Update

open Cert.AdamLruWAIdeal Cert.AdamLruWAIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruWAIdeal_AdamLruWARefIdeal := by
  intro m ρ m' ρ' _ hagree
  refine ⟨_, _, _, Value.run_blocks (F := Ideal) m ρ, (θ_run Cert.AdamLruWARefIdeal.defs _ _).mono (fun _ h c => ?_) (Cert.AdamLruWARefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruWAIdeal.Update

/-! lru_w_x -/

namespace Cert.AdamLruWXIdeal.Update

open Cert.AdamLruWXIdeal Cert.AdamLruWXIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamLruWXIdeal_AdamLruWXRefIdeal := by
  intro m ρ m' ρ' _ hagree
  refine ⟨_, _, _, Value.run_blocks (F := Ideal) m ρ, (θ_run Cert.AdamLruWXRefIdeal.defs _ _).mono (fun _ h c => ?_) (Cert.AdamLruWXRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamLruWXIdeal.Update

/-! final_norm -/

namespace Cert.AdamFinalNormIdeal.Update

open Cert.AdamFinalNormIdeal Cert.AdamFinalNormIdeal.Gen

variable (m : (ℓ : Loc nD τ sig) → Buf (Elt Ideal) ℓ) (c : Dev nD)

theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem final : (dats m 0 c).arrAt 4 cfg0.N = changes (V m c main_v0) (V m c main_v1) (V m c main_v2) (V m c main_v3)
    ∧ (dats m 0 c).arrAt 5 cfg0.N = means (V m c main_v1) (V m c main_v2) ∧ (dats m 0 c).arrAt 6 cfg0.N = squares (V m c main_v1) (V m c main_v3) := by
  refine ⟨?_, ?_, ?_⟩ <;> refine (dats m 0 c).arrAt_eq_of_covers _ _ (by decide +kernel) fun t hf y => ?_ <;> blk_simp <;>
    (first | rw [after0_4] | rw [after0_5] | rw [after0_6]) <;> frame_out <;> simp only [k0_pay1, k0_pay2, k0_pay3, k0_pay4, cast_self] <;> (first
      | (show change (iblk m c 0 t y) (iblk m c 1 t y) (iblk m c 2 t y) (iblk m c 3 t y) = _)
      | (show mean (iblk m c 2 t y) (iblk m c 1 t y) = _) | (show square (iblk m c 3 t y) (iblk m c 1 t y) = _)) <;>
    congr 1 <;> blk_ext [iblk, V, idx]

theorem algebraic : Cert.algebraic_AdamFinalNormIdeal_AdamFinalNormRefIdeal := by
  intro m ρ m' ρ' _ hagree
  refine ⟨_, _, _, Value.run_blocks (F := Ideal) m ρ, (θ_run Cert.AdamFinalNormRefIdeal.defs _ _).mono (fun _ h c => ?_) (Cert.AdamFinalNormRefIdeal.Value.run (F := Ideal) m' ρ')⟩
  obtain ⟨a, b, d⟩ := final m c
  refine ⟨((h c).1.trans ?_).trans a.symm, ((h c).2.1.trans ?_).trans b.symm, ((h c).2.2.1.trans ?_).trans d.symm, (h c).2.2.2⟩ <;> simp only [hagree c] <;> rfl

end Cert.AdamFinalNormIdeal.Update

end
-- ==== Proof.Rows.MergeBwd.lean ====
/-
  The merge's gradients: each grid point fills one block of 384 tokens of the three branches' gradients and of the gates'.
-/
module

public import proofs.«01_k».proof.Defs
public import proofs.«01_k».proof.Proof.Gen.MergeBwdIdeal.Value
public import proofs.«01_k».proof.Proof.Gen.MergeBwdRefIdeal.Run
public import Idealize.ShloMosaic.Lib.Pipeline.ValueKit
public import Idealize.ShloMosaic.Lib.Pipeline.ReadBack

@[expose] public section

set_option maxRecDepth 16384

noncomputable section

namespace Cert.MergeBwdIdeal.Rows

open Cert.MergeBwdIdeal Cert.MergeBwdIdeal.Gen Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 4] ∧ win0_2.index t = ![t.val, 5] ∧ win0_3.index t = ![t.val, 6]
    ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] := by decide +kernel

/-- A single-precision number as the programs hold it. -/
abbrev num (b : BitVec 32) : EReal := Scalar.ofBits (F := Ideal) .f32 b

/-- The logistic value. -/
def gate (x : EReal) : EReal := Ideal.div (num 0x3F800000#32) (num 0x3F800000#32 + Ideal.exp (-x))

/-- The gate's column of the projection for an entry of branch `k`. -/
def logit (k : Fin 3) (i : S8448x1024.Idx) : EReal :=
  V m c main_arg1 (ix2 (i 0) ⟨4096 + 1024 * k.val + (i 1).val, by have := (i 1).isLt; simp at this; omega⟩)

theorem logit0_block (t : Fin cfg0.N) (y : S384x1024.Idx) : X0_1 m c t y = logit m c 0 (((cfg0.win 7).blk t).view.emb y) := by
  unfold X0_1 Pipeline.Window.fill logit
  rw [dif_pos (moved0_1 t y)]
  blk_ext [iblk, V, idx]

theorem logit1_block (t : Fin cfg0.N) (y : S384x1024.Idx) : X0_2 m c t y = logit m c 1 (((cfg0.win 8).blk t).view.emb y) := by
  unfold X0_2 Pipeline.Window.fill logit
  rw [dif_pos (moved0_2 t y)]
  blk_ext [iblk, V, idx]

theorem logit2_block (t : Fin cfg0.N) (y : S384x1024.Idx) : X0_3 m c t y = logit m c 2 (((cfg0.win 9).blk t).view.emb y) := by
  unfold X0_3 Pipeline.Window.fill logit
  rw [dif_pos (moved0_3 t y)]
  blk_ext [iblk, V, idx]

theorem pay6_apply (d x : S384x1024.Idx → EReal) (j : S384x1024.Idx) : k0_pay6 (F := Ideal) d x j = d j * gate (x j) := by
  unfold k0_pay6 k0_pay5 gate
  pointwise
  rw [zero_sub]

theorem pay9_apply (d x : S384x1024.Idx → EReal) (j : S384x1024.Idx) : k0_pay9 (F := Ideal) d x j = d j * gate (x j) := by
  unfold k0_pay9 k0_pay8 gate
  pointwise
  rw [zero_sub]

theorem pay3_apply (d x : S384x1024.Idx → EReal) (j : S384x1024.Idx) : k0_pay3 (F := Ideal) d x j = d j * gate (x j) := by
  unfold k0_pay3 k0_pay2 gate
  pointwise
  rw [zero_sub]

/-- A gradient through a gate. -/
def gated (d x : EReal) : EReal := d * gate x

/-- The gradient of branch `k`'s product. -/
def branch (k : Fin 3) : S8448x1024.Idx → EReal := fun i => gated (V m c main_arg0 i) (logit m c k i)

theorem final0 : (dats m 0 c).arrAt 7 cfg0.N = branch m c 0 := by
  refine (dats m 0 c).arrAt_eq_of_covers 7 _ (by decide +kernel) fun t hf y => ?_
  blk_simp
  rw [after0_7]
  unfold outsAt0
  frame_out
  refine (pay6_apply _ _ _).trans ?_
  refine congrArg₂ gated ?_ (logit0_block m c t y)
  blk_ext [iblk, V, idx]

theorem final1 : (dats m 0 c).arrAt 8 cfg0.N = branch m c 1 := by
  refine (dats m 0 c).arrAt_eq_of_covers 8 _ (by decide +kernel) fun t hf y => ?_
  blk_simp
  rw [after0_8]
  unfold outsAt0
  frame_out
  refine (pay9_apply _ _ _).trans ?_
  refine congrArg₂ gated ?_ (logit1_block m c t y)
  blk_ext [iblk, V, idx]

theorem final2 : (dats m 0 c).arrAt 9 cfg0.N = branch m c 2 := by
  refine (dats m 0 c).arrAt_eq_of_covers 9 _ (by decide +kernel) fun t hf y => ?_
  blk_simp
  rw [after0_9]
  unfold outsAt0
  frame_out
  refine (pay3_apply _ _ _).trans ?_
  refine congrArg₂ gated ?_ (logit2_block m c t y)
  blk_ext [iblk, V, idx]

/-- A gate's gradient. -/
def slope (d p x : EReal) : EReal := d * p * (gate x * (num 0x3F800000#32 - gate x))

theorem pay4_apply (d x p : S384x1024.Idx → EReal) (j : S384x1024.Idx) : k0_pay4 (F := Ideal) d x p j = slope (d j) (p j) (x j) := by
  unfold k0_pay4 k0_pay2 slope gate
  pointwise
  simp only [zero_sub, mul_assoc]

theorem pay1_apply (d x p : S384x1024.Idx → EReal) (j : S384x1024.Idx) :
    k0_pay1 (F := Ideal) (k0_pay8 (F := Ideal) x) (k0_pay10 (F := Ideal) d p) j = slope (d j) (p j) (x j) := by
  unfold k0_pay1 k0_pay8 k0_pay10 slope gate
  pointwise
  simp only [zero_sub, mul_assoc]

theorem pay7_apply (d x p : S384x1024.Idx → EReal) (j : S384x1024.Idx) : k0_pay7 (F := Ideal) d x p j = slope (d j) (p j) (x j) := by
  unfold k0_pay7 k0_pay5 slope gate
  pointwise
  simp only [zero_sub, mul_assoc]

/-- The product of two arrays of one branch at column `n`. -/
def under (u v : S8448x1024.Idx → EReal) (i : S8448x3072.Idx) (n : ℕ) (h : n < 1024) : EReal := u (ix2 (i 0) ⟨n, h⟩) * v (ix2 (i 0) ⟨n, h⟩)

/-- The gates' gradient, the three branches side by side. -/
def wide : S8448x3072.Idx → EReal := fun i =>
  (if h : (i 1).val < 1024 then under (V m c main_arg0) (V m c main_arg2) i (i 1).val h
    else if h : (i 1).val - 1024 < 1024 then under (V m c main_arg0) (V m c main_arg3) i ((i 1).val - 1024) h
    else under (V m c main_arg0) (V m c main_arg4) i ((i 1).val - 1024 - 1024) (by have := (i 1).isLt; simp at this; omega))
  * (gate (V m c main_arg1 (ix2 (i 0) ⟨4096 + (i 1).val, by have := (i 1).isLt; simp at this; omega⟩))
    * (num 0x3F800000#32 - gate (V m c main_arg1 (ix2 (i 0) ⟨4096 + (i 1).val, by have := (i 1).isLt; simp at this; omega⟩))))

theorem wide_at (k : Fin 3) (i : S8448x3072.Idx) (j : S8448x1024.Idx) (h0 : (i 0).val = (j 0).val) (h1 : (i 1).val = 1024 * k.val + (j 1).val) :
    wide m c i = slope (V m c main_arg0 j) ((![V m c main_arg2, V m c main_arg3, V m c main_arg4] : Fin 3 → S8448x1024.Idx → EReal) k j) (logit m c k j) := by
  have hj := (j 1).isLt
  simp at hj
  have ej (n : ℕ) (hn : n < 1024) (q : n = (j 1).val) : (ix2 (i 0) ⟨n, hn⟩ : S8448x1024.Idx) = j := by
    funext a
    fin_cases a
    · exact Fin.ext h0
    · exact Fin.ext q
  have el : logit m c k j = V m c main_arg1 (ix2 (i 0) ⟨4096 + (i 1).val, by omega⟩) := by
    unfold logit
    refine congrArg (V m c main_arg1) ?_
    funext a
    fin_cases a
    · exact Fin.ext h0.symm
    · exact Fin.ext (by show 4096 + 1024 * k.val + (j 1).val = 4096 + (i 1).val; omega)
  rw [el]
  unfold wide slope
  refine congrArg (· * _) ?_
  fin_cases k
  · simp at h1
    rw [dif_pos (by omega)]
    unfold under
    rw [ej _ _ (by omega)]
    rfl
  · simp at h1
    rw [dif_neg (by omega), dif_pos (by omega)]
    unfold under
    rw [ej _ _ (by omega)]
    rfl
  · simp at h1
    rw [dif_neg (by omega), dif_neg (by omega)]
    unfold under
    rw [ej _ _ (by omega)]
    rfl

theorem final3 : (dats m 0 c).arrAt 10 cfg0.N = wide m c := by
  refine (dats m 0 c).arrAt_eq_of_covers 10 _ (by decide +kernel) fun t hf y => ?_
  blk_simp
  rw [after0_10]
  unfold outsAt0
  frame_out
  have s3 {a b p q x z : EReal} (u : a = b) (v : p = q) (w : x = z) : slope a p x = slope b q z := by rw [u, v, w]
  canon_tiles x h
  · refine (pay4_apply _ _ _ _).trans ((wide_at m c 2 _ (((cfg0.win 9).blk t).view.emb x) ?_ ?_).trans ?_).symm
    · refine (Pipeline.Window.rect_emb_val win0_10 t y 0).trans ((congrArg₂ (· + ·) ?_ h0).trans (Pipeline.Window.rect_emb_val win0_9 t x 0).symm)
      rw [(idx t).2.2.2.2.2.2.2.2.2.2, (idx t).2.2.2.2.2.2.2.2.2.1]
      rfl
    · refine (Pipeline.Window.rect_emb_val_of_index_zero win0_10 t 1 (by rw [(idx t).2.2.2.2.2.2.2.2.2.2]; rfl) y).trans (h1.trans ?_)
      refine Eq.trans ?_ (congrArg (2048 + ·) (Pipeline.Window.rect_emb_val_of_index_zero win0_9 t 1 (by rw [(idx t).2.2.2.2.2.2.2.2.2.1]; rfl) x).symm)
      rfl
    · refine s3 ?_ ?_ (logit2_block m c t x).symm
      · symm
        blk_ext [iblk, V, idx]
      · symm
        blk_ext [iblk, V, idx]
  · refine (pay1_apply _ _ _ _).trans ((wide_at m c 1 _ (((cfg0.win 8).blk t).view.emb x) ?_ ?_).trans ?_).symm
    · refine (Pipeline.Window.rect_emb_val win0_10 t y 0).trans ((congrArg₂ (· + ·) ?_ h0).trans (Pipeline.Window.rect_emb_val win0_8 t x 0).symm)
      rw [(idx t).2.2.2.2.2.2.2.2.2.2, (idx t).2.2.2.2.2.2.2.2.1]
      rfl
    · refine (Pipeline.Window.rect_emb_val_of_index_zero win0_10 t 1 (by rw [(idx t).2.2.2.2.2.2.2.2.2.2]; rfl) y).trans (h1.trans ?_)
      refine Eq.trans ?_ (congrArg (1024 + ·) (Pipeline.Window.rect_emb_val_of_index_zero win0_8 t 1 (by rw [(idx t).2.2.2.2.2.2.2.2.1]; rfl) x).symm)
      rfl
    · refine s3 ?_ ?_ (logit1_block m c t x).symm
      · symm
        blk_ext [iblk, V, idx]
      · symm
        blk_ext [iblk, V, idx]
  · refine (pay7_apply _ _ _ _).trans ((wide_at m c 0 _ (((cfg0.win 7).blk t).view.emb x) ?_ ?_).trans ?_).symm
    · refine (Pipeline.Window.rect_emb_val win0_10 t y 0).trans ((congrArg₂ (· + ·) ?_ h0).trans (Pipeline.Window.rect_emb_val win0_7 t x 0).symm)
      rw [(idx t).2.2.2.2.2.2.2.2.2.2, (idx t).2.2.2.2.2.2.2.1]
      rfl
    · refine (Pipeline.Window.rect_emb_val_of_index_zero win0_10 t 1 (by rw [(idx t).2.2.2.2.2.2.2.2.2.2]; rfl) y).trans (h1.trans ?_)
      refine Eq.trans ?_ (congrArg (0 + ·) (Pipeline.Window.rect_emb_val_of_index_zero win0_7 t 1 (by rw [(idx t).2.2.2.2.2.2.2.1]; rfl) x).symm)
      exact (zero_add _).symm
    · refine s3 ?_ ?_ (logit0_block m c t x).symm
      · symm
        blk_ext [iblk, V, idx]
      · symm
        blk_ext [iblk, V, idx]

/-- The kernel and the reference end with the same four arrays. -/
theorem algebraic : Cert.algebraic_MergeBwdIdeal_MergeBwdRefIdeal := by
  intro m ρ m' ρ' _ hagree
  refine ⟨_, _, _, _, Cert.MergeBwdIdeal.Value.run_blocks (F := Ideal) m ρ, ?_⟩
  refine (θ_run Cert.MergeBwdRefIdeal.defs _ _).mono (fun _ h c => ⟨?_, ?_, ?_, ?_, (h c).2.2.2.2⟩) (Cert.MergeBwdRefIdeal.Value.run (F := Ideal) m' ρ')
  · rw [(h c).1, final0 m c]
    simp only [hagree c]
    unfold branch gated logit gate V
    funext i
    pointwise
    exact mul_comm _ _
  · rw [(h c).2.1, final1 m c]
    simp only [hagree c]
    unfold branch gated logit gate V
    funext i
    pointwise
    simp only [← Nat.add_assoc, Nat.reduceAdd]
    exact mul_comm _ _
  · rw [(h c).2.2.1, final2 m c]
    simp only [hagree c]
    unfold branch gated logit gate V
    funext i
    pointwise
    simp only [← Nat.add_assoc, Nat.reduceAdd]
    exact mul_comm _ _
  · rw [(h c).2.2.2.1, final3 m c]
    simp only [hagree c]
    unfold wide under gate V
    funext i
    pointwise
    simp only [hagree c]

end Cert.MergeBwdIdeal.Rows

end
-- ==== Proof.Rows.NormFwd.lean ====
/-
  A layer's norm: each grid point scales the rows of one block of 768 tokens.
-/
module

public import proofs.«01_k».proof.Defs
public import proofs.«01_k».proof.Proof.Gen.NormFwdIdeal.Value
public import proofs.«01_k».proof.Proof.Gen.NormFwdRefIdeal.Run
public import Idealize.ShloMosaic.Lib.Pipeline.ValueKit
public import Idealize.ShloMosaic.Lib.Pipeline.ReadBack

@[expose] public section

set_option maxRecDepth 16384

noncomputable section

namespace Cert.NormFwdIdeal.Rows

open Cert.NormFwdIdeal Cert.NormFwdIdeal.Gen Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![0, 0] ∧ win0_2.index t = ![t.val, 0] := by decide +kernel

/-- A single-precision number as the programs hold it. -/
abbrev num (b : BitVec 32) : EReal := Scalar.ofBits (F := Ideal) .f32 b

/-- A row's entry over the root of the mean of the row's squares, times the scale. -/
def normed (x : Fin 1024 → EReal) (a g : EReal) : EReal :=
  a * Ideal.rsqrt (Ideal.div (∑ k : Fin 1024, x k * x k) (num 0x44800000#32) + num 0x358637BD#32) * g

theorem pay1_apply (x : S768x1024.Idx → EReal) (g : S1x1024.Idx → EReal) (j : S768x1024.Idx) :
    k0_pay1 (F := Ideal) x g j = normed (fun k => x (ix2 (j 0) k)) (x (ix2 (j 0) (j 1))) (g (ix2 0 (j 1))) := by
  unfold k0_pay1 normed
  pointwise

/-- The whole array. -/
def out : S8448x1024.Idx → EReal := fun i =>
  normed (fun k => V m c main_arg0 (ix2 (i 0) k)) (V m c main_arg0 (ix2 (i 0) (i 1))) (V m c main_arg1 (ix2 0 (i 1)))

theorem final : (dats m 0 c).arrAt 2 cfg0.N = out m c := by
  refine (dats m 0 c).arrAt_eq_of_covers 2 _ (by decide +kernel) fun t hf y => ?_
  blk_simp
  rw [after0_2]
  frame_out
  refine (pay1_apply _ _ _).trans ?_
  unfold out
  congr 1
  · funext k
    blk_ext [iblk, V, idx]
  · blk_ext [iblk, V, idx]
  · blk_ext [iblk, V, idx]

/-- The kernel and the reference end with the same array. -/
theorem algebraic : Cert.algebraic_NormFwdIdeal_NormFwdRefIdeal := by
  intro m ρ m' ρ' _ hagree
  refine ⟨_, Cert.NormFwdIdeal.Value.run_blocks (F := Ideal) m ρ, ?_⟩
  refine (θ_run Cert.NormFwdRefIdeal.defs _ _).mono (fun _ h c => ⟨?_, (h c).2⟩) (Cert.NormFwdRefIdeal.Value.run (F := Ideal) m' ρ')
  rw [(h c).1, final m c]
  simp only [hagree c]
  unfold out normed V
  funext i
  pointwise

end Cert.NormFwdIdeal.Rows

end
-- ==== Proof.Rows.GnormFwd.lean ====
/-
  The gated norm of two groups of columns: each grid point fills one block of 384 tokens, one group of 512 columns after the other.
-/
module

public import proofs.«01_k».proof.Defs
public import proofs.«01_k».proof.Proof.Gen.GnormFwdIdeal.Value
public import proofs.«01_k».proof.Proof.Gen.GnormFwdRefIdeal.Run
public import Idealize.ShloMosaic.Lib.Pipeline.ValueKit
public import Idealize.ShloMosaic.Lib.Pipeline.ReadBack

@[expose] public section

set_option maxRecDepth 16384

noncomputable section

namespace Cert.GnormFwdIdeal.Rows

open Cert.GnormFwdIdeal Cert.GnormFwdIdeal.Gen Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 0] ∧ win0_1.index t = ![t.val, 3] ∧ win0_2.index t = ![0, 0] ∧ win0_3.index t = ![t.val, 0] := by decide +kernel

/-- A single-precision number as the programs hold it. -/
abbrev num (b : BitVec 32) : EReal := Scalar.ofBits (F := Ideal) .f32 b

/-- An entry times the gate's. -/
def gated (y z : EReal) : EReal := y * (z * Ideal.div (num 0x3F800000#32) (num 0x3F800000#32 + Ideal.exp (-z)))

/-- A group's entry over the root of the mean of the group's squares, times the scale. -/
def normed (x : Fin 512 → EReal) (a g : EReal) : EReal :=
  a * Ideal.rsqrt (Ideal.div (∑ k : Fin 512, x k * x k) (num 0x44000000#32) + num 0x358637BD#32) * g

theorem pay3_apply (y z : S384x1024.Idx → EReal) (g : S1x512.Idx → EReal) (j : S384x512.Idx) :
    k0_pay3 (F := Ideal) y z g j = normed (fun k => gated (y (ix2 (j 0) ⟨k.val, by omega⟩)) (z (ix2 (j 0) ⟨k.val, by omega⟩)))
      (gated (y (ix2 (j 0) ⟨(j 1).val, by have := (j 1).isLt; simp at this; omega⟩)) (z (ix2 (j 0) ⟨(j 1).val, by have := (j 1).isLt; simp at this; omega⟩))) (g (ix2 0 (j 1))) := by
  unfold k0_pay3 k0_pay2 normed gated
  pointwise
  simp only [zero_sub]

theorem pay1_apply (y z : S384x1024.Idx → EReal) (g : S1x512.Idx → EReal) (j : S384x512.Idx) :
    k0_pay1 (F := Ideal) (k0_pay4 (F := Ideal) y z) g j = normed (fun k => gated (y (ix2 (j 0) ⟨512 + k.val, by omega⟩)) (z (ix2 (j 0) ⟨512 + k.val, by omega⟩)))
      (gated (y (ix2 (j 0) ⟨512 + (j 1).val, by have := (j 1).isLt; simp at this; omega⟩)) (z (ix2 (j 0) ⟨512 + (j 1).val, by have := (j 1).isLt; simp at this; omega⟩))) (g (ix2 0 (j 1))) := by
  unfold k0_pay1 k0_pay4 k0_pay2 normed gated
  pointwise
  simp only [zero_sub]

/-- The entry at token `i` and column `n`, times the gate's. -/
def entry (i : Fin 8448) (n : ℕ) (h : n < 1024) : EReal :=
  gated (V m c main_arg0 (ix2 i ⟨n, h⟩)) (V m c main_arg1 (ix2 i ⟨3072 + n, by omega⟩))

/-- The whole array. -/
def out : S8448x1024.Idx → EReal := fun i =>
  normed (fun k => entry m c (i 0) ((i 1).val / 512 * 512 + k.val) (by have := (i 1).isLt; simp at this; omega))
    (entry m c (i 0) (i 1).val (by have := (i 1).isLt; simp at this; omega)) (V m c main_arg2 (ix2 0 (i 1)))

theorem entry_congr {i i' : Fin 8448} {n n' : ℕ} {h : n < 1024} {h' : n' < 1024} (p : i = i') (q : n = n') : entry m c i n h = entry m c i' n' h' := by
  subst p q
  rfl

theorem entry_block (t : Fin cfg0.N) (r : Fin 384) (n : ℕ) (h : n < 1024) :
    gated (iblk m c 0 t (ix2 r ⟨n, h⟩)) (X0_1 m c t (ix2 r ⟨n, h⟩)) = entry m c (((cfg0.win 0).blk t).view.emb (ix2 r ⟨n, h⟩) 0) n h := by
  unfold entry
  refine congrArg₂ gated ?_ ?_
  · blk_ext [iblk, V, idx]
  · unfold X0_1 Pipeline.Window.fill
    rw [dif_pos (moved0_1 t _)]
    blk_ext [iblk, V, idx]

theorem final : (dats m 0 c).arrAt 3 cfg0.N = out m c := by
  refine (dats m 0 c).arrAt_eq_of_covers 3 _ (by decide +kernel) fun t hf y => ?_
  blk_simp
  rw [after0_3]
  unfold outsAt0
  frame_out
  have n3 {a b : Fin 512 → EReal} {p q x z : EReal} (u : a = b) (v : p = q) (w : x = z) : normed a p x = normed b q z := by rw [u, v, w]
  have e1 : (((cfg0.win 3).blk t).view.emb y 1).val = (y 1).val :=
    Pipeline.Window.rect_emb_val_of_index_zero win0_3 t 1 (by rw [(idx t).2.2.2]; rfl) y
  have e0 (n : ℕ) (h : n < 1024) {r : Fin 384} (q : (y 0).val = r.val) :
      ((cfg0.win 3).blk t).view.emb y 0 = ((cfg0.win 0).blk t).view.emb (ix2 r ⟨n, h⟩) 0 := by
    refine Fin.ext ((Pipeline.Window.rect_emb_val win0_3 t y 0).trans ((congrArg₂ (· + ·) ?_ q).trans (Pipeline.Window.rect_emb_val win0_0 t (ix2 r ⟨n, h⟩) 0).symm))
    rw [(idx t).2.2.2, (idx t).1]
  canon_tiles x h
  · refine (pay1_apply _ _ _ _).trans (n3 (funext fun k => ?_) ?_ ?_)
    · exact (entry_block m c t _ _ _).trans (entry_congr m c (e0 _ _ h0).symm (by rw [e1, h1]; omega))
    · exact (entry_block m c t _ _ _).trans (entry_congr m c (e0 _ _ h0).symm (by rw [e1, h1]))
    · refine Eq.trans ?_ (congrArg (fun p => V m c main_arg2 (ix2 0 p)) (Fin.ext (e1.trans h1) : _ = (⟨512 + (x 1).val, by omega⟩ : Fin 1024))).symm
      blk_ext [View.ld, iblk, V, idx]
      exact congrArg (512 + ·) (one_mul _)
  · refine (pay3_apply _ _ _ _).trans (n3 (funext fun k => ?_) ?_ ?_)
    · exact (entry_block m c t _ _ _).trans (entry_congr m c (e0 _ _ h0).symm (by rw [e1, h1]; omega))
    · exact (entry_block m c t _ _ _).trans (entry_congr m c (e0 _ _ h0).symm (by rw [e1, h1]))
    · refine Eq.trans ?_ (congrArg (fun p => V m c main_arg2 (ix2 0 p)) (Fin.ext (e1.trans h1) : _ = (⟨(x 1).val, by omega⟩ : Fin 1024))).symm
      blk_ext [View.ld, iblk, V, idx]
      exact (zero_add _).trans (one_mul _)

/-- The kernel and the reference end with the same array. -/
theorem algebraic : Cert.algebraic_GnormFwdIdeal_GnormFwdRefIdeal := by
  intro m ρ m' ρ' _ hagree
  refine ⟨_, Cert.GnormFwdIdeal.Value.run_blocks (F := Ideal) m ρ, ?_⟩
  refine (θ_run Cert.GnormFwdRefIdeal.defs _ _).mono (fun _ h c => ⟨?_, (h c).2⟩) (Cert.GnormFwdRefIdeal.Value.run (F := Ideal) m' ρ')
  rw [(h c).1, final m c]
  simp only [hagree c]
  clear h
  unfold out normed entry gated V
  funext i
  pointwise

end Cert.GnormFwdIdeal.Rows

end
-- ==== Proof.Rows.MergeFwd.lean ====
/-
  The gated merge of the three branches: each grid point merges one block of 384 tokens.
-/
module

public import proofs.«01_k».proof.Defs
public import proofs.«01_k».proof.Proof.Gen.MergeFwdIdeal.Value
public import proofs.«01_k».proof.Proof.Gen.MergeFwdRefIdeal.Run
public import Idealize.ShloMosaic.Lib.Pipeline.ValueKit
public import Idealize.ShloMosaic.Lib.Pipeline.ReadBack

@[expose] public section

set_option maxRecDepth 16384

noncomputable section

namespace Cert.MergeFwdIdeal.Rows

open Cert.MergeFwdIdeal Cert.MergeFwdIdeal.Gen Idealize.ShloMosaic Idealize.ShloMosaic.TcCoe Idealize.SL.Sem

variable (m : (ℓ : Loc nD τ sig) → Buf (Elt Ideal) ℓ) (c : Dev nD)

theorem idx : ∀ t : Fin grid0.N, win0_0.index t = ![t.val, 4] ∧ win0_1.index t = ![t.val, 5] ∧ win0_2.index t = ![t.val, 6]
    ∧ win0_3.index t = ![t.val, 0] ∧ win0_4.index t = ![t.val, 0] ∧ win0_5.index t = ![t.val, 0] ∧ win0_6.index t = ![t.val, 0] := by decide +kernel

/-- A single-precision number as the programs hold it. -/
abbrev num (b : BitVec 32) : EReal := Scalar.ofBits (F := Ideal) .f32 b

/-- The logistic value. -/
def gate (x : EReal) : EReal := Ideal.div (num 0x3F800000#32) (num 0x3F800000#32 + Ideal.exp (-x))

/-- The gate's column of the projection for an entry of branch `k`. -/
def logit (k : Fin 3) (i : S8448x1024.Idx) : EReal :=
  V m c main_arg0 (ix2 (i 0) ⟨4096 + 1024 * k.val + (i 1).val, by have := (i 1).isLt; simp at this; omega⟩)

theorem logit0_block (t : Fin cfg0.N) (y : S384x1024.Idx) : X0_0 m c t y = logit m c 0 (((cfg0.win 6).blk t).view.emb y) := by
  unfold X0_0 Pipeline.Window.fill logit
  rw [dif_pos (moved0_0 t y)]
  blk_ext [iblk, V, idx]

theorem logit1_block (t : Fin cfg0.N) (y : S384x1024.Idx) : X0_1 m c t y = logit m c 1 (((cfg0.win 6).blk t).view.emb y) := by
  unfold X0_1 Pipeline.Window.fill logit
  rw [dif_pos (moved0_1 t y)]
  blk_ext [iblk, V, idx]

theorem logit2_block (t : Fin cfg0.N) (y : S384x1024.Idx) : X0_2 m c t y = logit m c 2 (((cfg0.win 6).blk t).view.emb y) := by
  unfold X0_2 Pipeline.Window.fill logit
  rw [dif_pos (moved0_2 t y)]
  blk_ext [iblk, V, idx]

theorem pay1_apply (a x b y d z : S384x1024.Idx → EReal) (j : S384x1024.Idx) :
    k0_pay1 (F := Ideal) a x b y d z j = gate (a j) * x j + gate (b j) * y j + gate (d j) * z j := by
  unfold k0_pay1 gate
  pointwise
  simp only [zero_sub]

/-- The whole array. -/
def out : S8448x1024.Idx → EReal := fun i => gate (logit m c 0 i) * V m c main_arg1 i
  + gate (logit m c 1 i) * V m c main_arg2 i + gate (logit m c 2 i) * V m c main_arg3 i

theorem final : (dats m 0 c).arrAt 6 cfg0.N = out m c := by
  refine (dats m 0 c).arrAt_eq_of_covers 6 _ (by decide +kernel) fun t hf y => ?_
  blk_simp
  rw [after0_6]
  unfold outsAt0
  frame_out
  refine (pay1_apply _ _ _ _ _ _ _).trans ?_
  have h (w : EReal → EReal → EReal) {a b x z : EReal} (p : a = b) (q : x = z) : w a x = w b z := by rw [p, q]
  refine h (· + ·) (h (· + ·) (h (gate · * ·) (logit0_block m c t y) ?_) (h (gate · * ·) (logit1_block m c t y) ?_)) (h (gate · * ·) (logit2_block m c t y) ?_)
  · blk_ext [iblk, V, idx]
  · blk_ext [iblk, V, idx]
  · blk_ext [iblk, V, idx]

/-- The kernel and the reference end with the same array. -/
theorem algebraic : Cert.algebraic_MergeFwdIdeal_MergeFwdRefIdeal := by
  intro m ρ m' ρ' _ hagree
  refine ⟨_, Cert.MergeFwdIdeal.Value.run_blocks (F := Ideal) m ρ, ?_⟩
  refine (θ_run Cert.MergeFwdRefIdeal.defs _ _).mono (fun _ h c => ⟨?_, (h c).2⟩) (Cert.MergeFwdRefIdeal.Value.run (F := Ideal) m' ρ')
  rw [(h c).1, final m c]
  simp only [hagree c]
  unfold out logit gate V
  funext i
  pointwise
  simp only [← Nat.add_assoc, Nat.reduceAdd]

end Cert.MergeFwdIdeal.Rows

end
-- ==== Proof.Rows.SumGrads.lean ====
/-
  The sum of the eight devices' gradients: each grid point adds the eight parts of one block of 48 rows.
-/
module

public import proofs.«01_k».proof.Defs
public import proofs.«01_k».proof.Proof.Gen.SumGradsIdeal.Value
public import proofs.«01_k».proof.Proof.Gen.SumGradsRefIdeal.Run
public import Idealize.ShloMosaic.Lib.Pipeline.ValueKit
public import Idealize.ShloMosaic.Lib.Pipeline.ReadBack

@[expose] public section

set_option maxRecDepth 16384

noncomputable section

namespace Cert.SumGradsIdeal.Rows

open Cert.SumGradsIdeal Cert.SumGradsIdeal.Gen Idealize.ShloMosaic Idealize.ShloMosaic.TcCoe Idealize.SL.Sem

variable (m : (ℓ : Loc nD τ sig) → Buf (Elt Ideal) ℓ) (c : Dev nD)

theorem idx : ∀ t : Fin grid0.N, win0_0.index t = ![0, t.val, 0] ∧ win0_1.index t = ![t.val, 0] := by decide +kernel

/-- The whole array. -/
def out : S3984x1024.Idx → EReal := fun i => ∑ d : Fin 8, V m c main_arg0 (ix3 d (i 0) (i 1))

theorem final : (dats m 0 c).arrAt 1 cfg0.N = out m c := by
  refine (dats m 0 c).arrAt_eq_of_covers 1 _ (by decide +kernel) fun t hf y => ?_
  have h : ∀ d : Fin 8, iblk m c 0 t (ix3 d (y 0) (y 1)) = V m c main_arg0 (ix3 d ((((cfg0.win 1).blk t).view.emb y) 0) ((((cfg0.win 1).blk t).view.emb y) 1)) := fun d => by blk_ext [iblk, V, idx]
  blk_simp
  rw [after0_1]
  unfold out
  rw [Fin.sum_univ_eight]
  frame_out
  unfold k0_pay1
  pointwise
  exact congrArg₂ (· + ·) (congrArg₂ (· + ·) (congrArg₂ (· + ·) (congrArg₂ (· + ·) (congrArg₂ (· + ·) (congrArg₂ (· + ·) (congrArg₂ (· + ·) (h 0) (h 1)) (h 2)) (h 3)) (h 4)) (h 5)) (h 6)) (h 7)

/-- The kernel and the reference end with the same array. -/
theorem algebraic : Cert.algebraic_SumGradsIdeal_SumGradsRefIdeal := by
  intro m ρ m' ρ' _ hagree
  refine ⟨_, Cert.SumGradsIdeal.Value.run_blocks (F := Ideal) m ρ, ?_⟩
  refine (θ_run Cert.SumGradsRefIdeal.defs _ _).mono (fun _ h c => ⟨?_, (h c).2⟩) (Cert.SumGradsRefIdeal.Value.run (F := Ideal) m' ρ')
  rw [(h c).1, final m c]
  simp only [hagree c]
  unfold out V
  funext i
  pointwise

end Cert.SumGradsIdeal.Rows

end
-- ==== Proof.lean ====
/- The claims, put together from the modules under Proof/. -/
module

public import proofs.«01_k».proof.Defs
public import proofs.«01_k».proof.Proof.Lru.Claim
public import proofs.«01_k».proof.Proof.Lru.Frame
public import proofs.«01_k».proof.Proof.Gen.ReferenceIdeal
public import proofs.«01_k».proof.Proof.Gen.Kernel
public import proofs.«01_k».proof.Proof.Gen.Pre_finite
public import proofs.«01_k».proof.Proof.Gen.MixInDx.Frame
public import proofs.«01_k».proof.Proof.Gen.MixInDxIdeal.Value
public import proofs.«01_k».proof.Proof.Gen.MixInDxRefIdeal.Run
public import proofs.«01_k».proof.Proof.Gen.MixInDw.Frame
public import proofs.«01_k».proof.Proof.Gen.MixInDwIdeal.Value
public import proofs.«01_k».proof.Proof.Gen.MixInDwRefIdeal.Run
public import proofs.«01_k».proof.Proof.Gen.MixIn.Frame
public import proofs.«01_k».proof.Proof.Gen.MixInIdeal.Value
public import proofs.«01_k».proof.Proof.Gen.MixInRefIdeal.Run
public import proofs.«01_k».proof.Proof.Gen.FfnDownDw.Frame
public import proofs.«01_k».proof.Proof.Gen.FfnDownDwIdeal.Value
public import proofs.«01_k».proof.Proof.Gen.FfnDownDwRefIdeal.Run
public import proofs.«01_k».proof.Proof.Gen.FfnUpDw.Frame
public import proofs.«01_k».proof.Proof.Gen.FfnUpDwIdeal.Value
public import proofs.«01_k».proof.Proof.Gen.FfnUpDwRefIdeal.Run
public import proofs.«01_k».proof.Proof.Gen.FfnUpDx.Frame
public import proofs.«01_k».proof.Proof.Gen.FfnUpDxIdeal.Value
public import proofs.«01_k».proof.Proof.Gen.FfnUpDxRefIdeal.Run
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.BranchDx.Frame
public import proofs.«01_k».proof.Proof.Gen.BranchDxIdeal.Value
public import proofs.«01_k».proof.Proof.Gen.BranchDxRefIdeal.Run
public import proofs.«01_k».proof.Proof.Gen.BranchDw.Frame
public import proofs.«01_k».proof.Proof.Gen.BranchDwIdeal.Value
public import proofs.«01_k».proof.Proof.Gen.BranchDwRefIdeal.Run
public import proofs.«01_k».proof.Proof.Gen.Branch.Frame
public import proofs.«01_k».proof.Proof.Gen.BranchIdeal.Value
public import proofs.«01_k».proof.Proof.Gen.BranchRefIdeal.Run
public import proofs.«01_k».proof.Proof.Gen.MixOut.Frame
public import proofs.«01_k».proof.Proof.Gen.MixOutIdeal.Value
public import proofs.«01_k».proof.Proof.Gen.MixOutRefIdeal.Run
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.AdamMetaTokens.Frame
public import proofs.«01_k».proof.Proof.Gen.AdamFfn1Norm.Frame
public import proofs.«01_k».proof.Proof.Gen.AdamFfn1WGateUp.Frame
public import proofs.«01_k».proof.Proof.Gen.AdamFfn1WDown.Frame
public import proofs.«01_k».proof.Proof.Gen.AdamMixNorm.Frame
public import proofs.«01_k».proof.Proof.Gen.AdamWIn.Frame
public import proofs.«01_k».proof.Proof.Gen.AdamFoxForgetBias.Frame
public import proofs.«01_k».proof.Proof.Gen.AdamSsdConvW.Frame
public import proofs.«01_k».proof.Proof.Gen.AdamSsdConvB.Frame
public import proofs.«01_k».proof.Proof.Gen.AdamSsdDtBias.Frame
public import proofs.«01_k».proof.Proof.Gen.AdamSsdALog.Frame
public import proofs.«01_k».proof.Proof.Gen.AdamSsdD.Frame
public import proofs.«01_k».proof.Proof.Gen.AdamSsdNorm.Frame
public import proofs.«01_k».proof.Proof.Gen.AdamLruConvW.Frame
public import proofs.«01_k».proof.Proof.Gen.AdamLruConvB.Frame
public import proofs.«01_k».proof.Proof.Gen.AdamLruWA.Frame
public import proofs.«01_k».proof.Proof.Gen.AdamLruBA.Frame
public import proofs.«01_k».proof.Proof.Gen.AdamLruWX.Frame
public import proofs.«01_k».proof.Proof.Gen.AdamLruBX.Frame
public import proofs.«01_k».proof.Proof.Gen.AdamLruLambda.Frame
public import proofs.«01_k».proof.Proof.Gen.AdamWBranchAttn.Frame
public import proofs.«01_k».proof.Proof.Gen.AdamWBranchSsd.Frame
public import proofs.«01_k».proof.Proof.Gen.AdamWBranchLru.Frame
public import proofs.«01_k».proof.Proof.Gen.AdamWOut.Frame
public import proofs.«01_k».proof.Proof.Gen.AdamFfn2Norm.Frame
public import proofs.«01_k».proof.Proof.Gen.AdamFfn2WGateUp.Frame
public import proofs.«01_k».proof.Proof.Gen.AdamFfn2WDown.Frame
public import proofs.«01_k».proof.Proof.Gen.AdamFinalNorm.Frame
public import proofs.«01_k».proof.Proof.Gen.MergeBwd.Frame
public import proofs.«01_k».proof.Proof.Gen.NormFwd.Frame
public import proofs.«01_k».proof.Proof.Gen.GnormFwd.Frame
public import proofs.«01_k».proof.Proof.Gen.MergeFwd.Frame
public import proofs.«01_k».proof.Proof.Gen.SumGrads.Frame
public import Idealize.ShloMosaic.Adequacy
public import Idealize.ShloMosaic.Init
public import Idealize.ShloMosaic.Lib.Quiescent
public import proofs.«01_k».proof.Proof.Products.MixInDx
public import proofs.«01_k».proof.Proof.Products.MixInDw
public import proofs.«01_k».proof.Proof.Products.MixIn
public import proofs.«01_k».proof.Proof.Products.FfnDownDw
public import proofs.«01_k».proof.Proof.Products.FfnUpDw
public import proofs.«01_k».proof.Proof.Products.FfnUpDx
public import proofs.«01_k».proof.Proof.Products.FfnDown
public import proofs.«01_k».proof.Proof.Products.BranchDx
public import proofs.«01_k».proof.Proof.Products.BranchDw
public import proofs.«01_k».proof.Proof.Products.Branch
public import proofs.«01_k».proof.Proof.Products.MixOut
public import proofs.«01_k».proof.Proof.Products.FfnUp
public import proofs.«01_k».proof.Proof.Step.Norms
public import proofs.«01_k».proof.Proof.Step.Vectors
public import proofs.«01_k».proof.Proof.Step.Weights
public import proofs.«01_k».proof.Proof.Step.Rest
public import proofs.«01_k».proof.Proof.Rows.MergeBwd
public import proofs.«01_k».proof.Proof.Rows.NormFwd
public import proofs.«01_k».proof.Proof.Rows.GnormFwd
public import proofs.«01_k».proof.Proof.Rows.MergeFwd
public import proofs.«01_k».proof.Proof.Rows.SumGrads

@[expose] public section

noncomputable section

namespace Cert.Proof

open Idealize.ShloMosaic Idealize.SL.Sem

theorem quiescent_MixInDxRefIdeal : quiescent_MixInDxRefIdeal := fun m ρ _ =>
  (θ_run Cert.MixInDxRefIdeal.defs _ _).mono (fun r h => ⟨fun c => (h c).2, sem_eq_zero_of_no_sems (by decide) r.2⟩)
    (Cert.MixInDxRefIdeal.Value.run (F := Ideal) m ρ)

theorem quiescent_MixInDwRefIdeal : quiescent_MixInDwRefIdeal := fun m ρ _ =>
  (θ_run Cert.MixInDwRefIdeal.defs _ _).mono (fun r h => ⟨fun c => (h c).2, sem_eq_zero_of_no_sems (by decide) r.2⟩)
    (Cert.MixInDwRefIdeal.Value.run (F := Ideal) m ρ)

theorem quiescent_MixInRefIdeal : quiescent_MixInRefIdeal := fun m ρ _ =>
  (θ_run Cert.MixInRefIdeal.defs _ _).mono (fun r h => ⟨fun c => (h c).2, sem_eq_zero_of_no_sems (by decide) r.2⟩)
    (Cert.MixInRefIdeal.Value.run (F := Ideal) m ρ)

theorem quiescent_FfnDownDwRefIdeal : quiescent_FfnDownDwRefIdeal := fun m ρ _ =>
  (θ_run Cert.FfnDownDwRefIdeal.defs _ _).mono (fun r h => ⟨fun c => (h c).2, sem_eq_zero_of_no_sems (by decide) r.2⟩)
    (Cert.FfnDownDwRefIdeal.Value.run (F := Ideal) m ρ)

theorem quiescent_FfnUpDwRefIdeal : quiescent_FfnUpDwRefIdeal := fun m ρ _ =>
  (θ_run Cert.FfnUpDwRefIdeal.defs _ _).mono (fun r h => ⟨fun c => (h c).2, sem_eq_zero_of_no_sems (by decide) r.2⟩)
    (Cert.FfnUpDwRefIdeal.Value.run (F := Ideal) m ρ)

theorem quiescent_FfnUpDxRefIdeal : quiescent_FfnUpDxRefIdeal := fun m ρ _ =>
  (θ_run Cert.FfnUpDxRefIdeal.defs _ _).mono (fun r h => ⟨fun c => (h c).2, sem_eq_zero_of_no_sems (by decide) r.2⟩)
    (Cert.FfnUpDxRefIdeal.Value.run (F := Ideal) m ρ)

theorem quiescent_FfnDownRefIdeal : quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem quiescent_BranchDxRefIdeal : quiescent_BranchDxRefIdeal := fun m ρ _ =>
  (θ_run Cert.BranchDxRefIdeal.defs _ _).mono (fun r h => ⟨fun c => (h c).2, sem_eq_zero_of_no_sems (by decide) r.2⟩)
    (Cert.BranchDxRefIdeal.Value.run (F := Ideal) m ρ)

theorem quiescent_BranchDwRefIdeal : quiescent_BranchDwRefIdeal := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

theorem quiescent_BranchRefIdeal : quiescent_BranchRefIdeal := fun m ρ _ =>
  (θ_run Cert.BranchRefIdeal.defs _ _).mono (fun r h => ⟨fun c => (h c).2, sem_eq_zero_of_no_sems (by decide) r.2⟩)
    (Cert.BranchRefIdeal.Value.run (F := Ideal) m ρ)

theorem quiescent_MixOutRefIdeal : quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

theorem quiescent_FfnUpRefIdeal : quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem claim : Cert.Claim := ⟨Cert.Kernel.Gen.facts, Cert.KernelIdeal.Gen.facts, Cert.ReferenceIdeal.Gen.facts, Cert.MixInDx.Gen.facts, Cert.MixInDxIdeal.Gen.facts, Cert.MixInDxRefIdeal.Gen.facts, Cert.MixInDw.Gen.facts, Cert.MixInDwIdeal.Gen.facts, Cert.MixInDwRefIdeal.Gen.facts, Cert.MixIn.Gen.facts, Cert.MixInIdeal.Gen.facts, Cert.MixInRefIdeal.Gen.facts, Cert.FfnDownDw.Gen.facts, Cert.FfnDownDwIdeal.Gen.facts, Cert.FfnDownDwRefIdeal.Gen.facts, Cert.FfnUpDw.Gen.facts, Cert.FfnUpDwIdeal.Gen.facts, Cert.FfnUpDwRefIdeal.Gen.facts, Cert.FfnUpDx.Gen.facts, Cert.FfnUpDxIdeal.Gen.facts, Cert.FfnUpDxRefIdeal.Gen.facts, Cert.FfnDown.Gen.facts, Cert.FfnDownIdeal.Gen.facts, Cert.FfnDownRefIdeal.Gen.facts, Cert.BranchDx.Gen.facts, Cert.BranchDxIdeal.Gen.facts, Cert.BranchDxRefIdeal.Gen.facts, Cert.BranchDw.Gen.facts, Cert.BranchDwIdeal.Gen.facts, Cert.BranchDwRefIdeal.Gen.facts, Cert.Branch.Gen.facts, Cert.BranchIdeal.Gen.facts, Cert.BranchRefIdeal.Gen.facts, Cert.MixOut.Gen.facts, Cert.MixOutIdeal.Gen.facts, Cert.MixOutRefIdeal.Gen.facts, Cert.FfnUp.Gen.facts, Cert.FfnUpIdeal.Gen.facts, Cert.FfnUpRefIdeal.Gen.facts, Cert.AdamMetaTokens.Gen.facts, Cert.AdamMetaTokensIdeal.Gen.facts, Cert.AdamMetaTokensRefIdeal.Gen.facts, Cert.AdamFfn1Norm.Gen.facts, Cert.AdamFfn1NormIdeal.Gen.facts, Cert.AdamFfn1NormRefIdeal.Gen.facts, Cert.AdamFfn1WGateUp.Gen.facts, Cert.AdamFfn1WGateUpIdeal.Gen.facts, Cert.AdamFfn1WGateUpRefIdeal.Gen.facts, Cert.AdamFfn1WDown.Gen.facts, Cert.AdamFfn1WDownIdeal.Gen.facts, Cert.AdamFfn1WDownRefIdeal.Gen.facts, Cert.AdamMixNorm.Gen.facts, Cert.AdamMixNormIdeal.Gen.facts, Cert.AdamMixNormRefIdeal.Gen.facts, Cert.AdamWIn.Gen.facts, Cert.AdamWInIdeal.Gen.facts, Cert.AdamWInRefIdeal.Gen.facts, Cert.AdamFoxForgetBias.Gen.facts, Cert.AdamFoxForgetBiasIdeal.Gen.facts, Cert.AdamFoxForgetBiasRefIdeal.Gen.facts, Cert.AdamSsdConvW.Gen.facts, Cert.AdamSsdConvWIdeal.Gen.facts, Cert.AdamSsdConvWRefIdeal.Gen.facts, Cert.AdamSsdConvB.Gen.facts, Cert.AdamSsdConvBIdeal.Gen.facts, Cert.AdamSsdConvBRefIdeal.Gen.facts, Cert.AdamSsdDtBias.Gen.facts, Cert.AdamSsdDtBiasIdeal.Gen.facts, Cert.AdamSsdDtBiasRefIdeal.Gen.facts, Cert.AdamSsdALog.Gen.facts, Cert.AdamSsdALogIdeal.Gen.facts, Cert.AdamSsdALogRefIdeal.Gen.facts, Cert.AdamSsdD.Gen.facts, Cert.AdamSsdDIdeal.Gen.facts, Cert.AdamSsdDRefIdeal.Gen.facts, Cert.AdamSsdNorm.Gen.facts, Cert.AdamSsdNormIdeal.Gen.facts, Cert.AdamSsdNormRefIdeal.Gen.facts, Cert.AdamLruConvW.Gen.facts, Cert.AdamLruConvWIdeal.Gen.facts, Cert.AdamLruConvWRefIdeal.Gen.facts, Cert.AdamLruConvB.Gen.facts, Cert.AdamLruConvBIdeal.Gen.facts, Cert.AdamLruConvBRefIdeal.Gen.facts, Cert.AdamLruWA.Gen.facts, Cert.AdamLruWAIdeal.Gen.facts, Cert.AdamLruWARefIdeal.Gen.facts, Cert.AdamLruBA.Gen.facts, Cert.AdamLruBAIdeal.Gen.facts, Cert.AdamLruBARefIdeal.Gen.facts, Cert.AdamLruWX.Gen.facts, Cert.AdamLruWXIdeal.Gen.facts, Cert.AdamLruWXRefIdeal.Gen.facts, Cert.AdamLruBX.Gen.facts, Cert.AdamLruBXIdeal.Gen.facts, Cert.AdamLruBXRefIdeal.Gen.facts, Cert.AdamLruLambda.Gen.facts, Cert.AdamLruLambdaIdeal.Gen.facts, Cert.AdamLruLambdaRefIdeal.Gen.facts, Cert.AdamWBranchAttn.Gen.facts, Cert.AdamWBranchAttnIdeal.Gen.facts, Cert.AdamWBranchAttnRefIdeal.Gen.facts, Cert.AdamWBranchSsd.Gen.facts, Cert.AdamWBranchSsdIdeal.Gen.facts, Cert.AdamWBranchSsdRefIdeal.Gen.facts, Cert.AdamWBranchLru.Gen.facts, Cert.AdamWBranchLruIdeal.Gen.facts, Cert.AdamWBranchLruRefIdeal.Gen.facts, Cert.AdamWOut.Gen.facts, Cert.AdamWOutIdeal.Gen.facts, Cert.AdamWOutRefIdeal.Gen.facts, Cert.AdamFfn2Norm.Gen.facts, Cert.AdamFfn2NormIdeal.Gen.facts, Cert.AdamFfn2NormRefIdeal.Gen.facts, Cert.AdamFfn2WGateUp.Gen.facts, Cert.AdamFfn2WGateUpIdeal.Gen.facts, Cert.AdamFfn2WGateUpRefIdeal.Gen.facts, Cert.AdamFfn2WDown.Gen.facts, Cert.AdamFfn2WDownIdeal.Gen.facts, Cert.AdamFfn2WDownRefIdeal.Gen.facts, Cert.AdamFinalNorm.Gen.facts, Cert.AdamFinalNormIdeal.Gen.facts, Cert.AdamFinalNormRefIdeal.Gen.facts, Cert.MergeBwd.Gen.facts, Cert.MergeBwdIdeal.Gen.facts, Cert.MergeBwdRefIdeal.Gen.facts, Cert.NormFwd.Gen.facts, Cert.NormFwdIdeal.Gen.facts, Cert.NormFwdRefIdeal.Gen.facts, Cert.GnormFwd.Gen.facts, Cert.GnormFwdIdeal.Gen.facts, Cert.GnormFwdRefIdeal.Gen.facts, Cert.MergeFwd.Gen.facts, Cert.MergeFwdIdeal.Gen.facts, Cert.MergeFwdRefIdeal.Gen.facts, Cert.SumGrads.Gen.facts, Cert.SumGradsIdeal.Gen.facts, Cert.SumGradsRefIdeal.Gen.facts, Cert.Pre_finite.Gen.facts,
  Cert.KernelIdeal.Lru.frame_kernel,
  Cert.KernelIdeal.Lru.frame,
  fun m ρ _ => Cert.KernelIdeal.Lru.frame m ρ trivial,
  Cert.ReferenceIdeal.Lru.frame,
  fun m ρ _ => Cert.ReferenceIdeal.Lru.frame m ρ trivial,
  fun m ρ _ => Cert.MixInDx.Gen.frame m ρ,
  fun m ρ _ => Cert.MixInDxIdeal.Gen.frame m ρ,
  quiescent_MixInDxRefIdeal,
  fun m ρ _ => Cert.MixInDw.Gen.frame m ρ,
  fun m ρ _ => Cert.MixInDwIdeal.Gen.frame m ρ,
  quiescent_MixInDwRefIdeal,
  fun m ρ _ => Cert.MixIn.Gen.frame m ρ,
  fun m ρ _ => Cert.MixInIdeal.Gen.frame m ρ,
  quiescent_MixInRefIdeal,
  fun m ρ _ => Cert.FfnDownDw.Gen.frame m ρ,
  fun m ρ _ => Cert.FfnDownDwIdeal.Gen.frame m ρ,
  quiescent_FfnDownDwRefIdeal,
  fun m ρ _ => Cert.FfnUpDw.Gen.frame m ρ,
  fun m ρ _ => Cert.FfnUpDwIdeal.Gen.frame m ρ,
  quiescent_FfnUpDwRefIdeal,
  fun m ρ _ => Cert.FfnUpDx.Gen.frame m ρ,
  fun m ρ _ => Cert.FfnUpDxIdeal.Gen.frame m ρ,
  quiescent_FfnUpDxRefIdeal,
  fun m ρ _ => Cert.FfnDown.Gen.frame m ρ,
  fun m ρ _ => Cert.FfnDownIdeal.Gen.frame m ρ,
  quiescent_FfnDownRefIdeal,
  fun m ρ _ => Cert.BranchDx.Gen.frame m ρ,
  fun m ρ _ => Cert.BranchDxIdeal.Gen.frame m ρ,
  quiescent_BranchDxRefIdeal,
  fun m ρ _ => Cert.BranchDw.Gen.frame m ρ,
  fun m ρ _ => Cert.BranchDwIdeal.Gen.frame m ρ,
  quiescent_BranchDwRefIdeal,
  fun m ρ _ => Cert.Branch.Gen.frame m ρ,
  fun m ρ _ => Cert.BranchIdeal.Gen.frame m ρ,
  quiescent_BranchRefIdeal,
  fun m ρ _ => Cert.MixOut.Gen.frame m ρ,
  fun m ρ _ => Cert.MixOutIdeal.Gen.frame m ρ,
  quiescent_MixOutRefIdeal,
  fun m ρ _ => Cert.FfnUp.Gen.frame m ρ,
  fun m ρ _ => Cert.FfnUpIdeal.Gen.frame m ρ,
  quiescent_FfnUpRefIdeal,
  fun m ρ _ => Cert.AdamMetaTokens.Gen.frame m ρ,
  fun m ρ _ => Cert.AdamMetaTokensIdeal.Gen.frame m ρ,
  fun m ρ _ => (θ_run _ _ _).mono (fun r h => ⟨fun c => (h c).2.2.2, sem_eq_zero_of_no_sems (by decide) r.2⟩) (Cert.AdamMetaTokensRefIdeal.Value.run (F := Ideal) m ρ),
  fun m ρ _ => Cert.AdamFfn1Norm.Gen.frame m ρ,
  fun m ρ _ => Cert.AdamFfn1NormIdeal.Gen.frame m ρ,
  fun m ρ _ => (θ_run _ _ _).mono (fun r h => ⟨fun c => (h c).2.2.2, sem_eq_zero_of_no_sems (by decide) r.2⟩) (Cert.AdamFfn1NormRefIdeal.Value.run (F := Ideal) m ρ),
  fun m ρ _ => Cert.AdamFfn1WGateUp.Gen.frame m ρ,
  fun m ρ _ => Cert.AdamFfn1WGateUpIdeal.Gen.frame m ρ,
  fun m ρ _ => (θ_run _ _ _).mono (fun r h => ⟨fun c => (h c).2.2.2, sem_eq_zero_of_no_sems (by decide) r.2⟩) (Cert.AdamFfn1WGateUpRefIdeal.Value.run (F := Ideal) m ρ),
  fun m ρ _ => Cert.AdamFfn1WDown.Gen.frame m ρ,
  fun m ρ _ => Cert.AdamFfn1WDownIdeal.Gen.frame m ρ,
  fun m ρ _ => (θ_run _ _ _).mono (fun r h => ⟨fun c => (h c).2.2.2, sem_eq_zero_of_no_sems (by decide) r.2⟩) (Cert.AdamFfn1WDownRefIdeal.Value.run (F := Ideal) m ρ),
  fun m ρ _ => Cert.AdamMixNorm.Gen.frame m ρ,
  fun m ρ _ => Cert.AdamMixNormIdeal.Gen.frame m ρ,
  fun m ρ _ => (θ_run _ _ _).mono (fun r h => ⟨fun c => (h c).2.2.2, sem_eq_zero_of_no_sems (by decide) r.2⟩) (Cert.AdamMixNormRefIdeal.Value.run (F := Ideal) m ρ),
  fun m ρ _ => Cert.AdamWIn.Gen.frame m ρ,
  fun m ρ _ => Cert.AdamWInIdeal.Gen.frame m ρ,
  fun m ρ _ => (θ_run _ _ _).mono (fun r h => ⟨fun c => (h c).2.2.2, sem_eq_zero_of_no_sems (by decide) r.2⟩) (Cert.AdamWInRefIdeal.Value.run (F := Ideal) m ρ),
  fun m ρ _ => Cert.AdamFoxForgetBias.Gen.frame m ρ,
  fun m ρ _ => Cert.AdamFoxForgetBiasIdeal.Gen.frame m ρ,
  fun m ρ _ => (θ_run _ _ _).mono (fun r h => ⟨fun c => (h c).2.2.2, sem_eq_zero_of_no_sems (by decide) r.2⟩) (Cert.AdamFoxForgetBiasRefIdeal.Value.run (F := Ideal) m ρ),
  fun m ρ _ => Cert.AdamSsdConvW.Gen.frame m ρ,
  fun m ρ _ => Cert.AdamSsdConvWIdeal.Gen.frame m ρ,
  fun m ρ _ => (θ_run _ _ _).mono (fun r h => ⟨fun c => (h c).2.2.2, sem_eq_zero_of_no_sems (by decide) r.2⟩) (Cert.AdamSsdConvWRefIdeal.Value.run (F := Ideal) m ρ),
  fun m ρ _ => Cert.AdamSsdConvB.Gen.frame m ρ,
  fun m ρ _ => Cert.AdamSsdConvBIdeal.Gen.frame m ρ,
  fun m ρ _ => (θ_run _ _ _).mono (fun r h => ⟨fun c => (h c).2.2.2, sem_eq_zero_of_no_sems (by decide) r.2⟩) (Cert.AdamSsdConvBRefIdeal.Value.run (F := Ideal) m ρ),
  fun m ρ _ => Cert.AdamSsdDtBias.Gen.frame m ρ,
  fun m ρ _ => Cert.AdamSsdDtBiasIdeal.Gen.frame m ρ,
  fun m ρ _ => (θ_run _ _ _).mono (fun r h => ⟨fun c => (h c).2.2.2, sem_eq_zero_of_no_sems (by decide) r.2⟩) (Cert.AdamSsdDtBiasRefIdeal.Value.run (F := Ideal) m ρ),
  fun m ρ _ => Cert.AdamSsdALog.Gen.frame m ρ,
  fun m ρ _ => Cert.AdamSsdALogIdeal.Gen.frame m ρ,
  fun m ρ _ => (θ_run _ _ _).mono (fun r h => ⟨fun c => (h c).2.2.2, sem_eq_zero_of_no_sems (by decide) r.2⟩) (Cert.AdamSsdALogRefIdeal.Value.run (F := Ideal) m ρ),
  fun m ρ _ => Cert.AdamSsdD.Gen.frame m ρ,
  fun m ρ _ => Cert.AdamSsdDIdeal.Gen.frame m ρ,
  fun m ρ _ => (θ_run _ _ _).mono (fun r h => ⟨fun c => (h c).2.2.2, sem_eq_zero_of_no_sems (by decide) r.2⟩) (Cert.AdamSsdDRefIdeal.Value.run (F := Ideal) m ρ),
  fun m ρ _ => Cert.AdamSsdNorm.Gen.frame m ρ,
  fun m ρ _ => Cert.AdamSsdNormIdeal.Gen.frame m ρ,
  fun m ρ _ => (θ_run _ _ _).mono (fun r h => ⟨fun c => (h c).2.2.2, sem_eq_zero_of_no_sems (by decide) r.2⟩) (Cert.AdamSsdNormRefIdeal.Value.run (F := Ideal) m ρ),
  fun m ρ _ => Cert.AdamLruConvW.Gen.frame m ρ,
  fun m ρ _ => Cert.AdamLruConvWIdeal.Gen.frame m ρ,
  fun m ρ _ => (θ_run _ _ _).mono (fun r h => ⟨fun c => (h c).2.2.2, sem_eq_zero_of_no_sems (by decide) r.2⟩) (Cert.AdamLruConvWRefIdeal.Value.run (F := Ideal) m ρ),
  fun m ρ _ => Cert.AdamLruConvB.Gen.frame m ρ,
  fun m ρ _ => Cert.AdamLruConvBIdeal.Gen.frame m ρ,
  fun m ρ _ => (θ_run _ _ _).mono (fun r h => ⟨fun c => (h c).2.2.2, sem_eq_zero_of_no_sems (by decide) r.2⟩) (Cert.AdamLruConvBRefIdeal.Value.run (F := Ideal) m ρ),
  fun m ρ _ => Cert.AdamLruWA.Gen.frame m ρ,
  fun m ρ _ => Cert.AdamLruWAIdeal.Gen.frame m ρ,
  fun m ρ _ => (θ_run _ _ _).mono (fun r h => ⟨fun c => (h c).2.2.2, sem_eq_zero_of_no_sems (by decide) r.2⟩) (Cert.AdamLruWARefIdeal.Value.run (F := Ideal) m ρ),
  fun m ρ _ => Cert.AdamLruBA.Gen.frame m ρ,
  fun m ρ _ => Cert.AdamLruBAIdeal.Gen.frame m ρ,
  fun m ρ _ => (θ_run _ _ _).mono (fun r h => ⟨fun c => (h c).2.2.2, sem_eq_zero_of_no_sems (by decide) r.2⟩) (Cert.AdamLruBARefIdeal.Value.run (F := Ideal) m ρ),
  fun m ρ _ => Cert.AdamLruWX.Gen.frame m ρ,
  fun m ρ _ => Cert.AdamLruWXIdeal.Gen.frame m ρ,
  fun m ρ _ => (θ_run _ _ _).mono (fun r h => ⟨fun c => (h c).2.2.2, sem_eq_zero_of_no_sems (by decide) r.2⟩) (Cert.AdamLruWXRefIdeal.Value.run (F := Ideal) m ρ),
  fun m ρ _ => Cert.AdamLruBX.Gen.frame m ρ,
  fun m ρ _ => Cert.AdamLruBXIdeal.Gen.frame m ρ,
  fun m ρ _ => (θ_run _ _ _).mono (fun r h => ⟨fun c => (h c).2.2.2, sem_eq_zero_of_no_sems (by decide) r.2⟩) (Cert.AdamLruBXRefIdeal.Value.run (F := Ideal) m ρ),
  fun m ρ _ => Cert.AdamLruLambda.Gen.frame m ρ,
  fun m ρ _ => Cert.AdamLruLambdaIdeal.Gen.frame m ρ,
  fun m ρ _ => (θ_run _ _ _).mono (fun r h => ⟨fun c => (h c).2.2.2, sem_eq_zero_of_no_sems (by decide) r.2⟩) (Cert.AdamLruLambdaRefIdeal.Value.run (F := Ideal) m ρ),
  fun m ρ _ => Cert.AdamWBranchAttn.Gen.frame m ρ,
  fun m ρ _ => Cert.AdamWBranchAttnIdeal.Gen.frame m ρ,
  fun m ρ _ => (θ_run _ _ _).mono (fun r h => ⟨fun c => (h c).2.2.2, sem_eq_zero_of_no_sems (by decide) r.2⟩) (Cert.AdamWBranchAttnRefIdeal.Value.run (F := Ideal) m ρ),
  fun m ρ _ => Cert.AdamWBranchSsd.Gen.frame m ρ,
  fun m ρ _ => Cert.AdamWBranchSsdIdeal.Gen.frame m ρ,
  fun m ρ _ => (θ_run _ _ _).mono (fun r h => ⟨fun c => (h c).2.2.2, sem_eq_zero_of_no_sems (by decide) r.2⟩) (Cert.AdamWBranchSsdRefIdeal.Value.run (F := Ideal) m ρ),
  fun m ρ _ => Cert.AdamWBranchLru.Gen.frame m ρ,
  fun m ρ _ => Cert.AdamWBranchLruIdeal.Gen.frame m ρ,
  fun m ρ _ => (θ_run _ _ _).mono (fun r h => ⟨fun c => (h c).2.2.2, sem_eq_zero_of_no_sems (by decide) r.2⟩) (Cert.AdamWBranchLruRefIdeal.Value.run (F := Ideal) m ρ),
  fun m ρ _ => Cert.AdamWOut.Gen.frame m ρ,
  fun m ρ _ => Cert.AdamWOutIdeal.Gen.frame m ρ,
  fun m ρ _ => (θ_run _ _ _).mono (fun r h => ⟨fun c => (h c).2.2.2, sem_eq_zero_of_no_sems (by decide) r.2⟩) (Cert.AdamWOutRefIdeal.Value.run (F := Ideal) m ρ),
  fun m ρ _ => Cert.AdamFfn2Norm.Gen.frame m ρ,
  fun m ρ _ => Cert.AdamFfn2NormIdeal.Gen.frame m ρ,
  fun m ρ _ => (θ_run _ _ _).mono (fun r h => ⟨fun c => (h c).2.2.2, sem_eq_zero_of_no_sems (by decide) r.2⟩) (Cert.AdamFfn2NormRefIdeal.Value.run (F := Ideal) m ρ),
  fun m ρ _ => Cert.AdamFfn2WGateUp.Gen.frame m ρ,
  fun m ρ _ => Cert.AdamFfn2WGateUpIdeal.Gen.frame m ρ,
  fun m ρ _ => (θ_run _ _ _).mono (fun r h => ⟨fun c => (h c).2.2.2, sem_eq_zero_of_no_sems (by decide) r.2⟩) (Cert.AdamFfn2WGateUpRefIdeal.Value.run (F := Ideal) m ρ),
  fun m ρ _ => Cert.AdamFfn2WDown.Gen.frame m ρ,
  fun m ρ _ => Cert.AdamFfn2WDownIdeal.Gen.frame m ρ,
  fun m ρ _ => (θ_run _ _ _).mono (fun r h => ⟨fun c => (h c).2.2.2, sem_eq_zero_of_no_sems (by decide) r.2⟩) (Cert.AdamFfn2WDownRefIdeal.Value.run (F := Ideal) m ρ),
  fun m ρ _ => Cert.AdamFinalNorm.Gen.frame m ρ,
  fun m ρ _ => Cert.AdamFinalNormIdeal.Gen.frame m ρ,
  fun m ρ _ => (θ_run _ _ _).mono (fun r h => ⟨fun c => (h c).2.2.2, sem_eq_zero_of_no_sems (by decide) r.2⟩) (Cert.AdamFinalNormRefIdeal.Value.run (F := Ideal) m ρ),
  fun m ρ _ => Cert.MergeBwd.Gen.frame m ρ,
  fun m ρ _ => Cert.MergeBwdIdeal.Gen.frame m ρ,
  fun m ρ _ => (θ_run _ _ _).mono (fun r h => ⟨fun c => (h c).2.2.2.2, sem_eq_zero_of_no_sems (by decide) r.2⟩) (Cert.MergeBwdRefIdeal.Value.run (F := Ideal) m ρ),
  fun m ρ _ => Cert.NormFwd.Gen.frame m ρ,
  fun m ρ _ => Cert.NormFwdIdeal.Gen.frame m ρ,
  fun m ρ _ => (θ_run _ _ _).mono (fun r h => ⟨fun c => (h c).2, sem_eq_zero_of_no_sems (by decide) r.2⟩) (Cert.NormFwdRefIdeal.Value.run (F := Ideal) m ρ),
  fun m ρ _ => Cert.GnormFwd.Gen.frame m ρ,
  fun m ρ _ => Cert.GnormFwdIdeal.Gen.frame m ρ,
  fun m ρ _ => (θ_run _ _ _).mono (fun r h => ⟨fun c => (h c).2, sem_eq_zero_of_no_sems (by decide) r.2⟩) (Cert.GnormFwdRefIdeal.Value.run (F := Ideal) m ρ),
  fun m ρ _ => Cert.MergeFwd.Gen.frame m ρ,
  fun m ρ _ => Cert.MergeFwdIdeal.Gen.frame m ρ,
  fun m ρ _ => (θ_run _ _ _).mono (fun r h => ⟨fun c => (h c).2, sem_eq_zero_of_no_sems (by decide) r.2⟩) (Cert.MergeFwdRefIdeal.Value.run (F := Ideal) m ρ),
  fun m ρ _ => Cert.SumGrads.Gen.frame m ρ,
  fun m ρ _ => Cert.SumGradsIdeal.Gen.frame m ρ,
  fun m ρ _ => (θ_run _ _ _).mono (fun r h => ⟨fun c => (h c).2, sem_eq_zero_of_no_sems (by decide) r.2⟩) (Cert.SumGradsRefIdeal.Value.run (F := Ideal) m ρ),
  (trivial : preserves_Kernel_KernelIdeal),
  Cert.KernelIdeal.Lru.algebraic,
  (trivial : preserves_MixInDx_MixInDxIdeal),
  Cert.MixInDxIdeal.Product.algebraic,
  (trivial : preserves_MixInDw_MixInDwIdeal),
  Cert.MixInDwIdeal.Product.algebraic,
  (trivial : preserves_MixIn_MixInIdeal),
  Cert.MixInIdeal.Product.algebraic,
  (trivial : preserves_FfnDownDw_FfnDownDwIdeal),
  Cert.FfnDownDwIdeal.Product.algebraic,
  (trivial : preserves_FfnUpDw_FfnUpDwIdeal),
  Cert.FfnUpDwIdeal.Product.algebraic,
  (trivial : preserves_FfnUpDx_FfnUpDxIdeal),
  Cert.FfnUpDxIdeal.Product.algebraic,
  (trivial : preserves_FfnDown_FfnDownIdeal),
  Cert.FfnDownIdeal.Product.algebraic,
  (trivial : preserves_BranchDx_BranchDxIdeal),
  Cert.BranchDxIdeal.Product.algebraic,
  (trivial : preserves_BranchDw_BranchDwIdeal),
  Cert.BranchDwIdeal.Product.algebraic,
  (trivial : preserves_Branch_BranchIdeal),
  Cert.BranchIdeal.Product.algebraic,
  (trivial : preserves_MixOut_MixOutIdeal),
  Cert.MixOutIdeal.Product.algebraic,
  (trivial : preserves_FfnUp_FfnUpIdeal),
  Cert.FfnUpIdeal.Product.algebraic,
  (trivial : preserves_AdamMetaTokens_AdamMetaTokensIdeal),
  Cert.AdamMetaTokensIdeal.Update.algebraic,
  (trivial : preserves_AdamFfn1Norm_AdamFfn1NormIdeal),
  Cert.AdamFfn1NormIdeal.Update.algebraic,
  (trivial : preserves_AdamFfn1WGateUp_AdamFfn1WGateUpIdeal),
  Cert.AdamFfn1WGateUpIdeal.Update.algebraic,
  (trivial : preserves_AdamFfn1WDown_AdamFfn1WDownIdeal),
  Cert.AdamFfn1WDownIdeal.Update.algebraic,
  (trivial : preserves_AdamMixNorm_AdamMixNormIdeal),
  Cert.AdamMixNormIdeal.Update.algebraic,
  (trivial : preserves_AdamWIn_AdamWInIdeal),
  Cert.AdamWInIdeal.Update.algebraic,
  (trivial : preserves_AdamFoxForgetBias_AdamFoxForgetBiasIdeal),
  Cert.AdamFoxForgetBiasIdeal.Update.algebraic,
  (trivial : preserves_AdamSsdConvW_AdamSsdConvWIdeal),
  Cert.AdamSsdConvWIdeal.Update.algebraic,
  (trivial : preserves_AdamSsdConvB_AdamSsdConvBIdeal),
  Cert.AdamSsdConvBIdeal.Update.algebraic,
  (trivial : preserves_AdamSsdDtBias_AdamSsdDtBiasIdeal),
  Cert.AdamSsdDtBiasIdeal.Update.algebraic,
  (trivial : preserves_AdamSsdALog_AdamSsdALogIdeal),
  Cert.AdamSsdALogIdeal.Update.algebraic,
  (trivial : preserves_AdamSsdD_AdamSsdDIdeal),
  Cert.AdamSsdDIdeal.Update.algebraic,
  (trivial : preserves_AdamSsdNorm_AdamSsdNormIdeal),
  Cert.AdamSsdNormIdeal.Update.algebraic,
  (trivial : preserves_AdamLruConvW_AdamLruConvWIdeal),
  Cert.AdamLruConvWIdeal.Update.algebraic,
  (trivial : preserves_AdamLruConvB_AdamLruConvBIdeal),
  Cert.AdamLruConvBIdeal.Update.algebraic,
  (trivial : preserves_AdamLruWA_AdamLruWAIdeal),
  Cert.AdamLruWAIdeal.Update.algebraic,
  (trivial : preserves_AdamLruBA_AdamLruBAIdeal),
  Cert.AdamLruBAIdeal.Update.algebraic,
  (trivial : preserves_AdamLruWX_AdamLruWXIdeal),
  Cert.AdamLruWXIdeal.Update.algebraic,
  (trivial : preserves_AdamLruBX_AdamLruBXIdeal),
  Cert.AdamLruBXIdeal.Update.algebraic,
  (trivial : preserves_AdamLruLambda_AdamLruLambdaIdeal),
  Cert.AdamLruLambdaIdeal.Update.algebraic,
  (trivial : preserves_AdamWBranchAttn_AdamWBranchAttnIdeal),
  Cert.AdamWBranchAttnIdeal.Update.algebraic,
  (trivial : preserves_AdamWBranchSsd_AdamWBranchSsdIdeal),
  Cert.AdamWBranchSsdIdeal.Update.algebraic,
  (trivial : preserves_AdamWBranchLru_AdamWBranchLruIdeal),
  Cert.AdamWBranchLruIdeal.Update.algebraic,
  (trivial : preserves_AdamWOut_AdamWOutIdeal),
  Cert.AdamWOutIdeal.Update.algebraic,
  (trivial : preserves_AdamFfn2Norm_AdamFfn2NormIdeal),
  Cert.AdamFfn2NormIdeal.Update.algebraic,
  (trivial : preserves_AdamFfn2WGateUp_AdamFfn2WGateUpIdeal),
  Cert.AdamFfn2WGateUpIdeal.Update.algebraic,
  (trivial : preserves_AdamFfn2WDown_AdamFfn2WDownIdeal),
  Cert.AdamFfn2WDownIdeal.Update.algebraic,
  (trivial : preserves_AdamFinalNorm_AdamFinalNormIdeal),
  Cert.AdamFinalNormIdeal.Update.algebraic,
  (trivial : preserves_MergeBwd_MergeBwdIdeal),
  Cert.MergeBwdIdeal.Rows.algebraic,
  (trivial : preserves_NormFwd_NormFwdIdeal),
  Cert.NormFwdIdeal.Rows.algebraic,
  (trivial : preserves_GnormFwd_GnormFwdIdeal),
  Cert.GnormFwdIdeal.Rows.algebraic,
  (trivial : preserves_MergeFwd_MergeFwdIdeal),
  Cert.MergeFwdIdeal.Rows.algebraic,
  (trivial : preserves_SumGrads_SumGradsIdeal),
  Cert.SumGradsIdeal.Rows.algebraic⟩

end Cert.Proof

end
